-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v169_0)) (v1 : (c : Dev Cert.KernelIdeal.nD) → Buf (Elt Ideal) ((c.tc : Thread Cert.KernelIdeal.nD Cert.KernelIdeal.τ).loc Cert.KernelIdeal.main_v169_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169_0) = v0 c
          ∧ r.2.mem ((c.tc : Thread Cert.KernelIdeal.nD Cert.KernelIdeal.τ).loc Cert.KernelIdeal.main_v169_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v522) = v0 c
          ∧ r.2.mem ((c.tc : Thread Cert.ReferenceIdeal.nD Cert.ReferenceIdeal.τ).loc Cert.ReferenceIdeal.main_v524) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v37_0)) (v1 : (c : Dev Cert.Kernel2Ideal.nD) → Buf (Elt Ideal) ((c.tc : Thread Cert.Kernel2Ideal.nD Cert.Kernel2Ideal.τ).loc Cert.Kernel2Ideal.main_v37_1)) (v2 : (c : Dev Cert.Kernel2Ideal.nD) → Buf (Elt Ideal) ((c.tc : Thread Cert.Kernel2Ideal.nD Cert.Kernel2Ideal.τ).loc Cert.Kernel2Ideal.main_v37_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37_0) = v0 c
          ∧ r.2.mem ((c.tc : Thread Cert.Kernel2Ideal.nD Cert.Kernel2Ideal.τ).loc Cert.Kernel2Ideal.main_v37_1) = v1 c
          ∧ r.2.mem ((c.tc : Thread Cert.Kernel2Ideal.nD Cert.Kernel2Ideal.τ).loc Cert.Kernel2Ideal.main_v37_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)) (v3 : (c : Dev Cert.Kernel7Ideal.nD) → Buf (Elt Ideal) ((c.tc : Thread Cert.Kernel7Ideal.nD Cert.Kernel7Ideal.τ).loc Cert.Kernel7Ideal.main_v5_3)) (v4 : (c : Dev Cert.Kernel7Ideal.nD) → Buf (Elt Ideal) ((c.tc : Thread Cert.Kernel7Ideal.nD Cert.Kernel7Ideal.τ).loc Cert.Kernel7Ideal.main_v5_4)) (v5 : (c : Dev Cert.Kernel7Ideal.nD) → Buf (Elt Ideal) ((c.tc : Thread Cert.Kernel7Ideal.nD Cert.Kernel7Ideal.τ).loc Cert.Kernel7Ideal.main_v5_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_v5_3) = v3 c
          ∧ r.2.mem ((c.tc : Thread Cert.Kernel7Ideal.nD Cert.Kernel7Ideal.τ).loc Cert.Kernel7Ideal.main_v5_4) = v4 c
          ∧ r.2.mem ((c.tc : Thread Cert.Kernel7Ideal.nD Cert.Kernel7Ideal.τ).loc Cert.Kernel7Ideal.main_v5_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v95) = v0 c
          ∧ r.2.mem ((c.tc : Thread Cert.Reference7Ideal.nD Cert.Reference7Ideal.τ).loc Cert.Reference7Ideal.main_v94) = v1 c
          ∧ r.2.mem ((c.tc : Thread Cert.Reference7Ideal.nD Cert.Reference7Ideal.τ).loc Cert.Reference7Ideal.main_v98) = v2 c
          ∧ r.2.mem ((c.tc : Thread Cert.Reference7Ideal.nD Cert.Reference7Ideal.τ).loc Cert.Reference7Ideal.main_v82) = v3 c
          ∧ r.2.mem ((c.tc : Thread Cert.Reference7Ideal.nD Cert.Reference7Ideal.τ).loc Cert.Reference7Ideal.main_v99) = v4 c
          ∧ r.2.mem ((c.tc : Thread Cert.Reference7Ideal.nD Cert.Reference7Ideal.τ).loc Cert.Reference7Ideal.main_v91) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v18) = v2 c
          ∧ r.2.mem ((c.tc : Thread Cert.Reference8Ideal.nD Cert.Reference8Ideal.τ).loc Cert.Reference8Ideal.main_v21) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_v12) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v33)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v33) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v14) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v9) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v30) = v0 c
          ∧ r.2.mem ((c.tc : Thread Cert.Reference16Ideal.nD Cert.Reference16Ideal.τ).loc Cert.Reference16Ideal.main_v31) = v1 c
          ∧ r.2.mem ((c.tc : Thread Cert.Reference16Ideal.nD Cert.Reference16Ideal.τ).loc Cert.Reference16Ideal.main_v32) = v2 c
          ∧ r.2.mem ((c.tc : Thread Cert.Reference16Ideal.nD Cert.Reference16Ideal.τ).loc Cert.Reference16Ideal.main_v33) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)) (v3 : (c : Dev Cert.Kernel17Ideal.nD) → Buf (Elt Ideal) ((c.tc : Thread Cert.Kernel17Ideal.nD Cert.Kernel17Ideal.τ).loc Cert.Kernel17Ideal.main_v3_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_v3_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v30) = v0 c
          ∧ r.2.mem ((c.tc : Thread Cert.Reference17Ideal.nD Cert.Reference17Ideal.τ).loc Cert.Reference17Ideal.main_v31) = v1 c
          ∧ r.2.mem ((c.tc : Thread Cert.Reference17Ideal.nD Cert.Reference17Ideal.τ).loc Cert.Reference17Ideal.main_v32) = v2 c
          ∧ r.2.mem ((c.tc : Thread Cert.Reference17Ideal.nD Cert.Reference17Ideal.τ).loc Cert.Reference17Ideal.main_v33) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v168) = v0 c
          ∧ r.2.mem ((c.tc : Thread Cert.Reference20Ideal.nD Cert.Reference20Ideal.τ).loc Cert.Reference20Ideal.main_v193) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite5 : Cert.Pre_finite5.Facts) (hPre_finite7 : Cert.Pre_finite7.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S2048x512 : Shape := ⟨2, ![2048, 512]⟩
abbrev S2048x3072 : Shape := ⟨2, ![2048, 3072]⟩
abbrev S31x512 : Shape := ⟨2, ![31, 512]⟩
abbrev S1x512 : Shape := ⟨2, ![1, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x3072 : S_.BroadcastsInDim S2048x3072 (![] : Fin 0 → Fin S2048x3072.rank)
  reducesTo_S2048x3072_S_d0_1 : S2048x3072.ReducesTo [0, 1] S_
  bcast_S_S31x512 : S_.BroadcastsInDim S31x512 (![] : Fin 0 → Fin S31x512.rank)
  reducesTo_S31x512_S_d0_1 : S31x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := subf main_arg4 main_arg4
  let main_cst_6 : FVec F S_ .f32 := constant S_ .f32 0x00000000#32
  let main_v20 : FVec F S1x512 .f32 := broadcastInDim S1x512 ![] bcast_S_S1x512 main_cst_6
  let main_v21 : IVec S1x512 1 := cmpf .oeq main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := subf main_arg5 main_arg5
  let main_cst_8 : FVec F S_ .f32 := constant S_ .f32 0x00000000#32
  let main_v25 : FVec F S1x512 .f32 := broadcastInDim S1x512 ![] bcast_S_S1x512 main_cst_8
  let main_v26 : IVec S1x512 1 := cmpf .oeq main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S2048x512 .f32) (main_arg1 : FVec F S2048x3072 .f32) (main_arg2 : FVec F S31x512 .f32) (main_arg3 : FVec F S1x512 .f32) (main_arg4 : FVec F S1x512 .f32) (main_arg5 : FVec F S1x512 .f32) : IVec S_ 1 :=
  let main_v0 : FVec F S2048x512 .f32 := subf main_arg0 main_arg0
  let main_cst : FVec F S_ .f32 := constant S_ .f32 0x00000000#32
  let main_v1 : FVec F S2048x512 .f32 := broadcastInDim S2048x512 ![] bcast_S_S2048x512 main_cst
  let main_v2 : IVec S2048x512 1 := cmpf .oeq main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x3072 .f32 := subf main_arg1 main_arg1
  let main_cst_0 : FVec F S_ .f32 := constant S_ .f32 0x00000000#32
  let main_v5 : FVec F S2048x3072 .f32 := broadcastInDim S2048x3072 ![] bcast_S_S2048x3072 main_cst_0
  let main_v6 : IVec S2048x3072 1 := cmpf .oeq main_v4 main_v5
  let main_c_1 : IVec S_ 1 := constantI S_ 1 1#1
  let main_v7 : IVec S_ 1 := (fun x v => Host.reduce IntOp.andi x v reducesTo_S2048x3072_S_d0_1 h_S_) main_v6 main_c_1
  let main_v8 : IVec S_ 1 := andi main_v3 main_v7
  let main_v9 : FVec F S31x512 .f32 := subf main_arg2 main_arg2
  let main_cst_2 : FVec F S_ .f32 := constant S_ .f32 0x00000000#32
  let main_v10 : FVec F S31x512 .f32 := broadcastInDim S31x512 ![] bcast_S_S31x512 main_cst_2
  let main_v11 : IVec S31x512 1 := cmpf .oeq main_v9 main_v10
  let main_c_3 : IVec S_ 1 := constantI S_ 1 1#1
  let main_v12 : IVec S_ 1 := (fun x v => Host.reduce IntOp.andi x v reducesTo_S31x512_S_d0_1 h_S_) main_v11 main_c_3
  let main_v13 : IVec S_ 1 := andi main_v8 main_v12
  let main_v14 : FVec F S1x512 .f32 := subf main_arg3 main_arg3
  let main_cst_4 : FVec F S_ .f32 := constant S_ .f32 0x00000000#32
  let main_v15 : FVec F S1x512 .f32 := broadcastInDim S1x512 ![] bcast_S_S1x512 main_cst_4
  let main_v16 : IVec S1x512 1 := cmpf .oeq main_v14 main_v15
  fn_part1 (F := F) main_arg4 main_arg5 main_v13 main_v16
-- ==== Pre_finite2.lean ====
abbrev S2048x1024 : Shape := ⟨2, ![2048, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x1024 .f32) (main_arg5 : FVec F S1024x5632 .f32) (main_arg6 : FVec F S2816x1024 .f32) (main_v13 : IVec S_ 1) (main_v16 : IVec S1x6144 1) : IVec S_ 1 :=
  let main_c_5 : IVec S_ 1 := constantI S_ 1 1#1
  let main_v17 : IVec S_ 1 := (fun x v => Host.reduce IntOp.andi x v reducesTo_S1x6144_S_d0_1 h_S_) main_v16 main_c_5
  let main_v18 : IVec S_ 1 := andi main_v13 main_v17
  let main_v19 : FVec F S1x1024 .f32 := subf main_arg4 main_arg4
  let main_cst_6 : FVec F S_ .f32 := constant S_ .f32 0x00000000#32
  let main_v20 : FVec F S1x1024 .f32 := broadcastInDim S1x1024 ![] bcast_S_S1x1024 main_cst_6
  let main_v21 : IVec S1x1024 1 := cmpf .oeq main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x5632 .f32 := subf main_arg5 main_arg5
  let main_cst_8 : FVec F S_ .f32 := constant S_ .f32 0x00000000#32
  let main_v25 : FVec F S1024x5632 .f32 := broadcastInDim S1024x5632 ![] bcast_S_S1024x5632 main_cst_8
  let main_v26 : IVec S1024x5632 1 := cmpf .oeq main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := subf main_arg6 main_arg6
  let main_cst_10 : FVec F S_ .f32 := constant S_ .f32 0x00000000#32
  let main_v30 : FVec F S2816x1024 .f32 := broadcastInDim S2816x1024 ![] bcast_S_S2816x1024 main_cst_10
  let main_v31 : IVec S2816x1024 1 := cmpf .oeq main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S2048x1024 .f32) (main_arg1 : FVec F S2048x1024 .f32) (main_arg2 : FVec F S1x6144 .f32) (main_arg3 : FVec F S1x6144 .f32) (main_arg4 : FVec F S1x1024 .f32) (main_arg5 : FVec F S1024x5632 .f32) (main_arg6 : FVec F S2816x1024 .f32) : IVec S_ 1 :=
  let main_v0 : FVec F S2048x1024 .f32 := subf main_arg0 main_arg0
  let main_cst : FVec F S_ .f32 := constant S_ .f32 0x00000000#32
  let main_v1 : FVec F S2048x1024 .f32 := broadcastInDim S2048x1024 ![] bcast_S_S2048x1024 main_cst
  let main_v2 : IVec S2048x1024 1 := cmpf .oeq main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := subf main_arg1 main_arg1
  let main_cst_0 : FVec F S_ .f32 := constant S_ .f32 0x00000000#32
  let main_v5 : FVec F S2048x1024 .f32 := broadcastInDim S2048x1024 ![] bcast_S_S2048x1024 main_cst_0
  let main_v6 : IVec S2048x1024 1 := cmpf .oeq main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x6144 .f32 := subf main_arg2 main_arg2
  let main_cst_2 : FVec F S_ .f32 := constant S_ .f32 0x00000000#32
  let main_v10 : FVec F S1x6144 .f32 := broadcastInDim S1x6144 ![] bcast_S_S1x6144 main_cst_2
  let main_v11 : IVec S1x6144 1 := cmpf .oeq main_v9 main_v10
  let main_c_3 : IVec S_ 1 := constantI S_ 1 1#1
  let main_v12 : IVec S_ 1 := (fun x v => Host.reduce IntOp.andi x v reducesTo_S1x6144_S_d0_1 h_S_) main_v11 main_c_3
  let main_v13 : IVec S_ 1 := andi main_v8 main_v12
  let main_v14 : FVec F S1x6144 .f32 := subf main_arg3 main_arg3
  let main_cst_4 : FVec F S_ .f32 := constant S_ .f32 0x00000000#32
  let main_v15 : FVec F S1x6144 .f32 := broadcastInDim S1x6144 ![] bcast_S_S1x6144 main_cst_4
  let main_v16 : IVec S1x6144 1 := cmpf .oeq main_v14 main_v15
  fn_part1 (F := F) main_arg4 main_arg5 main_arg6 main_v13 main_v16
-- ==== Pre_finite20.lean ====
abbrev S2048x3072 : Shape := ⟨2, ![2048, 3072]⟩
abbrev S31x512 : Shape := ⟨2, ![31, 512]⟩
abbrev S1x512 : Shape := ⟨2, ![1, 512]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S31x512 : S_.BroadcastsInDim S31x512 (![] : Fin 0 → Fin S31x512.rank)
  reducesTo_S31x512_S_d0_1 : S31x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := subf main_arg4 main_arg4
  let main_cst_6 : FVec F S_ .f32 := constant S_ .f32 0x00000000#32
  let main_v20 : FVec F S1x512 .f32 := broadcastInDim S1x512 ![] bcast_S_S1x512 main_cst_6
  let main_v21 : IVec S1x512 1 := cmpf .oeq main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S2048x3072 .f32) (main_arg1 : FVec F S31x512 .f32) (main_arg2 : FVec F S1x512 .f32) (main_arg3 : FVec F S1x512 .f32) (main_arg4 : FVec F S1x512 .f32) : IVec S_ 1 :=
  let main_v0 : FVec F S2048x3072 .f32 := subf main_arg0 main_arg0
  let main_cst : FVec F S_ .f32 := constant S_ .f32 0x00000000#32
  let main_v1 : FVec F S2048x3072 .f32 := broadcastInDim S2048x3072 ![] bcast_S_S2048x3072 main_cst
  let main_v2 : IVec S2048x3072 1 := cmpf .oeq main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S31x512 .f32 := subf main_arg1 main_arg1
  let main_cst_0 : FVec F S_ .f32 := constant S_ .f32 0x00000000#32
  let main_v5 : FVec F S31x512 .f32 := broadcastInDim S31x512 ![] bcast_S_S31x512 main_cst_0
  let main_v6 : IVec S31x512 1 := cmpf .oeq main_v4 main_v5
  let main_c_1 : IVec S_ 1 := constantI S_ 1 1#1
  let main_v7 : IVec S_ 1 := (fun x v => Host.reduce IntOp.andi x v reducesTo_S31x512_S_d0_1 h_S_) main_v6 main_c_1
  let main_v8 : IVec S_ 1 := andi main_v3 main_v7
  let main_v9 : FVec F S1x512 .f32 := subf main_arg2 main_arg2
  let main_cst_2 : FVec F S_ .f32 := constant S_ .f32 0x00000000#32
  let main_v10 : FVec F S1x512 .f32 := broadcastInDim S1x512 ![] bcast_S_S1x512 main_cst_2
  let main_v11 : IVec S1x512 1 := cmpf .oeq main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := subf main_arg3 main_arg3
  let main_cst_4 : FVec F S_ .f32 := constant S_ .f32 0x00000000#32
  let main_v15 : FVec F S1x512 .f32 := broadcastInDim S1x512 ![] bcast_S_S1x512 main_cst_4
  let main_v16 : IVec S1x512 1 := cmpf .oeq main_v14 main_v15
  fn_part1 (F := F) main_arg4 main_v13 main_v16
-- ==== Pre_finite5.lean ====
abbrev S2048x3080 : Shape := ⟨2, ![2048, 3080]⟩
abbrev S2048x1024 : Shape := ⟨2, ![2048, 1024]⟩
abbrev S1x1024 : Shape := ⟨2, ![1, 1024]⟩
abbrev S1x6144 : Shape := ⟨2, ![1, 6144]⟩
abbrev S1024x3080 : Shape := ⟨2, ![1024, 3080]⟩
abbrev S_ : Shape := ⟨0, ![]⟩

class Facts : Prop where
  bcast_S_S2048x3080 : S_.BroadcastsInDim S2048x3080 (![] : Fin 0 → Fin S2048x3080.rank)
  reducesTo_S2048x3080_S_d0_1 : S2048x3080.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x6144 : S_.BroadcastsInDim S1x6144 (![] : Fin 0 → Fin S1x6144.rank)
  reducesTo_S1x6144_S_d0_1 : S1x6144.ReducesTo [0, 1] S_
  bcast_S_S1024x3080 : S_.BroadcastsInDim S1024x3080 (![] : Fin 0 → Fin S1024x3080.rank)
  reducesTo_S1024x3080_S_d0_1 : S1024x3080.ReducesTo [0, 1] S_

variable [Facts]

def fn_part1 {F : FTy → Type} [FloatOps F] (main_arg4 : FVec F S1x6144 .f32) (main_arg5 : FVec F S1x6144 .f32) (main_arg6 : FVec F S1024x3080 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x6144 .f32 := subf main_arg4 main_arg4
  let main_cst_6 : FVec F S_ .f32 := constant S_ .f32 0x00000000#32
  let main_v20 : FVec F S1x6144 .f32 := broadcastInDim S1x6144 ![] bcast_S_S1x6144 main_cst_6
  let main_v21 : IVec S1x6144 1 := cmpf .oeq main_v19 main_v20
  let main_c_7 : IVec S_ 1 := constantI S_ 1 1#1
  let main_v22 : IVec S_ 1 := (fun x v => Host.reduce IntOp.andi x v reducesTo_S1x6144_S_d0_1 h_S_) main_v21 main_c_7
  let main_v23 : IVec S_ 1 := andi main_v18 main_v22
  let main_v24 : FVec F S1x6144 .f32 := subf main_arg5 main_arg5
  let main_cst_8 : FVec F S_ .f32 := constant S_ .f32 0x00000000#32
  let main_v25 : FVec F S1x6144 .f32 := broadcastInDim S1x6144 ![] bcast_S_S1x6144 main_cst_8
  let main_v26 : IVec S1x6144 1 := cmpf .oeq main_v24 main_v25
  let main_c_9 : IVec S_ 1 := constantI S_ 1 1#1
  let main_v27 : IVec S_ 1 := (fun x v => Host.reduce IntOp.andi x v reducesTo_S1x6144_S_d0_1 h_S_) main_v26 main_c_9
  let main_v28 : IVec S_ 1 := andi main_v23 main_v27
  let main_v29 : FVec F S1024x3080 .f32 := subf main_arg6 main_arg6
  let main_cst_10 : FVec F S_ .f32 := constant S_ .f32 0x00000000#32
  let main_v30 : FVec F S1024x3080 .f32 := broadcastInDim S1024x3080 ![] bcast_S_S1024x3080 main_cst_10
  let main_v31 : IVec S1024x3080 1 := cmpf .oeq main_v29 main_v30
  let main_c_11 : IVec S_ 1 := constantI S_ 1 1#1
  let main_v32 : IVec S_ 1 := (fun x v => Host.reduce IntOp.andi x v reducesTo_S1024x3080_S_d0_1 h_S_) main_v31 main_c_11
  let main_v33 : IVec S_ 1 := andi main_v28 main_v32
  main_v33

def fn {F : FTy → Type} [FloatOps F] (main_arg0 : FVec F S2048x3080 .f32) (main_arg1 : FVec F S2048x1024 .f32) (main_arg2 : FVec F S2048x1024 .f32) (main_arg3 : FVec F S1x1024 .f32) (main_arg4 : FVec F S1x6144 .f32) (main_arg5 : FVec F S1x6144 .f32) (main_arg6 : FVec F S1024x3080 .f32) : IVec S_ 1 :=
  let main_v0 : FVec F S2048x3080 .f32 := subf main_arg0 main_arg0
  let main_cst : FVec F S_ .f32 := constant S_ .f32 0x00000000#32
  let main_v1 : FVec F S2048x3080 .f32 := broadcastInDim S2048x3080 ![] bcast_S_S2048x3080 main_cst
  let main_v2 : IVec S2048x3080 1 := cmpf .oeq main_v0 main_v1
  let main_c : IVec S_ 1 := constantI S_ 1 1#1
  let main_v3 : IVec S_ 1 := (fun x v => Host.reduce IntOp.andi x v reducesTo_S2048x3080_S_d0_1 h_S_) main_v2 main_c
  let main_v4 : FVec F S2048x1024 .f32 := subf main_arg1 main_arg1
  let main_cst_0 : FVec F S_ .f32 := constant S_ .f32 0x00000000#32
  let main_v5 : FVec F S2048x1024 .f32 := broadcastInDim S2048x1024 ![] bcast_S_S2048x1024 main_cst_0
  let main_v6 : IVec S2048x1024 1 := cmpf .oeq main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := subf main_arg2 main_arg2
  let main_cst_2 : FVec F S_ .f32 := constant S_ .f32 0x00000000#32
  let main_v10 : FVec F S2048x1024 .f32 := broadcastInDim S2048x1024 ![] bcast_S_S2048x1024 main_cst_2
  let main_v11 : IVec S2048x1024 1 := cmpf .oeq main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := subf main_arg3 main_arg3
  let main_cst_4 : FVec F S_ .f32 := constant S_ .f32 0x00000000#32
  let main_v15 : FVec F S1x1024 .f32 := broadcastInDim S1x1024 ![] bcast_S_S1x1024 main_cst_4
  let main_v16 : IVec S1x1024 1 := cmpf .oeq main_v14 main_v15
  fn_part1 (F := F) main_arg4 main_arg5 main_arg6 main_v13 main_v16
-- ==== Pre_finite7.lean ====
abbrev S2048x1024 : Shape := ⟨2, ![2048, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2816x1024 .f32) (main_v33 : IVec S_ 1) : IVec S_ 1 :=
  let main_v34 : FVec F S2816x1024 .f32 := subf main_arg7 main_arg7
  let main_cst_12 : FVec F S_ .f32 := constant S_ .f32 0x00000000#32
  let main_v35 : FVec F S2816x1024 .f32 := broadcastInDim S2816x1024 ![] bcast_S_S2816x1024 main_cst_12
  let main_v36 : IVec S2816x1024 1 := cmpf .oeq main_v34 main_v35
  let main_c_13 : IVec S_ 1 := constantI S_ 1 1#1
  let main_v37 : IVec S_ 1 := (fun x v => Host.reduce IntOp.andi x v reducesTo_S2816x1024_S_d0_1 h_S_) main_v36 main_c_13
  let main_v38 : IVec S_ 1 := andi main_v33 main_v37
  main_v38

def fn_part1 {F : FTy → Type} [FloatOps F] (main_arg4 : FVec F S1x1024 .f32) (main_arg5 : FVec F S1x1024 .f32) (main_arg6 : FVec F S1024x5632 .f32) (main_arg7 : FVec F S2816x1024 .f32) (main_v13 : IVec S_ 1) (main_v16 : IVec S1x6144 1) : IVec S_ 1 :=
  let main_c_5 : IVec S_ 1 := constantI S_ 1 1#1
  let main_v17 : IVec S_ 1 := (fun x v => Host.reduce IntOp.andi x v reducesTo_S1x6144_S_d0_1 h_S_) main_v16 main_c_5
  let main_v18 : IVec S_ 1 := andi main_v13 main_v17
  let main_v19 : FVec F S1x1024 .f32 := subf main_arg4 main_arg4
  let main_cst_6 : FVec F S_ .f32 := constant S_ .f32 0x00000000#32
  let main_v20 : FVec F S1x1024 .f32 := broadcastInDim S1x1024 ![] bcast_S_S1x1024 main_cst_6
  let main_v21 : IVec S1x1024 1 := cmpf .oeq main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := subf main_arg5 main_arg5
  let main_cst_8 : FVec F S_ .f32 := constant S_ .f32 0x00000000#32
  let main_v25 : FVec F S1x1024 .f32 := broadcastInDim S1x1024 ![] bcast_S_S1x1024 main_cst_8
  let main_v26 : IVec S1x1024 1 := cmpf .oeq main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x5632 .f32 := subf main_arg6 main_arg6
  let main_cst_10 : FVec F S_ .f32 := constant S_ .f32 0x00000000#32
  let main_v30 : FVec F S1024x5632 .f32 := broadcastInDim S1024x5632 ![] bcast_S_S1024x5632 main_cst_10
  let main_v31 : IVec S1024x5632 1 := cmpf .oeq main_v29 main_v30
  let main_c_11 : IVec S_ 1 := constantI S_ 1 1#1
  let main_v32 : IVec S_ 1 := (fun x v => Host.reduce IntOp.andi x v reducesTo_S1024x5632_S_d0_1 h_S_) main_v31 main_c_11
  let main_v33 : IVec S_ 1 := andi main_v28 main_v32
  fn_part2 (F := F) main_arg7 main_v33

def fn {F : FTy → Type} [FloatOps F] (main_arg0 : FVec F S2048x1024 .f32) (main_arg1 : FVec F S2048x1024 .f32) (main_arg2 : FVec F S1x6144 .f32) (main_arg3 : FVec F S1x6144 .f32) (main_arg4 : FVec F S1x1024 .f32) (main_arg5 : FVec F S1x1024 .f32) (main_arg6 : FVec F S1024x5632 .f32) (main_arg7 : FVec F S2816x1024 .f32) : IVec S_ 1 :=
  let main_v0 : FVec F S2048x1024 .f32 := subf main_arg0 main_arg0
  let main_cst : FVec F S_ .f32 := constant S_ .f32 0x00000000#32
  let main_v1 : FVec F S2048x1024 .f32 := broadcastInDim S2048x1024 ![] bcast_S_S2048x1024 main_cst
  let main_v2 : IVec S2048x1024 1 := cmpf .oeq main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := subf main_arg1 main_arg1
  let main_cst_0 : FVec F S_ .f32 := constant S_ .f32 0x00000000#32
  let main_v5 : FVec F S2048x1024 .f32 := broadcastInDim S2048x1024 ![] bcast_S_S2048x1024 main_cst_0
  let main_v6 : IVec S2048x1024 1 := cmpf .oeq main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x6144 .f32 := subf main_arg2 main_arg2
  let main_cst_2 : FVec F S_ .f32 := constant S_ .f32 0x00000000#32
  let main_v10 : FVec F S1x6144 .f32 := broadcastInDim S1x6144 ![] bcast_S_S1x6144 main_cst_2
  let main_v11 : IVec S1x6144 1 := cmpf .oeq main_v9 main_v10
  let main_c_3 : IVec S_ 1 := constantI S_ 1 1#1
  let main_v12 : IVec S_ 1 := (fun x v => Host.reduce IntOp.andi x v reducesTo_S1x6144_S_d0_1 h_S_) main_v11 main_c_3
  let main_v13 : IVec S_ 1 := andi main_v8 main_v12
  let main_v14 : FVec F S1x6144 .f32 := subf main_arg3 main_arg3
  let main_cst_4 : FVec F S_ .f32 := constant S_ .f32 0x00000000#32
  let main_v15 : FVec F S1x6144 .f32 := broadcastInDim S1x6144 ![] bcast_S_S1x6144 main_cst_4
  let main_v16 : IVec S1x6144 1 := cmpf .oeq main_v14 main_v15
  fn_part1 (F := F) main_arg4 main_arg5 main_arg6 main_arg7 main_v13 main_v16
-- ==== Kernel.lean ====
abbrev S2048x512 : Shape := ⟨2, ![2048, 512]⟩
abbrev S2048x3072 : Shape := ⟨2, ![2048, 3072]⟩
abbrev S31x512 : Shape := ⟨2, ![31, 512]⟩
abbrev S1x512 : Shape := ⟨2, ![1, 512]⟩
abbrev S_ : Shape := ⟨0, ![]⟩
abbrev S30x512 : Shape := ⟨2, ![30, 512]⟩
abbrev S2078x512 : Shape := ⟨2, ![2078, 512]⟩
abbrev S2048x1024 : Shape := ⟨2, ![2048, 1024]⟩
abbrev S40x512 : Shape := ⟨2, ![40, 512]⟩
abbrev S256x512 : Shape := ⟨2, ![256, 512]⟩
abbrev S32x512 : Shape := ⟨2, ![32, 512]⟩
abbrev S256x1024 : Shape := ⟨2, ![256, 1024]⟩
abbrev S288x512 : Shape := ⟨2, ![288, 512]⟩
abbrev S7x280x512 : Shape := ⟨3, ![7, 280, 512]⟩
abbrev S512x512 : Shape := ⟨2, ![512, 512]⟩
abbrev S512 : Shape := ⟨1, ![512]⟩
abbrev S280x512 : Shape := ⟨2, ![280, 512]⟩
abbrev S1x280x512 : Shape := ⟨3, ![1, 280, 512]⟩
abbrev S1x256x512 : Shape := ⟨3, ![1, 256, 512]⟩

abbrev nBuf : Space → Nat
  | .hbm => 181
  | .vmem => 22
  | .smem => 0
  | _ => 0

abbrev hbmTy0_0 (i : Nat) : BufTy := match i % 128 with
  | 0 => ⟨S2048x512, .f32⟩
  | 1 => ⟨S2048x3072, .f32⟩
  | 2 => ⟨S31x512, .f32⟩
  | 3 => ⟨S1x512, .f32⟩
  | 4 => ⟨S1x512, .f32⟩
  | 5 => ⟨S1x512, .f32⟩
  | 6 => ⟨S2048x512, .f32⟩
  | 7 => ⟨S2048x512, .f32⟩
  | 8 => ⟨S_, .f32⟩
  | 9 => ⟨S30x512, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2078x512, .f32⟩
  | 20 => ⟨S1x512, .f32⟩
  | 21 => ⟨S2048x512, .f32⟩
  | 22 => ⟨S2048x512, .f32⟩
  | 23 => ⟨S2048x512, .f32⟩
  | 24 => ⟨S_, .f32⟩
  | 25 => ⟨S2048x512, .f32⟩
  | 26 => ⟨S2048x512, .f32⟩
  | 27 => ⟨S1x512, .f32⟩
  | 28 => ⟨S2048x512, .f32⟩
  | 29 => ⟨S2048x512, .f32⟩
  | 30 => ⟨S2048x512, .f32⟩
  | 31 => ⟨S2048x512, .f32⟩
  | 32 => ⟨S1x512, .f32⟩
  | 33 => ⟨S2048x512, .f32⟩
  | 34 => ⟨S2048x512, .f32⟩
  | 35 => ⟨S2048x512, .f32⟩
  | 36 => ⟨S2048x512, .f32⟩
  | 37 => ⟨S1x512, .f32⟩
  | 38 => ⟨S2048x512, .f32⟩
  | 39 => ⟨S2048x512, .f32⟩
  | 40 => ⟨S2048x512, .f32⟩
  | 41 => ⟨S2048x512, .f32⟩
  | 42 => ⟨S1x512, .f32⟩
  | 43 => ⟨S2048x512, .f32⟩
  | 44 => ⟨S2048x512, .f32⟩
  | 45 => ⟨S2048x512, .f32⟩
  | 46 => ⟨S2048x512, .f32⟩
  | 47 => ⟨S1x512, .f32⟩
  | 48 => ⟨S2048x512, .f32⟩
  | 49 => ⟨S2048x512, .f32⟩
  | 50 => ⟨S2048x512, .f32⟩
  | 51 => ⟨S2048x512, .f32⟩
  | 52 => ⟨S1x512, .f32⟩
  | 53 => ⟨S2048x512, .f32⟩
  | 54 => ⟨S2048x512, .f32⟩
  | 55 => ⟨S2048x512, .f32⟩
  | 56 => ⟨S2048x512, .f32⟩
  | 57 => ⟨S1x512, .f32⟩
  | 58 => ⟨S2048x512, .f32⟩
  | 59 => ⟨S2048x512, .f32⟩
  | 60 => ⟨S2048x512, .f32⟩
  | 61 => ⟨S2048x512, .f32⟩
  | 62 => ⟨S1x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S2048x512, .f32⟩
  | 69 => ⟨S2048x512, .f32⟩
  | 70 => ⟨S2048x512, .f32⟩
  | 71 => ⟨S2048x512, .f32⟩
  | 72 => ⟨S1x512, .f32⟩
  | 73 => ⟨S2048x512, .f32⟩
  | 74 => ⟨S2048x512, .f32⟩
  | 75 => ⟨S2048x512, .f32⟩
  | 76 => ⟨S2048x512, .f32⟩
  | 77 => ⟨S1x512, .f32⟩
  | 78 => ⟨S2048x512, .f32⟩
  | 79 => ⟨S2048x512, .f32⟩
  | 80 => ⟨S2048x512, .f32⟩
  | 81 => ⟨S2048x512, .f32⟩
  | 82 => ⟨S1x512, .f32⟩
  | 83 => ⟨S2048x512, .f32⟩
  | 84 => ⟨S2048x512, .f32⟩
  | 85 => ⟨S2048x512, .f32⟩
  | 86 => ⟨S2048x512, .f32⟩
  | 87 => ⟨S1x512, .f32⟩
  | 88 => ⟨S2048x512, .f32⟩
  | 89 => ⟨S2048x512, .f32⟩
  | 90 => ⟨S2048x512, .f32⟩
  | 91 => ⟨S2048x512, .f32⟩
  | 92 => ⟨S1x512, .f32⟩
  | 93 => ⟨S2048x512, .f32⟩
  | 94 => ⟨S2048x512, .f32⟩
  | 95 => ⟨S2048x512, .f32⟩
  | 96 => ⟨S2048x512, .f32⟩
  | 97 => ⟨S1x512, .f32⟩
  | 98 => ⟨S2048x512, .f32⟩
  | 99 => ⟨S2048x512, .f32⟩
  | 100 => ⟨S2048x512, .f32⟩
  | 101 => ⟨S2048x512, .f32⟩
  | 102 => ⟨S1x512, .f32⟩
  | 103 => ⟨S2048x512, .f32⟩
  | 104 => ⟨S2048x512, .f32⟩
  | 105 => ⟨S2048x512, .f32⟩
  | 106 => ⟨S2048x512, .f32⟩
  | 107 => ⟨S1x512, .f32⟩
  | 108 => ⟨S2048x512, .f32⟩
  | 109 => ⟨S2048x512, .f32⟩
  | 110 => ⟨S2048x512, .f32⟩
  | 111 => ⟨S2048x512, .f32⟩
  | 112 => ⟨S1x512, .f32⟩
  | 113 => ⟨S2048x512, .f32⟩
  | 114 => ⟨S2048x512, .f32⟩
  | 115 => ⟨S2048x512, .f32⟩
  | 116 => ⟨S2048x512, .f32⟩
  | 117 => ⟨S1x512, .f32⟩
  | 118 => ⟨S2048x512, .f32⟩
  | 119 => ⟨S2048x512, .f32⟩
  | 120 => ⟨S2048x512, .f32⟩
  | 121 => ⟨S2048x512, .f32⟩
  | 122 => ⟨S1x512, .f32⟩
  | 123 => ⟨S2048x512, .f32⟩
  | 124 => ⟨S2048x512, .f32⟩
  | 125 => ⟨S2048x512, .f32⟩
  | 126 => ⟨S2048x512, .f32⟩
  | 127 => ⟨S1x512, .f32⟩
  | _ => ⟨S2048x512, .f32⟩

abbrev hbmTy0_1 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S1x512, .f32⟩
  | 5 => ⟨S2048x512, .f32⟩
  | 6 => ⟨S2048x512, .f32⟩
  | 7 => ⟨S2048x512, .f32⟩
  | 8 => ⟨S2048x512, .f32⟩
  | 9 => ⟨S1x512, .f32⟩
  | 10 => ⟨S2048x512, .f32⟩
  | 11 => ⟨S2048x512, .f32⟩
  | 12 => ⟨S2048x512, .f32⟩
  | 13 => ⟨S2048x512, .f32⟩
  | 14 => ⟨S1x512, .f32⟩
  | 15 => ⟨S2048x512, .f32⟩
  | 16 => ⟨S2048x512, .f32⟩
  | 17 => ⟨S2048x512, .f32⟩
  | 18 => ⟨S2048x512, .f32⟩
  | 19 => ⟨S1x512, .f32⟩
  | 20 => ⟨S2048x512, .f32⟩
  | 21 => ⟨S2048x512, .f32⟩
  | 22 => ⟨S2048x512, .f32⟩
  | 23 => ⟨S2048x512, .f32⟩
  | 24 => ⟨S1x512, .f32⟩
  | 25 => ⟨S2048x512, .f32⟩
  | 26 => ⟨S2048x512, .f32⟩
  | 27 => ⟨S2048x512, .f32⟩
  | 28 => ⟨S2048x512, .f32⟩
  | 29 => ⟨S1x512, .f32⟩
  | 30 => ⟨S2048x512, .f32⟩
  | 31 => ⟨S2048x512, .f32⟩
  | 32 => ⟨S2048x512, .f32⟩
  | 33 => ⟨S2048x512, .f32⟩
  | 34 => ⟨S1x512, .f32⟩
  | 35 => ⟨S2048x512, .f32⟩
  | 36 => ⟨S2048x512, .f32⟩
  | 37 => ⟨S2048x512, .f32⟩
  | 38 => ⟨S2048x512, .f32⟩
  | 39 => ⟨S1x512, .f32⟩
  | 40 => ⟨S2048x512, .f32⟩
  | 41 => ⟨S2048x512, .f32⟩
  | 42 => ⟨S2048x512, .f32⟩
  | 43 => ⟨S2048x512, .f32⟩
  | 44 => ⟨S1x512, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S2048x512, .f32⟩
  | 51 => ⟨S2048x1024, .bf16⟩
  | 52 => ⟨S40x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S256x1024, .bf16⟩
  | .local _ .vmem, ⟨16, _⟩ => ⟨S256x1024, .bf16⟩
  | .local _ .vmem, ⟨17, _⟩ => ⟨S40x512, .f32⟩
  | .local _ .vmem, ⟨18, _⟩ => ⟨S288x512, .f32⟩
  | .local _ .vmem, ⟨19, _⟩ => ⟨S288x512, .f32⟩
  | .local _ .vmem, ⟨20, _⟩ => ⟨S7x280x512, .f32⟩
  | .local _ .vmem, ⟨21, _⟩ => ⟨S7x280x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169_0 : Ref sig .tc := ⟨.hbm, 179, rfl⟩
abbrev main_v169_1 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S40x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2048x512 : Shape := ⟨2, ![2048, 512]⟩
abbrev S2048x3072 : Shape := ⟨2, ![2048, 3072]⟩
abbrev S31x512 : Shape := ⟨2, ![31, 512]⟩
abbrev S1x512 : Shape := ⟨2, ![1, 512]⟩
abbrev S_ : Shape := ⟨0, ![]⟩
abbrev S30x512 : Shape := ⟨2, ![30, 512]⟩
abbrev S2078x512 : Shape := ⟨2, ![2078, 512]⟩
abbrev S2048x8x64 : Shape := ⟨3, ![2048, 8, 64]⟩
abbrev S2048x8 : Shape := ⟨2, ![2048, 8]⟩
abbrev S2048x8x1 : Shape := ⟨3, ![2048, 8, 1]⟩
abbrev S512 : Shape := ⟨1, ![512]⟩
abbrev S2048x1024 : Shape := ⟨2, ![2048, 1024]⟩
abbrev S6x512 : Shape := ⟨2, ![6, 512]⟩
abbrev S40x512 : Shape := ⟨2, ![40, 512]⟩

abbrev nBuf : Space → Nat
  | .hbm => 663
  | .vmem => 0
  | .smem => 0
  | _ => 0

abbrev hbmTy0_0 (i : Nat) : BufTy := match i % 128 with
  | 0 => ⟨S2048x512, .f32⟩
  | 1 => ⟨S2048x3072, .f32⟩
  | 2 => ⟨S31x512, .f32⟩
  | 3 => ⟨S1x512, .f32⟩
  | 4 => ⟨S1x512, .f32⟩
  | 5 => ⟨S1x512, .f32⟩
  | 6 => ⟨S2048x512, .f32⟩
  | 7 => ⟨S2048x512, .f32⟩
  | 8 => ⟨S_, .f32⟩
  | 9 => ⟨S30x512, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S2048x512, .f32⟩
  | 22 => ⟨S2048x512, .f32⟩
  | 23 => ⟨S2078x512, .f32⟩
  | 24 => ⟨S_, .f32⟩
  | 25 => ⟨S30x512, .f32⟩
  | 26 => ⟨S1x512, .f32⟩
  | 27 => ⟨S2048x512, .f32⟩
  | 28 => ⟨S2048x512, .f32⟩
  | 29 => ⟨S2048x512, .f32⟩
  | 30 => ⟨S_, .f32⟩
  | 31 => ⟨S2048x512, .f32⟩
  | 32 => ⟨S2048x512, .f32⟩
  | 33 => ⟨S1x512, .f32⟩
  | 34 => ⟨S2048x512, .f32⟩
  | 35 => ⟨S2048x512, .f32⟩
  | 36 => ⟨S2048x512, .f32⟩
  | 37 => ⟨S2048x512, .f32⟩
  | 38 => ⟨S1x512, .f32⟩
  | 39 => ⟨S2048x512, .f32⟩
  | 40 => ⟨S2048x512, .f32⟩
  | 41 => ⟨S2048x512, .f32⟩
  | 42 => ⟨S2048x512, .f32⟩
  | 43 => ⟨S1x512, .f32⟩
  | 44 => ⟨S2048x512, .f32⟩
  | 45 => ⟨S2048x512, .f32⟩
  | 46 => ⟨S2048x512, .f32⟩
  | 47 => ⟨S2048x512, .f32⟩
  | 48 => ⟨S1x512, .f32⟩
  | 49 => ⟨S2048x512, .f32⟩
  | 50 => ⟨S2048x512, .f32⟩
  | 51 => ⟨S2048x512, .f32⟩
  | 52 => ⟨S2048x512, .f32⟩
  | 53 => ⟨S1x512, .f32⟩
  | 54 => ⟨S2048x512, .f32⟩
  | 55 => ⟨S2048x512, .f32⟩
  | 56 => ⟨S2048x512, .f32⟩
  | 57 => ⟨S2048x512, .f32⟩
  | 58 => ⟨S1x512, .f32⟩
  | 59 => ⟨S2048x512, .f32⟩
  | 60 => ⟨S2048x512, .f32⟩
  | 61 => ⟨S2048x512, .f32⟩
  | 62 => ⟨S2048x512, .f32⟩
  | 63 => ⟨S1x512, .f32⟩
  | 64 => ⟨S2048x512, .f32⟩
  | 65 => ⟨S2048x512, .f32⟩
  | 66 => ⟨S2048x512, .f32⟩
  | 67 => ⟨S2048x512, .f32⟩
  | 68 => ⟨S1x512, .f32⟩
  | 69 => ⟨S2048x512, .f32⟩
  | 70 => ⟨S2048x512, .f32⟩
  | 71 => ⟨S2048x512, .f32⟩
  | 72 => ⟨S2048x512, .f32⟩
  | 73 => ⟨S1x512, .f32⟩
  | 74 => ⟨S2048x512, .f32⟩
  | 75 => ⟨S2048x512, .f32⟩
  | 76 => ⟨S2048x512, .f32⟩
  | 77 => ⟨S2048x512, .f32⟩
  | 78 => ⟨S1x512, .f32⟩
  | 79 => ⟨S2048x512, .f32⟩
  | 80 => ⟨S2048x512, .f32⟩
  | 81 => ⟨S2048x512, .f32⟩
  | 82 => ⟨S2048x512, .f32⟩
  | 83 => ⟨S1x512, .f32⟩
  | 84 => ⟨S2048x512, .f32⟩
  | 85 => ⟨S2048x512, .f32⟩
  | 86 => ⟨S2048x512, .f32⟩
  | 87 => ⟨S2048x512, .f32⟩
  | 88 => ⟨S1x512, .f32⟩
  | 89 => ⟨S2048x512, .f32⟩
  | 90 => ⟨S2048x512, .f32⟩
  | 91 => ⟨S2048x512, .f32⟩
  | 92 => ⟨S2048x512, .f32⟩
  | 93 => ⟨S1x512, .f32⟩
  | 94 => ⟨S2048x512, .f32⟩
  | 95 => ⟨S2048x512, .f32⟩
  | 96 => ⟨S2048x512, .f32⟩
  | 97 => ⟨S2048x512, .f32⟩
  | 98 => ⟨S1x512, .f32⟩
  | 99 => ⟨S2048x512, .f32⟩
  | 100 => ⟨S2048x512, .f32⟩
  | 101 => ⟨S2048x512, .f32⟩
  | 102 => ⟨S2048x512, .f32⟩
  | 103 => ⟨S1x512, .f32⟩
  | 104 => ⟨S2048x512, .f32⟩
  | 105 => ⟨S2048x512, .f32⟩
  | 106 => ⟨S2048x512, .f32⟩
  | 107 => ⟨S2048x512, .f32⟩
  | 108 => ⟨S1x512, .f32⟩
  | 109 => ⟨S2048x512, .f32⟩
  | 110 => ⟨S2048x512, .f32⟩
  | 111 => ⟨S2048x512, .f32⟩
  | 112 => ⟨S2048x512, .f32⟩
  | 113 => ⟨S1x512, .f32⟩
  | 114 => ⟨S2048x512, .f32⟩
  | 115 => ⟨S2048x512, .f32⟩
  | 116 => ⟨S2048x512, .f32⟩
  | 117 => ⟨S2048x512, .f32⟩
  | 118 => ⟨S1x512, .f32⟩
  | 119 => ⟨S2048x512, .f32⟩
  | 120 => ⟨S2048x512, .f32⟩
  | 121 => ⟨S2048x512, .f32⟩
  | 122 => ⟨S2048x512, .f32⟩
  | 123 => ⟨S1x512, .f32⟩
  | 124 => ⟨S2048x512, .f32⟩
  | 125 => ⟨S2048x512, .f32⟩
  | 126 => ⟨S2048x512, .f32⟩
  | 127 => ⟨S2048x512, .f32⟩
  | _ => ⟨S2048x512, .f32⟩

abbrev hbmTy0_1 (i : Nat) : BufTy := match i % 128 with
  | 0 => ⟨S1x512, .f32⟩
  | 1 => ⟨S2048x512, .f32⟩
  | 2 => ⟨S2048x512, .f32⟩
  | 3 => ⟨S2048x512, .f32⟩
  | 4 => ⟨S2048x512, .f32⟩
  | 5 => ⟨S1x512, .f32⟩
  | 6 => ⟨S2048x512, .f32⟩
  | 7 => ⟨S2048x512, .f32⟩
  | 8 => ⟨S2048x512, .f32⟩
  | 9 => ⟨S2048x512, .f32⟩
  | 10 => ⟨S1x512, .f32⟩
  | 11 => ⟨S2048x512, .f32⟩
  | 12 => ⟨S2048x512, .f32⟩
  | 13 => ⟨S2048x512, .f32⟩
  | 14 => ⟨S2048x512, .f32⟩
  | 15 => ⟨S1x512, .f32⟩
  | 16 => ⟨S2048x512, .f32⟩
  | 17 => ⟨S2048x512, .f32⟩
  | 18 => ⟨S2048x512, .f32⟩
  | 19 => ⟨S2048x512, .f32⟩
  | 20 => ⟨S1x512, .f32⟩
  | 21 => ⟨S2048x512, .f32⟩
  | 22 => ⟨S2048x512, .f32⟩
  | 23 => ⟨S2048x512, .f32⟩
  | 24 => ⟨S2048x512, .f32⟩
  | 25 => ⟨S1x512, .f32⟩
  | 26 => ⟨S2048x512, .f32⟩
  | 27 => ⟨S2048x512, .f32⟩
  | 28 => ⟨S2048x512, .f32⟩
  | 29 => ⟨S2048x512, .f32⟩
  | 30 => ⟨S1x512, .f32⟩
  | 31 => ⟨S2048x512, .f32⟩
  | 32 => ⟨S2048x512, .f32⟩
  | 33 => ⟨S2048x512, .f32⟩
  | 34 => ⟨S2048x512, .f32⟩
  | 35 => ⟨S1x512, .f32⟩
  | 36 => ⟨S2048x512, .f32⟩
  | 37 => ⟨S2048x512, .f32⟩
  | 38 => ⟨S2048x512, .f32⟩
  | 39 => ⟨S2048x512, .f32⟩
  | 40 => ⟨S1x512, .f32⟩
  | 41 => ⟨S2048x512, .f32⟩
  | 42 => ⟨S2048x512, .f32⟩
  | 43 => ⟨S2048x512, .f32⟩
  | 44 => ⟨S2048x512, .f32⟩
  | 45 => ⟨S1x512, .f32⟩
  | 46 => ⟨S2048x512, .f32⟩
  | 47 => ⟨S2048x512, .f32⟩
  | 48 => ⟨S2048x512, .f32⟩
  | 49 => ⟨S2048x512, .f32⟩
  | 50 => ⟨S1x512, .f32⟩
  | 51 => ⟨S2048x512, .f32⟩
  | 52 => ⟨S2048x512, .f32⟩
  | 53 => ⟨S2048x512, .f32⟩
  | 54 => ⟨S2048x512, .f32⟩
  | 55 => ⟨S2048x512, .f32⟩
  | 56 => ⟨S2048x512, .f32⟩
  | 57 => ⟨S2048x8x64, .f32⟩
  | 58 => ⟨S_, .f32⟩
  | 59 => ⟨S2048x8, .f32⟩
  | 60 => ⟨S2048x8x1, .f32⟩
  | 61 => ⟨S_, .f32⟩
  | 62 => ⟨S2048x8x1, .f32⟩
  | 63 => ⟨S2048x8x1, .f32⟩
  | 64 => ⟨S2048x8x64, .f32⟩
  | 65 => ⟨S2048x8x64, .f32⟩
  | 66 => ⟨S2048x8x64, .f32⟩
  | 67 => ⟨S_, .f32⟩
  | 68 => ⟨S2048x8x64, .f32⟩
  | 69 => ⟨S2048x8x64, .f32⟩
  | 70 => ⟨S_, .f32⟩
  | 71 => ⟨S2048x8, .f32⟩
  | 72 => ⟨S2048x8x1, .f32⟩
  | 73 => ⟨S_, .f32⟩
  | 74 => ⟨S2048x8x1, .f32⟩
  | 75 => ⟨S2048x8x1, .f32⟩
  | 76 => ⟨S2048x8x64, .f32⟩
  | 77 => ⟨S2048x8x64, .f32⟩
  | 78 => ⟨S_, .f32⟩
  | 79 => ⟨S2048x8x1, .f32⟩
  | 80 => ⟨S2048x8x1, .f32⟩
  | 81 => ⟨S2048x8x1, .f32⟩
  | 82 => ⟨S2048x8x1, .f32⟩
  | 83 => ⟨S_, .f32⟩
  | 84 => ⟨S2048x8x1, .f32⟩
  | 85 => ⟨S2048x8x1, .f32⟩
  | 86 => ⟨S2048x8x64, .f32⟩
  | 87 => ⟨S2048x8x64, .f32⟩
  | 88 => ⟨S2048x512, .f32⟩
  | 89 => ⟨S2048x512, .f32⟩
  | 90 => ⟨S2048x512, .f32⟩
  | 91 => ⟨S2048x512, .f32⟩
  | 92 => ⟨S2048x512, .f32⟩
  | 93 => ⟨S2048x512, .f32⟩
  | 94 => ⟨S2048x512, .f32⟩
  | 95 => ⟨S_, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S_, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | 107 => ⟨S2048x512, .f32⟩
  | 108 => ⟨S2048x512, .f32⟩
  | 109 => ⟨S2048x512, .f32⟩
  | 110 => ⟨S_, .f32⟩
  | 111 => ⟨S512, .f32⟩
  | 112 => ⟨S1x512, .f32⟩
  | 113 => ⟨S2048x512, .f32⟩
  | 114 => ⟨S_, .f32⟩
  | 115 => ⟨S512, .f32⟩
  | 116 => ⟨S1x512, .f32⟩
  | 117 => ⟨S2048x512, .f32⟩
  | 118 => ⟨S2048x512, .f32⟩
  | 119 => ⟨S2048x8x64, .f32⟩
  | 120 => ⟨S2048x8x64, .f32⟩
  | 121 => ⟨S_, .f32⟩
  | 122 => ⟨S2048x8, .f32⟩
  | 123 => ⟨S2048x8x1, .f32⟩
  | 124 => ⟨S2048x8x64, .f32⟩
  | 125 => ⟨S2048x8x64, .f32⟩
  | 126 => ⟨S2048x8x1, .f32⟩
  | 127 => ⟨S2048x8x64, .f32⟩
  | _ => ⟨S2048x512, .f32⟩

abbrev hbmTy0_2 (i : Nat) : BufTy := match i % 128 with
  | 0 => ⟨S_, .f32⟩
  | 1 => ⟨S2048x8, .f32⟩
  | 2 => ⟨S2048x8x1, .f32⟩
  | 3 => ⟨S_, .f32⟩
  | 4 => ⟨S2048x8x1, .f32⟩
  | 5 => ⟨S2048x8x1, .f32⟩
  | 6 => ⟨S_, .f32⟩
  | 7 => ⟨S2048x8, .f32⟩
  | 8 => ⟨S2048x8x64, .f32⟩
  | 9 => ⟨S2048x8x64, .f32⟩
  | 10 => ⟨S2048x8x64, .f32⟩
  | 11 => ⟨S_, .f32⟩
  | 12 => ⟨S2048x8, .f32⟩
  | 13 => ⟨S2048x8x1, .f32⟩
  | 14 => ⟨S2048x8x64, .f32⟩
  | 15 => ⟨S2048x8x1, .f32⟩
  | 16 => ⟨S_, .f32⟩
  | 17 => ⟨S2048x8x1, .f32⟩
  | 18 => ⟨S2048x8x1, .f32⟩
  | 19 => ⟨S_, .f32⟩
  | 20 => ⟨S2048x8, .f32⟩
  | 21 => ⟨S2048x8x64, .f32⟩
  | 22 => ⟨S2048x8x64, .f32⟩
  | 23 => ⟨S2048x512, .f32⟩
  | 24 => ⟨S_, .f32⟩
  | 25 => ⟨S512, .f32⟩
  | 26 => ⟨S1x512, .f32⟩
  | 27 => ⟨S2048x512, .f32⟩
  | 28 => ⟨S2048x512, .f32⟩
  | 29 => ⟨S2048x512, .f32⟩
  | 30 => ⟨S_, .f32⟩
  | 31 => ⟨S512, .f32⟩
  | 32 => ⟨S1x512, .f32⟩
  | 33 => ⟨S_, .f32⟩
  | 34 => ⟨S2078x512, .f32⟩
  | 35 => ⟨S_, .f32⟩
  | 36 => ⟨S31x512, .f32⟩
  | 37 => ⟨S2048x512, .f32⟩
  | 38 => ⟨S2048x512, .f32⟩
  | 39 => ⟨S2048x512, .f32⟩
  | 40 => ⟨S_, .f32⟩
  | 41 => ⟨S512, .f32⟩
  | 42 => ⟨S1x512, .f32⟩
  | 43 => ⟨S_, .f32⟩
  | 44 => ⟨S2078x512, .f32⟩
  | 45 => ⟨S2078x512, .f32⟩
  | 46 => ⟨S_, .f32⟩
  | 47 => ⟨S31x512, .f32⟩
  | 48 => ⟨S31x512, .f32⟩
  | 49 => ⟨S2048x512, .f32⟩
  | 50 => ⟨S2048x512, .f32⟩
  | 51 => ⟨S2048x512, .f32⟩
  | 52 => ⟨S_, .f32⟩
  | 53 => ⟨S512, .f32⟩
  | 54 => ⟨S1x512, .f32⟩
  | 55 => ⟨S_, .f32⟩
  | 56 => ⟨S2078x512, .f32⟩
  | 57 => ⟨S2078x512, .f32⟩
  | 58 => ⟨S_, .f32⟩
  | 59 => ⟨S31x512, .f32⟩
  | 60 => ⟨S31x512, .f32⟩
  | 61 => ⟨S2048x512, .f32⟩
  | 62 => ⟨S2048x512, .f32⟩
  | 63 => ⟨S2048x512, .f32⟩
  | 64 => ⟨S_, .f32⟩
  | 65 => ⟨S512, .f32⟩
  | 66 => ⟨S1x512, .f32⟩
  | 67 => ⟨S_, .f32⟩
  | 68 => ⟨S2078x512, .f32⟩
  | 69 => ⟨S2078x512, .f32⟩
  | 70 => ⟨S_, .f32⟩
  | 71 => ⟨S31x512, .f32⟩
  | 72 => ⟨S31x512, .f32⟩
  | 73 => ⟨S2048x512, .f32⟩
  | 74 => ⟨S2048x512, .f32⟩
  | 75 => ⟨S2048x512, .f32⟩
  | 76 => ⟨S_, .f32⟩
  | 77 => ⟨S512, .f32⟩
  | 78 => ⟨S1x512, .f32⟩
  | 79 => ⟨S_, .f32⟩
  | 80 => ⟨S2078x512, .f32⟩
  | 81 => ⟨S2078x512, .f32⟩
  | 82 => ⟨S_, .f32⟩
  | 83 => ⟨S31x512, .f32⟩
  | 84 => ⟨S31x512, .f32⟩
  | 85 => ⟨S2048x512, .f32⟩
  | 86 => ⟨S2048x512, .f32⟩
  | 87 => ⟨S2048x512, .f32⟩
  | 88 => ⟨S_, .f32⟩
  | 89 => ⟨S512, .f32⟩
  | 90 => ⟨S1x512, .f32⟩
  | 91 => ⟨S_, .f32⟩
  | 92 => ⟨S2078x512, .f32⟩
  | 93 => ⟨S2078x512, .f32⟩
  | 94 => ⟨S_, .f32⟩
  | 95 => ⟨S31x512, .f32⟩
  | 96 => ⟨S31x512, .f32⟩
  | 97 => ⟨S2048x512, .f32⟩
  | 98 => ⟨S2048x512, .f32⟩
  | 99 => ⟨S2048x512, .f32⟩
  | 100 => ⟨S_, .f32⟩
  | 101 => ⟨S512, .f32⟩
  | 102 => ⟨S1x512, .f32⟩
  | 103 => ⟨S_, .f32⟩
  | 104 => ⟨S2078x512, .f32⟩
  | 105 => ⟨S2078x512, .f32⟩
  | 106 => ⟨S_, .f32⟩
  | 107 => ⟨S31x512, .f32⟩
  | 108 => ⟨S31x512, .f32⟩
  | 109 => ⟨S2048x512, .f32⟩
  | 110 => ⟨S2048x512, .f32⟩
  | 111 => ⟨S2048x512, .f32⟩
  | 112 => ⟨S_, .f32⟩
  | 113 => ⟨S512, .f32⟩
  | 114 => ⟨S1x512, .f32⟩
  | 115 => ⟨S_, .f32⟩
  | 116 => ⟨S2078x512, .f32⟩
  | 117 => ⟨S2078x512, .f32⟩
  | 118 => ⟨S_, .f32⟩
  | 119 => ⟨S31x512, .f32⟩
  | 120 => ⟨S31x512, .f32⟩
  | 121 => ⟨S2048x512, .f32⟩
  | 122 => ⟨S2048x512, .f32⟩
  | 123 => ⟨S2048x512, .f32⟩
  | 124 => ⟨S_, .f32⟩
  | 125 => ⟨S512, .f32⟩
  | 126 => ⟨S1x512, .f32⟩
  | 127 => ⟨S_, .f32⟩
  | _ => ⟨S2048x512, .f32⟩

abbrev hbmTy0_3 (i : Nat) : BufTy := match i % 128 with
  | 0 => ⟨S2078x512, .f32⟩
  | 1 => ⟨S2078x512, .f32⟩
  | 2 => ⟨S_, .f32⟩
  | 3 => ⟨S31x512, .f32⟩
  | 4 => ⟨S31x512, .f32⟩
  | 5 => ⟨S2048x512, .f32⟩
  | 6 => ⟨S2048x512, .f32⟩
  | 7 => ⟨S2048x512, .f32⟩
  | 8 => ⟨S_, .f32⟩
  | 9 => ⟨S512, .f32⟩
  | 10 => ⟨S1x512, .f32⟩
  | 11 => ⟨S_, .f32⟩
  | 12 => ⟨S2078x512, .f32⟩
  | 13 => ⟨S2078x512, .f32⟩
  | 14 => ⟨S_, .f32⟩
  | 15 => ⟨S31x512, .f32⟩
  | 16 => ⟨S31x512, .f32⟩
  | 17 => ⟨S2048x512, .f32⟩
  | 18 => ⟨S2048x512, .f32⟩
  | 19 => ⟨S2048x512, .f32⟩
  | 20 => ⟨S_, .f32⟩
  | 21 => ⟨S512, .f32⟩
  | 22 => ⟨S1x512, .f32⟩
  | 23 => ⟨S_, .f32⟩
  | 24 => ⟨S2078x512, .f32⟩
  | 25 => ⟨S2078x512, .f32⟩
  | 26 => ⟨S_, .f32⟩
  | 27 => ⟨S31x512, .f32⟩
  | 28 => ⟨S31x512, .f32⟩
  | 29 => ⟨S2048x512, .f32⟩
  | 30 => ⟨S2048x512, .f32⟩
  | 31 => ⟨S2048x512, .f32⟩
  | 32 => ⟨S_, .f32⟩
  | 33 => ⟨S512, .f32⟩
  | 34 => ⟨S1x512, .f32⟩
  | 35 => ⟨S_, .f32⟩
  | 36 => ⟨S2078x512, .f32⟩
  | 37 => ⟨S2078x512, .f32⟩
  | 38 => ⟨S_, .f32⟩
  | 39 => ⟨S31x512, .f32⟩
  | 40 => ⟨S31x512, .f32⟩
  | 41 => ⟨S2048x512, .f32⟩
  | 42 => ⟨S2048x512, .f32⟩
  | 43 => ⟨S2048x512, .f32⟩
  | 44 => ⟨S_, .f32⟩
  | 45 => ⟨S512, .f32⟩
  | 46 => ⟨S1x512, .f32⟩
  | 47 => ⟨S_, .f32⟩
  | 48 => ⟨S2078x512, .f32⟩
  | 49 => ⟨S2078x512, .f32⟩
  | 50 => ⟨S_, .f32⟩
  | 51 => ⟨S31x512, .f32⟩
  | 52 => ⟨S31x512, .f32⟩
  | 53 => ⟨S2048x512, .f32⟩
  | 54 => ⟨S2048x512, .f32⟩
  | 55 => ⟨S2048x512, .f32⟩
  | 56 => ⟨S_, .f32⟩
  | 57 => ⟨S512, .f32⟩
  | 58 => ⟨S1x512, .f32⟩
  | 59 => ⟨S_, .f32⟩
  | 60 => ⟨S2078x512, .f32⟩
  | 61 => ⟨S2078x512, .f32⟩
  | 62 => ⟨S_, .f32⟩
  | 63 => ⟨S31x512, .f32⟩
  | 64 => ⟨S31x512, .f32⟩
  | 65 => ⟨S2048x512, .f32⟩
  | 66 => ⟨S2048x512, .f32⟩
  | 67 => ⟨S2048x512, .f32⟩
  | 68 => ⟨S_, .f32⟩
  | 69 => ⟨S512, .f32⟩
  | 70 => ⟨S1x512, .f32⟩
  | 71 => ⟨S_, .f32⟩
  | 72 => ⟨S2078x512, .f32⟩
  | 73 => ⟨S2078x512, .f32⟩
  | 74 => ⟨S_, .f32⟩
  | 75 => ⟨S31x512, .f32⟩
  | 76 => ⟨S31x512, .f32⟩
  | 77 => ⟨S2048x512, .f32⟩
  | 78 => ⟨S2048x512, .f32⟩
  | 79 => ⟨S2048x512, .f32⟩
  | 80 => ⟨S_, .f32⟩
  | 81 => ⟨S512, .f32⟩
  | 82 => ⟨S1x512, .f32⟩
  | 83 => ⟨S_, .f32⟩
  | 84 => ⟨S2078x512, .f32⟩
  | 85 => ⟨S2078x512, .f32⟩
  | 86 => ⟨S_, .f32⟩
  | 87 => ⟨S31x512, .f32⟩
  | 88 => ⟨S31x512, .f32⟩
  | 89 => ⟨S2048x512, .f32⟩
  | 90 => ⟨S2048x512, .f32⟩
  | 91 => ⟨S2048x512, .f32⟩
  | 92 => ⟨S_, .f32⟩
  | 93 => ⟨S512, .f32⟩
  | 94 => ⟨S1x512, .f32⟩
  | 95 => ⟨S_, .f32⟩
  | 96 => ⟨S2078x512, .f32⟩
  | 97 => ⟨S2078x512, .f32⟩
  | 98 => ⟨S_, .f32⟩
  | 99 => ⟨S31x512, .f32⟩
  | 100 => ⟨S31x512, .f32⟩
  | 101 => ⟨S2048x512, .f32⟩
  | 102 => ⟨S2048x512, .f32⟩
  | 103 => ⟨S2048x512, .f32⟩
  | 104 => ⟨S_, .f32⟩
  | 105 => ⟨S512, .f32⟩
  | 106 => ⟨S1x512, .f32⟩
  | 107 => ⟨S_, .f32⟩
  | 108 => ⟨S2078x512, .f32⟩
  | 109 => ⟨S2078x512, .f32⟩
  | 110 => ⟨S_, .f32⟩
  | 111 => ⟨S31x512, .f32⟩
  | 112 => ⟨S31x512, .f32⟩
  | 113 => ⟨S2048x512, .f32⟩
  | 114 => ⟨S2048x512, .f32⟩
  | 115 => ⟨S2048x512, .f32⟩
  | 116 => ⟨S_, .f32⟩
  | 117 => ⟨S512, .f32⟩
  | 118 => ⟨S1x512, .f32⟩
  | 119 => ⟨S_, .f32⟩
  | 120 => ⟨S2078x512, .f32⟩
  | 121 => ⟨S2078x512, .f32⟩
  | 122 => ⟨S_, .f32⟩
  | 123 => ⟨S31x512, .f32⟩
  | 124 => ⟨S31x512, .f32⟩
  | 125 => ⟨S2048x512, .f32⟩
  | 126 => ⟨S2048x512, .f32⟩
  | 127 => ⟨S2048x512, .f32⟩
  | _ => ⟨S2048x512, .f32⟩

abbrev hbmTy0_4 (i : Nat) : BufTy := match i % 128 with
  | 0 => ⟨S_, .f32⟩
  | 1 => ⟨S512, .f32⟩
  | 2 => ⟨S1x512, .f32⟩
  | 3 => ⟨S_, .f32⟩
  | 4 => ⟨S2078x512, .f32⟩
  | 5 => ⟨S2078x512, .f32⟩
  | 6 => ⟨S_, .f32⟩
  | 7 => ⟨S31x512, .f32⟩
  | 8 => ⟨S31x512, .f32⟩
  | 9 => ⟨S2048x512, .f32⟩
  | 10 => ⟨S2048x512, .f32⟩
  | 11 => ⟨S2048x512, .f32⟩
  | 12 => ⟨S_, .f32⟩
  | 13 => ⟨S512, .f32⟩
  | 14 => ⟨S1x512, .f32⟩
  | 15 => ⟨S_, .f32⟩
  | 16 => ⟨S2078x512, .f32⟩
  | 17 => ⟨S2078x512, .f32⟩
  | 18 => ⟨S_, .f32⟩
  | 19 => ⟨S31x512, .f32⟩
  | 20 => ⟨S31x512, .f32⟩
  | 21 => ⟨S2048x512, .f32⟩
  | 22 => ⟨S2048x512, .f32⟩
  | 23 => ⟨S2048x512, .f32⟩
  | 24 => ⟨S_, .f32⟩
  | 25 => ⟨S512, .f32⟩
  | 26 => ⟨S1x512, .f32⟩
  | 27 => ⟨S_, .f32⟩
  | 28 => ⟨S2078x512, .f32⟩
  | 29 => ⟨S2078x512, .f32⟩
  | 30 => ⟨S_, .f32⟩
  | 31 => ⟨S31x512, .f32⟩
  | 32 => ⟨S31x512, .f32⟩
  | 33 => ⟨S2048x512, .f32⟩
  | 34 => ⟨S2048x512, .f32⟩
  | 35 => ⟨S2048x512, .f32⟩
  | 36 => ⟨S_, .f32⟩
  | 37 => ⟨S512, .f32⟩
  | 38 => ⟨S1x512, .f32⟩
  | 39 => ⟨S_, .f32⟩
  | 40 => ⟨S2078x512, .f32⟩
  | 41 => ⟨S2078x512, .f32⟩
  | 42 => ⟨S_, .f32⟩
  | 43 => ⟨S31x512, .f32⟩
  | 44 => ⟨S31x512, .f32⟩
  | 45 => ⟨S2048x512, .f32⟩
  | 46 => ⟨S2048x512, .f32⟩
  | 47 => ⟨S2048x512, .f32⟩
  | 48 => ⟨S_, .f32⟩
  | 49 => ⟨S512, .f32⟩
  | 50 => ⟨S1x512, .f32⟩
  | 51 => ⟨S_, .f32⟩
  | 52 => ⟨S2078x512, .f32⟩
  | 53 => ⟨S2078x512, .f32⟩
  | 54 => ⟨S_, .f32⟩
  | 55 => ⟨S31x512, .f32⟩
  | 56 => ⟨S31x512, .f32⟩
  | 57 => ⟨S2048x512, .f32⟩
  | 58 => ⟨S2048x512, .f32⟩
  | 59 => ⟨S2048x512, .f32⟩
  | 60 => ⟨S_, .f32⟩
  | 61 => ⟨S512, .f32⟩
  | 62 => ⟨S1x512, .f32⟩
  | 63 => ⟨S_, .f32⟩
  | 64 => ⟨S2078x512, .f32⟩
  | 65 => ⟨S2078x512, .f32⟩
  | 66 => ⟨S_, .f32⟩
  | 67 => ⟨S31x512, .f32⟩
  | 68 => ⟨S31x512, .f32⟩
  | 69 => ⟨S2048x512, .f32⟩
  | 70 => ⟨S2048x512, .f32⟩
  | 71 => ⟨S2048x512, .f32⟩
  | 72 => ⟨S_, .f32⟩
  | 73 => ⟨S512, .f32⟩
  | 74 => ⟨S1x512, .f32⟩
  | 75 => ⟨S_, .f32⟩
  | 76 => ⟨S2078x512, .f32⟩
  | 77 => ⟨S2078x512, .f32⟩
  | 78 => ⟨S_, .f32⟩
  | 79 => ⟨S31x512, .f32⟩
  | 80 => ⟨S31x512, .f32⟩
  | 81 => ⟨S2048x512, .f32⟩
  | 82 => ⟨S2048x512, .f32⟩
  | 83 => ⟨S2048x512, .f32⟩
  | 84 => ⟨S_, .f32⟩
  | 85 => ⟨S512, .f32⟩
  | 86 => ⟨S1x512, .f32⟩
  | 87 => ⟨S_, .f32⟩
  | 88 => ⟨S2078x512, .f32⟩
  | 89 => ⟨S2078x512, .f32⟩
  | 90 => ⟨S_, .f32⟩
  | 91 => ⟨S31x512, .f32⟩
  | 92 => ⟨S31x512, .f32⟩
  | 93 => ⟨S2048x512, .f32⟩
  | 94 => ⟨S2048x512, .f32⟩
  | 95 => ⟨S2048x512, .f32⟩
  | 96 => ⟨S_, .f32⟩
  | 97 => ⟨S512, .f32⟩
  | 98 => ⟨S1x512, .f32⟩
  | 99 => ⟨S_, .f32⟩
  | 100 => ⟨S2078x512, .f32⟩
  | 101 => ⟨S2078x512, .f32⟩
  | 102 => ⟨S_, .f32⟩
  | 103 => ⟨S31x512, .f32⟩
  | 104 => ⟨S31x512, .f32⟩
  | 105 => ⟨S2048x512, .f32⟩
  | 106 => ⟨S2048x512, .f32⟩
  | 107 => ⟨S2048x512, .f32⟩
  | 108 => ⟨S_, .f32⟩
  | 109 => ⟨S512, .f32⟩
  | 110 => ⟨S1x512, .f32⟩
  | 111 => ⟨S_, .f32⟩
  | 112 => ⟨S2078x512, .f32⟩
  | 113 => ⟨S2078x512, .f32⟩
  | 114 => ⟨S_, .f32⟩
  | 115 => ⟨S31x512, .f32⟩
  | 116 => ⟨S31x512, .f32⟩
  | 117 => ⟨S2048x512, .f32⟩
  | 118 => ⟨S2048x512, .f32⟩
  | 119 => ⟨S2048x512, .f32⟩
  | 120 => ⟨S_, .f32⟩
  | 121 => ⟨S512, .f32⟩
  | 122 => ⟨S1x512, .f32⟩
  | 123 => ⟨S_, .f32⟩
  | 124 => ⟨S2078x512, .f32⟩
  | 125 => ⟨S2078x512, .f32⟩
  | 126 => ⟨S_, .f32⟩
  | 127 => ⟨S31x512, .f32⟩
  | _ => ⟨S2048x512, .f32⟩

abbrev hbmTy0_5 (i : Nat) : BufTy := match i % 128 with
  | 0 => ⟨S31x512, .f32⟩
  | 1 => ⟨S2048x512, .f32⟩
  | 2 => ⟨S2048x512, .f32⟩
  | 3 => ⟨S2048x512, .f32⟩
  | 4 => ⟨S_, .f32⟩
  | 5 => ⟨S512, .f32⟩
  | 6 => ⟨S1x512, .f32⟩
  | 7 => ⟨S_, .f32⟩
  | 8 => ⟨S2078x512, .f32⟩
  | 9 => ⟨S2078x512, .f32⟩
  | 10 => ⟨S_, .f32⟩
  | 11 => ⟨S31x512, .f32⟩
  | 12 => ⟨S31x512, .f32⟩
  | 13 => ⟨S30x512, .f32⟩
  | 14 => ⟨S2048x512, .f32⟩
  | 15 => ⟨S2048x512, .f32⟩
  | 16 => ⟨S2048x512, .f32⟩
  | 17 => ⟨S2048x512, .f32⟩
  | 18 => ⟨S2048x1024, .f32⟩
  | 19 => ⟨S2048x1024, .bf16⟩
  | 20 => ⟨S_, .f32⟩
  | 21 => ⟨S6x512, .f32⟩
  | 22 => ⟨S40x512, .f32⟩
  | _ => ⟨S2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_cst_5 : Ref sig .tc := ⟨.hbm, 186, rfl⟩
abbrev main_v174 : Ref sig .tc := ⟨.hbm, 187, rfl⟩
abbrev main_v175 : Ref sig .tc := ⟨.hbm, 188, rfl⟩
abbrev main_cst_6 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_cst_7 : Ref sig .tc := ⟨.hbm, 195, rfl⟩
abbrev main_v181 : Ref sig .tc := ⟨.hbm, 196, rfl⟩
abbrev main_v182 : Ref sig .tc := ⟨.hbm, 197, rfl⟩
abbrev main_cst_8 : Ref sig .tc := ⟨.hbm, 198, rfl⟩
abbrev main_v183 : Ref sig .tc := ⟨.hbm, 199, rfl⟩
abbrev main_v184 : Ref sig .tc := ⟨.hbm, 200, rfl⟩
abbrev main_cst_9 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_cst_10 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_cst_11 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_call0_v0 : Ref sig .tc := ⟨.hbm, 221, rfl⟩
abbrev main_call0_v1 : Ref sig .tc := ⟨.hbm, 222, rfl⟩
abbrev main_call0_cst : Ref sig .tc := ⟨.hbm, 223, rfl⟩
abbrev main_call0_v2 : Ref sig .tc := ⟨.hbm, 224, rfl⟩
abbrev main_call0_v3 : Ref sig .tc := ⟨.hbm, 225, rfl⟩
abbrev main_call0_cst_0 : Ref sig .tc := ⟨.hbm, 226, rfl⟩
abbrev main_call0_v4 : Ref sig .tc := ⟨.hbm, 227, rfl⟩
abbrev main_v202_2 : Ref sig .tc := ⟨.hbm, 228, rfl⟩
abbrev main_call0_cst_1 : Ref sig .tc := ⟨.hbm, 229, rfl⟩
abbrev main_call0_v6 : Ref sig .tc := ⟨.hbm, 230, rfl⟩
abbrev main_call0_v7 : Ref sig .tc := ⟨.hbm, 231, rfl⟩
abbrev main_v202_1 : Ref sig .tc := ⟨.hbm, 232, rfl⟩
abbrev main_v202_0 : Ref sig .tc := ⟨.hbm, 233, rfl⟩
abbrev main_call1_v0 : Ref sig .tc := ⟨.hbm, 234, rfl⟩
abbrev main_call1_v1 : Ref sig .tc := ⟨.hbm, 235, rfl⟩
abbrev main_call1_v2 : Ref sig .tc := ⟨.hbm, 236, rfl⟩
abbrev main_v203 : Ref sig .tc := ⟨.hbm, 237, rfl⟩
abbrev main_cst_12 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_cst_13 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_cst_14 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_cst_15 : Ref sig .tc := ⟨.hbm, 256, rfl⟩
abbrev main_v219 : Ref sig .tc := ⟨.hbm, 257, rfl⟩
abbrev main_v220 : Ref sig .tc := ⟨.hbm, 258, rfl⟩
abbrev main_cst_16 : Ref sig .tc := ⟨.hbm, 259, rfl⟩
abbrev main_v221 : Ref sig .tc := ⟨.hbm, 260, rfl⟩
abbrev main_v222 : Ref sig .tc := ⟨.hbm, 261, rfl⟩
abbrev main_cst_17 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_cst_18 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_cst_19 : Ref sig .tc := ⟨.hbm, 272, rfl⟩
abbrev main_v231 : Ref sig .tc := ⟨.hbm, 273, rfl⟩
abbrev main_v232 : Ref sig .tc := ⟨.hbm, 274, rfl⟩
abbrev main_cst_20 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_cst_21 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_cst_22 : Ref sig .tc := ⟨.hbm, 286, rfl⟩
abbrev main_v242 : Ref sig .tc := ⟨.hbm, 287, rfl⟩
abbrev main_v243 : Ref sig .tc := ⟨.hbm, 288, rfl⟩
abbrev main_cst_23 : Ref sig .tc := ⟨.hbm, 289, rfl⟩
abbrev main_v244 : Ref sig .tc := ⟨.hbm, 290, rfl⟩
abbrev main_cst_24 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_cst_25 : Ref sig .tc := ⟨.hbm, 296, rfl⟩
abbrev main_v249 : Ref sig .tc := ⟨.hbm, 297, rfl⟩
abbrev main_v250 : Ref sig .tc := ⟨.hbm, 298, rfl⟩
abbrev main_cst_26 : Ref sig .tc := ⟨.hbm, 299, rfl⟩
abbrev main_v251 : Ref sig .tc := ⟨.hbm, 300, rfl⟩
abbrev main_v252 : Ref sig .tc := ⟨.hbm, 301, rfl⟩
abbrev main_cst_27 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_cst_28 : Ref sig .tc := ⟨.hbm, 308, rfl⟩
abbrev main_v258 : Ref sig .tc := ⟨.hbm, 309, rfl⟩
abbrev main_v259 : Ref sig .tc := ⟨.hbm, 310, rfl⟩
abbrev main_cst_29 : Ref sig .tc := ⟨.hbm, 311, rfl⟩
abbrev main_v260 : Ref sig .tc := ⟨.hbm, 312, rfl⟩
abbrev main_v261 : Ref sig .tc := ⟨.hbm, 313, rfl⟩
abbrev main_cst_30 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_cst_31 : Ref sig .tc := ⟨.hbm, 320, rfl⟩
abbrev main_v267 : Ref sig .tc := ⟨.hbm, 321, rfl⟩
abbrev main_v268 : Ref sig .tc := ⟨.hbm, 322, rfl⟩
abbrev main_cst_32 : Ref sig .tc := ⟨.hbm, 323, rfl⟩
abbrev main_v269 : Ref sig .tc := ⟨.hbm, 324, rfl⟩
abbrev main_v270 : Ref sig .tc := ⟨.hbm, 325, rfl⟩
abbrev main_cst_33 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_cst_34 : Ref sig .tc := ⟨.hbm, 332, rfl⟩
abbrev main_v276 : Ref sig .tc := ⟨.hbm, 333, rfl⟩
abbrev main_v277 : Ref sig .tc := ⟨.hbm, 334, rfl⟩
abbrev main_cst_35 : Ref sig .tc := ⟨.hbm, 335, rfl⟩
abbrev main_v278 : Ref sig .tc := ⟨.hbm, 336, rfl⟩
abbrev main_v279 : Ref sig .tc := ⟨.hbm, 337, rfl⟩
abbrev main_cst_36 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_cst_37 : Ref sig .tc := ⟨.hbm, 344, rfl⟩
abbrev main_v285 : Ref sig .tc := ⟨.hbm, 345, rfl⟩
abbrev main_v286 : Ref sig .tc := ⟨.hbm, 346, rfl⟩
abbrev main_cst_38 : Ref sig .tc := ⟨.hbm, 347, rfl⟩
abbrev main_v287 : Ref sig .tc := ⟨.hbm, 348, rfl⟩
abbrev main_v288 : Ref sig .tc := ⟨.hbm, 349, rfl⟩
abbrev main_cst_39 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_cst_40 : Ref sig .tc := ⟨.hbm, 356, rfl⟩
abbrev main_v294 : Ref sig .tc := ⟨.hbm, 357, rfl⟩
abbrev main_v295 : Ref sig .tc := ⟨.hbm, 358, rfl⟩
abbrev main_cst_41 : Ref sig .tc := ⟨.hbm, 359, rfl⟩
abbrev main_v296 : Ref sig .tc := ⟨.hbm, 360, rfl⟩
abbrev main_v297 : Ref sig .tc := ⟨.hbm, 361, rfl⟩
abbrev main_cst_42 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_cst_43 : Ref sig .tc := ⟨.hbm, 368, rfl⟩
abbrev main_v303 : Ref sig .tc := ⟨.hbm, 369, rfl⟩
abbrev main_v304 : Ref sig .tc := ⟨.hbm, 370, rfl⟩
abbrev main_cst_44 : Ref sig .tc := ⟨.hbm, 371, rfl⟩
abbrev main_v305 : Ref sig .tc := ⟨.hbm, 372, rfl⟩
abbrev main_v306 : Ref sig .tc := ⟨.hbm, 373, rfl⟩
abbrev main_cst_45 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_v310 : Ref sig .tc := ⟨.hbm, 378, rfl⟩
abbrev main_v311 : Ref sig .tc := ⟨.hbm, 379, rfl⟩
abbrev main_cst_46 : Ref sig .tc := ⟨.hbm, 380, rfl⟩
abbrev main_v312 : Ref sig .tc := ⟨.hbm, 381, rfl⟩
abbrev main_v313 : Ref sig .tc := ⟨.hbm, 382, rfl⟩
abbrev main_cst_47 : Ref sig .tc := ⟨.hbm, 383, rfl⟩
abbrev main_v314 : Ref sig .tc := ⟨.hbm, 384, rfl⟩
abbrev main_v315 : Ref sig .tc := ⟨.hbm, 385, rfl⟩
abbrev main_cst_48 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_cst_49 : Ref sig .tc := ⟨.hbm, 392, rfl⟩
abbrev main_v321 : Ref sig .tc := ⟨.hbm, 393, rfl⟩
abbrev main_v322 : Ref sig .tc := ⟨.hbm, 394, rfl⟩
abbrev main_cst_50 : Ref sig .tc := ⟨.hbm, 395, rfl⟩
abbrev main_v323 : Ref sig .tc := ⟨.hbm, 396, rfl⟩
abbrev main_v324 : Ref sig .tc := ⟨.hbm, 397, rfl⟩
abbrev main_cst_51 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_cst_52 : Ref sig .tc := ⟨.hbm, 404, rfl⟩
abbrev main_v330 : Ref sig .tc := ⟨.hbm, 405, rfl⟩
abbrev main_v331 : Ref sig .tc := ⟨.hbm, 406, rfl⟩
abbrev main_cst_53 : Ref sig .tc := ⟨.hbm, 407, rfl⟩
abbrev main_v332 : Ref sig .tc := ⟨.hbm, 408, rfl⟩
abbrev main_v333 : Ref sig .tc := ⟨.hbm, 409, rfl⟩
abbrev main_cst_54 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_cst_55 : Ref sig .tc := ⟨.hbm, 416, rfl⟩
abbrev main_v339 : Ref sig .tc := ⟨.hbm, 417, rfl⟩
abbrev main_v340 : Ref sig .tc := ⟨.hbm, 418, rfl⟩
abbrev main_cst_56 : Ref sig .tc := ⟨.hbm, 419, rfl⟩
abbrev main_v341 : Ref sig .tc := ⟨.hbm, 420, rfl⟩
abbrev main_v342 : Ref sig .tc := ⟨.hbm, 421, rfl⟩
abbrev main_cst_57 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_cst_58 : Ref sig .tc := ⟨.hbm, 428, rfl⟩
abbrev main_v348 : Ref sig .tc := ⟨.hbm, 429, rfl⟩
abbrev main_v349 : Ref sig .tc := ⟨.hbm, 430, rfl⟩
abbrev main_cst_59 : Ref sig .tc := ⟨.hbm, 431, rfl⟩
abbrev main_v350 : Ref sig .tc := ⟨.hbm, 432, rfl⟩
abbrev main_v351 : Ref sig .tc := ⟨.hbm, 433, rfl⟩
abbrev main_cst_60 : Ref sig .tc := ⟨.hbm, 434, rfl⟩
abbrev main_v352 : Ref sig .tc := ⟨.hbm, 435, rfl⟩
abbrev main_v353 : Ref sig .tc := ⟨.hbm, 436, rfl⟩
abbrev main_v354 : Ref sig .tc := ⟨.hbm, 437, rfl⟩
abbrev main_v355 : Ref sig .tc := ⟨.hbm, 438, rfl⟩
abbrev main_v356 : Ref sig .tc := ⟨.hbm, 439, rfl⟩
abbrev main_cst_61 : Ref sig .tc := ⟨.hbm, 440, rfl⟩
abbrev main_v357 : Ref sig .tc := ⟨.hbm, 441, rfl⟩
abbrev main_v358 : Ref sig .tc := ⟨.hbm, 442, rfl⟩
abbrev main_cst_62 : Ref sig .tc := ⟨.hbm, 443, rfl⟩
abbrev main_v359 : Ref sig .tc := ⟨.hbm, 444, rfl⟩
abbrev main_v360 : Ref sig .tc := ⟨.hbm, 445, rfl⟩
abbrev main_cst_63 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_cst_64 : Ref sig .tc := ⟨.hbm, 452, rfl⟩
abbrev main_v366 : Ref sig .tc := ⟨.hbm, 453, rfl⟩
abbrev main_v367 : Ref sig .tc := ⟨.hbm, 454, rfl⟩
abbrev main_cst_65 : Ref sig .tc := ⟨.hbm, 455, rfl⟩
abbrev main_v368 : Ref sig .tc := ⟨.hbm, 456, rfl⟩
abbrev main_v369 : Ref sig .tc := ⟨.hbm, 457, rfl⟩
abbrev main_cst_66 : Ref sig .tc := ⟨.hbm, 458, rfl⟩
abbrev main_v370 : Ref sig .tc := ⟨.hbm, 459, rfl⟩
abbrev main_v371 : Ref sig .tc := ⟨.hbm, 460, rfl⟩
abbrev main_v372 : Ref sig .tc := ⟨.hbm, 461, rfl⟩
abbrev main_v373 : Ref sig .tc := ⟨.hbm, 462, rfl⟩
abbrev main_v374 : Ref sig .tc := ⟨.hbm, 463, rfl⟩
abbrev main_cst_67 : Ref sig .tc := ⟨.hbm, 464, rfl⟩
abbrev main_v375 : Ref sig .tc := ⟨.hbm, 465, rfl⟩
abbrev main_v376 : Ref sig .tc := ⟨.hbm, 466, rfl⟩
abbrev main_cst_68 : Ref sig .tc := ⟨.hbm, 467, rfl⟩
abbrev main_v377 : Ref sig .tc := ⟨.hbm, 468, rfl⟩
abbrev main_v378 : Ref sig .tc := ⟨.hbm, 469, rfl⟩
abbrev main_cst_69 : Ref sig .tc := ⟨.hbm, 470, rfl⟩
abbrev main_v379 : Ref sig .tc := ⟨.hbm, 471, rfl⟩
abbrev main_v380 : Ref sig .tc := ⟨.hbm, 472, rfl⟩
abbrev main_v381 : Ref sig .tc := ⟨.hbm, 473, rfl⟩
abbrev main_v382 : Ref sig .tc := ⟨.hbm, 474, rfl⟩
abbrev main_v383 : Ref sig .tc := ⟨.hbm, 475, rfl⟩
abbrev main_cst_70 : Ref sig .tc := ⟨.hbm, 476, rfl⟩
abbrev main_v384 : Ref sig .tc := ⟨.hbm, 477, rfl⟩
abbrev main_v385 : Ref sig .tc := ⟨.hbm, 478, rfl⟩
abbrev main_cst_71 : Ref sig .tc := ⟨.hbm, 479, rfl⟩
abbrev main_v386 : Ref sig .tc := ⟨.hbm, 480, rfl⟩
abbrev main_v387 : Ref sig .tc := ⟨.hbm, 481, rfl⟩
abbrev main_cst_72 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_cst_73 : Ref sig .tc := ⟨.hbm, 488, rfl⟩
abbrev main_v393 : Ref sig .tc := ⟨.hbm, 489, rfl⟩
abbrev main_v394 : Ref sig .tc := ⟨.hbm, 490, rfl⟩
abbrev main_cst_74 : Ref sig .tc := ⟨.hbm, 491, rfl⟩
abbrev main_v395 : Ref sig .tc := ⟨.hbm, 492, rfl⟩
abbrev main_v396 : Ref sig .tc := ⟨.hbm, 493, rfl⟩
abbrev main_cst_75 : Ref sig .tc := ⟨.hbm, 494, rfl⟩
abbrev main_v397 : Ref sig .tc := ⟨.hbm, 495, rfl⟩
abbrev main_v398 : Ref sig .tc := ⟨.hbm, 496, rfl⟩
abbrev main_v399 : Ref sig .tc := ⟨.hbm, 497, rfl⟩
abbrev main_v400 : Ref sig .tc := ⟨.hbm, 498, rfl⟩
abbrev main_v401 : Ref sig .tc := ⟨.hbm, 499, rfl⟩
abbrev main_cst_76 : Ref sig .tc := ⟨.hbm, 500, rfl⟩
abbrev main_v402 : Ref sig .tc := ⟨.hbm, 501, rfl⟩
abbrev main_v403 : Ref sig .tc := ⟨.hbm, 502, rfl⟩
abbrev main_cst_77 : Ref sig .tc := ⟨.hbm, 503, rfl⟩
abbrev main_v404 : Ref sig .tc := ⟨.hbm, 504, rfl⟩
abbrev main_v405 : Ref sig .tc := ⟨.hbm, 505, rfl⟩
abbrev main_cst_78 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩
abbrev main_cst_79 : Ref sig .tc := ⟨.hbm, 512, rfl⟩
abbrev main_v411 : Ref sig .tc := ⟨.hbm, 513, rfl⟩
abbrev main_v412 : Ref sig .tc := ⟨.hbm, 514, rfl⟩
abbrev main_cst_80 : Ref sig .tc := ⟨.hbm, 515, rfl⟩
abbrev main_v413 : Ref sig .tc := ⟨.hbm, 516, rfl⟩
abbrev main_v414 : Ref sig .tc := ⟨.hbm, 517, rfl⟩
abbrev main_cst_81 : Ref sig .tc := ⟨.hbm, 518, rfl⟩
abbrev main_v415 : Ref sig .tc := ⟨.hbm, 519, rfl⟩
abbrev main_v416 : Ref sig .tc := ⟨.hbm, 520, rfl⟩
abbrev main_v417 : Ref sig .tc := ⟨.hbm, 521, rfl⟩
abbrev main_v418 : Ref sig .tc := ⟨.hbm, 522, rfl⟩
abbrev main_v419 : Ref sig .tc := ⟨.hbm, 523, rfl⟩
abbrev main_cst_82 : Ref sig .tc := ⟨.hbm, 524, rfl⟩
abbrev main_v420 : Ref sig .tc := ⟨.hbm, 525, rfl⟩
abbrev main_v421 : Ref sig .tc := ⟨.hbm, 526, rfl⟩
abbrev main_cst_83 : Ref sig .tc := ⟨.hbm, 527, rfl⟩
abbrev main_v422 : Ref sig .tc := ⟨.hbm, 528, rfl⟩
abbrev main_v423 : Ref sig .tc := ⟨.hbm, 529, rfl⟩
abbrev main_cst_84 : Ref sig .tc := ⟨.hbm, 530, rfl⟩
abbrev main_v424 : Ref sig .tc := ⟨.hbm, 531, rfl⟩
abbrev main_v425 : Ref sig .tc := ⟨.hbm, 532, rfl⟩
abbrev main_v426 : Ref sig .tc := ⟨.hbm, 533, rfl⟩
abbrev main_v427 : Ref sig .tc := ⟨.hbm, 534, rfl⟩
abbrev main_v428 : Ref sig .tc := ⟨.hbm, 535, rfl⟩
abbrev main_cst_85 : Ref sig .tc := ⟨.hbm, 536, rfl⟩
abbrev main_v429 : Ref sig .tc := ⟨.hbm, 537, rfl⟩
abbrev main_v430 : Ref sig .tc := ⟨.hbm, 538, rfl⟩
abbrev main_cst_86 : Ref sig .tc := ⟨.hbm, 539, rfl⟩
abbrev main_v431 : Ref sig .tc := ⟨.hbm, 540, rfl⟩
abbrev main_v432 : Ref sig .tc := ⟨.hbm, 541, rfl⟩
abbrev main_cst_87 : Ref sig .tc := ⟨.hbm, 542, rfl⟩
abbrev main_v433 : Ref sig .tc := ⟨.hbm, 543, rfl⟩
abbrev main_v434 : Ref sig .tc := ⟨.hbm, 544, rfl⟩
abbrev main_v435 : Ref sig .tc := ⟨.hbm, 545, rfl⟩
abbrev main_v436 : Ref sig .tc := ⟨.hbm, 546, rfl⟩
abbrev main_v437 : Ref sig .tc := ⟨.hbm, 547, rfl⟩
abbrev main_cst_88 : Ref sig .tc := ⟨.hbm, 548, rfl⟩
abbrev main_v438 : Ref sig .tc := ⟨.hbm, 549, rfl⟩
abbrev main_v439 : Ref sig .tc := ⟨.hbm, 550, rfl⟩
abbrev main_cst_89 : Ref sig .tc := ⟨.hbm, 551, rfl⟩
abbrev main_v440 : Ref sig .tc := ⟨.hbm, 552, rfl⟩
abbrev main_v441 : Ref sig .tc := ⟨.hbm, 553, rfl⟩
abbrev main_cst_90 : Ref sig .tc := ⟨.hbm, 554, rfl⟩
abbrev main_v442 : Ref sig .tc := ⟨.hbm, 555, rfl⟩
abbrev main_v443 : Ref sig .tc := ⟨.hbm, 556, rfl⟩
abbrev main_v444 : Ref sig .tc := ⟨.hbm, 557, rfl⟩
abbrev main_v445 : Ref sig .tc := ⟨.hbm, 558, rfl⟩
abbrev main_v446 : Ref sig .tc := ⟨.hbm, 559, rfl⟩
abbrev main_cst_91 : Ref sig .tc := ⟨.hbm, 560, rfl⟩
abbrev main_v447 : Ref sig .tc := ⟨.hbm, 561, rfl⟩
abbrev main_v448 : Ref sig .tc := ⟨.hbm, 562, rfl⟩
abbrev main_cst_92 : Ref sig .tc := ⟨.hbm, 563, rfl⟩
abbrev main_v449 : Ref sig .tc := ⟨.hbm, 564, rfl⟩
abbrev main_v450 : Ref sig .tc := ⟨.hbm, 565, rfl⟩
abbrev main_cst_93 : Ref sig .tc := ⟨.hbm, 566, rfl⟩
abbrev main_v451 : Ref sig .tc := ⟨.hbm, 567, rfl⟩
abbrev main_v452 : Ref sig .tc := ⟨.hbm, 568, rfl⟩
abbrev main_v453 : Ref sig .tc := ⟨.hbm, 569, rfl⟩
abbrev main_v454 : Ref sig .tc := ⟨.hbm, 570, rfl⟩
abbrev main_v455 : Ref sig .tc := ⟨.hbm, 571, rfl⟩
abbrev main_cst_94 : Ref sig .tc := ⟨.hbm, 572, rfl⟩
abbrev main_v456 : Ref sig .tc := ⟨.hbm, 573, rfl⟩
abbrev main_v457 : Ref sig .tc := ⟨.hbm, 574, rfl⟩
abbrev main_cst_95 : Ref sig .tc := ⟨.hbm, 575, rfl⟩
abbrev main_v458 : Ref sig .tc := ⟨.hbm, 576, rfl⟩
abbrev main_v459 : Ref sig .tc := ⟨.hbm, 577, rfl⟩
abbrev main_cst_96 : Ref sig .tc := ⟨.hbm, 578, rfl⟩
abbrev main_v460 : Ref sig .tc := ⟨.hbm, 579, rfl⟩
abbrev main_v461 : Ref sig .tc := ⟨.hbm, 580, rfl⟩
abbrev main_v462 : Ref sig .tc := ⟨.hbm, 581, rfl⟩
abbrev main_v463 : Ref sig .tc := ⟨.hbm, 582, rfl⟩
abbrev main_v464 : Ref sig .tc := ⟨.hbm, 583, rfl⟩
abbrev main_cst_97 : Ref sig .tc := ⟨.hbm, 584, rfl⟩
abbrev main_v465 : Ref sig .tc := ⟨.hbm, 585, rfl⟩
abbrev main_v466 : Ref sig .tc := ⟨.hbm, 586, rfl⟩
abbrev main_cst_98 : Ref sig .tc := ⟨.hbm, 587, rfl⟩
abbrev main_v467 : Ref sig .tc := ⟨.hbm, 588, rfl⟩
abbrev main_v468 : Ref sig .tc := ⟨.hbm, 589, rfl⟩
abbrev main_cst_99 : Ref sig .tc := ⟨.hbm, 590, rfl⟩
abbrev main_v469 : Ref sig .tc := ⟨.hbm, 591, rfl⟩
abbrev main_v470 : Ref sig .tc := ⟨.hbm, 592, rfl⟩
abbrev main_v471 : Ref sig .tc := ⟨.hbm, 593, rfl⟩
abbrev main_v472 : Ref sig .tc := ⟨.hbm, 594, rfl⟩
abbrev main_v473 : Ref sig .tc := ⟨.hbm, 595, rfl⟩
abbrev main_cst_100 : Ref sig .tc := ⟨.hbm, 596, rfl⟩
abbrev main_v474 : Ref sig .tc := ⟨.hbm, 597, rfl⟩
abbrev main_v475 : Ref sig .tc := ⟨.hbm, 598, rfl⟩
abbrev main_cst_101 : Ref sig .tc := ⟨.hbm, 599, rfl⟩
abbrev main_v476 : Ref sig .tc := ⟨.hbm, 600, rfl⟩
abbrev main_v477 : Ref sig .tc := ⟨.hbm, 601, rfl⟩
abbrev main_cst_102 : Ref sig .tc := ⟨.hbm, 602, rfl⟩
abbrev main_v478 : Ref sig .tc := ⟨.hbm, 603, rfl⟩
abbrev main_v479 : Ref sig .tc := ⟨.hbm, 604, rfl⟩
abbrev main_v480 : Ref sig .tc := ⟨.hbm, 605, rfl⟩
abbrev main_v481 : Ref sig .tc := ⟨.hbm, 606, rfl⟩
abbrev main_v482 : Ref sig .tc := ⟨.hbm, 607, rfl⟩
abbrev main_cst_103 : Ref sig .tc := ⟨.hbm, 608, rfl⟩
abbrev main_v483 : Ref sig .tc := ⟨.hbm, 609, rfl⟩
abbrev main_v484 : Ref sig .tc := ⟨.hbm, 610, rfl⟩
abbrev main_cst_104 : Ref sig .tc := ⟨.hbm, 611, rfl⟩
abbrev main_v485 : Ref sig .tc := ⟨.hbm, 612, rfl⟩
abbrev main_v486 : Ref sig .tc := ⟨.hbm, 613, rfl⟩
abbrev main_cst_105 : Ref sig .tc := ⟨.hbm, 614, rfl⟩
abbrev main_v487 : Ref sig .tc := ⟨.hbm, 615, rfl⟩
abbrev main_v488 : Ref sig .tc := ⟨.hbm, 616, rfl⟩
abbrev main_v489 : Ref sig .tc := ⟨.hbm, 617, rfl⟩
abbrev main_v490 : Ref sig .tc := ⟨.hbm, 618, rfl⟩
abbrev main_v491 : Ref sig .tc := ⟨.hbm, 619, rfl⟩
abbrev main_cst_106 : Ref sig .tc := ⟨.hbm, 620, rfl⟩
abbrev main_v492 : Ref sig .tc := ⟨.hbm, 621, rfl⟩
abbrev main_v493 : Ref sig .tc := ⟨.hbm, 622, rfl⟩
abbrev main_cst_107 : Ref sig .tc := ⟨.hbm, 623, rfl⟩
abbrev main_v494 : Ref sig .tc := ⟨.hbm, 624, rfl⟩
abbrev main_v495 : Ref sig .tc := ⟨.hbm, 625, rfl⟩
abbrev main_cst_108 : Ref sig .tc := ⟨.hbm, 626, rfl⟩
abbrev main_v496 : Ref sig .tc := ⟨.hbm, 627, rfl⟩
abbrev main_v497 : Ref sig .tc := ⟨.hbm, 628, rfl⟩
abbrev main_v498 : Ref sig .tc := ⟨.hbm, 629, rfl⟩
abbrev main_v499 : Ref sig .tc := ⟨.hbm, 630, rfl⟩
abbrev main_v500 : Ref sig .tc := ⟨.hbm, 631, rfl⟩
abbrev main_cst_109 : Ref sig .tc := ⟨.hbm, 632, rfl⟩
abbrev main_v501 : Ref sig .tc := ⟨.hbm, 633, rfl⟩
abbrev main_v502 : Ref sig .tc := ⟨.hbm, 634, rfl⟩
abbrev main_cst_110 : Ref sig .tc := ⟨.hbm, 635, rfl⟩
abbrev main_v503 : Ref sig .tc := ⟨.hbm, 636, rfl⟩
abbrev main_v504 : Ref sig .tc := ⟨.hbm, 637, rfl⟩
abbrev main_cst_111 : Ref sig .tc := ⟨.hbm, 638, rfl⟩
abbrev main_v505 : Ref sig .tc := ⟨.hbm, 639, rfl⟩
abbrev main_v506 : Ref sig .tc := ⟨.hbm, 640, rfl⟩
abbrev main_v507 : Ref sig .tc := ⟨.hbm, 641, rfl⟩
abbrev main_v508 : Ref sig .tc := ⟨.hbm, 642, rfl⟩
abbrev main_v509 : Ref sig .tc := ⟨.hbm, 643, rfl⟩
abbrev main_cst_112 : Ref sig .tc := ⟨.hbm, 644, rfl⟩
abbrev main_v510 : Ref sig .tc := ⟨.hbm, 645, rfl⟩
abbrev main_v511 : Ref sig .tc := ⟨.hbm, 646, rfl⟩
abbrev main_cst_113 : Ref sig .tc := ⟨.hbm, 647, rfl⟩
abbrev main_v512 : Ref sig .tc := ⟨.hbm, 648, rfl⟩
abbrev main_v513 : Ref sig .tc := ⟨.hbm, 649, rfl⟩
abbrev main_cst_114 : Ref sig .tc := ⟨.hbm, 650, rfl⟩
abbrev main_v514 : Ref sig .tc := ⟨.hbm, 651, rfl⟩
abbrev main_v515 : Ref sig .tc := ⟨.hbm, 652, rfl⟩
abbrev main_v516 : Ref sig .tc := ⟨.hbm, 653, rfl⟩
abbrev main_v517 : Ref sig .tc := ⟨.hbm, 654, rfl⟩
abbrev main_v518 : Ref sig .tc := ⟨.hbm, 655, rfl⟩
abbrev main_v519 : Ref sig .tc := ⟨.hbm, 656, rfl⟩
abbrev main_v520 : Ref sig .tc := ⟨.hbm, 657, rfl⟩
abbrev main_v521 : Ref sig .tc := ⟨.hbm, 658, rfl⟩
abbrev main_v522 : Ref sig .tc := ⟨.hbm, 659, rfl⟩
abbrev main_cst_115 : Ref sig .tc := ⟨.hbm, 660, rfl⟩
abbrev main_v523 : Ref sig .tc := ⟨.hbm, 661, rfl⟩
abbrev main_v524 : Ref sig .tc := ⟨.hbm, 662, rfl⟩

abbrev nD : Nat := 1
abbrev τ : Topo := Topo.v7x

variable {F : FTy → Type} [FloatOps F]
-- ==== Kernel2.lean ====
abbrev S2048x1024 : Shape := ⟨2, ![2048, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S5632x1024 : Shape := ⟨2, ![5632, 1024]⟩
abbrev S8x704x1024 : Shape := ⟨3, ![8, 704, 1024]⟩
abbrev S4x704x1024 : Shape := ⟨3, ![4, 704, 1024]⟩
abbrev S2048x8x704 : Shape := ⟨3, ![2048, 8, 704]⟩
abbrev S8x2048x704 : Shape := ⟨3, ![8, 2048, 704]⟩
abbrev S8x1024 : Shape := ⟨2, ![8, 1024]⟩
abbrev S256x1024 : Shape := ⟨2, ![256, 1024]⟩
abbrev S8x256x704 : Shape := ⟨3, ![8, 256, 704]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩
abbrev S1024 : Shape := ⟨1, ![1024]⟩

abbrev nBuf : Space → Nat
  | .hbm => 51
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x5632, .f32⟩
  | .hbm, ⟨37, _⟩ => ⟨S5632x1024, .f32⟩
  | .hbm, ⟨38, _⟩ => ⟨S5632x1024, .bf16⟩
  | .hbm, ⟨39, _⟩ => ⟨S8x704x1024, .bf16⟩
  | .hbm, ⟨40, _⟩ => ⟨S2816x1024, .bf16⟩
  | .hbm, ⟨41, _⟩ => ⟨S4x704x1024, .bf16⟩
  | .hbm, ⟨42, _⟩ => ⟨S2048x1024, .f32⟩
  | .hbm, ⟨43, _⟩ => ⟨S2048x1024, .f32⟩
  | .hbm, ⟨44, _⟩ => ⟨S2048x1024, .bf16⟩
  | .hbm, ⟨45, _⟩ => ⟨S2048x8x704, .f32⟩
  | .hbm, ⟨46, _⟩ => ⟨S8x2048x704, .f32⟩
  | .hbm, ⟨47, _⟩ => ⟨S8x2048x704, .bf16⟩
  | .hbm, ⟨48, _⟩ => ⟨S8x2048x704, .bf16⟩
  | .hbm, ⟨49, _⟩ => ⟨S2048x1024, .f32⟩
  | .hbm, ⟨50, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S8x256x704, .bf16⟩
  | .local _ .vmem, ⟨3, _⟩ => ⟨S8x256x704, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x6144, .f32⟩
  | .local _ .vmem, ⟨9, _⟩ => ⟨S1x6144, .f32⟩
  | .local _ .vmem, ⟨10, _⟩ => ⟨S1x1024, .f32⟩
  | .local _ .vmem, ⟨11, _⟩ => ⟨S8x704x1024, .bf16⟩
  | .local _ .vmem, ⟨12, _⟩ => ⟨S4x704x1024, .bf16⟩
  | .local _ .vmem, ⟨13, _⟩ => ⟨S8x256x704, .bf16⟩
  | .local _ .vmem, ⟨14, _⟩ => ⟨S8x256x704, .bf16⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S2048x1024 : Shape := ⟨2, ![2048, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048x5632 : Shape := ⟨2, ![2048, 5632]⟩
abbrev S2048 : Shape := ⟨1, ![2048]⟩
abbrev S2048x1 : Shape := ⟨2, ![2048, 1]⟩
abbrev S2048x2816 : Shape := ⟨2, ![2048, 2816]⟩
abbrev S1024 : Shape := ⟨1, ![1024]⟩
abbrev S2048x8x704 : Shape := ⟨3, ![2048, 8, 704]⟩
abbrev S8x2048x704 : Shape := ⟨3, ![8, 2048, 704]⟩
abbrev S2x1024 : Shape := ⟨2, ![2, 1024]⟩
abbrev S3x1024 : Shape := ⟨2, ![3, 1024]⟩
abbrev S8x1024 : Shape := ⟨2, ![8, 1024]⟩

abbrev nBuf : Space → Nat
  | .hbm => 117
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S2048x5632, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x5632, .f32⟩
  | .hbm, ⟨43, _⟩ => ⟨S2048x5632, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2048x2816, .f32⟩
  | .hbm, ⟨50, _⟩ => ⟨S2048x2816, .f32⟩
  | .hbm, ⟨51, _⟩ => ⟨S_, .f32⟩
  | .hbm, ⟨52, _⟩ => ⟨S2048x2816, .f32⟩
  | .hbm, ⟨53, _⟩ => ⟨S2048x2816, .f32⟩
  | .hbm, ⟨54, _⟩ => ⟨S_, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2048x2816, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x2816, .f32⟩
  | .hbm, ⟨68, _⟩ => ⟨S2048x2816, .f32⟩
  | .hbm, ⟨69, _⟩ => ⟨S2048x2816, .f32⟩
  | .hbm, ⟨70, _⟩ => ⟨S2048x2816, .f32⟩
  | .hbm, ⟨71, _⟩ => ⟨S2048x2816, .f32⟩
  | .hbm, ⟨72, _⟩ => ⟨S2048x2816, .f32⟩
  | .hbm, ⟨73, _⟩ => ⟨S2048x2816, .f32⟩
  | .hbm, ⟨74, _⟩ => ⟨S2048x5632, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1, .f32⟩
  | .hbm, ⟨99, _⟩ => ⟨S_, .f32⟩
  | .hbm, ⟨100, _⟩ => ⟨S2048x1, .f32⟩
  | .hbm, ⟨101, _⟩ => ⟨S2048x1, .f32⟩
  | .hbm, ⟨102, _⟩ => ⟨S_, .f32⟩
  | .hbm, ⟨103, _⟩ => ⟨S2048, .f32⟩
  | .hbm, ⟨104, _⟩ => ⟨S2048x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x8x704, .f32⟩
  | .hbm, ⟨110, _⟩ => ⟨S8x2048x704, .f32⟩
  | .hbm, ⟨111, _⟩ => ⟨S8x2048x704, .bf16⟩
  | .hbm, ⟨112, _⟩ => ⟨S_, .f32⟩
  | .hbm, ⟨113, _⟩ => ⟨S2x1024, .f32⟩
  | .hbm, ⟨114, _⟩ => ⟨S_, .f32⟩
  | .hbm, ⟨115, _⟩ => ⟨S3x1024, .f32⟩
  | .hbm, ⟨116, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v33_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v33_1 : Ref sig .tc := ⟨.hbm, 57, rfl⟩
abbrev main_v33_0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_7 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_cst_10 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_11 : Ref sig .tc := ⟨.hbm, 112, rfl⟩
abbrev main_v78 : Ref sig .tc := ⟨.hbm, 113, rfl⟩
abbrev main_cst_12 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Kernel3.lean ====
abbrev S2048x1024 : Shape := ⟨2, ![2048, 1024]⟩
abbrev S1x6144 : Shape := ⟨2, ![1, 6144]⟩
abbrev S1x1024 : Shape := ⟨2, ![1, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S2048x8x704 : Shape := ⟨3, ![2048, 8, 704]⟩
abbrev S8x2048x704 : Shape := ⟨3, ![8, 2048, 704]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 39
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S2048x5632, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x8x704, .f32⟩
  | .hbm, ⟨36, _⟩ => ⟨S8x2048x704, .f32⟩
  | .hbm, ⟨37, _⟩ => ⟨S8x2048x704, .bf16⟩
  | .hbm, ⟨38, _⟩ => ⟨S8x704x1024, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x704x1024, .bf16⟩
  | .local _ .vmem, ⟨4, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x1024 : Shape := ⟨2, ![2048, 1024]⟩
abbrev S1x6144 : Shape := ⟨2, ![1, 6144]⟩
abbrev S1x1024 : Shape := ⟨2, ![1, 1024]⟩
abbrev S2048x5632 : Shape := ⟨2, ![2048, 5632]⟩
abbrev S_ : Shape := ⟨0, ![]⟩
abbrev S1024x5632 : Shape := ⟨2, ![1024, 5632]⟩
abbrev S2048 : Shape := ⟨1, ![2048]⟩
abbrev S2048x1 : Shape := ⟨2, ![2048, 1]⟩
abbrev S5632x1024 : Shape := ⟨2, ![5632, 1024]⟩
abbrev S8x704x1024 : Shape := ⟨3, ![8, 704, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S2048x5632, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1024x5632, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x5632, .f32⟩
  | .hbm, ⟨37, _⟩ => ⟨S5632x1024, .f32⟩
  | .hbm, ⟨38, _⟩ => ⟨S1024x5632, .f32⟩
  | .hbm, ⟨39, _⟩ => ⟨S5632x1024, .f32⟩
  | .hbm, ⟨40, _⟩ => ⟨S5632x1024, .bf16⟩
  | .hbm, ⟨41, _⟩ => ⟨S8x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel4.lean ====
abbrev S2048x5632 : Shape := ⟨2, ![2048, 5632]⟩
abbrev S2048x1024 : Shape := ⟨2, ![2048, 1024]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 19
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x4x704, .f32⟩
  | .hbm, ⟨15, _⟩ => ⟨S4x2048x704, .f32⟩
  | .hbm, ⟨16, _⟩ => ⟨S4x2048x704, .bf16⟩
  | .hbm, ⟨17, _⟩ => ⟨S2048x1024, .bf16⟩
  | .hbm, ⟨18, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2048x5632 : Shape := ⟨2, ![2048, 5632]⟩
abbrev S2048x1024 : Shape := ⟨2, ![2048, 1024]⟩
abbrev S_ : Shape := ⟨0, ![]⟩
abbrev S2816x1024 : Shape := ⟨2, ![2816, 1024]⟩
abbrev S2048x2816 : Shape := ⟨2, ![2048, 2816]⟩
abbrev S1024x2816 : Shape := ⟨2, ![1024, 2816]⟩
abbrev S4x704x1024 : Shape := ⟨3, ![4, 704, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x1024, .f32⟩
  | .hbm, ⟨17, _⟩ => ⟨S1024x2816, .f32⟩
  | .hbm, ⟨18, _⟩ => ⟨S2816x1024, .f32⟩
  | .hbm, ⟨19, _⟩ => ⟨S2816x1024, .bf16⟩
  | .hbm, ⟨20, _⟩ => ⟨S4x704x1024, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel5.lean ====
abbrev S2048x3080 : Shape := ⟨2, ![2048, 3080]⟩
abbrev S2048x1024 : Shape := ⟨2, ![2048, 1024]⟩
abbrev S1x1024 : Shape := ⟨2, ![1, 1024]⟩
abbrev S1x6144 : Shape := ⟨2, ![1, 6144]⟩
abbrev S1024x3080 : Shape := ⟨2, ![1024, 3080]⟩
abbrev S3080x1024 : Shape := ⟨2, ![3080, 1024]⟩
abbrev S8x1024 : Shape := ⟨2, ![8, 1024]⟩
abbrev S_ : Shape := ⟨0, ![]⟩
abbrev S128x1024 : Shape := ⟨2, ![128, 1024]⟩
abbrev S2048x8 : Shape := ⟨2, ![2048, 8]⟩
abbrev S2048x128 : Shape := ⟨2, ![2048, 128]⟩
abbrev S2048x2048 : Shape := ⟨2, ![2048, 2048]⟩
abbrev S512x1024 : Shape := ⟨2, ![512, 1024]⟩
abbrev S512x2048 : Shape := ⟨2, ![512, 2048]⟩
abbrev S512x128 : Shape := ⟨2, ![512, 128]⟩
abbrev S3072x1024 : Shape := ⟨2, ![3072, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 18
  | .smem => 0
  | _ => 0

abbrev bufTy : (tb : Table) → Fin (tcTables nBuf tb) → BufTy
  | .hbm, ⟨0, _⟩ => ⟨S2048x3080, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x6144, .f32⟩
  | .hbm, ⟨5, _⟩ => ⟨S1x6144, .f32⟩
  | .hbm, ⟨6, _⟩ => ⟨S1024x3080, .f32⟩
  | .hbm, ⟨7, _⟩ => ⟨S3080x1024, .f32⟩
  | .hbm, ⟨8, _⟩ => ⟨S3080x1024, .bf16⟩
  | .hbm, ⟨9, _⟩ => ⟨S8x1024, .bf16⟩
  | .hbm, ⟨10, _⟩ => ⟨S_, .i32⟩
  | .hbm, ⟨11, _⟩ => ⟨S_, .bf16⟩
  | .hbm, ⟨12, _⟩ => ⟨S128x1024, .bf16⟩
  | .hbm, ⟨13, _⟩ => ⟨S2048x8, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S2048x1024, .f32⟩
  | .hbm, ⟨19, _⟩ => ⟨S2048x1024, .bf16⟩
  | .hbm, ⟨20, _⟩ => ⟨S2048x2048, .f32⟩
  | .hbm, ⟨21, _⟩ => ⟨S2048x2048, .bf16⟩
  | .hbm, ⟨22, _⟩ => ⟨S2048x1024, .f32⟩
  | .hbm, ⟨23, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x128, .bf16⟩
  | .local _ .vmem, ⟨5, _⟩ => ⟨S512x128, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x6144, .f32⟩
  | .local _ .vmem, ⟨12, _⟩ => ⟨S1x6144, .f32⟩
  | .local _ .vmem, ⟨13, _⟩ => ⟨S3072x1024, .bf16⟩
  | .local _ .vmem, ⟨14, _⟩ => ⟨S128x1024, .bf16⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | _, _ => ⟨S2048x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S2048x3080 : Shape := ⟨2, ![2048, 3080]⟩
abbrev S2048x1024 : Shape := ⟨2, ![2048, 1024]⟩
abbrev S1x1024 : Shape := ⟨2, ![1, 1024]⟩
abbrev S1x6144 : Shape := ⟨2, ![1, 6144]⟩
abbrev S1024x3080 : Shape := ⟨2, ![1024, 3080]⟩
abbrev S_ : Shape := ⟨0, ![]⟩
abbrev S2048 : Shape := ⟨1, ![2048]⟩
abbrev S2048x1 : Shape := ⟨2, ![2048, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x3080, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x6144, .f32⟩
  | .hbm, ⟨5, _⟩ => ⟨S1x6144, .f32⟩
  | .hbm, ⟨6, _⟩ => ⟨S1024x3080, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x3080, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S5x1024, .f32⟩
  | .hbm, ⟨77, _⟩ => ⟨S8x1024, .f32⟩
  | _, _ => ⟨S2048x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel6.lean ====
abbrev S2048x512 : Shape := ⟨2, ![2048, 512]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .bf16⟩
  | .hbm, ⟨6, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S2048x512 : Shape := ⟨2, ![2048, 512]⟩
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S4x2048x704 : Shape := ⟨3, ![4, 2048, 704]⟩
abbrev S8x2048x704 : Shape := ⟨3, ![8, 2048, 704]⟩
abbrev S8x1024 : Shape := ⟨2, ![8, 1024]⟩
abbrev S256x1024 : Shape := ⟨2, ![256, 1024]⟩
abbrev S4x256x704 : Shape := ⟨3, ![4, 256, 704]⟩
abbrev S8x256x704 : Shape := ⟨3, ![8, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1 : Shape := ⟨1, ![1]⟩
abbrev S1x1 : Shape := ⟨2, ![1, 1]⟩
abbrev S1024 : Shape := ⟨1, ![1024]⟩

abbrev nBuf : Space → Nat
  | .hbm => 19
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S5632x1024, .f32⟩
  | .hbm, ⟨9, _⟩ => ⟨S5632x1024, .bf16⟩
  | .hbm, ⟨10, _⟩ => ⟨S8x704x1024, .bf16⟩
  | .hbm, ⟨11, _⟩ => ⟨S2816x1024, .bf16⟩
  | .hbm, ⟨12, _⟩ => ⟨S4x704x1024, .bf16⟩
  | .hbm, ⟨13, _⟩ => ⟨S2048x1024, .bf16⟩
  | .hbm, ⟨14, _⟩ => ⟨S4x2048x704, .bf16⟩
  | .hbm, ⟨15, _⟩ => ⟨S8x2048x704, .bf16⟩
  | .hbm, ⟨16, _⟩ => ⟨S2048x1024, .f32⟩
  | .hbm, ⟨17, _⟩ => ⟨S2048x1024, .bf16⟩
  | .hbm, ⟨18, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6144, .f32⟩
  | .local _ .vmem, ⟨5, _⟩ => ⟨S1x6144, .f32⟩
  | .local _ .vmem, ⟨6, _⟩ => ⟨S1x1024, .f32⟩
  | .local _ .vmem, ⟨7, _⟩ => ⟨S1x1024, .f32⟩
  | .local _ .vmem, ⟨8, _⟩ => ⟨S8x704x1024, .bf16⟩
  | .local _ .vmem, ⟨9, _⟩ => ⟨S4x704x1024, .bf16⟩
  | .local _ .vmem, ⟨10, _⟩ => ⟨S256x1024, .bf16⟩
  | .local _ .vmem, ⟨11, _⟩ => ⟨S256x1024, .bf16⟩
  | .local _ .vmem, ⟨12, _⟩ => ⟨S4x256x704, .bf16⟩
  | .local _ .vmem, ⟨13, _⟩ => ⟨S4x256x704, .bf16⟩
  | .local _ .vmem, ⟨14, _⟩ => ⟨S8x256x704, .bf16⟩
  | .local _ .vmem, ⟨15, _⟩ => ⟨S8x256x704, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S2048x1024 : Shape := ⟨2, ![2048, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024 : Shape := ⟨1, ![1024]⟩
abbrev S3x1024 : Shape := ⟨2, ![3, 1024]⟩
abbrev S2x1024 : Shape := ⟨2, ![2, 1024]⟩
abbrev S8x1024 : Shape := ⟨2, ![8, 1024]⟩
abbrev S2048x4x704 : Shape := ⟨3, ![2048, 4, 704]⟩
abbrev S4x2048x704 : Shape := ⟨3, ![4, 2048, 704]⟩
abbrev S2048x8x704 : Shape := ⟨3, ![2048, 8, 704]⟩
abbrev S8x2048x704 : Shape := ⟨3, ![8, 2048, 704]⟩

abbrev nBuf : Space → Nat
  | .hbm => 139
  | .vmem => 0
  | .smem => 0
  | _ => 0

abbrev hbmTy0_0 (i : Nat) : BufTy := match i % 128 with
  | 0 => ⟨S2048x1024, .f32⟩
  | 1 => ⟨S2048x1024, .f32⟩
  | 2 => ⟨S1x6144, .f32⟩
  | 3 => ⟨S1x6144, .f32⟩
  | 4 => ⟨S1x1024, .f32⟩
  | 5 => ⟨S1x1024, .f32⟩
  | 6 => ⟨S1024x5632, .f32⟩
  | 7 => ⟨S2816x1024, .f32⟩
  | 8 => ⟨S1x6144, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S2048x1024, .f32⟩
  | 16 => ⟨S_, .f32⟩
  | 17 => ⟨S2048, .f32⟩
  | 18 => ⟨S2048x1, .f32⟩
  | 19 => ⟨S_, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x1, .f32⟩
  | 26 => ⟨S2048x1024, .f32⟩
  | 27 => ⟨S2048x1024, .f32⟩
  | 28 => ⟨S2048x1024, .f32⟩
  | 29 => ⟨S2048x1024, .f32⟩
  | 30 => ⟨S_, .f32⟩
  | 31 => ⟨S1x1024, .f32⟩
  | 32 => ⟨S1x1024, .f32⟩
  | 33 => ⟨S2048x1024, .f32⟩
  | 34 => ⟨S2048x1024, .f32⟩
  | 35 => ⟨S2048x1024, .f32⟩
  | 36 => ⟨S2048x1024, .f32⟩
  | 37 => ⟨S2048x5632, .f32⟩
  | 38 => ⟨S2048x2816, .f32⟩
  | 39 => ⟨S2048x2816, .f32⟩
  | 40 => ⟨S2048x2816, .f32⟩
  | 41 => ⟨S2048x2816, .f32⟩
  | 42 => ⟨S_, .f32⟩
  | 43 => ⟨S2048x2816, .f32⟩
  | 44 => ⟨S2048x2816, .f32⟩
  | 45 => ⟨S_, .f32⟩
  | 46 => ⟨S2048x2816, .f32⟩
  | 47 => ⟨S2048x2816, .f32⟩
  | 48 => ⟨S2048x2816, .f32⟩
  | 49 => ⟨S2048x2816, .f32⟩
  | 50 => ⟨S2048x1024, .f32⟩
  | 51 => ⟨S2048x1024, .f32⟩
  | 52 => ⟨S2048x1024, .f32⟩
  | 53 => ⟨S2048x1024, .f32⟩
  | 54 => ⟨S2048x1024, .f32⟩
  | 55 => ⟨S_, .f32⟩
  | 56 => ⟨S2048, .f32⟩
  | 57 => ⟨S2048x1, .f32⟩
  | 58 => ⟨S_, .f32⟩
  | 59 => ⟨S2048x1, .f32⟩
  | 60 => ⟨S2048x1, .f32⟩
  | 61 => ⟨S_, .f32⟩
  | 62 => ⟨S2048x1, .f32⟩
  | 63 => ⟨S2048x1, .f32⟩
  | 64 => ⟨S2048x1, .f32⟩
  | 65 => ⟨S2048x1, .f32⟩
  | 66 => ⟨S_, .f32⟩
  | 67 => ⟨S2048x1, .f32⟩
  | 68 => ⟨S2048x1, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S_, .f32⟩
  | 79 => ⟨S2048, .f32⟩
  | 80 => ⟨S_, .f32⟩
  | 81 => ⟨S2048, .f32⟩
  | 82 => ⟨S2048, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S2048, .f32⟩
  | 91 => ⟨S_, .f32⟩
  | 92 => ⟨S2048, .f32⟩
  | 93 => ⟨S2048, .f32⟩
  | 94 => ⟨S2048x1024, .f32⟩
  | 95 => ⟨S2048x1024, .f32⟩
  | 96 => ⟨S2048x1024, .f32⟩
  | 97 => ⟨S_, .f32⟩
  | 98 => ⟨S1024, .f32⟩
  | 99 => ⟨S1x1024, .f32⟩
  | 100 => ⟨S2048x1024, .f32⟩
  | 101 => ⟨S2048x1024, .f32⟩
  | 102 => ⟨S2048x1024, .f32⟩
  | 103 => ⟨S_, .f32⟩
  | 104 => ⟨S2048, .f32⟩
  | 105 => ⟨S2048x1, .f32⟩
  | 106 => ⟨S2048x1024, .f32⟩
  | 107 => ⟨S2048x1024, .f32⟩
  | 108 => ⟨S2048x1, .f32⟩
  | 109 => ⟨S_, .f32⟩
  | 110 => ⟨S2048x1, .f32⟩
  | 111 => ⟨S2048x1, .f32⟩
  | 112 => ⟨S_, .f32⟩
  | 113 => ⟨S2048, .f32⟩
  | 114 => ⟨S2048x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S_, .f32⟩
  | 123 => ⟨S1024, .f32⟩
  | 124 => ⟨S1x1024, .f32⟩
  | 125 => ⟨S_, .f32⟩
  | 126 => ⟨S3x1024, .f32⟩
  | 127 => ⟨S1x1024, .f32⟩
  | _ => ⟨S2048x1024, .f32⟩

abbrev hbmTy0_1 (i : Nat) : BufTy := match i % 128 with
  | 0 => ⟨S_, .f32⟩
  | 1 => ⟨S2x1024, .f32⟩
  | 2 => ⟨S8x1024, .f32⟩
  | 3 => ⟨S2048x4x704, .f32⟩
  | 4 => ⟨S4x2048x704, .f32⟩
  | 5 => ⟨S4x2048x704, .bf16⟩
  | 6 => ⟨S2048x1024, .bf16⟩
  | 7 => ⟨S2048x8x704, .f32⟩
  | 8 => ⟨S8x2048x704, .f32⟩
  | 9 => ⟨S8x2048x704, .bf16⟩
  | 10 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_cst_12 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_17 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_v87 : Ref sig .tc := ⟨.hbm, 124, rfl⟩
abbrev main_cst_20 : Ref sig .tc := ⟨.hbm, 125, rfl⟩
abbrev main_v88 : Ref sig .tc := ⟨.hbm, 126, rfl⟩
abbrev main_v89 : Ref sig .tc := ⟨.hbm, 127, rfl⟩
abbrev main_cst_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]
-- ==== Kernel8.lean ====
abbrev S2048x1024 : Shape := ⟨2, ![2048, 1024]⟩
abbrev S2048x512 : Shape := ⟨2, ![2048, 512]⟩
abbrev S1x6144 : Shape := ⟨2, ![1, 6144]⟩
abbrev S1024x1024 : Shape := ⟨2, ![1024, 1024]⟩
abbrev S8x1024 : Shape := ⟨2, ![8, 1024]⟩
abbrev S256x1024 : Shape := ⟨2, ![256, 1024]⟩
abbrev S256x512 : Shape := ⟨2, ![256, 512]⟩
abbrev S1x1024 : Shape := ⟨2, ![1, 1024]⟩
abbrev S1024 : Shape := ⟨1, ![1024]⟩
abbrev S512x1024 : Shape := ⟨2, ![512, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1x6144, .f32⟩
  | .hbm, ⟨4, _⟩ => ⟨S1x6144, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S1024x1024, .bf16⟩
  | .hbm, ⟨9, _⟩ => ⟨S2048x1024, .bf16⟩
  | .hbm, ⟨10, _⟩ => ⟨S2048x512, .f32⟩
  | .hbm, ⟨11, _⟩ => ⟨S2048x512, .f32⟩
  | .hbm, ⟨12, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6144, .f32⟩
  | .local _ .vmem, ⟨5, _⟩ => ⟨S1x6144, .f32⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S2048x1024 : Shape := ⟨2, ![2048, 1024]⟩
abbrev S2048x512 : Shape := ⟨2, ![2048, 512]⟩
abbrev S1x6144 : Shape := ⟨2, ![1, 6144]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S7x1024 : Shape := ⟨2, ![7, 1024]⟩
abbrev S8x1024 : Shape := ⟨2, ![8, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1x6144, .f32⟩
  | .hbm, ⟨4, _⟩ => ⟨S1x6144, .f32⟩
  | .hbm, ⟨5, _⟩ => ⟨S1024x1024, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x512, .f32⟩
  | .hbm, ⟨25, _⟩ => ⟨S2048x512, .f32⟩
  | .hbm, ⟨26, _⟩ => ⟨S2048x1024, .bf16⟩
  | .hbm, ⟨27, _⟩ => ⟨S_, .f32⟩
  | .hbm, ⟨28, _⟩ => ⟨S7x1024, .f32⟩
  | .hbm, ⟨29, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel9.lean ====
abbrev S2048x1024 : Shape := ⟨2, ![2048, 1024]⟩
abbrev S1x1024 : Shape := ⟨2, ![1, 1024]⟩
abbrev S1x6144 : Shape := ⟨2, ![1, 6144]⟩
abbrev S1024x3080 : Shape := ⟨2, ![1024, 3080]⟩
abbrev S3080x1024 : Shape := ⟨2, ![3080, 1024]⟩
abbrev S8x1024 : Shape := ⟨2, ![8, 1024]⟩
abbrev S_ : Shape := ⟨0, ![]⟩
abbrev S128x1024 : Shape := ⟨2, ![128, 1024]⟩
abbrev S2048x3072 : Shape := ⟨2, ![2048, 3072]⟩
abbrev S2048x128 : Shape := ⟨2, ![2048, 128]⟩
abbrev S512x1024 : Shape := ⟨2, ![512, 1024]⟩
abbrev S3072x1024 : Shape := ⟨2, ![3072, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x6144, .f32⟩
  | .hbm, ⟨3, _⟩ => ⟨S1x6144, .f32⟩
  | .hbm, ⟨4, _⟩ => ⟨S1024x3080, .f32⟩
  | .hbm, ⟨5, _⟩ => ⟨S3080x1024, .f32⟩
  | .hbm, ⟨6, _⟩ => ⟨S3080x1024, .bf16⟩
  | .hbm, ⟨7, _⟩ => ⟨S8x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S2048x3072, .f32⟩
  | .hbm, ⟨12, _⟩ => ⟨S2048x128, .f32⟩
  | .hbm, ⟨13, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6144, .f32⟩
  | .local _ .vmem, ⟨4, _⟩ => ⟨S1x6144, .f32⟩
  | .local _ .vmem, ⟨5, _⟩ => ⟨S3072x1024, .bf16⟩
  | .local _ .vmem, ⟨6, _⟩ => ⟨S128x1024, .bf16⟩
  | .local _ .vmem, ⟨7, _⟩ => ⟨S512x3072, .f32⟩
  | .local _ .vmem, ⟨8, _⟩ => ⟨S512x3072, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S2048x1024 : Shape := ⟨2, ![2048, 1024]⟩
abbrev S1x1024 : Shape := ⟨2, ![1, 1024]⟩
abbrev S1x6144 : Shape := ⟨2, ![1, 6144]⟩
abbrev S1024x3080 : Shape := ⟨2, ![1024, 3080]⟩
abbrev S_ : Shape := ⟨0, ![]⟩
abbrev S2048 : Shape := ⟨1, ![2048]⟩
abbrev S2048x1 : Shape := ⟨2, ![2048, 1]⟩
abbrev S2048x3080 : Shape := ⟨2, ![2048, 3080]⟩
abbrev S2048x3072 : Shape := ⟨2, ![2048, 3072]⟩
abbrev S2048x8 : Shape := ⟨2, ![2048, 8]⟩
abbrev S2048x128 : Shape := ⟨2, ![2048, 128]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x6144, .f32⟩
  | .hbm, ⟨3, _⟩ => ⟨S1x6144, .f32⟩
  | .hbm, ⟨4, _⟩ => ⟨S1024x3080, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x3080, .f32⟩
  | .hbm, ⟨35, _⟩ => ⟨S2048x3072, .f32⟩
  | .hbm, ⟨36, _⟩ => ⟨S2048x8, .f32⟩
  | .hbm, ⟨37, _⟩ => ⟨S_, .i32⟩
  | .hbm, ⟨38, _⟩ => ⟨S_, .f32⟩
  | .hbm, ⟨39, _⟩ => ⟨S2048x128, .f32⟩
  | .hbm, ⟨40, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel10.lean ====
abbrev S2048x512 : Shape := ⟨2, ![2048, 512]⟩
abbrev S2048x1024 : Shape := ⟨2, ![2048, 1024]⟩
abbrev S1x6144 : Shape := ⟨2, ![1, 6144]⟩
abbrev S1024x1024 : Shape := ⟨2, ![1024, 1024]⟩
abbrev S256x512 : Shape := ⟨2, ![256, 512]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 10
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S1x6144, .f32⟩
  | .hbm, ⟨4, _⟩ => ⟨S1x6144, .f32⟩
  | .hbm, ⟨5, _⟩ => ⟨S1024x1024, .f32⟩
  | .hbm, ⟨6, _⟩ => ⟨S1024x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x6144, .f32⟩
  | .local _ .vmem, ⟨7, _⟩ => ⟨S1x6144, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S2048x512 : Shape := ⟨2, ![2048, 512]⟩
abbrev S2048x1024 : Shape := ⟨2, ![2048, 1024]⟩
abbrev S1x6144 : Shape := ⟨2, ![1, 6144]⟩
abbrev S1024x1024 : Shape := ⟨2, ![1024, 1024]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S1x6144, .f32⟩
  | .hbm, ⟨4, _⟩ => ⟨S1x6144, .f32⟩
  | .hbm, ⟨5, _⟩ => ⟨S1024x1024, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel11.lean ====
abbrev S2048x1024 : Shape := ⟨2, ![2048, 1024]⟩
abbrev S1x6144 : Shape := ⟨2, ![1, 6144]⟩
abbrev S1x1024 : Shape := ⟨2, ![1, 1024]⟩
abbrev S2048x3080 : Shape := ⟨2, ![2048, 3080]⟩
abbrev S_ : Shape := ⟨0, ![]⟩
abbrev S2048 : Shape := ⟨1, ![2048]⟩
abbrev S2048x1 : Shape := ⟨2, ![2048, 1]⟩
abbrev S2048x8 : Shape := ⟨2, ![2048, 8]⟩
abbrev S2048x128 : Shape := ⟨2, ![2048, 128]⟩
abbrev S2048x2048 : Shape := ⟨2, ![2048, 2048]⟩
abbrev S3080x1024 : Shape := ⟨2, ![3080, 1024]⟩
abbrev S2048x512 : Shape := ⟨2, ![2048, 512]⟩
abbrev S512x1024 : Shape := ⟨2, ![512, 1024]⟩
abbrev S128x1024 : Shape := ⟨2, ![128, 1024]⟩
abbrev S8x1024 : Shape := ⟨2, ![8, 1024]⟩

abbrev nBuf : Space → Nat
  | .hbm => 45
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S2048x3080, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x8, .f32⟩
  | .hbm, ⟨36, _⟩ => ⟨S_, .i32⟩
  | .hbm, ⟨37, _⟩ => ⟨S_, .f32⟩
  | .hbm, ⟨38, _⟩ => ⟨S2048x128, .f32⟩
  | .hbm, ⟨39, _⟩ => ⟨S2048x128, .bf16⟩
  | .hbm, ⟨40, _⟩ => ⟨S2048x1024, .f32⟩
  | .hbm, ⟨41, _⟩ => ⟨S2048x1024, .bf16⟩
  | .hbm, ⟨42, _⟩ => ⟨S2048x2048, .f32⟩
  | .hbm, ⟨43, _⟩ => ⟨S2048x2048, .bf16⟩
  | .hbm, ⟨44, _⟩ => ⟨S3080x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let c6_i32 : BitVec 32 := 6#32
  let v4 : BitVec 1 := Scalar.cmpi .slt arg0 c6_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c6_i32_2 : BitVec 32 := 6#32
  let v8 : BitVec 1 := Scalar.cmpi .eq arg0 c6_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S2048x1024 : Shape := ⟨2, ![2048, 1024]⟩
abbrev S1x6144 : Shape := ⟨2, ![1, 6144]⟩
abbrev S1x1024 : Shape := ⟨2, ![1, 1024]⟩
abbrev S2048x3080 : Shape := ⟨2, ![2048, 3080]⟩
abbrev S_ : Shape := ⟨0, ![]⟩
abbrev S1024x3080 : Shape := ⟨2, ![1024, 3080]⟩
abbrev S2048 : Shape := ⟨1, ![2048]⟩
abbrev S2048x1 : Shape := ⟨2, ![2048, 1]⟩
abbrev S3080x1024 : Shape := ⟨2, ![3080, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S2048x3080, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1024x3080, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x3080, .f32⟩
  | .hbm, ⟨37, _⟩ => ⟨S3080x1024, .f32⟩
  | .hbm, ⟨38, _⟩ => ⟨S1024x3080, .f32⟩
  | .hbm, ⟨39, _⟩ => ⟨S3080x1024, .f32⟩
  | .hbm, ⟨40, _⟩ => ⟨S3080x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel12.lean ====
abbrev S8x1024 : Shape := ⟨2, ![8, 1024]⟩
abbrev S8x768 : Shape := ⟨2, ![8, 768]⟩
abbrev S1024x768 : Shape := ⟨2, ![1024, 768]⟩
abbrev S8x256 : Shape := ⟨2, ![8, 256]⟩
abbrev S256x768 : Shape := ⟨2, ![256, 768]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S8x256, .f32⟩
  | .local _ .vmem, ⟨1, _⟩ => ⟨S8x256, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩
abbrev S768x1024 : Shape := ⟨2, ![768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel13.lean ====
abbrev S8x1024 : Shape := ⟨2, ![8, 1024]⟩
abbrev S1024x768 : Shape := ⟨2, ![1024, 768]⟩
abbrev S8x768 : Shape := ⟨2, ![8, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference13Ideal.lean ====
abbrev S8x1024 : Shape := ⟨2, ![8, 1024]⟩
abbrev S1024x768 : Shape := ⟨2, ![1024, 768]⟩
abbrev S_ : Shape := ⟨0, ![]⟩
abbrev S8x768 : Shape := ⟨2, ![8, 768]⟩

abbrev nBuf : Space → Nat
  | .hbm => 12
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Kernel14.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference14Ideal.lean ====
abbrev S8x128x1024 : Shape := ⟨3, ![8, 128, 1024]⟩
abbrev S128x1024 : Shape := ⟨2, ![128, 1024]⟩
abbrev S7x128x1024 : Shape := ⟨3, ![7, 128, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S7x128x1024, .bf16⟩
  | .hbm, ⟨7, _⟩ => ⟨S7x128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel15.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .bf16⟩
  | .local _ .vmem, ⟨9, _⟩ => ⟨S176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S8x352x1024 : Shape := ⟨3, ![8, 352, 1024]⟩
abbrev S352x1024 : Shape := ⟨2, ![352, 1024]⟩
abbrev S7x352x1024 : Shape := ⟨3, ![7, 352, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S7x352x1024, .bf16⟩
  | .hbm, ⟨7, _⟩ => ⟨S7x352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel16.lean ====
abbrev S8x704x1024 : Shape := ⟨3, ![8, 704, 1024]⟩
abbrev S704x1024 : Shape := ⟨2, ![704, 1024]⟩
abbrev S1024x704 : Shape := ⟨2, ![1024, 704]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .bf16⟩
  | .local _ .vmem, ⟨9, _⟩ => ⟨S176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S8x704x1024 : Shape := ⟨3, ![8, 704, 1024]⟩
abbrev S704x1024 : Shape := ⟨2, ![704, 1024]⟩
abbrev S1024x704 : Shape := ⟨2, ![1024, 704]⟩
abbrev S7x704x1024 : Shape := ⟨3, ![7, 704, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S7x704x1024, .bf16⟩
  | .hbm, ⟨7, _⟩ => ⟨S7x704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S1024x704, .f32⟩
  | .hbm, ⟨12, _⟩ => ⟨S_, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S1024x704, .f32⟩
  | .hbm, ⟨42, _⟩ => ⟨S_, .f32⟩
  | .hbm, ⟨43, _⟩ => ⟨S1024x704, .f32⟩
  | .hbm, ⟨44, _⟩ => ⟨S1024x704, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel17.lean ====
abbrev S8x385x1024 : Shape := ⟨3, ![8, 385, 1024]⟩
abbrev S385x1024 : Shape := ⟨2, ![385, 1024]⟩
abbrev S1024x385 : Shape := ⟨2, ![1024, 385]⟩
abbrev S8x385x256 : Shape := ⟨3, ![8, 385, 256]⟩
abbrev S385x256 : Shape := ⟨2, ![385, 256]⟩
abbrev S1x385x256 : Shape := ⟨3, ![1, 385, 256]⟩

abbrev nBuf : Space → Nat
  | .hbm => 12
  | .vmem => 18
  | .smem => 0
  | _ => 0

abbrev bufTy : (tb : Table) → Fin (tcTables nBuf tb) → BufTy
  | .hbm, ⟨0, _⟩ => ⟨S8x385x1024, .bf16⟩
  | .hbm, ⟨1, _⟩ => ⟨S385x1024, .bf16⟩
  | .hbm, ⟨2, _⟩ => ⟨S1024x385, .f32⟩
  | .hbm, ⟨3, _⟩ => ⟨S1024x385, .f32⟩
  | .hbm, ⟨4, _⟩ => ⟨S1024x385, .f32⟩
  | .hbm, ⟨5, _⟩ => ⟨S385x1024, .f32⟩
  | .hbm, ⟨6, _⟩ => ⟨S385x1024, .f32⟩
  | .hbm, ⟨7, _⟩ => ⟨S385x1024, .f32⟩
  | .hbm, ⟨8, _⟩ => ⟨S385x1024, .f32⟩
  | .hbm, ⟨9, _⟩ => ⟨S385x1024, .f32⟩
  | .hbm, ⟨10, _⟩ => ⟨S385x1024, .f32⟩
  | .hbm, ⟨11, _⟩ => ⟨S385x1024, .f32⟩
  | .local _ .vmem, ⟨0, _⟩ => ⟨S8x385x256, .bf16⟩
  | .local _ .vmem, ⟨1, _⟩ => ⟨S8x385x256, .bf16⟩
  | .local _ .vmem, ⟨2, _⟩ => ⟨S385x256, .f32⟩
  | .local _ .vmem, ⟨3, _⟩ => ⟨S385x256, .f32⟩
  | .local _ .vmem, ⟨4, _⟩ => ⟨S385x256, .f32⟩
  | .local _ .vmem, ⟨5, _⟩ => ⟨S385x256, .f32⟩
  | .local _ .vmem, ⟨6, _⟩ => ⟨S385x256, .f32⟩
  | .local _ .vmem, ⟨7, _⟩ => ⟨S385x256, .f32⟩
  | .local _ .vmem, ⟨8, _⟩ => ⟨S385x256, .bf16⟩
  | .local _ .vmem, ⟨9, _⟩ => ⟨S385x256, .bf16⟩
  | .local _ .vmem, ⟨10, _⟩ => ⟨S385x256, .f32⟩
  | .local _ .vmem, ⟨11, _⟩ => ⟨S385x256, .f32⟩
  | .local _ .vmem, ⟨12, _⟩ => ⟨S385x256, .f32⟩
  | .local _ .vmem, ⟨13, _⟩ => ⟨S385x256, .f32⟩
  | .local _ .vmem, ⟨14, _⟩ => ⟨S385x256, .f32⟩
  | .local _ .vmem, ⟨15, _⟩ => ⟨S385x256, .f32⟩
  | .local _ .vmem, ⟨16, _⟩ => ⟨S385x256, .f32⟩
  | .local _ .vmem, ⟨17, _⟩ => ⟨S385x256, .f32⟩
  | _, _ => ⟨S8x385x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x385x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S385x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S385x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S385x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S385x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S385x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S385x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S385x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S385x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x385x1024 : Shape := ⟨3, ![8, 385, 1024]⟩
abbrev S385x1024 : Shape := ⟨2, ![385, 1024]⟩
abbrev S1024x385 : Shape := ⟨2, ![1024, 385]⟩
abbrev S7x385x1024 : Shape := ⟨3, ![7, 385, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8x385x1024, .bf16⟩
  | .hbm, ⟨1, _⟩ => ⟨S385x1024, .bf16⟩
  | .hbm, ⟨2, _⟩ => ⟨S1024x385, .f32⟩
  | .hbm, ⟨3, _⟩ => ⟨S1024x385, .f32⟩
  | .hbm, ⟨4, _⟩ => ⟨S1024x385, .f32⟩
  | .hbm, ⟨5, _⟩ => ⟨S385x1024, .f32⟩
  | .hbm, ⟨6, _⟩ => ⟨S7x385x1024, .bf16⟩
  | .hbm, ⟨7, _⟩ => ⟨S7x385x1024, .f32⟩
  | .hbm, ⟨8, _⟩ => ⟨S_, .f32⟩
  | .hbm, ⟨9, _⟩ => ⟨S385x1024, .f32⟩
  | .hbm, ⟨10, _⟩ => ⟨S385x1024, .f32⟩
  | .hbm, ⟨11, _⟩ => ⟨S1024x385, .f32⟩
  | .hbm, ⟨12, _⟩ => ⟨S_, .f32⟩
  | .hbm, ⟨13, _⟩ => ⟨S1024x385, .f32⟩
  | .hbm, ⟨14, _⟩ => ⟨S1024x385, .f32⟩
  | .hbm, ⟨15, _⟩ => ⟨S_, .f32⟩
  | .hbm, ⟨16, _⟩ => ⟨S1024x385, .f32⟩
  | .hbm, ⟨17, _⟩ => ⟨S1024x385, .f32⟩
  | .hbm, ⟨18, _⟩ => ⟨S1024x385, .f32⟩
  | .hbm, ⟨19, _⟩ => ⟨S_, .f32⟩
  | .hbm, ⟨20, _⟩ => ⟨S1024x385, .f32⟩
  | .hbm, ⟨21, _⟩ => ⟨S1024x385, .f32⟩
  | .hbm, ⟨22, _⟩ => ⟨S1024x385, .f32⟩
  | .hbm, ⟨23, _⟩ => ⟨S_, .f32⟩
  | .hbm, ⟨24, _⟩ => ⟨S1024x385, .f32⟩
  | .hbm, ⟨25, _⟩ => ⟨S1024x385, .f32⟩
  | .hbm, ⟨26, _⟩ => ⟨S1024x385, .f32⟩
  | .hbm, ⟨27, _⟩ => ⟨S_, .f32⟩
  | .hbm, ⟨28, _⟩ => ⟨S1024x385, .f32⟩
  | .hbm, ⟨29, _⟩ => ⟨S1024x385, .f32⟩
  | .hbm, ⟨30, _⟩ => ⟨S_, .f32⟩
  | .hbm, ⟨31, _⟩ => ⟨S1024x385, .f32⟩
  | .hbm, ⟨32, _⟩ => ⟨S1024x385, .f32⟩
  | .hbm, ⟨33, _⟩ => ⟨S1024x385, .f32⟩
  | .hbm, ⟨34, _⟩ => ⟨S_, .f32⟩
  | .hbm, ⟨35, _⟩ => ⟨S1024x385, .f32⟩
  | .hbm, ⟨36, _⟩ => ⟨S1024x385, .f32⟩
  | .hbm, ⟨37, _⟩ => ⟨S1024x385, .f32⟩
  | .hbm, ⟨38, _⟩ => ⟨S_, .f32⟩
  | .hbm, ⟨39, _⟩ => ⟨S1024x385, .f32⟩
  | .hbm, ⟨40, _⟩ => ⟨S1024x385, .f32⟩
  | .hbm, ⟨41, _⟩ => ⟨S1024x385, .f32⟩
  | .hbm, ⟨42, _⟩ => ⟨S_, .f32⟩
  | .hbm, ⟨43, _⟩ => ⟨S1024x385, .f32⟩
  | .hbm, ⟨44, _⟩ => ⟨S1024x385, .f32⟩
  | .hbm, ⟨45, _⟩ => ⟨S385x1024, .f32⟩
  | .hbm, ⟨46, _⟩ => ⟨S385x1024, .f32⟩
  | .hbm, ⟨47, _⟩ => ⟨S385x1024, .f32⟩
  | .hbm, ⟨48, _⟩ => ⟨S385x1024, .f32⟩
  | _, _ => ⟨S8x385x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel18.lean ====
abbrev S8x31x64 : Shape := ⟨3, ![8, 31, 64]⟩
abbrev S31x64 : Shape := ⟨2, ![31, 64]⟩
abbrev S1x31x64 : Shape := ⟨3, ![1, 31, 64]⟩

abbrev nBuf : Space → Nat
  | .hbm => 9
  | .vmem => 9
  | .smem => 0
  | _ => 0

abbrev bufTy : (tb : Table) → Fin (tcTables nBuf tb) → BufTy
  | .hbm, ⟨0, _⟩ => ⟨S8x31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .hbm, ⟨8, _⟩ => ⟨S31x64, .f32⟩
  | .local _ .vmem, ⟨0, _⟩ => ⟨S8x31x64, .f32⟩
  | .local _ .vmem, ⟨1, _⟩ => ⟨S31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | .local _ .vmem, ⟨7, _⟩ => ⟨S31x64, .f32⟩
  | .local _ .vmem, ⟨8, _⟩ => ⟨S31x64, .f32⟩
  | _, _ => ⟨S8x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S31x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S31x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference18Ideal.lean ====
abbrev S8x31x64 : Shape := ⟨3, ![8, 31, 64]⟩
abbrev S31x64 : Shape := ⟨2, ![31, 64]⟩
abbrev S7x31x64 : Shape := ⟨3, ![7, 31, 64]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S31x64, .f32⟩
  | .hbm, ⟨5, _⟩ => ⟨S7x31x64, .f32⟩
  | .hbm, ⟨6, _⟩ => ⟨S_, .f32⟩
  | .hbm, ⟨7, _⟩ => ⟨S31x64, .f32⟩
  | .hbm, ⟨8, _⟩ => ⟨S31x64, .f32⟩
  | .hbm, ⟨9, _⟩ => ⟨S_, .f32⟩
  | .hbm, ⟨10, _⟩ => ⟨S31x64, .f32⟩
  | .hbm, ⟨11, _⟩ => ⟨S31x64, .f32⟩
  | .hbm, ⟨12, _⟩ => ⟨S_, .f32⟩
  | .hbm, ⟨13, _⟩ => ⟨S31x64, .f32⟩
  | .hbm, ⟨14, _⟩ => ⟨S31x64, .f32⟩
  | .hbm, ⟨15, _⟩ => ⟨S31x64, .f32⟩
  | .hbm, ⟨16, _⟩ => ⟨S_, .f32⟩
  | .hbm, ⟨17, _⟩ => ⟨S31x64, .f32⟩
  | .hbm, ⟨18, _⟩ => ⟨S31x64, .f32⟩
  | .hbm, ⟨19, _⟩ => ⟨S31x64, .f32⟩
  | .hbm, ⟨20, _⟩ => ⟨S_, .f32⟩
  | .hbm, ⟨21, _⟩ => ⟨S31x64, .f32⟩
  | .hbm, ⟨22, _⟩ => ⟨S31x64, .f32⟩
  | .hbm, ⟨23, _⟩ => ⟨S31x64, .f32⟩
  | .hbm, ⟨24, _⟩ => ⟨S_, .f32⟩
  | .hbm, ⟨25, _⟩ => ⟨S31x64, .f32⟩
  | .hbm, ⟨26, _⟩ => ⟨S31x64, .f32⟩
  | .hbm, ⟨27, _⟩ => ⟨S_, .f32⟩
  | .hbm, ⟨28, _⟩ => ⟨S31x64, .f32⟩
  | .hbm, ⟨29, _⟩ => ⟨S31x64, .f32⟩
  | .hbm, ⟨30, _⟩ => ⟨S31x64, .f32⟩
  | .hbm, ⟨31, _⟩ => ⟨S_, .f32⟩
  | .hbm, ⟨32, _⟩ => ⟨S31x64, .f32⟩
  | .hbm, ⟨33, _⟩ => ⟨S31x64, .f32⟩
  | .hbm, ⟨34, _⟩ => ⟨S31x64, .f32⟩
  | .hbm, ⟨35, _⟩ => ⟨S_, .f32⟩
  | .hbm, ⟨36, _⟩ => ⟨S31x64, .f32⟩
  | .hbm, ⟨37, _⟩ => ⟨S31x64, .f32⟩
  | .hbm, ⟨38, _⟩ => ⟨S31x64, .f32⟩
  | .hbm, ⟨39, _⟩ => ⟨S_, .f32⟩
  | .hbm, ⟨40, _⟩ => ⟨S31x64, .f32⟩
  | .hbm, ⟨41, _⟩ => ⟨S31x64, .f32⟩
  | _, _ => ⟨S8x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel19.lean ====
abbrev S8x4x192 : Shape := ⟨3, ![8, 4, 192]⟩
abbrev S4x192 : Shape := ⟨2, ![4, 192]⟩
abbrev S1x4x192 : Shape := ⟨3, ![1, 4, 192]⟩

abbrev nBuf : Space → Nat
  | .hbm => 9
  | .vmem => 9
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .hbm, ⟨8, _⟩ => ⟨S4x192, .f32⟩
  | .local _ .vmem, ⟨0, _⟩ => ⟨S8x4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | .local _ .vmem, ⟨8, _⟩ => ⟨S4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S4x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference19Ideal.lean ====
abbrev S8x4x192 : Shape := ⟨3, ![8, 4, 192]⟩
abbrev S4x192 : Shape := ⟨2, ![4, 192]⟩
abbrev S7x4x192 : Shape := ⟨3, ![7, 4, 192]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S7x4x192, .f32⟩
  | .hbm, ⟨6, _⟩ => ⟨S_, .f32⟩
  | .hbm, ⟨7, _⟩ => ⟨S4x192, .f32⟩
  | .hbm, ⟨8, _⟩ => ⟨S4x192, .f32⟩
  | .hbm, ⟨9, _⟩ => ⟨S_, .f32⟩
  | .hbm, ⟨10, _⟩ => ⟨S4x192, .f32⟩
  | .hbm, ⟨11, _⟩ => ⟨S4x192, .f32⟩
  | .hbm, ⟨12, _⟩ => ⟨S_, .f32⟩
  | .hbm, ⟨13, _⟩ => ⟨S4x192, .f32⟩
  | .hbm, ⟨14, _⟩ => ⟨S4x192, .f32⟩
  | .hbm, ⟨15, _⟩ => ⟨S4x192, .f32⟩
  | .hbm, ⟨16, _⟩ => ⟨S_, .f32⟩
  | .hbm, ⟨17, _⟩ => ⟨S4x192, .f32⟩
  | .hbm, ⟨18, _⟩ => ⟨S4x192, .f32⟩
  | .hbm, ⟨19, _⟩ => ⟨S4x192, .f32⟩
  | .hbm, ⟨20, _⟩ => ⟨S_, .f32⟩
  | .hbm, ⟨21, _⟩ => ⟨S4x192, .f32⟩
  | .hbm, ⟨22, _⟩ => ⟨S4x192, .f32⟩
  | .hbm, ⟨23, _⟩ => ⟨S4x192, .f32⟩
  | .hbm, ⟨24, _⟩ => ⟨S_, .f32⟩
  | .hbm, ⟨25, _⟩ => ⟨S4x192, .f32⟩
  | .hbm, ⟨26, _⟩ => ⟨S4x192, .f32⟩
  | .hbm, ⟨27, _⟩ => ⟨S_, .f32⟩
  | .hbm, ⟨28, _⟩ => ⟨S4x192, .f32⟩
  | .hbm, ⟨29, _⟩ => ⟨S4x192, .f32⟩
  | .hbm, ⟨30, _⟩ => ⟨S4x192, .f32⟩
  | .hbm, ⟨31, _⟩ => ⟨S_, .f32⟩
  | .hbm, ⟨32, _⟩ => ⟨S4x192, .f32⟩
  | .hbm, ⟨33, _⟩ => ⟨S4x192, .f32⟩
  | .hbm, ⟨34, _⟩ => ⟨S4x192, .f32⟩
  | .hbm, ⟨35, _⟩ => ⟨S_, .f32⟩
  | .hbm, ⟨36, _⟩ => ⟨S4x192, .f32⟩
  | .hbm, ⟨37, _⟩ => ⟨S4x192, .f32⟩
  | .hbm, ⟨38, _⟩ => ⟨S4x192, .f32⟩
  | .hbm, ⟨39, _⟩ => ⟨S_, .f32⟩
  | .hbm, ⟨40, _⟩ => ⟨S4x192, .f32⟩
  | .hbm, ⟨41, _⟩ => ⟨S4x192, .f32⟩
  | _, _ => ⟨S8x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel20.lean ====
abbrev S2048x3072 : Shape := ⟨2, ![2048, 3072]⟩
abbrev S31x512 : Shape := ⟨2, ![31, 512]⟩
abbrev S1x512 : Shape := ⟨2, ![1, 512]⟩
abbrev S2048x512 : Shape := ⟨2, ![2048, 512]⟩
abbrev S256x512 : Shape := ⟨2, ![256, 512]⟩
abbrev S288x512 : Shape := ⟨2, ![288, 512]⟩
abbrev S7x280x512 : Shape := ⟨3, ![7, 280, 512]⟩
abbrev S32x512 : Shape := ⟨2, ![32, 512]⟩
abbrev S280x512 : Shape := ⟨2, ![280, 512]⟩
abbrev S1x280x512 : Shape := ⟨3, ![1, 280, 512]⟩
abbrev S1x256x512 : Shape := ⟨3, ![1, 256, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S288x512, .f32⟩
  | .local _ .vmem, ⟨13, _⟩ => ⟨S7x280x512, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2048x3072 : Shape := ⟨2, ![2048, 3072]⟩
abbrev S31x512 : Shape := ⟨2, ![31, 512]⟩
abbrev S1x512 : Shape := ⟨2, ![1, 512]⟩
abbrev S2048x512 : Shape := ⟨2, ![2048, 512]⟩
abbrev S_ : Shape := ⟨0, ![]⟩
abbrev S30x512 : Shape := ⟨2, ![30, 512]⟩
abbrev S2078x512 : Shape := ⟨2, ![2078, 512]⟩
abbrev S2048x8x64 : Shape := ⟨3, ![2048, 8, 64]⟩
abbrev S2048x8 : Shape := ⟨2, ![2048, 8]⟩
abbrev S2048x8x1 : Shape := ⟨3, ![2048, 8, 1]⟩

abbrev nBuf : Space → Nat
  | .hbm => 216
  | .vmem => 0
  | .smem => 0
  | _ => 0

abbrev hbmTy0_0 (i : Nat) : BufTy := match i % 128 with
  | 0 => ⟨S2048x3072, .f32⟩
  | 1 => ⟨S31x512, .f32⟩
  | 2 => ⟨S1x512, .f32⟩
  | 3 => ⟨S1x512, .f32⟩
  | 4 => ⟨S1x512, .f32⟩
  | 5 => ⟨S2048x512, .f32⟩
  | 6 => ⟨S2048x512, .f32⟩
  | 7 => ⟨S_, .f32⟩
  | 8 => ⟨S30x512, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S2048x512, .f32⟩
  | 18 => ⟨S2078x512, .f32⟩
  | 19 => ⟨S1x512, .f32⟩
  | 20 => ⟨S2048x512, .f32⟩
  | 21 => ⟨S2048x512, .f32⟩
  | 22 => ⟨S2048x512, .f32⟩
  | 23 => ⟨S_, .f32⟩
  | 24 => ⟨S2048x512, .f32⟩
  | 25 => ⟨S2048x512, .f32⟩
  | 26 => ⟨S1x512, .f32⟩
  | 27 => ⟨S2048x512, .f32⟩
  | 28 => ⟨S2048x512, .f32⟩
  | 29 => ⟨S2048x512, .f32⟩
  | 30 => ⟨S2048x512, .f32⟩
  | 31 => ⟨S1x512, .f32⟩
  | 32 => ⟨S2048x512, .f32⟩
  | 33 => ⟨S2048x512, .f32⟩
  | 34 => ⟨S2048x512, .f32⟩
  | 35 => ⟨S2048x512, .f32⟩
  | 36 => ⟨S1x512, .f32⟩
  | 37 => ⟨S2048x512, .f32⟩
  | 38 => ⟨S2048x512, .f32⟩
  | 39 => ⟨S2048x512, .f32⟩
  | 40 => ⟨S2048x512, .f32⟩
  | 41 => ⟨S1x512, .f32⟩
  | 42 => ⟨S2048x512, .f32⟩
  | 43 => ⟨S2048x512, .f32⟩
  | 44 => ⟨S2048x512, .f32⟩
  | 45 => ⟨S2048x512, .f32⟩
  | 46 => ⟨S1x512, .f32⟩
  | 47 => ⟨S2048x512, .f32⟩
  | 48 => ⟨S2048x512, .f32⟩
  | 49 => ⟨S2048x512, .f32⟩
  | 50 => ⟨S2048x512, .f32⟩
  | 51 => ⟨S1x512, .f32⟩
  | 52 => ⟨S2048x512, .f32⟩
  | 53 => ⟨S2048x512, .f32⟩
  | 54 => ⟨S2048x512, .f32⟩
  | 55 => ⟨S2048x512, .f32⟩
  | 56 => ⟨S1x512, .f32⟩
  | 57 => ⟨S2048x512, .f32⟩
  | 58 => ⟨S2048x512, .f32⟩
  | 59 => ⟨S2048x512, .f32⟩
  | 60 => ⟨S2048x512, .f32⟩
  | 61 => ⟨S1x512, .f32⟩
  | 62 => ⟨S2048x512, .f32⟩
  | 63 => ⟨S2048x512, .f32⟩
  | 64 => ⟨S2048x512, .f32⟩
  | 65 => ⟨S2048x512, .f32⟩
  | 66 => ⟨S1x512, .f32⟩
  | 67 => ⟨S2048x512, .f32⟩
  | 68 => ⟨S2048x512, .f32⟩
  | 69 => ⟨S2048x512, .f32⟩
  | 70 => ⟨S2048x512, .f32⟩
  | 71 => ⟨S1x512, .f32⟩
  | 72 => ⟨S2048x512, .f32⟩
  | 73 => ⟨S2048x512, .f32⟩
  | 74 => ⟨S2048x512, .f32⟩
  | 75 => ⟨S2048x512, .f32⟩
  | 76 => ⟨S1x512, .f32⟩
  | 77 => ⟨S2048x512, .f32⟩
  | 78 => ⟨S2048x512, .f32⟩
  | 79 => ⟨S2048x512, .f32⟩
  | 80 => ⟨S2048x512, .f32⟩
  | 81 => ⟨S1x512, .f32⟩
  | 82 => ⟨S2048x512, .f32⟩
  | 83 => ⟨S2048x512, .f32⟩
  | 84 => ⟨S2048x512, .f32⟩
  | 85 => ⟨S2048x512, .f32⟩
  | 86 => ⟨S1x512, .f32⟩
  | 87 => ⟨S2048x512, .f32⟩
  | 88 => ⟨S2048x512, .f32⟩
  | 89 => ⟨S2048x512, .f32⟩
  | 90 => ⟨S2048x512, .f32⟩
  | 91 => ⟨S1x512, .f32⟩
  | 92 => ⟨S2048x512, .f32⟩
  | 93 => ⟨S2048x512, .f32⟩
  | 94 => ⟨S2048x512, .f32⟩
  | 95 => ⟨S2048x512, .f32⟩
  | 96 => ⟨S1x512, .f32⟩
  | 97 => ⟨S2048x512, .f32⟩
  | 98 => ⟨S2048x512, .f32⟩
  | 99 => ⟨S2048x512, .f32⟩
  | 100 => ⟨S2048x512, .f32⟩
  | 101 => ⟨S1x512, .f32⟩
  | 102 => ⟨S2048x512, .f32⟩
  | 103 => ⟨S2048x512, .f32⟩
  | 104 => ⟨S2048x512, .f32⟩
  | 105 => ⟨S2048x512, .f32⟩
  | 106 => ⟨S1x512, .f32⟩
  | 107 => ⟨S2048x512, .f32⟩
  | 108 => ⟨S2048x512, .f32⟩
  | 109 => ⟨S2048x512, .f32⟩
  | 110 => ⟨S2048x512, .f32⟩
  | 111 => ⟨S1x512, .f32⟩
  | 112 => ⟨S2048x512, .f32⟩
  | 113 => ⟨S2048x512, .f32⟩
  | 114 => ⟨S2048x512, .f32⟩
  | 115 => ⟨S2048x512, .f32⟩
  | 116 => ⟨S1x512, .f32⟩
  | 117 => ⟨S2048x512, .f32⟩
  | 118 => ⟨S2048x512, .f32⟩
  | 119 => ⟨S2048x512, .f32⟩
  | 120 => ⟨S2048x512, .f32⟩
  | 121 => ⟨S1x512, .f32⟩
  | 122 => ⟨S2048x512, .f32⟩
  | 123 => ⟨S2048x512, .f32⟩
  | 124 => ⟨S2048x512, .f32⟩
  | 125 => ⟨S2048x512, .f32⟩
  | 126 => ⟨S1x512, .f32⟩
  | 127 => ⟨S2048x512, .f32⟩
  | _ => ⟨S2048x3072, .f32⟩

abbrev hbmTy0_1 (i : Nat) : BufTy := match i % 128 with
  | 0 => ⟨S2048x512, .f32⟩
  | 1 => ⟨S2048x512, .f32⟩
  | 2 => ⟨S2048x512, .f32⟩
  | 3 => ⟨S1x512, .f32⟩
  | 4 => ⟨S2048x512, .f32⟩
  | 5 => ⟨S2048x512, .f32⟩
  | 6 => ⟨S2048x512, .f32⟩
  | 7 => ⟨S2048x512, .f32⟩
  | 8 => ⟨S1x512, .f32⟩
  | 9 => ⟨S2048x512, .f32⟩
  | 10 => ⟨S2048x512, .f32⟩
  | 11 => ⟨S2048x512, .f32⟩
  | 12 => ⟨S2048x512, .f32⟩
  | 13 => ⟨S1x512, .f32⟩
  | 14 => ⟨S2048x512, .f32⟩
  | 15 => ⟨S2048x512, .f32⟩
  | 16 => ⟨S2048x512, .f32⟩
  | 17 => ⟨S2048x512, .f32⟩
  | 18 => ⟨S1x512, .f32⟩
  | 19 => ⟨S2048x512, .f32⟩
  | 20 => ⟨S2048x512, .f32⟩
  | 21 => ⟨S2048x512, .f32⟩
  | 22 => ⟨S2048x512, .f32⟩
  | 23 => ⟨S1x512, .f32⟩
  | 24 => ⟨S2048x512, .f32⟩
  | 25 => ⟨S2048x512, .f32⟩
  | 26 => ⟨S2048x512, .f32⟩
  | 27 => ⟨S2048x512, .f32⟩
  | 28 => ⟨S1x512, .f32⟩
  | 29 => ⟨S2048x512, .f32⟩
  | 30 => ⟨S2048x512, .f32⟩
  | 31 => ⟨S2048x512, .f32⟩
  | 32 => ⟨S2048x512, .f32⟩
  | 33 => ⟨S1x512, .f32⟩
  | 34 => ⟨S2048x512, .f32⟩
  | 35 => ⟨S2048x512, .f32⟩
  | 36 => ⟨S2048x512, .f32⟩
  | 37 => ⟨S2048x512, .f32⟩
  | 38 => ⟨S1x512, .f32⟩
  | 39 => ⟨S2048x512, .f32⟩
  | 40 => ⟨S2048x512, .f32⟩
  | 41 => ⟨S2048x512, .f32⟩
  | 42 => ⟨S2048x512, .f32⟩
  | 43 => ⟨S1x512, .f32⟩
  | 44 => ⟨S2048x512, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S2048x8x64, .f32⟩
  | 51 => ⟨S_, .f32⟩
  | 52 => ⟨S2048x8, .f32⟩
  | 53 => ⟨S2048x8x1, .f32⟩
  | 54 => ⟨S_, .f32⟩
  | 55 => ⟨S2048x8x1, .f32⟩
  | 56 => ⟨S2048x8x1, .f32⟩
  | 57 => ⟨S2048x8x64, .f32⟩
  | 58 => ⟨S2048x8x64, .f32⟩
  | 59 => ⟨S2048x8x64, .f32⟩
  | 60 => ⟨S_, .f32⟩
  | 61 => ⟨S2048x8, .f32⟩
  | 62 => ⟨S2048x8x1, .f32⟩
  | 63 => ⟨S_, .f32⟩
  | 64 => ⟨S2048x8x1, .f32⟩
  | 65 => ⟨S2048x8x1, .f32⟩
  | 66 => ⟨S2048x8x64, .f32⟩
  | 67 => ⟨S2048x8x64, .f32⟩
  | 68 => ⟨S_, .f32⟩
  | 69 => ⟨S2048x8x1, .f32⟩
  | 70 => ⟨S2048x8x1, .f32⟩
  | 71 => ⟨S2048x8x1, .f32⟩
  | 72 => ⟨S2048x8x64, .f32⟩
  | 73 => ⟨S2048x8x64, .f32⟩
  | 74 => ⟨S2048x512, .f32⟩
  | 75 => ⟨S2048x512, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S_, .f32⟩
  | 82 => ⟨S2048x512, .f32⟩
  | 83 => ⟨S2048x512, .f32⟩
  | 84 => ⟨S_, .f32⟩
  | 85 => ⟨S2048x512, .f32⟩
  | 86 => ⟨S2048x512, .f32⟩
  | 87 => ⟨S2048x512, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_cst_3 : Ref sig .tc := ⟨.hbm, 179, rfl⟩
abbrev main_v170 : Ref sig .tc := ⟨.hbm, 180, rfl⟩
abbrev main_v171 : Ref sig .tc := ⟨.hbm, 181, rfl⟩
abbrev main_cst_4 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_cst_5 : Ref sig .tc := ⟨.hbm, 188, rfl⟩
abbrev main_v177 : Ref sig .tc := ⟨.hbm, 189, rfl⟩
abbrev main_v178 : Ref sig .tc := ⟨.hbm, 190, rfl⟩
abbrev main_cst_6 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_cst_7 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_call0_v0 : Ref sig .tc := ⟨.hbm, 207, rfl⟩
abbrev main_call0_v1 : Ref sig .tc := ⟨.hbm, 208, rfl⟩
abbrev main_call0_cst : Ref sig .tc := ⟨.hbm, 209, rfl⟩
abbrev main_call0_v2 : Ref sig .tc := ⟨.hbm, 210, rfl⟩
abbrev main_call0_v3 : Ref sig .tc := ⟨.hbm, 211, rfl⟩
abbrev main_call0_cst_0 : Ref sig .tc := ⟨.hbm, 212, rfl⟩
abbrev main_call0_v4 : Ref sig .tc := ⟨.hbm, 213, rfl⟩
abbrev main_call0_v5 : Ref sig .tc := ⟨.hbm, 214, rfl⟩
abbrev main_v193 : Ref sig .tc := ⟨.hbm, 215, rfl⟩

abbrev nD : Nat := 1
abbrev τ : Topo := Topo.v7x

variable {F : FTy → Type} [FloatOps F]
-- ==== Proof.Row.lean ====
/- The mathematics of one row of the group norm and its gradient, over the real numbers: what the kernel computes of a row,
   what differentiating the forward lines gives, and that the two are the same number. Nothing here mentions a program. -/
module

public import Idealize.ShloMosaic.PureOps.Ideal
public import Mathlib.Tactic.FieldSimp
public import Mathlib.Tactic.Linarith
public import Mathlib.Tactic.Ring

@[expose] public section

noncomputable section

namespace Cert.Conf

/-- The channel numbered `e` in the group of 64 that channel `c` belongs to. -/
def mate (c : Fin 512) (e : Fin 64) : Fin 512 := ⟨(c : ℕ) / 64 * 64 + e, by omega⟩

/-- The sum over the group of channel `c`. -/
def gsum (x : Fin 512 → ℝ) (c : Fin 512) : ℝ := ∑ e : Fin 64, x (mate c e)

/-- The mean over the group of channel `c`. -/
def gmean (x : Fin 512 → ℝ) (c : Fin 512) : ℝ := gsum x c / 64

/-- The averaging matrix: 1/64 at two channels of one group, 0 at others. -/
def avg (j c : Fin 512) : ℝ := if (j : ℕ) / 64 = (c : ℕ) / 64 then 1 / 64 else 0

theorem mate_div (c : Fin 512) (e : Fin 64) : ((mate c e : Fin 512) : ℕ) / 64 = (c : ℕ) / 64 := by
  have := e.isLt
  show ((c : ℕ) / 64 * 64 + e) / 64 = _
  omega

/-- What depends on the group alone is the same at every channel of the group. -/
theorem gsum_mate (x : Fin 512 → ℝ) (c : Fin 512) (e : Fin 64) : gsum x (mate c e) = gsum x c := by
  unfold gsum
  refine Finset.sum_congr rfl fun e' _ => congrArg x (Fin.ext ?_)
  show ((mate c e : Fin 512) : ℕ) / 64 * 64 + (e' : ℕ) = (c : ℕ) / 64 * 64 + e'
  rw [mate_div]

theorem gmean_mate (x : Fin 512 → ℝ) (c : Fin 512) (e : Fin 64) : gmean x (mate c e) = gmean x c := by
  unfold gmean; rw [gsum_mate]

/-- A row times the averaging matrix is the row of group means. -/
theorem sum_avg (x : Fin 512 → ℝ) (c : Fin 512) : ∑ j, x j * avg j c = gmean x c := by
  have h : ∑ j, x j * avg j c = ∑ j ∈ Finset.univ.filter (fun j : Fin 512 => (j : ℕ) / 64 = (c : ℕ) / 64), x j * (1 / 64) := by
    rw [Finset.sum_filter]
    refine Finset.sum_congr rfl fun j _ => ?_
    unfold avg
    split <;> simp
  rw [h]
  unfold gmean gsum
  rw [Finset.sum_div]
  refine (Finset.sum_bij (fun e _ => mate c e) ?_ ?_ ?_ ?_).symm
  · intro e _; simp [mate_div]
  · intro e _ e' _ h
    have := congrArg Fin.val h
    simp only [mate] at this
    exact Fin.ext (by omega)
  · intro j hj
    have hj' : (j : ℕ) / 64 = (c : ℕ) / 64 := by simpa using hj
    refine ⟨⟨(j : ℕ) % 64, by omega⟩, Finset.mem_univ _, Fin.ext ?_⟩
    show (c : ℕ) / 64 * 64 + (j : ℕ) % 64 = j
    omega
  · intro e _; ring

theorem gsum_const_mul (x : Fin 512 → ℝ) (k : Fin 512 → ℝ) (c : Fin 512) (hk : ∀ e, k (mate c e) = k c) :
    gsum (fun j => k j * x j) c = k c * gsum x c := by
  unfold gsum
  rw [Finset.mul_sum]
  exact Finset.sum_congr rfl fun e _ => by show k (mate c e) * x (mate c e) = _; rw [hk]

/-- The logistic function. -/
def sg (x : ℝ) : ℝ := (1 + Real.exp (-x))⁻¹

section
variable (eps : ℝ) (y gw gb d : Fin 512 → ℝ) (c : Fin 512)

/-- The row less its group mean. -/
def dlt : ℝ := y c - gmean y c
/-- The variance of the group and `eps`. -/
def vare : ℝ := gmean (fun j => dlt y j * dlt y j) c + eps
/-- The reciprocal of the standard deviation. -/
def rstd : ℝ := (Real.sqrt (vare eps y c))⁻¹
/-- The normalised row. -/
def un : ℝ := dlt y c * rstd eps y c
/-- The argument of the activation. -/
def act : ℝ := un eps y c * gw c + gb c
/-- The gradient at the argument of the activation `o * sg o`. -/
def dact : ℝ := d c * (sg (act eps y gw gb c) * (1 + act eps y gw gb c * (1 - sg (act eps y gw gb c))))
/-- The gradient at the normalised row. -/
def dun : ℝ := dact eps y gw gb d c * gw c
/-- The gradient at the row: what the kernel computes. -/
def drow : ℝ := rstd eps y c * (dun eps y gw gb d c - gmean (dun eps y gw gb d) c
  - un eps y c * gmean (fun j => dun eps y gw gb d j * un eps y j) c)

theorem vare_mate (e : Fin 64) : vare eps y (mate c e) = vare eps y c := by unfold vare; rw [gmean_mate]
theorem rstd_mate (e : Fin 64) : rstd eps y (mate c e) = rstd eps y c := by unfold rstd; rw [vare_mate]

theorem vare_pos (he : 0 < eps) : 0 < vare eps y c := by
  unfold vare gmean gsum
  have : 0 ≤ ∑ e : Fin 64, dlt y (mate c e) * dlt y (mate c e) := Finset.sum_nonneg fun e _ => mul_self_nonneg _
  positivity

theorem rstd_sq (he : 0 < eps) : rstd eps y c * rstd eps y c = (vare eps y c)⁻¹ := by
  unfold rstd
  rw [← mul_inv, Real.mul_self_sqrt (vare_pos eps y c he).le]

/-- The deviations of a group sum to zero. -/
theorem gsum_dlt : gsum (dlt y) c = 0 := by
  have : gsum (dlt y) c = gsum y c - ∑ _e : Fin 64, gmean y c := by
    unfold gsum dlt
    rw [Finset.sum_sub_distrib]
    congr 1
    exact Finset.sum_congr rfl fun e _ => gmean_mate y c e
  rw [this]
  simp [gmean]
  ring

/-- The gradient at the row as differentiating the forward lines gives it: through the row itself, through the variance, and
    through the two means. -/
theorem drow_eq (he : 0 < eps) (g : Fin 512 → ℝ) :
    g c * rstd eps y c
      + gsum (fun j => dlt y j * g j) c * (-(1 / 2) * (rstd eps y c / vare eps y c)) / 64 * (2 * dlt y c)
      + (gsum (fun j => -(g j * rstd eps y j)) c
          + gsum (fun j => -(gsum (fun j => dlt y j * g j) c * (-(1 / 2) * (rstd eps y c / vare eps y c)) / 64 * (2 * dlt y j))) c) / 64
    = rstd eps y c * (g c - gmean g c - un eps y c * gmean (fun j => g j * un eps y j) c) := by
  have h1 : gsum (fun j => -(g j * rstd eps y j)) c = -(rstd eps y c * gsum g c) := by
    rw [← neg_mul, ← gsum_const_mul g (fun j => -rstd eps y j) c (fun e => by simp only [rstd_mate])]
    exact congrArg (fun f => gsum f c) (funext fun j => by ring)
  set K := gsum (fun j => dlt y j * g j) c * (-(1 / 2) * (rstd eps y c / vare eps y c)) / 64 with hK
  have h2 : gsum (fun j => -(K * (2 * dlt y j))) c = 0 := by
    have := gsum_const_mul (dlt y) (fun _ => -(K * 2)) c (fun _ => rfl)
    rw [gsum_dlt, mul_zero] at this
    rw [← this]
    exact congrArg (fun f => gsum f c) (funext fun j => by ring)
  have h3 : gsum (fun j => g j * un eps y j) c = rstd eps y c * gsum (fun j => dlt y j * g j) c := by
    rw [← gsum_const_mul (fun j => dlt y j * g j) (fun j => rstd eps y j) c (fun e => by simp only [rstd_mate])]
    exact congrArg (fun f => gsum f c) (funext fun j => by unfold un; ring)
  have h4 : rstd eps y c / vare eps y c = rstd eps y c * (rstd eps y c * rstd eps y c) := by rw [rstd_sq eps y c he]; rfl
  rw [h1, h2]
  unfold gmean
  rw [h3, hK, h4]
  unfold un
  ring

end

end Cert.Conf

end
-- ==== Proof.Pay.lean ====
/- What one row of a block becomes in the kernel's arithmetic, over the reals: the payloads of the norm's gradient at real
   inputs are the formulas of Row.lean. -/
module

public import proofs.«01_k».proof.Proof.Row
public import proofs.«01_k».proof.Proof.Gen.KernelIdeal.Skeleton
public import Idealize.ShloMosaic.Lib.Pointwise
public import Idealize.ShloMosaic.Lib.IdealHost

@[expose] public section

set_option maxRecDepth 16384

noncomputable section

namespace Cert.Conf

open Idealize.ShloMosaic Idealize.ShloMosaic.TcCoe Idealize.SL.Sem
open Cert.KernelIdeal Cert.KernelIdeal.Gen

/-- A sum of reals, taken among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The number that the program adds to the variance. -/
def eps : ℝ := (1 + 407485 / 2 ^ 23) / 2 ^ 20

theorem eps_coe : (Ideal.ofBits .f32 0x358637BD#32 : EReal) = ((eps : ℝ) : EReal) := by
  unfold eps
  simp [Ideal.ofBits, Ideal.ieee, -EReal.coe_mul]; norm_num

theorem eps_pos : 0 < eps := by unfold eps; norm_num

theorem inv64_coe : (Ideal.ofBits .f32 1015021568#32 : EReal) = ((1 / 64 : ℝ) : EReal) := by
  simp [Ideal.ofBits, Ideal.ieee, -EReal.coe_mul]; norm_num

/-- The quotient of a channel's number by 64, as the program computes it on words. -/
theorem group_word (j : Fin 512) :
    Scalar.select
      (IntOp.andi
        (IntOp.cmpi CmpIPredicate.ne
          (IntOp.subi (BitVec.setWidth 32 (IntOp.cmpi CmpIPredicate.sgt (BitVec.ofNat 32 ↑j) 0#32))
            (BitVec.setWidth 32 (IntOp.cmpi CmpIPredicate.slt (BitVec.ofNat 32 ↑j) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑j) 64#32) 0#32))
      (IntOp.subi (IntOp.divsi ArithUnit.vector (BitVec.ofNat 32 ↑j) 64#32) 1#32)
      (IntOp.divsi ArithUnit.vector (BitVec.ofNat 32 ↑j) 64#32) = BitVec.ofNat 32 (j / 64) := by
  revert j; decide +kernel

/-- The averaging matrix as the kernel makes it. -/
theorem pm_at (v28 : IVec S512x512 32) (hv : v28 = iota .tc S512x512 32 [1] iota_S512x512_d1_w32) (j c : Fin 512) :
    k0_pay8 (F := Ideal) k0_pay4 v28 64#32 k0_pay5 k0_pay6 k0_pay7 (ix2 j c) = ((avg j c : ℝ) : EReal) := by
  subst hv
  pointwise [k0_pay8, k0_pay4, k0_pay5, k0_pay6, k0_pay7]
  rw [group_word, group_word, inv64_coe]
  unfold avg
  by_cases h : (j : ℕ) / 64 = (c : ℕ) / 64
  · rw [h, if_pos rfl]; simp [IntOp.cmpi, Scalar.select]
  · rw [if_neg h]
    have : BitVec.ofNat 32 ((j : ℕ) / 64) ≠ BitVec.ofNat 32 ((c : ℕ) / 64) := by
      intro e
      have := congrArg BitVec.toNat e
      simp only [BitVec.toNat_ofNat] at this
      omega
    simp [IntOp.cmpi, Scalar.select, beq_eq_false_iff_ne.2 this]

/-- The three products of the split row with the averaging matrix: the second and third pieces of a real number are zero. -/
theorem gm_at (X : Fin 512 → EReal) (x : Fin 512 → ℝ) (hX : ∀ j, X j = ((x j : ℝ) : EReal)) (c : Fin 512) :
    (∑ j, X j * ((avg j c : ℝ) : EReal) + ∑ j, (X j - X j) * ((avg j c : ℝ) : EReal)
      + ∑ j, ((X j - X j) - (X j - X j)) * ((avg j c : ℝ) : EReal)) = ((gmean x c : ℝ) : EReal) := by
  simp only [hX, ← EReal.coe_sub, ← EReal.coe_mul, coe_sum, ← EReal.coe_add, sub_self, zero_mul, Finset.sum_const_zero, add_zero, sum_avg]

theorem rsqrt_pos {r : ℝ} (h : 0 < r) : Ideal.rsqrt (r : EReal) = (((Real.sqrt r)⁻¹ : ℝ) : EReal) := by
  rw [Ideal.rsqrt_coe, if_neg (not_lt.2 h.le), if_neg h.ne']

section
variable (v28 : IVec S512x512 32) (hv : v28 = iota .tc S512x512 32 [1] iota_S512x512_d1_w32)
include hv
variable (X D : S256x512.Idx → EReal) (GW GB : S1x512.Idx → EReal) (x d : Fin 256 → Fin 512 → ℝ) (gw gb : Fin 512 → ℝ)

theorem dlt_at (hX : ∀ r c, X (ix2 r c) = ((x r c : ℝ) : EReal)) (r : Fin 256) (c : Fin 512) :
    k0_pay9 (F := Ideal) k0_pay4 v28 64#32 k0_pay5 k0_pay6 k0_pay7 X (ix2 r c)
      = ((dlt (x r) c : ℝ) : EReal) := by
  pointwise [k0_pay9]
  simp only [pm_at v28 hv]
  exact (congrArg (fun z : EReal => X (ix2 r c) - z) (gm_at (fun j => X (ix2 r j)) (x r) (hX r) c)).trans (by
    show X (ix2 r c) - _ = _
    rw [hX, ← EReal.coe_sub]; rfl)

theorem rstd_at (hX : ∀ r c, X (ix2 r c) = ((x r c : ℝ) : EReal)) (r : Fin 256) (c : Fin 512) :
    k0_pay10 (F := Ideal) k0_pay4 v28 64#32 k0_pay5 k0_pay6 k0_pay7 X (ix2 r c)
      = ((rstd eps (x r) c : ℝ) : EReal) := by
  pointwise [k0_pay10]
  simp only [pm_at v28 hv, dlt_at v28 hv X x hX]
  exact (congrArg (fun z : EReal => Ideal.rsqrt (z + Ideal.ofBits .f32 0x358637BD#32)) (gm_at (fun j => ((dlt (x r) j : ℝ) : EReal) * ((dlt (x r) j : ℝ) : EReal))
    (fun j => dlt (x r) j * dlt (x r) j) (fun j => (EReal.coe_mul _ _).symm) c)).trans (by
    show Ideal.rsqrt (_ + Ideal.ofBits .f32 0x358637BD#32) = _
    rw [eps_coe, ← EReal.coe_add]; exact rsqrt_pos (vare_pos eps (x r) c eps_pos))

theorem un_at (hX : ∀ r c, X (ix2 r c) = ((x r c : ℝ) : EReal)) (r : Fin 256) (c : Fin 512) :
    k0_pay11 (F := Ideal) k0_pay4 v28 64#32 k0_pay5 k0_pay6 k0_pay7 X (ix2 r c)
      = ((un eps (x r) c : ℝ) : EReal) := by
  pointwise [k0_pay11]
  simp only [dlt_at v28 hv X x hX, rstd_at v28 hv X x hX, ← EReal.coe_mul]
  rfl

omit hv
variable (UN : S256x512.Idx → EReal) (u : Fin 256 → Fin 512 → ℝ)

theorem dact_at (hU : ∀ r c, UN (ix2 r c) = ((un eps (x r) c : ℝ) : EReal))
    (hD : ∀ r c, D (ix2 r c) = ((d r c : ℝ) : EReal)) (hW : ∀ c, GW (ix2 0 c) = ((gw c : ℝ) : EReal)) (hB : ∀ c, GB (ix2 0 c) = ((gb c : ℝ) : EReal))
    (r : Fin 256) (c : Fin 512) :
    k0_pay12 (F := Ideal) UN GW GB D (ix2 r c) = ((dact eps (x r) gw gb (d r) c : ℝ) : EReal) := by
  pointwise [k0_pay12]
  simp only [hU, hD, hW, hB, ← EReal.coe_mul, ← EReal.coe_add, ← EReal.coe_sub, ← EReal.coe_neg, Ideal.logistic_coe, Ideal.ofBits_one_f32, ← EReal.coe_one]
  rfl

theorem dun_at (hU : ∀ r c, UN (ix2 r c) = ((un eps (x r) c : ℝ) : EReal))
    (hD : ∀ r c, D (ix2 r c) = ((d r c : ℝ) : EReal)) (hW : ∀ c, GW (ix2 0 c) = ((gw c : ℝ) : EReal)) (hB : ∀ c, GB (ix2 0 c) = ((gb c : ℝ) : EReal))
    (r : Fin 256) (c : Fin 512) :
    k0_pay15 (F := Ideal) UN GW GB D GW (ix2 r c) = ((dun eps (x r) gw gb (d r) c : ℝ) : EReal) := by
  pointwise [k0_pay15]
  simp only [dact_at D GW GB x d gw gb UN hU hD hW hB, hW, ← EReal.coe_mul]
  rfl

/-- The gradient at the row, from the pieces the kernel splits its argument into. -/
theorem drow_at (P : S512x512.Idx → EReal) (hP : ∀ j c, P (ix2 j c) = ((avg j c : ℝ) : EReal)) (R : S256x512.Idx → EReal)
    (hR : ∀ r c, R (ix2 r c) = ((rstd eps (x r) c : ℝ) : EReal)) (hU : ∀ r c, UN (ix2 r c) = ((un eps (x r) c : ℝ) : EReal))
    (hD : ∀ r c, D (ix2 r c) = ((d r c : ℝ) : EReal)) (hW : ∀ c, GW (ix2 0 c) = ((gw c : ℝ) : EReal)) (hB : ∀ c, GB (ix2 0 c) = ((gb c : ℝ) : EReal))
    (r : Fin 256) (c : Fin 512) :
    k0_pay20 (F := Ideal) P R UN (k0_pay15 UN GW GB D GW) (k0_pay16 UN GW GB D GW) (k0_pay18 UN GW GB D GW) (k0_pay19 UN GW GB D GW)
      (constant (F := Ideal) S256x512 .f32 0x00000000#32) (ix2 r c) = ((drow eps (x r) gw gb (d r) c : ℝ) : EReal) := by
  pointwise [k0_pay20, k0_pay16, k0_pay17, k0_pay18, k0_pay19]
  simp only [hP, dun_at D GW GB x d gw gb UN hU hD hW hB]
  have h1 := gm_at (fun j => ((dun eps (x r) gw gb (d r) j : ℝ) : EReal)) (dun eps (x r) gw gb (d r)) (fun _ => rfl) c
  have h2 := gm_at (fun j => ((dun eps (x r) gw gb (d r) j : ℝ) : EReal) * UN (ix2 r j)) (fun j => dun eps (x r) gw gb (d r) j * un eps (x r) j)
    (fun j => by show _ * UN (ix2 r j) = _; rw [hU, ← EReal.coe_mul]) c
  refine (congrArg₂ (fun z w : EReal => R (ix2 r c) * (((dun eps (x r) gw gb (d r) c : ℝ) : EReal) - z - UN (ix2 r c) * w)) h1 h2).trans ?_
  show R (ix2 r c) * (_ - UN (ix2 r c) * _) = _
  rw [hR, hU, ← EReal.coe_mul, ← EReal.coe_sub, ← EReal.coe_sub, ← EReal.coe_mul]
  rfl

end

end Cert.Conf

end
-- ==== Proof.Buf.lean ====
/- The kernel's two row buffers and their seven shifted copies, as functions of the row: what a load reads of them after the
   stores of the point. -/
module

public import proofs.«01_k».proof.Proof.Pay
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Conf

open Idealize.ShloMosaic Idealize.ShloMosaic.TcCoe Idealize.SL.Sem
open Cert.KernelIdeal Cert.KernelIdeal.Gen

/-- A buffer of 288 rows whose first 256 rows are `D` and whose last 32 are those of `P`. -/
def below (D : S256x512.Idx → EReal) (P : S288x512.Idx → EReal) : S288x512.Idx → EReal :=
  fun i => if h : (i 0 : ℕ) < 256 then D (ix2 ⟨i 0, h⟩ (i 1)) else P i

/-- A buffer of 288 rows whose first 32 rows are `H` and whose last 256 are `D`. -/
def above (H : S32x512.Idx → EReal) (D : S256x512.Idx → EReal) : S288x512.Idx → EReal :=
  fun i => if h : (i 0 : ℕ) < 32 then H (ix2 ⟨i 0, h⟩ (i 1)) else D (ix2 ⟨(i 0 : ℕ) - 32, by have := (i 0).isLt; show _ < 256; change (i 0 : ℕ) < 288 at this; omega⟩ (i 1))

/-- The zeros below the last tile. -/
def zrows : S288x512.Idx → EReal := fun _ => 0

section
variable {sig' : RefSig} {κ : Kind} {sp : Space}

theorem emb_rows (off n : ℕ) (inb) (p : Fin 288) (q : Fin n) (c : Fin 512) (h : (p : ℕ) = off + q) :
    (Rect.unit (s := S288x512) ![off, 0] ![n, 512] inb).emb (ix2 q c) = ix2 p c := by
  funext a
  apply Fin.ext
  fin_cases a
  · show off + 1 * (q : ℕ) = p; omega
  · show 0 + 1 * (c : ℕ) = c; omega

theorem not_mem_rows (off n : ℕ) (inb) (p : Fin 288) (c : Fin 512) (h : (p : ℕ) < off ∨ off + n ≤ (p : ℕ)) :
    (ix2 p c : S288x512.Idx) ∉ (Rect.unit (s := S288x512) ![off, 0] ![n, 512] inb).set := by
  rw [Rect.mem_set_unit]
  intro hm
  have := hm 0
  change off ≤ (p : ℕ) ∧ (p : ℕ) < off + n at this
  omega

/-- Under the last store of rows a buffer holds what was stored; -/
theorem canon_hit (off n : ℕ) (inb) (w) (L : List (View.Piece (Elt Ideal) S288x512 .f32)) (p : Fin 288) (q : Fin n) (c : Fin 512) (h : (p : ℕ) = off + q) :
    View.canon (⟨Rect.unit (s := S288x512) ![off, 0] ![n, 512] inb, w⟩ :: L) (ix2 p c) = w (ix2 q c) :=
  (congrArg (View.canon (⟨Rect.unit (s := S288x512) ![off, 0] ![n, 512] inb, w⟩ :: L)) (emb_rows off n inb p q c h).symm).trans
    (View.canon_cons_emb _ _ _ _)

/-- off it, what it held. -/
theorem canon_miss (off n : ℕ) (inb) (w) (L : List (View.Piece (Elt Ideal) S288x512 .f32)) (p : Fin 288) (c : Fin 512) (h : (p : ℕ) < off ∨ off + n ≤ (p : ℕ)) :
    View.canon (⟨Rect.unit (s := S288x512) ![off, 0] ![n, 512] inb, w⟩ :: L) (ix2 p c) = View.canon L (ix2 p c) :=
  View.canon_cons_of_not_mem _ _ (not_mem_rows off n inb p c h)

theorem below_lt (D P) (p : Fin 288) (c : Fin 512) (h : (p : ℕ) < 256) : below D P (ix2 p c) = D (ix2 ⟨p, h⟩ c) := dif_pos h
theorem below_ge (D P) (p : Fin 288) (c : Fin 512) (h : ¬ (p : ℕ) < 256) : below D P (ix2 p c) = P (ix2 p c) := dif_neg h
theorem above_lt (H D) (p : Fin 288) (c : Fin 512) (h : (p : ℕ) < 32) : above H D (ix2 p c) = H (ix2 ⟨p, h⟩ c) := dif_pos h
theorem above_ge (H D) (p : Fin 288) (c : Fin 512) (h : ¬ (p : ℕ) < 32) : above H D (ix2 p c) = D (ix2 ⟨(p : ℕ) - 32, by omega⟩ c) := dif_neg h

theorem ext_rows {f g : S288x512.Idx → EReal} (h : ∀ (p : Fin 288) (c : Fin 512), f (ix2 p c) = g (ix2 p c)) : f = g :=
  funext fun y => by
    have e : y = ix2 (y 0) (y 1) := by funext a; fin_cases a <;> rfl
    rw [e]; exact h _ _

theorem read_below (v : View sig' κ sp S288x512 .f32) (f : v.ty.Contents (Elt Ideal)) (D : S256x512.Idx → EReal) (inb) :
    v.read (Elt Ideal) (v.writes (Elt Ideal) f [⟨Rect.unit (s := S288x512) ![0, 0] ![256, 512] inb, D⟩]) = below D (v.read (Elt Ideal) f) := by
  refine ext_rows fun p c => ?_
  by_cases h : (p : ℕ) < 256
  · refine Eq.trans ?_ (below_lt D _ p c h).symm
    refine (congrArg _ (emb_rows 0 256 inb p ⟨p, h⟩ c (by show (p : ℕ) = 0 + p; omega)).symm).trans ?_
    exact View.read_writes_cons_emb ..
  · refine Eq.trans ?_ (below_ge D _ p c h).symm
    rw [View.writes_cons]
    exact View.read_slice_write_of_not_mem _ _ _ _ (by
      rw [Rect.map_emb_univ]; exact not_mem_rows 0 256 inb p c (Or.inr (by omega)))

theorem canon_below (D : S256x512.Idx → EReal) (Z : S32x512.Idx → EReal) (hZ : ∀ i, Z i = 0) (inb inb') :
    View.canon (Val := Elt Ideal) (e := .f32) [⟨Rect.unit (s := S288x512) ![0, 0] ![256, 512] inb, D⟩, ⟨Rect.unit (s := S288x512) ![256, 0] ![32, 512] inb', Z⟩] = below D zrows := by
  refine ext_rows fun p c => ?_
  by_cases h : (p : ℕ) < 256
  · exact (canon_hit 0 256 inb D _ p ⟨p, h⟩ c (by show (p : ℕ) = 0 + p; omega)).trans (below_lt D _ p c h).symm
  · refine ((canon_miss 0 256 inb D _ p c (Or.inr (by omega))).trans
      (canon_hit 256 32 inb' Z _ p ⟨(p : ℕ) - 256, by omega⟩ c (by show (p : ℕ) = 256 + (p - 256); omega))).trans ?_
    rw [hZ, below_ge D _ p c h]
    rfl

theorem canon_above (H : S32x512.Idx → EReal) (D : S256x512.Idx → EReal) (inb inb') :
    View.canon (Val := Elt Ideal) (e := .f32) [⟨Rect.unit (s := S288x512) ![32, 0] ![256, 512] inb, D⟩, ⟨Rect.unit (s := S288x512) ![0, 0] ![32, 512] inb', H⟩] = above H D := by
  refine ext_rows fun p c => ?_
  by_cases h : (p : ℕ) < 32
  · exact ((canon_miss 32 256 inb D _ p c (Or.inl h)).trans
      (canon_hit 0 32 inb' H _ p ⟨p, h⟩ c (by show (p : ℕ) = 0 + p; omega))).trans (above_lt H D p c h).symm
  · exact (canon_hit 32 256 inb D _ p ⟨(p : ℕ) - 32, by omega⟩ c (by show (p : ℕ) = 32 + (p - 32); omega)).trans (above_ge H D p c h).symm

theorem readCov_below (v : View sig' κ sp S288x512 .f32) (D : S256x512.Idx → EReal) (Z : S32x512.Idx → EReal) (hZ : ∀ i, Z i = 0) (inb inb') (r : Rect S288x512) :
    v.readCov (Val := Elt Ideal) [⟨Rect.unit (s := S288x512) ![0, 0] ![256, 512] inb, D⟩, ⟨Rect.unit (s := S288x512) ![256, 0] ![32, 512] inb', Z⟩] r.toLoadRect
      = View.ld (below D zrows) r :=
  (View.readCov_eq_canon' ..).trans (congrArg (fun X => View.ld X r) (canon_below D Z hZ inb inb'))

theorem readCov_above (v : View sig' κ sp S288x512 .f32) (H : S32x512.Idx → EReal) (D : S256x512.Idx → EReal) (inb inb') (r : Rect S288x512) :
    v.readCov (Val := Elt Ideal) [⟨Rect.unit (s := S288x512) ![32, 0] ![256, 512] inb, D⟩, ⟨Rect.unit (s := S288x512) ![0, 0] ![32, 512] inb', H⟩] r.toLoadRect
      = View.ld (above H D) r :=
  (View.readCov_eq_canon' ..).trans (congrArg (fun X => View.ld X r) (canon_above H D inb inb'))

theorem ld_rows (B : S288x512.Idx → EReal) (k n : ℕ) (inb) (r : Fin n) (c : Fin 512) (h : k + r < 288) :
    View.ld (Val := Elt Ideal) (e' := .f32) B (Rect.unit (s := S288x512) ![k, 0] ![n, 512] inb) (ix2 r c) = B (ix2 ⟨k + r, h⟩ c) :=
  View.ld_unit_apply_of _ _ _ inb _ _ (fun a => by fin_cases a <;> simp)

/-- The rectangle of copy `k` lies in the buffer of copies. -/
abbrev InCopies (k : ℕ) : Prop := ∀ a : Fin S7x280x512.rank, ![k, 0, 0] a + ![1, 280, 512] a ≤ S7x280x512.size a
/-- 280 rows from row `k` lie in the buffer. -/
abbrev InRows (k : ℕ) : Prop := ∀ a : Fin S288x512.rank, ![k, 0] a + ![280, 512] a ≤ S288x512.size a

/-- One shifted copy of a buffer: copy `k` holds the rows from `k'` on. -/
abbrev copyOf (B : S288x512.Idx → EReal) (k k' : ℕ) (i : InCopies k) (j : InRows k') : View.Piece (Elt Ideal) S7x280x512 .f32 :=
  ⟨Rect.unit (s := S7x280x512) ![k, 0, 0] ![1, 280, 512] i,
    shapeCast S1x280x512 (View.ld (Val := Elt Ideal) (e' := .f32) B (Rect.unit (s := S288x512) ![k', 0] ![280, 512] j) : FVec Ideal S280x512 .f32) shapeCasts_S280x512_S1x280x512⟩

theorem shapeCast_280 (X : S280x512.Idx → EReal) (r : Fin 280) (c : Fin 512) :
    shapeCast S1x280x512 X shapeCasts_S280x512_S1x280x512 (ix3 0 r c) = X (ix2 r c) := by
  pointwise []

theorem copy_at (B : S288x512.Idx → EReal) (b : Fin 7) (r : Fin 280) (c : Fin 512) (k k' : ℕ) (hk : k' = k + 1) (i : InCopies k) (j : InRows k') :
    View.RectAt (Val := Elt Ideal) (e := .f32) (ix3 b r c) (copyOf B k k' i j).1 (copyOf B k k' i j).2 (B (ix2 ⟨b + 1 + r, by omega⟩ c)) := by
  intro x hx
  have h0 := congrArg (fun y => (y 0 : ℕ)) hx
  have h1 := congrArg (fun y => (y 1 : ℕ)) hx
  have h2 := congrArg (fun y => (y 2 : ℕ)) hx
  change k + 1 * (x 0 : ℕ) = b at h0
  change 0 + 1 * (x 1 : ℕ) = r at h1
  change 0 + 1 * (x 2 : ℕ) = c at h2
  have hx0 : (x 0 : ℕ) < 1 := (x 0).isLt
  have e : x = ix3 0 r c := by
    funext a
    apply Fin.ext
    fin_cases a
    · show (x 0 : ℕ) = 0; omega
    · show (x 1 : ℕ) = r; omega
    · show (x 2 : ℕ) = c; omega
  subst e
  refine (shapeCast_280 _ r c).trans ((ld_rows B k' 280 j r c (by omega)).trans ?_)
  congr 2
  apply Fin.ext
  show k' + (r : ℕ) = b + 1 + r
  change k + 1 * 0 = (b : ℕ) at h0
  omega

theorem mem_copy (b : Fin 7) (r : Fin 280) (c : Fin 512) (k : ℕ) (i : InCopies k) (h : (b : ℕ) = k) :
    (ix3 b r c : S7x280x512.Idx) ∈ (Rect.unit (s := S7x280x512) ![k, 0, 0] ![1, 280, 512] i).set := by
  rw [Rect.mem_set_unit]
  intro a
  have := r.isLt
  have := c.isLt
  fin_cases a
  · show k ≤ (b : ℕ) ∧ (b : ℕ) < k + 1; omega
  · show 0 ≤ (r : ℕ) ∧ (r : ℕ) < 0 + 280; omega
  · show 0 ≤ (c : ℕ) ∧ (c : ℕ) < 0 + 512; omega

/-- A list of all seven copies holds at row `r` of copy `b` the buffer's row `b + 1 + r`. -/
theorem canon_copies (B : S288x512.Idx → EReal) (i0 i1 i2 i3 i4 i5 i6 j1 j2 j3 j4 j5 j6 j7) (b : Fin 7) (r : Fin 280) (c : Fin 512) :
    View.canon [copyOf B 6 7 i6 j7, copyOf B 5 6 i5 j6, copyOf B 4 5 i4 j5, copyOf B 3 4 i3 j4, copyOf B 2 3 i2 j3, copyOf B 1 2 i1 j2, copyOf B 0 1 i0 j1] (ix3 b r c)
      = B (ix2 ⟨b + 1 + r, by omega⟩ c) := by
  refine View.canon_eq_of_allAt _ _ _ ?_ ?_
  · have hb := b.isLt
    obtain h | h | h | h | h | h | h : (b : ℕ) = 6 ∨ (b : ℕ) = 5 ∨ (b : ℕ) = 4 ∨ (b : ℕ) = 3 ∨ (b : ℕ) = 2 ∨ (b : ℕ) = 1 ∨ (b : ℕ) = 0 := by omega
    · exact ⟨_, .head _, mem_copy b r c 6 i6 h⟩
    · exact ⟨_, .tail _ (.head _), mem_copy b r c 5 i5 h⟩
    · exact ⟨_, .tail _ (.tail _ (.head _)), mem_copy b r c 4 i4 h⟩
    · exact ⟨_, .tail _ (.tail _ (.tail _ (.head _))), mem_copy b r c 3 i3 h⟩
    · exact ⟨_, .tail _ (.tail _ (.tail _ (.tail _ (.head _)))), mem_copy b r c 2 i2 h⟩
    · exact ⟨_, .tail _ (.tail _ (.tail _ (.tail _ (.tail _ (.head _))))), mem_copy b r c 1 i1 h⟩
    · exact ⟨_, .tail _ (.tail _ (.tail _ (.tail _ (.tail _ (.tail _ (.head _)))))), mem_copy b r c 0 i0 h⟩
  · exact (View.allAt_cons (copyOf B 6 7 i6 j7).1 (copyOf B 6 7 i6 j7).2 _ (copy_at B b r c 6 7 rfl i6 j7) (View.allAt_cons (copyOf B 5 6 i5 j6).1 (copyOf B 5 6 i5 j6).2 _ (copy_at B b r c 5 6 rfl i5 j6) (View.allAt_cons (copyOf B 4 5 i4 j5).1 (copyOf B 4 5 i4 j5).2 _ (copy_at B b r c 4 5 rfl i4 j5) (View.allAt_cons (copyOf B 3 4 i3 j4).1 (copyOf B 3 4 i3 j4).2 _ (copy_at B b r c 3 4 rfl i3 j4) (View.allAt_cons (copyOf B 2 3 i2 j3).1 (copyOf B 2 3 i2 j3).2 _ (copy_at B b r c 2 3 rfl i2 j3) (View.allAt_cons (copyOf B 1 2 i1 j2).1 (copyOf B 1 2 i1 j2).2 _ (copy_at B b r c 1 2 rfl i1 j2) (View.allAt_cons (copyOf B 0 1 i0 j1).1 (copyOf B 0 1 i0 j1).2 _ (copy_at B b r c 0 1 rfl i0 j1) (View.allAt_nil _ _))))))))

/-- What a load of 256 rows from row `a` of copy `b` reads. -/
theorem readCov_copies {sig' : RefSig} {κ : Kind} {sp : Space} (v : View sig' κ sp S7x280x512 .f32)
    (B : S288x512.Idx → EReal) (i0 i1 i2 i3 i4 i5 i6 j1 j2 j3 j4 j5 j6 j7) (b a : ℕ) (inb) (r : Fin 256) (c : Fin 512) (h : b + 1 + a + r < 288) (hb : b < 7) (ha : a + r < 280) :
    v.readCov [copyOf B 6 7 i6 j7, copyOf B 5 6 i5 j6, copyOf B 4 5 i4 j5, copyOf B 3 4 i3 j4, copyOf B 2 3 i2 j3, copyOf B 1 2 i1 j2, copyOf B 0 1 i0 j1]
      (Rect.unit (s := S7x280x512) ![b, a, 0] ![1, 256, 512] inb).toLoadRect (ix3 0 r c) = B (ix2 ⟨b + 1 + a + r, h⟩ c) := by
  rw [View.readCov_eq_canon']
  have e : (Rect.unit (s := S7x280x512) ![b, a, 0] ![1, 256, 512] inb).toLoadRect.idx (ix3 0 r c) = ix3 ⟨b, hb⟩ ⟨a + r, ha⟩ c := by
    funext k
    apply Fin.ext
    fin_cases k
    · show b + 1 * 0 = b; omega
    · show a + 1 * (r : ℕ) = a + r; omega
    · show 0 + 1 * (c : ℕ) = c; omega
  show View.canon _ (_ : S7x280x512.Idx) = _
  rw [e, canon_copies]
  congr 2
  apply Fin.ext
  show b + 1 + (a + (r : ℕ)) = b + 1 + a + (r : ℕ)
  omega

/-- 256 rows of a buffer from row `k` on, under a unit axis; -/
def rows3 (B : S288x512.Idx → EReal) (k : ℕ) : S1x256x512.Idx → EReal :=
  fun i => if h : k + (i 1 : ℕ) < 288 then B (ix2 ⟨k + i 1, h⟩ (i 2)) else 0
/-- and plain. -/
def rows2 (B : S288x512.Idx → EReal) (k : ℕ) : S256x512.Idx → EReal :=
  fun i => if h : k + (i 0 : ℕ) < 288 then B (ix2 ⟨k + i 0, h⟩ (i 1)) else 0

theorem rows3_eq (B : S288x512.Idx → EReal) (k : ℕ) (r : Fin 256) (c : Fin 512) (h : k + r < 288) : rows3 B k (ix3 0 r c) = B (ix2 ⟨k + r, h⟩ c) := dif_pos h
theorem rows2_eq (B : S288x512.Idx → EReal) (k : ℕ) (r : Fin 256) (c : Fin 512) (h : k + r < 288) : rows2 B k (ix2 r c) = B (ix2 ⟨k + r, h⟩ c) := dif_pos h

theorem rows3_at (B : S288x512.Idx → EReal) (b : ℕ → Fin 512 → ℝ) (hB : ∀ p c, B (ix2 p c) = ((b p c : ℝ) : EReal)) (k : ℕ) (r : Fin 256) (c : Fin 512)
    (h : k + r < 288) : rows3 B k (ix3 0 r c) = ((b (k + r) c : ℝ) : EReal) := (dif_pos h).trans (hB _ _)
theorem rows2_at (B : S288x512.Idx → EReal) (b : ℕ → Fin 512 → ℝ) (hB : ∀ p c, B (ix2 p c) = ((b p c : ℝ) : EReal)) (k : ℕ) (r : Fin 256) (c : Fin 512)
    (h : k + r < 288) : rows2 B k (ix2 r c) = ((b (k + r) c : ℝ) : EReal) := (dif_pos h).trans (hB _ _)

theorem ld_rows2 (B : S288x512.Idx → EReal) (k : ℕ) (inb) :
    View.ld (Val := Elt Ideal) (e' := .f32) B (Rect.unit (s := S288x512) ![k, 0] ![256, 512] inb) = rows2 B k := by
  have hk : k + 256 ≤ 288 := inb 0
  funext i
  obtain ⟨r, q, rfl⟩ : ∃ r q, i = ix2 r q := ⟨i 0, i 1, by funext a; fin_cases a <;> rfl⟩
  have := r.isLt
  exact (ld_rows B k 256 inb r q (by omega)).trans (rows2_eq B k r q (by omega)).symm

/-- What a load of 256 rows from row `a` of copy `b` reads. -/
theorem readCov_rows3 {sig' : RefSig} {κ : Kind} {sp : Space} (v : View sig' κ sp S7x280x512 .f32)
    (B : S288x512.Idx → EReal) (i0 i1 i2 i3 i4 i5 i6 j1 j2 j3 j4 j5 j6 j7) (b a : ℕ) (inb) :
    v.readCov [copyOf B 6 7 i6 j7, copyOf B 5 6 i5 j6, copyOf B 4 5 i4 j5, copyOf B 3 4 i3 j4, copyOf B 2 3 i2 j3, copyOf B 1 2 i1 j2, copyOf B 0 1 i0 j1]
      (Rect.unit (s := S7x280x512) ![b, a, 0] ![1, 256, 512] inb).toLoadRect = rows3 B (b + 1 + a) := by
  have hb : b + 1 ≤ 7 := inb 0
  have ha : a + 256 ≤ 280 := inb 1
  funext i
  obtain ⟨z, r, q, rfl⟩ : ∃ z r q, i = ix3 z r q := ⟨i 0, i 1, i 2, by funext a; fin_cases a <;> rfl⟩
  obtain rfl : z = 0 := Fin.ext (by have : (z : ℕ) < 1 := z.isLt; show (z : ℕ) = 0; omega)
  have := r.isLt
  exact (readCov_copies v B i0 i1 i2 i3 i4 i5 i6 j1 j2 j3 j4 j5 j6 j7 b a inb r q (by omega) (by omega) (by omega)).trans
    (rows3_eq B (b + 1 + a) r q (by omega)).symm

end

end Cert.Conf

end
-- ==== Proof.Point.lean ====
/- What one grid point of the kernel leaves in its output blocks and in the rows it carries to the next point, over the reals. -/
module
public import proofs.«01_k».proof.Proof.Buf
public import Idealize.ShloMosaic.Lib.Claim

@[expose] public section

set_option maxRecDepth 16384

noncomputable section
namespace Cert.Conf
open Idealize.ShloMosaic Idealize.ShloMosaic.TcCoe Idealize.SL.Sem
open Cert.KernelIdeal Cert.KernelIdeal.Gen
variable (m : (ℓ : Loc nD τ sig) → Buf (Elt Ideal) ℓ) (c : Dev nD)

/-- The gradient at the convolution's result, of the tile of point `t`. -/
def dyBlk (t : Fin cfg0.N) : S256x512.Idx → EReal :=
  k0_pay22 (F := Ideal) (k0_pay8 k0_pay4 (iota .tc S512x512 32 [1] iota_S512x512_d1_w32) 64#32 k0_pay5 k0_pay6 k0_pay7)
    (k0_pay10 k0_pay4 (iota .tc S512x512 32 [1] iota_S512x512_d1_w32) 64#32 k0_pay5 k0_pay6 k0_pay7 (iblk m c 1 t))
    (k0_pay11 k0_pay4 (iota .tc S512x512 32 [1] iota_S512x512_d1_w32) 64#32 k0_pay5 k0_pay6 k0_pay7 (iblk m c 1 t))
    (k0_pay15 (k0_pay11 k0_pay4 (iota .tc S512x512 32 [1] iota_S512x512_d1_w32) 64#32 k0_pay5 k0_pay6 k0_pay7 (iblk m c 1 t)) (iblk m c 7 t) (iblk m c 8 t) (iblk m c 0 t) (iblk m c 7 t))
    (k0_pay16 (k0_pay11 k0_pay4 (iota .tc S512x512 32 [1] iota_S512x512_d1_w32) 64#32 k0_pay5 k0_pay6 k0_pay7 (iblk m c 1 t)) (iblk m c 7 t) (iblk m c 8 t) (iblk m c 0 t) (iblk m c 7 t))
    (k0_pay18 (k0_pay11 k0_pay4 (iota .tc S512x512 32 [1] iota_S512x512_d1_w32) 64#32 k0_pay5 k0_pay6 k0_pay7 (iblk m c 1 t)) (iblk m c 7 t) (iblk m c 8 t) (iblk m c 0 t) (iblk m c 7 t))
    (k0_pay19 (k0_pay11 k0_pay4 (iota .tc S512x512 32 [1] iota_S512x512_d1_w32) 64#32 k0_pay5 k0_pay6 k0_pay7 (iblk m c 1 t)) (iblk m c 7 t) (iblk m c 8 t) (iblk m c 0 t) (iblk m c 7 t))
    (constant S256x512 .f32 0x00000000#32)

/-- The rows that the point before left below its own. -/
def prevRows (t : Fin cfg0.N) : S288x512.Idx → EReal :=
  if t.val % 8 = 0 then zrows else (outsAt0 m c (t.val - 1) (Nat.lt_of_le_of_lt (Nat.sub_le _ _) t.isLt)).2.2

theorem cols_hi (W1 W0 : S256x512.Idx → EReal) (i1 i0) (r : Fin 256) (q : Fin 512) :
    View.canon (Val := Elt Ideal) (e := .bf16) [⟨Rect.unit (s := S256x1024) ![0, 512] ![256, 512] i1, W1⟩, ⟨Rect.unit (s := S256x1024) ![0, 0] ![256, 512] i0, W0⟩]
      (ix2 r ⟨512 + q, by omega⟩) = W1 (ix2 r q) := by
  have e : (Rect.unit (s := S256x1024) ![0, 512] ![256, 512] i1).emb (ix2 r q) = ix2 r ⟨512 + q, by omega⟩ := by
    funext a; apply Fin.ext; fin_cases a
    · show 0 + 1 * (r : ℕ) = r; omega
    · show 512 + 1 * (q : ℕ) = 512 + q; omega
  exact (congrArg _ e.symm).trans (View.canon_cons_emb _ _ _ _)

theorem cols_lo (W1 W0 : S256x512.Idx → EReal) (i1 i0) (r : Fin 256) (q : Fin 512) :
    View.canon (Val := Elt Ideal) (e := .bf16) [⟨Rect.unit (s := S256x1024) ![0, 512] ![256, 512] i1, W1⟩, ⟨Rect.unit (s := S256x1024) ![0, 0] ![256, 512] i0, W0⟩]
      (ix2 r ⟨q, by omega⟩) = W0 (ix2 r q) := by
  have e : (Rect.unit (s := S256x1024) ![0, 0] ![256, 512] i0).emb (ix2 r q) = ix2 r ⟨q, by omega⟩ := by
    funext a; apply Fin.ext; fin_cases a
    · show 0 + 1 * (r : ℕ) = r; omega
    · show 0 + 1 * (q : ℕ) = q; omega
  refine (View.canon_cons_of_not_mem _ _ ?_).trans ((congrArg _ e.symm).trans (View.canon_cons_emb _ _ _ _))
  rw [Rect.mem_set_unit]
  intro hm
  have := (hm 1).1
  change 512 ≤ (q : ℕ) at this
  omega

theorem zero3 (i : S32x512.Idx) : k0_pay3 (F := Ideal) i = 0 := by
  obtain ⟨r, q, rfl⟩ : ∃ r q, i = ix2 r q := ⟨i 0, i 1, by funext a; fin_cases a <;> rfl⟩
  pointwise [k0_pay3]

/-- The gradient at the convolution's input, from the rows `e` of the gradient at its result, the tile's own first. -/
def duR (w e : ℕ → Fin 512 → ℝ) (r : ℕ) (q : Fin 512) : ℝ := ∑ k ∈ Finset.range 31, w k q * e (30 - k + r) q

section
variable (t : Fin cfg0.N) (a g : Fin 256 → Fin 512 → ℝ) (w e : ℕ → Fin 512 → ℝ)

theorem block9 (hw : ∀ (k : Fin 31) q, iblk m c 6 t (ix2 k q) = ((w k q : ℝ) : EReal))
    (ha : ∀ (r : Fin 256) (q : Fin 512), iblk m c 2 t (ix2 r q) = ((a r q : ℝ) : EReal)) (hg : ∀ (r : Fin 256) (q : Fin 512), iblk m c 3 t (ix2 r q) = ((g r q : ℝ) : EReal))
    (hE : ∀ (p : Fin 288) (q : Fin 512), below (dyBlk m c t) (prevRows m c t) (ix2 p q) = ((e p q : ℝ) : EReal)) (r : Fin 256) (q : Fin 512) :
    (outsAt0 m c t.val t.isLt).1 (ix2 r ⟨q, by omega⟩) = ((duR w e r q * sg (g r q) : ℝ) : EReal)
    ∧ (outsAt0 m c t.val t.isLt).1 (ix2 r ⟨512 + q, by omega⟩) = ((duR w e r q * a r q * sg (g r q) * (1 - sg (g r q)) : ℝ) : EReal) := by
  have hD : ∀ (r : Fin 256) (q : Fin 512), dyBlk m c t (ix2 r q) = ((e r q : ℝ) : EReal) := fun r q =>
    (below_lt _ (prevRows m c t) ⟨r, by omega⟩ q r.isLt).symm.trans (hE ⟨r, by omega⟩ q)
  by_cases h : t.val % 8 = 0
  · have hp : zrows = prevRows m c t := (if_pos h).symm
    rw [outsAt0_A m c t h]
    frame_out
    generalize hdy : k0_pay22 (F := Ideal) _ _ _ _ _ _ _ _ = DY
    obtain rfl : DY = dyBlk m c t := hdy.symm
    clear hdy
    simp only [readCov_below _ _ _ zero3, View.readCov_cons_toLoadRect, k0_pay23, k0_pay24, k0_pay25, k0_pay26, k0_pay27, k0_pay28, k0_pay29, hp]
    generalize below (dyBlk m c t) (prevRows m c t) = B at hE ⊢
    repeat rw [readCov_rows3]
    repeat rw [ld_rows2]
    norm_num only
    rw [cols_lo, cols_hi]
    pointwise [k0_pay1, k0_pay94, k0_pay95, k0_pay30, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp (disch := omega) only [rows3_at B e hE, rows2_at B e hE, hw, ha, hg, hD, Ideal.logistic_coe, ← EReal.coe_mul, ← EReal.coe_add, ← EReal.coe_one, ← EReal.coe_sub]
    simp only [duR, Finset.sum_range_succ, Finset.sum_range_zero, Nat.reduceSub, zero_add]
    exact ⟨rfl, rfl⟩
  · have hp : (outsAt0 m c (t.val - 1) (Nat.lt_of_le_of_lt (Nat.sub_le _ _) t.isLt)).2.2 = prevRows m c t := (if_neg h).symm
    rw [outsAt0_B m c t h]
    frame_out
    generalize hdy : k0_pay22 (F := Ideal) _ _ _ _ _ _ _ _ = DY
    obtain rfl : DY = dyBlk m c t := hdy.symm
    clear hdy
    simp only [read_below, read_unread_whole, View.readCov_cons_toLoadRect, k0_pay23, k0_pay24, k0_pay25, k0_pay26, k0_pay27, k0_pay28, k0_pay29, hp]
    generalize below (dyBlk m c t) (prevRows m c t) = B at hE ⊢
    repeat rw [readCov_rows3]
    repeat rw [ld_rows2]
    norm_num only
    rw [cols_lo, cols_hi]
    pointwise [k0_pay1, k0_pay94, k0_pay95, k0_pay30, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp (disch := omega) only [rows3_at B e hE, rows2_at B e hE, hw, ha, hg, hD, Ideal.logistic_coe, ← EReal.coe_mul, ← EReal.coe_add, ← EReal.coe_one, ← EReal.coe_sub]
    simp only [duR, Finset.sum_range_succ, Finset.sum_range_zero, Nat.reduceSub, zero_add]
    exact ⟨rfl, rfl⟩

/-- The rows carried to the next point are the tile's first 32. -/
theorem carried (p : Fin 288) (i : Fin 32) (h : (p : ℕ) = 256 + i) (q : Fin 512) :
    (outsAt0 m c t.val t.isLt).2.2 (ix2 p q) = dyBlk m c t (ix2 ⟨i, by omega⟩ q) := by
  by_cases h0 : t.val % 8 = 0
  · rw [outsAt0_A m c t h0]
    frame_out
    generalize hdy : k0_pay22 (F := Ideal) _ _ _ _ _ _ _ _ = DY
    obtain rfl : DY = dyBlk m c t := hdy.symm
    clear hdy
    rw [readCov_below _ _ _ zero3]
    refine (canon_hit 256 32 _ _ _ p i q h).trans ?_
    have hB : below (dyBlk m c t) zrows (ix2 ⟨i, by omega⟩ q) = dyBlk m c t (ix2 ⟨i, by omega⟩ q) := below_lt _ _ _ _ _
    generalize below (dyBlk m c t) zrows = B at hB ⊢
    pointwise [k0_pay93]
    exact hB
  · rw [outsAt0_B m c t h0]
    frame_out
    generalize hdy : k0_pay22 (F := Ideal) _ _ _ _ _ _ _ _ = DY
    obtain rfl : DY = dyBlk m c t := hdy.symm
    clear hdy
    refine (canon_hit 256 32 _ _ _ p i q h).trans ?_
    pointwise [k0_pay93]
    refine (congrFun (View.readCov_eq_canon' ..) _).trans ((ld_rows _ 0 32 _ i q (by omega)).trans ?_)
    exact canon_hit 0 256 _ _ _ _ ⟨i, by omega⟩ q (by simp)

end

end Cert.Conf

end
-- ==== Proof.Stats.lean ====
/- What one grid point of the kernel leaves in its output blocks and in the rows it carries to the next point, over the reals. -/
module
public import proofs.«01_k».proof.Proof.Point
public import Idealize.ShloMosaic.Lib.Claim

@[expose] public section

set_option maxRecDepth 16384

noncomputable section
namespace Cert.Conf
open Idealize.ShloMosaic Idealize.ShloMosaic.TcCoe Idealize.SL.Sem
open Cert.KernelIdeal Cert.KernelIdeal.Gen
variable (m : (ℓ : Loc nD τ sig) → Buf (Elt Ideal) ℓ) (c : Dev nD)

/-- What the statistics held before the point. -/
def prevStats (t : Fin cfg0.N) : S40x512.Idx → EReal :=
  if t.val % 8 = 0 then fun _ => 0 else (outsAt0 m c (t.val - 1) (Nat.lt_of_le_of_lt (Nat.sub_le _ _) t.isLt)).2.1

/-- The gated input with the 32 rows before the tile. -/
def uBuf (t : Fin cfg0.N) : S288x512.Idx → EReal :=
  above (k0_pay31 (F := Ideal) (BitVec.ofNat 32 (grid0.coords t 0)) (iblk m c 4 t) (iblk m c 5 t)) (k0_pay32 (iblk m c 2 t) (iblk m c 3 t))

/-- The tile's normalised rows. -/
def unBlk (t : Fin cfg0.N) : S256x512.Idx → EReal :=
  k0_pay11 (F := Ideal) k0_pay4 (iota .tc S512x512 32 [1] iota_S512x512_d1_w32) (64#32) k0_pay5 k0_pay6 k0_pay7 (iblk m c 1 t)

/-- The rows stored are the rows computed. -/
theorem pay22_at (P R U G H M L Z) (r : Fin 256) (q : Fin 512) : k0_pay22 (F := Ideal) P R U G H M L Z (ix2 r q) = k0_pay20 (F := Ideal) P R U G H M L Z (ix2 r q) := by
  pointwise [k0_pay22]

theorem above_add (H D) (p : Fin 256) (q : Fin 512) : above H D (ix2 ⟨32 + p, by omega⟩ q) = D (ix2 p q) := by
  have e : (⟨(32 + (p : ℕ)) - 32, by omega⟩ : Fin 256) = p := Fin.ext (by simp)
  rw [above_ge _ _ _ _ (by simp)]
  exact congrArg (fun p => D (ix2 p q)) e

theorem emb_row (j : ℕ) (inb) (p : Fin 40) (c : Fin 512) (h : (p : ℕ) = j) :
    (Rect.unit (s := S40x512) ![j, 0] ![1, 512] inb).emb (ix2 0 c) = ix2 p c := by
  funext a
  apply Fin.ext
  fin_cases a
  · simp [h]
  · simp

theorem not_mem_row (j : ℕ) (inb) (p : Fin 40) (c : Fin 512) (h : (p : ℕ) ≠ j) :
    (ix2 p c : S40x512.Idx) ∉ (Rect.unit (s := S40x512) ![j, 0] ![1, 512] inb).set := by
  rw [Rect.mem_set_unit]
  intro hm
  have := hm 0
  simp at this
  omega

/-- One row of the statistics over the rows under it. -/
theorem row_peel {sig' : RefSig} {κ : Kind} {sp : Space} (v : View sig' κ sp S40x512 .f32) (z) (j : ℕ) (hj) (x) (L) (p : Fin 40) (q : Fin 512) (G : Fin 40 → Fin 512 → EReal)
    (hj' : j < 40) (hit : x (ix2 0 q) = G ⟨j, hj'⟩ q)
    (miss : (p : ℕ) ≠ j → View.read (Elt Ideal) v (v.writes (Elt Ideal) z L) (ix2 p q) = G p q) :
    View.read (Elt Ideal) v (v.writes (Elt Ideal) z (⟨Rect.unit ![j, 0] ![1, 512] hj, x⟩ :: L)) (ix2 p q) = G p q := by
  by_cases h : (p : ℕ) = j
  · obtain rfl : p = ⟨j, hj'⟩ := Fin.ext h
    refine Eq.trans ?_ hit
    refine (congrArg _ (emb_row j hj _ q rfl).symm).trans ?_
    exact View.read_writes_cons_emb ..
  · refine Eq.trans ?_ (miss h)
    rw [View.writes_cons]
    exact View.read_slice_write_of_not_mem _ _ _ _ (by
      rw [Rect.map_emb_univ]; exact not_mem_row j hj p q h)

/-- The same over a block that the point starts. -/
theorem canon_row_peel (j : ℕ) (hj) (x) (L : List (View.Piece (Elt Ideal) S40x512 .f32)) (p : Fin 40) (q : Fin 512) (G : Fin 40 → Fin 512 → EReal)
    (hj' : j < 40) (hit : x (ix2 0 q) = G ⟨j, hj'⟩ q) (miss : (p : ℕ) ≠ j → View.canon L (ix2 p q) = G p q) :
    View.canon (⟨Rect.unit (s := S40x512) ![j, 0] ![1, 512] hj, x⟩ :: L) (ix2 p q) = G p q := by
  by_cases h : (p : ℕ) = j
  · obtain rfl : p = ⟨j, hj'⟩ := Fin.ext h
    refine Eq.trans ?_ hit
    exact (congrArg (View.canon (⟨Rect.unit (s := S40x512) ![j, 0] ![1, 512] hj, x⟩ :: L)) (emb_row j hj ⟨j, hj'⟩ q rfl).symm).trans
      (View.canon_cons_emb _ _ _ _)
  · have e : View.canon (⟨Rect.unit (s := S40x512) ![j, 0] ![1, 512] hj, x⟩ :: L) (ix2 p q) = View.canon L (ix2 p q) :=
      View.canon_cons_of_not_mem _ _ (not_mem_row j hj p q h)
    exact e.trans (miss h)

/-- A load of one row looks past a store of another. -/
theorem readCov_row_skip {sig' : RefSig} {κ : Kind} {sp : Space} (v : View sig' κ sp S40x512 .f32) (j k : ℕ) (hj hk) (x) (L : List (View.Piece (Elt Ideal) S40x512 .f32)) (h : j ≠ k) :
    v.readCov (⟨Rect.unit (s := S40x512) ![j, 0] ![1, 512] hj, x⟩ :: L) (Rect.unit (s := S40x512) ![k, 0] ![1, 512] hk).toLoadRect
      = v.readCov L (Rect.unit (s := S40x512) ![k, 0] ![1, 512] hk).toLoadRect := by
  rw [View.readCov_eq_canon', View.readCov_eq_canon']
  funext i
  refine View.canon_cons_of_not_mem _ _ fun hm => ?_
  rw [Rect.mem_set_unit] at hm
  have h0 := hm 0
  change j ≤ k + 1 * (i 0 : ℕ) ∧ k + 1 * (i 0 : ℕ) < j + 1 at h0
  have h1 : (i 0 : ℕ) < 1 := (i 0).isLt
  omega

/-- A buffer of zeros. -/
def zstats : S40x512.Idx → EReal := fun _ => 0

theorem zero2 : k0_pay2 (F := Ideal) = zstats := by
  funext i
  obtain ⟨r, q, rfl⟩ : ∃ r q, i = ix2 r q := ⟨i 0, i 1, by funext a; fin_cases a <;> rfl⟩
  show k0_pay2 (F := Ideal) (ix2 r q) = 0
  pointwise [k0_pay2]

theorem canon_zeros (hz) (y : S40x512.Idx) : View.canon (Val := Elt Ideal) (e := .f32) [⟨Rect.unit (s := S40x512) ![0, 0] ![40, 512] hz, zstats⟩] y = 0 := by
  have e : (Rect.unit (s := S40x512) ![0, 0] ![40, 512] hz).emb y = y := by
    funext a
    apply Fin.ext
    fin_cases a
    · show 0 + 1 * (y 0 : ℕ) = y 0; omega
    · show 0 + 1 * (y 1 : ℕ) = y 1; omega
  exact (congrArg (View.canon (Val := Elt Ideal) (e := .f32) [⟨Rect.unit (s := S40x512) ![0, 0] ![40, 512] hz, zstats⟩]) e.symm).trans (View.canon_cons_emb _ _ _ _)

theorem readCov_row_fill {sig' : RefSig} {κ : Kind} {sp : Space} (v : View sig' κ sp S40x512 .f32) (k : ℕ) (hk hz) :
    v.readCov (Val := Elt Ideal) [⟨Rect.unit (s := S40x512) ![0, 0] ![40, 512] hz, k0_pay2 (F := Ideal)⟩] (Rect.unit (s := S40x512) ![k, 0] ![1, 512] hk).toLoadRect
      = View.ld (e' := .f32) zstats (Rect.unit (s := S40x512) ![k, 0] ![1, 512] hk) := by
  rw [zero2, View.readCov_eq_canon']
  funext i
  exact canon_zeros hz _

/-- What a point adds to each row of the statistics. -/
def statR (e v un ds : ℕ → Fin 512 → ℝ) (k : ℕ) (q : Fin 512) : ℝ :=
  if k < 31 then ∑ r : Fin 256, e r q * v (k + 2 + r) q
  else if k = 31 then ∑ r : Fin 256, e r q
  else if k = 32 then ∑ r : Fin 256, ds r q * un r q
  else if k = 33 then ∑ r : Fin 256, ds r q
  else 0

theorem statR_rest (e v un ds : ℕ → Fin 512 → ℝ) (k : ℕ) (q : Fin 512) (h : 34 ≤ k) : statR e v un ds k q = 0 := by
  rw [statR, if_neg (by omega), if_neg (by omega), if_neg (by omega), if_neg (by omega)]

theorem close_row (a T : ℝ) (f : Fin 256 → ℝ) (h : T = ∑ x, f x) : (a : EReal) + ∑ x, ((f x : ℝ) : EReal) = ((a + T : ℝ) : EReal) := by
  rw [h, EReal.coe_add, coe_sum]

set_option maxHeartbeats 4000000 in
/-- What the point leaves in the statistics. -/
theorem block10 (t : Fin cfg0.N) (e v un ds s : ℕ → Fin 512 → ℝ)
    (hE : ∀ (p : Fin 256) (q : Fin 512), dyBlk m c t (ix2 p q) = ((e p q : ℝ) : EReal))
    (hV : ∀ (p : Fin 288) (q : Fin 512), uBuf m c t (ix2 p q) = ((v p q : ℝ) : EReal))
    (hN : ∀ (p : Fin 256) (q : Fin 512), unBlk m c t (ix2 p q) = ((un p q : ℝ) : EReal))
    (hD : ∀ (p : Fin 256) (q : Fin 512), k0_pay12 (unBlk m c t) (iblk m c 7 t) (iblk m c 8 t) (iblk m c 0 t) (ix2 p q) = ((ds p q : ℝ) : EReal))
    (hS : ∀ (k : Fin 40) (q : Fin 512), prevStats m c t (ix2 k q) = ((s k q : ℝ) : EReal))
    (k : Fin 40) (q : Fin 512) :
    (outsAt0 m c t.val t.isLt).2.1 (ix2 k q) = ((s k q + statR e v un ds k q : ℝ) : EReal) := by
  have hV' : ∀ (p : Fin 256) (q : Fin 512), k0_pay32 (iblk m c 2 t) (iblk m c 3 t) (ix2 p q) = ((v (32 + p) q : ℝ) : EReal) := fun p q =>
    (above_add _ _ p q).symm.trans (hV ⟨32 + p, by omega⟩ q)
  refine (Classical.em (t.val % 8 = 0)).elim (fun h => ?_) (fun h => ?_)
  on_goal 2 =>
    have hp : (outsAt0 m c (t.val - 1) (Nat.lt_of_le_of_lt (Nat.sub_le _ _) t.isLt)).2.1 = prevStats m c t := (if_neg h).symm
    rw [outsAt0_B m c t h]
    frame_out
    simp only [k0_pay21]
    generalize hdy : k0_pay20 (F := Ideal) _ _ _ _ _ _ _ _ = DY
    generalize hun : k0_pay11 (F := Ideal) _ _ _ _ _ _ _ = UN
    have hdE : ∀ (p : Fin 256) (q : Fin 512), DY (ix2 p q) = ((e p q : ℝ) : EReal) := fun p q => by
      rw [← hE p q, ← hdy]
      exact (pay22_at _ _ _ _ _ _ _ _ p q).symm
    clear hdy
    obtain rfl : UN = unBlk m c t := hun.symm
    clear hun
    simp only [readCov_above, View.readCov_cons_toLoadRect, k0_pay33, k0_pay34, k0_pay35, k0_pay36, k0_pay37, k0_pay38, k0_pay39, hp]
    generalize hu : above _ _ = U
    obtain rfl : U = uBuf m c t := hu.symm
    clear hu
    repeat rw [readCov_rows3]
    repeat rw [ld_rows2]
    norm_num only
    generalize uBuf m c t = U at hV ⊢
    generalize prevStats m c t = PS at hS ⊢
    iterate 34
      refine row_peel _ _ _ _ _ _ k q (fun k q => ((s k q + statR e v un ds k q : ℝ) : EReal)) (of_decide_eq_true rfl) ?_ fun hk => ?_
      rotate_left
    · rw [statR_rest e v un ds k q (by omega), add_zero, View.writes_nil, Memref.IsWhole.read_unread]
      exact hS k q
  on_goal 1 =>
    have hp : zstats = prevStats m c t := (if_pos h).symm
    have hs0 : (0 : EReal) = ((s k q : ℝ) : EReal) := (congrFun hp (ix2 k q)).trans (hS k q)
    rw [outsAt0_A m c t h]
    frame_out [↓ readCov_row_skip, ↓ readCov_row_fill]
    simp only [k0_pay21]
    generalize hdy : k0_pay20 (F := Ideal) _ _ _ _ _ _ _ _ = DY
    generalize hun : k0_pay11 (F := Ideal) _ _ _ _ _ _ _ = UN
    have hdE : ∀ (p : Fin 256) (q : Fin 512), DY (ix2 p q) = ((e p q : ℝ) : EReal) := fun p q => by
      rw [← hE p q, ← hdy]
      exact (pay22_at _ _ _ _ _ _ _ _ p q).symm
    clear hdy
    obtain rfl : UN = unBlk m c t := hun.symm
    clear hun
    simp only [readCov_above, View.readCov_cons_toLoadRect, k0_pay33, k0_pay34, k0_pay35, k0_pay36, k0_pay37, k0_pay38, k0_pay39, hp]
    generalize hu : above _ _ = U
    obtain rfl : U = uBuf m c t := hu.symm
    clear hu
    repeat rw [readCov_rows3]
    repeat rw [ld_rows2]
    norm_num only
    generalize uBuf m c t = U at hV ⊢
    generalize prevStats m c t = PS at hS ⊢
    iterate 34
      refine canon_row_peel _ _ _ _ k q (fun k q => ((s k q + statR e v un ds k q : ℝ) : EReal)) (of_decide_eq_true rfl) ?_ fun hk => ?_
      rotate_left
    · rw [zero2, statR_rest e v un ds k q (by omega), add_zero]
      exact (canon_zeros _ _).trans hs0
  all_goals
    pointwise [k0_pay13, k0_pay14, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp (disch := omega) only [rows3_at U v hV, rows2_at U v hV, hV', hdE, hD, hN, hS, ← EReal.coe_mul, ← EReal.coe_add, ← coe_sum]
    exact close_row _ _ _ (by simp [statR])

end Cert.Conf

end
-- ==== Proof.Blocks.lean ====
/- The blocks that a grid point reads, over the reals: the rows of the arguments, and the convolution's result. -/
module
public import proofs.«01_k».proof.Proof.Stats

@[expose] public section

set_option maxRecDepth 16384

noncomputable section
namespace Cert.Conf
open Idealize.ShloMosaic Idealize.ShloMosaic.TcCoe Idealize.SL.Sem
open Cert.KernelIdeal Cert.KernelIdeal.Gen

/-- The gated input after 32 rows of zeros. -/
def ux (a g : ℕ → Fin 512 → ℝ) (j : ℕ) (q : Fin 512) : ℝ := if j < 32 then 0 else a (j - 32) q * sg (g (j - 32) q)

/-- The convolution's result. -/
def conv (a g w : ℕ → Fin 512 → ℝ) (b : Fin 512 → ℝ) (n : ℕ) (q : Fin 512) : ℝ := ∑ k ∈ Finset.range 31, w k q * ux a g (k + n + 2) q + b q

theorem sig_div (x : ℝ) : Ideal.div 1 (1 + Ideal.exp (-(x : EReal))) = ((sg x : ℝ) : EReal) := by
  have h : (1 : ℝ) + Real.exp (-x) ≠ 0 := by positivity
  rw [← EReal.coe_neg, Ideal.exp_coe, ← EReal.coe_one, ← EReal.coe_add, Ideal.div_coe h, ← EReal.coe_mul]
  rw [sg, one_mul, one_div]

theorem glu_real (x y : EReal) (a g : ℝ) (hx : x = (a : EReal)) (hy : y = (g : EReal)) : x * Ideal.div 1 (1 + Ideal.exp (-y)) = ((a * sg g : ℝ) : EReal) := by
  rw [hx, hy, sig_div, ← EReal.coe_mul]

theorem ux_ge (a g : ℕ → Fin 512 → ℝ) (p : ℕ) (q : Fin 512) (h : 30 ≤ p) : ux a g (p + 2) q = a (p - 30) q * sg (g (p - 30) q) := by
  have e : p + 2 - 32 = p - 30 := by omega
  rw [ux, if_neg (by omega), e]

theorem word7 (t : ℕ) (h : t < 8) : Scalar.cmpi .eq (BitVec.ofNat 32 t) 7#32 = if t = 7 then 1#1 else 0#1 := by
  interval_cases t <;> rfl

theorem idx : ∀ t : Fin cfg0.N, (win0_0.index t = ![7 - t.val, 0] ∧ win0_1.index t = ![7 - t.val, 0] ∧ win0_2.index t = ![7 - t.val, 0] ∧ win0_3.index t = ![7 - t.val, 1])
    ∧ (win0_4.index t = ![(7 - t.val) * 8 - 1, 0] ∧ win0_5.index t = ![(7 - t.val) * 8 - 1, 1] ∧ win0_6.index t = ![0, 0] ∧ win0_7.index t = ![0, 0] ∧ win0_8.index t = ![0, 0])
    ∧ win0_9.index t = ![7 - t.val, 0] ∧ win0_10.index t = ![0, 0] ∧ (grid0.coords t 0 : ℕ) = t.val ∧ t.val < 8 :=
  (by decide +kernel : ∀ t : Fin grid0.N, _)

/-- The arguments are the reals `d a g w b gw gb`. -/
structure Reals (m : (ℓ : Loc nD τ sig) → Buf (Elt Ideal) ℓ) (c : Dev nD) (d a g w : ℕ → Fin 512 → ℝ) (b gw gb : Fin 512 → ℝ) : Prop where
  d : ∀ (n : Fin 2048) (q : Fin 512), m ((c : Thread nD τ).loc main_arg0) (ix2 n q) = ((d n q : ℝ) : EReal)
  a : ∀ (n : Fin 2048) (q : Fin 512), m ((c : Thread nD τ).loc main_arg1) (ix2 n ⟨q, by omega⟩) = ((a n q : ℝ) : EReal)
  g : ∀ (n : Fin 2048) (q : Fin 512), m ((c : Thread nD τ).loc main_arg1) (ix2 n ⟨512 + q, by omega⟩) = ((g n q : ℝ) : EReal)
  w : ∀ (k : Fin 31) (q : Fin 512), m ((c : Thread nD τ).loc main_arg2) (ix2 k q) = ((w k q : ℝ) : EReal)
  b : ∀ q : Fin 512, m ((c : Thread nD τ).loc main_arg3) (ix2 0 q) = ((b q : ℝ) : EReal)
  gw : ∀ q : Fin 512, m ((c : Thread nD τ).loc main_arg4) (ix2 0 q) = ((gw q : ℝ) : EReal)
  gb : ∀ q : Fin 512, m ((c : Thread nD τ).loc main_arg5) (ix2 0 q) = ((gb q : ℝ) : EReal)

variable {m : (ℓ : Loc nD τ sig) → Buf (Elt Ideal) ℓ} {c : Dev nD} {d a g w : ℕ → Fin 512 → ℝ} {b gw gb : Fin 512 → ℝ}
variable (H : Reals m c d a g w b gw gb) (t : Fin cfg0.N)
include H

theorem blk0 (r : Fin 256) (q : Fin 512) : iblk m c 0 t (ix2 r q) = ((d ((7 - t) * 256 + r) q : ℝ) : EReal) := by
  have ht := (idx t).2.2.2.2.2
  refine Eq.trans ?_ (H.d ⟨(7 - t) * 256 + r, by omega⟩ q)
  blk_ext [iblk, V, idx t]

theorem blk2 (r : Fin 256) (q : Fin 512) : iblk m c 2 t (ix2 r q) = ((a ((7 - t) * 256 + r) q : ℝ) : EReal) := by
  have ht := (idx t).2.2.2.2.2
  refine Eq.trans ?_ (H.a ⟨(7 - t) * 256 + r, by omega⟩ q)
  blk_ext [iblk, V, idx t]

theorem blk3 (r : Fin 256) (q : Fin 512) : iblk m c 3 t (ix2 r q) = ((g ((7 - t) * 256 + r) q : ℝ) : EReal) := by
  have ht := (idx t).2.2.2.2.2
  refine Eq.trans ?_ (H.g ⟨(7 - t) * 256 + r, by omega⟩ q)
  blk_ext [iblk, V, idx t]

theorem blk4 (r : Fin 32) (q : Fin 512) : iblk m c 4 t (ix2 r q) = ((a (((7 - t) * 8 - 1) * 32 + r) q : ℝ) : EReal) := by
  have ht := (idx t).2.2.2.2.2
  refine Eq.trans ?_ (H.a ⟨((7 - t) * 8 - 1) * 32 + r, by omega⟩ q)
  blk_ext [iblk, V, idx t]

theorem blk5 (r : Fin 32) (q : Fin 512) : iblk m c 5 t (ix2 r q) = ((g (((7 - t) * 8 - 1) * 32 + r) q : ℝ) : EReal) := by
  have ht := (idx t).2.2.2.2.2
  refine Eq.trans ?_ (H.g ⟨((7 - t) * 8 - 1) * 32 + r, by omega⟩ q)
  blk_ext [iblk, V, idx t]

theorem blk6 (k : Fin 31) (q : Fin 512) : iblk m c 6 t (ix2 k q) = ((w k q : ℝ) : EReal) := by
  refine Eq.trans ?_ (H.w k q)
  blk_ext [iblk, V, idx t]

theorem blk7 (q : Fin 512) : iblk m c 7 t (ix2 0 q) = ((gw q : ℝ) : EReal) := by
  refine Eq.trans ?_ (H.gw q)
  blk_ext [iblk, V, idx t]

theorem blk8 (q : Fin 512) : iblk m c 8 t (ix2 0 q) = ((gb q : ℝ) : EReal) := by
  refine Eq.trans ?_ (H.gb q)
  blk_ext [iblk, V, idx t]

theorem uBuf_at (p : Fin 288) (q : Fin 512) : uBuf m c t (ix2 p q) = ((ux a g ((7 - t) * 256 + p) q : ℝ) : EReal) := by
  have ht := (idx t).2.2.2.2.2
  have hc := (idx t).2.2.2.2.1
  unfold uBuf
  by_cases hp : (p : ℕ) < 32
  · rw [above_lt _ _ _ _ hp]
    pointwise [k0_pay31]
    rw [blk4 H t, blk5 H t, hc]
    rw [Ideal.logistic_coe, ← EReal.coe_mul, word7 t.val ht]
    by_cases h7 : t.val = 7
    · rw [if_pos h7, ux, if_pos (by omega)]
      rfl
    · rw [if_neg h7, ux, if_neg (by omega)]
      have e : (7 - t.val) * 256 + (p : ℕ) - 32 = ((7 - t.val) * 8 - 1) * 32 + (p : ℕ) := by omega
      rw [e]
      rfl
  · rw [above_ge _ _ _ _ hp]
    pointwise [k0_pay32, k0_pay30]
    rw [blk2 H t, blk3 H t, Ideal.logistic_coe, ← EReal.coe_mul, ux, if_neg (by omega)]
    have e : (7 - t.val) * 256 + (p : ℕ) - 32 = (7 - t.val) * 256 + ((p : ℕ) - 32) := by omega
    rw [e]
    rfl

theorem blk1 (r : Fin 256) (q : Fin 512) : iblk m c 1 t (ix2 r q) = ((conv a g w b ((7 - t) * 256 + r) q : ℝ) : EReal) := by
  have ht := (idx t).2.2.2.2.2
  have e : (win0_1.blk t).view.emb (ix2 r q) = ix2 ⟨(7 - t) * 256 + r, by omega⟩ q := by blk_ext [idx t]
  blk_simp [iblk, idx t]
  rw [e]
  entry_read
  generalize hU : concatenate S2078x512 0 _ _ = UC
  have hUC : ∀ (p : Fin 2078) (q : Fin 512), UC (ix2 p q) = ((ux a g (p + 2) q : ℝ) : EReal) := by
    intro p q
    rw [← hU]
    pointwise []
    by_cases h : (p : ℕ) < 30
    · rw [dif_pos h, ux, if_pos (by omega)]
      rfl
    · rw [dif_neg h, ux_ge a g p q (by omega)]
      exact glu_real _ _ _ _ (H.a ⟨(p : ℕ) - 30, by omega⟩ q) (H.g ⟨(p : ℕ) - 30, by omega⟩ q)
  clear hU
  have hw : ∀ (k : Fin 31) (q : Fin 512), m (c, Proc.tc.devRef main_arg2) (ix2 k q) = _ := H.w
  have hb : ∀ q : Fin 512, m (c, Proc.tc.devRef main_arg3) (ix2 0 q) = _ := H.b
  pointwise []
  simp only [hw, hb, hUC, ← EReal.coe_mul, ← EReal.coe_add]
  simp only [conv, Finset.sum_range_succ, Finset.sum_range_zero, zero_add]
  rfl

end Cert.Conf

end
-- ==== Proof.Whole.lean ====
/- What the kernel leaves in its two results, over the reals. -/
module
public import proofs.«01_k».proof.Proof.Blocks
public import proofs.«01_k».proof.Proof.Gen.KernelIdeal.Value

@[expose] public section

set_option maxRecDepth 16384

noncomputable section
namespace Cert.Conf
open Idealize.ShloMosaic Idealize.ShloMosaic.TcCoe Idealize.SL.Sem
open Cert.KernelIdeal Cert.KernelIdeal.Gen

section
variable (d a g w : ℕ → Fin 512 → ℝ) (b gw gb : Fin 512 → ℝ)

/-- The gradient at the convolution's result, zero past its last row. -/
def dy (n : ℕ) (q : Fin 512) : ℝ := if n < 2048 then drow eps (conv a g w b n) gw gb (d n) q else 0

/-- The gradient at the convolution's input. -/
def du (n : ℕ) (q : Fin 512) : ℝ := ∑ k ∈ Finset.range 31, w k q * dy d a g w b gw gb (n + (30 - k)) q

/-- One row's share of row `k` of the statistics. -/
def share (k n : ℕ) (q : Fin 512) : ℝ :=
  if k < 31 then dy d a g w b gw gb n q * ux a g (k + n + 2) q
  else if k = 31 then dy d a g w b gw gb n q
  else if k = 32 then dact eps (conv a g w b n) gw gb (d n) q * un eps (conv a g w b n) q
  else if k = 33 then dact eps (conv a g w b n) gw gb (d n) q
  else 0

/-- The statistics: the sum of the rows' shares. -/
def stats (k : ℕ) (q : Fin 512) : ℝ := ∑ n ∈ Finset.range 2048, share d a g w b gw gb k n q

/-- The tile's part of the statistics is the sum of its rows' shares. -/
theorem statR_eq (B k : ℕ) (q : Fin 512) :
    statR (fun r => dy d a g w b gw gb (B + r)) (fun p => ux a g (B + p)) (fun r => un eps (conv a g w b (B + r)))
      (fun r => dact eps (conv a g w b (B + r)) gw gb (d (B + r))) k q = ∑ r ∈ Finset.range 256, share d a g w b gw gb k (B + r) q := by
  rw [Finset.sum_range]
  unfold statR share
  by_cases h : k < 31
  · simp only [if_pos h]
    refine Finset.sum_congr rfl fun r _ => ?_
    rw [show B + (k + 2 + (r : ℕ)) = k + (B + r) + 2 by omega]
  · simp only [if_neg h]
    split
    · rfl
    · split
      · rfl
      · split
        · rfl
        · exact Finset.sum_const_zero.symm

/-- Eight tiles, the last first, are all the rows. -/
theorem sum_tiles (f : ℕ → ℝ) (n : ℕ) : ∑ t ∈ Finset.range n, ∑ r ∈ Finset.range 256, f ((n - 1 - t) * 256 + r) = ∑ i ∈ Finset.range (n * 256), f i := by
  rw [Finset.sum_range_reflect (fun t => ∑ r ∈ Finset.range 256, f (t * 256 + r)) n]
  induction n with
  | zero => simp
  | succ n ih => rw [Finset.sum_range_succ, ih, add_mul, one_mul, Finset.sum_range_add]
end

variable {m : (ℓ : Loc nD τ sig) → Buf (Elt Ideal) ℓ} {c : Dev nD} {d a g w : ℕ → Fin 512 → ℝ} {b gw gb : Fin 512 → ℝ}
variable (H : Reals m c d a g w b gw gb) (t : Fin cfg0.N)
include H

theorem unBlk_at (r : Fin 256) (q : Fin 512) : unBlk m c t (ix2 r q) = ((un eps (conv a g w b ((7 - t) * 256 + r)) q : ℝ) : EReal) :=
  un_at _ rfl (iblk m c 1 t) (fun r => conv a g w b ((7 - t) * 256 + r)) (blk1 H t) r q

theorem dact_blk (r : Fin 256) (q : Fin 512) : k0_pay12 (unBlk m c t) (iblk m c 7 t) (iblk m c 8 t) (iblk m c 0 t) (ix2 r q)
    = ((dact eps (conv a g w b ((7 - t) * 256 + r)) gw gb (d ((7 - t) * 256 + r)) q : ℝ) : EReal) :=
  dact_at (iblk m c 0 t) (iblk m c 7 t) (iblk m c 8 t) (fun r => conv a g w b ((7 - t) * 256 + r)) (fun r => d ((7 - t) * 256 + r)) gw gb (unBlk m c t)
    (unBlk_at H t) (blk0 H t) (blk7 H t) (blk8 H t) r q

theorem dyBlk_at (r : Fin 256) (q : Fin 512) : dyBlk m c t (ix2 r q) = ((dy d a g w b gw gb ((7 - t) * 256 + r) q : ℝ) : EReal) := by
  have ht := (idx t).2.2.2.2.2
  rw [dy, if_pos (by omega)]
  exact (pay22_at _ _ _ _ _ _ _ _ r q).trans
    (drow_at (iblk m c 0 t) (iblk m c 7 t) (iblk m c 8 t) (fun r => conv a g w b ((7 - t) * 256 + r)) (fun r => d ((7 - t) * 256 + r)) gw gb (unBlk m c t)
      _ (pm_at _ rfl) _ (rstd_at _ rfl (iblk m c 1 t) (fun r => conv a g w b ((7 - t) * 256 + r)) (blk1 H t))
      (unBlk_at H t) (blk0 H t) (blk7 H t) (blk8 H t) r q)

/-- The rows that the sum over the taps reads: the tile's and the next 32. -/
theorem dyBuf_at (p : Fin 288) (q : Fin 512) : below (dyBlk m c t) (prevRows m c t) (ix2 p q) = ((dy d a g w b gw gb ((7 - t) * 256 + p) q : ℝ) : EReal) := by
  have ht := (idx t).2.2.2.2.2
  by_cases hp : (p : ℕ) < 256
  · rw [below_lt _ _ _ _ hp, dyBlk_at H t]
  · rw [below_ge _ _ _ _ hp, prevRows]
    by_cases h0 : t.val % 8 = 0
    · rw [if_pos h0, dy, if_neg (by omega)]
      rfl
    · rw [if_neg h0]
      have hl : t.val - 1 < cfg0.N := Nat.lt_of_le_of_lt (Nat.sub_le _ _) t.isLt
      refine (carried m c ⟨t.val - 1, hl⟩ p ⟨(p : ℕ) - 256, by omega⟩ (by show (p : ℕ) = 256 + (p - 256); omega) q).trans ?_
      rw [dyBlk_at H]
      have e : (7 - (t.val - 1)) * 256 + ((p : ℕ) - 256) = (7 - t.val) * 256 + p := by omega
      show ((dy d a g w b gw gb ((7 - (t.val - 1)) * 256 + ((p : ℕ) - 256)) q : ℝ) : EReal) = _
      rw [e]

theorem tile_stats (s : ℕ → Fin 512 → ℝ) (hS : ∀ (k : Fin 40) (q : Fin 512), prevStats m c t (ix2 k q) = ((s k q : ℝ) : EReal)) (k : Fin 40) (q : Fin 512) :
    (outsAt0 m c t.val t.isLt).2.1 (ix2 k q) = ((s k q + ∑ r ∈ Finset.range 256, share d a g w b gw gb k ((7 - t) * 256 + r) q : ℝ) : EReal) := by
  rw [← statR_eq]
  exact block10 m c t _ _ _ _ s (dyBlk_at H t) (uBuf_at H t) (unBlk_at H t) (dact_blk H t) hS k q

/-- The statistics after a point: the shares of its tile and of those before it. -/
theorem stats_upto (n : ℕ) (hn : n < cfg0.N) (k : Fin 40) (q : Fin 512) :
    (outsAt0 m c n hn).2.1 (ix2 k q) = ((∑ t ∈ Finset.range (n + 1), ∑ r ∈ Finset.range 256, share d a g w b gw gb k ((7 - t) * 256 + r) q : ℝ) : EReal) := by
  induction n generalizing k q with
  | zero =>
    refine (tile_stats H ⟨0, hn⟩ (fun _ _ => 0) (fun k q => ?_) k q).trans ?_
    · exact congrFun (if_pos rfl) _
    · rw [Finset.sum_range_one, zero_add]
  | succ n ih =>
    have ht := (idx ⟨n + 1, hn⟩).2.2.2.2.2
    have ht' : n + 1 < 8 := ht
    refine (tile_stats H ⟨n + 1, hn⟩ (fun k q => ∑ t ∈ Finset.range (n + 1), ∑ r ∈ Finset.range 256, share d a g w b gw gb k ((7 - t) * 256 + r) q) (fun k q => ?_) k q).trans ?_
    · refine Eq.trans ?_ (ih (Nat.lt_of_succ_lt hn) k q)
      exact congrFun (if_neg (by show ¬ (n + 1) % 8 = 0; omega)) _
    · rw [Finset.sum_range_succ _ (n + 1)]

theorem tile_du (r : Fin 256) (q : Fin 512) :
    (outsAt0 m c t.val t.isLt).1 (ix2 r ⟨q, by omega⟩) = ((du d a g w b gw gb ((7 - t) * 256 + r) q * sg (g ((7 - t) * 256 + r) q) : ℝ) : EReal)
    ∧ (outsAt0 m c t.val t.isLt).1 (ix2 r ⟨512 + q, by omega⟩)
      = ((du d a g w b gw gb ((7 - t) * 256 + r) q * a ((7 - t) * 256 + r) q * sg (g ((7 - t) * 256 + r) q) * (1 - sg (g ((7 - t) * 256 + r) q)) : ℝ) : EReal) := by
  have e : du d a g w b gw gb ((7 - t) * 256 + r) q = duR w (fun p => dy d a g w b gw gb ((7 - t) * 256 + p)) r q := by
    unfold du duR
    refine Finset.sum_congr rfl fun k _ => ?_
    rw [show (7 - t.val) * 256 + (r : ℕ) + (30 - k) = (7 - t.val) * 256 + (30 - k + r) by omega]
  rw [e]
  exact block9 m c t (fun r => a ((7 - t) * 256 + r)) (fun r => g ((7 - t) * 256 + r)) w _ (blk6 H t) (blk2 H t) (blk3 H t) (dyBuf_at H t) r q

end Cert.Conf

end
-- ==== Proof.Ref.lean ====
/- The reference's stages at real arguments: the forward lines and the gradient at the convolution's result. -/
module
public import proofs.«01_k».proof.Proof.Whole
public import proofs.«01_k».proof.Proof.Gen.ReferenceIdeal.Run

@[expose] public section

set_option maxRecDepth 16384

noncomputable section
namespace Cert.Conf.Plain
open Idealize.ShloMosaic Idealize.ShloMosaic.TcCoe Idealize.SL.Sem
open Cert.ReferenceIdeal Cert.ReferenceIdeal.Gen Cert.ReferenceIdeal.Value

/-- The channel numbered `e` in group `i`. -/
def chan (i : Fin 8) (e : Fin 64) : Fin 512 := ⟨(i : ℕ) * 64 + e, by omega⟩

theorem mate_chan (i : Fin 8) (e e' : Fin 64) : mate (chan i e) e' = chan i e' := by
  refine Fin.ext ?_
  show ((i : ℕ) * 64 + e) / 64 * 64 + (e' : ℕ) = i * 64 + e'
  omega

theorem chan_split (q : Fin 512) : chan ⟨(q : ℕ) / 64, by omega⟩ ⟨(q : ℕ) % 64, by omega⟩ = q := by
  refine Fin.ext ?_
  show (q : ℕ) / 64 * 64 + (q : ℕ) % 64 = q
  omega

theorem mate_mate (q : Fin 512) (e e' : Fin 64) : mate (mate q e) e' = mate q e' := mate_chan ⟨(q : ℕ) / 64, by omega⟩ e e'

theorem gsum_chan (x : Fin 512 → ℝ) (i : Fin 8) (e : Fin 64) : gsum x (chan i e) = ∑ e' : Fin 64, x (chan i e') := by
  unfold gsum
  exact Finset.sum_congr rfl fun e' _ => congrArg x (mate_chan i e e')

/-- The reference's arguments are the reals `d a g w b gw gb`. -/
structure Args (V0 : Valuation τ sig (Elt Ideal)) (d a g w : ℕ → Fin 512 → ℝ) (b gw gb : Fin 512 → ℝ) : Prop where
  d : ∀ (n : Fin 2048) (q : Fin 512), V0 (Proc.devRef .tc main_arg0) (ix2 n q) = ((d n q : ℝ) : EReal)
  a : ∀ (n : Fin 2048) (q : Fin 512), V0 (Proc.devRef .tc main_arg1) (ix2 n ⟨q, by omega⟩) = ((a n q : ℝ) : EReal)
  g : ∀ (n : Fin 2048) (q : Fin 512), V0 (Proc.devRef .tc main_arg1) (ix2 n ⟨512 + q, by omega⟩) = ((g n q : ℝ) : EReal)
  w : ∀ (k : Fin 31) (q : Fin 512), V0 (Proc.devRef .tc main_arg2) (ix2 k q) = ((w k q : ℝ) : EReal)
  b : ∀ q : Fin 512, V0 (Proc.devRef .tc main_arg3) (ix2 0 q) = ((b q : ℝ) : EReal)
  gw : ∀ q : Fin 512, V0 (Proc.devRef .tc main_arg4) (ix2 0 q) = ((gw q : ℝ) : EReal)
  gb : ∀ q : Fin 512, V0 (Proc.devRef .tc main_arg5) (ix2 0 q) = ((gb q : ℝ) : EReal)

theorem c64 : (Ideal.ofBits .f32 0x42800000#32 : EReal) = ((64 : ℝ) : EReal) := by
  simp [Ideal.ofBits, Ideal.ieee, -EReal.coe_mul]; norm_num
theorem c2 : (Ideal.ofBits .f32 0x40000000#32 : EReal) = ((2 : ℝ) : EReal) := by
  simp [Ideal.ofBits, Ideal.ieee, -EReal.coe_mul]; norm_num
theorem cneg : (Ideal.ofBits .f32 0xBF000000#32 : EReal) = ((-(1 / 2) : ℝ) : EReal) := by
  simp [Ideal.ofBits, Ideal.ieee, -EReal.coe_mul]; norm_num

variable {V0 : Valuation τ sig (Elt Ideal)} {d a g w : ℕ → Fin 512 → ℝ} {b gw gb : Fin 512 → ℝ}
variable (H : Args V0 d a g w b gw gb)
include H

theorem v0_at (n : Fin 2048) (q : Fin 512) : res_main_v0 V0 (ix2 n q) = ((a n q : ℝ) : EReal) := by
  pointwise [res_main_v0]
  exact H.a n q

theorem v8_at (n : Fin 2048) (q : Fin 512) : res_main_v8 V0 (ix2 n q) = ((sg (g n q) : ℝ) : EReal) := by
  pointwise [res_main_v8]
  refine Eq.trans ?_ (sig_div (g n q))
  exact congrArg (fun x => Ideal.div 1 (1 + Ideal.exp (-x))) (H.g n q)

theorem v13_at (p : Fin 2078) (q : Fin 512) : res_main_v13 V0 (ix2 p q) = ((ux a g (p + 2) q : ℝ) : EReal) := by
  pointwise [res_main_v13]
  by_cases h : (p : ℕ) < 30
  · rw [dif_pos h, ux, if_pos (by omega)]
    rfl
  · rw [dif_neg h, ux_ge a g p q (by omega), v0_at H, v8_at H, ← EReal.coe_mul]

set_option maxHeartbeats 1600000 in
theorem v173_at (n : Fin 2048) (i : Fin 8) (e : Fin 64) : res_main_v173 V0 (ix3 n i e) = ((conv a g w b n (chan i e) : ℝ) : EReal) := by
  pointwise [res_main_v173, res_main_v15, res_main_v16, res_main_v21, res_main_v22, res_main_v26, res_main_v27, res_main_v31, res_main_v32, res_main_v36, res_main_v37,
    res_main_v41, res_main_v42, res_main_v46, res_main_v47, res_main_v51, res_main_v52, res_main_v56, res_main_v57, res_main_v61, res_main_v62,
    res_main_v66, res_main_v67, res_main_v71, res_main_v72, res_main_v76, res_main_v77, res_main_v81, res_main_v82, res_main_v86, res_main_v87,
    res_main_v91, res_main_v92, res_main_v96, res_main_v97, res_main_v101, res_main_v102, res_main_v106, res_main_v107, res_main_v111,
    res_main_v112, res_main_v116, res_main_v117, res_main_v121, res_main_v122, res_main_v126, res_main_v127, res_main_v131, res_main_v132,
    res_main_v136, res_main_v137, res_main_v141, res_main_v142, res_main_v146, res_main_v147, res_main_v151, res_main_v152, res_main_v156,
    res_main_v157, res_main_v161, res_main_v162, res_main_v166, res_main_v167]
  simp only [H.w, H.b, v13_at H, ← EReal.coe_mul, ← EReal.coe_add]
  simp only [conv, Finset.sum_range_succ, Finset.sum_range_zero, zero_add]
  rfl

theorem v177_at (n : Fin 2048) (i : Fin 8) (e : Fin 64) : res_main_v177 V0 (ix3 n i 0) = ((gmean (conv a g w b n) (chan i e) : ℝ) : EReal) := by
  pointwise [res_main_v177]
  simp only [v173_at H, coe_sum, c64]
  rw [Ideal.div_coe (by norm_num), ← EReal.coe_mul, gmean, gsum_chan, mul_one_div]

theorem v188_at (n : Fin 2048) (i : Fin 8) (e : Fin 64) : res_main_v188 V0 (ix3 n i e) = ((dlt (conv a g w b n) (chan i e) : ℝ) : EReal) := by
  pointwise [res_main_v188]
  rw [v173_at H, v177_at H n i e, ← EReal.coe_sub, dlt]

theorem v179_at (n : Fin 2048) (i : Fin 8) (e : Fin 64) : res_main_v179 V0 (ix3 n i e) = ((dlt (conv a g w b n) (chan i e) : ℝ) : EReal) :=
  v188_at H n i e

theorem v190_at (n : Fin 2048) (i : Fin 8) (e : Fin 64) : res_main_v190 V0 (ix3 n i 0) = ((vare eps (conv a g w b n) (chan i e) : ℝ) : EReal) := by
  pointwise [res_main_v190]
  simp only [v179_at H, ← EReal.coe_mul, coe_sum, c64, eps_coe]
  rw [Ideal.div_coe (by norm_num), ← EReal.coe_mul, ← EReal.coe_add, vare, gmean, gsum_chan, mul_one_div]

theorem v191_at (n : Fin 2048) (i : Fin 8) (e : Fin 64) : res_main_v191 V0 (ix3 n i 0) = ((rstd eps (conv a g w b n) (chan i e) : ℝ) : EReal) := by
  pointwise [res_main_v191]
  rw [v190_at H n i e]
  exact rsqrt_pos (vare_pos eps _ _ eps_pos)

theorem v197_at (n : Fin 2048) (q : Fin 512) : res_main_v197 V0 (ix2 n q) = ((un eps (conv a g w b n) q : ℝ) : EReal) := by
  pointwise [res_main_v197]
  rw [v188_at H, v191_at H n _ ⟨(q : ℕ) % 64, by omega⟩, chan_split, ← EReal.coe_mul, un]

theorem v201_at (n : Fin 2048) (q : Fin 512) : res_main_v201 V0 (ix2 n q) = ((act eps (conv a g w b n) gw gb q : ℝ) : EReal) := by
  pointwise [res_main_v201]
  rw [v197_at H, H.gw, H.gb, ← EReal.coe_mul, ← EReal.coe_add, act]

theorem v202_at (n : Fin 2048) (q : Fin 512) : res_main_v202_2 V0 (ix2 n q) = ((sg (act eps (conv a g w b n) gw gb q) : ℝ) : EReal) := by
  pointwise [res_main_v202_2]
  rw [v201_at H, sig_div]

theorem v203_at (n : Fin 2048) (q : Fin 512) : res_main_v203 V0 (ix2 n q) = ((dact eps (conv a g w b n) gw gb (d n) q : ℝ) : EReal) := by
  pointwise [res_main_v203]
  rw [v201_at H, v202_at H, H.d, ← EReal.coe_one]
  simp only [← EReal.coe_mul, ← EReal.coe_add, ← EReal.coe_sub]
  rw [dact]
  congr 1
  ring

theorem v211_at (n : Fin 2048) (i : Fin 8) (e : Fin 64) : res_main_v211 V0 (ix3 n i e) = ((dun eps (conv a g w b n) gw gb (d n) (chan i e) : ℝ) : EReal) := by
  pointwise [res_main_v211]
  rw [v203_at H, H.gw, ← EReal.coe_mul]
  rfl

theorem v216_at (n : Fin 2048) (i : Fin 8) (e : Fin 64) : res_main_v216 V0 (ix3 n i e)
    = ((dun eps (conv a g w b n) gw gb (d n) (chan i e) * rstd eps (conv a g w b n) (chan i e) : ℝ) : EReal) := by
  pointwise [res_main_v216]
  rw [v211_at H, v191_at H n i e, ← EReal.coe_mul]

theorem v225_at (n : Fin 2048) (i : Fin 8) (e : Fin 64) : res_main_v225 V0 (ix3 n i e)
    = ((gsum (fun j => dlt (conv a g w b n) j * dun eps (conv a g w b n) gw gb (d n) j) (chan i e)
        * (-(1 / 2) * (rstd eps (conv a g w b n) (chan i e) / vare eps (conv a g w b n) (chan i e))) / 64 * (2 * dlt (conv a g w b n) (chan i e)) : ℝ) : EReal) := by
  pointwise [res_main_v225]
  have h1 : ∀ x : Fin 1, res_main_v191 V0 (ix3 n i x) = ((rstd eps (conv a g w b n) (chan i e) : ℝ) : EReal) := fun x => by rw [Subsingleton.elim x 0]; exact v191_at H n i e
  have h2 : ∀ x : Fin 1, res_main_v190 V0 (ix3 n i x) = ((vare eps (conv a g w b n) (chan i e) : ℝ) : EReal) := fun x => by rw [Subsingleton.elim x 0]; exact v190_at H n i e
  simp only [v188_at H, v211_at H, v179_at H, h1, h2, ← EReal.coe_mul, coe_sum, c64, c2, cneg]
  rw [Finset.sum_const, Finset.card_univ, Fintype.card_fin, one_smul]
  rw [Ideal.div_coe (vare_pos eps _ _ eps_pos).ne', ← EReal.coe_mul, ← EReal.coe_mul, ← EReal.coe_mul, Ideal.div_coe (by norm_num), ← EReal.coe_mul, ← EReal.coe_mul]
  rw [gsum_chan]
  simp only [mul_one_div]

theorem v236_at (n : Fin 2048) (q : Fin 512) : res_main_v236 V0 (ix2 n q) = ((drow eps (conv a g w b n) gw gb (d n) q : ℝ) : EReal) := by
  pointwise [res_main_v236]
  simp only [v216_at H, v225_at H, ← EReal.coe_neg, coe_sum, c64, ← EReal.coe_add]
  rw [Finset.sum_const, Finset.card_univ, Fintype.card_fin, one_smul, Ideal.div_coe (by norm_num), ← EReal.coe_mul, ← EReal.coe_add, mul_one_div]
  have hm : ∀ x, chan ⟨(q : ℕ) / 64, by omega⟩ x = mate q x := fun x => rfl
  simp only [chan_split]
  simp only [hm]
  rw [drow, ← drow_eq eps (conv a g w b n) q eps_pos (dun eps (conv a g w b n) gw gb (d n))]
  simp only [gsum, mate_mate, rstd_mate, vare_mate]

end Cert.Conf.Plain

end
-- ==== Proof.Final.lean ====
/- The kernel's two result arrays, over the reals. -/
module
public import proofs.«01_k».proof.Proof.Whole

@[expose] public section

set_option maxRecDepth 16384

noncomputable section
namespace Cert.Conf
open Idealize.ShloMosaic Idealize.ShloMosaic.TcCoe Idealize.SL.Sem
open Cert.KernelIdeal Cert.KernelIdeal.Gen

section
variable (d a g w : ℕ → Fin 512 → ℝ) (b gw gb : Fin 512 → ℝ)

/-- The gradient at the two halves of the branch's input: of the value, then of its gate. -/
def grad (n j : ℕ) : ℝ :=
  if h : j < 512 then du d a g w b gw gb n ⟨j, h⟩ * sg (g n ⟨j, h⟩)
  else if h : j - 512 < 512 then du d a g w b gw gb n ⟨j - 512, h⟩ * a n ⟨j - 512, h⟩ * sg (g n ⟨j - 512, h⟩) * (1 - sg (g n ⟨j - 512, h⟩))
  else 0

theorem grad_lo (n : ℕ) (q : Fin 512) : grad d a g w b gw gb n q = du d a g w b gw gb n q * sg (g n q) := dif_pos q.isLt
theorem grad_hi (n : ℕ) (q : Fin 512) : grad d a g w b gw gb n (512 + q) = du d a g w b gw gb n q * a n q * sg (g n q) * (1 - sg (g n q)) := by
  have e : (512 + (q : ℕ)) - 512 = q := by omega
  rw [grad, dif_neg (by omega), dif_pos (by omega)]
  simp only [e]
end

variable {m : (ℓ : Loc nD τ sig) → Buf (Elt Ideal) ℓ} {c : Dev nD} {d a g w : ℕ → Fin 512 → ℝ} {b gw gb : Fin 512 → ℝ}
variable (H : Reals m c d a g w b gw gb)
include H

theorem result0 : (dats m 0 c).arrAt 9 cfg0.N = fun i => ((grad d a g w b gw gb (i 0) (i 1) : ℝ) : EReal) := by
  refine (dats m 0 c).arrAt_eq_of_covers 9 _ (by decide +kernel) fun t hf y => ?_
  have ht := (idx t).2.2.2.2.2
  blk_simp
  rw [after0_9, (idx t).2.2.1]
  obtain ⟨r, j, rfl⟩ : ∃ (r : Fin 256) (j : Fin 1024), y = ix2 r j := ⟨y 0, y 1, by funext a; fin_cases a <;> rfl⟩
  show (outsAt0 m c t.val t.isLt).1 (ix2 r j) = ((grad d a g w b gw gb ((7 - t.val) * 256 + r) (0 * 1024 + j) : ℝ) : EReal)
  rw [zero_mul, zero_add]
  by_cases hj : (j : ℕ) < 512
  · refine ((tile_du H t r ⟨j, hj⟩).1).trans (congrArg Real.toEReal (grad_lo d a g w b gw gb _ ⟨j, hj⟩).symm)
  · obtain ⟨q, hq⟩ : ∃ q : Fin 512, (j : ℕ) = 512 + q := ⟨⟨(j : ℕ) - 512, by omega⟩, by show (j : ℕ) = 512 + (j - 512); omega⟩
    obtain rfl : j = ⟨512 + (q : ℕ), Nat.add_lt_add_left q.isLt 512⟩ := Fin.ext hq
    exact ((tile_du H t r q).2).trans (congrArg Real.toEReal (grad_hi d a g w b gw gb _ q).symm)

theorem result1 : (dats m 0 c).arrAt 10 cfg0.N = fun i => ((stats d a g w b gw gb (i 0) (i 1) : ℝ) : EReal) := by
  refine (dats m 0 c).arrAt_eq_of_after_last 10 t0_7 (by decide +kernel) _ fun j => ?_
  blk_simp
  rw [after0_10]
  obtain ⟨k, q, rfl⟩ : ∃ (k : Fin 40) (q : Fin 512), j = ix2 k q := ⟨j 0, j 1, by funext a; fin_cases a <;> rfl⟩
  refine (stats_upto H t0_7.val t0_7.isLt k q).trans ?_
  exact congrArg Real.toEReal (sum_tiles (fun n => share d a g w b gw gb k n q) 8)

end Cert.Conf

end
-- ==== Proof.RefOut.lean ====
/- The reference's two results at real arguments. -/
module
public import proofs.«01_k».proof.Proof.Ref
public import proofs.«01_k».proof.Proof.Final

@[expose] public section

set_option maxRecDepth 16384

noncomputable section
namespace Cert.Conf.Plain
open Idealize.ShloMosaic Idealize.ShloMosaic.TcCoe Idealize.SL.Sem
open Cert.ReferenceIdeal Cert.ReferenceIdeal.Gen Cert.ReferenceIdeal.Value

theorem grad_ge (d a g w : ℕ → Fin 512 → ℝ) (b gw gb : Fin 512 → ℝ) (n j : ℕ) (h : ¬ j < 512) (h' : j - 512 < 512) : grad d a g w b gw gb n j
    = du d a g w b gw gb n ⟨j - 512, h'⟩ * a n ⟨j - 512, h'⟩ * sg (g n ⟨j - 512, h'⟩) * (1 - sg (g n ⟨j - 512, h'⟩)) := by
  rw [grad, dif_neg h, dif_pos h']

variable {V0 : Valuation τ sig (Elt Ideal)} {d a g w : ℕ → Fin 512 → ℝ} {b gw gb : Fin 512 → ℝ}
variable (H : Args V0 d a g w b gw gb)
include H

theorem dy_at (n : ℕ) (hn : n < 2048) (q : Fin 512) : res_main_v236 V0 (ix2 ⟨n, hn⟩ q) = ((dy d a g w b gw gb n q : ℝ) : EReal) := by
  rw [dy, if_pos hn]
  exact v236_at H ⟨n, hn⟩ q

/-- One tap's part of the gradient at the input, where the padded rows are zero. -/
theorem tap (n : Fin 2048) (q : Fin 512) (y : ℝ) (k : ℕ) (hk : k ≤ 30) :
    (if h : k ≤ 30 + (n : ℕ) ∧ 30 + (n : ℕ) - k < 2048 then (y : EReal) * res_main_v236 V0 (ix2 ⟨30 + (n : ℕ) - k, h.2⟩ q) else 0)
      = ((y * dy d a g w b gw gb (n + (30 - k)) q : ℝ) : EReal) := by
  have e : 30 + (n : ℕ) - k = n + (30 - k) := by omega
  by_cases h : 30 + (n : ℕ) - k < 2048
  · rw [dif_pos ⟨by omega, h⟩, dy_at H, ← EReal.coe_mul, e]
  · rw [dif_neg (by omega), dy, if_neg (by omega), mul_zero]
    rfl

theorem tap30 (n : Fin 2048) (q : Fin 512) (y : ℝ) : (y : EReal) * res_main_v236 V0 (ix2 n q) = ((y * dy d a g w b gw gb (n + (30 - 30)) q : ℝ) : EReal) := by
  rw [EReal.coe_mul]
  exact congrArg ((y : EReal) * ·) (dy_at H n n.isLt q)

theorem tap0 (n : Fin 2048) (q : Fin 512) (y : ℝ) :
    (if h : 30 + (n : ℕ) < 2048 then (y : EReal) * res_main_v236 V0 (ix2 ⟨30 + (n : ℕ), h⟩ q) else 0)
      = ((y * dy d a g w b gw gb (n + (30 - 0)) q : ℝ) : EReal) := by
  refine Eq.trans ?_ (tap H n q y 0 (by omega))
  by_cases h : 30 + (n : ℕ) < 2048
  · rw [dif_pos h, dif_pos ⟨by omega, h⟩]
    rfl
  · rw [dif_neg h, dif_neg (by omega)]

set_option maxHeartbeats 1600000 in
theorem v517_at (n : Fin 2048) (q : Fin 512) : res_main_v517 V0 (ix2 n q) = ((du d a g w b gw gb n q : ℝ) : EReal) := by
  pointwise [res_main_v517, res_main_v513, res_main_v396, res_main_v15, res_main_v21, res_main_v26, res_main_v31, res_main_v36, res_main_v41, res_main_v46, res_main_v51, res_main_v56, res_main_v61,
    res_main_v66, res_main_v71, res_main_v76, res_main_v81, res_main_v86, res_main_v91, res_main_v96, res_main_v101, res_main_v106,
    res_main_v111, res_main_v116, res_main_v121, res_main_v126, res_main_v131, res_main_v136, res_main_v141, res_main_v146, res_main_v151,
    res_main_v156, res_main_v161, res_main_v166]
  simp only [H.w, tap H n q, tap0 H n q, tap30 H n q, Nat.reduceLeDiff]
  rw [du, ← Finset.sum_range_reflect]
  simp only [Finset.sum_range_succ, Finset.sum_range_zero, zero_add, EReal.coe_add]
  rfl

omit H in
/-- A row of the weights' gradient is where its padding puts it. -/
theorem padded (S : ℕ → ℝ) (k j : ℕ) : (if h : j ≤ k ∧ k - j < 1 then ((S j : ℝ) : EReal) else 0) = ((if k = j then S k else 0 : ℝ) : EReal) := by
  by_cases h : k = j
  · rw [dif_pos (by omega), if_pos h, h]
  · rw [dif_neg (by omega), if_neg h]
    rfl

omit H in
theorem padded0 (S : ℕ → ℝ) (k : ℕ) : (if h : k < 1 then ((S 0 : ℝ) : EReal) else 0) = ((if k = 0 then S k else 0 : ℝ) : EReal) := by
  refine Eq.trans ?_ (padded S k 0)
  by_cases h : k < 1
  · rw [dif_pos h, dif_pos (by omega)]
  · rw [dif_neg h, dif_neg (by omega)]

theorem taps_at (k : Fin 31) (q : Fin 512) :
    addf (res_main_v506 V0) (pad S31x512 ![0, 0] ![30, 0] ![0, 0] (shapeCast _ (Host.reduceAdd (mulf (res_main_v236 V0) (res_main_v16 V0)) (constant S_ .f32 0x00000000#32) reducesTo_S2048x512_S512_d0 h_S_) shapeCasts_S512_S1x512) (constant S_ .f32 0x00000000#32) pads_S1x512_S31x512_0300_000 h_S_) (ix2 k q)
      = ((stats d a g w b gw gb k q : ℝ) : EReal) := by
  have hs : stats d a g w b gw gb k q = ∑ n ∈ Finset.range 2048, dy d a g w b gw gb n q * ux a g (k + n + 2) q := by
    unfold stats share
    simp only [if_pos k.isLt]
  have hd : ∀ x : Fin 2048, res_main_v236 V0 (ix2 x q) = ((dy d a g w b gw gb x q : ℝ) : EReal) := fun x => dy_at H x x.isLt q
  have hp := padded (fun j => ∑ x : Fin 2048, dy d a g w b gw gb x q * ux a g (j + x + 2) q) k
  have hp0 := padded0 (fun j => ∑ x : Fin 2048, dy d a g w b gw gb x q * ux a g (j + x + 2) q) k
  simp only [zero_add] at hp0
  have hsum : ∀ S : ℝ, ∑ j ∈ Finset.range 31, (if (k : ℕ) = j then S else 0) = S := fun S => by
    rw [Finset.sum_ite_eq, if_pos (Finset.mem_range.2 k.isLt)]
  pointwise [res_main_v506, res_main_v371, res_main_v16, res_main_v22, res_main_v27, res_main_v32, res_main_v37, res_main_v42, res_main_v47, res_main_v52, res_main_v57, res_main_v62,
    res_main_v67, res_main_v72, res_main_v77, res_main_v82, res_main_v87, res_main_v92, res_main_v97, res_main_v102, res_main_v107,
    res_main_v112, res_main_v117, res_main_v122, res_main_v127, res_main_v132, res_main_v137, res_main_v142, res_main_v147, res_main_v152,
    res_main_v157, res_main_v162, res_main_v167]
  simp only [hd, v13_at H, ← EReal.coe_mul, coe_sum, hp, hp0]
  rw [hs, Finset.sum_range]
  generalize (∑ x : Fin 2048, dy d a g w b gw gb x q * ux a g (k + x + 2) q : ℝ) = S
  refine Eq.trans ?_ (congrArg Real.toEReal ((Finset.sum_range_reflect (fun j => if (k : ℕ) = j then S else 0) 31).trans (hsum S)))
  simp only [Finset.sum_range_succ, Finset.sum_range_zero, zero_add, EReal.coe_add, Nat.reduceSub]

/-- The reference's first result: the gradient at the branch's input. -/
theorem ref0 : (truncf .bf16 (concatenate S2048x1024 1 [⟨S2048x512, (mulf (res_main_v517 V0) (res_main_v8 V0))⟩, ⟨S2048x512, (mulf (mulf (res_main_v0 V0) (res_main_v517 V0)) (mulf (res_main_v8 V0) (subf (broadcastInDim S2048x512 ![] bcast_S_S2048x512 (constant S_ .f32 0x3F800000#32)) (res_main_v8 V0))))⟩] concatenates_S2048x512_S2048x512_S2048x1024_d1) bitsLt_bf16_f32 : (⟨S2048x1024, .bf16⟩ : BufTy).Contents (Elt Ideal))
    = fun i => ((grad d a g w b gw gb (i 0) (i 1) : ℝ) : EReal) := by
  refine funext fun i => ?_
  obtain ⟨n, j, rfl⟩ : ∃ (n : Fin 2048) (j : Fin 1024), i = ix2 n j := ⟨i 0, i 1, by funext a; fin_cases a <;> rfl⟩
  show _ = ((grad d a g w b gw gb n j : ℝ) : EReal)
  pointwise []
  by_cases hj : (j : ℕ) < 512
  · rw [dif_pos hj, v517_at H, v8_at H, ← EReal.coe_mul]
    exact congrArg Real.toEReal (grad_lo d a g w b gw gb n ⟨j, hj⟩).symm
  · rw [dif_neg hj, v517_at H, v8_at H, v0_at H, ← EReal.coe_one, ← EReal.coe_sub, ← EReal.coe_mul, ← EReal.coe_mul, ← EReal.coe_mul]
    refine congrArg Real.toEReal (Eq.trans ?_ (grad_ge d a g w b gw gb n j hj (by omega)).symm)
    ring

/-- The reference's second result: the gradients of the branch's parameters, a row each. -/
theorem ref1 : (concatenate S40x512 0 [⟨S31x512, ((addf (res_main_v506 V0) (pad S31x512 ![0, 0] ![30, 0] ![0, 0] (shapeCast _ (Host.reduceAdd (mulf (res_main_v236 V0) (res_main_v16 V0)) (constant (F := Ideal) S_ .f32 0x00000000#32) reducesTo_S2048x512_S512_d0 h_S_) shapeCasts_S512_S1x512) (constant (F := Ideal) S_ .f32 0x00000000#32) pads_S1x512_S31x512_0300_000 h_S_)) : (⟨S31x512, .f32⟩ : BufTy).Contents (Elt Ideal))⟩, ⟨S1x512, ((shapeCast _ (Host.reduceAdd (res_main_v236 V0) (constant (F := Ideal) S_ .f32 0x00000000#32) reducesTo_S2048x512_S512_d0 h_S_) shapeCasts_S512_S1x512) : (⟨S1x512, .f32⟩ : BufTy).Contents (Elt Ideal))⟩, ⟨S1x512, ((shapeCast _ (Host.reduceAdd (mulf (res_main_v197 V0) (res_main_v203 V0)) (constant (F := Ideal) S_ .f32 0x00000000#32) reducesTo_S2048x512_S512_d0 h_S_) shapeCasts_S512_S1x512) : (⟨S1x512, .f32⟩ : BufTy).Contents (Elt Ideal))⟩, ⟨S1x512, ((shapeCast _ (Host.reduceAdd (res_main_v203 V0) (constant (F := Ideal) S_ .f32 0x00000000#32) reducesTo_S2048x512_S512_d0 h_S_) shapeCasts_S512_S1x512) : (⟨S1x512, .f32⟩ : BufTy).Contents (Elt Ideal))⟩, ⟨S6x512, ((broadcastInDim S6x512 ![] bcast_S_S6x512 (constant (F := Ideal) S_ .f32 0x00000000#32)) : (⟨S6x512, .f32⟩ : BufTy).Contents (Elt Ideal))⟩] concatenates_S31x512_S1x512_S1x512_S1x512_S6x512_S40x512_d0 : (⟨S40x512, .f32⟩ : BufTy).Contents (Elt Ideal))
    = fun i => ((stats d a g w b gw gb (i 0) (i 1) : ℝ) : EReal) := by
  have ht := taps_at H
  generalize addf (res_main_v506 V0) _ = X at ht ⊢
  refine funext fun i => ?_
  obtain ⟨k, q, rfl⟩ : ∃ (k : Fin 40) (q : Fin 512), i = ix2 k q := ⟨i 0, i 1, by funext a; fin_cases a <;> rfl⟩
  show _ = ((stats d a g w b gw gb k q : ℝ) : EReal)
  pointwise []
  have hd : ∀ x : Fin 2048, res_main_v236 V0 (ix2 x q) = ((dy d a g w b gw gb x q : ℝ) : EReal) := fun x => dy_at H x x.isLt q
  simp only [hd, v197_at H, v203_at H, ← EReal.coe_mul, coe_sum]
  by_cases h : (k : ℕ) < 31
  · rw [dif_pos h]
    exact ht ⟨k, h⟩ q
  rw [dif_neg h, stats, Finset.sum_range]
  by_cases h1 : (k : ℕ) = 31
  · rw [dif_pos (by omega)]
    simp only [share, if_neg h, if_pos h1]
  rw [dif_neg (by omega)]
  by_cases h2 : (k : ℕ) = 32
  · rw [dif_pos (by omega)]
    simp only [share, if_neg h, if_neg h1, if_pos h2, mul_comm (un _ _ _)]
  rw [dif_neg (by omega)]
  by_cases h3 : (k : ℕ) = 33
  · rw [dif_pos (by omega)]
    simp only [share, if_neg h, if_neg h1, if_neg h2, if_pos h3]
  rw [dif_neg (by omega)]
  simp only [share, if_neg h, if_neg h1, if_neg h2, if_neg h3, Finset.sum_const_zero]
  rfl

end Cert.Conf.Plain

end
-- ==== Proof.Finite.lean ====
/- The precondition says that every element of the arguments is a real number. -/
module
public import proofs.«01_k».proof.Proof.RefOut
public import proofs.«01_k».proof.Proof.Gen.Pre_finite
public import proofs.«01_k».proof.Defs
public import Idealize.ShloMosaic.Lib.ReduceAll

@[expose] public section

set_option maxRecDepth 16384

noncomputable section
namespace Cert.Conf
open Idealize.ShloMosaic Idealize.ShloMosaic.TcCoe Idealize.SL.Sem

instance : Subsingleton Cert.Pre_finite.S_.Idx := ⟨fun a b => funext fun k => k.elim0⟩

/-- An extended real whose difference with itself is zero is a real. -/
theorem real_of_sub (x : EReal) (h : x - x = 0) : x = ((x.toReal : ℝ) : EReal) := by
  induction x using EReal.rec with
  | bot => exact absurd h (by decide)
  | top => exact absurd h (by decide)
  | coe r => rfl

theorem and_parts {p q : IVec Cert.Pre_finite.S_ 1} {j : Cert.Pre_finite.S_.Idx} (h : andi p q j = 1#1) : p j = 1#1 ∧ q j = 1#1 := by
  have : ∀ c d : BitVec 1, IntOp.andi c d = 1#1 → c = 1#1 ∧ d = 1#1 := by decide
  exact this _ _ h

/-- One argument's part of the precondition. -/
theorem real_of_fold {s : Shape} {axes : List (Fin s.rank)} (x : FVec Ideal s .f32) (hb : Cert.Pre_finite.S_.BroadcastsInDim s (![] : Fin 0 → Fin s.rank)) (hr : s.ReducesTo axes Cert.Pre_finite.S_)
    (h0 : 0 < Cert.Pre_finite.S_.numel) (j : Cert.Pre_finite.S_.Idx)
    (e : Host.reduce IntOp.andi (cmpf .oeq (subf x x) (broadcastInDim s ![] hb (constant (F := Ideal) Cert.Pre_finite.S_ .f32 0x00000000#32))) (constantI Cert.Pre_finite.S_ 1 1#1) hr h0 j = 1#1)
    (i : s.Idx) : (x i : EReal) = (((x i : EReal).toReal : ℝ) : EReal) := by
  have h := Host.reduce_andi_all _ _ hr h0 j e i
  refine real_of_sub _ ?_
  pointwise [] at h
  have : ∀ b : Bool, BitVec.ofBool b = 1#1 → b = true := by decide
  exact of_decide_eq_true (this _ h)

/-- The precondition, decoded: every element of every argument is a real. -/
theorem all_real (x0 : FVec Ideal Cert.Pre_finite.S2048x512 .f32) (x1 : FVec Ideal Cert.Pre_finite.S2048x3072 .f32) (x2 : FVec Ideal Cert.Pre_finite.S31x512 .f32)
    (x3 x4 x5 : FVec Ideal Cert.Pre_finite.S1x512 .f32) (h : Cert.Pre_finite.fn (F := Ideal) x0 x1 x2 x3 x4 x5 = fun _ => 1#1) :
    (∀ i, (x0 i : EReal) = (((x0 i : EReal).toReal : ℝ) : EReal)) ∧ (∀ i, (x1 i : EReal) = (((x1 i : EReal).toReal : ℝ) : EReal))
    ∧ (∀ i, (x2 i : EReal) = (((x2 i : EReal).toReal : ℝ) : EReal)) ∧ (∀ i, (x3 i : EReal) = (((x3 i : EReal).toReal : ℝ) : EReal))
    ∧ (∀ i, (x4 i : EReal) = (((x4 i : EReal).toReal : ℝ) : EReal)) ∧ (∀ i, (x5 i : EReal) = (((x5 i : EReal).toReal : ℝ) : EReal)) := by
  have h := congrFun h (fun k => k.elim0)
  unfold Cert.Pre_finite.fn Cert.Pre_finite.fn_part1 at h
  obtain ⟨h, h5⟩ := and_parts h
  obtain ⟨h, h4⟩ := and_parts h
  obtain ⟨h, h3⟩ := and_parts h
  obtain ⟨h, h2⟩ := and_parts h
  obtain ⟨h0, h1⟩ := and_parts h
  exact ⟨real_of_fold x0 _ _ _ _ h0, real_of_fold x1 _ _ _ _ h1, real_of_fold x2 _ _ _ _ h2, real_of_fold x3 _ _ _ _ h3, real_of_fold x4 _ _ _ _ h4, real_of_fold x5 _ _ _ _ h5⟩

/-- Under the precondition the arguments are reals. -/
theorem reals_of_finite (m : (ℓ : Loc Cert.KernelIdeal.nD Cert.KernelIdeal.τ Cert.KernelIdeal.sig) → Buf (Elt Ideal) ℓ) (h : Cert.Pre_KernelIdeal_finite m) (c : Dev Cert.KernelIdeal.nD) :
    ∃ (d a g w : ℕ → Fin 512 → ℝ) (b gw gb : Fin 512 → ℝ), Reals m c d a g w b gw gb := by
  obtain ⟨h0, h1, h2, h3, h4, h5⟩ := all_real _ _ _ _ _ _ (h c)
  refine ⟨fun n q => if hn : n < 2048 then (m ((c : Thread Cert.KernelIdeal.nD Cert.KernelIdeal.τ).loc Cert.KernelIdeal.main_arg0) (ix2 ⟨n, hn⟩ q) : EReal).toReal else 0,
    fun n q => if hn : n < 2048 then (m ((c : Thread Cert.KernelIdeal.nD Cert.KernelIdeal.τ).loc Cert.KernelIdeal.main_arg1) (ix2 ⟨n, hn⟩ ⟨q, by omega⟩) : EReal).toReal else 0,
    fun n q => if hn : n < 2048 then (m ((c : Thread Cert.KernelIdeal.nD Cert.KernelIdeal.τ).loc Cert.KernelIdeal.main_arg1) (ix2 ⟨n, hn⟩ ⟨512 + q, by omega⟩) : EReal).toReal else 0,
    fun k q => if hk : k < 31 then (m ((c : Thread Cert.KernelIdeal.nD Cert.KernelIdeal.τ).loc Cert.KernelIdeal.main_arg2) (ix2 ⟨k, hk⟩ q) : EReal).toReal else 0,
    fun q => (m ((c : Thread Cert.KernelIdeal.nD Cert.KernelIdeal.τ).loc Cert.KernelIdeal.main_arg3) (ix2 0 q) : EReal).toReal,
    fun q => (m ((c : Thread Cert.KernelIdeal.nD Cert.KernelIdeal.τ).loc Cert.KernelIdeal.main_arg4) (ix2 0 q) : EReal).toReal,
    fun q => (m ((c : Thread Cert.KernelIdeal.nD Cert.KernelIdeal.τ).loc Cert.KernelIdeal.main_arg5) (ix2 0 q) : EReal).toReal,
    ⟨fun n q => ?_, fun n q => ?_, fun n q => ?_, fun k q => ?_, fun q => h3 _, fun q => h4 _, fun q => h5 _⟩⟩
  · rw [dif_pos n.isLt]; exact h0 _
  · rw [dif_pos n.isLt]; exact h1 _
  · rw [dif_pos n.isLt]; exact h1 _
  · rw [dif_pos k.isLt]; exact h2 _

end Cert.Conf

end
-- ==== Proof.ConfFwd.lean ====
/- The forward convolution call: what one grid point leaves in its two blocks, what it leaves in the rows it carries, and the two results put together from the points. -/
module
public import proofs.«01_k».proof.Proof.RefOut
public import proofs.«01_k».proof.Proof.Finite
public import proofs.«01_k».proof.Proof.Gen.Kernel20Ideal.Value

@[expose] public section

set_option maxRecDepth 16384

noncomputable section
namespace Cert.ConfFwd
open Idealize.ShloMosaic Idealize.ShloMosaic.TcCoe Idealize.SL.Sem
open Cert.Conf
open Cert.Kernel20Ideal Cert.Kernel20Ideal.Gen

/-- The averaging matrix as this kernel makes it. -/
theorem pm_at (v : IVec S512x512 32) (hv : v = iota .tc S512x512 32 [1] iota_S512x512_d1_w32) (j c : Fin 512) :
    k0_pay24 (F := Ideal) k0_pay22 v 64#32 k0_pay23 (ix2 j c) = ((avg j c : ℝ) : EReal) := by
  subst hv
  pointwise [k0_pay24, k0_pay22, k0_pay23]
  rw [group_word, group_word, inv64_coe]
  unfold avg
  by_cases h : (j : ℕ) / 64 = (c : ℕ) / 64
  · rw [h, if_pos rfl]; simp [IntOp.cmpi, Scalar.select]
  · rw [if_neg h]
    have : BitVec.ofNat 32 ((j : ℕ) / 64) ≠ BitVec.ofNat 32 ((c : ℕ) / 64) := by
      intro e
      have := congrArg BitVec.toNat e
      simp only [BitVec.toNat_ofNat] at this
      omega
    simp [IntOp.cmpi, Scalar.select, beq_eq_false_iff_ne.2 this]

section
variable (v : IVec S512x512 32) (hv : v = iota .tc S512x512 32 [1] iota_S512x512_d1_w32)
include hv
variable (Y : S256x512.Idx → EReal) (GW GB : S1x512.Idx → EReal) (y : Fin 256 → Fin 512 → ℝ) (gw gb : Fin 512 → ℝ)

theorem dlt_at (hY : ∀ r c, Y (ix2 r c) = ((y r c : ℝ) : EReal)) (r : Fin 256) (c : Fin 512) :
    k0_pay25 (F := Ideal) Y k0_pay22 v 64#32 k0_pay23 (ix2 r c) = ((dlt (y r) c : ℝ) : EReal) := by
  pointwise [k0_pay25]
  simp only [pm_at v hv]
  exact (congrArg (fun z : EReal => Y (ix2 r c) - z) (gm_at (fun j => Y (ix2 r j)) (y r) (hY r) c)).trans (by
    show Y (ix2 r c) - _ = _
    rw [hY, ← EReal.coe_sub]; rfl)

/-- The normalised and gated row. -/
theorem norm_at (hY : ∀ r c, Y (ix2 r c) = ((y r c : ℝ) : EReal)) (hW : ∀ c, GW (ix2 0 c) = ((gw c : ℝ) : EReal)) (hB : ∀ c, GB (ix2 0 c) = ((gb c : ℝ) : EReal))
    (r : Fin 256) (c : Fin 512) :
    k0_pay1 (F := Ideal) (k0_pay24 k0_pay22 v 64#32 k0_pay23)
      (k0_pay25 Y k0_pay22 v 64#32 k0_pay23)
      (k0_pay27 Y k0_pay22 v 64#32 k0_pay23)
      (k0_pay29 Y k0_pay22 v 64#32 k0_pay23)
      (k0_pay30 Y k0_pay22 v 64#32 k0_pay23)
      (constant (F := Ideal) S256x512 .f32 0x00000000#32) GW GB (ix2 r c)
      = ((act eps (y r) gw gb c * sg (act eps (y r) gw gb c) : ℝ) : EReal) := by
  pointwise [k0_pay1, k0_pay27, k0_pay29, k0_pay30, k0_pay28, k0_pay26]
  simp only [pm_at v hv, dlt_at v hv Y y hY, hW, hB]
  have h := gm_at (fun j => ((dlt (y r) j : ℝ) : EReal) * ((dlt (y r) j : ℝ) : EReal)) (fun j => dlt (y r) j * dlt (y r) j) (fun j => (EReal.coe_mul _ _).symm) c
  have h' : Ideal.rsqrt (((gmean (fun j => dlt (y r) j * dlt (y r) j) c : ℝ) : EReal) + Ideal.ofBits .f32 0x358637BD#32) = ((rstd eps (y r) c : ℝ) : EReal) := by
    rw [eps_coe, ← EReal.coe_add]; exact rsqrt_pos (vare_pos eps (y r) c eps_pos)
  rw [h, h', ← EReal.coe_mul, ← EReal.coe_mul, ← EReal.coe_add, Ideal.logistic_coe, ← EReal.coe_mul]
  rfl

end

/-- The first 32 rows of a buffer. -/
def top (P : S288x512.Idx → EReal) : S32x512.Idx → EReal :=
  fun i => P (ix2 ⟨i 0, by have := (i 0).isLt; change (i 0 : ℕ) < 32 at this; omega⟩ (i 1))

theorem read_above {sig' : RefSig} {κ : Kind} {sp : Space} (v : View sig' κ sp S288x512 .f32) (f : v.ty.Contents (Elt Ideal)) (D : S256x512.Idx → EReal) (inb) :
    v.read (Elt Ideal) (v.writes (Elt Ideal) f [⟨Rect.unit (s := S288x512) ![32, 0] ![256, 512] inb, D⟩]) = above (top (v.read (Elt Ideal) f)) D := by
  refine ext_rows fun p c => ?_
  by_cases h : (p : ℕ) < 32
  · refine Eq.trans ?_ (above_lt _ D p c h).symm
    rw [View.writes_cons]
    exact View.read_slice_write_of_not_mem _ _ _ _ (by
      rw [Rect.map_emb_univ]; exact not_mem_rows 32 256 inb p c (Or.inl h))
  · refine Eq.trans ?_ (above_ge _ D p c h).symm
    refine (congrArg _ (emb_rows 32 256 inb p ⟨(p : ℕ) - 32, by omega⟩ c (by show (p : ℕ) = 32 + (p - 32); omega)).symm).trans ?_
    exact View.read_writes_cons_emb ..

variable (m : (ℓ : Loc nD τ sig) → Buf (Elt Ideal) ℓ) (c : Dev nD)

/-- The gated input of the tile of point `t`. -/
def uTile (t : Fin cfg0.N) : S256x512.Idx → EReal := k0_pay3 (F := Ideal) (iblk m c 0 t) (iblk m c 1 t)

/-- The 32 rows above the tile. -/
def prevRows (t : Fin cfg0.N) : S32x512.Idx → EReal :=
  if t.val % 8 = 0 then k0_pay2 (F := Ideal) else top (outsAt0 m c (t.val - 1) (Nat.lt_of_le_of_lt (Nat.sub_le _ _) t.isLt)).2.2

/-- The tile's rows and the 32 above them. -/
def uBuf (t : Fin cfg0.N) : S288x512.Idx → EReal := above (prevRows m c t) (uTile m c t)

variable (t : Fin cfg0.N) (w e : ℕ → Fin 512 → ℝ) (b : Fin 512 → ℝ)

theorem block6 (hw : ∀ (k : Fin 31) q, iblk m c 2 t (ix2 k q) = ((w k q : ℝ) : EReal)) (hb : ∀ q, iblk m c 3 t (ix2 0 q) = ((b q : ℝ) : EReal))
    (hE : ∀ (p : Fin 288) (q : Fin 512), uBuf m c t (ix2 p q) = ((e p q : ℝ) : EReal)) (r : Fin 256) (q : Fin 512) :
    (outsAt0 m c t.val t.isLt).1 (ix2 r q) = ((∑ k ∈ Finset.range 31, w k q * e (2 + k + r) q + b q : ℝ) : EReal) := by
  have hu : above (prevRows m c t) (k0_pay3 (F := Ideal) (iblk m c 0 t) (iblk m c 1 t)) = uBuf m c t := rfl
  have hD : ∀ (r : Fin 256) (q : Fin 512), k0_pay3 (F := Ideal) (iblk m c 0 t) (iblk m c 1 t) (ix2 r q) = ((e (32 + r) q : ℝ) : EReal) := fun r q =>
    ((above_ge (prevRows m c t) (uTile m c t) ⟨32 + r, by omega⟩ q (by show ¬ 32 + (r : ℕ) < 32; omega)).trans (congrArg (fun n => uTile m c t (ix2 n q)) (Fin.ext (by show 32 + (r : ℕ) - 32 = r; omega)))).symm.trans
      (hE ⟨32 + r, by omega⟩ q)
  by_cases h : t.val % 8 = 0
  · have hp : k0_pay2 (F := Ideal) = prevRows m c t := (if_pos h).symm
    rw [outsAt0_A m c t h]
    frame_out
    simp only [readCov_above, View.readCov_cons_toLoadRect, k0_pay4, k0_pay5, k0_pay6, k0_pay7, k0_pay8, k0_pay9, k0_pay10, hp, hu]
    generalize uBuf m c t = B at hE ⊢
    repeat rw [readCov_rows3]
    repeat rw [ld_rows2]
    norm_num only
    pointwise [k0_pay11, k0_pay12, k0_pay13, k0_pay14, k0_pay15, k0_pay16, k0_pay17, k0_pay18, k0_pay19, k0_pay20]
    simp (disch := omega) only [rows3_at B e hE, rows2_at B e hE, hw, hb, hD, ← EReal.coe_mul, ← EReal.coe_add]
    simp only [Finset.sum_range_succ, Finset.sum_range_zero, zero_add, Fin.coe_ofNat_eq_mod, Fin.val_zero, Fin.val_one, Nat.reduceMod, Nat.reduceAdd]
    refine congrArg Real.toEReal ?_
    ring
  · have hp : top (outsAt0 m c (t.val - 1) (Nat.lt_of_le_of_lt (Nat.sub_le _ _) t.isLt)).2.2 = prevRows m c t := (if_neg h).symm
    rw [outsAt0_B m c t h]
    frame_out
    simp only [read_above, read_unread_whole, View.readCov_cons_toLoadRect, k0_pay4, k0_pay5, k0_pay6, k0_pay7, k0_pay8, k0_pay9, k0_pay10, hp, hu]
    generalize uBuf m c t = B at hE ⊢
    repeat rw [readCov_rows3]
    repeat rw [ld_rows2]
    norm_num only
    pointwise [k0_pay11, k0_pay12, k0_pay13, k0_pay14, k0_pay15, k0_pay16, k0_pay17, k0_pay18, k0_pay19, k0_pay20]
    simp (disch := omega) only [rows3_at B e hE, rows2_at B e hE, hw, hb, hD, ← EReal.coe_mul, ← EReal.coe_add]
    simp only [Finset.sum_range_succ, Finset.sum_range_zero, zero_add, Fin.coe_ofNat_eq_mod, Fin.val_zero, Fin.val_one, Nat.reduceMod, Nat.reduceAdd]
    refine congrArg Real.toEReal ?_
    ring

/-- The rows carried to the next point are the tile's last 32. -/
theorem carried (i : Fin 32) (q : Fin 512) : (outsAt0 m c t.val t.isLt).2.2 (ix2 ⟨i, by omega⟩ q) = uTile m c t (ix2 ⟨224 + i, by omega⟩ q) := by
  have hu : above (prevRows m c t) (k0_pay3 (F := Ideal) (iblk m c 0 t) (iblk m c 1 t)) = uBuf m c t := rfl
  have hB : uBuf m c t (ix2 ⟨256 + i, by omega⟩ q) = uTile m c t (ix2 ⟨224 + i, by omega⟩ q) := by
    refine (above_ge _ _ _ _ (by show ¬ 256 + (i : ℕ) < 32; omega)).trans (congrArg (fun n => uTile m c t (ix2 n q)) (Fin.ext ?_))
    show 256 + (i : ℕ) - 32 = 224 + i
    omega
  by_cases h : t.val % 8 = 0
  · have hp : k0_pay2 (F := Ideal) = prevRows m c t := (if_pos h).symm
    rw [outsAt0_A m c t h]
    frame_out
    simp only [readCov_above, hp, hu]
    refine (canon_hit 0 32 _ _ _ ⟨i, by omega⟩ i q (by simp)).trans ?_
    pointwise [k0_pay21]
    exact hB
  · have hp : top (outsAt0 m c (t.val - 1) (Nat.lt_of_le_of_lt (Nat.sub_le _ _) t.isLt)).2.2 = prevRows m c t := (if_neg h).symm
    rw [outsAt0_B m c t h]
    frame_out
    refine (canon_hit 0 32 _ _ _ ⟨i, by omega⟩ i q (by simp)).trans ?_
    pointwise [k0_pay21]
    refine (congrFun (View.readCov_eq_canon' ..) _).trans ((ld_rows _ 256 32 _ i q (by omega)).trans ?_)
    exact canon_hit 32 256 _ _ _ ⟨256 + i, by omega⟩ ⟨224 + i, by omega⟩ q (by show 256 + (i : ℕ) = 32 + (224 + i); omega)

theorem out7_eq : (outsAt0 m c t.val t.isLt).2.1 = k0_pay1 (F := Ideal) (k0_pay24 k0_pay22 (iota .tc S512x512 32 [1] iota_S512x512_d1_w32) 64#32 k0_pay23)
      (k0_pay25 (outsAt0 m c t.val t.isLt).1 k0_pay22 (iota .tc S512x512 32 [1] iota_S512x512_d1_w32) 64#32 k0_pay23)
      (k0_pay27 (outsAt0 m c t.val t.isLt).1 k0_pay22 (iota .tc S512x512 32 [1] iota_S512x512_d1_w32) 64#32 k0_pay23)
      (k0_pay29 (outsAt0 m c t.val t.isLt).1 k0_pay22 (iota .tc S512x512 32 [1] iota_S512x512_d1_w32) 64#32 k0_pay23)
      (k0_pay30 (outsAt0 m c t.val t.isLt).1 k0_pay22 (iota .tc S512x512 32 [1] iota_S512x512_d1_w32) 64#32 k0_pay23)
      (constant (F := Ideal) S256x512 .f32 0x00000000#32) (iblk m c 4 t) (iblk m c 5 t) := by
  by_cases h : t.val % 8 = 0
  · rw [outsAt0_A m c t h]
    frame_out
  · rw [outsAt0_B m c t h]
    frame_out

theorem idx : ∀ t : Fin cfg0.N, (win0_0.index t = ![t.val, 0] ∧ win0_1.index t = ![t.val, 1])
    ∧ (win0_2.index t = ![0, 0] ∧ win0_3.index t = ![0, 0] ∧ win0_4.index t = ![0, 0] ∧ win0_5.index t = ![0, 0])
    ∧ win0_6.index t = ![t.val, 0] ∧ win0_7.index t = ![t.val, 0] ∧ t.val < 8 :=
  (by decide +kernel : ∀ t : Fin grid0.N, _)

/-- The arguments are the reals `a g w b gw gb`. -/
structure Reals (m : (ℓ : Loc nD τ sig) → Buf (Elt Ideal) ℓ) (c : Dev nD) (a g w : ℕ → Fin 512 → ℝ) (b gw gb : Fin 512 → ℝ) : Prop where
  a : ∀ (n : Fin 2048) (q : Fin 512), m ((c : Thread nD τ).loc main_arg0) (ix2 n ⟨q, by omega⟩) = ((a n q : ℝ) : EReal)
  g : ∀ (n : Fin 2048) (q : Fin 512), m ((c : Thread nD τ).loc main_arg0) (ix2 n ⟨512 + q, by omega⟩) = ((g n q : ℝ) : EReal)
  w : ∀ (k : Fin 31) (q : Fin 512), m ((c : Thread nD τ).loc main_arg1) (ix2 k q) = ((w k q : ℝ) : EReal)
  b : ∀ q : Fin 512, m ((c : Thread nD τ).loc main_arg2) (ix2 0 q) = ((b q : ℝ) : EReal)
  gw : ∀ q : Fin 512, m ((c : Thread nD τ).loc main_arg3) (ix2 0 q) = ((gw q : ℝ) : EReal)
  gb : ∀ q : Fin 512, m ((c : Thread nD τ).loc main_arg4) (ix2 0 q) = ((gb q : ℝ) : EReal)

section
variable {m : (ℓ : Loc nD τ sig) → Buf (Elt Ideal) ℓ} {c : Dev nD} {a g w : ℕ → Fin 512 → ℝ} {b gw gb : Fin 512 → ℝ}
variable (H : Reals m c a g w b gw gb) (t : Fin cfg0.N)
include H

theorem blk2 (k : Fin 31) (q : Fin 512) : iblk m c 2 t (ix2 k q) = ((w k q : ℝ) : EReal) := by
  refine Eq.trans ?_ (H.w k q)
  blk_ext [iblk, V, idx t]

theorem blk3 (q : Fin 512) : iblk m c 3 t (ix2 0 q) = ((b q : ℝ) : EReal) := by
  refine Eq.trans ?_ (H.b q)
  blk_ext [iblk, V, idx t]

theorem blk4 (q : Fin 512) : iblk m c 4 t (ix2 0 q) = ((gw q : ℝ) : EReal) := by
  refine Eq.trans ?_ (H.gw q)
  blk_ext [iblk, V, idx t]

theorem blk5 (q : Fin 512) : iblk m c 5 t (ix2 0 q) = ((gb q : ℝ) : EReal) := by
  refine Eq.trans ?_ (H.gb q)
  blk_ext [iblk, V, idx t]

theorem uTile_at (r : Fin 256) (q : Fin 512) : uTile m c t (ix2 r q) = ((ux a g (t * 256 + 32 + r) q : ℝ) : EReal) := by
  have ht := (idx t).2.2.2.2
  have e0 : iblk m c 0 t (ix2 r q) = ((a (t * 256 + r) q : ℝ) : EReal) := by
    refine Eq.trans ?_ (H.a ⟨t * 256 + r, by omega⟩ q)
    blk_ext [iblk, V, idx t]
  have e1 : iblk m c 1 t (ix2 r q) = ((g (t * 256 + r) q : ℝ) : EReal) := by
    refine Eq.trans ?_ (H.g ⟨t * 256 + r, by omega⟩ q)
    blk_ext [iblk, V, idx t]
  unfold uTile
  pointwise [k0_pay3]
  rw [e0, e1, Ideal.logistic_coe, ← EReal.coe_mul, ux, if_neg (by omega)]
  have e : t.val * 256 + 32 + (r : ℕ) - 32 = t.val * 256 + r := by omega
  rw [e]
  rfl

theorem uBuf_at (p : Fin 288) (q : Fin 512) : uBuf m c t (ix2 p q) = ((ux a g (t * 256 + p) q : ℝ) : EReal) := by
  have ht := (idx t).2.2.2.2
  unfold uBuf
  by_cases hp : (p : ℕ) < 32
  · refine (above_lt _ _ _ _ hp).trans ?_
    unfold prevRows
    by_cases h0 : t.val % 8 = 0
    · rw [if_pos h0, ux, if_pos (by omega)]
      pointwise [k0_pay2]
      rfl
    · rw [if_neg h0]
      have hl : t.val - 1 < cfg0.N := Nat.lt_of_le_of_lt (Nat.sub_le _ _) t.isLt
      refine (carried m c ⟨t.val - 1, hl⟩ ⟨p, hp⟩ q).trans ((uTile_at H ⟨t.val - 1, hl⟩ ⟨224 + p, by omega⟩ q).trans ?_)
      show ((ux a g ((t.val - 1) * 256 + 32 + (224 + p)) q : ℝ) : EReal) = _
      rw [show (t.val - 1) * 256 + 32 + (224 + (p : ℕ)) = t.val * 256 + p by omega]
  · refine (above_ge _ _ _ _ hp).trans ((uTile_at H t ⟨(p : ℕ) - 32, by omega⟩ q).trans ?_)
    show ((ux a g (t.val * 256 + 32 + ((p : ℕ) - 32)) q : ℝ) : EReal) = _
    rw [show t.val * 256 + 32 + ((p : ℕ) - 32) = t.val * 256 + p by omega]

theorem tile6 (r : Fin 256) (q : Fin 512) : (outsAt0 m c t.val t.isLt).1 (ix2 r q) = ((conv a g w b (t * 256 + r) q : ℝ) : EReal) := by
  refine (block6 m c t w (fun p => ux a g (t * 256 + p)) b (blk2 H t) (blk3 H t) (uBuf_at H t) r q).trans ?_
  unfold conv
  congr 2
  refine Finset.sum_congr rfl fun k _ => ?_
  rw [show t.val * 256 + (2 + k + (r : ℕ)) = k + (t.val * 256 + r) + 2 by omega]

theorem tile7 (r : Fin 256) (q : Fin 512) : (outsAt0 m c t.val t.isLt).2.1 (ix2 r q)
    = ((act eps (conv a g w b (t * 256 + r)) gw gb q * sg (act eps (conv a g w b (t * 256 + r)) gw gb q) : ℝ) : EReal) := by
  rw [out7_eq m c t]
  exact norm_at _ rfl _ _ _ (fun r => conv a g w b (t * 256 + r)) gw gb (tile6 H t) (blk4 H t) (blk5 H t) r q

theorem result0 : (dats m 0 c).arrAt 6 cfg0.N = fun i => ((conv a g w b (i 0) (i 1) : ℝ) : EReal) := by
  refine (dats m 0 c).arrAt_eq_of_covers 6 _ (by decide +kernel) fun t hf y => ?_
  blk_simp
  rw [after0_6, (idx t).2.2.1]
  obtain ⟨r, q, rfl⟩ : ∃ (r : Fin 256) (q : Fin 512), y = ix2 r q := ⟨y 0, y 1, by funext a; fin_cases a <;> rfl⟩
  have hq : (win0_6.blk t).view.emb (ix2 r q) 1 = q := Fin.ext (by
    blk_simp
    rw [(idx t).2.2.1]
    show 0 * 512 + (q : ℕ) = q
    omega)
  rw [hq]
  exact tile6 H t r q

theorem result1 : (dats m 0 c).arrAt 7 cfg0.N
    = fun i => ((act eps (conv a g w b (i 0)) gw gb (i 1) * sg (act eps (conv a g w b (i 0)) gw gb (i 1)) : ℝ) : EReal) := by
  refine (dats m 0 c).arrAt_eq_of_covers 7 _ (by decide +kernel) fun t hf y => ?_
  blk_simp
  rw [after0_7, (idx t).2.2.2.1]
  obtain ⟨r, q, rfl⟩ : ∃ (r : Fin 256) (q : Fin 512), y = ix2 r q := ⟨y 0, y 1, by funext a; fin_cases a <;> rfl⟩
  have hq : (win0_7.blk t).view.emb (ix2 r q) 1 = q := Fin.ext (by
    blk_simp
    rw [(idx t).2.2.2.1]
    show 0 * 512 + (q : ℕ) = q
    omega)
  rw [hq]
  exact tile7 H t r q

end

end Cert.ConfFwd

end
-- ==== Proof.ConfFwdValue.lean ====
/- The value claim of the forward convolution call: the reference at real arguments, and the two programs' results compared. -/
module
public import proofs.«01_k».proof.Proof.ConfFwd
public import proofs.«01_k».proof.Proof.Finite
public import proofs.«01_k».proof.Proof.Gen.Pre_finite20
public import proofs.«01_k».proof.Proof.Gen.Reference20Ideal.Run

@[expose] public section

set_option maxRecDepth 16384

noncomputable section
namespace Cert.ConfFwd.Plain
open Idealize.ShloMosaic Idealize.ShloMosaic.TcCoe Idealize.SL.Sem
open Cert.Conf
open Cert.Conf.Plain (chan mate_chan chan_split gsum_chan c64)
open Cert.Reference20Ideal Cert.Reference20Ideal.Gen Cert.Reference20Ideal.Value

/-- The reference's arguments are the reals `a g w b gw gb`. -/
structure Args (V0 : Valuation τ sig (Elt Ideal)) (a g w : ℕ → Fin 512 → ℝ) (b gw gb : Fin 512 → ℝ) : Prop where
  a : ∀ (n : Fin 2048) (q : Fin 512), V0 (Proc.devRef .tc main_arg0) (ix2 n ⟨q, by omega⟩) = ((a n q : ℝ) : EReal)
  g : ∀ (n : Fin 2048) (q : Fin 512), V0 (Proc.devRef .tc main_arg0) (ix2 n ⟨512 + q, by omega⟩) = ((g n q : ℝ) : EReal)
  w : ∀ (k : Fin 31) (q : Fin 512), V0 (Proc.devRef .tc main_arg1) (ix2 k q) = ((w k q : ℝ) : EReal)
  b : ∀ q : Fin 512, V0 (Proc.devRef .tc main_arg2) (ix2 0 q) = ((b q : ℝ) : EReal)
  gw : ∀ q : Fin 512, V0 (Proc.devRef .tc main_arg3) (ix2 0 q) = ((gw q : ℝ) : EReal)
  gb : ∀ q : Fin 512, V0 (Proc.devRef .tc main_arg4) (ix2 0 q) = ((gb q : ℝ) : EReal)

variable {V0 : Valuation τ sig (Elt Ideal)} {a g w : ℕ → Fin 512 → ℝ} {b gw gb : Fin 512 → ℝ}
variable (H : Args V0 a g w b gw gb)
include H

theorem v10_at (p : Fin 2078) (q : Fin 512) : res_main_v10 V0 (ix2 p q) = ((ux a g (p + 2) q : ℝ) : EReal) := by
  pointwise [res_main_v10]
  by_cases h : (p : ℕ) < 30
  · rw [dif_pos h, ux, if_pos (by omega)]
    rfl
  · rw [dif_neg h, ux_ge a g p q (by omega)]
    exact glu_real _ _ _ _ (H.a ⟨(p : ℕ) - 30, by omega⟩ q) (H.g ⟨(p : ℕ) - 30, by omega⟩ q)

set_option maxHeartbeats 1600000 in
theorem conv_at (n : Fin 2048) (q : Fin 512) :
    addf (res_main_v166 V0) (broadcastInDim S2048x512 ![0, 1] bcast_S1x512_S2048x512_0_1 (V0 (Proc.devRef .tc main_arg2))) (ix2 n q) = ((conv a g w b n q : ℝ) : EReal) := by
  pointwise [res_main_v166, res_main_v86]
  simp only [H.w, H.b, v10_at H, ← EReal.coe_mul, ← EReal.coe_add]
  simp only [conv, Finset.sum_range_succ, Finset.sum_range_zero, zero_add]
  rfl

theorem v169_at (n : Fin 2048) (i : Fin 8) (e : Fin 64) : res_main_v169 V0 (ix3 n i e) = ((conv a g w b n (chan i e) : ℝ) : EReal) := by
  refine Eq.trans ?_ (conv_at H n (chan i e))
  unfold res_main_v169
  generalize addf (res_main_v166 V0) _ = X
  pointwise []
  rfl

theorem v173_at (n : Fin 2048) (i : Fin 8) (e : Fin 64) : res_main_v173 V0 (ix3 n i 0) = ((gmean (conv a g w b n) (chan i e) : ℝ) : EReal) := by
  pointwise [res_main_v173]
  simp only [v169_at H, coe_sum, c64]
  rw [Ideal.div_coe (by norm_num), ← EReal.coe_mul, gmean, gsum_chan, mul_one_div]

theorem v175_at (n : Fin 2048) (i : Fin 8) (e : Fin 64) : res_main_v175 V0 (ix3 n i e) = ((dlt (conv a g w b n) (chan i e) : ℝ) : EReal) := by
  pointwise [res_main_v175]
  rw [v169_at H, v173_at H n i e, ← EReal.coe_sub, dlt]

theorem v192_at (n : Fin 2048) (q : Fin 512) : res_main_v192 V0 (ix2 n q) = ((act eps (conv a g w b n) gw gb q : ℝ) : EReal) := by
  pointwise [res_main_v192]
  simp only [v169_at H, v175_at H, H.gw, H.gb, ← EReal.coe_mul, coe_sum, c64, eps_coe]
  have e : vare eps (conv a g w b n) q = (∑ e : Fin 64, dlt (conv a g w b n) (chan ⟨(q : ℕ) / 64, by omega⟩ e) * dlt (conv a g w b n) (chan ⟨(q : ℕ) / 64, by omega⟩ e)) / 64 + eps := by
    conv_lhs => rw [← chan_split q, vare, gmean, gsum_chan]
  rw [v173_at H n _ ⟨(q : ℕ) % 64, by omega⟩, Ideal.div_coe (by norm_num), ← EReal.coe_mul, ← EReal.coe_add, mul_one_div, ← e,
    rsqrt_pos (vare_pos eps _ q eps_pos), chan_split, ← EReal.coe_sub, ← EReal.coe_mul, ← EReal.coe_mul, ← EReal.coe_add]
  rfl

end Cert.ConfFwd.Plain

namespace Cert.ConfFwd
open Idealize.ShloMosaic Idealize.ShloMosaic.TcCoe Idealize.SL.Sem Idealize.ShloMosaic.StableHlo
open Cert.Conf (and_parts real_of_fold)

/-- Under the precondition the arguments are reals. -/
theorem reals_of_finite (m : (ℓ : Loc Cert.Kernel20Ideal.nD Cert.Kernel20Ideal.τ Cert.Kernel20Ideal.sig) → Buf (Elt Ideal) ℓ) (h : Cert.Pre_Kernel20Ideal_finite20 m) (c : Dev Cert.Kernel20Ideal.nD) :
    ∃ (a g w : ℕ → Fin 512 → ℝ) (b gw gb : Fin 512 → ℝ), Reals m c a g w b gw gb := by
  have h := congrFun (h c) (fun k => k.elim0)
  unfold Cert.Pre_finite20.fn Cert.Pre_finite20.fn_part1 at h
  obtain ⟨h, h4⟩ := and_parts h
  obtain ⟨h, h3⟩ := and_parts h
  obtain ⟨h, h2⟩ := and_parts h
  obtain ⟨h0, h1⟩ := and_parts h
  have h0 := real_of_fold _ _ _ _ _ h0
  have h1 := real_of_fold _ _ _ _ _ h1
  have h2 := real_of_fold _ _ _ _ _ h2
  have h3 := real_of_fold _ _ _ _ _ h3
  have h4 := real_of_fold _ _ _ _ _ h4
  refine ⟨fun n q => if hn : n < 2048 then (m ((c : Thread Cert.Kernel20Ideal.nD Cert.Kernel20Ideal.τ).loc Cert.Kernel20Ideal.main_arg0) (ix2 ⟨n, hn⟩ ⟨q, by omega⟩) : EReal).toReal else 0,
    fun n q => if hn : n < 2048 then (m ((c : Thread Cert.Kernel20Ideal.nD Cert.Kernel20Ideal.τ).loc Cert.Kernel20Ideal.main_arg0) (ix2 ⟨n, hn⟩ ⟨512 + q, by omega⟩) : EReal).toReal else 0,
    fun k q => if hk : k < 31 then (m ((c : Thread Cert.Kernel20Ideal.nD Cert.Kernel20Ideal.τ).loc Cert.Kernel20Ideal.main_arg1) (ix2 ⟨k, hk⟩ q) : EReal).toReal else 0,
    fun q => (m ((c : Thread Cert.Kernel20Ideal.nD Cert.Kernel20Ideal.τ).loc Cert.Kernel20Ideal.main_arg2) (ix2 0 q) : EReal).toReal,
    fun q => (m ((c : Thread Cert.Kernel20Ideal.nD Cert.Kernel20Ideal.τ).loc Cert.Kernel20Ideal.main_arg3) (ix2 0 q) : EReal).toReal,
    fun q => (m ((c : Thread Cert.Kernel20Ideal.nD Cert.Kernel20Ideal.τ).loc Cert.Kernel20Ideal.main_arg4) (ix2 0 q) : EReal).toReal,
    ⟨fun n q => ?_, fun n q => ?_, fun k q => ?_, fun q => h2 _, fun q => h3 _, fun q => h4 _⟩⟩
  · rw [dif_pos n.isLt]; exact h0 _
  · rw [dif_pos n.isLt]; exact h0 _
  · rw [dif_pos k.isLt]; exact h1 _

theorem value : Cert.algebraic_Kernel20Ideal_Reference20Ideal_pre_finite20 := by
  intro m g m' g' hp e
  refine ⟨fun c => (Cert.Kernel20Ideal.Gen.dats m 0 c).arrAt 6 Cert.Kernel20Ideal.cfg0.N, fun c => (Cert.Kernel20Ideal.Gen.dats m 0 c).arrAt 7 Cert.Kernel20Ideal.cfg0.N,
    Cert.Kernel20Ideal.Value.run_blocks m g, ?_⟩
  refine (θ_run Cert.Reference20Ideal.defs _ _).mono (fun r h c => ?_) (Cert.Reference20Ideal.Value.run m' g')
  obtain ⟨h0, h1, hk⟩ := h c
  obtain ⟨e0, e1, e2, e3, e4⟩ := e c
  obtain ⟨a, gg, w, b, gw, gb, H⟩ := reals_of_finite m hp c
  have A : Plain.Args (launchContents m' c) a gg w b gw gb :=
    ⟨fun n q => (congrFun e0 _).trans (H.a n q), fun n q => (congrFun e0 _).trans (H.g n q), fun k q => (congrFun e1 _).trans (H.w k q),
      fun q => (congrFun e2 _).trans (H.b q), fun q => (congrFun e3 _).trans (H.gw q), fun q => (congrFun e4 _).trans (H.gb q)⟩
  refine ⟨h0.trans (Eq.trans ?_ (result0 H).symm), h1.trans (Eq.trans ?_ (result1 H).symm), hk⟩
  · funext i
    obtain ⟨n, q, rfl⟩ : ∃ (n : Fin 2048) (q : Fin 512), i = ix2 n q := ⟨i 0, i 1, by funext a; fin_cases a <;> rfl⟩
    exact Plain.conv_at A n q
  · funext i
    obtain ⟨n, q, rfl⟩ : ∃ (n : Fin 2048) (q : Fin 512), i = ix2 n q := ⟨i 0, i 1, by funext a; fin_cases a <;> rfl⟩
    pointwise []
    rw [Plain.v192_at A, Cert.Conf.sig_div, ← EReal.coe_mul]

end Cert.ConfFwd

end
-- ==== Proof.Value.lean ====
/- The value claim: under the precondition the kernel and the reference end with the same arrays. -/
module
public import proofs.«01_k».proof.Proof.Finite

@[expose] public section

set_option maxRecDepth 16384

noncomputable section
namespace Cert.Conf
open Idealize.ShloMosaic Idealize.ShloMosaic.TcCoe Idealize.SL.Sem Idealize.ShloMosaic.StableHlo

/-- The reference's arguments, equal to the kernel's, are the same reals. -/
theorem args_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (d a g w : ℕ → Fin 512 → ℝ) (b gw gb : Fin 512 → ℝ) (H : Reals m c d a g w b gw gb) : Plain.Args (launchContents m' c) d a g w b gw gb where
  d n q := (congrFun e0 _).trans (H.d n q)
  a n q := (congrFun e1 _).trans (H.a n q)
  g n q := (congrFun e1 _).trans (H.g n q)
  w k q := (congrFun e2 _).trans (H.w k q)
  b q := (congrFun e3 _).trans (H.b q)
  gw q := (congrFun e4 _).trans (H.gw q)
  gb q := (congrFun e5 _).trans (H.gb q)

theorem value : Cert.algebraic_KernelIdeal_ReferenceIdeal_pre_finite := by
  intro m g m' g' hp e
  refine ⟨fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨h0, h1, hk⟩ := h c
  obtain ⟨e0, e1, e2, e3, e4, e5⟩ := e c
  obtain ⟨d, a, gg, w, b, gw, gb, H⟩ := reals_of_finite m hp c
  have A := args_of m m' c e0 e1 e2 e3 e4 e5 d a gg w b gw gb H
  exact ⟨h0.trans ((Plain.ref0 A).trans (result0 H).symm), h1.trans ((Plain.ref1 A).trans (result1 H).symm), hk⟩

end Cert.Conf

end
-- ==== Proof.FRow.lean ====
/- The mathematics of the feed-forward sub-layer and its gradient, over the real numbers, one position of the sequence at a time:
   what the kernel computes, what differentiating the forward lines gives, and that the two agree. Nothing here mentions a
   program. -/
module

public import proofs.«01_k».proof.Proof.Row

@[expose] public section

noncomputable section

namespace Cert.Ffn

open Cert.Conf (sg)

section
variable (eps : ℝ) (x : Fin 1024 → ℝ)

/-- The mean square of a row, and `eps`. -/
def ms : ℝ := (∑ c, x c * x c) / 1024 + eps
/-- Its reciprocal root. -/
def rr : ℝ := (Real.sqrt (ms eps x))⁻¹
/-- The normalised row. -/
def xr (c : Fin 1024) : ℝ := x c * rr eps x

theorem ms_pos (he : 0 < eps) : 0 < ms eps x := by
  unfold ms
  have : 0 ≤ ∑ c, x c * x c := Finset.sum_nonneg fun c _ => mul_self_nonneg _
  positivity

theorem rr_sq (he : 0 < eps) : rr eps x * rr eps x = (ms eps x)⁻¹ := by
  unfold rr
  rw [← mul_inv, Real.mul_self_sqrt (ms_pos eps x he).le]

/-- The gradient at the row, as the kernel computes it from the gradient `e` at the normalised row before its scale. -/
def dnorm (e : Fin 1024 → ℝ) (c : Fin 1024) : ℝ := rr eps x * (e c - xr eps x c * ((∑ c, e c * xr eps x c) / 1024))

/-- What the chain rule through the square, the mean and the root gives. -/
theorem dnorm_eq (he : 0 < eps) (e : Fin 1024 → ℝ) (c : Fin 1024) :
    e c * rr eps x + x c * ((∑ c, x c * e c) * (-(1 / 2) * (rr eps x / ms eps x)) / 1024)
      + (∑ c, x c * e c) * (-(1 / 2) * (rr eps x / ms eps x)) / 1024 * x c = dnorm eps x e c := by
  have h3 : ∑ c, e c * xr eps x c = rr eps x * ∑ c, x c * e c := by
    rw [Finset.mul_sum]
    exact Finset.sum_congr rfl fun c _ => by unfold xr; ring
  have h4 : rr eps x / ms eps x = rr eps x * (rr eps x * rr eps x) := by rw [rr_sq eps x he]; rfl
  unfold dnorm
  rw [h3, h4]
  unfold xr
  ring
end

section
variable (eps : ℝ) (wi : Fin 1024 → ℕ → ℝ) (wo : ℕ → Fin 1024 → ℝ) (sh sc gt nw x d : Fin 1024 → ℝ)

/-- The first product's input: the row normalised, scaled and modulated. -/
def hid (c : Fin 1024) : ℝ := xr eps x c * nw c * (1 + sc c) + sh c
/-- The first product's result: 2816 gates, then 2816 values. -/
def pre (i : ℕ) : ℝ := ∑ c, hid eps sh sc nw x c * wi c i
/-- The gradient at the second product's input. -/
def dmid (i : ℕ) : ℝ := ∑ c, gt c * d c * wo i c
/-- The gradient at a gate. -/
def dgate (i : ℕ) : ℝ :=
  dmid wo gt d i * pre eps wi sh sc nw x (2816 + i)
    * (sg (pre eps wi sh sc nw x i) * (1 + pre eps wi sh sc nw x i * (1 - sg (pre eps wi sh sc nw x i))))
/-- The gradient at a value. -/
def dval (i : ℕ) : ℝ := dmid wo gt d i * (pre eps wi sh sc nw x i * sg (pre eps wi sh sc nw x i))
/-- The gradient at the first product's result. -/
def dpre (i : ℕ) : ℝ := if i < 2816 then dgate eps wi wo sh sc gt nw x d i else dval eps wi wo sh sc gt nw x d (i - 2816)
/-- The gradient at the first product's input. -/
def dhid (c : Fin 1024) : ℝ := ∑ i ∈ Finset.range 5632, dpre eps wi wo sh sc gt nw x d i * wi c i
/-- The gradient at the normalised row after its scale. -/
def dmod (c : Fin 1024) : ℝ := dhid eps wi wo sh sc gt nw x d c * (1 + sc c)
/-- The gradient at the sub-layer's input. -/
def dx (c : Fin 1024) : ℝ := d c + dnorm eps x (fun c => dmod eps wi wo sh sc gt nw x d c * nw c) c
/-- The row's share of the gradients of the shift, the scale and the norm's scale, in rows 2 to 4. -/
def share (k : ℕ) (c : Fin 1024) : ℝ :=
  if k = 2 then dhid eps wi wo sh sc gt nw x d c
  else if k = 3 then dhid eps wi wo sh sc gt nw x d c * (xr eps x c * nw c)
  else if k = 4 then dmod eps wi wo sh sc gt nw x d c * xr eps x c
  else 0

theorem dpre_lo {i : ℕ} (h : i < 2816) : dpre eps wi wo sh sc gt nw x d i = dgate eps wi wo sh sc gt nw x d i := if_pos h
theorem dpre_hi (i : ℕ) : dpre eps wi wo sh sc gt nw x d (2816 + i) = dval eps wi wo sh sc gt nw x d i := by
  rw [dpre, if_neg (by omega), Nat.add_sub_cancel_left]
end

/-- A sum over 5632 columns, in the four pairs of blocks of 704 that the kernel takes. -/
theorem sum_pairs (f : ℕ → ℝ) :
    ∑ i ∈ Finset.range 5632, f i
      = ∑ j ∈ Finset.range 4, (∑ k : Fin 704, f (j * 704 + k) + ∑ k : Fin 704, f ((j + 4) * 704 + k)) := by
  have h (n : ℕ) : ∑ i ∈ Finset.range (n * 704), f i = ∑ j ∈ Finset.range n, ∑ k : Fin 704, f (j * 704 + k) := by
    induction n with
    | zero => simp
    | succ n ih => rw [Finset.sum_range_succ, ← ih, add_mul, one_mul, Finset.sum_range_add, Finset.sum_range (fun k => f (n * 704 + k))]
  rw [h 8, Finset.sum_add_distrib]
  exact Finset.sum_range_add _ 4 4 |>.trans (congrArg _ (Finset.sum_congr rfl fun j _ => by rw [add_comm 4 j]))

end Cert.Ffn

end
-- ==== Proof.FPay.lean ====
/- What a tile of the feed-forward gradient becomes in the kernel's arithmetic, over the reals: the payloads at real inputs are the
   formulas of FRow.lean. -/
module

public import proofs.«01_k».proof.Proof.FRow
public import proofs.«01_k».proof.Proof.Pay
public import proofs.«01_k».proof.Proof.Gen.Kernel2Ideal.Skeleton

@[expose] public section

set_option maxRecDepth 16384

noncomputable section

namespace Cert.Ffn

open Idealize.ShloMosaic Idealize.ShloMosaic.TcCoe Idealize.SL.Sem
open Cert.Kernel2Ideal Cert.Kernel2Ideal.Gen
open Cert.Conf (sg eps eps_coe eps_pos coe_sum rsqrt_pos)

theorem d1024_coe : (Ideal.ofBits .f32 0x44800000#32 : EReal) = ((1024 : ℝ) : EReal) := by
  simp [Ideal.ofBits, Ideal.ieee, -EReal.coe_mul]; norm_num

theorem div1024 (x : ℝ) : Ideal.div (x : EReal) ((1024 : ℝ) : EReal) = ((x / 1024 : ℝ) : EReal) := by
  rw [Ideal.div_coe (by norm_num), ← EReal.coe_mul, mul_one_div]

/-! ## The four pairs of blocks are computed alike -/

theorem pay3_eq (A : S256x1024.Idx → EReal) : k0_pay3 (F := Ideal) A = A := by
  funext i
  obtain ⟨r, q, rfl⟩ : ∃ r q, i = ix2 r q := ⟨i 0, i 1, by funext a; fin_cases a <;> rfl⟩
  pointwise [k0_pay3]

theorem pay8_eq (A : S256x1024.Idx → EReal) (G U W) : k0_pay8 (F := Ideal) A G U W = k0_pay16 A G U W := by
  conv_rhs => rw [← pay3_eq A]
  rfl
theorem pay9_eq (A : S256x1024.Idx → EReal) (G W) : k0_pay9 (F := Ideal) A G W = k0_pay17 A G W := by
  conv_rhs => rw [← pay3_eq A]
  rfl
theorem pay24_eq : @k0_pay24 Ideal _ = @k0_pay16 Ideal _ := rfl
theorem pay32_eq : @k0_pay32 Ideal _ = @k0_pay16 Ideal _ := rfl
theorem pay25_eq : @k0_pay25 Ideal _ = @k0_pay17 Ideal _ := rfl
theorem pay33_eq : @k0_pay33 Ideal _ = @k0_pay17 Ideal _ := rfl
theorem pay12_eq : @k0_pay12 Ideal _ = @k0_pay36 Ideal _ := rfl
theorem pay20_eq : @k0_pay20 Ideal _ = @k0_pay36 Ideal _ := rfl
theorem pay28_eq : @k0_pay28 Ideal _ = @k0_pay36 Ideal _ := rfl

section
variable (A : S256x1024.Idx → EReal) (G U : S1x256x704.Idx → EReal) (W V : S1x704x1024.Idx → EReal)
variable (a : Fin 256 → Fin 1024 → ℝ) (g u : Fin 256 → Fin 704 → ℝ) (w v : Fin 704 → Fin 1024 → ℝ)
variable (hA : ∀ r c, A (ix2 r c) = ((a r c : ℝ) : EReal)) (hG : ∀ r k, G (ix3 0 r k) = ((g r k : ℝ) : EReal))
variable (hU : ∀ r k, U (ix3 0 r k) = ((u r k : ℝ) : EReal)) (hW : ∀ k c, W (ix3 0 k c) = ((w k c : ℝ) : EReal))
variable (hV : ∀ k c, V (ix3 0 k c) = ((v k c : ℝ) : EReal))

include hA hG hU hW in
/-- The gradient at a gate. -/
theorem gate_at (r : Fin 256) (k : Fin 704) :
    k0_pay16 (F := Ideal) A G U W (ix2 r k)
      = (((∑ c, a r c * w k c) * u r k * (sg (g r k) * (1 + g r k * (1 - sg (g r k)))) : ℝ) : EReal) := by
  pointwise [k0_pay16, k0_pay15, k0_pay14, k0_pay13]
  simp only [hA, hG, hU, hW, ← EReal.coe_mul, ← EReal.coe_add, ← EReal.coe_sub, Ideal.logistic_coe, Ideal.ofBits_one_f32, ← EReal.coe_one, coe_sum]
  rfl

include hA hG hW in
/-- The gradient at a value. -/
theorem val_at (r : Fin 256) (k : Fin 704) :
    k0_pay17 (F := Ideal) A G W (ix2 r k) = (((∑ c, a r c * w k c) * (g r k * sg (g r k)) : ℝ) : EReal) := by
  pointwise [k0_pay17, k0_pay15, k0_pay14, k0_pay13]
  simp only [hA, hG, hW, ← EReal.coe_mul, Ideal.logistic_coe, coe_sum]
  rfl

include hW hV in
/-- The two products added to the running sum. -/
theorem pair_at (X : S256x1024.Idx → EReal) (P Q : S256x704.Idx → EReal) (x : Fin 256 → Fin 1024 → ℝ) (p q : Fin 256 → Fin 704 → ℝ)
    (hX : ∀ r c, X (ix2 r c) = ((x r c : ℝ) : EReal)) (hP : ∀ r k, P (ix2 r k) = ((p r k : ℝ) : EReal)) (hQ : ∀ r k, Q (ix2 r k) = ((q r k : ℝ) : EReal))
    (r : Fin 256) (c : Fin 1024) :
    k0_pay36 (F := Ideal) X P Q W V (ix2 r c) = ((x r c + ∑ k, p r k * w k c + ∑ k, q r k * v k c : ℝ) : EReal) := by
  pointwise [k0_pay36]
  simp only [hX, hP, hQ, hW, hV, ← EReal.coe_mul, ← EReal.coe_add, coe_sum]
end

theorem start_at (r : Fin 256) (c : Fin 1024) : k0_pay4 (F := Ideal) (ix2 r c) = ((0 : ℝ) : EReal) := by
  pointwise [k0_pay4]
  rfl

section
variable (X H : S256x1024.Idx → EReal) (M B N : S1x1024.Idx → EReal) (x h : Fin 256 → Fin 1024 → ℝ) (s n : Fin 1024 → ℝ)
variable (hX : ∀ r c, X (ix2 r c) = ((x r c : ℝ) : EReal)) (hH : ∀ r c, H (ix2 r c) = ((h r c : ℝ) : EReal))
variable (hM : ∀ c, M (ix2 0 c) + B (ix2 0 c) = ((s c : ℝ) : EReal)) (hN : ∀ c, N (ix2 0 c) = ((n c : ℝ) : EReal))

include hX in
theorem rr_at (r : Fin 256) : k0_pay37 (F := Ideal) X (ix2 r 0) = ((rr eps (x r) : ℝ) : EReal) := by
  pointwise [k0_pay37]
  simp only [hX, ← EReal.coe_mul, coe_sum, d1024_coe, div1024, eps_coe, ← EReal.coe_add]
  exact rsqrt_pos (ms_pos eps (x r) eps_pos)

include hX in
theorem xr_at (r : Fin 256) (c : Fin 1024) : k0_pay38 (F := Ideal) X (ix2 r c) = ((xr eps (x r) c : ℝ) : EReal) := by
  pointwise [k0_pay38]
  simp only [rr_at X x hX, hX, ← EReal.coe_mul]
  rfl

include hH hM in
theorem mod_at (r : Fin 256) (c : Fin 1024) : k0_pay41 (F := Ideal) H M B (ix2 r c) = ((h r c * (1 + s c) : ℝ) : EReal) := by
  pointwise [k0_pay41]
  simp only [hH, hM, ← EReal.coe_mul, Ideal.ofBits_one_f32, ← EReal.coe_one, ← EReal.coe_add]

include hX hH hM hN in
theorem norm_at (r : Fin 256) (c : Fin 1024) :
    k0_pay43 (F := Ideal) H (k0_pay37 X) (k0_pay38 X) M B N (ix2 r c) = ((dnorm eps (x r) (fun c => h r c * (1 + s c) * n c) c : ℝ) : EReal) := by
  pointwise [k0_pay43]
  simp only [mod_at H M B h s hH hM, rr_at X x hX, xr_at X x hX, hN, ← EReal.coe_mul, coe_sum, d1024_coe, div1024, ← EReal.coe_sub]
  rfl
end

end Cert.Ffn

end
-- ==== Proof.FPoint.lean ====
/- What one grid point of the feed-forward gradient leaves in its output blocks and in the running sums, over the reals. -/
module
public import proofs.«01_k».proof.Proof.FPay
public import proofs.«01_k».proof.Proof.Buf
public import proofs.«01_k».proof.Proof.Gen.Kernel2Ideal.Value
public import Idealize.ShloMosaic.Lib.Claim

@[expose] public section

set_option maxRecDepth 16384

noncomputable section
namespace Cert.Ffn
open Idealize.ShloMosaic Idealize.ShloMosaic.TcCoe Idealize.SL.Sem
open Cert.Kernel2Ideal Cert.Kernel2Ideal.Gen
open Cert.Conf (sg eps eps_coe eps_pos coe_sum rsqrt_pos)
variable (m : (ℓ : Loc nD τ sig) → Buf (Elt Ideal) ℓ) (c : Dev nD)

/-- What the running sums held before the point. -/
def prevStats (t : Fin cfg0.N) : S8x1024.Idx → EReal :=
  if t.val % 8 = 0 then fun _ => 0 else (outsAt0 m c (t.val - 1) (Nat.lt_of_le_of_lt (Nat.sub_le _ _) t.isLt)).2.2

/-- The gradient at the first product's input, of the tile of point `t`. -/
def dhBlk (t : Fin cfg0.N) : S256x1024.Idx → EReal :=
  k0_pay36 (F := Ideal)
    (k0_pay36 (F := Ideal)
    (k0_pay36 (F := Ideal)
    (k0_pay36 (F := Ideal)
    (k0_pay4)
    (k0_pay16 (iblk m c 0 t) (View.ld (iblk m c 1 t) (Rect.unit (s := S8x256x704) ![0, 0, 0] ![1, 256, 704] inb_S8x256x704_S1x256x704_0_0_0)) (View.ld (iblk m c 1 t) (Rect.unit (s := S8x256x704) ![4, 0, 0] ![1, 256, 704] inb_S8x256x704_S1x256x704_4_0_0)) (View.ld (iblk m c 8 t) (Rect.unit (s := S4x704x1024) ![0, 0, 0] ![1, 704, 1024] inb_S4x704x1024_S1x704x1024_0_0_0)))
    (k0_pay17 (iblk m c 0 t) (View.ld (iblk m c 1 t) (Rect.unit (s := S8x256x704) ![0, 0, 0] ![1, 256, 704] inb_S8x256x704_S1x256x704_0_0_0)) (View.ld (iblk m c 8 t) (Rect.unit (s := S4x704x1024) ![0, 0, 0] ![1, 704, 1024] inb_S4x704x1024_S1x704x1024_0_0_0)))
    (View.ld (iblk m c 7 t) (Rect.unit (s := S8x704x1024) ![0, 0, 0] ![1, 704, 1024] inb_S8x704x1024_S1x704x1024_0_0_0)) (View.ld (iblk m c 7 t) (Rect.unit (s := S8x704x1024) ![4, 0, 0] ![1, 704, 1024] inb_S8x704x1024_S1x704x1024_4_0_0)))
    (k0_pay16 (iblk m c 0 t) (View.ld (iblk m c 1 t) (Rect.unit (s := S8x256x704) ![1, 0, 0] ![1, 256, 704] inb_S8x256x704_S1x256x704_1_0_0)) (View.ld (iblk m c 1 t) (Rect.unit (s := S8x256x704) ![5, 0, 0] ![1, 256, 704] inb_S8x256x704_S1x256x704_5_0_0)) (View.ld (iblk m c 8 t) (Rect.unit (s := S4x704x1024) ![1, 0, 0] ![1, 704, 1024] inb_S4x704x1024_S1x704x1024_1_0_0)))
    (k0_pay17 (iblk m c 0 t) (View.ld (iblk m c 1 t) (Rect.unit (s := S8x256x704) ![1, 0, 0] ![1, 256, 704] inb_S8x256x704_S1x256x704_1_0_0)) (View.ld (iblk m c 8 t) (Rect.unit (s := S4x704x1024) ![1, 0, 0] ![1, 704, 1024] inb_S4x704x1024_S1x704x1024_1_0_0)))
    (View.ld (iblk m c 7 t) (Rect.unit (s := S8x704x1024) ![1, 0, 0] ![1, 704, 1024] inb_S8x704x1024_S1x704x1024_1_0_0)) (View.ld (iblk m c 7 t) (Rect.unit (s := S8x704x1024) ![5, 0, 0] ![1, 704, 1024] inb_S8x704x1024_S1x704x1024_5_0_0)))
    (k0_pay16 (iblk m c 0 t) (View.ld (iblk m c 1 t) (Rect.unit (s := S8x256x704) ![2, 0, 0] ![1, 256, 704] inb_S8x256x704_S1x256x704_2_0_0)) (View.ld (iblk m c 1 t) (Rect.unit (s := S8x256x704) ![6, 0, 0] ![1, 256, 704] inb_S8x256x704_S1x256x704_6_0_0)) (View.ld (iblk m c 8 t) (Rect.unit (s := S4x704x1024) ![2, 0, 0] ![1, 704, 1024] inb_S4x704x1024_S1x704x1024_2_0_0)))
    (k0_pay17 (iblk m c 0 t) (View.ld (iblk m c 1 t) (Rect.unit (s := S8x256x704) ![2, 0, 0] ![1, 256, 704] inb_S8x256x704_S1x256x704_2_0_0)) (View.ld (iblk m c 8 t) (Rect.unit (s := S4x704x1024) ![2, 0, 0] ![1, 704, 1024] inb_S4x704x1024_S1x704x1024_2_0_0)))
    (View.ld (iblk m c 7 t) (Rect.unit (s := S8x704x1024) ![2, 0, 0] ![1, 704, 1024] inb_S8x704x1024_S1x704x1024_2_0_0)) (View.ld (iblk m c 7 t) (Rect.unit (s := S8x704x1024) ![6, 0, 0] ![1, 704, 1024] inb_S8x704x1024_S1x704x1024_6_0_0)))
    (k0_pay16 (iblk m c 0 t) (View.ld (iblk m c 1 t) (Rect.unit (s := S8x256x704) ![3, 0, 0] ![1, 256, 704] inb_S8x256x704_S1x256x704_3_0_0)) (View.ld (iblk m c 1 t) (Rect.unit (s := S8x256x704) ![7, 0, 0] ![1, 256, 704] inb_S8x256x704_S1x256x704_7_0_0)) (View.ld (iblk m c 8 t) (Rect.unit (s := S4x704x1024) ![3, 0, 0] ![1, 704, 1024] inb_S4x704x1024_S1x704x1024_3_0_0)))
    (k0_pay17 (iblk m c 0 t) (View.ld (iblk m c 1 t) (Rect.unit (s := S8x256x704) ![3, 0, 0] ![1, 256, 704] inb_S8x256x704_S1x256x704_3_0_0)) (View.ld (iblk m c 8 t) (Rect.unit (s := S4x704x1024) ![3, 0, 0] ![1, 704, 1024] inb_S4x704x1024_S1x704x1024_3_0_0)))
    (View.ld (iblk m c 7 t) (Rect.unit (s := S8x704x1024) ![3, 0, 0] ![1, 704, 1024] inb_S8x704x1024_S1x704x1024_3_0_0)) (View.ld (iblk m c 7 t) (Rect.unit (s := S8x704x1024) ![7, 0, 0] ![1, 704, 1024] inb_S8x704x1024_S1x704x1024_7_0_0))

/-! ## Loads of one block, and stores of one -/

theorem ld_pre (B : S8x256x704.Idx → EReal) (j : ℕ) (inb) (h : j < 8) (r : Fin 256) (k : Fin 704) :
    View.ld (Val := Elt Ideal) (e' := .bf16) B (Rect.unit (s := S8x256x704) ![j, 0, 0] ![1, 256, 704] inb) (ix3 0 r k) = B (ix3 ⟨j, h⟩ r k) :=
  View.ld_unit_apply_of _ _ _ inb _ _ (fun a => by fin_cases a <;> simp)

theorem ld_win (B : S8x704x1024.Idx → EReal) (j : ℕ) (inb) (h : j < 8) (k : Fin 704) (q : Fin 1024) :
    View.ld (Val := Elt Ideal) (e' := .bf16) B (Rect.unit (s := S8x704x1024) ![j, 0, 0] ![1, 704, 1024] inb) (ix3 0 k q) = B (ix3 ⟨j, h⟩ k q) :=
  View.ld_unit_apply_of _ _ _ inb _ _ (fun a => by fin_cases a <;> simp)

theorem ld_wout (B : S4x704x1024.Idx → EReal) (j : ℕ) (inb) (h : j < 4) (k : Fin 704) (q : Fin 1024) :
    View.ld (Val := Elt Ideal) (e' := .bf16) B (Rect.unit (s := S4x704x1024) ![j, 0, 0] ![1, 704, 1024] inb) (ix3 0 k q) = B (ix3 ⟨j, h⟩ k q) :=
  View.ld_unit_apply_of _ _ _ inb _ _ (fun a => by fin_cases a <;> simp)

theorem ld_mod (B : S1x6144.Idx → EReal) (inb) (q : Fin 1024) :
    View.ld (Val := Elt Ideal) (e' := .f32) B (Rect.unit (s := S1x6144) ![0, 4096] ![1, 1024] inb) (ix2 0 q) = B (ix2 0 ⟨4096 + q, by omega⟩) :=
  View.ld_unit_apply_of _ _ _ inb _ _ (fun a => by fin_cases a <;> simp)

theorem ld_stat (B : S8x1024.Idx → EReal) (k : ℕ) (inb) (h : k < 8) (q : Fin 1024) :
    View.ld (Val := Elt Ideal) (e' := .f32) B (Rect.unit (s := S8x1024) ![k, 0] ![1, 1024] inb) (ix2 0 q) = B (ix2 ⟨k, h⟩ q) :=
  View.ld_unit_apply_of _ _ _ inb _ _ (fun a => by fin_cases a <;> simp)

theorem canon_block (i : ℕ) (hi) (x) (L : List (View.Piece (Elt Ideal) S8x256x704 .bf16)) (j : Fin 8) (r : Fin 256) (k : Fin 704) (G : Fin 8 → EReal)
    (hi' : i < 8) (hit : x (ix3 0 r k) = G ⟨i, hi'⟩) (miss : (j : ℕ) ≠ i → View.canon L (ix3 j r k) = G j) :
    View.canon (⟨Rect.unit (s := S8x256x704) ![i, 0, 0] ![1, 256, 704] hi, x⟩ :: L) (ix3 j r k) = G j := by
  by_cases h : (j : ℕ) = i
  · obtain rfl : j = ⟨i, hi'⟩ := Fin.ext h
    have e : (Rect.unit (s := S8x256x704) ![i, 0, 0] ![1, 256, 704] hi).emb (ix3 0 r k) = ix3 ⟨i, hi'⟩ r k := by
      funext a; apply Fin.ext; fin_cases a <;> simp
    exact (congrArg (View.canon (⟨Rect.unit (s := S8x256x704) ![i, 0, 0] ![1, 256, 704] hi, x⟩ :: L)) e.symm).trans ((View.canon_cons_emb _ _ _ _).trans hit)
  · refine (View.canon_cons_of_not_mem _ _ ?_).trans (miss h)
    rw [Rect.mem_set_unit]
    intro hm
    have := hm 0
    simp at this
    omega

theorem emb_row (j : ℕ) (inb) (p : Fin 8) (q : Fin 1024) (h : (p : ℕ) = j) :
    (Rect.unit (s := S8x1024) ![j, 0] ![1, 1024] inb).emb (ix2 0 q) = ix2 p q := by
  funext a; apply Fin.ext; fin_cases a <;> simp [h]

theorem not_mem_row (j : ℕ) (inb) (p : Fin 8) (q : Fin 1024) (h : (p : ℕ) ≠ j) :
    (ix2 p q : S8x1024.Idx) ∉ (Rect.unit (s := S8x1024) ![j, 0] ![1, 1024] inb).set := by
  rw [Rect.mem_set_unit]
  intro hm
  have := hm 0
  simp at this
  omega

/-- One row of the sums over the rows under it. -/
theorem row_peel {sig' : RefSig} {κ : Kind} {sp : Space} (v : View sig' κ sp S8x1024 .f32) (z) (j : ℕ) (hj) (x) (L) (p : Fin 8) (q : Fin 1024) (G : Fin 8 → EReal)
    (hj' : j < 8) (hit : x (ix2 0 q) = G ⟨j, hj'⟩)
    (miss : (p : ℕ) ≠ j → View.read (Elt Ideal) v (v.writes (Elt Ideal) z L) (ix2 p q) = G p) :
    View.read (Elt Ideal) v (v.writes (Elt Ideal) z (⟨Rect.unit ![j, 0] ![1, 1024] hj, x⟩ :: L)) (ix2 p q) = G p := by
  by_cases h : (p : ℕ) = j
  · obtain rfl : p = ⟨j, hj'⟩ := Fin.ext h
    refine Eq.trans ?_ hit
    refine (congrArg _ (emb_row j hj _ q rfl).symm).trans ?_
    exact View.read_writes_cons_emb ..
  · refine Eq.trans ?_ (miss h)
    rw [View.writes_cons]
    exact View.read_slice_write_of_not_mem _ _ _ _ (by
      rw [Rect.map_emb_univ]; exact not_mem_row j hj p q h)

/-- The same over a block that the point starts. -/
theorem canon_row (j : ℕ) (hj) (x) (L : List (View.Piece (Elt Ideal) S8x1024 .f32)) (p : Fin 8) (q : Fin 1024) (G : Fin 8 → EReal)
    (hj' : j < 8) (hit : x (ix2 0 q) = G ⟨j, hj'⟩) (miss : (p : ℕ) ≠ j → View.canon L (ix2 p q) = G p) :
    View.canon (⟨Rect.unit (s := S8x1024) ![j, 0] ![1, 1024] hj, x⟩ :: L) (ix2 p q) = G p := by
  by_cases h : (p : ℕ) = j
  · obtain rfl : p = ⟨j, hj'⟩ := Fin.ext h
    refine Eq.trans ?_ hit
    exact (congrArg (View.canon (⟨Rect.unit (s := S8x1024) ![j, 0] ![1, 1024] hj, x⟩ :: L)) (emb_row j hj ⟨j, hj'⟩ q rfl).symm).trans
      (View.canon_cons_emb _ _ _ _)
  · have e : View.canon (⟨Rect.unit (s := S8x1024) ![j, 0] ![1, 1024] hj, x⟩ :: L) (ix2 p q) = View.canon L (ix2 p q) :=
      View.canon_cons_of_not_mem _ _ (not_mem_row j hj p q h)
    exact e.trans (miss h)

/-- A load of one row looks past a store of another. -/
theorem readCov_row_skip {sig' : RefSig} {κ : Kind} {sp : Space} (v : View sig' κ sp S8x1024 .f32) (j k : ℕ) (hj hk) (x) (L : List (View.Piece (Elt Ideal) S8x1024 .f32)) (h : j ≠ k) :
    v.readCov (⟨Rect.unit (s := S8x1024) ![j, 0] ![1, 1024] hj, x⟩ :: L) (Rect.unit (s := S8x1024) ![k, 0] ![1, 1024] hk).toLoadRect
      = v.readCov L (Rect.unit (s := S8x1024) ![k, 0] ![1, 1024] hk).toLoadRect := by
  rw [View.readCov_eq_canon', View.readCov_eq_canon']
  funext i
  refine View.canon_cons_of_not_mem _ _ fun hm => ?_
  rw [Rect.mem_set_unit] at hm
  have h0 := hm 0
  change j ≤ k + 1 * (i 0 : ℕ) ∧ k + 1 * (i 0 : ℕ) < j + 1 at h0
  have h1 : (i 0 : ℕ) < 1 := (i 0).isLt
  omega

/-- A buffer of zeros. -/
def zstats : S8x1024.Idx → EReal := fun _ => 0

theorem zero2 : k0_pay2 (F := Ideal) = zstats := by
  funext i
  obtain ⟨r, q, rfl⟩ : ∃ r q, i = ix2 r q := ⟨i 0, i 1, by funext a; fin_cases a <;> rfl⟩
  show k0_pay2 (F := Ideal) (ix2 r q) = 0
  pointwise [k0_pay2]

theorem canon_zeros (hz) (y : S8x1024.Idx) : View.canon (Val := Elt Ideal) (e := .f32) [⟨Rect.unit (s := S8x1024) ![0, 0] ![8, 1024] hz, zstats⟩] y = 0 := by
  have e : (Rect.unit (s := S8x1024) ![0, 0] ![8, 1024] hz).emb y = y := by
    funext a
    apply Fin.ext
    fin_cases a
    · show 0 + 1 * (y 0 : ℕ) = y 0; omega
    · show 0 + 1 * (y 1 : ℕ) = y 1; omega
  exact (congrArg (View.canon (Val := Elt Ideal) (e := .f32) [⟨Rect.unit (s := S8x1024) ![0, 0] ![8, 1024] hz, zstats⟩]) e.symm).trans (View.canon_cons_emb _ _ _ _)

theorem readCov_row_fill {sig' : RefSig} {κ : Kind} {sp : Space} (v : View sig' κ sp S8x1024 .f32) (k : ℕ) (hk hz) :
    v.readCov (Val := Elt Ideal) [⟨Rect.unit (s := S8x1024) ![0, 0] ![8, 1024] hz, k0_pay2 (F := Ideal)⟩] (Rect.unit (s := S8x1024) ![k, 0] ![1, 1024] hk).toLoadRect
      = View.ld (e' := .f32) zstats (Rect.unit (s := S8x1024) ![k, 0] ![1, 1024] hk) := by
  rw [zero2, View.readCov_eq_canon']
  funext i
  exact canon_zeros hz _

/-- A row and the sum of a tile's rows. -/
def addRows (D : S256x1024.Idx → EReal) (S : S1x1024.Idx → EReal) : S1x1024.Idx → EReal := fun i => S (ix2 0 (i 1)) + ∑ r : Fin 256, D (ix2 r (i 1))

theorem pay39_eq (X : S256x1024.Idx → EReal) (P Q W V S) : k0_pay39 (F := Ideal) X P Q W V S = addRows (k0_pay36 X P Q W V) S := by
  funext i
  obtain ⟨r, q, rfl⟩ : ∃ r q, i = ix2 r q := ⟨i 0, i 1, by funext a; fin_cases a <;> rfl⟩
  obtain rfl : r = 0 := Subsingleton.elim _ _
  show k0_pay39 (F := Ideal) X P Q W V S (ix2 0 q) = S (ix2 0 q) + ∑ r : Fin 256, k0_pay36 (F := Ideal) X P Q W V (ix2 r q)
  pointwise [k0_pay39]

/-! ## The tile over the reals -/

/-- What the point reads: the rows `x` of the sub-layer's input and `d` of the gradient, the weights and the modulation. -/
structure Tile (t : Fin cfg0.N) (wi : Fin 1024 → ℕ → ℝ) (wo : ℕ → Fin 1024 → ℝ) (sh sc gt nw : Fin 1024 → ℝ) (x d : Fin 256 → Fin 1024 → ℝ) : Prop where
  a : ∀ (r : Fin 256) (q : Fin 1024), iblk m c 0 t (ix2 r q) = ((gt q * d r q : ℝ) : EReal)
  p : ∀ (j : Fin 8) (r : Fin 256) (k : Fin 704), iblk m c 1 t (ix3 j r k) = ((pre eps wi sh sc nw (x r) (j * 704 + k) : ℝ) : EReal)
  x : ∀ (r : Fin 256) (q : Fin 1024), iblk m c 2 t (ix2 r q) = ((x r q : ℝ) : EReal)
  d : ∀ (r : Fin 256) (q : Fin 1024), iblk m c 3 t (ix2 r q) = ((d r q : ℝ) : EReal)
  s : ∀ q : Fin 1024, @HAdd.hAdd EReal EReal EReal _ (iblk m c 4 t (ix2 0 ⟨4096 + q, by omega⟩)) (iblk m c 5 t (ix2 0 ⟨4096 + q, by omega⟩)) = ((sc q : ℝ) : EReal)
  n : ∀ q : Fin 1024, iblk m c 6 t (ix2 0 q) = ((nw q : ℝ) : EReal)
  wi : ∀ (j : Fin 8) (k : Fin 704) (q : Fin 1024), iblk m c 7 t (ix3 j k q) = ((wi q (j * 704 + k) : ℝ) : EReal)
  wo : ∀ (j : Fin 4) (k : Fin 704) (q : Fin 1024), iblk m c 8 t (ix3 j k q) = ((wo (j * 704 + k) q : ℝ) : EReal)

section
variable {m c}
variable {t : Fin cfg0.N} {wi : Fin 1024 → ℕ → ℝ} {wo : ℕ → Fin 1024 → ℝ} {sh sc gt nw : Fin 1024 → ℝ} {x d : Fin 256 → Fin 1024 → ℝ}
variable (H : Tile m c t wi wo sh sc gt nw x d)
include H

theorem mod_blk (i1 i2) (q : Fin 1024) :
    @HAdd.hAdd EReal EReal EReal _ (View.ld (Val := Elt Ideal) (e' := .f32) (iblk m c 4 t) (Rect.unit (s := S1x6144) ![0, 4096] ![1, 1024] i1) (ix2 0 q))
      (View.ld (Val := Elt Ideal) (e' := .f32) (iblk m c 5 t) (Rect.unit (s := S1x6144) ![0, 4096] ![1, 1024] i2) (ix2 0 q)) = ((sc q : ℝ) : EReal) := by
  rw [ld_mod, ld_mod]
  exact H.s q

theorem gate_blk (j j' : ℕ) (i1 i2 i3) (hj : j < 4) (h : j' = j + 4) (r : Fin 256) (k : Fin 704) :
    k0_pay16 (F := Ideal) (iblk m c 0 t) (View.ld (iblk m c 1 t) (Rect.unit (s := S8x256x704) ![j, 0, 0] ![1, 256, 704] i1))
      (View.ld (iblk m c 1 t) (Rect.unit (s := S8x256x704) ![j', 0, 0] ![1, 256, 704] i2))
      (View.ld (iblk m c 8 t) (Rect.unit (s := S4x704x1024) ![j, 0, 0] ![1, 704, 1024] i3)) (ix2 r k)
      = ((dpre eps wi wo sh sc gt nw (x r) (d r) (j * 704 + k) : ℝ) : EReal) := by
  subst h
  have hk := k.isLt
  rw [dpre_lo _ _ _ _ _ _ _ _ _ (by omega)]
  refine (gate_at _ _ _ _ _ (fun r k => pre eps wi sh sc nw (x r) (j * 704 + k)) (fun r k => pre eps wi sh sc nw (x r) ((j + 4) * 704 + k))
    (fun k q => wo (j * 704 + k) q) H.a (fun r k => ?_) (fun r k => ?_) (fun k q => ?_) r k).trans ?_
  · exact (ld_pre _ j i1 (by omega) r k).trans (H.p _ r k)
  · exact (ld_pre _ (j + 4) i2 (by omega) r k).trans (H.p _ r k)
  · exact (ld_wout _ j i3 hj k q).trans (H.wo _ k q)
  · rw [show (j + 4) * 704 + (k : ℕ) = 2816 + (j * 704 + k) by omega]
    rfl

theorem val_blk (j j' : ℕ) (i1 i3) (hj : j < 4) (h : j' = j + 4) (r : Fin 256) (k : Fin 704) :
    k0_pay17 (F := Ideal) (iblk m c 0 t) (View.ld (iblk m c 1 t) (Rect.unit (s := S8x256x704) ![j, 0, 0] ![1, 256, 704] i1))
      (View.ld (iblk m c 8 t) (Rect.unit (s := S4x704x1024) ![j, 0, 0] ![1, 704, 1024] i3)) (ix2 r k)
      = ((dpre eps wi wo sh sc gt nw (x r) (d r) (j' * 704 + k) : ℝ) : EReal) := by
  subst h
  rw [show (j + 4) * 704 + (k : ℕ) = 2816 + (j * 704 + k) by omega, dpre_hi]
  refine (val_at _ _ _ _ (fun r k => pre eps wi sh sc nw (x r) (j * 704 + k))
    (fun k q => wo (j * 704 + k) q) H.a (fun r k => ?_) (fun k q => ?_) r k).trans ?_
  · exact (ld_pre _ j i1 (by omega) r k).trans (H.p _ r k)
  · exact (ld_wout _ j i3 hj k q).trans (H.wo _ k q)
  · rfl

/-- One pair of blocks more of the running sum. -/
theorem dh_step (j j' : ℕ) (i1 i2 i3 i4 i5) (hj : j < 4) (h : j' = j + 4) (X : S256x1024.Idx → EReal)
    (hX : ∀ (r : Fin 256) (q : Fin 1024), X (ix2 r q) = ((∑ j ∈ Finset.range j, (∑ k : Fin 704, dpre eps wi wo sh sc gt nw (x r) (d r) (j * 704 + k) * wi q (j * 704 + k)
      + ∑ k : Fin 704, dpre eps wi wo sh sc gt nw (x r) (d r) ((j + 4) * 704 + k) * wi q ((j + 4) * 704 + k)) : ℝ) : EReal))
    (r : Fin 256) (q : Fin 1024) :
    k0_pay36 (F := Ideal) X
      (k0_pay16 (iblk m c 0 t) (View.ld (iblk m c 1 t) (Rect.unit (s := S8x256x704) ![j, 0, 0] ![1, 256, 704] i1))
        (View.ld (iblk m c 1 t) (Rect.unit (s := S8x256x704) ![j', 0, 0] ![1, 256, 704] i2)) (View.ld (iblk m c 8 t) (Rect.unit (s := S4x704x1024) ![j, 0, 0] ![1, 704, 1024] i3)))
      (k0_pay17 (iblk m c 0 t) (View.ld (iblk m c 1 t) (Rect.unit (s := S8x256x704) ![j, 0, 0] ![1, 256, 704] i1))
        (View.ld (iblk m c 8 t) (Rect.unit (s := S4x704x1024) ![j, 0, 0] ![1, 704, 1024] i3)))
      (View.ld (iblk m c 7 t) (Rect.unit (s := S8x704x1024) ![j, 0, 0] ![1, 704, 1024] i4))
      (View.ld (iblk m c 7 t) (Rect.unit (s := S8x704x1024) ![j', 0, 0] ![1, 704, 1024] i5)) (ix2 r q)
      = ((∑ j ∈ Finset.range (j + 1), (∑ k : Fin 704, dpre eps wi wo sh sc gt nw (x r) (d r) (j * 704 + k) * wi q (j * 704 + k)
      + ∑ k : Fin 704, dpre eps wi wo sh sc gt nw (x r) (d r) ((j + 4) * 704 + k) * wi q ((j + 4) * 704 + k)) : ℝ) : EReal) := by
  rw [Finset.sum_range_succ, ← add_assoc]
  subst h
  exact pair_at _ _ (fun k q => wi q (j * 704 + k)) (fun k q => wi q ((j + 4) * 704 + k))
    (fun k q => (ld_win _ j i4 (by omega) k q).trans (H.wi _ k q)) (fun k q => (ld_win _ (j + 4) i5 (by omega) k q).trans (H.wi _ k q)) X _ _ _
    (fun r k => dpre eps wi wo sh sc gt nw (x r) (d r) (j * 704 + k)) (fun r k => dpre eps wi wo sh sc gt nw (x r) (d r) ((j + 4) * 704 + k)) hX
    (fun r k => gate_blk H j _ i1 i2 i3 hj rfl r k) (fun r k => val_blk H j _ i1 i3 hj rfl r k) r q

theorem dh_at (r : Fin 256) (q : Fin 1024) : dhBlk m c t (ix2 r q) = ((dhid eps wi wo sh sc gt nw (x r) (d r) q : ℝ) : EReal) := by
  unfold dhBlk dhid
  rw [sum_pairs]
  refine dh_step H 3 7 _ _ _ _ _ (by norm_num) rfl _ (fun r q => ?_) r q
  refine dh_step H 2 6 _ _ _ _ _ (by norm_num) rfl _ (fun r q => ?_) r q
  refine dh_step H 1 5 _ _ _ _ _ (by norm_num) rfl _ (fun r q => ?_) r q
  refine dh_step H 0 4 _ _ _ _ _ (by norm_num) rfl _ (fun r q => ?_) r q
  exact start_at r q

set_option maxHeartbeats 4000000 in
/-- What the point leaves of the gradient at the first product's result. -/
theorem block9 (j : Fin 8) (r : Fin 256) (k : Fin 704) :
    (outsAt0 m c t.val t.isLt).1 (ix3 j r k) = ((dpre eps wi wo sh sc gt nw (x r) (d r) (j * 704 + k) : ℝ) : EReal) := by
  refine (Classical.em (t.val % 8 = 0)).elim (fun h => ?_) (fun h => ?_)
  on_goal 2 => rw [outsAt0_B m c t h]
  on_goal 1 => rw [outsAt0_A m c t h]
  all_goals
    frame_out
    simp only [pay3_eq, pay8_eq, pay9_eq, pay24_eq, pay32_eq, pay25_eq, pay33_eq]
    iterate 8
      refine canon_block _ _ _ _ j r k (fun j => ((dpre eps wi wo sh sc gt nw (x r) (d r) (j * 704 + k) : ℝ) : EReal)) (of_decide_eq_true rfl) ?_ fun hk => ?_
      rotate_left
    · omega
    · pointwise [k0_pay35]; exact val_blk H 3 7 _ _ (by norm_num) rfl r k
    · pointwise [k0_pay34]; exact gate_blk H 3 7 _ _ _ (by norm_num) rfl r k
    · pointwise [k0_pay27]; exact val_blk H 2 6 _ _ (by norm_num) rfl r k
    · pointwise [k0_pay26]; exact gate_blk H 2 6 _ _ _ (by norm_num) rfl r k
    · pointwise [k0_pay19]; exact val_blk H 1 5 _ _ (by norm_num) rfl r k
    · pointwise [k0_pay18]; exact gate_blk H 1 5 _ _ _ (by norm_num) rfl r k
    · pointwise [k0_pay11]; rw [pay9_eq]; exact val_blk H 0 4 _ _ (by norm_num) rfl r k
    · pointwise [k0_pay10]; rw [pay8_eq]; refine (gate_blk H 0 4 _ _ _ (by norm_num) rfl r k).trans ?_; rw [zero_mul, zero_add]

set_option maxHeartbeats 4000000 in
/-- What the point leaves of the gradient at the sub-layer's input. -/
theorem block10 (r : Fin 256) (q : Fin 1024) :
    (outsAt0 m c t.val t.isLt).2.1 (ix2 r q) = ((dx eps wi wo sh sc gt nw (x r) (d r) q : ℝ) : EReal) := by
  refine (Classical.em (t.val % 8 = 0)).elim (fun h => ?_) (fun h => ?_)
  on_goal 2 => rw [outsAt0_B m c t h]
  on_goal 1 => rw [outsAt0_A m c t h]
  all_goals
    frame_out
    simp only [pay3_eq, pay8_eq, pay9_eq, pay24_eq, pay32_eq, pay25_eq, pay33_eq, pay12_eq, pay20_eq, pay28_eq]
    generalize hd : k0_pay36 (F := Ideal) (k0_pay36 (k0_pay36 (k0_pay36 _ _ _ _ _) _ _ _ _) _ _ _ _) _ _ _ _ = DH
    obtain rfl : DH = dhBlk m c t := hd.symm
    clear hd
    pointwise [k0_pay1]
    rw [H.d, norm_at _ _ _ _ _ x (fun r c => dhid eps wi wo sh sc gt nw (x r) (d r) c) sc nw H.x (dh_at H)
      (mod_blk H _ _) H.n r q, ← EReal.coe_add]
    rfl

set_option maxHeartbeats 4000000 in
/-- What the point leaves in the running sums. -/
theorem block11 (s : ℕ → Fin 1024 → ℝ) (hS : ∀ (k : Fin 8) (q : Fin 1024), prevStats m c t (ix2 k q) = ((s k q : ℝ) : EReal)) (k : Fin 8) (q : Fin 1024) :
    (outsAt0 m c t.val t.isLt).2.2 (ix2 k q) = ((s k q + ∑ r, share eps wi wo sh sc gt nw (x r) (d r) k q : ℝ) : EReal) := by
  refine (Classical.em (t.val % 8 = 0)).elim (fun h => ?_) (fun h => ?_)
  on_goal 2 =>
    have hp : (outsAt0 m c (t.val - 1) (Nat.lt_of_le_of_lt (Nat.sub_le _ _) t.isLt)).2.2 = prevStats m c t := (if_neg h).symm
    rw [outsAt0_B m c t h]
    frame_out
    simp only [pay3_eq, pay8_eq, pay9_eq, pay24_eq, pay32_eq, pay25_eq, pay33_eq, pay12_eq, pay20_eq, pay28_eq, pay39_eq, hp]
    generalize hd : k0_pay36 (F := Ideal) (k0_pay36 (k0_pay36 (k0_pay36 _ _ _ _ _) _ _ _ _) _ _ _ _) _ _ _ _ = DH
    obtain rfl : DH = dhBlk m c t := hd.symm
    clear hd
    iterate 3
      refine row_peel _ _ _ _ _ _ k q (fun k => ((s k q + ∑ r, share eps wi wo sh sc gt nw (x r) (d r) k q : ℝ) : EReal)) (of_decide_eq_true rfl) ?_ fun hk => ?_
      rotate_left
    · rw [View.writes_nil, Memref.IsWhole.read_unread, hS]
      simp [share, *]
  on_goal 1 =>
    have hp : zstats = prevStats m c t := (if_pos h).symm
    have hs0 : (0 : EReal) = ((s k q : ℝ) : EReal) := (congrFun hp (ix2 k q)).trans (hS k q)
    rw [outsAt0_A m c t h]
    frame_out [↓ readCov_row_skip, ↓ readCov_row_fill]
    simp only [pay3_eq, pay8_eq, pay9_eq, pay24_eq, pay32_eq, pay25_eq, pay33_eq, pay12_eq, pay20_eq, pay28_eq, pay39_eq, hp]
    generalize hd : k0_pay36 (F := Ideal) (k0_pay36 (k0_pay36 (k0_pay36 _ _ _ _ _) _ _ _ _) _ _ _ _) _ _ _ _ = DH
    obtain rfl : DH = dhBlk m c t := hd.symm
    clear hd
    iterate 3
      refine canon_row _ _ _ _ k q (fun k => ((s k q + ∑ r, share eps wi wo sh sc gt nw (x r) (d r) k q : ℝ) : EReal)) (of_decide_eq_true rfl) ?_ fun hk => ?_
      rotate_left
    · rw [zero2]
      refine (canon_zeros _ _).trans (hs0.trans ?_)
      simp [share, *]
  all_goals
    first
      | (show addRows _ _ (ix2 0 q) = _
         refine (congrArg₂ (· + ·) ((ld_stat _ _ _ (by norm_num) q).trans (hS _ q)) (Finset.sum_congr rfl fun r _ => dh_at H r q)).trans ?_)
      | (pointwise [k0_pay40]
         simp only [ld_stat _ _ _ (by norm_num : 3 < 8), hS, dh_at H, xr_at _ x H.x, H.n, ← EReal.coe_mul])
      | (pointwise [k0_pay42]
         simp only [ld_stat _ _ _ (by norm_num : 4 < 8), hS, mod_at _ _ _ (fun r c => dhid eps wi wo sh sc gt nw (x r) (d r) c) sc (dh_at H) (mod_blk H _ _), xr_at _ x H.x, ← EReal.coe_mul])
    rw [EReal.coe_add, coe_sum]
    simp [share, dmod]
end

end Cert.Ffn

end
-- ==== Proof.FBlocks.lean ====
/- The blocks that a grid point of the feed-forward gradient reads, over the reals: rows of the arguments, and what the host computes
   before the kernel. -/
module
public import proofs.«01_k».proof.Proof.FPoint
public import proofs.«01_k».proof.Proof.Whole

@[expose] public section

set_option maxRecDepth 16384

noncomputable section
namespace Cert.Ffn
open Idealize.ShloMosaic Idealize.ShloMosaic.TcCoe Idealize.SL.Sem
open Cert.Kernel2Ideal Cert.Kernel2Ideal.Gen
open Cert.Conf (sg eps eps_coe eps_pos coe_sum rsqrt_pos)

/-- Part `j` of the modulation. -/
def part (mo ba : ℕ → ℝ) (j : ℕ) (q : Fin 1024) : ℝ := mo (j * 1024 + q) + ba (j * 1024 + q)

theorem rr_real (a : Fin 1024 → ℝ) :
    Ideal.rsqrt (Ideal.div (∑ q, ((a q : ℝ) : EReal) * ((a q : ℝ) : EReal)) (Ideal.ofBits FTy.f32 0x44800000#32) + Ideal.ofBits FTy.f32 0x358637BD#32)
      = ((rr eps a : ℝ) : EReal) := by
  simp only [← EReal.coe_mul, coe_sum, d1024_coe, div1024, eps_coe, ← EReal.coe_add]
  exact rsqrt_pos (ms_pos eps a eps_pos)

theorem idx : ∀ t : Fin cfg0.N, (win0_0.index t = ![t.val, 0] ∧ win0_1.index t = ![0, t.val, 0] ∧ win0_2.index t = ![t.val, 0] ∧ win0_3.index t = ![t.val, 0])
    ∧ (win0_4.index t = ![0, 0] ∧ win0_5.index t = ![0, 0] ∧ win0_6.index t = ![0, 0] ∧ win0_7.index t = ![0, 0, 0] ∧ win0_8.index t = ![0, 0, 0])
    ∧ win0_9.index t = ![0, t.val, 0] ∧ win0_10.index t = ![t.val, 0] ∧ win0_11.index t = ![0, 0] ∧ t.val < 8 :=
  (by decide +kernel : ∀ t : Fin grid0.N, _)

/-- The arguments are the reals `d x mo ba nw wi wo`. -/
structure Reals (m : (ℓ : Loc nD τ sig) → Buf (Elt Ideal) ℓ) (c : Dev nD) (d x : ℕ → Fin 1024 → ℝ) (mo ba : ℕ → ℝ) (nw : Fin 1024 → ℝ)
    (wi : Fin 1024 → ℕ → ℝ) (wo : ℕ → Fin 1024 → ℝ) : Prop where
  d : ∀ (n : Fin 2048) (q : Fin 1024), m ((c : Thread nD τ).loc main_arg0) (ix2 n q) = ((d n q : ℝ) : EReal)
  x : ∀ (n : Fin 2048) (q : Fin 1024), m ((c : Thread nD τ).loc main_arg1) (ix2 n q) = ((x n q : ℝ) : EReal)
  mo : ∀ i : Fin 6144, m ((c : Thread nD τ).loc main_arg2) (ix2 0 i) = ((mo i : ℝ) : EReal)
  ba : ∀ i : Fin 6144, m ((c : Thread nD τ).loc main_arg3) (ix2 0 i) = ((ba i : ℝ) : EReal)
  nw : ∀ q : Fin 1024, m ((c : Thread nD τ).loc main_arg4) (ix2 0 q) = ((nw q : ℝ) : EReal)
  wi : ∀ (q : Fin 1024) (i : Fin 5632), m ((c : Thread nD τ).loc main_arg5) (ix2 q i) = ((wi q i : ℝ) : EReal)
  wo : ∀ (i : Fin 2816) (q : Fin 1024), m ((c : Thread nD τ).loc main_arg6) (ix2 i q) = ((wo i q : ℝ) : EReal)

variable {m : (ℓ : Loc nD τ sig) → Buf (Elt Ideal) ℓ} {c : Dev nD} {d x : ℕ → Fin 1024 → ℝ} {mo ba : ℕ → ℝ} {nw : Fin 1024 → ℝ}
variable {wi : Fin 1024 → ℕ → ℝ} {wo : ℕ → Fin 1024 → ℝ}
variable (H : Reals m c d x mo ba nw wi wo) (t : Fin cfg0.N)
include H

theorem blk2 (r : Fin 256) (q : Fin 1024) : iblk m c 2 t (ix2 r q) = ((x (t * 256 + r) q : ℝ) : EReal) := by
  have ht := (idx t).2.2.2.2.2
  refine Eq.trans ?_ (H.x ⟨t * 256 + r, by omega⟩ q)
  blk_ext [iblk, V, idx t]

theorem blk3 (r : Fin 256) (q : Fin 1024) : iblk m c 3 t (ix2 r q) = ((d (t * 256 + r) q : ℝ) : EReal) := by
  have ht := (idx t).2.2.2.2.2
  refine Eq.trans ?_ (H.d ⟨t * 256 + r, by omega⟩ q)
  blk_ext [iblk, V, idx t]

theorem blk4 (i : Fin 6144) : iblk m c 4 t (ix2 0 i) = ((mo i : ℝ) : EReal) := by
  refine Eq.trans ?_ (H.mo i)
  blk_ext [iblk, V, idx t]

theorem blk5 (i : Fin 6144) : iblk m c 5 t (ix2 0 i) = ((ba i : ℝ) : EReal) := by
  refine Eq.trans ?_ (H.ba i)
  blk_ext [iblk, V, idx t]

theorem blk6 (q : Fin 1024) : iblk m c 6 t (ix2 0 q) = ((nw q : ℝ) : EReal) := by
  refine Eq.trans ?_ (H.nw q)
  blk_ext [iblk, V, idx t]

theorem blk7 (j : Fin 8) (k : Fin 704) (q : Fin 1024) : iblk m c 7 t (ix3 j k q) = ((wi q (j * 704 + k) : ℝ) : EReal) := by
  have e : (win0_7.blk t).view.emb (ix3 j k q) = ix3 j k q := by blk_ext [idx t]
  blk_simp [iblk, idx t]
  rw [e]
  entry_read
  pointwise []
  exact H.wi q ⟨j * 704 + k, by omega⟩

theorem blk8 (j : Fin 4) (k : Fin 704) (q : Fin 1024) : iblk m c 8 t (ix3 j k q) = ((wo (j * 704 + k) q : ℝ) : EReal) := by
  have e : (win0_8.blk t).view.emb (ix3 j k q) = ix3 j k q := by blk_ext [idx t]
  blk_simp [iblk, idx t]
  rw [e]
  entry_read
  pointwise []
  exact H.wo ⟨j * 704 + k, by omega⟩ q

theorem blk0 (r : Fin 256) (q : Fin 1024) : iblk m c 0 t (ix2 r q) = ((part mo ba 5 q * d (t * 256 + r) q : ℝ) : EReal) := by
  have ht := (idx t).2.2.2.2.2
  have e : (win0_0.blk t).view.emb (ix2 r q) = ix2 ⟨t * 256 + r, by omega⟩ q := by blk_ext [idx t]
  blk_simp [iblk, idx t]
  rw [e]
  entry_read
  pointwise []
  have h0 : ∀ (n : Fin 2048) (q : Fin 1024), m (c, Proc.tc.devRef main_arg0) (ix2 n q) = _ := H.d
  have h2 : ∀ i : Fin 6144, m (c, Proc.tc.devRef main_arg2) (ix2 0 i) = _ := H.mo
  have h3 : ∀ i : Fin 6144, m (c, Proc.tc.devRef main_arg3) (ix2 0 i) = _ := H.ba
  rw [h0, h2, h3, part, EReal.coe_mul, EReal.coe_add]

theorem blk1 (j : Fin 8) (r : Fin 256) (k : Fin 704) :
    iblk m c 1 t (ix3 j r k) = ((pre eps wi (part mo ba 3) (part mo ba 4) nw (x (t * 256 + r)) (j * 704 + k) : ℝ) : EReal) := by
  have ht := (idx t).2.2.2.2.2
  have e : (win0_1.blk t).view.emb (ix3 j r k) = ix3 j ⟨t * 256 + r, by omega⟩ k := by blk_ext [idx t]
  blk_simp [iblk, idx t]
  rw [e]
  entry_read
  pointwise []
  have h1 : ∀ (n : Fin 2048) (q : Fin 1024), m (c, Proc.tc.devRef main_arg1) (ix2 n q) = _ := H.x
  have h2 : ∀ i : Fin 6144, m (c, Proc.tc.devRef main_arg2) (ix2 0 i) = _ := H.mo
  have h3 : ∀ i : Fin 6144, m (c, Proc.tc.devRef main_arg3) (ix2 0 i) = _ := H.ba
  have h4 : ∀ q : Fin 1024, m (c, Proc.tc.devRef main_arg4) (ix2 0 q) = _ := H.nw
  have h5 : ∀ (q : Fin 1024) (i : Fin 5632), m (c, Proc.tc.devRef main_arg5) (ix2 q i) = _ := H.wi
  simp only [h1, h2, h3, h4, h5, rr_real]
  unfold pre
  refine Eq.trans (Finset.sum_congr (M := EReal) rfl fun q _ => ?_) (coe_sum Finset.univ fun q => hid eps (part mo ba 3) (part mo ba 4) nw (x (t * 256 + r)) q * wi q (j * 704 + k))
  unfold hid xr part
  simp only [EReal.coe_mul, EReal.coe_add, EReal.coe_one]

theorem tile : Tile m c t wi wo (part mo ba 3) (part mo ba 4) (part mo ba 5) nw (fun r => x (t * 256 + r)) (fun r => d (t * 256 + r)) where
  a := blk0 H t
  p := blk1 H t
  x := blk2 H t
  d := blk3 H t
  s := fun q => by
    rw [blk4 H t, blk5 H t, ← EReal.coe_add]
    rfl
  n := blk6 H t
  wi := blk7 H t
  wo := blk8 H t

end Cert.Ffn

end
-- ==== Proof.FFinal.lean ====
/- The three result arrays of the feed-forward gradient, over the reals. -/
module
public import proofs.«01_k».proof.Proof.FBlocks

@[expose] public section

set_option maxRecDepth 16384

noncomputable section
namespace Cert.Ffn
open Idealize.ShloMosaic Idealize.ShloMosaic.TcCoe Idealize.SL.Sem
open Cert.Kernel2Ideal Cert.Kernel2Ideal.Gen
open Cert.Conf (eps sum_tiles)

section
variable (wi : Fin 1024 → ℕ → ℝ) (wo : ℕ → Fin 1024 → ℝ) (mo ba : ℕ → ℝ) (nw : Fin 1024 → ℝ) (x d : ℕ → Fin 1024 → ℝ)

/-- The gradient at the first product's result, in row `n`. -/
def dfR (n : ℕ) : ℕ → ℝ := dpre eps wi wo (part mo ba 3) (part mo ba 4) (part mo ba 5) nw (x n) (d n)
/-- The gradient at the sub-layer's input, in row `n`. -/
def dxR (n : ℕ) : Fin 1024 → ℝ := dx eps wi wo (part mo ba 3) (part mo ba 4) (part mo ba 5) nw (x n) (d n)
/-- The share of row `n` in the sums. -/
def shR (n : ℕ) : ℕ → Fin 1024 → ℝ := share eps wi wo (part mo ba 3) (part mo ba 4) (part mo ba 5) nw (x n) (d n)
/-- The sums over the rows. -/
def stR (k : ℕ) (q : Fin 1024) : ℝ := ∑ n ∈ Finset.range 2048, shR wi wo mo ba nw x d n k q
end

variable {m : (ℓ : Loc nD τ sig) → Buf (Elt Ideal) ℓ} {c : Dev nD} {d x : ℕ → Fin 1024 → ℝ} {mo ba : ℕ → ℝ} {nw : Fin 1024 → ℝ}
variable {wi : Fin 1024 → ℕ → ℝ} {wo : ℕ → Fin 1024 → ℝ}
variable (H : Reals m c d x mo ba nw wi wo)
include H

/-- The sums after a point: the shares of its tile and of those before it. -/
theorem stats_upto (n : ℕ) (hn : n < cfg0.N) (k : Fin 8) (q : Fin 1024) :
    (outsAt0 m c n hn).2.2 (ix2 k q) = ((∑ t ∈ Finset.range (n + 1), ∑ r : Fin 256, shR wi wo mo ba nw x d (t * 256 + r) k q : ℝ) : EReal) := by
  induction n generalizing k q with
  | zero =>
    refine (block11 (tile H ⟨0, hn⟩) (fun _ _ => 0) (fun k q => ?_) k q).trans ?_
    · exact congrFun (if_pos rfl) _
    · rw [Finset.sum_range_one, zero_add]
      rfl
  | succ n ih =>
    have ht := (idx ⟨n + 1, hn⟩).2.2.2.2.2
    have ht' : n + 1 < 8 := ht
    refine (block11 (tile H ⟨n + 1, hn⟩) (fun k q => ∑ t ∈ Finset.range (n + 1), ∑ r : Fin 256, shR wi wo mo ba nw x d (t * 256 + r) k q) (fun k q => ?_) k q).trans ?_
    · refine Eq.trans ?_ (ih (Nat.lt_of_succ_lt hn) k q)
      exact congrFun (if_neg (by show ¬ (n + 1) % 8 = 0; omega)) _
    · rw [Finset.sum_range_succ _ (n + 1)]
      rfl

theorem result0 : (dats m 0 c).arrAt 9 cfg0.N = fun i => ((dfR wi wo mo ba nw x d (i 1) ((i 0 : ℕ) * 704 + (i 2 : ℕ)) : ℝ) : EReal) := by
  refine (dats m 0 c).arrAt_eq_of_covers 9 _ (by decide +kernel) fun t hf y => ?_
  blk_simp
  rw [after0_9, (idx t).2.2.1]
  obtain ⟨j, r, k, rfl⟩ : ∃ (j : Fin 8) (r : Fin 256) (k : Fin 704), y = ix3 j r k := ⟨y 0, y 1, y 2, by funext a; fin_cases a <;> rfl⟩
  show (outsAt0 m c t.val t.isLt).1 (ix3 j r k) = ((dfR wi wo mo ba nw x d (t.val * 256 + r) ((0 * 8 + j) * 704 + (0 * 704 + k)) : ℝ) : EReal)
  rw [zero_mul, zero_mul, zero_add, zero_add]
  exact block9 (tile H t) j r k

theorem result1 : (dats m 0 c).arrAt 10 cfg0.N = fun i => ((dxR wi wo mo ba nw x d (i 0) (i 1) : ℝ) : EReal) := by
  refine (dats m 0 c).arrAt_eq_of_covers 10 _ (by decide +kernel) fun t hf y => ?_
  blk_simp
  rw [after0_10, (idx t).2.2.2.1]
  obtain ⟨r, q, rfl⟩ : ∃ (r : Fin 256) (q : Fin 1024), y = ix2 r q := ⟨y 0, y 1, by funext a; fin_cases a <;> rfl⟩
  have ht := (idx t).2.2.2.2.2
  have e : (win0_10.blk t).view.emb (ix2 r q) = ix2 ⟨t * 256 + r, by omega⟩ q := by blk_ext [idx t]
  have e1 : (win0_10.blk t).view.emb (ix2 r q) 1 = q := congrFun e 1
  rw [e1]
  exact block10 (tile H t) r q

theorem result2 : (dats m 0 c).arrAt 11 cfg0.N = fun i => ((stR wi wo mo ba nw x d (i 0) (i 1) : ℝ) : EReal) := by
  refine (dats m 0 c).arrAt_eq_of_after_last 11 t0_7 (by decide +kernel) _ fun j => ?_
  blk_simp
  rw [after0_11]
  obtain ⟨k, q, rfl⟩ : ∃ (k : Fin 8) (q : Fin 1024), j = ix2 k q := ⟨j 0, j 1, by funext a; fin_cases a <;> rfl⟩
  refine (stats_upto H t0_7.val t0_7.isLt k q).trans ?_
  refine congrArg Real.toEReal ?_
  have h : ∀ n : ℕ, ∑ t ∈ Finset.range n, ∑ r : Fin 256, shR wi wo mo ba nw x d (t * 256 + r) k q = ∑ i ∈ Finset.range (n * 256), shR wi wo mo ba nw x d i k q := by
    intro n
    induction n with
    | zero => simp
    | succ n ih => rw [Finset.sum_range_succ, ih, add_mul, one_mul, Finset.sum_range_add, Finset.sum_range (fun r => shR wi wo mo ba nw x d (n * 256 + r) k q)]
  exact h 8

end Cert.Ffn

end
-- ==== Proof.FRef.lean ====
/- The plain gradient of the feed-forward sub-layer, stage by stage, at real arguments. -/
module
public import proofs.«01_k».proof.Proof.FFinal
public import proofs.«01_k».proof.Proof.Gen.Reference2Ideal.Run

@[expose] public section

set_option maxRecDepth 16384

noncomputable section
namespace Cert.Ffn.Plain
open Idealize.ShloMosaic Idealize.ShloMosaic.TcCoe Idealize.SL.Sem
open Cert.Reference2Ideal Cert.Reference2Ideal.Gen Cert.Reference2Ideal.Value
open Cert.Conf (sg eps eps_coe eps_pos coe_sum rsqrt_pos sig_div)

/-- An array of this shape. -/
abbrev Arr (S : Shape) : Type := FVec Ideal S .f32

/-- The arguments. -/
structure Inp where
  d : Arr S2048x1024
  x : Arr S2048x1024
  mo : Arr S1x6144
  ba : Arr S1x6144
  nw : Arr S1x1024
  wi : Arr S1024x5632
  wo : Arr S2816x1024

/-- The modulation. -/
def v0 (v : Inp) : Arr S1x6144 :=
  addf v.mo v.ba
/-- The shift. -/
def v4 (v : Inp) : Arr S1x1024 :=
  extractStridedSlice S1x1024 ![0, 3072] (v0 v) slices_S1x6144_S1x1024_0_3072
/-- The scale. -/
def v5 (v : Inp) : Arr S1x1024 :=
  extractStridedSlice S1x1024 ![0, 4096] (v0 v) slices_S1x6144_S1x1024_0_4096
/-- The gate. -/
def v6 (v : Inp) : Arr S1x1024 :=
  extractStridedSlice S1x1024 ![0, 5120] (v0 v) slices_S1x6144_S1x1024_0_5120
/-- Each row's mean square, and `eps`. -/
def v14 (v : Inp) : Arr S2048x1 :=
  addf (Host.divf (broadcastInDim S2048x1 ![0] bcast_S2048_S2048x1_0 (Host.reduceAdd (mulf v.x v.x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
/-- Its reciprocal root. -/
def v15 (v : Inp) : Arr S2048x1 :=
  Host.rsqrt (v14 v)
/-- The root's derivative. -/
def v18 (v : Inp) : Arr S2048x1 :=
  mulf (broadcastInDim S2048x1 ![] bcast_S_S2048x1 (constant S_ .f32 0xBF000000#32)) (Host.divf (v15 v) (v14 v))
/-- The normalised rows. -/
def v20 (v : Inp) : Arr S2048x1024 :=
  mulf v.x (broadcastInDim S2048x1024 ![0, 1] bcast_S2048x1_S2048x1024_0_1 (v15 v))
/-- Scaled. -/
def v22 (v : Inp) : Arr S2048x1024 :=
  mulf (v20 v) (broadcastInDim S2048x1024 ![0, 1] bcast_S1x1024_S2048x1024_0_1 v.nw)
/-- One and the scale. -/
def v24 (v : Inp) : Arr S1x1024 :=
  addf (broadcastInDim S1x1024 ![] bcast_S_S1x1024 (constant S_ .f32 0x3F800000#32)) (v5 v)
/-- The first product's input. -/
def v28 (v : Inp) : Arr S2048x1024 :=
  addf (mulf (v22 v) (broadcastInDim S2048x1024 ![0, 1] bcast_S1x1024_S2048x1024_0_1 (v24 v))) (broadcastInDim S2048x1024 ![0, 1] bcast_S1x1024_S2048x1024_0_1 (v4 v))
/-- Its result. -/
def v30 (v : Inp) : Arr S2048x5632 :=
  addf (Host.dotGeneral dot_S2048x1024_S1024x5632_S2048x5632_1_0_0_1_n_n none (v28 v) v.wi) (broadcastInDim S2048x5632 ![] bcast_S_S2048x5632 (constant S_ .f32 0x00000000#32))
/-- The gates. -/
def v31 (v : Inp) : Arr S2048x2816 :=
  extractStridedSlice S2048x2816 ![0, 0] (v30 v) slices_S2048x5632_S2048x2816_0_0
/-- The values. -/
def v32 (v : Inp) : Arr S2048x2816 :=
  extractStridedSlice S2048x2816 ![0, 2816] (v30 v) slices_S2048x5632_S2048x2816_0_2816
/-- Ones. -/
def one : Arr S2048x2816 :=
  broadcastInDim S2048x2816 ![] bcast_S_S2048x2816 (constant S_ .f32 0x3F800000#32)
/-- The logistic of the gates. -/
def v33s (v : Inp) : Arr S2048x2816 :=
  Host.divf one (addf one (Host.exp (Host.negf (v31 v))))
/-- Its derivative. -/
def v33d (v : Inp) : Arr S2048x2816 :=
  mulf (v33s v) (subf one (v33s v))
/-- The gates' images. -/
def v33 (v : Inp) : Arr S2048x2816 :=
  mulf (v31 v) (v33s v)
/-- The gradient at the second product's input. -/
def v42 (v : Inp) : Arr S2048x2816 :=
  Host.dotGeneral dot_S2048x1024_S2816x1024_S2048x2816_1_1_0_0_n_n none (mulf (broadcastInDim S2048x1024 ![0, 1] bcast_S1x1024_S2048x1024_0_1 (v6 v)) (shapeCast _ v.d shapeCasts_S2048x1024_S2048x1024)) v.wo
/-- At the values. -/
def v43 (v : Inp) : Arr S2048x2816 :=
  mulf (v33 v) (v42 v)
/-- At the gates' images. -/
def v44 (v : Inp) : Arr S2048x2816 :=
  mulf (v42 v) (v32 v)
/-- At the gates. -/
def v45 (v : Inp) : Arr S2048x2816 :=
  addf (mulf (v44 v) (v33s v)) (mulf (mulf (v31 v) (v44 v)) (v33d v))
/-- At the first product's result. -/
def v46 (v : Inp) : Arr S2048x5632 :=
  concatenate S2048x5632 1 [⟨S2048x2816, v45 v⟩, ⟨S2048x2816, v43 v⟩] concatenates_S2048x2816_S2048x2816_S2048x5632_d1
/-- At its input. -/
def v47 (v : Inp) : Arr S2048x1024 :=
  Host.dotGeneral dot_S2048x5632_S1024x5632_S2048x1024_1_1_0_0_n_n none (v46 v) v.wi
/-- At the shift. -/
def v49 (v : Inp) : Arr S1x1024 :=
  shapeCast _ (Host.reduceAdd (v47 v) (constant S_ .f32 0x00000000#32) reducesTo_S2048x1024_S1024_d0 h_S_) shapeCasts_S1024_S1x1024
/-- At the scale. -/
def v52 (v : Inp) : Arr S1x1024 :=
  shapeCast _ (Host.reduceAdd (mulf (v22 v) (v47 v)) (constant S_ .f32 0x00000000#32) reducesTo_S2048x1024_S1024_d0 h_S_) shapeCasts_S1024_S1x1024
/-- At the scaled rows. -/
def v54 (v : Inp) : Arr S2048x1024 :=
  mulf (v47 v) (broadcastInDim S2048x1024 ![0, 1] bcast_S1x1024_S2048x1024_0_1 (v24 v))
/-- At the norm's scale. -/
def v57 (v : Inp) : Arr S1x1024 :=
  shapeCast _ (Host.reduceAdd (mulf (v20 v) (v54 v)) (constant S_ .f32 0x00000000#32) reducesTo_S2048x1024_S1024_d0 h_S_) shapeCasts_S1024_S1x1024
/-- At the normalised rows. -/
def v59 (v : Inp) : Arr S2048x1024 :=
  mulf (v54 v) (broadcastInDim S2048x1024 ![0, 1] bcast_S1x1024_S2048x1024_0_1 v.nw)
/-- At the mean square's terms. -/
def v68 (v : Inp) : Arr S2048x1 :=
  Host.divf (mulf (shapeCast _ (Host.reduceAdd (mulf v.x (v59 v)) (constant S_ .f32 0x00000000#32) reducesTo_S2048x1024_S2048_d1 h_S_) shapeCasts_S2048_S2048x1) (v18 v)) (broadcastInDim S2048x1 ![] bcast_S_S2048x1 (constant S_ .f32 0x44800000#32))
/-- The same in every column. -/
def v70 (v : Inp) : Arr S2048x1024 :=
  broadcastInDim S2048x1024 ![0] bcast_S2048_S2048x1024_0 (Host.reduceAdd (v68 v) (constant S_ .f32 0x00000000#32) reducesTo_S2048x1_S2048_d1 h_S_)
/-- At the sub-layer's input. -/
def v74 (v : Inp) : Arr S2048x1024 :=
  addf (addf (addf v.d (mulf (v59 v) (broadcastInDim S2048x1024 ![0, 1] bcast_S2048x1_S2048x1024_0_1 (v15 v)))) (mulf v.x (v70 v))) (mulf (v70 v) v.x)
/-- The first result. -/
def v77 (v : Inp) : FVec Ideal S8x2048x704 .bf16 :=
  truncf .bf16 (transpose S8x2048x704 [1, 0, 2] (shapeCast _ (v46 v) shapeCasts_S2048x5632_S2048x8x704) transposes_S2048x8x704_S8x2048x704_1_0_2) bitsLt_bf16_f32
/-- The third result. -/
def v80 (v : Inp) : Arr S8x1024 :=
  concatenate S8x1024 0 [⟨S2x1024, broadcastInDim S2x1024 ![] bcast_S_S2x1024 (constant (F := Ideal) S_ .f32 0x00000000#32)⟩, ⟨S1x1024, v49 v⟩, ⟨S1x1024, v52 v⟩, ⟨S1x1024, v57 v⟩,
    ⟨S3x1024, broadcastInDim S3x1024 ![] bcast_S_S3x1024 (constant (F := Ideal) S_ .f32 0x00000000#32)⟩] concatenates_S2x1024_S1x1024_S1x1024_S1x1024_S3x1024_S8x1024_d0

/-- The arguments in memory. -/
def inp (m : (ℓ : Loc nD τ sig) → Buf (Elt Ideal) ℓ) (c : Dev nD) : Inp :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6)⟩

set_option maxHeartbeats 2000000 in
theorem out0 (m : (ℓ : Loc nD τ sig) → Buf (Elt Ideal) ℓ) (c : Dev nD) : res_main_v77 m c = v77 (inp m c) := rfl
set_option maxHeartbeats 2000000 in
theorem out1 (m : (ℓ : Loc nD τ sig) → Buf (Elt Ideal) ℓ) (c : Dev nD) : res_main_v74 m c = v74 (inp m c) := rfl
set_option maxHeartbeats 2000000 in
theorem out2 (m : (ℓ : Loc nD τ sig) → Buf (Elt Ideal) ℓ) (c : Dev nD) : res_main_v80 m c = v80 (inp m c) := rfl

/-- The arguments are the reals `d x mo ba nw wi wo`. -/
structure Args (v : Inp) (d x : ℕ → Fin 1024 → ℝ) (mo ba : ℕ → ℝ) (nw : Fin 1024 → ℝ) (wi : Fin 1024 → ℕ → ℝ) (wo : ℕ → Fin 1024 → ℝ) : Prop where
  d : ∀ (n : Fin 2048) (q : Fin 1024), v.d (ix2 n q) = ((d n q : ℝ) : EReal)
  x : ∀ (n : Fin 2048) (q : Fin 1024), v.x (ix2 n q) = ((x n q : ℝ) : EReal)
  mo : ∀ i : Fin 6144, v.mo (ix2 0 i) = ((mo i : ℝ) : EReal)
  ba : ∀ i : Fin 6144, v.ba (ix2 0 i) = ((ba i : ℝ) : EReal)
  nw : ∀ q : Fin 1024, v.nw (ix2 0 q) = ((nw q : ℝ) : EReal)
  wi : ∀ (q : Fin 1024) (i : Fin 5632), v.wi (ix2 q i) = ((wi q i : ℝ) : EReal)
  wo : ∀ (i : Fin 2816) (q : Fin 1024), v.wo (ix2 i q) = ((wo i q : ℝ) : EReal)

theorem cneg : (Ideal.ofBits .f32 0xBF000000#32 : EReal) = ((-(1 / 2) : ℝ) : EReal) := by
  simp [Ideal.ofBits, Ideal.ieee, -EReal.coe_mul]; norm_num

variable {v : Inp} {d x : ℕ → Fin 1024 → ℝ} {mo ba : ℕ → ℝ} {nw : Fin 1024 → ℝ} {wi : Fin 1024 → ℕ → ℝ} {wo : ℕ → Fin 1024 → ℝ}
variable (H : Args v d x mo ba nw wi wo)
include H

theorem v4_at (q : Fin 1024) : v4 v (ix2 0 q) = ((part mo ba 3 q : ℝ) : EReal) := by
  pointwise [v4, v0]
  rw [H.mo, H.ba, part, EReal.coe_add]

theorem v5_at (q : Fin 1024) : v5 v (ix2 0 q) = ((part mo ba 4 q : ℝ) : EReal) := by
  pointwise [v5, v0]
  rw [H.mo, H.ba, part, EReal.coe_add]

theorem v6_at (q : Fin 1024) : v6 v (ix2 0 q) = ((part mo ba 5 q : ℝ) : EReal) := by
  pointwise [v6, v0]
  rw [H.mo, H.ba, part, EReal.coe_add]

theorem v14_at (n : Fin 2048) : v14 v (ix2 n 0) = ((ms eps (x n) : ℝ) : EReal) := by
  pointwise [v14]
  simp only [H.x, ← EReal.coe_mul, coe_sum, d1024_coe, div1024, eps_coe, ← EReal.coe_add]
  rfl

theorem v15_at (n : Fin 2048) : v15 v (ix2 n 0) = ((rr eps (x n) : ℝ) : EReal) := by
  pointwise [v15]
  rw [v14_at H]
  exact rsqrt_pos (ms_pos eps _ eps_pos)

theorem v18_at (n : Fin 2048) : v18 v (ix2 n 0) = ((-(1 / 2) * (rr eps (x n) / ms eps (x n)) : ℝ) : EReal) := by
  pointwise [v18]
  rw [v14_at H, v15_at H, cneg, Ideal.div_coe (ms_pos eps _ eps_pos).ne', ← EReal.coe_mul, ← EReal.coe_mul, mul_one_div]

theorem v20_at (n : Fin 2048) (q : Fin 1024) : v20 v (ix2 n q) = ((xr eps (x n) q : ℝ) : EReal) := by
  pointwise [v20]
  rw [v15_at H, H.x, ← EReal.coe_mul, xr]

theorem v22_at (n : Fin 2048) (q : Fin 1024) : v22 v (ix2 n q) = ((xr eps (x n) q * nw q : ℝ) : EReal) := by
  pointwise [v22]
  rw [v20_at H, H.nw, ← EReal.coe_mul]

theorem v24_at (q : Fin 1024) : v24 v (ix2 0 q) = ((1 + part mo ba 4 q : ℝ) : EReal) := by
  pointwise [v24]
  rw [v5_at H, ← EReal.coe_one, ← EReal.coe_add]

theorem v28_at (n : Fin 2048) (q : Fin 1024) : v28 v (ix2 n q) = ((hid eps (part mo ba 3) (part mo ba 4) nw (x n) q : ℝ) : EReal) := by
  pointwise [v28]
  rw [v22_at H, v24_at H, v4_at H, ← EReal.coe_mul, ← EReal.coe_add, hid]

theorem v30_at (n : Fin 2048) (i : Fin 5632) : v30 v (ix2 n i) = ((pre eps wi (part mo ba 3) (part mo ba 4) nw (x n) i : ℝ) : EReal) := by
  pointwise [v30]
  simp only [v28_at H, H.wi, ← EReal.coe_mul, coe_sum]
  rfl

theorem v31_at (n : Fin 2048) (i : Fin 2816) : v31 v (ix2 n i) = ((pre eps wi (part mo ba 3) (part mo ba 4) nw (x n) i : ℝ) : EReal) := by
  pointwise [v31]
  rw [v30_at H]

theorem v32_at (n : Fin 2048) (i : Fin 2816) : v32 v (ix2 n i) = ((pre eps wi (part mo ba 3) (part mo ba 4) nw (x n) (2816 + i) : ℝ) : EReal) := by
  pointwise [v32]
  rw [v30_at H]

theorem v33s_at (n : Fin 2048) (i : Fin 2816) : v33s v (ix2 n i) = ((sg (pre eps wi (part mo ba 3) (part mo ba 4) nw (x n) i) : ℝ) : EReal) := by
  pointwise [v33s, one]
  rw [v31_at H, sig_div]

theorem v33_at (n : Fin 2048) (i : Fin 2816) : v33 v (ix2 n i)
    = ((pre eps wi (part mo ba 3) (part mo ba 4) nw (x n) i * sg (pre eps wi (part mo ba 3) (part mo ba 4) nw (x n) i) : ℝ) : EReal) := by
  pointwise [v33]
  rw [v31_at H, v33s_at H, ← EReal.coe_mul]

theorem v42_at (n : Fin 2048) (i : Fin 2816) : v42 v (ix2 n i) = ((dmid wo (part mo ba 5) (d n) i : ℝ) : EReal) := by
  pointwise [v42]
  simp only [v6_at H, H.d, H.wo, ← EReal.coe_mul, coe_sum]
  rfl

theorem v43_at (n : Fin 2048) (i : Fin 2816) : v43 v (ix2 n i)
    = ((dval eps wi wo (part mo ba 3) (part mo ba 4) (part mo ba 5) nw (x n) (d n) i : ℝ) : EReal) := by
  pointwise [v43]
  rw [v33_at H, v42_at H, ← EReal.coe_mul, dval, mul_comm]

theorem v45_at (n : Fin 2048) (i : Fin 2816) : v45 v (ix2 n i)
    = ((dgate eps wi wo (part mo ba 3) (part mo ba 4) (part mo ba 5) nw (x n) (d n) i : ℝ) : EReal) := by
  pointwise [v45, v44, v33d, one]
  rw [v31_at H, v32_at H, v33s_at H, v42_at H, ← EReal.coe_one]
  simp only [← EReal.coe_mul, ← EReal.coe_add, ← EReal.coe_sub]
  rw [dgate]
  congr 1
  ring

theorem v46_at (n : Fin 2048) (i : Fin 5632) : v46 v (ix2 n i) = ((dfR wi wo mo ba nw x d n i : ℝ) : EReal) := by
  pointwise [v46]
  by_cases h : (i : ℕ) < 2816
  · rw [dif_pos h, v45_at H, dfR, dpre, if_pos h]
  · rw [dif_neg h, v43_at H, dfR, dpre, if_neg h]

theorem v47_at (n : Fin 2048) (q : Fin 1024) : v47 v (ix2 n q)
    = ((dhid eps wi wo (part mo ba 3) (part mo ba 4) (part mo ba 5) nw (x n) (d n) q : ℝ) : EReal) := by
  pointwise [v47]
  simp only [v46_at H, H.wi, ← EReal.coe_mul, coe_sum]
  rw [dhid, Finset.sum_range]
  rfl

theorem v54_at (n : Fin 2048) (q : Fin 1024) : v54 v (ix2 n q)
    = ((dmod eps wi wo (part mo ba 3) (part mo ba 4) (part mo ba 5) nw (x n) (d n) q : ℝ) : EReal) := by
  pointwise [v54]
  rw [v47_at H, v24_at H, ← EReal.coe_mul, dmod]

theorem v59_at (n : Fin 2048) (q : Fin 1024) : v59 v (ix2 n q)
    = ((dmod eps wi wo (part mo ba 3) (part mo ba 4) (part mo ba 5) nw (x n) (d n) q * nw q : ℝ) : EReal) := by
  pointwise [v59]
  rw [v54_at H, H.nw, ← EReal.coe_mul]

theorem v68_at (n : Fin 2048) : v68 v (ix2 n 0)
    = (((∑ q, x n q * (dmod eps wi wo (part mo ba 3) (part mo ba 4) (part mo ba 5) nw (x n) (d n) q * nw q)) * (-(1 / 2) * (rr eps (x n) / ms eps (x n))) / 1024 : ℝ) : EReal) := by
  pointwise [v68]
  simp only [v59_at H, v18_at H, H.x, ← EReal.coe_mul, coe_sum, d1024_coe, div1024]

theorem v70_at (n : Fin 2048) (q : Fin 1024) : v70 v (ix2 n q)
    = (((∑ q, x n q * (dmod eps wi wo (part mo ba 3) (part mo ba 4) (part mo ba 5) nw (x n) (d n) q * nw q)) * (-(1 / 2) * (rr eps (x n) / ms eps (x n))) / 1024 : ℝ) : EReal) := by
  pointwise [v70]
  have h : ∀ i : Fin 1, v68 v (ix2 n i) = v68 v (ix2 n 0) := fun i => by rw [Subsingleton.elim i 0]
  refine (Finset.sum_congr (M := EReal) rfl fun i _ => h i).trans ?_
  rw [Finset.sum_const, Finset.card_univ, Fintype.card_fin, one_smul]
  exact v68_at H n

theorem v74_at (n : Fin 2048) (q : Fin 1024) : v74 v (ix2 n q) = ((dxR wi wo mo ba nw x d n q : ℝ) : EReal) := by
  pointwise [v74]
  rw [v59_at H, v15_at H, v70_at H, H.d, H.x]
  simp only [← EReal.coe_mul, ← EReal.coe_add]
  rw [dxR, dx, ← dnorm_eq eps (x n) eps_pos]
  congr 1
  ring

theorem v77_at (j : Fin 8) (n : Fin 2048) (k : Fin 704) : v77 v (ix3 j n k) = ((dfR wi wo mo ba nw x d n (j * 704 + k) : ℝ) : EReal) := by
  pointwise [v77]
  rw [v46_at H]

theorem v80_at (k : Fin 8) (q : Fin 1024) : v80 v (ix2 k q) = ((stR wi wo mo ba nw x d k q : ℝ) : EReal) := by
  pointwise [v80, v49, v52, v57]
  simp only [v47_at H, v22_at H, v20_at H, v54_at H, ← EReal.coe_mul, coe_sum]
  rw [stR, Finset.sum_range]
  simp only [shR, share]
  have hk := k.isLt
  by_cases h2 : (k : ℕ) = 2
  · rw [dif_neg (by omega), dif_pos (by omega)]
    simp only [h2, if_true]
  · by_cases h3 : (k : ℕ) = 3
    · rw [dif_neg (by omega), dif_neg (by omega), dif_pos (by omega)]
      simp only [h3, if_true, Nat.reduceEqDiff, if_false]
      exact congrArg Real.toEReal (Finset.sum_congr rfl fun n _ => mul_comm _ _)
    · by_cases h4 : (k : ℕ) = 4
      · rw [dif_neg (by omega), dif_neg (by omega), dif_neg (by omega), dif_pos (by omega)]
        simp only [h4, if_true, Nat.reduceEqDiff, if_false]
        exact congrArg Real.toEReal (Finset.sum_congr rfl fun n _ => mul_comm _ _)
      · simp only [if_neg h2, if_neg h3, if_neg h4, Finset.sum_const_zero]
        by_cases h : (k : ℕ) < 2
        · rw [dif_pos h]
          rfl
        · rw [dif_neg h, dif_neg (by omega), dif_neg (by omega), dif_neg (by omega)]
          rfl

end Cert.Ffn.Plain

end
-- ==== Proof.FFinite.lean ====
/- The feed-forward gradient's precondition says that every element of its arguments is a real number. -/
module
public import proofs.«01_k».proof.Proof.Finite
public import proofs.«01_k».proof.Proof.FFinal
public import proofs.«01_k».proof.Proof.FRef
public import proofs.«01_k».proof.Proof.Gen.Pre_finite2
public import proofs.«01_k».proof.Defs

@[expose] public section

set_option maxRecDepth 16384

noncomputable section
namespace Cert.Ffn
open Idealize.ShloMosaic Idealize.ShloMosaic.TcCoe Idealize.SL.Sem

/-- The precondition, decoded: every element of every argument is a real. -/
theorem all_real (x0 : FVec Ideal Cert.Pre_finite2.S2048x1024 .f32) (x1 : FVec Ideal Cert.Pre_finite2.S2048x1024 .f32) (x2 : FVec Ideal Cert.Pre_finite2.S1x6144 .f32) (x3 : FVec Ideal Cert.Pre_finite2.S1x6144 .f32) (x4 : FVec Ideal Cert.Pre_finite2.S1x1024 .f32) (x5 : FVec Ideal Cert.Pre_finite2.S1024x5632 .f32) (x6 : FVec Ideal Cert.Pre_finite2.S2816x1024 .f32)
    (h : Cert.Pre_finite2.fn (F := Ideal) x0 x1 x2 x3 x4 x5 x6 = fun _ => 1#1) :
    (∀ i, (x0 i : EReal) = (((x0 i : EReal).toReal : ℝ) : EReal))
    ∧ (∀ i, (x1 i : EReal) = (((x1 i : EReal).toReal : ℝ) : EReal))
    ∧ (∀ i, (x2 i : EReal) = (((x2 i : EReal).toReal : ℝ) : EReal))
    ∧ (∀ i, (x3 i : EReal) = (((x3 i : EReal).toReal : ℝ) : EReal))
    ∧ (∀ i, (x4 i : EReal) = (((x4 i : EReal).toReal : ℝ) : EReal))
    ∧ (∀ i, (x5 i : EReal) = (((x5 i : EReal).toReal : ℝ) : EReal))
    ∧ (∀ i, (x6 i : EReal) = (((x6 i : EReal).toReal : ℝ) : EReal)) := by
  have h := congrFun h (fun k => k.elim0)
  unfold Cert.Pre_finite2.fn Cert.Pre_finite2.fn_part1 at h
  obtain ⟨h, h6⟩ := Cert.Conf.and_parts h
  obtain ⟨h, h5⟩ := Cert.Conf.and_parts h
  obtain ⟨h, h4⟩ := Cert.Conf.and_parts h
  obtain ⟨h, h3⟩ := Cert.Conf.and_parts h
  obtain ⟨h, h2⟩ := Cert.Conf.and_parts h
  obtain ⟨h0, h1⟩ := Cert.Conf.and_parts h
  exact ⟨Cert.Conf.real_of_fold x0 _ _ _ _ h0, Cert.Conf.real_of_fold x1 _ _ _ _ h1, Cert.Conf.real_of_fold x2 _ _ _ _ h2, Cert.Conf.real_of_fold x3 _ _ _ _ h3, Cert.Conf.real_of_fold x4 _ _ _ _ h4, Cert.Conf.real_of_fold x5 _ _ _ _ h5, Cert.Conf.real_of_fold x6 _ _ _ _ h6⟩

/-- Under the precondition the arguments are reals. -/
theorem reals_of_finite (m : (ℓ : Loc Cert.Kernel2Ideal.nD Cert.Kernel2Ideal.τ Cert.Kernel2Ideal.sig) → Buf (Elt Ideal) ℓ) (h : Cert.Pre_Kernel2Ideal_finite2 m) (c : Dev Cert.Kernel2Ideal.nD) :
    ∃ (d x : ℕ → Fin 1024 → ℝ) (mo ba : ℕ → ℝ) (nw : Fin 1024 → ℝ) (wi : Fin 1024 → ℕ → ℝ) (wo : ℕ → Fin 1024 → ℝ), Reals m c d x mo ba nw wi wo := by
  obtain ⟨h0, h1, h2, h3, h4, h5, h6⟩ := all_real _ _ _ _ _ _ _ (h c)
  refine ⟨fun n q => if hn : n < 2048 then (m ((c : Thread Cert.Kernel2Ideal.nD Cert.Kernel2Ideal.τ).loc Cert.Kernel2Ideal.main_arg0) (ix2 ⟨n, hn⟩ q) : EReal).toReal else 0,
    fun n q => if hn : n < 2048 then (m ((c : Thread Cert.Kernel2Ideal.nD Cert.Kernel2Ideal.τ).loc Cert.Kernel2Ideal.main_arg1) (ix2 ⟨n, hn⟩ q) : EReal).toReal else 0,
    fun i => if hi : i < 6144 then (m ((c : Thread Cert.Kernel2Ideal.nD Cert.Kernel2Ideal.τ).loc Cert.Kernel2Ideal.main_arg2) (ix2 0 ⟨i, hi⟩) : EReal).toReal else 0,
    fun i => if hi : i < 6144 then (m ((c : Thread Cert.Kernel2Ideal.nD Cert.Kernel2Ideal.τ).loc Cert.Kernel2Ideal.main_arg3) (ix2 0 ⟨i, hi⟩) : EReal).toReal else 0,
    fun q => (m ((c : Thread Cert.Kernel2Ideal.nD Cert.Kernel2Ideal.τ).loc Cert.Kernel2Ideal.main_arg4) (ix2 0 q) : EReal).toReal,
    fun q i => if hi : i < 5632 then (m ((c : Thread Cert.Kernel2Ideal.nD Cert.Kernel2Ideal.τ).loc Cert.Kernel2Ideal.main_arg5) (ix2 q ⟨i, hi⟩) : EReal).toReal else 0,
    fun i q => if hi : i < 2816 then (m ((c : Thread Cert.Kernel2Ideal.nD Cert.Kernel2Ideal.τ).loc Cert.Kernel2Ideal.main_arg6) (ix2 ⟨i, hi⟩ q) : EReal).toReal else 0,
    ⟨fun n q => ?_, fun n q => ?_, fun i => ?_, fun i => ?_, fun q => h4 _, fun q i => ?_, fun i q => ?_⟩⟩
  · rw [dif_pos n.isLt]; exact h0 _
  · rw [dif_pos n.isLt]; exact h1 _
  · rw [dif_pos i.isLt]; exact h2 _
  · rw [dif_pos i.isLt]; exact h3 _
  · rw [dif_pos i.isLt]; exact h5 _
  · rw [dif_pos i.isLt]; exact h6 _

end Cert.Ffn

end
-- ==== Proof.FValue.lean ====
/- The value claim of the feed-forward gradient: under the precondition the kernel and the reference end with the same arrays. -/
module
public import proofs.«01_k».proof.Proof.FFinite

@[expose] public section

set_option maxRecDepth 16384

noncomputable section
namespace Cert.Ffn
open Idealize.ShloMosaic Idealize.ShloMosaic.TcCoe Idealize.SL.Sem Idealize.ShloMosaic.StableHlo

/-- The reference's arguments, equal to the kernel's, are the same reals. -/
theorem args_of (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    {d x : ℕ → Fin 1024 → ℝ} {mo ba : ℕ → ℝ} {nw : Fin 1024 → ℝ} {wi : Fin 1024 → ℕ → ℝ} {wo : ℕ → Fin 1024 → ℝ} (H : Reals m c d x mo ba nw wi wo) :
    Plain.Args (Plain.inp m' c) d x mo ba nw wi wo where
  d n q := (congrFun e0 _).trans (H.d n q)
  x n q := (congrFun e1 _).trans (H.x n q)
  mo i := (congrFun e2 _).trans (H.mo i)
  ba i := (congrFun e3 _).trans (H.ba i)
  nw q := (congrFun e4 _).trans (H.nw q)
  wi q i := (congrFun e5 _).trans (H.wi q i)
  wo i q := (congrFun e6 _).trans (H.wo i q)

/-- The gradient of the first product's result, in blocks of columns. -/
theorem same0 {v : Plain.Inp} {d x : ℕ → Fin 1024 → ℝ} {mo ba : ℕ → ℝ} {nw : Fin 1024 → ℝ} {wi : Fin 1024 → ℕ → ℝ} {wo : ℕ → Fin 1024 → ℝ}
    (A : Plain.Args v d x mo ba nw wi wo) : Plain.v77 v = fun i => ((dfR wi wo mo ba nw x d (i 1) ((i 0 : ℕ) * 704 + (i 2 : ℕ)) : ℝ) : EReal) := by
  refine funext fun i => ?_
  obtain ⟨j, n, k, rfl⟩ : ∃ (j : Fin 8) (n : Fin 2048) (k : Fin 704), i = ix3 j n k := ⟨i 0, i 1, i 2, by funext a; fin_cases a <;> rfl⟩
  exact Plain.v77_at A j n k

/-- The gradient of the sub-layer's input. -/
theorem same1 {v : Plain.Inp} {d x : ℕ → Fin 1024 → ℝ} {mo ba : ℕ → ℝ} {nw : Fin 1024 → ℝ} {wi : Fin 1024 → ℕ → ℝ} {wo : ℕ → Fin 1024 → ℝ}
    (A : Plain.Args v d x mo ba nw wi wo) : Plain.v74 v = fun i => ((dxR wi wo mo ba nw x d (i 0) (i 1) : ℝ) : EReal) := by
  refine funext fun i => ?_
  obtain ⟨n, q, rfl⟩ : ∃ (n : Fin 2048) (q : Fin 1024), i = ix2 n q := ⟨i 0, i 1, by funext a; fin_cases a <;> rfl⟩
  exact Plain.v74_at A n q

/-- The gradients summed over the sequence. -/
theorem same2 {v : Plain.Inp} {d x : ℕ → Fin 1024 → ℝ} {mo ba : ℕ → ℝ} {nw : Fin 1024 → ℝ} {wi : Fin 1024 → ℕ → ℝ} {wo : ℕ → Fin 1024 → ℝ}
    (A : Plain.Args v d x mo ba nw wi wo) : Plain.v80 v = fun i => ((stR wi wo mo ba nw x d (i 0) (i 1) : ℝ) : EReal) := by
  refine funext fun i => ?_
  obtain ⟨k, q, rfl⟩ : ∃ (k : Fin 8) (q : Fin 1024), i = ix2 k q := ⟨i 0, i 1, by funext a; fin_cases a <;> rfl⟩
  exact Plain.v80_at A k q

theorem value : Cert.algebraic_Kernel2Ideal_Reference2Ideal_pre_finite2 := by
  intro m g m' g' hp e
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N,
    fun c => (Cert.Kernel2Ideal.Gen.dats m 0 c).arrAt 11 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h0, h1, h2, hk⟩ := h c
  obtain ⟨e0, e1, e2, e3, e4, e5, e6⟩ := e c
  obtain ⟨d, x, mo, ba, nw, wi, wo, H⟩ := reals_of_finite m hp c
  have A := args_of m m' c e0 e1 e2 e3 e4 e5 e6 H
  exact ⟨(h0.trans (Plain.out0 m' c)).trans ((same0 A).trans (result0 H).symm), (h1.trans (Plain.out1 m' c)).trans ((same1 A).trans (result1 H).symm),
    (h2.trans (Plain.out2 m' c)).trans ((same2 A).trans (result2 H).symm), hk⟩

end Cert.Ffn

end
-- ==== Proof.Hid.lean ====
/- The modulated norm of a row, as the host and the kernels write it. -/
module
public import Idealize.ShloMosaic.Lib.Pipeline.ValueKit
public import Idealize.ShloMosaic.Lib.Pipeline.ReadBack
public import Idealize.ShloMosaic.Lib.Pointwise

@[expose] public section

noncomputable section
namespace Cert.Hid
open Idealize.ShloMosaic

/-- The root mean square's inverse of a row. -/
def inv (x : Fin 1024 → EReal) : EReal :=
  Ideal.rsqrt (Ideal.div (∑ c, x c * x c) (Ideal.ofBits .f32 0x44800000#32) + Ideal.ofBits .f32 0x358637BD#32)

/-- The norm of a row times the scale plus one, plus the shift. -/
def hid (x nw sh sc : Fin 1024 → EReal) (q : Fin 1024) : EReal :=
  x q * inv x * nw q * (Ideal.ofBits .f32 0x3F800000#32 + sc q) + sh q

/-- Part `j` of the modulation. -/
def part (mo ba : (⟨2, ![1, 6144]⟩ : Shape).Idx → EReal) (j : ℕ) (h : j < 6) (q : Fin 1024) : EReal :=
  mo (ix2 0 ⟨j * 1024 + q, by omega⟩) + ba (ix2 0 ⟨j * 1024 + q, by omega⟩)

/-- A load of a rectangle, at a position of it. -/
theorem ld_at {a b a' b' : ℕ} {e : EltTy} (B : (⟨2, ![a, b]⟩ : Shape).Idx → Elt Ideal e) (p q : ℕ) (inb) (k : Fin a') (l : Fin b') (k' : Fin a) (l' : Fin b)
    (hk : (k' : ℕ) = p + k) (hl : (l' : ℕ) = q + l) :
    View.ld (Val := Elt Ideal) (e' := e) B (Rect.unit (s := ⟨2, ![a, b]⟩) ![p, q] ![a', b'] inb) (ix2 k l) = B (ix2 k' l') := by
  refine congrArg B ?_
  funext i; apply Fin.ext; fin_cases i <;> simp [hk, hl]

/-- A store of one of two halves, side by side, over what lies under it. -/
theorem canon_half {e : EltTy} (s : ℕ) (inb) (x : (⟨2, ![256, 512]⟩ : Shape).Idx → Elt Ideal e) (L : List (View.Piece (Elt Ideal) (⟨2, ![256, 1024]⟩ : Shape) e)) (r : Fin 256) (q : Fin 1024) (G : Elt Ideal e)
    (hit : ∀ k : Fin 512, s + (k : ℕ) = q → x (ix2 r k) = G) (miss : ¬ (s ≤ (q : ℕ) ∧ (q : ℕ) < s + 512) → View.canon L (ix2 r q) = G) :
    View.canon (⟨Rect.unit (s := ⟨2, ![256, 1024]⟩) ![0, s] ![256, 512] inb, x⟩ :: L) (ix2 r q) = G := by
  by_cases h : s ≤ (q : ℕ) ∧ (q : ℕ) < s + 512
  · have hk : s + ((⟨(q : ℕ) - s, by omega⟩ : Fin 512) : ℕ) = q := by show s + ((q : ℕ) - s) = q; omega
    refine Eq.trans ?_ (hit ⟨(q : ℕ) - s, by omega⟩ hk)
    have e : (Rect.unit (s := (⟨2, ![256, 1024]⟩ : Shape)) ![0, s] ![256, 512] inb).emb (ix2 r (⟨(q : ℕ) - s, by omega⟩ : Fin 512)) = ix2 r q := by
      funext a; apply Fin.ext; fin_cases a
      · simp
      · simpa using hk
    exact (congrArg (View.canon (⟨Rect.unit (s := (⟨2, ![256, 1024]⟩ : Shape)) ![0, s] ![256, 512] inb, x⟩ :: L)) e.symm).trans (View.canon_cons_emb _ _ _ _)
  · refine (View.canon_cons_of_not_mem _ _ ?_).trans (miss h)
    rw [Rect.mem_set_unit]
    intro hm
    have := hm 1
    simp at this
    omega

end Cert.Hid

end
-- ==== Proof.WFfnIn.lean ====
/- The gradient of the feed-forward sub-layer's first weights: the kernel's blocks and the reference's whole product are the same sums. -/
module
public import proofs.«01_k».proof.Proof.Hid
public import proofs.«01_k».proof.Proof.Gen.Kernel3Ideal.Value
public import proofs.«01_k».proof.Proof.Gen.Reference3Ideal.Run
public import proofs.«01_k».proof.Defs

@[expose] public section

set_option maxRecDepth 16384

noncomputable section

namespace Cert.WFfnIn
open Idealize.ShloMosaic Idealize.ShloMosaic.TcCoe Idealize.SL.Sem
open Cert.Kernel3Ideal Cert.Kernel3Ideal.Gen

theorem idx : ∀ t : Fin cfg0.N, win0_0.index t = ![0, 0] ∧ win0_1.index t = ![t.val, 0, 0] ∧ win0_2.index t = ![t.val, 0, 0] ∧ t.val < 8 :=
  (by decide +kernel : ∀ t : Fin grid0.N, _)

/-- Row `n` of the modulated norm. -/
def rowH (x : S2048x1024.Idx → EReal) (mo ba : S1x6144.Idx → EReal) (nw : S1x1024.Idx → EReal) (n : Fin 2048) : Fin 1024 → EReal :=
  Hid.hid (fun q => x (ix2 n q)) (fun q => nw (ix2 0 q)) (Hid.part mo ba 3 (by omega)) (Hid.part mo ba 4 (by omega))

/-- The weights' gradient, in blocks of 704 columns of the product's result. -/
def grad (x : S2048x1024.Idx → EReal) (mo ba : S1x6144.Idx → EReal) (nw : S1x1024.Idx → EReal) (d : S2048x5632.Idx → EReal) (j : Fin 8) (k : Fin 704) (q : Fin 1024) : EReal :=
  ∑ n : Fin 2048, d (ix2 n ⟨j * 704 + k, by omega⟩) * rowH x mo ba nw n q

/-- What a grid point stores. -/
theorem pay_at (X : S1x2048x704.Idx → EReal) (Y : S2048x1024.Idx → EReal) (k : Fin 704) (q : Fin 1024) :
    k0_pay1 (F := Ideal) X Y (ix3 0 k q) = ∑ n : Fin 2048, X (ix3 0 n k) * Y (ix2 n q) := by
  pointwise [k0_pay1]

variable (m : (ℓ : Loc nD τ sig) → Buf (Elt Ideal) ℓ) (c : Dev nD) (t : Fin cfg0.N)

theorem blkX (n : Fin 2048) (k : Fin 704) : iblk m c 1 t (ix3 0 n k) = (m ((c : Thread nD τ).loc main_arg4)) (ix2 n ⟨t.val * 704 + k, by have := (idx t).2.2.2; omega⟩) := by
  have ht := (idx t).2.2.2
  have e : (win0_1.blk t).view.emb (ix3 0 n k) = ix3 (⟨t.val, by omega⟩ : Fin 8) n k := by blk_ext [idx t]
  blk_simp [iblk, idx t]
  rw [e]
  entry_read
  pointwise []

theorem blkY (n : Fin 2048) (q : Fin 1024) : iblk m c 0 t (ix2 n q) = rowH (m ((c : Thread nD τ).loc main_arg0)) (m ((c : Thread nD τ).loc main_arg1)) (m ((c : Thread nD τ).loc main_arg2)) (m ((c : Thread nD τ).loc main_arg3)) n q := by
  have e : (win0_0.blk t).view.emb (ix2 n q) = ix2 n q := by blk_ext [idx t]
  blk_simp [iblk, idx t]
  rw [e]
  entry_read
  pointwise [rowH, Hid.hid, Hid.inv, Hid.part]

theorem result : (dats m 0 c).arrAt 2 cfg0.N = fun i => grad (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) := by
  refine (dats m 0 c).arrAt_eq_of_covers 2 _ (by decide +kernel) fun t hf y => ?_
  have ht := (idx t).2.2.2
  blk_simp
  rw [after0_2]
  obtain ⟨z, k, q, rfl⟩ : ∃ (z : Fin 1) (k : Fin 704) (q : Fin 1024), y = ix3 z k q := ⟨y 0, y 1, y 2, by funext a; fin_cases a <;> rfl⟩
  obtain rfl : z = 0 := Subsingleton.elim _ _
  have e : (win0_2.blk t).view.emb (ix3 0 k q) = ix3 (⟨t.val, by omega⟩ : Fin 8) k q := by blk_ext [idx t]
  have e2 : (win0_2.blk t).view.emb (ix3 0 k q) 2 = q := congrFun e 2
  have e1 : (win0_2.blk t).view.emb (ix3 0 k q) 1 = k := congrFun e 1
  have e0 : (win0_2.blk t).view.emb (ix3 0 k q) 0 = (⟨t.val, by omega⟩ : Fin 8) := congrFun e 0
  show _ = grad _ _ _ _ _ ((win0_2.blk t).view.emb (ix3 0 k q) 0) ((win0_2.blk t).view.emb (ix3 0 k q) 1) ((win0_2.blk t).view.emb (ix3 0 k q) 2)
  rw [e0, e1, e2]
  frame_out
  refine (pay_at _ _ k q).trans ?_
  exact Finset.sum_congr (M := EReal) rfl fun n _ => congrArg₂ (· * ·) (blkX m c t n k) (blkY m c t n q)

end Cert.WFfnIn

namespace Cert.WFfnIn
open Idealize.ShloMosaic Idealize.ShloMosaic.TcCoe Idealize.SL.Sem
open Cert.Reference3Ideal Cert.Reference3Ideal.Gen

/-- The reference's result. -/
theorem plain (x : FVec Ideal S2048x1024 .f32) (mo ba : FVec Ideal S1x6144 .f32) (nw : FVec Ideal S1x1024 .f32) (d : FVec Ideal S2048x5632 .f32) :
    (shapeCast _ (truncf .bf16 (transpose S5632x1024 [1, 0] (transpose S1024x5632 [1, 0] (Host.dotGeneral dot_S2048x5632_S2048x1024_S5632x1024_0_0_1_1_n_n none d (addf (mulf (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 nw)) (broadcastInDim S2048x1024 ![0, 1] bcast_S1x1024_S2048x1024_0_1 (addf (broadcastInDim S1x1024 ![] bcast_S_S1x1024 (constant S_ .f32 0x3F800000#32)) (extractStridedSlice S1x1024 ![0, 4096] (addf mo ba) slices_S1x6144_S1x1024_0_4096)))) (broadcastInDim S2048x1024 ![0, 1] bcast_S1x1024_S2048x1024_0_1 (extractStridedSlice S1x1024 ![0, 3072] (addf mo ba) slices_S1x6144_S1x1024_0_3072)))) transposes_S5632x1024_S1024x5632_1_0) transposes_S1024x5632_S5632x1024_1_0) bitsLt_bf16_f32) shapeCasts_S5632x1024_S8x704x1024 : FVec Ideal S8x704x1024 .bf16)
      = fun i => grad x mo ba nw d (i 0) (i 1) (i 2) := by
  refine funext fun i => ?_
  obtain ⟨j, k, q, rfl⟩ : ∃ (j : Fin 8) (k : Fin 704) (q : Fin 1024), i = ix3 j k q := ⟨i 0, i 1, i 2, by funext a; fin_cases a <;> rfl⟩
  pointwise [grad, rowH, Hid.hid, Hid.inv, Hid.part]

/-- The value claim. -/
theorem value : Cert.algebraic_Kernel3Ideal_Reference3Ideal := by
  intro m g m' g' _ e
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨h0, hk⟩ := h c
  obtain ⟨e0, e1, e2, e3, e4⟩ := e c
  refine ⟨(h0.trans (plain _ _ _ _ _)).trans ((result m c).trans ?_).symm, hk⟩
  rw [e0, e1, e2, e3, e4]
  rfl

end Cert.WFfnIn

end
-- ==== Proof.WFfnOut.lean ====
/- The gradient of the feed-forward sub-layer's second weights: the kernel's blocks and the reference's whole product are the same sums. -/
module
public import proofs.«01_k».proof.Proof.Hid
public import proofs.«01_k».proof.Proof.Gen.Kernel4Ideal.Value
public import proofs.«01_k».proof.Proof.Gen.Reference4Ideal.Run
public import proofs.«01_k».proof.Defs

@[expose] public section

set_option maxRecDepth 16384

noncomputable section

namespace Cert.WFfnOut
open Idealize.ShloMosaic Idealize.ShloMosaic.TcCoe Idealize.SL.Sem
open Cert.Kernel4Ideal Cert.Kernel4Ideal.Gen

theorem idx : ∀ t : Fin cfg0.N, win0_0.index t = ![t.val, 0, 0] ∧ win0_1.index t = ![0, 0] ∧ win0_2.index t = ![t.val, 0, 0] ∧ t.val < 4 :=
  (by decide +kernel : ∀ t : Fin grid0.N, _)

/-- The gated value. -/
def act (p : S2048x5632.Idx → EReal) (n : Fin 2048) (i : Fin 2816) : EReal :=
  p (ix2 n ⟨i, by omega⟩) * Ideal.div (Ideal.ofBits .f32 0x3F800000#32) (Ideal.ofBits .f32 0x3F800000#32 + Ideal.exp (-p (ix2 n ⟨i, by omega⟩)))
    * p (ix2 n ⟨2816 + i, by omega⟩)

/-- The weights' gradient, in blocks of 704 rows. -/
def grad (p : S2048x5632.Idx → EReal) (d : S2048x1024.Idx → EReal) (j : Fin 4) (k : Fin 704) (q : Fin 1024) : EReal :=
  ∑ n : Fin 2048, act p n ⟨j * 704 + k, by omega⟩ * d (ix2 n q)

/-- What a grid point stores. -/
theorem pay_at (X : S1x2048x704.Idx → EReal) (Y : S2048x1024.Idx → EReal) (k : Fin 704) (q : Fin 1024) :
    k0_pay1 (F := Ideal) X Y (ix3 0 k q) = ∑ n : Fin 2048, X (ix3 0 n k) * Y (ix2 n q) := by
  pointwise [k0_pay1]

variable (m : (ℓ : Loc nD τ sig) → Buf (Elt Ideal) ℓ) (c : Dev nD) (t : Fin cfg0.N)

/-- What the host gives the kernel. -/
theorem host6 : V m c main_v6 = truncf (F := Ideal) .bf16 (transpose S4x2048x704 [1, 0, 2] (shapeCast S2048x4x704 (mulf (F := Ideal) (mulf (F := Ideal) (extractStridedSlice S2048x2816 ![0, 0] (m ((c : Thread nD τ).loc main_arg0)) slices_S2048x5632_S2048x2816_0_0)
      (Host.divf (F := Ideal) (broadcastInDim S2048x2816 ![] bcast_S_S2048x2816 (constant (F := Ideal) S_ .f32 0x3F800000#32)) (addf (F := Ideal) (broadcastInDim S2048x2816 ![] bcast_S_S2048x2816 (constant (F := Ideal) S_ .f32 0x3F800000#32))
        (Host.exp (F := Ideal) (Host.negf (F := Ideal) (extractStridedSlice S2048x2816 ![0, 0] (m ((c : Thread nD τ).loc main_arg0)) slices_S2048x5632_S2048x2816_0_0))))))
      (extractStridedSlice S2048x2816 ![0, 2816] (m ((c : Thread nD τ).loc main_arg0)) slices_S2048x5632_S2048x2816_0_2816)) shapeCasts_S2048x2816_S2048x4x704) transposes_S2048x4x704_S4x2048x704_1_0_2) bitsLt_bf16_f32 := by
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem host7 : V m c main_v7 = truncf (F := Ideal) .bf16 (m ((c : Thread nD τ).loc main_arg1)) bitsLt_bf16_f32 := by
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem blkX (n : Fin 2048) (k : Fin 704) : iblk m c 0 t (ix3 0 n k) = act (m ((c : Thread nD τ).loc main_arg0)) n ⟨t.val * 704 + k, by have := (idx t).2.2.2; omega⟩ := by
  have ht := (idx t).2.2.2
  have e : (win0_0.blk t).view.emb (ix3 0 n k) = ix3 (⟨t.val, by omega⟩ : Fin 4) n k := by blk_ext [idx t]
  blk_simp [iblk, idx t]
  rw [e]
  refine (congrFun (host6 m c) _).trans ?_
  pointwise [act]

theorem blkY (n : Fin 2048) (q : Fin 1024) : iblk m c 1 t (ix2 n q) = (m ((c : Thread nD τ).loc main_arg1)) (ix2 n q) := by
  have e : (win0_1.blk t).view.emb (ix2 n q) = ix2 n q := by blk_ext [idx t]
  blk_simp [iblk, idx t]
  rw [e]
  refine (congrFun (host7 m c) _).trans ?_
  pointwise []

theorem result : (dats m 0 c).arrAt 2 cfg0.N = fun i => grad (m ((c : Thread nD τ).loc main_arg0)) (m ((c : Thread nD τ).loc main_arg1)) (i 0) (i 1) (i 2) := by
  refine (dats m 0 c).arrAt_eq_of_covers 2 _ (by decide +kernel) fun t hf y => ?_
  have ht := (idx t).2.2.2
  blk_simp
  rw [after0_2]
  obtain ⟨z, k, q, rfl⟩ : ∃ (z : Fin 1) (k : Fin 704) (q : Fin 1024), y = ix3 z k q := ⟨y 0, y 1, y 2, by funext a; fin_cases a <;> rfl⟩
  obtain rfl : z = 0 := Subsingleton.elim _ _
  have e : (win0_2.blk t).view.emb (ix3 0 k q) = ix3 (⟨t.val, by omega⟩ : Fin 4) k q := by blk_ext [idx t]
  have e2 : (win0_2.blk t).view.emb (ix3 0 k q) 2 = q := congrFun e 2
  have e1 : (win0_2.blk t).view.emb (ix3 0 k q) 1 = k := congrFun e 1
  have e0 : (win0_2.blk t).view.emb (ix3 0 k q) 0 = (⟨t.val, by omega⟩ : Fin 4) := congrFun e 0
  show _ = grad _ _ ((win0_2.blk t).view.emb (ix3 0 k q) 0) ((win0_2.blk t).view.emb (ix3 0 k q) 1) ((win0_2.blk t).view.emb (ix3 0 k q) 2)
  rw [e0, e1, e2]
  frame_out
  refine (pay_at _ _ k q).trans ?_
  exact Finset.sum_congr (M := EReal) rfl fun n _ => congrArg₂ (· * ·) (blkX m c t n k) (blkY m c t n q)

end Cert.WFfnOut

namespace Cert.WFfnOut
open Idealize.ShloMosaic Idealize.ShloMosaic.TcCoe Idealize.SL.Sem
open Cert.Reference4Ideal Cert.Reference4Ideal.Gen

/-- The reference's result. -/
theorem plain (p : FVec Ideal S2048x5632 .f32) (d : FVec Ideal S2048x1024 .f32) :
    (shapeCast _ (truncf .bf16 (transpose S2816x1024 [1, 0] (Host.dotGeneral dot_S2048x1024_S2048x2816_S1024x2816_0_0_1_1_n_n none d (mulf (mulf (extractStridedSlice S2048x2816 ![0, 0] p slices_S2048x5632_S2048x2816_0_0) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extractStridedSlice S2048x2816 ![0, 0] p slices_S2048x5632_S2048x2816_0_0)))))) (extractStridedSlice S2048x2816 ![0, 2816] p slices_S2048x5632_S2048x2816_0_2816))) transposes_S1024x2816_S2816x1024_1_0) bitsLt_bf16_f32) shapeCasts_S2816x1024_S4x704x1024 : FVec Ideal S4x704x1024 .bf16)
      = fun i => grad p d (i 0) (i 1) (i 2) := by
  refine funext fun i => ?_
  obtain ⟨j, k, q, rfl⟩ : ∃ (j : Fin 4) (k : Fin 704) (q : Fin 1024), i = ix3 j k q := ⟨i 0, i 1, i 2, by funext a; fin_cases a <;> rfl⟩
  pointwise [grad, act]
  exact Finset.sum_congr (M := EReal) rfl fun n _ => mul_comm _ _

/-- The value claim. -/
theorem value : Cert.algebraic_Kernel4Ideal_Reference4Ideal := by
  intro m g m' g' _ e
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨h0, hk⟩ := h c
  obtain ⟨e0, e1⟩ := e c
  refine ⟨(h0.trans (plain _ _)).trans ((result m c).trans ?_).symm, hk⟩
  rw [e0, e1]
  rfl

end Cert.WFfnOut

end
-- ==== Proof.BPay.lean ====
/- The gradient of the mixer's input projection: one row over the reals, and the kernel's arithmetic, a stage at a time, at real inputs. -/
module
public import proofs.«01_k».proof.Proof.FPay
public import proofs.«01_k».proof.Proof.Gen.Kernel5Ideal.Skeleton

@[expose] public section

set_option maxRecDepth 16384

noncomputable section
namespace Cert.BwdIn
open Idealize.ShloMosaic Idealize.ShloMosaic.TcCoe Idealize.SL.Sem
open Cert.Kernel5Ideal Cert.Kernel5Ideal.Gen
open Cert.Conf (eps eps_coe eps_pos coe_sum rsqrt_pos)
open Cert.Ffn (dnorm xr rr ms ms_pos d1024_coe div1024)

section
variable (w : Fin 1024 → ℕ → ℝ) (sc nw x d : Fin 1024 → ℝ) (dp : ℕ → ℝ)

/-- The gradient at the projection's input. -/
def dh (q : Fin 1024) : ℝ := ∑ i ∈ Finset.range 3080, dp i * w q i
/-- The gradient at the scaled rows. -/
def dmd (q : Fin 1024) : ℝ := dh w dp q * (1 + sc q)
/-- The gradient at the layer's input. -/
def dx (q : Fin 1024) : ℝ := d q + dnorm eps x (fun q => dmd w sc dp q * nw q) q
/-- The row's share of the gradients of the shift, of the scale and of the norm's scale, in rows 0, 1 and 2. -/
def share (k : ℕ) (q : Fin 1024) : ℝ :=
  if k = 0 then dh w dp q
  else if k = 1 then dh w dp q * (xr eps x q * nw q)
  else if k = 2 then dmd w sc dp q * xr eps x q
  else 0
end

/-- A sum over 3080 columns, in the three parts that the kernel takes, the last one filled up with zeros. -/
theorem sum_parts (f : ℕ → ℝ) :
    ∑ i ∈ Finset.range 3080, f i = ∑ k : Fin 1024, f k + ∑ k : Fin 2048, f (1024 + k) + ∑ k : Fin 128, if (k : ℕ) < 8 then f (3072 + k) else 0 := by
  have h1 : ∑ i ∈ Finset.range (1024 + 2048 + 8), f i = ∑ k : Fin 1024, f k + ∑ k : Fin 2048, f (1024 + k) + ∑ k : Fin 8, f (3072 + k) := by
    rw [Finset.sum_range_add, Finset.sum_range_add, Finset.sum_range f, Finset.sum_range (fun k => f (1024 + k)), Finset.sum_range (fun k => f (1024 + 2048 + k))]
  have h2 : ∑ k : Fin 128, (if (k : ℕ) < 8 then f (3072 + k) else 0) = ∑ k : Fin 8, f (3072 + k) := by
    rw [← Finset.sum_range (fun k => if k < 8 then f (3072 + k) else 0), ← Finset.sum_range (fun k => f (3072 + k)),
      show (128 : ℕ) = 8 + 120 from rfl, Finset.sum_range_add]
    rw [Finset.sum_congr rfl (fun k hk => if_pos (Finset.mem_range.mp hk)), Finset.sum_congr rfl (fun k hk => if_neg (by omega)), Finset.sum_const_zero, add_zero]
  rw [h2]
  exact h1

theorem pay6_eq (v : S1x1024.Idx → EReal) : k0_pay6 (F := Ideal) v = v := by
  funext i
  obtain ⟨r, q, rfl⟩ : ∃ r q, i = ix2 r q := ⟨i 0, i 1, by funext a; fin_cases a <;> rfl⟩
  pointwise [k0_pay6]

section
variable (w : Fin 1024 → ℕ → ℝ) (sc nw : Fin 1024 → ℝ) (x d : Fin 512 → Fin 1024 → ℝ) (dp : Fin 512 → ℕ → ℝ)

theorem pay3_at (A : S512x1024.Idx → EReal) (B : S1024x1024.Idx → EReal) (C : S512x2048.Idx → EReal) (D : S2048x1024.Idx → EReal) (E : S512x128.Idx → EReal) (G : S128x1024.Idx → EReal)
    (hA : ∀ (r : Fin 512) (k : Fin 1024), A (ix2 r k) = ((dp r k : ℝ) : EReal)) (hB : ∀ (k : Fin 1024) q, B (ix2 k q) = ((w q k : ℝ) : EReal))
    (hC : ∀ (r : Fin 512) (k : Fin 2048), C (ix2 r k) = ((dp r (1024 + k) : ℝ) : EReal)) (hD : ∀ (k : Fin 2048) q, D (ix2 k q) = ((w q (1024 + k) : ℝ) : EReal))
    (hE : ∀ (r : Fin 512) (k : Fin 128), E (ix2 r k) = (((if (k : ℕ) < 8 then dp r (3072 + k) else 0) : ℝ) : EReal))
    (hG : ∀ (k : Fin 128) q, G (ix2 k q) = (((if (k : ℕ) < 8 then w q (3072 + k) else 0) : ℝ) : EReal)) (r : Fin 512) (q : Fin 1024) :
    k0_pay3 (F := Ideal) A B C D E G (ix2 r q) = ((dh w (dp r) q : ℝ) : EReal) := by
  pointwise [k0_pay3]
  simp only [hA, hB, hC, hD, hE, hG, ← EReal.coe_mul, coe_sum, ← EReal.coe_add]
  rw [dh, sum_parts]
  refine congrArg Real.toEReal (congrArg₂ (· + ·) rfl (Finset.sum_congr rfl fun k _ => ?_))
  by_cases h : (k : ℕ) < 8
  · simp only [if_pos h]
  · simp only [if_neg h, mul_zero]

variable (X : S512x1024.Idx → EReal) (hX : ∀ r c, X (ix2 r c) = ((x r c : ℝ) : EReal))
include hX in
theorem pay4_at (r : Fin 512) : k0_pay4 (F := Ideal) X (ix2 r 0) = ((rr eps (x r) : ℝ) : EReal) := by
  pointwise [k0_pay4]
  simp only [hX, ← EReal.coe_mul, coe_sum, d1024_coe, div1024, eps_coe, ← EReal.coe_add]
  exact rsqrt_pos (ms_pos eps (x r) eps_pos)

include hX in
theorem pay5_at (r : Fin 512) (q : Fin 1024) : k0_pay5 (F := Ideal) X (ix2 r q) = ((xr eps (x r) q : ℝ) : EReal) := by
  pointwise [k0_pay5]
  simp only [pay4_at x X hX, hX, ← EReal.coe_mul]
  rfl

variable (P R : S512x1024.Idx → EReal) (hP : ∀ r q, P (ix2 r q) = ((dh w (dp r) q : ℝ) : EReal)) (hR : ∀ r q, R (ix2 r q) = ((xr eps (x r) q : ℝ) : EReal))
variable (S N U V : S1x1024.Idx → EReal) (s : Fin 1024 → ℝ) (hS : ∀ c, S (ix2 0 c) = ((s c : ℝ) : EReal)) (hN : ∀ c, N (ix2 0 c) = ((nw c : ℝ) : EReal))
variable (hU : ∀ c, U (ix2 0 c) + V (ix2 0 c) = ((sc c : ℝ) : EReal))

include hP hS in
theorem pay7_at (q : Fin 1024) : k0_pay7 (F := Ideal) P S (ix2 0 q) = ((s q + ∑ r, dh w (dp r) q : ℝ) : EReal) := by
  pointwise [k0_pay7]
  simp only [hP, hS, ← EReal.coe_mul, coe_sum, ← EReal.coe_add]

include hP hR hS hN in
theorem pay8_at (q : Fin 1024) : k0_pay8 (F := Ideal) P R S N (ix2 0 q) = ((s q + ∑ r, dh w (dp r) q * (xr eps (x r) q * nw q) : ℝ) : EReal) := by
  pointwise [k0_pay8]
  simp only [hP, hR, hN, hS, ← EReal.coe_mul, coe_sum, ← EReal.coe_add]

include hP hU in
theorem pay9_at (r : Fin 512) (q : Fin 1024) : k0_pay9 (F := Ideal) P U V (ix2 r q) = ((dmd w sc (dp r) q : ℝ) : EReal) := by
  pointwise [k0_pay9]
  rw [hP, hU, ← EReal.coe_one, ← EReal.coe_add, ← EReal.coe_mul, dmd]

include hP hR hU hS in
theorem pay10_at (q : Fin 1024) : k0_pay10 (F := Ideal) P R U V S (ix2 0 q) = ((s q + ∑ r, dmd w sc (dp r) q * xr eps (x r) q : ℝ) : EReal) := by
  pointwise [k0_pay10]
  simp only [pay9_at w sc dp P hP U V hU, hR, hS, ← EReal.coe_mul, coe_sum, ← EReal.coe_add]

include hP hU hN in
theorem pay11_at (r : Fin 512) (q : Fin 1024) : k0_pay11 (F := Ideal) P U V N (ix2 r q) = ((dmd w sc (dp r) q * nw q : ℝ) : EReal) := by
  pointwise [k0_pay11]
  simp only [pay9_at w sc dp P hP U V hU, hN, ← EReal.coe_mul]

include hP hR hU hN in
theorem pay12_at (r : Fin 512) (q : Fin 1024) : k0_pay12 (F := Ideal) P R U V N (ix2 r q) = ((dmd w sc (dp r) q * nw q * xr eps (x r) q : ℝ) : EReal) := by
  pointwise [k0_pay12]
  simp only [pay11_at w sc nw dp P hP N U V hN hU, hR, ← EReal.coe_mul]

include hX hP hR hU hN in
theorem pay1_at (D : S512x1024.Idx → EReal) (hD : ∀ r c, D (ix2 r c) = ((d r c : ℝ) : EReal)) (r : Fin 512) (q : Fin 1024) :
    k0_pay1 (F := Ideal) (k0_pay4 (F := Ideal) X) R (k0_pay11 (F := Ideal) P U V N) D (k0_pay12 (F := Ideal) P R U V N) (ix2 r q)
      = ((dx w sc nw (x r) (d r) (dp r) q : ℝ) : EReal) := by
  pointwise [k0_pay1]
  simp only [pay4_at x X hX, pay11_at w sc nw dp P hP N U V hN hU, pay12_at w sc nw x dp P R hP hR N U V hN hU, hR, hD, ← EReal.coe_mul, coe_sum, d1024_coe, div1024, ← EReal.coe_sub, ← EReal.coe_add]
  rfl
end

end Cert.BwdIn

end
-- ==== Proof.Rows.lean ====
/- Rows of a buffer of eight running sums: what loads and stores of single rows read and leave. -/
module
public import proofs.«01_k».proof.Proof.FPoint

@[expose] public section

set_option maxRecDepth 16384

noncomputable section
namespace Cert.Rows
open Idealize.ShloMosaic Idealize.ShloMosaic.TcCoe Idealize.SL.Sem

open Cert.Ffn (zstats canon_zeros)

/-- The eight rows. -/
abbrev S8x1024 : Shape := ⟨2, ![8, 1024]⟩

/-- A load of one row of a buffer that a store of zeros has filled. -/
theorem readCov_zeros {sig' : RefSig} {κ : Kind} {sp : Space} (v : View sig' κ sp S8x1024 .f32) (k : ℕ) (hk hz) :
    v.readCov (Val := Elt Ideal) [⟨Rect.unit (s := S8x1024) ![0, 0] ![8, 1024] hz, zstats⟩] (Rect.unit (s := S8x1024) ![k, 0] ![1, 1024] hk).toLoadRect
      = View.ld (e' := .f32) zstats (Rect.unit (s := S8x1024) ![k, 0] ![1, 1024] hk) := by
  rw [View.readCov_eq_canon']
  funext i
  exact canon_zeros hz _

end Cert.Rows

end
-- ==== Proof.BPoint.lean ====
/- What one grid point of the input projection's backward pass leaves in its output block and in the running sums, over the reals. -/
module
public import proofs.«01_k».proof.Proof.BPay
public import proofs.«01_k».proof.Proof.FPoint
public import proofs.«01_k».proof.Proof.Hid
public import proofs.«01_k».proof.Proof.Rows
public import proofs.«01_k».proof.Proof.Gen.Kernel5Ideal.Value

@[expose] public section

set_option maxRecDepth 16384

noncomputable section
namespace Cert.BwdIn
open Idealize.ShloMosaic Idealize.ShloMosaic.TcCoe Idealize.SL.Sem
open Cert.Kernel5Ideal Cert.Kernel5Ideal.Gen
open Cert.Conf (eps)
open Cert.Ffn (xr rr zstats ld_stat row_peel canon_row canon_zeros readCov_row_skip)
variable (m : (ℓ : Loc nD τ sig) → Buf (Elt Ideal) ℓ) (c : Dev nD)

/-- What the running sums held before the point. -/
def prev (t : Fin cfg0.N) : S8x1024.Idx → EReal :=
  if t.val % 4 = 0 then fun _ => 0 else (outsAt0 m c (t.val - 1) (Nat.lt_of_le_of_lt (Nat.sub_le _ _) t.isLt)).2

theorem pay2_eq : k0_pay2 (F := Ideal) = zstats := by
  funext i
  obtain ⟨r, q, rfl⟩ : ∃ r q, i = ix2 r q := ⟨i 0, i 1, by funext a; fin_cases a <;> rfl⟩
  show k0_pay2 (F := Ideal) (ix2 r q) = 0
  pointwise [k0_pay2]

theorem fill {sig' : RefSig} {κ : Kind} {sp : Space} (v : View sig' κ sp S8x1024 .f32) (k : ℕ) (hk hz) :
    v.readCov (Val := Elt Ideal) [⟨Rect.unit (s := S8x1024) ![0, 0] ![8, 1024] hz, k0_pay2 (F := Ideal)⟩] (Rect.unit (s := S8x1024) ![k, 0] ![1, 1024] hk).toLoadRect
      = View.ld (e' := .f32) zstats (Rect.unit (s := S8x1024) ![k, 0] ![1, 1024] hk) := by
  rw [pay2_eq]
  exact Rows.readCov_zeros v k hk hz

/-- What the point reads: the gradients `dp` and `d`, the rows `x`, the modulation, the norm's scale and the weights, whose first rows are in `X`. -/
structure Tile (t : Fin cfg0.N) (X : S3072x1024.Idx → EReal) (w : Fin 1024 → ℕ → ℝ) (sc nw : Fin 1024 → ℝ) (x d : Fin 512 → Fin 1024 → ℝ) (dp : Fin 512 → ℕ → ℝ) : Prop where
  a : ∀ (r : Fin 512) (k : Fin 1024), iblk m c 0 t (ix2 r k) = ((dp r k : ℝ) : EReal)
  b : ∀ (r : Fin 512) (k : Fin 2048), iblk m c 1 t (ix2 r k) = ((dp r (1024 + k) : ℝ) : EReal)
  e : ∀ (r : Fin 512) (k : Fin 128), iblk m c 2 t (ix2 r k) = (((if (k : ℕ) < 8 then dp r (3072 + k) else 0) : ℝ) : EReal)
  x : ∀ (r : Fin 512) (q : Fin 1024), iblk m c 3 t (ix2 r q) = ((x r q : ℝ) : EReal)
  d : ∀ (r : Fin 512) (q : Fin 1024), iblk m c 4 t (ix2 r q) = ((d r q : ℝ) : EReal)
  n : ∀ q : Fin 1024, iblk m c 5 t (ix2 0 q) = ((nw q : ℝ) : EReal)
  sc : ∀ q : Fin 1024, @HAdd.hAdd EReal EReal EReal _ (iblk m c 6 t (ix2 0 ⟨1024 + q, by omega⟩)) (iblk m c 7 t (ix2 0 ⟨1024 + q, by omega⟩)) = ((sc q : ℝ) : EReal)
  wm : ∀ (k : Fin 3072) (q : Fin 1024), X (ix2 k q) = ((w q k : ℝ) : EReal)
  v : ∀ (k : Fin 128) (q : Fin 1024), iblk m c 9 t (ix2 k q) = (((if (k : ℕ) < 8 then w q (3072 + k) else 0) : ℝ) : EReal)

section
variable {m c} {t : Fin cfg0.N} {w : Fin 1024 → ℕ → ℝ} {sc nw : Fin 1024 → ℝ} {x d : Fin 512 → Fin 1024 → ℝ} {dp : Fin 512 → ℕ → ℝ}
variable {X : S3072x1024.Idx → EReal}

/-- The gradient at the projection's input. -/
theorem dh_blk (H : Tile m c t X w sc nw x d dp) (i1 i2) (r : Fin 512) (q : Fin 1024) :
    k0_pay3 (F := Ideal) (iblk m c 0 t) (View.ld (e' := .bf16) X (Rect.unit (s := S3072x1024) ![0, 0] ![1024, 1024] i1)) (iblk m c 1 t)
      (View.ld (e' := .bf16) X (Rect.unit (s := S3072x1024) ![1024, 0] ![2048, 1024] i2)) (iblk m c 2 t) (iblk m c 9 t) (ix2 r q) = ((dh w (dp r) q : ℝ) : EReal) :=
  pay3_at w dp _ _ _ _ _ _ H.a (fun k q => (Hid.ld_at _ _ _ _ k q ⟨k, by omega⟩ q (by simp) (by simp)).trans (H.wm _ q)) H.b
    (fun k q => (Hid.ld_at _ _ _ _ k q ⟨1024 + k, by omega⟩ q rfl (by simp)).trans (H.wm _ q)) H.e H.v r q

theorem sc_blk (H : Tile m c t X w sc nw x d dp) (i1 i2) (q : Fin 1024) :
    @HAdd.hAdd EReal EReal EReal _ (View.ld (e' := .f32) (iblk m c 6 t) (Rect.unit (s := S1x6144) ![0, 1024] ![1, 1024] i1) (ix2 0 q))
      (View.ld (e' := .f32) (iblk m c 7 t) (Rect.unit (s := S1x6144) ![0, 1024] ![1, 1024] i2) (ix2 0 q)) = ((sc q : ℝ) : EReal) :=
  (congrArg₂ (· + ·) (Hid.ld_at _ _ _ _ (0 : Fin 1) q 0 ⟨1024 + q, by omega⟩ (by simp) rfl) (Hid.ld_at _ _ _ _ (0 : Fin 1) q 0 ⟨1024 + q, by omega⟩ (by simp) rfl)).trans (H.sc q)

set_option maxHeartbeats 4000000 in
theorem block10 (H : Tile m c t (X0_8 m c t) w sc nw x d dp) (r : Fin 512) (q : Fin 1024) :
    (outsAt0 m c t.val t.isLt).1 (ix2 r q) = ((dx w sc nw (x r) (d r) (dp r) q : ℝ) : EReal) := by
  refine (Classical.em (t.val % 4 = 0)).elim (fun h => ?_) (fun h => ?_)
  on_goal 2 => rw [outsAt0_B m c t h]
  on_goal 1 => rw [outsAt0_A m c t h]
  all_goals
    generalize X0_8 m c t = X at H ⊢
    frame_out
    exact pay1_at w sc nw x d dp _ H.x _ _ (dh_blk H _ _) (pay5_at x _ H.x) _ _ _ H.n (sc_blk H _ _) _ H.d r q

set_option maxHeartbeats 8000000 in
theorem block11 (H : Tile m c t (X0_8 m c t) w sc nw x d dp) (s : ℕ → Fin 1024 → ℝ) (hS : ∀ (k : Fin 8) (q : Fin 1024), prev m c t (ix2 k q) = ((s k q : ℝ) : EReal)) (k : Fin 8) (q : Fin 1024) :
    (outsAt0 m c t.val t.isLt).2 (ix2 k q) = ((s k q + ∑ r, share w sc nw (x r) (dp r) k q : ℝ) : EReal) := by
  refine (Classical.em (t.val % 4 = 0)).elim (fun h => ?_) (fun h => ?_)
  on_goal 2 =>
    have hp : (outsAt0 m c (t.val - 1) (Nat.lt_of_le_of_lt (Nat.sub_le _ _) t.isLt)).2 = prev m c t := (if_neg h).symm
    rw [outsAt0_B m c t h, hp]
    generalize X0_8 m c t = X at H ⊢
    generalize prev m c t = S at hS ⊢
    frame_out
    simp only [pay6_eq]
    iterate 3
      refine row_peel _ _ _ _ _ _ k q (fun k => ((s k q + ∑ r, share w sc nw (x r) (dp r) k q : ℝ) : EReal)) (of_decide_eq_true rfl) ?_ fun hk => ?_
      rotate_left
    · rw [View.writes_nil, Memref.IsWhole.read_unread, hS]
      simp [share, *]
  on_goal 1 =>
    have hp : zstats = prev m c t := (if_pos h).symm
    have hs0 : (0 : EReal) = ((s k q : ℝ) : EReal) := (congrFun hp (ix2 k q)).trans (hS k q)
    rw [outsAt0_A m c t h]
    generalize X0_8 m c t = X at H ⊢
    frame_out [↓ readCov_row_skip, ↓ fill]
    simp only [pay6_eq, hp]
    iterate 3
      refine canon_row _ _ _ _ k q (fun k => ((s k q + ∑ r, share w sc nw (x r) (dp r) k q : ℝ) : EReal)) (of_decide_eq_true rfl) ?_ fun hk => ?_
      rotate_left
    · rw [pay2_eq]
      refine (canon_zeros _ _).trans (hs0.trans ?_)
      simp [share, *]
  all_goals
    first
      | refine (pay10_at w sc x dp _ _ (dh_blk H _ _) (pay5_at x _ H.x) _ _ _ (s 2) (fun q => (ld_stat _ 2 _ (by norm_num) q).trans (hS _ q)) (sc_blk H _ _) q).trans ?_
      | refine (pay8_at w nw x dp _ _ (dh_blk H _ _) (pay5_at x _ H.x) _ _ (s 1) (fun q => (ld_stat _ 1 _ (by norm_num) q).trans (hS _ q)) H.n q).trans ?_
      | refine (pay7_at w dp _ (dh_blk H _ _) _ (s 0) (fun q => (ld_stat _ 0 _ (by norm_num) q).trans (hS _ q)) q).trans ?_
    rfl
end

end Cert.BwdIn

end
-- ==== Proof.FwdIn.lean ====
/- The mixer's input projection: the kernel's tiles and the reference's whole product are the same sums. -/
module
public import proofs.«01_k».proof.Proof.Hid
public import proofs.«01_k».proof.Proof.Gen.Kernel9Ideal.Value
public import proofs.«01_k».proof.Proof.Gen.Reference9Ideal.Run
public import proofs.«01_k».proof.Defs

@[expose] public section

set_option maxRecDepth 16384

noncomputable section

namespace Cert.FwdIn
open Idealize.ShloMosaic Idealize.ShloMosaic.TcCoe Idealize.SL.Sem
open Cert.Kernel9Ideal Cert.Kernel9Ideal.Gen

theorem idx : ∀ t : Fin cfg0.N, (win0_0.index t = ![t.val, 0] ∧ win0_1.index t = ![0, 0] ∧ win0_2.index t = ![0, 0] ∧ win0_3.index t = ![0, 0])
    ∧ (win0_4.index t = ![0, 0] ∧ win0_5.index t = ![0, 0])
    ∧ (win0_6.index t = ![t.val, 0] ∧ win0_7.index t = ![t.val, 0] ∧ win0_8.index t = ![t.val, 0]) ∧ t.val < 4 :=
  (by decide +kernel : ∀ t : Fin grid0.N, _)

/-- Row `n` of the modulated norm. -/
def rowH (x : S2048x1024.Idx → EReal) (nw : S1x1024.Idx → EReal) (mo ba : S1x6144.Idx → EReal) (n : Fin 2048) : Fin 1024 → EReal :=
  Hid.hid (fun q => x (ix2 n q)) (fun q => nw (ix2 0 q)) (Hid.part mo ba 0 (by omega)) (Hid.part mo ba 1 (by omega))

/-- The product with column `i` of the weights. -/
def prod (x : S2048x1024.Idx → EReal) (nw : S1x1024.Idx → EReal) (mo ba : S1x6144.Idx → EReal) (w : S1024x3080.Idx → EReal) (n : Fin 2048) (i : Fin 3080) : EReal :=
  ∑ q : Fin 1024, rowH x nw mo ba n q * w (ix2 q i)

/-- The first 3072 columns. -/
def lead (x : S2048x1024.Idx → EReal) (nw : S1x1024.Idx → EReal) (mo ba : S1x6144.Idx → EReal) (w : S1024x3080.Idx → EReal) (n : Fin 2048) (i : Fin 3072) : EReal :=
  prod x nw mo ba w n ⟨i, by omega⟩

/-- The last 8 columns, and zeros after them. -/
def last (x : S2048x1024.Idx → EReal) (nw : S1x1024.Idx → EReal) (mo ba : S1x6144.Idx → EReal) (w : S1024x3080.Idx → EReal) (n : Fin 2048) (i : Fin 128) : EReal :=
  if h : (i : ℕ) < 8 then prod x nw mo ba w n ⟨3072 + i, by omega⟩ else 0

variable (m : (ℓ : Loc nD τ sig) → Buf (Elt Ideal) ℓ) (c : Dev nD) (t : Fin cfg0.N)

theorem blk0 (r : Fin 512) (q : Fin 1024) : iblk m c 0 t (ix2 r q) = (m ((c : Thread nD τ).loc main_arg0)) (ix2 ⟨t.val * 512 + r, by have := ((idx t).2.2.2); omega⟩ q) := by
  have ht := ((idx t).2.2.2)
  blk_ext [iblk, V, idx t]

theorem blk1 (i : Fin 1024) : iblk m c 1 t (ix2 0 i) = (m ((c : Thread nD τ).loc main_arg1)) (ix2 0 i) := by
  blk_ext [iblk, V, idx t]

theorem blk2 (i : Fin 6144) : iblk m c 2 t (ix2 0 i) = (m ((c : Thread nD τ).loc main_arg2)) (ix2 0 i) := by
  blk_ext [iblk, V, idx t]

theorem blk3 (i : Fin 6144) : iblk m c 3 t (ix2 0 i) = (m ((c : Thread nD τ).loc main_arg3)) (ix2 0 i) := by
  blk_ext [iblk, V, idx t]

/-- What the host gives the kernel. -/
theorem host1 : V m c main_v1 = truncf (F := Ideal) .bf16 (transpose S3080x1024 [1, 0] (m ((c : Thread nD τ).loc main_arg4)) transposes_S1024x3080_S3080x1024_1_0) bitsLt_bf16_f32 := by
  simp only [V, hostOps0, hostOps0_1, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem host3 : V m c main_v3 = pad S128x1024 ![0, 0] ![120, 0] ![0, 0] (extractStridedSlice S8x1024 ![3072, 0] (truncf (F := Ideal) .bf16 (transpose S3080x1024 [1, 0] (m ((c : Thread nD τ).loc main_arg4)) transposes_S1024x3080_S3080x1024_1_0) bitsLt_bf16_f32) slices_S3080x1024_S8x1024_3072_0)
    (sitofp (F := Ideal) .bf16 (constantI S_ 32 0#32)) pads_S8x1024_S128x1024_01200_000 h_S_ := by
  simp only [V, hostOps0, hostOps0_1, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

/-- The padding's value. -/
theorem pad_zero (e : FTy) : (FloatOps.sitofp (F := Ideal) e (0#32 : BitVec 32)) = (0 : EReal) := by
  show (((0#32 : BitVec 32).toInt : ℝ) : EReal) = 0
  simp

theorem blk4' (J : ((cfg0.win 4).xblock (cfg0.grid.coords t)).Idx) (k : Fin 3072) (q : Fin 1024) (h0 : (J 0 : ℕ) = k) (h1 : (J 1 : ℕ) = q) :
    iblk m c 4 t J = (m ((c : Thread nD τ).loc main_arg4)) (ix2 q ⟨k, by omega⟩) := by
  have e : (win0_4.blk t).view.emb J = ix2 ⟨k, by omega⟩ q := by blk_ext [idx t, h0, h1]
  blk_simp [iblk, idx t]
  rw [e]
  refine (congrFun (host1 m c) _).trans ?_
  pointwise []

theorem blk4 (k : Fin 3072) (q : Fin 1024) : X0_4 m c t (ix2 k q) = (m ((c : Thread nD τ).loc main_arg4)) (ix2 q ⟨k, by omega⟩) := by
  unfold X0_4
  refine (dif_pos (moved0_4 t (ix2 k q))).trans ?_
  exact blk4' m c t _ k q rfl rfl

theorem blk5 (k : Fin 128) (q : Fin 1024) : iblk m c 5 t (ix2 k q) = if h : (k : ℕ) < 8 then (m ((c : Thread nD τ).loc main_arg4)) (ix2 q ⟨3072 + k, by omega⟩) else (0 : EReal) := by
  have e : (win0_5.blk t).view.emb (ix2 k q) = ix2 k q := by blk_ext [idx t]
  blk_simp [iblk, idx t]
  rw [e]
  refine (congrFun (host3 m c) _).trans ?_
  pointwise []
  simp only [pad_zero]

/-- What a row of the tile is. -/
theorem pay2_at (X : S512x1024.Idx → EReal) (w a b u v : S1x1024.Idx → EReal) (r : Fin 512) (q : Fin 1024) :
    k0_pay2 (F := Ideal) X w a b u v (ix2 r q)
      = Hid.hid (fun q => X (ix2 r q)) (fun q => w (ix2 0 q)) (fun q => u (ix2 0 q) + v (ix2 0 q)) (fun q => a (ix2 0 q) + b (ix2 0 q)) q := by
  pointwise [k0_pay2, Hid.hid, Hid.inv]

theorem pay3_at (X : S512x1024.Idx → EReal) (w a b u v : S1x1024.Idx → EReal) (W : S3072x1024.Idx → EReal) (r : Fin 512) (i : Fin 3072) :
    k0_pay3 (F := Ideal) X w a b u v W (ix2 r i) = ∑ q : Fin 1024, k0_pay2 (F := Ideal) X w a b u v (ix2 r q) * W (ix2 i q) := by
  pointwise [k0_pay3]

theorem pay1_at (X : S512x1024.Idx → EReal) (W : S128x1024.Idx → EReal) (r : Fin 512) (i : Fin 128) :
    k0_pay1 (F := Ideal) X W (ix2 r i) = ∑ q : Fin 1024, X (ix2 r q) * W (ix2 i q) := by
  pointwise [k0_pay1]

theorem hid_congr {x x' nw nw' sh sh' sc sc' : Fin 1024 → EReal} (h : x = x') (h1 : nw = nw') (h2 : sh = sh') (h3 : sc = sc') :
    Hid.hid x nw sh sc = Hid.hid x' nw' sh' sc' := by
  rw [h, h1, h2, h3]

/-- A load of one part of the modulation. -/
theorem ld_mod (B : S1x6144.Idx → EReal) (j : ℕ) (inb) (h : j < 6) (q : Fin 1024) :
    View.ld (Val := Elt Ideal) (e' := .f32) B (Rect.unit (s := S1x6144) ![0, j * 1024] ![1, 1024] inb) (ix2 0 q) = B (ix2 0 ⟨j * 1024 + q, by omega⟩) := by
  refine congrArg B ?_
  funext a; apply Fin.ext; fin_cases a <;> simp

theorem tile (r : Fin 512) (q : Fin 1024) (i1 i2 i3 i4) :
    k0_pay2 (F := Ideal) (iblk m c 0 t) (iblk m c 1 t) (View.ld (iblk m c 2 t) (Rect.unit (s := S1x6144) ![0, 1024] ![1, 1024] i1))
      (View.ld (iblk m c 3 t) (Rect.unit (s := S1x6144) ![0, 1024] ![1, 1024] i2)) (View.ld (iblk m c 2 t) (Rect.unit (s := S1x6144) ![0, 0] ![1, 1024] i3))
      (View.ld (iblk m c 3 t) (Rect.unit (s := S1x6144) ![0, 0] ![1, 1024] i4)) (ix2 r q)
      = rowH (m ((c : Thread nD τ).loc main_arg0)) (m ((c : Thread nD τ).loc main_arg1)) (m ((c : Thread nD τ).loc main_arg2)) (m ((c : Thread nD τ).loc main_arg3)) ⟨t.val * 512 + r, by have := (idx t).2.2.2; omega⟩ q := by
  refine (pay2_at _ _ _ _ _ _ r q).trans ?_
  unfold rowH
  have hx : (fun q => iblk m c 0 t (ix2 r q)) = fun q => (m ((c : Thread nD τ).loc main_arg0)) (ix2 ⟨t.val * 512 + r, by have := (idx t).2.2.2; omega⟩ q) := funext (blk0 m c t r)
  have hw : (fun q => iblk m c 1 t (ix2 0 q)) = fun q => (m ((c : Thread nD τ).loc main_arg1)) (ix2 0 q) := funext (blk1 m c t)
  have hs : (fun q : Fin 1024 => @HAdd.hAdd EReal EReal EReal _ (View.ld (iblk m c 2 t) (Rect.unit (s := S1x6144) ![0, 0] ![1, 1024] i3) (ix2 0 q)) (View.ld (iblk m c 3 t) (Rect.unit (s := S1x6144) ![0, 0] ![1, 1024] i4) (ix2 0 q)))
      = Hid.part (m ((c : Thread nD τ).loc main_arg2)) (m ((c : Thread nD τ).loc main_arg3)) 0 (by omega) := funext fun q => congrArg₂ (· + ·) ((ld_mod _ 0 _ (by omega) q).trans (blk2 m c t _)) ((ld_mod _ 0 _ (by omega) q).trans (blk3 m c t _))
  have hc : (fun q : Fin 1024 => @HAdd.hAdd EReal EReal EReal _ (View.ld (iblk m c 2 t) (Rect.unit (s := S1x6144) ![0, 1024] ![1, 1024] i1) (ix2 0 q)) (View.ld (iblk m c 3 t) (Rect.unit (s := S1x6144) ![0, 1024] ![1, 1024] i2) (ix2 0 q)))
      = Hid.part (m ((c : Thread nD τ).loc main_arg2)) (m ((c : Thread nD τ).loc main_arg3)) 1 (by omega) := funext fun q => congrArg₂ (· + ·) ((ld_mod _ 1 _ (by omega) q).trans (blk2 m c t _)) ((ld_mod _ 1 _ (by omega) q).trans (blk3 m c t _))
  exact congrFun (hid_congr hx hw hs hc) q

theorem result8 : (dats m 0 c).arrAt 8 cfg0.N = fun i => rowH (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 8 _ (by decide +kernel) fun t hf y => ?_
  have ht := (idx t).2.2.2
  blk_simp
  rw [after0_8]
  obtain ⟨r, q, rfl⟩ : ∃ (r : Fin 512) (q : Fin 1024), y = ix2 r q := ⟨y 0, y 1, by funext a; fin_cases a <;> rfl⟩
  have e : (win0_8.blk t).view.emb (ix2 r q) = ix2 (⟨t.val * 512 + r, by omega⟩ : Fin 2048) q := by blk_ext [idx t]
  have e1 : (win0_8.blk t).view.emb (ix2 r q) 1 = q := congrFun e 1
  have e0 : (win0_8.blk t).view.emb (ix2 r q) 0 = (⟨t.val * 512 + r, by omega⟩ : Fin 2048) := congrFun e 0
  show _ = rowH _ _ _ _ ((win0_8.blk t).view.emb (ix2 r q) 0) ((win0_8.blk t).view.emb (ix2 r q) 1)
  rw [e0, e1]
  frame_out
  exact tile m c t r q _ _ _ _
theorem ld4 (X : S3072x1024.Idx → EReal) (inb) :
    View.readAt (Elt Ideal) (ms0_4 t).view (Rect.unit (s := S3072x1024) ![0, 0] S3072x1024.size inb).toLoadRect ((hs0_4 t).unread X) = X := by
  rw [View.readAt_eq_ld, Memref.IsWhole.read_unread]
  exact View.ld_unit_lit _ _ (by decide)

theorem result6 : (dats m 0 c).arrAt 6 cfg0.N = fun i => lead (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  have ht := (idx t).2.2.2
  blk_simp
  rw [after0_6]
  obtain ⟨r, q, rfl⟩ : ∃ (r : Fin 512) (q : Fin 3072), y = ix2 r q := ⟨y 0, y 1, by funext a; fin_cases a <;> rfl⟩
  have e : (win0_6.blk t).view.emb (ix2 r q) = ix2 (⟨t.val * 512 + r, by omega⟩ : Fin 2048) q := by blk_ext [idx t]
  have e1 : (win0_6.blk t).view.emb (ix2 r q) 1 = q := congrFun e 1
  have e0 : (win0_6.blk t).view.emb (ix2 r q) 0 = (⟨t.val * 512 + r, by omega⟩ : Fin 2048) := congrFun e 0
  show _ = lead _ _ _ _ _ ((win0_6.blk t).view.emb (ix2 r q) 0) ((win0_6.blk t).view.emb (ix2 r q) 1)
  rw [e0, e1]
  unfold outsAt0 out0_A_6
  dsimp only
  frame_open
  rw [View.read_writes_junk_eq_canon]
  refine (congrFun (View.canon_cons_unit_lit _ _ _ (by decide)) _).trans ?_
  refine (pay3_at _ _ _ _ _ _ _ r q).trans ?_
  unfold lead prod
  refine Finset.sum_congr (M := EReal) rfl fun z _ => congrArg₂ (· * ·) ?_ ((congrFun (ld4 t _ _) _).trans (blk4 m c t q z))
  frame_out
  exact tile m c t r z _ _ _ _

theorem result7 : (dats m 0 c).arrAt 7 cfg0.N = fun i => last (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 7 _ (by decide +kernel) fun t hf y => ?_
  have ht := (idx t).2.2.2
  blk_simp
  rw [after0_7]
  obtain ⟨r, q, rfl⟩ : ∃ (r : Fin 512) (q : Fin 128), y = ix2 r q := ⟨y 0, y 1, by funext a; fin_cases a <;> rfl⟩
  have e : (win0_7.blk t).view.emb (ix2 r q) = ix2 (⟨t.val * 512 + r, by omega⟩ : Fin 2048) q := by blk_ext [idx t]
  have e1 : (win0_7.blk t).view.emb (ix2 r q) 1 = q := congrFun e 1
  have e0 : (win0_7.blk t).view.emb (ix2 r q) 0 = (⟨t.val * 512 + r, by omega⟩ : Fin 2048) := congrFun e 0
  show _ = last _ _ _ _ _ ((win0_7.blk t).view.emb (ix2 r q) 0) ((win0_7.blk t).view.emb (ix2 r q) 1)
  rw [e0, e1]
  frame_out
  refine (pay1_at _ _ r q).trans ?_
  refine (Finset.sum_congr (M := EReal) rfl fun z _ => congrArg₂ (· * ·) (tile m c t r z _ _ _ _) (blk5 m c t q z)).trans ?_
  unfold last
  by_cases h : (q : ℕ) < 8
  · simp only [dif_pos h]
    rfl
  · simp only [dif_neg h, mul_zero, Finset.sum_const_zero]
end Cert.FwdIn

namespace Cert.FwdIn
open Idealize.ShloMosaic Idealize.ShloMosaic.TcCoe Idealize.SL.Sem
open Cert.Reference9Ideal Cert.Reference9Ideal.Gen

section
variable (x : FVec Ideal S2048x1024 .f32) (nw : FVec Ideal S1x1024 .f32) (mo ba : FVec Ideal S1x6144 .f32) (w : FVec Ideal S1024x3080 .f32)

theorem plain0  : (extractStridedSlice S2048x3072 ![0, 0] (Host.dotGeneral dot_S2048x1024_S1024x3080_S2048x3080_1_0_0_1_n_n none (addf (mulf (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 nw)) (broadcastInDim S2048x1024 ![0, 1] bcast_S1x1024_S2048x1024_0_1 (addf (broadcastInDim S1x1024 ![] bcast_S_S1x1024 (constant S_ .f32 0x3F800000#32)) (extractStridedSlice S1x1024 ![0, 1024] (addf mo ba) slices_S1x6144_S1x1024_0_1024)))) (broadcastInDim S2048x1024 ![0, 1] bcast_S1x1024_S2048x1024_0_1 (extractStridedSlice S1x1024 ![0, 0] (addf mo ba) slices_S1x6144_S1x1024_0_0))) w) slices_S2048x3080_S2048x3072_0_0 : FVec Ideal S2048x3072 .f32) = fun i => lead x nw mo ba w (i 0) (i 1) := by
  refine funext fun i => ?_
  obtain ⟨n, q, rfl⟩ : ∃ (n : Fin 2048) (q : Fin 3072), i = ix2 n q := ⟨i 0, i 1, by funext a; fin_cases a <;> rfl⟩
  pointwise [lead, prod, rowH, Hid.hid, Hid.inv, Hid.part]

theorem plain1  : (pad S2048x128 ![0, 0] ![0, 120] ![0, 0] (extractStridedSlice S2048x8 ![0, 3072] (Host.dotGeneral dot_S2048x1024_S1024x3080_S2048x3080_1_0_0_1_n_n none (addf (mulf (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 nw)) (broadcastInDim S2048x1024 ![0, 1] bcast_S1x1024_S2048x1024_0_1 (addf (broadcastInDim S1x1024 ![] bcast_S_S1x1024 (constant S_ .f32 0x3F800000#32)) (extractStridedSlice S1x1024 ![0, 1024] (addf mo ba) slices_S1x6144_S1x1024_0_1024)))) (broadcastInDim S2048x1024 ![0, 1] bcast_S1x1024_S2048x1024_0_1 (extractStridedSlice S1x1024 ![0, 0] (addf mo ba) slices_S1x6144_S1x1024_0_0))) w) slices_S2048x3080_S2048x8_0_3072) (sitofp .f32 (constantI S_ 32 0#32)) pads_S2048x8_S2048x128_000_01200 h_S_ : FVec Ideal S2048x128 .f32) = fun i => last x nw mo ba w (i 0) (i 1) := by
  refine funext fun i => ?_
  obtain ⟨n, q, rfl⟩ : ∃ (n : Fin 2048) (q : Fin 128), i = ix2 n q := ⟨i 0, i 1, by funext a; fin_cases a <;> rfl⟩
  pointwise [last, prod, rowH, Hid.hid, Hid.inv, Hid.part]
  simp only [pad_zero]

theorem plain2  : (truncf .bf16 (addf (mulf (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 nw)) (broadcastInDim S2048x1024 ![0, 1] bcast_S1x1024_S2048x1024_0_1 (addf (broadcastInDim S1x1024 ![] bcast_S_S1x1024 (constant S_ .f32 0x3F800000#32)) (extractStridedSlice S1x1024 ![0, 1024] (addf mo ba) slices_S1x6144_S1x1024_0_1024)))) (broadcastInDim S2048x1024 ![0, 1] bcast_S1x1024_S2048x1024_0_1 (extractStridedSlice S1x1024 ![0, 0] (addf mo ba) slices_S1x6144_S1x1024_0_0))) bitsLt_bf16_f32 : FVec Ideal S2048x1024 .bf16) = fun i => rowH x nw mo ba (i 0) (i 1) := by
  refine funext fun i => ?_
  obtain ⟨n, q, rfl⟩ : ∃ (n : Fin 2048) (q : Fin 1024), i = ix2 n q := ⟨i 0, i 1, by funext a; fin_cases a <;> rfl⟩
  pointwise [rowH, Hid.hid, Hid.inv, Hid.part]

end

/-- The value claim. -/
theorem value : Cert.algebraic_Kernel9Ideal_Reference9Ideal := by
  intro m g m' g' _ e
  refine ⟨fun c => (Cert.Kernel9Ideal.Gen.dats m 0 c).arrAt 6 Cert.Kernel9Ideal.cfg0.N, fun c => (Cert.Kernel9Ideal.Gen.dats m 0 c).arrAt 7 Cert.Kernel9Ideal.cfg0.N,
    fun c => (Cert.Kernel9Ideal.Gen.dats m 0 c).arrAt 8 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨h0, h1, h2, hk⟩ := h c
  obtain ⟨e0, e1, e2, e3, e4⟩ := e c
  refine ⟨(h0.trans (plain0 _ _ _ _ _)).trans ((result6 m c).trans ?_).symm, (h1.trans (plain1 _ _ _ _ _)).trans ((result7 m c).trans ?_).symm,
    (h2.trans (plain2 _ _ _ _)).trans ((result8 m c).trans ?_).symm, hk⟩
  all_goals
    simp only [e0, e1, e2, e3, e4]
    rfl

end Cert.FwdIn

end
-- ==== Proof.BFinal.lean ====
/- The results of the input projection's backward pass, over the reals: the blocks that the points read, the tiles put together, and the
   reference's results. -/
module
public import proofs.«01_k».proof.Proof.BPoint
public import proofs.«01_k».proof.Proof.FBlocks
public import proofs.«01_k».proof.Proof.FRef
public import proofs.«01_k».proof.Proof.FwdIn
public import proofs.«01_k».proof.Proof.Gen.Reference5Ideal.Run

@[expose] public section

set_option maxRecDepth 16384

noncomputable section
namespace Cert.BwdIn
open Idealize.ShloMosaic Idealize.ShloMosaic.TcCoe Idealize.SL.Sem
open Cert.Kernel5Ideal Cert.Kernel5Ideal.Gen
open Cert.Conf (eps)
open Cert.Ffn (xr part)

theorem idx : ∀ t : Fin cfg0.N, (win0_0.index t = ![t.val, 0] ∧ win0_1.index t = ![t.val, 0] ∧ win0_2.index t = ![t.val, 0] ∧ win0_3.index t = ![t.val, 0])
    ∧ (win0_4.index t = ![t.val, 0] ∧ win0_5.index t = ![0, 0] ∧ win0_6.index t = ![0, 0] ∧ win0_7.index t = ![0, 0])
    ∧ (win0_8.index t = ![0, 0] ∧ win0_9.index t = ![0, 0] ∧ win0_10.index t = ![t.val, 0] ∧ win0_11.index t = ![0, 0]) ∧ t.val < 4 :=
  (by decide +kernel : ∀ t : Fin grid0.N, _)

/-- The arguments are the reals `dp x d nw mo ba w`. -/
structure Reals (m : (ℓ : Loc nD τ sig) → Buf (Elt Ideal) ℓ) (c : Dev nD) (dp : ℕ → ℕ → ℝ) (x d : ℕ → Fin 1024 → ℝ) (nw : Fin 1024 → ℝ) (mo ba : ℕ → ℝ)
    (w : Fin 1024 → ℕ → ℝ) : Prop where
  dp : ∀ (n : Fin 2048) (i : Fin 3080), m ((c : Thread nD τ).loc main_arg0) (ix2 n i) = ((dp n i : ℝ) : EReal)
  x : ∀ (n : Fin 2048) (q : Fin 1024), m ((c : Thread nD τ).loc main_arg1) (ix2 n q) = ((x n q : ℝ) : EReal)
  d : ∀ (n : Fin 2048) (q : Fin 1024), m ((c : Thread nD τ).loc main_arg2) (ix2 n q) = ((d n q : ℝ) : EReal)
  nw : ∀ q : Fin 1024, m ((c : Thread nD τ).loc main_arg3) (ix2 0 q) = ((nw q : ℝ) : EReal)
  mo : ∀ i : Fin 6144, m ((c : Thread nD τ).loc main_arg4) (ix2 0 i) = ((mo i : ℝ) : EReal)
  ba : ∀ i : Fin 6144, m ((c : Thread nD τ).loc main_arg5) (ix2 0 i) = ((ba i : ℝ) : EReal)
  w : ∀ (q : Fin 1024) (i : Fin 3080), m ((c : Thread nD τ).loc main_arg6) (ix2 q i) = ((w q i : ℝ) : EReal)

section
variable (w : Fin 1024 → ℕ → ℝ) (mo ba : ℕ → ℝ) (nw : Fin 1024 → ℝ) (x d : ℕ → Fin 1024 → ℝ) (dp : ℕ → ℕ → ℝ)

/-- The gradient at the layer's input, in row `n`. -/
def dxR (n : ℕ) : Fin 1024 → ℝ := dx w (part mo ba 1) nw (x n) (d n) (dp n)
/-- The share of row `n` in the sums. -/
def shR (n : ℕ) : ℕ → Fin 1024 → ℝ := share w (part mo ba 1) nw (x n) (dp n)
/-- The sums over the rows. -/
def stR (k : ℕ) (q : Fin 1024) : ℝ := ∑ n ∈ Finset.range 2048, shR w mo ba nw x dp n k q
end

section
variable (m : (ℓ : Loc nD τ sig) → Buf (Elt Ideal) ℓ) (c : Dev nD)
/-- What the host gives the kernel. -/
theorem host1 : V m c main_v1 = truncf (F := Ideal) .bf16 (transpose S3080x1024 [1, 0] (m ((c : Thread nD τ).loc main_arg6)) transposes_S1024x3080_S3080x1024_1_0) bitsLt_bf16_f32 := by
  simp only [V, hostOps0, hostOps0_1, hostOps0_2, hostOps0_3, hostOps0_4, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem host3 : V m c main_v3 = pad S128x1024 ![0, 0] ![120, 0] ![0, 0] (extractStridedSlice S8x1024 ![3072, 0] (truncf (F := Ideal) .bf16 (transpose S3080x1024 [1, 0] (m ((c : Thread nD τ).loc main_arg6)) transposes_S1024x3080_S3080x1024_1_0) bitsLt_bf16_f32) slices_S3080x1024_S8x1024_3072_0)
    (sitofp (F := Ideal) .bf16 (constantI S_ 32 0#32)) pads_S8x1024_S128x1024_01200_000 h_S_ := by
  simp only [V, hostOps0, hostOps0_1, hostOps0_2, hostOps0_3, hostOps0_4, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem host6 : V m c main_v6 = truncf (F := Ideal) .bf16 (pad S2048x128 ![0, 0] ![0, 120] ![0, 0] (extractStridedSlice S2048x8 ![0, 3072] (m ((c : Thread nD τ).loc main_arg0)) slices_S2048x3080_S2048x8_0_3072)
    (sitofp (F := Ideal) .f32 (constantI S_ 32 0#32)) pads_S2048x8_S2048x128_000_01200 h_S_) bitsLt_bf16_f32 := by
  simp only [V, hostOps0, hostOps0_1, hostOps0_2, hostOps0_3, hostOps0_4, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem host8 : V m c main_v8 = truncf (F := Ideal) .bf16 (extractStridedSlice S2048x1024 ![0, 0] (m ((c : Thread nD τ).loc main_arg0)) slices_S2048x3080_S2048x1024_0_0) bitsLt_bf16_f32 := by
  simp only [V, hostOps0, hostOps0_1, hostOps0_2, hostOps0_3, hostOps0_4, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem host10 : V m c main_v10 = truncf (F := Ideal) .bf16 (extractStridedSlice S2048x2048 ![0, 1024] (m ((c : Thread nD τ).loc main_arg0)) slices_S2048x3080_S2048x2048_0_1024) bitsLt_bf16_f32 := by
  simp only [V, hostOps0, hostOps0_1, hostOps0_2, hostOps0_3, hostOps0_4, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl
end

variable {m : (ℓ : Loc nD τ sig) → Buf (Elt Ideal) ℓ} {c : Dev nD} {w : Fin 1024 → ℕ → ℝ} {mo ba : ℕ → ℝ} {nw : Fin 1024 → ℝ} {x d : ℕ → Fin 1024 → ℝ} {dp : ℕ → ℕ → ℝ}
variable (H : Reals m c dp x d nw mo ba w)
include H

section
variable (t : Fin cfg0.N)

theorem blk0 (r : Fin 512) (k : Fin 1024) : iblk m c 0 t (ix2 r k) = ((dp (t * 512 + r) k : ℝ) : EReal) := by
  have ht := (idx t).2.2.2
  have e : (win0_0.blk t).view.emb (ix2 r k) = ix2 (⟨t.val * 512 + r, by omega⟩ : Fin 2048) k := by blk_ext [idx t]
  blk_simp [iblk, idx t]
  rw [e]
  refine (congrFun (host8 m c) _).trans ?_
  pointwise []
  exact H.dp ⟨t.val * 512 + r, by omega⟩ ⟨k, by omega⟩

theorem blk1 (r : Fin 512) (k : Fin 2048) : iblk m c 1 t (ix2 r k) = ((dp (t * 512 + r) (1024 + k) : ℝ) : EReal) := by
  have ht := (idx t).2.2.2
  have e : (win0_1.blk t).view.emb (ix2 r k) = ix2 (⟨t.val * 512 + r, by omega⟩ : Fin 2048) k := by blk_ext [idx t]
  blk_simp [iblk, idx t]
  rw [e]
  refine (congrFun (host10 m c) _).trans ?_
  pointwise []
  exact H.dp ⟨t.val * 512 + r, by omega⟩ ⟨1024 + k, by omega⟩

theorem blk2 (r : Fin 512) (k : Fin 128) : iblk m c 2 t (ix2 r k) = (((if (k : ℕ) < 8 then dp (t * 512 + r) (3072 + k) else 0) : ℝ) : EReal) := by
  have ht := (idx t).2.2.2
  have e : (win0_2.blk t).view.emb (ix2 r k) = ix2 (⟨t.val * 512 + r, by omega⟩ : Fin 2048) k := by blk_ext [idx t]
  blk_simp [iblk, idx t]
  rw [e]
  refine (congrFun (host6 m c) _).trans ?_
  pointwise []
  simp only [FwdIn.pad_zero]
  by_cases h : (k : ℕ) < 8
  · rw [dif_pos ⟨by omega, h⟩, if_pos h]
    exact H.dp ⟨t.val * 512 + r, by omega⟩ ⟨3072 + k, by omega⟩
  · rw [dif_neg fun h' => h h'.2, if_neg h]
    rfl

theorem blk3 (r : Fin 512) (q : Fin 1024) : iblk m c 3 t (ix2 r q) = ((x (t * 512 + r) q : ℝ) : EReal) := by
  have ht := (idx t).2.2.2
  refine Eq.trans ?_ (H.x ⟨t * 512 + r, by omega⟩ q)
  blk_ext [iblk, V, idx t]

theorem blk4 (r : Fin 512) (q : Fin 1024) : iblk m c 4 t (ix2 r q) = ((d (t * 512 + r) q : ℝ) : EReal) := by
  have ht := (idx t).2.2.2
  refine Eq.trans ?_ (H.d ⟨t * 512 + r, by omega⟩ q)
  blk_ext [iblk, V, idx t]

theorem blk5 (q : Fin 1024) : iblk m c 5 t (ix2 0 q) = ((nw q : ℝ) : EReal) := by
  refine Eq.trans ?_ (H.nw q)
  blk_ext [iblk, V, idx t]

theorem blk6 (i : Fin 6144) : iblk m c 6 t (ix2 0 i) = ((mo i : ℝ) : EReal) := by
  refine Eq.trans ?_ (H.mo i)
  blk_ext [iblk, V, idx t]

theorem blk7 (i : Fin 6144) : iblk m c 7 t (ix2 0 i) = ((ba i : ℝ) : EReal) := by
  refine Eq.trans ?_ (H.ba i)
  blk_ext [iblk, V, idx t]

theorem blk8' (J : ((cfg0.win 8).xblock (cfg0.grid.coords t)).Idx) (k : Fin 3072) (q : Fin 1024) (h0 : (J 0 : ℕ) = k) (h1 : (J 1 : ℕ) = q) :
    iblk m c 8 t J = ((w q k : ℝ) : EReal) := by
  have e : (win0_8.blk t).view.emb J = ix2 (⟨k, by omega⟩ : Fin 3080) q := by blk_ext [idx t, h0, h1]
  blk_simp [iblk, idx t]
  rw [e]
  refine (congrFun (host1 m c) _).trans ?_
  pointwise []
  exact H.w q ⟨k, by omega⟩

theorem blk8 (k : Fin 3072) (q : Fin 1024) : X0_8 m c t (ix2 k q) = ((w q k : ℝ) : EReal) := by
  unfold X0_8
  refine (dif_pos (moved0_8 t (ix2 k q))).trans ?_
  exact blk8' H t _ k q rfl rfl

theorem blk9 (k : Fin 128) (q : Fin 1024) : iblk m c 9 t (ix2 k q) = (((if (k : ℕ) < 8 then w q (3072 + k) else 0) : ℝ) : EReal) := by
  have e : (win0_9.blk t).view.emb (ix2 k q) = ix2 k q := by blk_ext [idx t]
  blk_simp [iblk, idx t]
  rw [e]
  refine (congrFun (host3 m c) _).trans ?_
  pointwise []
  simp only [FwdIn.pad_zero]
  by_cases h : (k : ℕ) < 8
  · rw [dif_pos h, if_pos h]
    exact H.w q ⟨3072 + k, by omega⟩
  · rw [dif_neg h, if_neg h]
    rfl

theorem tile : Tile m c t (X0_8 m c t) w (part mo ba 1) nw (fun r => x (t * 512 + r)) (fun r => d (t * 512 + r)) (fun r => dp (t * 512 + r)) where
  a := blk0 H t
  b := blk1 H t
  e := blk2 H t
  x := blk3 H t
  d := blk4 H t
  n := blk5 H t
  sc := fun q => by
    rw [blk6 H t, blk7 H t, ← EReal.coe_add]
    rfl
  wm := blk8 H t
  v := blk9 H t
end

/-- The sums after a point: the shares of its tile and of those before it. -/
theorem stats_upto (n : ℕ) (hn : n < cfg0.N) (k : Fin 8) (q : Fin 1024) :
    (outsAt0 m c n hn).2 (ix2 k q) = ((∑ t ∈ Finset.range (n + 1), ∑ r : Fin 512, shR w mo ba nw x dp (t * 512 + r) k q : ℝ) : EReal) := by
  induction n generalizing k q with
  | zero =>
    refine (block11 (tile H ⟨0, hn⟩) (fun _ _ => 0) (fun k q => ?_) k q).trans ?_
    · exact congrFun (if_pos rfl) _
    · rw [Finset.sum_range_one, zero_add]
      rfl
  | succ n ih =>
    have ht := (idx ⟨n + 1, hn⟩).2.2.2
    have ht' : n + 1 < 4 := ht
    refine (block11 (tile H ⟨n + 1, hn⟩) (fun k q => ∑ t ∈ Finset.range (n + 1), ∑ r : Fin 512, shR w mo ba nw x dp (t * 512 + r) k q) (fun k q => ?_) k q).trans ?_
    · refine Eq.trans ?_ (ih (Nat.lt_of_succ_lt hn) k q)
      exact congrFun (if_neg (by show ¬ (n + 1) % 4 = 0; omega)) _
    · rw [Finset.sum_range_succ _ (n + 1)]
      rfl

theorem result10 : (dats m 0 c).arrAt 10 cfg0.N = fun i => ((dxR w mo ba nw x d dp (i 0) (i 1) : ℝ) : EReal) := by
  refine (dats m 0 c).arrAt_eq_of_covers 10 _ (by decide +kernel) fun t hf y => ?_
  blk_simp
  rw [after0_10, (idx t).2.2.1.2.2.1]
  obtain ⟨r, q, rfl⟩ : ∃ (r : Fin 512) (q : Fin 1024), y = ix2 r q := ⟨y 0, y 1, by funext a; fin_cases a <;> rfl⟩
  have ht := (idx t).2.2.2
  have e : (win0_10.blk t).view.emb (ix2 r q) = ix2 (⟨t.val * 512 + r, by omega⟩ : Fin 2048) q := by blk_ext [idx t]
  have e1 : (win0_10.blk t).view.emb (ix2 r q) 1 = q := congrFun e 1
  rw [e1]
  exact block10 (tile H t) r q

theorem result11 : (dats m 0 c).arrAt 11 cfg0.N = fun i => ((stR w mo ba nw x dp (i 0) (i 1) : ℝ) : EReal) := by
  refine (dats m 0 c).arrAt_eq_of_after_last 11 t0_3 (by decide +kernel) _ fun j => ?_
  blk_simp
  rw [after0_11]
  obtain ⟨k, q, rfl⟩ : ∃ (k : Fin 8) (q : Fin 1024), j = ix2 k q := ⟨j 0, j 1, by funext a; fin_cases a <;> rfl⟩
  refine (stats_upto H t0_3.val t0_3.isLt k q).trans ?_
  refine congrArg Real.toEReal ?_
  have h : ∀ n : ℕ, ∑ t ∈ Finset.range n, ∑ r : Fin 512, shR w mo ba nw x dp (t * 512 + r) k q = ∑ i ∈ Finset.range (n * 512), shR w mo ba nw x dp i k q := by
    intro n
    induction n with
    | zero => simp
    | succ n ih => rw [Finset.sum_range_succ, ih, add_mul, one_mul, Finset.sum_range_add, Finset.sum_range (fun r => shR w mo ba nw x dp (n * 512 + r) k q)]
  exact h 4

end Cert.BwdIn

namespace Cert.BwdIn.Plain
open Idealize.ShloMosaic Idealize.ShloMosaic.TcCoe Idealize.SL.Sem
open Cert.Reference5Ideal Cert.Reference5Ideal.Gen Cert.Reference5Ideal.Value
open Cert.Conf (eps eps_coe eps_pos coe_sum rsqrt_pos)
open Cert.Ffn (ms rr xr ms_pos dnorm dnorm_eq part d1024_coe div1024)
open Cert.Ffn.Plain (cneg)

/-- An array of this shape. -/
abbrev Arr (S : Shape) : Type := FVec Ideal S .f32

/-- The arguments. -/
structure Inp where
  dp : Arr S2048x3080
  x : Arr S2048x1024
  d : Arr S2048x1024
  nw : Arr S1x1024
  mo : Arr S1x6144
  ba : Arr S1x6144
  w : Arr S1024x3080

/-- Each row's mean square, and `eps`. -/
def v13 (v : Inp) : Arr S2048x1 :=
  addf (Host.divf (broadcastInDim S2048x1 ![0] bcast_S2048_S2048x1_0 (Host.reduceAdd (mulf v.x v.x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
/-- Its reciprocal root. -/
def v14 (v : Inp) : Arr S2048x1 :=
  Host.rsqrt (v13 v)
/-- The root's derivative. -/
def v17 (v : Inp) : Arr S2048x1 :=
  mulf (broadcastInDim S2048x1 ![] bcast_S_S2048x1 (constant S_ .f32 0xBF000000#32)) (Host.divf (v14 v) (v13 v))
/-- The normalised rows. -/
def v19 (v : Inp) : Arr S2048x1024 :=
  mulf v.x (broadcastInDim S2048x1024 ![0, 1] bcast_S2048x1_S2048x1024_0_1 (v14 v))
/-- Scaled. -/
def v21 (v : Inp) : Arr S2048x1024 :=
  mulf (v19 v) (broadcastInDim S2048x1024 ![0, 1] bcast_S1x1024_S2048x1024_0_1 v.nw)
/-- One and the scale. -/
def v23 (v : Inp) : Arr S1x1024 :=
  addf (broadcastInDim S1x1024 ![] bcast_S_S1x1024 (constant S_ .f32 0x3F800000#32)) (extractStridedSlice S1x1024 ![0, 1024] (addf v.mo v.ba) slices_S1x6144_S1x1024_0_1024)
/-- The gradient at the projection's input. -/
def v29 (v : Inp) : Arr S2048x1024 :=
  Host.dotGeneral dot_S2048x3080_S1024x3080_S2048x1024_1_1_0_0_n_n none v.dp v.w
/-- At the shift. -/
def v31 (v : Inp) : Arr S1x1024 :=
  shapeCast _ (Host.reduceAdd (v29 v) (constant S_ .f32 0x00000000#32) reducesTo_S2048x1024_S1024_d0 h_S_) shapeCasts_S1024_S1x1024
/-- At the scale. -/
def v34 (v : Inp) : Arr S1x1024 :=
  shapeCast _ (Host.reduceAdd (mulf (v21 v) (v29 v)) (constant S_ .f32 0x00000000#32) reducesTo_S2048x1024_S1024_d0 h_S_) shapeCasts_S1024_S1x1024
/-- At the scaled rows. -/
def v36 (v : Inp) : Arr S2048x1024 :=
  mulf (v29 v) (broadcastInDim S2048x1024 ![0, 1] bcast_S1x1024_S2048x1024_0_1 (v23 v))
/-- At the norm's scale. -/
def v39 (v : Inp) : Arr S1x1024 :=
  shapeCast _ (Host.reduceAdd (mulf (v19 v) (v36 v)) (constant S_ .f32 0x00000000#32) reducesTo_S2048x1024_S1024_d0 h_S_) shapeCasts_S1024_S1x1024
/-- At the normalised rows. -/
def v41 (v : Inp) : Arr S2048x1024 :=
  mulf (v36 v) (broadcastInDim S2048x1024 ![0, 1] bcast_S1x1024_S2048x1024_0_1 v.nw)
/-- At the mean square's terms. -/
def v50 (v : Inp) : Arr S2048x1 :=
  Host.divf (mulf (shapeCast _ (Host.reduceAdd (mulf v.x (v41 v)) (constant S_ .f32 0x00000000#32) reducesTo_S2048x1024_S2048_d1 h_S_) shapeCasts_S2048_S2048x1) (v17 v)) (broadcastInDim S2048x1 ![] bcast_S_S2048x1 (constant S_ .f32 0x44800000#32))
/-- The same in every column. -/
def v52 (v : Inp) : Arr S2048x1024 :=
  broadcastInDim S2048x1024 ![0] bcast_S2048_S2048x1024_0 (Host.reduceAdd (v50 v) (constant S_ .f32 0x00000000#32) reducesTo_S2048x1_S2048_d1 h_S_)
/-- The first result. -/
def v56 (v : Inp) : Arr S2048x1024 :=
  addf (addf (addf v.d (mulf (v41 v) (broadcastInDim S2048x1024 ![0, 1] bcast_S2048x1_S2048x1024_0_1 (v14 v)))) (mulf v.x (v52 v))) (mulf (v52 v) v.x)
/-- The second result. -/
def v58 (v : Inp) : Arr S8x1024 :=
  concatenate S8x1024 0 [⟨S1x1024, v31 v⟩, ⟨S1x1024, v34 v⟩, ⟨S1x1024, v39 v⟩,
    ⟨S5x1024, broadcastInDim S5x1024 ![] bcast_S_S5x1024 (constant (F := Ideal) S_ .f32 0x00000000#32)⟩] concatenates_S1x1024_S1x1024_S1x1024_S5x1024_S8x1024_d0

/-- The arguments in memory. -/
def inp (m : (ℓ : Loc nD τ sig) → Buf (Elt Ideal) ℓ) (c : Dev nD) : Inp :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6)⟩

set_option maxHeartbeats 2000000 in
theorem out0 (m : (ℓ : Loc nD τ sig) → Buf (Elt Ideal) ℓ) (c : Dev nD) : res_main_v56 m c = v56 (inp m c) := rfl

/-- The arguments are the reals `dp x d nw mo ba w`. -/
structure Args (v : Inp) (dp : ℕ → ℕ → ℝ) (x d : ℕ → Fin 1024 → ℝ) (nw : Fin 1024 → ℝ) (mo ba : ℕ → ℝ) (w : Fin 1024 → ℕ → ℝ) : Prop where
  dp : ∀ (n : Fin 2048) (i : Fin 3080), v.dp (ix2 n i) = ((dp n i : ℝ) : EReal)
  x : ∀ (n : Fin 2048) (q : Fin 1024), v.x (ix2 n q) = ((x n q : ℝ) : EReal)
  d : ∀ (n : Fin 2048) (q : Fin 1024), v.d (ix2 n q) = ((d n q : ℝ) : EReal)
  nw : ∀ q : Fin 1024, v.nw (ix2 0 q) = ((nw q : ℝ) : EReal)
  mo : ∀ i : Fin 6144, v.mo (ix2 0 i) = ((mo i : ℝ) : EReal)
  ba : ∀ i : Fin 6144, v.ba (ix2 0 i) = ((ba i : ℝ) : EReal)
  w : ∀ (q : Fin 1024) (i : Fin 3080), v.w (ix2 q i) = ((w q i : ℝ) : EReal)

variable {v : Inp} {w : Fin 1024 → ℕ → ℝ} {mo ba : ℕ → ℝ} {nw : Fin 1024 → ℝ} {x d : ℕ → Fin 1024 → ℝ} {dp : ℕ → ℕ → ℝ}
variable (H : Args v dp x d nw mo ba w)
include H

theorem v13_at (n : Fin 2048) : v13 v (ix2 n 0) = ((ms eps (x n) : ℝ) : EReal) := by
  pointwise [v13]
  simp only [H.x, ← EReal.coe_mul, coe_sum, d1024_coe, div1024, eps_coe, ← EReal.coe_add]
  rfl

theorem v14_at (n : Fin 2048) : v14 v (ix2 n 0) = ((rr eps (x n) : ℝ) : EReal) := by
  pointwise [v14]
  rw [v13_at H]
  exact rsqrt_pos (ms_pos eps _ eps_pos)

theorem v17_at (n : Fin 2048) : v17 v (ix2 n 0) = ((-(1 / 2) * (rr eps (x n) / ms eps (x n)) : ℝ) : EReal) := by
  pointwise [v17]
  rw [v13_at H, v14_at H, cneg, Ideal.div_coe (ms_pos eps _ eps_pos).ne', ← EReal.coe_mul, ← EReal.coe_mul, mul_one_div]

theorem v19_at (n : Fin 2048) (q : Fin 1024) : v19 v (ix2 n q) = ((xr eps (x n) q : ℝ) : EReal) := by
  pointwise [v19]
  rw [v14_at H, H.x, ← EReal.coe_mul, xr]

theorem v21_at (n : Fin 2048) (q : Fin 1024) : v21 v (ix2 n q) = ((xr eps (x n) q * nw q : ℝ) : EReal) := by
  pointwise [v21]
  rw [v19_at H, H.nw, ← EReal.coe_mul]

theorem v23_at (q : Fin 1024) : v23 v (ix2 0 q) = ((1 + part mo ba 1 q : ℝ) : EReal) := by
  pointwise [v23]
  rw [H.mo, H.ba, ← EReal.coe_one, ← EReal.coe_add, ← EReal.coe_add]
  rfl

theorem v29_at (n : Fin 2048) (q : Fin 1024) : v29 v (ix2 n q) = ((dh w (dp n) q : ℝ) : EReal) := by
  pointwise [v29]
  simp only [H.dp, H.w, ← EReal.coe_mul, coe_sum]
  rw [dh, Finset.sum_range]

theorem v36_at (n : Fin 2048) (q : Fin 1024) : v36 v (ix2 n q) = ((dmd w (part mo ba 1) (dp n) q : ℝ) : EReal) := by
  pointwise [v36]
  rw [v29_at H, v23_at H, ← EReal.coe_mul, dmd]

theorem v41_at (n : Fin 2048) (q : Fin 1024) : v41 v (ix2 n q) = ((dmd w (part mo ba 1) (dp n) q * nw q : ℝ) : EReal) := by
  pointwise [v41]
  rw [v36_at H, H.nw, ← EReal.coe_mul]

theorem v50_at (n : Fin 2048) : v50 v (ix2 n 0)
    = (((∑ q, x n q * (dmd w (part mo ba 1) (dp n) q * nw q)) * (-(1 / 2) * (rr eps (x n) / ms eps (x n))) / 1024 : ℝ) : EReal) := by
  pointwise [v50]
  simp only [v41_at H, v17_at H, H.x, ← EReal.coe_mul, coe_sum, d1024_coe, div1024]

theorem v52_at (n : Fin 2048) (q : Fin 1024) : v52 v (ix2 n q)
    = (((∑ q, x n q * (dmd w (part mo ba 1) (dp n) q * nw q)) * (-(1 / 2) * (rr eps (x n) / ms eps (x n))) / 1024 : ℝ) : EReal) := by
  pointwise [v52]
  exact (Fin.sum_univ_one _).trans (v50_at H n)

theorem v56_at (n : Fin 2048) (q : Fin 1024) : v56 v (ix2 n q) = ((dxR w mo ba nw x d dp n q : ℝ) : EReal) := by
  pointwise [v56]
  rw [v41_at H, v14_at H, v52_at H, H.d, H.x]
  simp only [← EReal.coe_mul, ← EReal.coe_add]
  rw [dxR, dx, ← dnorm_eq eps (x n) eps_pos]
  congr 1
  ring

theorem v58_at (k : Fin 8) (q : Fin 1024) : v58 v (ix2 k q) = ((stR w mo ba nw x dp k q : ℝ) : EReal) := by
  pointwise [v58, v31, v34, v39]
  simp only [Nat.lt_one_iff, dite_eq_ite]
  simp only [v29_at H, v21_at H, v19_at H, v36_at H, ← EReal.coe_mul, coe_sum]
  rw [stR, Finset.sum_range]
  simp only [shR, share]
  have hk := k.isLt
  by_cases h0 : (k : ℕ) = 0
  · simp only [h0, if_true]
  · by_cases h1 : (k : ℕ) = 1
    · rw [if_neg h0, if_pos (by omega)]
      simp only [h1, if_true, one_ne_zero, if_false]
      exact congrArg Real.toEReal (Finset.sum_congr rfl fun n _ => mul_comm _ _)
    · by_cases h2 : (k : ℕ) = 2
      · rw [if_neg h0, if_neg (by omega), if_pos (by omega)]
        simp only [h2, if_true, Nat.reduceEqDiff, OfNat.ofNat_ne_zero, if_false]
        exact congrArg Real.toEReal (Finset.sum_congr rfl fun n _ => mul_comm _ _)
      · simp only [if_neg h0, if_neg h1, if_neg h2, Finset.sum_const_zero]
        rw [if_neg (by omega), if_neg (by omega)]
        rfl

/-- The gradient of the layer's input. -/
theorem same10 : v56 v = fun i => ((dxR w mo ba nw x d dp (i 0) (i 1) : ℝ) : EReal) := by
  refine funext fun i => ?_
  obtain ⟨n, q, rfl⟩ : ∃ (n : Fin 2048) (q : Fin 1024), i = ix2 n q := ⟨i 0, i 1, by funext a; fin_cases a <;> rfl⟩
  exact v56_at H n q

/-- The gradients summed over the sequence. -/
theorem same11 : v58 v = fun i => ((stR w mo ba nw x dp (i 0) (i 1) : ℝ) : EReal) := by
  refine funext fun i => ?_
  obtain ⟨k, q, rfl⟩ : ∃ (k : Fin 8) (q : Fin 1024), i = ix2 k q := ⟨i 0, i 1, by funext a; fin_cases a <;> rfl⟩
  exact v58_at H k q

end Cert.BwdIn.Plain

end
-- ==== Proof.BwdIn.lean ====
/- The value claim of the input projection's backward pass: its precondition says that every element of its arguments is a real number, and
   then the kernel and the reference end with the same arrays. -/
module
public import proofs.«01_k».proof.Proof.Finite
public import proofs.«01_k».proof.Proof.BFinal
public import proofs.«01_k».proof.Proof.Gen.Pre_finite5
public import proofs.«01_k».proof.Defs

@[expose] public section

set_option maxRecDepth 16384

noncomputable section
namespace Cert.BwdIn
open Idealize.ShloMosaic Idealize.ShloMosaic.TcCoe Idealize.SL.Sem Idealize.ShloMosaic.StableHlo

/-- The precondition, decoded: every element of every argument is a real. -/
theorem all_real (x0 : FVec Ideal Cert.Pre_finite5.S2048x3080 .f32) (x1 : FVec Ideal Cert.Pre_finite5.S2048x1024 .f32) (x2 : FVec Ideal Cert.Pre_finite5.S2048x1024 .f32) (x3 : FVec Ideal Cert.Pre_finite5.S1x1024 .f32) (x4 : FVec Ideal Cert.Pre_finite5.S1x6144 .f32) (x5 : FVec Ideal Cert.Pre_finite5.S1x6144 .f32) (x6 : FVec Ideal Cert.Pre_finite5.S1024x3080 .f32)
    (h : Cert.Pre_finite5.fn (F := Ideal) x0 x1 x2 x3 x4 x5 x6 = fun _ => 1#1) :
    (∀ i, (x0 i : EReal) = (((x0 i : EReal).toReal : ℝ) : EReal))
    ∧ (∀ i, (x1 i : EReal) = (((x1 i : EReal).toReal : ℝ) : EReal))
    ∧ (∀ i, (x2 i : EReal) = (((x2 i : EReal).toReal : ℝ) : EReal))
    ∧ (∀ i, (x3 i : EReal) = (((x3 i : EReal).toReal : ℝ) : EReal))
    ∧ (∀ i, (x4 i : EReal) = (((x4 i : EReal).toReal : ℝ) : EReal))
    ∧ (∀ i, (x5 i : EReal) = (((x5 i : EReal).toReal : ℝ) : EReal))
    ∧ (∀ i, (x6 i : EReal) = (((x6 i : EReal).toReal : ℝ) : EReal)) := by
  have h := congrFun h (fun k => k.elim0)
  unfold Cert.Pre_finite5.fn Cert.Pre_finite5.fn_part1 at h
  obtain ⟨h, h6⟩ := Cert.Conf.and_parts h
  obtain ⟨h, h5⟩ := Cert.Conf.and_parts h
  obtain ⟨h, h4⟩ := Cert.Conf.and_parts h
  obtain ⟨h, h3⟩ := Cert.Conf.and_parts h
  obtain ⟨h, h2⟩ := Cert.Conf.and_parts h
  obtain ⟨h0, h1⟩ := Cert.Conf.and_parts h
  exact ⟨Cert.Conf.real_of_fold x0 _ _ _ _ h0, Cert.Conf.real_of_fold x1 _ _ _ _ h1, Cert.Conf.real_of_fold x2 _ _ _ _ h2, Cert.Conf.real_of_fold x3 _ _ _ _ h3, Cert.Conf.real_of_fold x4 _ _ _ _ h4, Cert.Conf.real_of_fold x5 _ _ _ _ h5, Cert.Conf.real_of_fold x6 _ _ _ _ h6⟩

/-- Under the precondition the arguments are reals. -/
theorem reals_of_finite (m : (ℓ : Loc Cert.Kernel5Ideal.nD Cert.Kernel5Ideal.τ Cert.Kernel5Ideal.sig) → Buf (Elt Ideal) ℓ) (h : Cert.Pre_Kernel5Ideal_finite5 m) (c : Dev Cert.Kernel5Ideal.nD) :
    ∃ (dp : ℕ → ℕ → ℝ) (x d : ℕ → Fin 1024 → ℝ) (nw : Fin 1024 → ℝ) (mo ba : ℕ → ℝ) (w : Fin 1024 → ℕ → ℝ), Reals m c dp x d nw mo ba w := by
  obtain ⟨h0, h1, h2, h3, h4, h5, h6⟩ := all_real _ _ _ _ _ _ _ (h c)
  refine ⟨fun n i => if hn : n < 2048 then (if hi : i < 3080 then (m ((c : Thread Cert.Kernel5Ideal.nD Cert.Kernel5Ideal.τ).loc Cert.Kernel5Ideal.main_arg0) (ix2 ⟨n, hn⟩ ⟨i, hi⟩) : EReal).toReal else 0) else 0,
    fun n q => if hn : n < 2048 then (m ((c : Thread Cert.Kernel5Ideal.nD Cert.Kernel5Ideal.τ).loc Cert.Kernel5Ideal.main_arg1) (ix2 ⟨n, hn⟩ q) : EReal).toReal else 0,
    fun n q => if hn : n < 2048 then (m ((c : Thread Cert.Kernel5Ideal.nD Cert.Kernel5Ideal.τ).loc Cert.Kernel5Ideal.main_arg2) (ix2 ⟨n, hn⟩ q) : EReal).toReal else 0,
    fun q => (m ((c : Thread Cert.Kernel5Ideal.nD Cert.Kernel5Ideal.τ).loc Cert.Kernel5Ideal.main_arg3) (ix2 0 q) : EReal).toReal,
    fun i => if hi : i < 6144 then (m ((c : Thread Cert.Kernel5Ideal.nD Cert.Kernel5Ideal.τ).loc Cert.Kernel5Ideal.main_arg4) (ix2 0 ⟨i, hi⟩) : EReal).toReal else 0,
    fun i => if hi : i < 6144 then (m ((c : Thread Cert.Kernel5Ideal.nD Cert.Kernel5Ideal.τ).loc Cert.Kernel5Ideal.main_arg5) (ix2 0 ⟨i, hi⟩) : EReal).toReal else 0,
    fun q i => if hi : i < 3080 then (m ((c : Thread Cert.Kernel5Ideal.nD Cert.Kernel5Ideal.τ).loc Cert.Kernel5Ideal.main_arg6) (ix2 q ⟨i, hi⟩) : EReal).toReal else 0,
    ⟨fun n i => ?_, fun n q => ?_, fun n q => ?_, fun q => h3 _, fun i => ?_, fun i => ?_, fun q i => ?_⟩⟩
  · rw [dif_pos n.isLt, dif_pos i.isLt]; exact h0 _
  · rw [dif_pos n.isLt]; exact h1 _
  · rw [dif_pos n.isLt]; exact h2 _
  · rw [dif_pos i.isLt]; exact h4 _
  · rw [dif_pos i.isLt]; exact h5 _
  · rw [dif_pos i.isLt]; exact h6 _

/-- The reference's arguments, equal to the kernel's, are the same reals. -/
theorem args_of (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (e3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (e4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (e5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (e6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6))
    {dp : ℕ → ℕ → ℝ} {x d : ℕ → Fin 1024 → ℝ} {nw : Fin 1024 → ℝ} {mo ba : ℕ → ℝ} {w : Fin 1024 → ℕ → ℝ} (H : Reals m c dp x d nw mo ba w) :
    Plain.Args (Plain.inp m' c) dp x d nw mo ba w where
  dp n i := (congrFun e0 _).trans (H.dp n i)
  x n q := (congrFun e1 _).trans (H.x n q)
  d n q := (congrFun e2 _).trans (H.d n q)
  nw q := (congrFun e3 _).trans (H.nw q)
  mo i := (congrFun e4 _).trans (H.mo i)
  ba i := (congrFun e5 _).trans (H.ba i)
  w q i := (congrFun e6 _).trans (H.w q i)

theorem value : Cert.algebraic_Kernel5Ideal_Reference5Ideal_pre_finite5 := by
  intro m g m' g' hp e
  refine ⟨fun c => (Cert.Kernel5Ideal.Gen.dats m 0 c).arrAt 10 Cert.Kernel5Ideal.cfg0.N, fun c => (Cert.Kernel5Ideal.Gen.dats m 0 c).arrAt 11 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, h1, hk⟩ := h c
  obtain ⟨e0, e1, e2, e3, e4, e5, e6⟩ := e c
  obtain ⟨dp, x, d, nw, mo, ba, w, H⟩ := reals_of_finite m hp c
  have A := args_of m m' c e0 e1 e2 e3 e4 e5 e6 H
  exact ⟨(h0.trans (Plain.out0 m' c)).trans ((Plain.same10 A).trans (result10 H).symm), h1.trans ((Plain.same11 A).trans (result11 H).symm), hk⟩

end Cert.BwdIn

end
-- ==== Proof.WOut.lean ====
/- The gradient of the output projection's weights: the kernel's blocks of rows and the reference's whole product are the same sums. -/
module
public import proofs.«01_k».proof.Proof.Hid
public import proofs.«01_k».proof.Proof.Gen.Kernel6Ideal.Value
public import proofs.«01_k».proof.Proof.Gen.Reference6Ideal.Run
public import proofs.«01_k».proof.Defs

@[expose] public section

set_option maxRecDepth 16384

noncomputable section
namespace Cert.WOut
open Idealize.ShloMosaic Idealize.ShloMosaic.TcCoe Idealize.SL.Sem
open Cert.Kernel6Ideal Cert.Kernel6Ideal.Gen

theorem idx : ∀ t : Fin cfg0.N, win0_0.index t = ![0, t.val] ∧ win0_1.index t = ![0, 0] ∧ win0_2.index t = ![t.val, 0] ∧ t.val < 2 :=
  (by decide +kernel : ∀ t : Fin grid0.N, _)

/-- The two halves of the mixers' outputs, side by side. -/
def both (a b : S2048x512.Idx → EReal) (n : Fin 2048) (i : Fin 1024) : EReal :=
  if h : i.val < 512 then a (ix2 n ⟨i, h⟩) else b (ix2 n ⟨i.val - 512, by omega⟩)

/-- The weights' gradient: rows of the outputs times rows of the cotangent, summed over the sequence. -/
def grad (a b : S2048x512.Idx → EReal) (d : S2048x1024.Idx → EReal) (i q : Fin 1024) : EReal := ∑ n : Fin 2048, both a b n i * d (ix2 n q)

/-- What a grid point stores. -/
theorem pay_at (X : S2048x512.Idx → EReal) (Y : S2048x1024.Idx → EReal) (k : Fin 512) (q : Fin 1024) :
    k0_pay1 (F := Ideal) X Y (ix2 k q) = ∑ n : Fin 2048, X (ix2 n k) * Y (ix2 n q) := by
  pointwise [k0_pay1]

variable (m : (ℓ : Loc nD τ sig) → Buf (Elt Ideal) ℓ) (c : Dev nD) (t : Fin cfg0.N)

theorem blk0 (n : Fin 2048) (k : Fin 512) (h : t.val * 512 + k < 1024) :
    iblk m c 0 t (ix2 n k) = both (m ((c : Thread nD τ).loc main_arg0)) (m ((c : Thread nD τ).loc main_arg1)) n ⟨t.val * 512 + k, h⟩ := by
  have e : (win0_0.blk t).view.emb (ix2 n k) = ix2 n ⟨t.val * 512 + k, h⟩ := by blk_ext [idx t]
  blk_simp [iblk, idx t]
  rw [e]
  entry_read
  pointwise [both]

theorem blk1 (n : Fin 2048) (q : Fin 1024) : iblk m c 1 t (ix2 n q) = m ((c : Thread nD τ).loc main_arg2) (ix2 n q) := by
  have e : (win0_1.blk t).view.emb (ix2 n q) = ix2 n q := by blk_ext [idx t]
  blk_simp [iblk, idx t]
  rw [e]
  entry_read
  pointwise []

theorem result : (dats m 0 c).arrAt 2 cfg0.N = fun i =>
    grad (m ((c : Thread nD τ).loc main_arg0)) (m ((c : Thread nD τ).loc main_arg1)) (m ((c : Thread nD τ).loc main_arg2)) (i 0) (i 1) := by
  refine (dats m 0 c).arrAt_eq_of_covers 2 _ (by decide +kernel) fun t hf y => ?_
  have ht := (idx t).2.2.2
  blk_simp
  rw [after0_2]
  obtain ⟨k, q, rfl⟩ : ∃ (k : Fin 512) (q : Fin 1024), y = ix2 k q := ⟨y 0, y 1, by funext a; fin_cases a <;> rfl⟩
  have e : (win0_2.blk t).view.emb (ix2 k q) = ix2 (⟨t.val * 512 + k, by omega⟩ : Fin 1024) q := by blk_ext [idx t]
  have e1 : (win0_2.blk t).view.emb (ix2 k q) 1 = q := congrFun e 1
  have e0 : (win0_2.blk t).view.emb (ix2 k q) 0 = (⟨t.val * 512 + k, by omega⟩ : Fin 1024) := congrFun e 0
  show _ = grad _ _ _ ((win0_2.blk t).view.emb (ix2 k q) 0) ((win0_2.blk t).view.emb (ix2 k q) 1)
  rw [e0, e1]
  frame_out
  refine (pay_at _ _ k q).trans ?_
  exact Finset.sum_congr (M := EReal) rfl fun n _ => congrArg₂ (· * ·) (blk0 m c t n k _) (blk1 m c t n q)

end Cert.WOut

namespace Cert.WOut
open Idealize.ShloMosaic Idealize.ShloMosaic.TcCoe Idealize.SL.Sem
open Cert.Reference6Ideal Cert.Reference6Ideal.Gen

/-- The reference's result. -/
theorem plain (a b : FVec Ideal S2048x512 .f32) (d : FVec Ideal S2048x1024 .f32) :
    (truncf .bf16 (transpose S1024x1024 [1, 0] (Host.dotGeneral dot_S2048x1024_S2048x1024_S1024x1024_0_0_1_1_n_n none d (concatenate S2048x1024 1 [⟨S2048x512, a⟩, ⟨S2048x512, b⟩] concatenates_S2048x512_S2048x512_S2048x1024_d1)) transposes_S1024x1024_S1024x1024_1_0) bitsLt_bf16_f32 : FVec Ideal S1024x1024 .bf16)
      = fun i => grad a b d (i 0) (i 1) := by
  refine funext fun i => ?_
  obtain ⟨n, q, rfl⟩ : ∃ (n : Fin 1024) (q : Fin 1024), i = ix2 n q := ⟨i 0, i 1, by funext a; fin_cases a <;> rfl⟩
  pointwise [grad, both]
  exact Finset.sum_congr (M := EReal) rfl fun k _ => mul_comm _ _

/-- The value claim. -/
theorem value : Cert.algebraic_Kernel6Ideal_Reference6Ideal := by
  intro m g m' g' _ e
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨h0, hk⟩ := h c
  obtain ⟨e0, e1, e2⟩ := e c
  refine ⟨(h0.trans (plain _ _ _)).trans ((result m c).trans ?_).symm, hk⟩
  rw [e0, e1, e2]
  rfl

end Cert.WOut

end
-- ==== Proof.GRow.lean ====
/- One row of the feed-forward sub-layer and of the loss behind it, over the reals: the norm, the two products, the residual, the final norm,
   the error, and the loss' gradient at the residual. -/
module
public import proofs.«01_k».proof.Proof.FRow

@[expose] public section

noncomputable section
namespace Cert.FfnFwd
open Cert.Conf (sg)
open Cert.Ffn (pre dnorm xr)

section
variable (eps : ℝ) (wi : Fin 1024 → ℕ → ℝ) (wo : ℕ → Fin 1024 → ℝ) (sh sc gt nw nf x tg : Fin 1024 → ℝ)

/-- The second product's input. -/
def act (i : ℕ) : ℝ := pre eps wi sh sc nw x i * sg (pre eps wi sh sc nw x i) * pre eps wi sh sc nw x (2816 + i)
/-- Its result. -/
def ffn (c : Fin 1024) : ℝ := ∑ i ∈ Finset.range 2816, act eps wi sh sc nw x i * wo i c
/-- The residual. -/
def res (c : Fin 1024) : ℝ := x c + gt c * ffn eps wi wo sh sc nw x c
/-- The error. -/
def err (c : Fin 1024) : ℝ := xr eps (res eps wi wo sh sc gt nw x) c * nf c - tg c
/-- The loss' gradient at the output. -/
def dy (c : Fin 1024) : ℝ := err eps wi wo sh sc gt nw nf x tg c * (1 / 1024)
/-- The loss' gradient at the residual. -/
def dres (c : Fin 1024) : ℝ := dnorm eps (res eps wi wo sh sc gt nw x) (fun c => dy eps wi wo sh sc gt nw nf x tg c * nf c) c
/-- The row's share of the loss. -/
def loss : ℝ := 1 / 2 * ((∑ c, err eps wi wo sh sc gt nw nf x tg c * err eps wi wo sh sc gt nw nf x tg c) / 1024)
/-- The row's share of the final scale's gradient, the gate's gradient and the loss, in rows 0, 1 and 5. -/
def share (k : ℕ) (c : Fin 1024) : ℝ :=
  if k = 0 then dy eps wi wo sh sc gt nw nf x tg c * xr eps (res eps wi wo sh sc gt nw x) c
  else if k = 1 then dres eps wi wo sh sc gt nw nf x tg c * ffn eps wi wo sh sc nw x c
  else if k = 5 then loss eps wi wo sh sc gt nw nf x tg
  else 0
end

/-- A sum over 2816 columns, in the four blocks of 704 that the kernel takes. -/
theorem sum_four (f : ℕ → ℝ) :
    ∑ i ∈ Finset.range 2816, f i = ∑ k : Fin 704, f (0 * 704 + k) + ∑ k : Fin 704, f (1 * 704 + k) + ∑ k : Fin 704, f (2 * 704 + k) + ∑ k : Fin 704, f (3 * 704 + k) := by
  have h (n : ℕ) : ∑ i ∈ Finset.range (n * 704), f i = ∑ j ∈ Finset.range n, ∑ k : Fin 704, f (j * 704 + k) := by
    induction n with
    | zero => simp
    | succ n ih => rw [Finset.sum_range_succ, ← ih, add_mul, one_mul, Finset.sum_range_add, Finset.sum_range (fun k => f (n * 704 + k))]
  rw [h 4, Finset.sum_range_succ, Finset.sum_range_succ, Finset.sum_range_succ, Finset.sum_range_one]

end Cert.FfnFwd

end
-- ==== Proof.GPay.lean ====
/- The feed-forward kernel's arithmetic, a stage at a time, at real inputs. -/
module
public import proofs.«01_k».proof.Proof.GRow
public import proofs.«01_k».proof.Proof.FPay
public import proofs.«01_k».proof.Proof.Gen.Kernel7Ideal.Skeleton

@[expose] public section

set_option maxRecDepth 16384

noncomputable section
namespace Cert.FfnFwd
open Idealize.ShloMosaic Idealize.ShloMosaic.TcCoe Idealize.SL.Sem
open Cert.Kernel7Ideal Cert.Kernel7Ideal.Gen
open Cert.Conf (sg eps eps_coe eps_pos coe_sum rsqrt_pos)
open Cert.Ffn (pre hid dnorm xr rr ms ms_pos d1024_coe div1024)

theorem half_coe : (Ideal.ofBits .f32 0x3F000000#32 : EReal) = ((1 / 2 : ℝ) : EReal) := by
  simp [Ideal.ofBits, Ideal.ieee, -EReal.coe_mul]; norm_num

theorem inv1024_coe : (Ideal.ofBits .f32 0x3A800000#32 : EReal) = ((1 / 1024 : ℝ) : EReal) := by
  simp [Ideal.ofBits, Ideal.ieee, -EReal.coe_mul]; norm_num

/-! ## The four pairs of blocks are computed alike -/

theorem pay6_eq : @k0_pay6 Ideal _ = @k0_pay5 Ideal _ := rfl
theorem pay12_eq : @k0_pay12 Ideal _ = @k0_pay5 Ideal _ := rfl
theorem pay13_eq : @k0_pay13 Ideal _ = @k0_pay5 Ideal _ := rfl
theorem pay19_eq : @k0_pay19 Ideal _ = @k0_pay5 Ideal _ := rfl
theorem pay20_eq : @k0_pay20 Ideal _ = @k0_pay5 Ideal _ := rfl
theorem pay27_eq : @k0_pay27 Ideal _ = @k0_pay5 Ideal _ := rfl
theorem pay28_eq : @k0_pay28 Ideal _ = @k0_pay5 Ideal _ := rfl
theorem pay9_eq (h W V) : k0_pay9 (F := Ideal) h W V = k0_pay31 (k0_pay5 h W) (k0_pay5 h V) := rfl
theorem pay16_eq (h G V) : k0_pay16 (F := Ideal) h G V = k0_pay31 G (k0_pay5 h V) := rfl
theorem pay24_eq : @k0_pay24 Ideal _ = @k0_pay31 Ideal _ := rfl
theorem pay26_eq : @k0_pay26 Ideal _ = @k0_pay33 Ideal _ := rfl
theorem pay18_eq (h X G V O) : k0_pay18 (F := Ideal) h X G V O = k0_pay33 X G (k0_pay5 h V) O := rfl

section
variable (A : S256x1024.Idx → EReal) (a : Fin 256 → Fin 1024 → ℝ) (hA : ∀ r c, A (ix2 r c) = ((a r c : ℝ) : EReal))
variable (G U : S256x704.Idx → EReal) (g u : Fin 256 → Fin 704 → ℝ) (hG : ∀ r k, G (ix2 r k) = ((g r k : ℝ) : EReal)) (hU : ∀ r k, U (ix2 r k) = ((u r k : ℝ) : EReal))
variable (W : S1x704x1024.Idx → EReal) (w : Fin 704 → Fin 1024 → ℝ) (hW : ∀ k c, W (ix3 0 k c) = ((w k c : ℝ) : EReal))

include hA hW in
/-- A block of the first product's result. -/
theorem dot_at (r : Fin 256) (k : Fin 704) : k0_pay5 (F := Ideal) A W (ix2 r k) = ((∑ c, a r c * w k c : ℝ) : EReal) := by
  pointwise [k0_pay5]
  simp only [hA, hW, ← EReal.coe_mul, coe_sum]

include hG hU in
/-- A block of the second product's input. -/
theorem act_at (r : Fin 256) (k : Fin 704) : k0_pay31 (F := Ideal) G U (ix2 r k) = ((g r k * sg (g r k) * u r k : ℝ) : EReal) := by
  pointwise [k0_pay31]
  simp only [hG, hU, ← EReal.coe_mul, Ideal.logistic_coe]
  rfl

include hA hG hU hW in
/-- The second product's result, one block more of its sum. -/
theorem sum_at (r : Fin 256) (c : Fin 1024) :
    k0_pay33 (F := Ideal) A G U W (ix2 r c) = ((a r c + ∑ k, g r k * sg (g r k) * u r k * w k c : ℝ) : EReal) := by
  pointwise [k0_pay33]
  simp only [hA, act_at G U g u hG hU, hW, ← EReal.coe_mul, coe_sum, ← EReal.coe_add]

include hA hW in
theorem first_at (V O : S1x704x1024.Idx → EReal) (v o : Fin 704 → Fin 1024 → ℝ) (hV : ∀ k c, V (ix3 0 k c) = ((v k c : ℝ) : EReal))
    (hO : ∀ k c, O (ix3 0 k c) = ((o k c : ℝ) : EReal)) (r : Fin 256) (c : Fin 1024) :
    k0_pay11 (F := Ideal) A W V O (ix2 r c)
      = ((∑ k, (∑ c, a r c * w k c) * sg (∑ c, a r c * w k c) * (∑ c, a r c * v k c) * o k c : ℝ) : EReal) := by
  pointwise [k0_pay11]
  rw [pay9_eq]
  simp only [act_at _ _ _ _ (dot_at A a hA W w hW) (dot_at A a hA V v hV), hO, ← EReal.coe_mul, coe_sum]
end

section
variable (X : S256x1024.Idx → EReal) (M B M' B' N : S1x1024.Idx → EReal) (x : Fin 256 → Fin 1024 → ℝ) (sh sc n : Fin 1024 → ℝ)
variable (hX : ∀ r c, X (ix2 r c) = ((x r c : ℝ) : EReal)) (hM : ∀ c, M (ix2 0 c) + B (ix2 0 c) = ((sh c : ℝ) : EReal))
variable (hM' : ∀ c, M' (ix2 0 c) + B' (ix2 0 c) = ((sc c : ℝ) : EReal)) (hN : ∀ c, N (ix2 0 c) = ((n c : ℝ) : EReal))
include hX hM hM' hN in
/-- The first product's input. -/
theorem hid_at (r : Fin 256) (c : Fin 1024) : k0_pay4 (F := Ideal) M B M' B' X N (ix2 r c) = ((hid eps sh sc n (x r) c : ℝ) : EReal) := by
  pointwise [k0_pay4]
  simp only [hX, hM, hM', hN, ← EReal.coe_mul, coe_sum, d1024_coe, div1024, eps_coe, ← EReal.coe_add, Ideal.ofBits_one_f32, ← EReal.coe_one]
  rw [show Ideal.rsqrt (((∑ q, x r q * x r q) / 1024 + eps : ℝ) : EReal) = ((rr eps (x r) : ℝ) : EReal) from rsqrt_pos (ms_pos eps (x r) eps_pos)]
  simp only [← EReal.coe_mul, ← EReal.coe_add]
  rfl
end

section
variable (T : S1x1024.Idx → EReal) (X A : S256x1024.Idx → EReal) (G U : S256x704.Idx → EReal) (W : S1x704x1024.Idx → EReal)
variable (gt : Fin 1024 → ℝ) (x f : Fin 256 → Fin 1024 → ℝ)
variable (hT : ∀ c, T (ix2 0 c) = ((gt c : ℝ) : EReal)) (hX : ∀ r c, X (ix2 r c) = ((x r c : ℝ) : EReal))
variable (hF : ∀ r c, k0_pay33 (F := Ideal) A G U W (ix2 r c) = ((f r c : ℝ) : EReal))
include hT hX hF

theorem res_at (r : Fin 256) (c : Fin 1024) : k0_pay34 (F := Ideal) T X A G U W (ix2 r c) = ((x r c + gt c * f r c : ℝ) : EReal) := by
  pointwise [k0_pay34]
  simp only [hT, hX, hF, ← EReal.coe_mul, ← EReal.coe_add]

theorem rr_at (r : Fin 256) : k0_pay35 (F := Ideal) T X A G U W (ix2 r 0) = ((rr eps (fun c => x r c + gt c * f r c) : ℝ) : EReal) := by
  pointwise [k0_pay35]
  simp only [res_at T X A G U W gt x f hT hX hF, ← EReal.coe_mul, coe_sum, d1024_coe, div1024, eps_coe, ← EReal.coe_add]
  exact rsqrt_pos (ms_pos eps (fun c => x r c + gt c * f r c) eps_pos)

theorem xr_at (r : Fin 256) (c : Fin 1024) : k0_pay36 (F := Ideal) T X A G U W (ix2 r c) = ((xr eps (fun c => x r c + gt c * f r c) c : ℝ) : EReal) := by
  pointwise [k0_pay36]
  simp only [res_at T X A G U W gt x f hT hX hF, rr_at T X A G U W gt x f hT hX hF, ← EReal.coe_mul]
  rfl

variable (N : S1x1024.Idx → EReal) (Y : S256x1024.Idx → EReal) (nf : Fin 1024 → ℝ) (y : Fin 256 → Fin 1024 → ℝ)
variable (hN : ∀ c, N (ix2 0 c) = ((nf c : ℝ) : EReal)) (hY : ∀ r c, Y (ix2 r c) = ((y r c : ℝ) : EReal))
include hN hY

theorem err_at (r : Fin 256) (c : Fin 1024) :
    k0_pay37 (F := Ideal) T X A G U W N Y (ix2 r c) = ((xr eps (fun c => x r c + gt c * f r c) c * nf c - y r c : ℝ) : EReal) := by
  pointwise [k0_pay37]
  simp only [xr_at T X A G U W gt x f hT hX hF, hN, hY, ← EReal.coe_mul, ← EReal.coe_sub]

theorem dy_at (r : Fin 256) (c : Fin 1024) :
    k0_pay39 (F := Ideal) T X A G U W N Y (ix2 r c) = (((xr eps (fun c => x r c + gt c * f r c) c * nf c - y r c) * (1 / 1024) : ℝ) : EReal) := by
  pointwise [k0_pay39]
  simp only [err_at T X A G U W gt x f hT hX hF N Y nf y hN hY, inv1024_coe, ← EReal.coe_mul]

theorem loss_at : k0_pay38 (F := Ideal) T X A G U W N Y (ix2 0 0)
    = ((∑ r : Fin 256, 1 / 2 * ((∑ c, (xr eps (fun c => x r c + gt c * f r c) c * nf c - y r c) * (xr eps (fun c => x r c + gt c * f r c) c * nf c - y r c)) / 1024) : ℝ) : EReal) := by
  pointwise [k0_pay38]
  simp only [err_at T X A G U W gt x f hT hX hF N Y nf y hN hY, half_coe, ← EReal.coe_mul, coe_sum, d1024_coe, div1024]
  rw [Finset.mul_sum]
end

section
variable (R : S256x1.Idx → EReal) (X D F' : S256x1024.Idx → EReal) (N S : S1x1024.Idx → EReal)
variable (x d f : Fin 256 → Fin 1024 → ℝ) (n s : Fin 1024 → ℝ)
variable (hR : ∀ r, R (ix2 r 0) = ((rr eps (x r) : ℝ) : EReal)) (hX : ∀ r c, X (ix2 r c) = ((xr eps (x r) c : ℝ) : EReal))
variable (hD : ∀ r c, D (ix2 r c) = ((d r c : ℝ) : EReal)) (hN : ∀ c, N (ix2 0 c) = ((n c : ℝ) : EReal))

include hR hX hD hN in
theorem dres_at (r : Fin 256) (c : Fin 1024) : k0_pay41 (F := Ideal) R X D N (ix2 r c) = ((dnorm eps (x r) (fun c => d r c * n c) c : ℝ) : EReal) := by
  pointwise [k0_pay41]
  simp only [hR, hX, hD, hN, ← EReal.coe_mul, coe_sum, d1024_coe, div1024, ← EReal.coe_sub]
  rfl

include hR hX hD hN in
theorem gate_at (T : S1x1024.Idx → EReal) (gt : Fin 1024 → ℝ) (hT : ∀ c, T (ix2 0 c) = ((gt c : ℝ) : EReal)) (r : Fin 256) (c : Fin 1024) :
    k0_pay44 (F := Ideal) T R X D N (ix2 r c) = ((gt c * dnorm eps (x r) (fun c => d r c * n c) c : ℝ) : EReal) := by
  pointwise [k0_pay44]
  simp only [hT, dres_at R X D N x d n hR hX hD hN, ← EReal.coe_mul]

variable (hS : ∀ c, S (ix2 0 c) = ((s c : ℝ) : EReal))
include hX hD hS in
theorem row0_at (c : Fin 1024) : k0_pay40 (F := Ideal) X D S (ix2 0 c) = ((s c + ∑ r, d r c * xr eps (x r) c : ℝ) : EReal) := by
  pointwise [k0_pay40]
  simp only [hX, hD, hS, ← EReal.coe_mul, coe_sum, ← EReal.coe_add]

include hR hX hD hN hS in
theorem row1_at (hF : ∀ r c, F' (ix2 r c) = ((f r c : ℝ) : EReal)) (c : Fin 1024) :
    k0_pay42 (F := Ideal) F' R X D N S (ix2 0 c) = ((s c + ∑ r, dnorm eps (x r) (fun c => d r c * n c) c * f r c : ℝ) : EReal) := by
  pointwise [k0_pay42]
  simp only [dres_at R X D N x d n hR hX hD hN, hF, hS, ← EReal.coe_mul, coe_sum, ← EReal.coe_add]

include hS in
theorem row5_at (L : S1x1.Idx → EReal) (l : ℝ) (hL : L (ix2 0 0) = (l : EReal)) (c : Fin 1024) : k0_pay43 (F := Ideal) L S (ix2 0 c) = ((s c + l : ℝ) : EReal) := by
  pointwise [k0_pay43]
  simp only [hL, hS, ← EReal.coe_add]
end

end Cert.FfnFwd

end
-- ==== Proof.GPoint.lean ====
/- One tile of the feed-forward kernel, over the reals: what a grid point leaves in each block and in the running sums. -/
module
public import proofs.«01_k».proof.Proof.GPay
public import proofs.«01_k».proof.Proof.Hid
public import proofs.«01_k».proof.Proof.Rows
public import proofs.«01_k».proof.Proof.FPoint
public import proofs.«01_k».proof.Proof.Gen.Kernel7Ideal.Value

@[expose] public section

set_option maxRecDepth 16384

noncomputable section
namespace Cert.FfnFwd
open Idealize.ShloMosaic Idealize.ShloMosaic.TcCoe Idealize.SL.Sem
open Cert.Kernel7Ideal Cert.Kernel7Ideal.Gen
open Cert.Conf (sg eps eps_coe eps_pos coe_sum rsqrt_pos)
open Cert.Ffn (pre hid dnorm xr rr zstats ld_stat ld_win ld_wout row_peel canon_row canon_block canon_zeros readCov_row_skip)
variable (m : (ℓ : Loc nD τ sig) → Buf (Elt Ideal) ℓ) (c : Dev nD)

/-- What the running sums held before the point. -/
def prev (t : Fin cfg0.N) : S8x1024.Idx → EReal :=
  if t.val % 8 = 0 then fun _ => 0 else (outsAt0 m c (t.val - 1) (Nat.lt_of_le_of_lt (Nat.sub_le _ _) t.isLt)).2.2.2.2.2

theorem pay2_eq : k0_pay2 (F := Ideal) = zstats := by
  funext i
  obtain ⟨r, q, rfl⟩ : ∃ r q, i = ix2 r q := ⟨i 0, i 1, by funext a; fin_cases a <;> rfl⟩
  show k0_pay2 (F := Ideal) (ix2 r q) = 0
  pointwise [k0_pay2]

theorem fill {sig' : RefSig} {κ : Kind} {sp : Space} (v : View sig' κ sp S8x1024 .f32) (k : ℕ) (hk hz) :
    v.readCov (Val := Elt Ideal) [⟨Rect.unit (s := S8x1024) ![0, 0] ![8, 1024] hz, k0_pay2 (F := Ideal)⟩] (Rect.unit (s := S8x1024) ![k, 0] ![1, 1024] hk).toLoadRect
      = View.ld (e' := .f32) zstats (Rect.unit (s := S8x1024) ![k, 0] ![1, 1024] hk) := by
  rw [pay2_eq]
  exact Rows.readCov_zeros v k hk hz

/-- One of four blocks, stored over what lies under it. -/
theorem canon_four (i : ℕ) (hi) (x) (L : List (View.Piece (Elt Ideal) S4x256x704 .bf16)) (j : Fin 4) (r : Fin 256) (k : Fin 704) (G : Fin 4 → EReal)
    (hi' : i < 4) (hit : x (ix3 0 r k) = G ⟨i, hi'⟩) (miss : (j : ℕ) ≠ i → View.canon L (ix3 j r k) = G j) :
    View.canon (⟨Rect.unit (s := S4x256x704) ![i, 0, 0] ![1, 256, 704] hi, x⟩ :: L) (ix3 j r k) = G j := by
  by_cases h : (j : ℕ) = i
  · obtain rfl : j = ⟨i, hi'⟩ := Fin.ext h
    have e : (Rect.unit (s := S4x256x704) ![i, 0, 0] ![1, 256, 704] hi).emb (ix3 0 r k) = ix3 ⟨i, hi'⟩ r k := by
      funext a; apply Fin.ext; fin_cases a <;> simp
    exact (congrArg (View.canon (⟨Rect.unit (s := S4x256x704) ![i, 0, 0] ![1, 256, 704] hi, x⟩ :: L)) e.symm).trans ((View.canon_cons_emb _ _ _ _).trans hit)
  · refine (View.canon_cons_of_not_mem _ _ ?_).trans (miss h)
    rw [Rect.mem_set_unit]
    intro hm
    have := hm 0
    simp at this
    omega

/-- What the point reads: the rows `x` and the targets `tg`, the modulation, the two norms' scales and the weights. -/
structure Tile (t : Fin cfg0.N) (wi : Fin 1024 → ℕ → ℝ) (wo : ℕ → Fin 1024 → ℝ) (sh sc gt nw nf : Fin 1024 → ℝ) (x tg : Fin 256 → Fin 1024 → ℝ) : Prop where
  x : ∀ (r : Fin 256) (q : Fin 1024), iblk m c 0 t (ix2 r q) = ((x r q : ℝ) : EReal)
  tg : ∀ (r : Fin 256) (q : Fin 1024), iblk m c 1 t (ix2 r q) = ((tg r q : ℝ) : EReal)
  sh : ∀ q : Fin 1024, @HAdd.hAdd EReal EReal EReal _ (iblk m c 2 t (ix2 0 ⟨3072 + q, by omega⟩)) (iblk m c 3 t (ix2 0 ⟨3072 + q, by omega⟩)) = ((sh q : ℝ) : EReal)
  sc : ∀ q : Fin 1024, @HAdd.hAdd EReal EReal EReal _ (iblk m c 2 t (ix2 0 ⟨4096 + q, by omega⟩)) (iblk m c 3 t (ix2 0 ⟨4096 + q, by omega⟩)) = ((sc q : ℝ) : EReal)
  gt : ∀ q : Fin 1024, @HAdd.hAdd EReal EReal EReal _ (iblk m c 2 t (ix2 0 ⟨5120 + q, by omega⟩)) (iblk m c 3 t (ix2 0 ⟨5120 + q, by omega⟩)) = ((gt q : ℝ) : EReal)
  n : ∀ q : Fin 1024, iblk m c 4 t (ix2 0 q) = ((nw q : ℝ) : EReal)
  nf : ∀ q : Fin 1024, iblk m c 5 t (ix2 0 q) = ((nf q : ℝ) : EReal)
  wi : ∀ (j : Fin 8) (k : Fin 704) (q : Fin 1024), iblk m c 6 t (ix3 j k q) = ((wi q (j * 704 + k) : ℝ) : EReal)
  wo : ∀ (j : Fin 4) (k : Fin 704) (q : Fin 1024), iblk m c 7 t (ix3 j k q) = ((wo (j * 704 + k) q : ℝ) : EReal)

section
variable {m c}
variable {t : Fin cfg0.N} {wi : Fin 1024 → ℕ → ℝ} {wo : ℕ → Fin 1024 → ℝ} {sh sc gt nw nf : Fin 1024 → ℝ} {x tg : Fin 256 → Fin 1024 → ℝ}
variable (H : Tile m c t wi wo sh sc gt nw nf x tg)
include H

theorem sh_blk (i1 i2) (q : Fin 1024) :
    @HAdd.hAdd EReal EReal EReal _ (View.ld (Val := Elt Ideal) (e' := .f32) (iblk m c 2 t) (Rect.unit (s := S1x6144) ![0, 3072] ![1, 1024] i1) (ix2 0 q))
      (View.ld (Val := Elt Ideal) (e' := .f32) (iblk m c 3 t) (Rect.unit (s := S1x6144) ![0, 3072] ![1, 1024] i2) (ix2 0 q)) = ((sh q : ℝ) : EReal) := by
  refine (congrArg₂ (· + ·) ?_ ?_).trans (H.sh q)
  all_goals exact Hid.ld_at _ _ _ _ (0 : Fin 1) q 0 ⟨3072 + q, by omega⟩ (by simp) rfl

theorem sc_blk (i1 i2) (q : Fin 1024) :
    @HAdd.hAdd EReal EReal EReal _ (View.ld (Val := Elt Ideal) (e' := .f32) (iblk m c 2 t) (Rect.unit (s := S1x6144) ![0, 4096] ![1, 1024] i1) (ix2 0 q))
      (View.ld (Val := Elt Ideal) (e' := .f32) (iblk m c 3 t) (Rect.unit (s := S1x6144) ![0, 4096] ![1, 1024] i2) (ix2 0 q)) = ((sc q : ℝ) : EReal) := by
  refine (congrArg₂ (· + ·) ?_ ?_).trans (H.sc q)
  all_goals exact Hid.ld_at _ _ _ _ (0 : Fin 1) q 0 ⟨4096 + q, by omega⟩ (by simp) rfl

theorem gt_blk (i1 i2) (q : Fin 1024) :
    k0_pay3 (F := Ideal) (View.ld (Val := Elt Ideal) (e' := .f32) (iblk m c 2 t) (Rect.unit (s := S1x6144) ![0, 5120] ![1, 1024] i1))
      (View.ld (Val := Elt Ideal) (e' := .f32) (iblk m c 3 t) (Rect.unit (s := S1x6144) ![0, 5120] ![1, 1024] i2)) (ix2 0 q) = ((gt q : ℝ) : EReal) := by
  pointwise [k0_pay3]
  exact H.gt q

theorem hid_blk (i1 i2 i3 i4) (r : Fin 256) (q : Fin 1024) :
    k0_pay4 (F := Ideal) (View.ld (Val := Elt Ideal) (e' := .f32) (iblk m c 2 t) (Rect.unit (s := S1x6144) ![0, 3072] ![1, 1024] i1))
      (View.ld (Val := Elt Ideal) (e' := .f32) (iblk m c 3 t) (Rect.unit (s := S1x6144) ![0, 3072] ![1, 1024] i2))
      (View.ld (Val := Elt Ideal) (e' := .f32) (iblk m c 2 t) (Rect.unit (s := S1x6144) ![0, 4096] ![1, 1024] i3))
      (View.ld (Val := Elt Ideal) (e' := .f32) (iblk m c 3 t) (Rect.unit (s := S1x6144) ![0, 4096] ![1, 1024] i4)) (iblk m c 0 t) (iblk m c 4 t) (ix2 r q)
      = ((hid eps sh sc nw (x r) q : ℝ) : EReal) :=
  hid_at _ _ _ _ _ _ x sh sc nw H.x (sh_blk H i1 i2) (sc_blk H i3 i4) H.n r q

section
variable (A : S256x1024.Idx → EReal) (hA : ∀ r q, A (ix2 r q) = ((hid eps sh sc nw (x r) q : ℝ) : EReal))
include hA

theorem pre_blk (j : ℕ) (i1) (hj : j < 8) (r : Fin 256) (k : Fin 704) :
    k0_pay5 (F := Ideal) A (View.ld (iblk m c 6 t) (Rect.unit (s := S8x704x1024) ![j, 0, 0] ![1, 704, 1024] i1)) (ix2 r k)
      = ((pre eps wi sh sc nw (x r) (j * 704 + k) : ℝ) : EReal) :=
  dot_at A (fun r q => hid eps sh sc nw (x r) q) hA _ (fun k q => wi q (j * 704 + k)) (fun k q => (ld_win _ j i1 hj k q).trans (H.wi ⟨j, hj⟩ k q)) r k

theorem act_blk (j j' : ℕ) (i1 i2) (hj : j < 4) (h : j' = j + 4) (r : Fin 256) (k : Fin 704) :
    k0_pay31 (F := Ideal) (k0_pay5 A (View.ld (iblk m c 6 t) (Rect.unit (s := S8x704x1024) ![j, 0, 0] ![1, 704, 1024] i1)))
      (k0_pay5 A (View.ld (iblk m c 6 t) (Rect.unit (s := S8x704x1024) ![j', 0, 0] ![1, 704, 1024] i2))) (ix2 r k)
      = ((act eps wi sh sc nw (x r) (j * 704 + k) : ℝ) : EReal) := by
  subst h
  refine (act_at _ _ _ _ (pre_blk H A hA j i1 (by omega)) (pre_blk H A hA (j + 4) i2 (by omega)) r k).trans ?_
  rw [show (j + 4) * 704 + (k : ℕ) = 2816 + (j * 704 + k) by omega]
  rfl

theorem sum_blk (j j' : ℕ) (i1 i2 i3) (hj : j < 4) (h : j' = j + 4) (X : S256x1024.Idx → EReal) (y : Fin 256 → Fin 1024 → ℝ)
    (hX : ∀ r q, X (ix2 r q) = ((y r q : ℝ) : EReal)) (r : Fin 256) (q : Fin 1024) :
    k0_pay33 (F := Ideal) X (k0_pay5 A (View.ld (iblk m c 6 t) (Rect.unit (s := S8x704x1024) ![j, 0, 0] ![1, 704, 1024] i1)))
      (k0_pay5 A (View.ld (iblk m c 6 t) (Rect.unit (s := S8x704x1024) ![j', 0, 0] ![1, 704, 1024] i2)))
      (View.ld (iblk m c 7 t) (Rect.unit (s := S4x704x1024) ![j, 0, 0] ![1, 704, 1024] i3)) (ix2 r q)
      = ((y r q + ∑ k : Fin 704, act eps wi sh sc nw (x r) (j * 704 + k) * wo (j * 704 + k) q : ℝ) : EReal) := by
  subst h
  refine (sum_at X y hX _ _ _ _ (pre_blk H A hA j i1 (by omega)) (pre_blk H A hA (j + 4) i2 (by omega)) _ (fun k q => wo (j * 704 + k) q)
    (fun k q => (ld_wout _ j i3 hj k q).trans (H.wo ⟨j, hj⟩ k q)) r q).trans ?_
  refine congrArg Real.toEReal (congrArg (y r q + ·) (Finset.sum_congr rfl fun k _ => ?_))
  rw [show (j + 4) * 704 + (k : ℕ) = 2816 + (j * 704 + k) by omega]
  rfl

theorem first_blk (i1 i2 i3) (r : Fin 256) (q : Fin 1024) :
    k0_pay11 (F := Ideal) A (View.ld (iblk m c 6 t) (Rect.unit (s := S8x704x1024) ![0, 0, 0] ![1, 704, 1024] i1))
      (View.ld (iblk m c 6 t) (Rect.unit (s := S8x704x1024) ![4, 0, 0] ![1, 704, 1024] i2))
      (View.ld (iblk m c 7 t) (Rect.unit (s := S4x704x1024) ![0, 0, 0] ![1, 704, 1024] i3)) (ix2 r q)
      = ((∑ k : Fin 704, act eps wi sh sc nw (x r) (0 * 704 + k) * wo (0 * 704 + k) q : ℝ) : EReal) := by
  refine (first_at A (fun r q => hid eps sh sc nw (x r) q) hA _ (fun k q => wi q (0 * 704 + k)) (fun k q => (ld_win _ 0 i1 (by omega) k q).trans (H.wi ⟨0, by omega⟩ k q))
    _ _ (fun k q => wi q (4 * 704 + k)) (fun k q => wo (0 * 704 + k) q) (fun k q => (ld_win _ 4 i2 (by omega) k q).trans (H.wi ⟨4, by omega⟩ k q))
    (fun k q => (ld_wout _ 0 i3 (by omega) k q).trans (H.wo ⟨0, by omega⟩ k q)) r q).trans ?_
  refine congrArg Real.toEReal (Finset.sum_congr rfl fun k _ => ?_)
  rw [show 4 * 704 + (k : ℕ) = 2816 + (0 * 704 + k) by omega]
  rfl

/-- The second product's result. -/
theorem ffn_blk (a1 a2 a3 b1 b2 b3 c1 c2 c3 d1 d2 d3) (r : Fin 256) (q : Fin 1024) :
    k0_pay33 (F := Ideal)
      (k0_pay33 (F := Ideal)
        (k0_pay33 (F := Ideal)
          (k0_pay11 (F := Ideal) A (View.ld (iblk m c 6 t) (Rect.unit (s := S8x704x1024) ![0, 0, 0] ![1, 704, 1024] a1))
            (View.ld (iblk m c 6 t) (Rect.unit (s := S8x704x1024) ![4, 0, 0] ![1, 704, 1024] a2))
            (View.ld (iblk m c 7 t) (Rect.unit (s := S4x704x1024) ![0, 0, 0] ![1, 704, 1024] a3)))
          (k0_pay5 A (View.ld (iblk m c 6 t) (Rect.unit (s := S8x704x1024) ![1, 0, 0] ![1, 704, 1024] b1)))
          (k0_pay5 A (View.ld (iblk m c 6 t) (Rect.unit (s := S8x704x1024) ![5, 0, 0] ![1, 704, 1024] b2)))
          (View.ld (iblk m c 7 t) (Rect.unit (s := S4x704x1024) ![1, 0, 0] ![1, 704, 1024] b3)))
        (k0_pay5 A (View.ld (iblk m c 6 t) (Rect.unit (s := S8x704x1024) ![2, 0, 0] ![1, 704, 1024] c1)))
        (k0_pay5 A (View.ld (iblk m c 6 t) (Rect.unit (s := S8x704x1024) ![6, 0, 0] ![1, 704, 1024] c2)))
        (View.ld (iblk m c 7 t) (Rect.unit (s := S4x704x1024) ![2, 0, 0] ![1, 704, 1024] c3)))
      (k0_pay5 A (View.ld (iblk m c 6 t) (Rect.unit (s := S8x704x1024) ![3, 0, 0] ![1, 704, 1024] d1)))
      (k0_pay5 A (View.ld (iblk m c 6 t) (Rect.unit (s := S8x704x1024) ![7, 0, 0] ![1, 704, 1024] d2)))
      (View.ld (iblk m c 7 t) (Rect.unit (s := S4x704x1024) ![3, 0, 0] ![1, 704, 1024] d3)) (ix2 r q)
      = ((ffn eps wi wo sh sc nw (x r) q : ℝ) : EReal) := by
  unfold ffn
  rw [sum_four]
  exact sum_blk H A hA 3 7 d1 d2 d3 (by norm_num) rfl _ _ (sum_blk H A hA 2 6 c1 c2 c3 (by norm_num) rfl _ _ (sum_blk H A hA 1 5 b1 b2 b3 (by norm_num) rfl _ _
    (first_blk H A hA a1 a2 a3))) r q
end

set_option maxHeartbeats 4000000 in
theorem block8 (r : Fin 256) (q : Fin 1024) :
    (outsAt0 m c t.val t.isLt).1 (ix2 r q) = ((hid eps sh sc nw (x r) q : ℝ) : EReal) := by
  refine (Classical.em (t.val % 8 = 0)).elim (fun h => ?_) (fun h => ?_)
  on_goal 2 => rw [outsAt0_B m c t h]
  on_goal 1 => rw [outsAt0_A m c t h]
  all_goals
    frame_out
    exact hid_blk H _ _ _ _ r q

set_option maxHeartbeats 4000000 in
theorem block9 (j : Fin 4) (r : Fin 256) (k : Fin 704) :
    (outsAt0 m c t.val t.isLt).2.1 (ix3 j r k) = ((act eps wi sh sc nw (x r) (j * 704 + k) : ℝ) : EReal) := by
  refine (Classical.em (t.val % 8 = 0)).elim (fun h => ?_) (fun h => ?_)
  on_goal 2 => rw [outsAt0_B m c t h]
  on_goal 1 => rw [outsAt0_A m c t h]
  all_goals
    frame_out
    simp only [pay6_eq, pay12_eq, pay13_eq, pay19_eq, pay20_eq, pay27_eq, pay28_eq]
    iterate 4
      refine canon_four _ _ _ _ j r k (fun j => ((act eps wi sh sc nw (x r) (j * 704 + k) : ℝ) : EReal)) (of_decide_eq_true rfl) ?_ fun hk => ?_
      rotate_left
    · omega
    · pointwise [k0_pay32]; exact act_blk H _ (hid_blk H _ _ _ _) 3 7 _ _ (by norm_num) rfl r k
    · pointwise [k0_pay25]; rw [pay24_eq]; exact act_blk H _ (hid_blk H _ _ _ _) 2 6 _ _ (by norm_num) rfl r k
    · pointwise [k0_pay17]; rw [pay16_eq]; exact act_blk H _ (hid_blk H _ _ _ _) 1 5 _ _ (by norm_num) rfl r k
    · pointwise [k0_pay10]; rw [pay9_eq]; refine (act_blk H _ (hid_blk H _ _ _ _) 0 4 _ _ (by norm_num) rfl r k).trans ?_; rw [zero_mul, zero_add]

set_option maxHeartbeats 4000000 in
theorem block10 (j : Fin 8) (r : Fin 256) (k : Fin 704) :
    (outsAt0 m c t.val t.isLt).2.2.1 (ix3 j r k) = ((pre eps wi sh sc nw (x r) (j * 704 + k) : ℝ) : EReal) := by
  refine (Classical.em (t.val % 8 = 0)).elim (fun h => ?_) (fun h => ?_)
  on_goal 2 => rw [outsAt0_B m c t h]
  on_goal 1 => rw [outsAt0_A m c t h]
  all_goals
    frame_out
    simp only [pay6_eq, pay12_eq, pay13_eq, pay19_eq, pay20_eq, pay27_eq, pay28_eq]
    iterate 8
      refine canon_block _ _ _ _ j r k (fun j => ((pre eps wi sh sc nw (x r) (j * 704 + k) : ℝ) : EReal)) (of_decide_eq_true rfl) ?_ fun hk => ?_
      rotate_left
    · omega
    · pointwise [k0_pay30]; exact pre_blk H _ (hid_blk H _ _ _ _) 7 _ (by norm_num) r k
    · pointwise [k0_pay29]; exact pre_blk H _ (hid_blk H _ _ _ _) 3 _ (by norm_num) r k
    · pointwise [k0_pay23]; exact pre_blk H _ (hid_blk H _ _ _ _) 6 _ (by norm_num) r k
    · pointwise [k0_pay22, k0_pay21]; exact pre_blk H _ (hid_blk H _ _ _ _) 2 _ (by norm_num) r k
    · pointwise [k0_pay15]; exact pre_blk H _ (hid_blk H _ _ _ _) 5 _ (by norm_num) r k
    · pointwise [k0_pay14]; exact pre_blk H _ (hid_blk H _ _ _ _) 1 _ (by norm_num) r k
    · pointwise [k0_pay8]; exact pre_blk H _ (hid_blk H _ _ _ _) 4 _ (by norm_num) r k
    · pointwise [k0_pay7]; refine (pre_blk H _ (hid_blk H _ _ _ _) 0 _ (by norm_num) r k).trans ?_; rw [zero_mul, zero_add]

set_option maxHeartbeats 4000000 in
theorem block11 (r : Fin 256) (q : Fin 1024) :
    (outsAt0 m c t.val t.isLt).2.2.2.1 (ix2 r q) = ((dres eps wi wo sh sc gt nw nf (x r) (tg r) q : ℝ) : EReal) := by
  refine (Classical.em (t.val % 8 = 0)).elim (fun h => ?_) (fun h => ?_)
  on_goal 2 => rw [outsAt0_B m c t h]
  on_goal 1 => rw [outsAt0_A m c t h]
  all_goals
    frame_out
    simp only [pay6_eq, pay12_eq, pay13_eq, pay19_eq, pay20_eq, pay27_eq, pay28_eq, pay26_eq, pay18_eq]
    have hf : ∀ a1 a2 a3 b1 b2 b3 c1 c2 c3 d1 d2 d3 r q, _ := ffn_blk H _ (hid_blk H inb_S1x6144_S1x1024_0_3072 inb_S1x6144_S1x1024_0_3072 inb_S1x6144_S1x1024_0_4096 inb_S1x6144_S1x1024_0_4096)
    exact dres_at _ _ _ _ (fun r => res eps wi wo sh sc gt nw (x r)) (fun r => dy eps wi wo sh sc gt nw nf (x r) (tg r)) nf
      (rr_at _ _ _ _ _ _ gt x (fun r => ffn eps wi wo sh sc nw (x r)) (gt_blk H _ _) H.x (hf _ _ _ _ _ _ _ _ _ _ _ _))
      (xr_at _ _ _ _ _ _ gt x (fun r => ffn eps wi wo sh sc nw (x r)) (gt_blk H _ _) H.x (hf _ _ _ _ _ _ _ _ _ _ _ _))
      (dy_at _ _ _ _ _ _ gt x (fun r => ffn eps wi wo sh sc nw (x r)) (gt_blk H _ _) H.x (hf _ _ _ _ _ _ _ _ _ _ _ _) _ _ nf tg H.nf H.tg) H.nf r q

set_option maxHeartbeats 4000000 in
theorem block12 (r : Fin 256) (q : Fin 1024) :
    (outsAt0 m c t.val t.isLt).2.2.2.2.1 (ix2 r q) = ((gt q * dres eps wi wo sh sc gt nw nf (x r) (tg r) q : ℝ) : EReal) := by
  refine (Classical.em (t.val % 8 = 0)).elim (fun h => ?_) (fun h => ?_)
  on_goal 2 => rw [outsAt0_B m c t h]
  on_goal 1 => rw [outsAt0_A m c t h]
  all_goals
    frame_out
    simp only [pay6_eq, pay12_eq, pay13_eq, pay19_eq, pay20_eq, pay27_eq, pay28_eq, pay26_eq, pay18_eq]
    have hf : ∀ a1 a2 a3 b1 b2 b3 c1 c2 c3 d1 d2 d3 r q, _ := ffn_blk H _ (hid_blk H inb_S1x6144_S1x1024_0_3072 inb_S1x6144_S1x1024_0_3072 inb_S1x6144_S1x1024_0_4096 inb_S1x6144_S1x1024_0_4096)
    pointwise [k0_pay1]
    exact gate_at _ _ _ _ (fun r => res eps wi wo sh sc gt nw (x r)) (fun r => dy eps wi wo sh sc gt nw nf (x r) (tg r)) nf
      (rr_at _ _ _ _ _ _ gt x (fun r => ffn eps wi wo sh sc nw (x r)) (gt_blk H _ _) H.x (hf _ _ _ _ _ _ _ _ _ _ _ _))
      (xr_at _ _ _ _ _ _ gt x (fun r => ffn eps wi wo sh sc nw (x r)) (gt_blk H _ _) H.x (hf _ _ _ _ _ _ _ _ _ _ _ _))
      (dy_at _ _ _ _ _ _ gt x (fun r => ffn eps wi wo sh sc nw (x r)) (gt_blk H _ _) H.x (hf _ _ _ _ _ _ _ _ _ _ _ _) _ _ nf tg H.nf H.tg) H.nf _ gt (gt_blk H _ _) r q

set_option maxHeartbeats 4000000 in
/-- What the point leaves in the running sums. -/
theorem block13 (s : ℕ → Fin 1024 → ℝ) (hS : ∀ (k : Fin 8) (q : Fin 1024), prev m c t (ix2 k q) = ((s k q : ℝ) : EReal)) (k : Fin 8) (q : Fin 1024) :
    (outsAt0 m c t.val t.isLt).2.2.2.2.2 (ix2 k q) = ((s k q + ∑ r, share eps wi wo sh sc gt nw nf (x r) (tg r) k q : ℝ) : EReal) := by
  have hf : ∀ a1 a2 a3 b1 b2 b3 c1 c2 c3 d1 d2 d3 r q, _ := ffn_blk H _ (hid_blk H inb_S1x6144_S1x1024_0_3072 inb_S1x6144_S1x1024_0_3072 inb_S1x6144_S1x1024_0_4096 inb_S1x6144_S1x1024_0_4096)
  refine (Classical.em (t.val % 8 = 0)).elim (fun h => ?_) (fun h => ?_)
  on_goal 2 =>
    have hp : (outsAt0 m c (t.val - 1) (Nat.lt_of_le_of_lt (Nat.sub_le _ _) t.isLt)).2.2.2.2.2 = prev m c t := (if_neg h).symm
    rw [outsAt0_B m c t h]
    frame_out
    simp only [pay6_eq, pay12_eq, pay13_eq, pay19_eq, pay20_eq, pay27_eq, pay28_eq, pay26_eq, pay18_eq, hp]
    iterate 3
      refine row_peel _ _ _ _ _ _ k q (fun k => ((s k q + ∑ r, share eps wi wo sh sc gt nw nf (x r) (tg r) k q : ℝ) : EReal)) (of_decide_eq_true rfl) ?_ fun hk => ?_
      rotate_left
    · rw [View.writes_nil, Memref.IsWhole.read_unread, hS]
      simp [share, *]
  on_goal 1 =>
    have hp : zstats = prev m c t := (if_pos h).symm
    have hs0 : (0 : EReal) = ((s k q : ℝ) : EReal) := (congrFun hp (ix2 k q)).trans (hS k q)
    rw [outsAt0_A m c t h]
    frame_out [↓ readCov_row_skip, ↓ fill]
    simp only [pay6_eq, pay12_eq, pay13_eq, pay19_eq, pay20_eq, pay27_eq, pay28_eq, pay26_eq, pay18_eq, hp]
    iterate 3
      refine canon_row _ _ _ _ k q (fun k => ((s k q + ∑ r, share eps wi wo sh sc gt nw nf (x r) (tg r) k q : ℝ) : EReal)) (of_decide_eq_true rfl) ?_ fun hk => ?_
      rotate_left
    · rw [pay2_eq]
      refine (canon_zeros _ _).trans (hs0.trans ?_)
      simp [share, *]
  all_goals
    first
      | refine (row5_at _ (s 5) (fun q => (ld_stat _ 5 _ (by norm_num) q).trans (hS _ q)) _ _
          (loss_at _ _ _ _ _ _ gt x (fun r => ffn eps wi wo sh sc nw (x r)) (gt_blk H _ _) H.x (hf _ _ _ _ _ _ _ _ _ _ _ _) _ _ nf tg H.nf H.tg) q).trans ?_
      | refine (row1_at _ _ _ _ _ _ (fun r => res eps wi wo sh sc gt nw (x r)) (fun r => dy eps wi wo sh sc gt nw nf (x r) (tg r)) (fun r => ffn eps wi wo sh sc nw (x r)) nf (s 1)
          (rr_at _ _ _ _ _ _ gt x (fun r => ffn eps wi wo sh sc nw (x r)) (gt_blk H _ _) H.x (hf _ _ _ _ _ _ _ _ _ _ _ _))
          (xr_at _ _ _ _ _ _ gt x (fun r => ffn eps wi wo sh sc nw (x r)) (gt_blk H _ _) H.x (hf _ _ _ _ _ _ _ _ _ _ _ _))
          (dy_at _ _ _ _ _ _ gt x (fun r => ffn eps wi wo sh sc nw (x r)) (gt_blk H _ _) H.x (hf _ _ _ _ _ _ _ _ _ _ _ _) _ _ nf tg H.nf H.tg) H.nf
          (fun q => (ld_stat _ 1 _ (by norm_num) q).trans (hS _ q)) (hf _ _ _ _ _ _ _ _ _ _ _ _) q).trans ?_
      | refine (row0_at _ _ _ (fun r => res eps wi wo sh sc gt nw (x r)) (fun r => dy eps wi wo sh sc gt nw nf (x r) (tg r)) (s 0)
          (xr_at _ _ _ _ _ _ gt x (fun r => ffn eps wi wo sh sc nw (x r)) (gt_blk H _ _) H.x (hf _ _ _ _ _ _ _ _ _ _ _ _))
          (dy_at _ _ _ _ _ _ gt x (fun r => ffn eps wi wo sh sc nw (x r)) (gt_blk H _ _) H.x (hf _ _ _ _ _ _ _ _ _ _ _ _) _ _ nf tg H.nf H.tg)
          (fun q => (ld_stat _ 0 _ (by norm_num) q).trans (hS _ q)) q).trans ?_
    rfl
end

end Cert.FfnFwd

end
-- ==== Proof.GFinal.lean ====
/- The feed-forward kernel's result arrays, over the reals: the blocks that the points read, and the six results. -/
module
public import proofs.«01_k».proof.Proof.GPoint
public import proofs.«01_k».proof.Proof.FBlocks

@[expose] public section

set_option maxRecDepth 16384

noncomputable section
namespace Cert.FfnFwd
open Idealize.ShloMosaic Idealize.ShloMosaic.TcCoe Idealize.SL.Sem
open Cert.Kernel7Ideal Cert.Kernel7Ideal.Gen
open Cert.Conf (sg eps)
open Cert.Ffn (pre hid part)

theorem idx : ∀ t : Fin cfg0.N, (win0_0.index t = ![t.val, 0] ∧ win0_1.index t = ![t.val, 0] ∧ win0_2.index t = ![0, 0] ∧ win0_3.index t = ![0, 0])
    ∧ (win0_4.index t = ![0, 0] ∧ win0_5.index t = ![0, 0] ∧ win0_6.index t = ![0, 0, 0] ∧ win0_7.index t = ![0, 0, 0])
    ∧ (win0_8.index t = ![t.val, 0] ∧ win0_9.index t = ![0, t.val, 0] ∧ win0_10.index t = ![0, t.val, 0] ∧ win0_11.index t = ![t.val, 0])
    ∧ (win0_12.index t = ![t.val, 0] ∧ win0_13.index t = ![0, 0]) ∧ t.val < 8 :=
  (by decide +kernel : ∀ t : Fin grid0.N, _)

/-- The arguments are the reals `x tg mo ba nw nf wi wo`. -/
structure Reals (m : (ℓ : Loc nD τ sig) → Buf (Elt Ideal) ℓ) (c : Dev nD) (x tg : ℕ → Fin 1024 → ℝ) (mo ba : ℕ → ℝ) (nw nf : Fin 1024 → ℝ)
    (wi : Fin 1024 → ℕ → ℝ) (wo : ℕ → Fin 1024 → ℝ) : Prop where
  x : ∀ (n : Fin 2048) (q : Fin 1024), m ((c : Thread nD τ).loc main_arg0) (ix2 n q) = ((x n q : ℝ) : EReal)
  tg : ∀ (n : Fin 2048) (q : Fin 1024), m ((c : Thread nD τ).loc main_arg1) (ix2 n q) = ((tg n q : ℝ) : EReal)
  mo : ∀ i : Fin 6144, m ((c : Thread nD τ).loc main_arg2) (ix2 0 i) = ((mo i : ℝ) : EReal)
  ba : ∀ i : Fin 6144, m ((c : Thread nD τ).loc main_arg3) (ix2 0 i) = ((ba i : ℝ) : EReal)
  nw : ∀ q : Fin 1024, m ((c : Thread nD τ).loc main_arg4) (ix2 0 q) = ((nw q : ℝ) : EReal)
  nf : ∀ q : Fin 1024, m ((c : Thread nD τ).loc main_arg5) (ix2 0 q) = ((nf q : ℝ) : EReal)
  wi : ∀ (q : Fin 1024) (i : Fin 5632), m ((c : Thread nD τ).loc main_arg6) (ix2 q i) = ((wi q i : ℝ) : EReal)
  wo : ∀ (i : Fin 2816) (q : Fin 1024), m ((c : Thread nD τ).loc main_arg7) (ix2 i q) = ((wo i q : ℝ) : EReal)

section
variable (wi : Fin 1024 → ℕ → ℝ) (wo : ℕ → Fin 1024 → ℝ) (mo ba : ℕ → ℝ) (nw nf : Fin 1024 → ℝ) (x tg : ℕ → Fin 1024 → ℝ)

/-- The first product's input, in row `n`. -/
def hR (n : ℕ) : Fin 1024 → ℝ := hid eps (part mo ba 3) (part mo ba 4) nw (x n)
/-- Its result. -/
def preR (n : ℕ) : ℕ → ℝ := pre eps wi (part mo ba 3) (part mo ba 4) nw (x n)
/-- The second product's input. -/
def actR (n : ℕ) : ℕ → ℝ := act eps wi (part mo ba 3) (part mo ba 4) nw (x n)
/-- The loss' gradient at the residual. -/
def dR (n : ℕ) : Fin 1024 → ℝ := dres eps wi wo (part mo ba 3) (part mo ba 4) (part mo ba 5) nw nf (x n) (tg n)
/-- The share of row `n` in the sums. -/
def shR (n : ℕ) : ℕ → Fin 1024 → ℝ := share eps wi wo (part mo ba 3) (part mo ba 4) (part mo ba 5) nw nf (x n) (tg n)
/-- The sums over the rows. -/
def stR (k : ℕ) (q : Fin 1024) : ℝ := ∑ n ∈ Finset.range 2048, shR wi wo mo ba nw nf x tg n k q
end

variable {m : (ℓ : Loc nD τ sig) → Buf (Elt Ideal) ℓ} {c : Dev nD} {x tg : ℕ → Fin 1024 → ℝ} {mo ba : ℕ → ℝ} {nw nf : Fin 1024 → ℝ}
variable {wi : Fin 1024 → ℕ → ℝ} {wo : ℕ → Fin 1024 → ℝ}
variable (H : Reals m c x tg mo ba nw nf wi wo)
include H

section
variable (t : Fin cfg0.N)

theorem blk0 (r : Fin 256) (q : Fin 1024) : iblk m c 0 t (ix2 r q) = ((x (t * 256 + r) q : ℝ) : EReal) := by
  have ht := (idx t).2.2.2.2
  refine Eq.trans ?_ (H.x ⟨t * 256 + r, by omega⟩ q)
  blk_ext [iblk, V, idx t]

theorem blk1 (r : Fin 256) (q : Fin 1024) : iblk m c 1 t (ix2 r q) = ((tg (t * 256 + r) q : ℝ) : EReal) := by
  have ht := (idx t).2.2.2.2
  refine Eq.trans ?_ (H.tg ⟨t * 256 + r, by omega⟩ q)
  blk_ext [iblk, V, idx t]

theorem blk2 (i : Fin 6144) : iblk m c 2 t (ix2 0 i) = ((mo i : ℝ) : EReal) := by
  refine Eq.trans ?_ (H.mo i)
  blk_ext [iblk, V, idx t]

theorem blk3 (i : Fin 6144) : iblk m c 3 t (ix2 0 i) = ((ba i : ℝ) : EReal) := by
  refine Eq.trans ?_ (H.ba i)
  blk_ext [iblk, V, idx t]

theorem blk4 (q : Fin 1024) : iblk m c 4 t (ix2 0 q) = ((nw q : ℝ) : EReal) := by
  refine Eq.trans ?_ (H.nw q)
  blk_ext [iblk, V, idx t]

theorem blk5 (q : Fin 1024) : iblk m c 5 t (ix2 0 q) = ((nf q : ℝ) : EReal) := by
  refine Eq.trans ?_ (H.nf q)
  blk_ext [iblk, V, idx t]

theorem blk6 (j : Fin 8) (k : Fin 704) (q : Fin 1024) : iblk m c 6 t (ix3 j k q) = ((wi q (j * 704 + k) : ℝ) : EReal) := by
  have e : (win0_6.blk t).view.emb (ix3 j k q) = ix3 j k q := by blk_ext [idx t]
  blk_simp [iblk, idx t]
  rw [e]
  entry_read
  pointwise []
  exact H.wi q ⟨j * 704 + k, by omega⟩

theorem blk7 (j : Fin 4) (k : Fin 704) (q : Fin 1024) : iblk m c 7 t (ix3 j k q) = ((wo (j * 704 + k) q : ℝ) : EReal) := by
  have e : (win0_7.blk t).view.emb (ix3 j k q) = ix3 j k q := by blk_ext [idx t]
  blk_simp [iblk, idx t]
  rw [e]
  entry_read
  pointwise []
  exact H.wo ⟨j * 704 + k, by omega⟩ q

theorem tile : Tile m c t wi wo (part mo ba 3) (part mo ba 4) (part mo ba 5) nw nf (fun r => x (t * 256 + r)) (fun r => tg (t * 256 + r)) where
  x := blk0 H t
  tg := blk1 H t
  sh := fun q => by
    rw [blk2 H t, blk3 H t, ← EReal.coe_add]
    rfl
  sc := fun q => by
    rw [blk2 H t, blk3 H t, ← EReal.coe_add]
    rfl
  gt := fun q => by
    rw [blk2 H t, blk3 H t, ← EReal.coe_add]
    rfl
  n := blk4 H t
  nf := blk5 H t
  wi := blk6 H t
  wo := blk7 H t
end

/-- The sums after a point: the shares of its tile and of those before it. -/
theorem stats_upto (n : ℕ) (hn : n < cfg0.N) (k : Fin 8) (q : Fin 1024) :
    (outsAt0 m c n hn).2.2.2.2.2 (ix2 k q) = ((∑ t ∈ Finset.range (n + 1), ∑ r : Fin 256, shR wi wo mo ba nw nf x tg (t * 256 + r) k q : ℝ) : EReal) := by
  induction n generalizing k q with
  | zero =>
    refine (block13 (tile H ⟨0, hn⟩) (fun _ _ => 0) (fun k q => ?_) k q).trans ?_
    · exact congrFun (if_pos rfl) _
    · rw [Finset.sum_range_one, zero_add]
      rfl
  | succ n ih =>
    have ht := (idx ⟨n + 1, hn⟩).2.2.2.2
    have ht' : n + 1 < 8 := ht
    refine (block13 (tile H ⟨n + 1, hn⟩) (fun k q => ∑ t ∈ Finset.range (n + 1), ∑ r : Fin 256, shR wi wo mo ba nw nf x tg (t * 256 + r) k q) (fun k q => ?_) k q).trans ?_
    · refine Eq.trans ?_ (ih (Nat.lt_of_succ_lt hn) k q)
      exact congrFun (if_neg (by show ¬ (n + 1) % 8 = 0; omega)) _
    · rw [Finset.sum_range_succ _ (n + 1)]
      rfl

theorem result8 : (dats m 0 c).arrAt 8 cfg0.N = fun i => ((hR mo ba nw x (i 0) (i 1) : ℝ) : EReal) := by
  refine (dats m 0 c).arrAt_eq_of_covers 8 _ (by decide +kernel) fun t hf y => ?_
  blk_simp
  rw [after0_8, (idx t).2.2.1.1]
  obtain ⟨r, q, rfl⟩ : ∃ (r : Fin 256) (q : Fin 1024), y = ix2 r q := ⟨y 0, y 1, by funext a; fin_cases a <;> rfl⟩
  have ht := (idx t).2.2.2.2
  have e : (win0_8.blk t).view.emb (ix2 r q) = ix2 (⟨t * 256 + r, by omega⟩ : Fin 2048) q := by blk_ext [idx t]
  have e1 : (win0_8.blk t).view.emb (ix2 r q) 1 = q := congrFun e 1
  rw [e1]
  exact block8 (tile H t) r q

theorem result9 : (dats m 0 c).arrAt 9 cfg0.N = fun i => ((actR wi mo ba nw x (i 1) ((i 0 : ℕ) * 704 + (i 2 : ℕ)) : ℝ) : EReal) := by
  refine (dats m 0 c).arrAt_eq_of_covers 9 _ (by decide +kernel) fun t hf y => ?_
  blk_simp
  rw [after0_9, (idx t).2.2.1.2.1]
  obtain ⟨j, r, k, rfl⟩ : ∃ (j : Fin 4) (r : Fin 256) (k : Fin 704), y = ix3 j r k := ⟨y 0, y 1, y 2, by funext a; fin_cases a <;> rfl⟩
  show (outsAt0 m c t.val t.isLt).2.1 (ix3 j r k) = ((actR wi mo ba nw x (t.val * 256 + r) ((0 * 4 + j) * 704 + (0 * 704 + k)) : ℝ) : EReal)
  rw [zero_mul, zero_mul, zero_add, zero_add]
  exact block9 (tile H t) j r k

theorem result10 : (dats m 0 c).arrAt 10 cfg0.N = fun i => ((preR wi mo ba nw x (i 1) ((i 0 : ℕ) * 704 + (i 2 : ℕ)) : ℝ) : EReal) := by
  refine (dats m 0 c).arrAt_eq_of_covers 10 _ (by decide +kernel) fun t hf y => ?_
  blk_simp
  rw [after0_10, (idx t).2.2.1.2.2.1]
  obtain ⟨j, r, k, rfl⟩ : ∃ (j : Fin 8) (r : Fin 256) (k : Fin 704), y = ix3 j r k := ⟨y 0, y 1, y 2, by funext a; fin_cases a <;> rfl⟩
  show (outsAt0 m c t.val t.isLt).2.2.1 (ix3 j r k) = ((preR wi mo ba nw x (t.val * 256 + r) ((0 * 8 + j) * 704 + (0 * 704 + k)) : ℝ) : EReal)
  rw [zero_mul, zero_mul, zero_add, zero_add]
  exact block10 (tile H t) j r k

theorem result11 : (dats m 0 c).arrAt 11 cfg0.N = fun i => ((dR wi wo mo ba nw nf x tg (i 0) (i 1) : ℝ) : EReal) := by
  refine (dats m 0 c).arrAt_eq_of_covers 11 _ (by decide +kernel) fun t hf y => ?_
  blk_simp
  rw [after0_11, (idx t).2.2.1.2.2.2]
  obtain ⟨r, q, rfl⟩ : ∃ (r : Fin 256) (q : Fin 1024), y = ix2 r q := ⟨y 0, y 1, by funext a; fin_cases a <;> rfl⟩
  have ht := (idx t).2.2.2.2
  have e : (win0_11.blk t).view.emb (ix2 r q) = ix2 (⟨t * 256 + r, by omega⟩ : Fin 2048) q := by blk_ext [idx t]
  have e1 : (win0_11.blk t).view.emb (ix2 r q) 1 = q := congrFun e 1
  rw [e1]
  exact block11 (tile H t) r q

theorem result12 : (dats m 0 c).arrAt 12 cfg0.N = fun i => ((part mo ba 5 (i 1) * dR wi wo mo ba nw nf x tg (i 0) (i 1) : ℝ) : EReal) := by
  refine (dats m 0 c).arrAt_eq_of_covers 12 _ (by decide +kernel) fun t hf y => ?_
  blk_simp
  rw [after0_12, (idx t).2.2.2.1.1]
  obtain ⟨r, q, rfl⟩ : ∃ (r : Fin 256) (q : Fin 1024), y = ix2 r q := ⟨y 0, y 1, by funext a; fin_cases a <;> rfl⟩
  have ht := (idx t).2.2.2.2
  have e : (win0_12.blk t).view.emb (ix2 r q) = ix2 (⟨t * 256 + r, by omega⟩ : Fin 2048) q := by blk_ext [idx t]
  have e1 : (win0_12.blk t).view.emb (ix2 r q) 1 = q := congrFun e 1
  rw [e1]
  exact block12 (tile H t) r q

theorem result13 : (dats m 0 c).arrAt 13 cfg0.N = fun i => ((stR wi wo mo ba nw nf x tg (i 0) (i 1) : ℝ) : EReal) := by
  refine (dats m 0 c).arrAt_eq_of_after_last 13 t0_7 (by decide +kernel) _ fun j => ?_
  blk_simp
  rw [after0_13]
  obtain ⟨k, q, rfl⟩ : ∃ (k : Fin 8) (q : Fin 1024), j = ix2 k q := ⟨j 0, j 1, by funext a; fin_cases a <;> rfl⟩
  refine (stats_upto H t0_7.val t0_7.isLt k q).trans ?_
  refine congrArg Real.toEReal ?_
  have h : ∀ n : ℕ, ∑ t ∈ Finset.range n, ∑ r : Fin 256, shR wi wo mo ba nw nf x tg (t * 256 + r) k q = ∑ i ∈ Finset.range (n * 256), shR wi wo mo ba nw nf x tg i k q := by
    intro n
    induction n with
    | zero => simp
    | succ n ih => rw [Finset.sum_range_succ, ih, add_mul, one_mul, Finset.sum_range_add, Finset.sum_range (fun r => shR wi wo mo ba nw nf x tg (n * 256 + r) k q)]
  exact h 8

end Cert.FfnFwd

end
-- ==== Proof.GRef.lean ====
/- The plain feed-forward sub-layer, the loss and their gradients, stage by stage, at real arguments. -/
module
public import proofs.«01_k».proof.Proof.GFinal
public import proofs.«01_k».proof.Proof.FRef
public import proofs.«01_k».proof.Proof.Gen.Reference7Ideal.Run

@[expose] public section

set_option maxRecDepth 16384

noncomputable section
namespace Cert.FfnFwd.Plain
open Idealize.ShloMosaic Idealize.ShloMosaic.TcCoe Idealize.SL.Sem
open Cert.Reference7Ideal Cert.Reference7Ideal.Gen Cert.Reference7Ideal.Value
open Cert.Conf (sg eps eps_coe eps_pos coe_sum rsqrt_pos sig_div)
open Cert.Ffn (ms rr xr ms_pos dnorm dnorm_eq hid pre part d1024_coe div1024)
open Cert.Ffn.Plain (cneg)

/-- The arguments are the reals `x tg mo ba nw nf wi wo`. -/
structure Args (v : Valuation τ sig (Elt Ideal)) (x tg : ℕ → Fin 1024 → ℝ) (mo ba : ℕ → ℝ) (nw nf : Fin 1024 → ℝ) (wi : Fin 1024 → ℕ → ℝ) (wo : ℕ → Fin 1024 → ℝ) : Prop where
  x : ∀ (n : Fin 2048) (q : Fin 1024), v (Proc.devRef .tc main_arg0) (ix2 n q) = ((x n q : ℝ) : EReal)
  tg : ∀ (n : Fin 2048) (q : Fin 1024), v (Proc.devRef .tc main_arg1) (ix2 n q) = ((tg n q : ℝ) : EReal)
  mo : ∀ i : Fin 6144, v (Proc.devRef .tc main_arg2) (ix2 0 i) = ((mo i : ℝ) : EReal)
  ba : ∀ i : Fin 6144, v (Proc.devRef .tc main_arg3) (ix2 0 i) = ((ba i : ℝ) : EReal)
  nw : ∀ q : Fin 1024, v (Proc.devRef .tc main_arg4) (ix2 0 q) = ((nw q : ℝ) : EReal)
  nf : ∀ q : Fin 1024, v (Proc.devRef .tc main_arg5) (ix2 0 q) = ((nf q : ℝ) : EReal)
  wi : ∀ (q : Fin 1024) (i : Fin 5632), v (Proc.devRef .tc main_arg6) (ix2 q i) = ((wi q i : ℝ) : EReal)
  wo : ∀ (i : Fin 2816) (q : Fin 1024), v (Proc.devRef .tc main_arg7) (ix2 i q) = ((wo i q : ℝ) : EReal)

theorem ctwo : (Ideal.ofBits .f32 0x40000000#32 : EReal) = ((2 : ℝ) : EReal) := by
  simp [Ideal.ofBits, Ideal.ieee, -EReal.coe_mul]; norm_num

theorem chalf : (Ideal.ofBits .f32 0x3F000000#32 : EReal) = ((1 / 2 : ℝ) : EReal) := by
  simp [Ideal.ofBits, Ideal.ieee, -EReal.coe_mul]; norm_num

variable {v : Valuation τ sig (Elt Ideal)} {wi : Fin 1024 → ℕ → ℝ} {wo : ℕ → Fin 1024 → ℝ} {mo ba : ℕ → ℝ} {nw nf : Fin 1024 → ℝ} {x tg : ℕ → Fin 1024 → ℝ}

section
variable (wi wo mo ba nw nf x tg)
/-- The residual, in row `n`. -/
def rsR (n : ℕ) : Fin 1024 → ℝ := res eps wi wo (part mo ba 3) (part mo ba 4) (part mo ba 5) nw (x n)
/-- The second product's result. -/
def ffR (n : ℕ) : Fin 1024 → ℝ := ffn eps wi wo (part mo ba 3) (part mo ba 4) nw (x n)
/-- The error. -/
def erR (n : ℕ) : Fin 1024 → ℝ := err eps wi wo (part mo ba 3) (part mo ba 4) (part mo ba 5) nw nf (x n) (tg n)
/-- The loss' gradient at the output. -/
def dyR (n : ℕ) : Fin 1024 → ℝ := dy eps wi wo (part mo ba 3) (part mo ba 4) (part mo ba 5) nw nf (x n) (tg n)
end

variable (H : Args v x tg mo ba nw nf wi wo)
include H

theorem v0_at (i : Fin 6144) : res_main_v0 v (ix2 0 i) = ((mo i + ba i : ℝ) : EReal) := by
  pointwise [res_main_v0]
  rw [H.mo, H.ba, EReal.coe_add]

theorem v6_at (q : Fin 1024) : res_main_v6 v (ix2 0 q) = ((part mo ba 5 q : ℝ) : EReal) := by
  pointwise [res_main_v6]
  rw [v0_at H, part]

theorem rs_sq (n : Fin 2048) : (Ideal.rsqrt (((ms eps (x n) : ℝ) : EReal)) : EReal) = ((rr eps (x n) : ℝ) : EReal) :=
  rsqrt_pos (ms_pos eps _ eps_pos)

theorem v24_at (n : Fin 2048) (q : Fin 1024) : res_main_v24 v (ix2 n q) = ((hR mo ba nw x n q : ℝ) : EReal) := by
  pointwise [res_main_v24]
  simp only [H.x, ← EReal.coe_mul, coe_sum, d1024_coe, div1024, eps_coe, ← EReal.coe_add]
  rw [show (∑ q, x n q * x n q) / 1024 + eps = ms eps (x n) from rfl, rs_sq H, v0_at H, v0_at H, H.nw, ← EReal.coe_one]
  simp only [← EReal.coe_mul, ← EReal.coe_add]
  rfl

theorem v25_at (n : Fin 2048) (i : Fin 5632) : res_main_v25 v (ix2 n i) = ((preR wi mo ba nw x n i : ℝ) : EReal) := by
  pointwise [res_main_v25]
  simp only [v24_at H, H.wi, ← EReal.coe_mul, coe_sum]
  rfl

theorem v26_at (n : Fin 2048) (i : Fin 2816) : res_main_v26 v (ix2 n i) = ((preR wi mo ba nw x n i : ℝ) : EReal) := by
  pointwise [res_main_v26]
  rw [v25_at H]

theorem v29_at (n : Fin 2048) (i : Fin 2816) : res_main_v29 v (ix2 n i) = ((actR wi mo ba nw x n i : ℝ) : EReal) := by
  pointwise [res_main_v29]
  rw [v26_at H, v25_at H, sig_div, ← EReal.coe_mul, ← EReal.coe_mul]
  rfl

theorem v30_at (n : Fin 2048) (q : Fin 1024) : res_main_v30 v (ix2 n q) = ((ffR wi wo mo ba nw x n q : ℝ) : EReal) := by
  pointwise [res_main_v30]
  simp only [v29_at H, H.wo, ← EReal.coe_mul, coe_sum]
  rw [ffR, ffn, Finset.sum_range]
  rfl

theorem v33_at (n : Fin 2048) (q : Fin 1024) : res_main_v33 v (ix2 n q) = ((rsR wi wo mo ba nw x n q : ℝ) : EReal) := by
  pointwise [res_main_v33]
  rw [v6_at H, v30_at H, H.x, ← EReal.coe_mul, ← EReal.coe_add]
  rfl

theorem v40_at (n : Fin 2048) : res_main_v40 v (ix2 n 0) = ((ms eps (rsR wi wo mo ba nw x n) : ℝ) : EReal) := by
  pointwise [res_main_v40]
  simp only [v33_at H, ← EReal.coe_mul, coe_sum, d1024_coe, div1024, eps_coe, ← EReal.coe_add]
  rfl

theorem v41_at (n : Fin 2048) : res_main_v41 v (ix2 n 0) = ((rr eps (rsR wi wo mo ba nw x n) : ℝ) : EReal) := by
  pointwise [res_main_v41]
  rw [v40_at H]
  exact rsqrt_pos (ms_pos eps _ eps_pos)

theorem v46_at (n : Fin 2048) (q : Fin 1024) : res_main_v46 v (ix2 n q) = ((xr eps (rsR wi wo mo ba nw x n) q : ℝ) : EReal) := by
  pointwise [res_main_v46]
  rw [v33_at H, v41_at H, ← EReal.coe_mul, xr]

theorem v49_at (n : Fin 2048) (q : Fin 1024) : res_main_v49 v (ix2 n q) = ((erR wi wo mo ba nw nf x tg n q : ℝ) : EReal) := by
  pointwise [res_main_v49]
  rw [v46_at H, H.nf, H.tg, ← EReal.coe_mul, ← EReal.coe_sub]
  rfl

theorem v63_at (n : Fin 2048) (q : Fin 1024) : res_main_v63 v (ix2 n q) = ((dyR wi wo mo ba nw nf x tg n q : ℝ) : EReal) := by
  pointwise [res_main_v63]
  rw [v49_at H, chalf, ctwo]
  simp only [← EReal.coe_mul, d1024_coe, div1024]
  rw [dyR, dy]
  refine congrArg Real.toEReal ?_
  rw [erR]
  ring

theorem v68_at (n : Fin 2048) (q : Fin 1024) : res_main_v68 v (ix2 n q) = ((dyR wi wo mo ba nw nf x tg n q * nf q : ℝ) : EReal) := by
  pointwise [res_main_v68]
  rw [v63_at H, H.nf, ← EReal.coe_mul]

theorem v78_at (n : Fin 2048) (q : Fin 1024) : res_main_v78 v (ix2 n q)
    = (((∑ q, rsR wi wo mo ba nw x n q * (dyR wi wo mo ba nw nf x tg n q * nf q)) * (-(1 / 2) * (rr eps (rsR wi wo mo ba nw x n) / ms eps (rsR wi wo mo ba nw x n))) / 1024 : ℝ) : EReal) := by
  pointwise [res_main_v78]
  have h0 : ∀ i : Fin 1, res_main_v40 v (ix2 n i) = ((ms eps (rsR wi wo mo ba nw x n) : ℝ) : EReal) := fun i => by rw [Subsingleton.elim i 0]; exact v40_at H n
  have h1 : ∀ i : Fin 1, res_main_v41 v (ix2 n i) = ((rr eps (rsR wi wo mo ba nw x n) : ℝ) : EReal) := fun i => by rw [Subsingleton.elim i 0]; exact v41_at H n
  simp only [v33_at H, v68_at H, h0, h1, cneg, Ideal.div_coe (ms_pos eps (rsR wi wo mo ba nw x n) eps_pos).ne', ← EReal.coe_mul, coe_sum, d1024_coe, div1024, mul_one_div]
  exact congrArg Real.toEReal (Fin.sum_univ_one _)

theorem v82_at (n : Fin 2048) (q : Fin 1024) : res_main_v82 v (ix2 n q) = ((dR wi wo mo ba nw nf x tg n q : ℝ) : EReal) := by
  pointwise [res_main_v82]
  rw [v68_at H, v41_at H, v78_at H, v33_at H]
  simp only [← EReal.coe_mul, ← EReal.coe_add]
  exact congrArg Real.toEReal (dnorm_eq eps (rsR wi wo mo ba nw x n) eps_pos (fun c => dyR wi wo mo ba nw nf x tg n c * nf c) q)

/-- The first result. -/
theorem same8 : (truncf .bf16 (res_main_v24 v) bitsLt_bf16_f32 : FVec Ideal S2048x1024 .bf16) = fun i => ((hR mo ba nw x (i 0) (i 1) : ℝ) : EReal) := by
  refine funext fun i => ?_
  obtain ⟨n, q, rfl⟩ : ∃ (n : Fin 2048) (q : Fin 1024), i = ix2 n q := ⟨i 0, i 1, by funext a; fin_cases a <;> rfl⟩
  pointwise []
  exact v24_at H n q

/-- The second. -/
theorem same9 : (truncf .bf16 (transpose S4x2048x704 [1, 0, 2] (shapeCast _ (res_main_v29 v) shapeCasts_S2048x2816_S2048x4x704) transposes_S2048x4x704_S4x2048x704_1_0_2) bitsLt_bf16_f32 : FVec Ideal S4x2048x704 .bf16)
    = fun i => ((actR wi mo ba nw x (i 1) ((i 0 : ℕ) * 704 + (i 2 : ℕ)) : ℝ) : EReal) := by
  refine funext fun i => ?_
  obtain ⟨j, n, k, rfl⟩ : ∃ (j : Fin 4) (n : Fin 2048) (k : Fin 704), i = ix3 j n k := ⟨i 0, i 1, i 2, by funext a; fin_cases a <;> rfl⟩
  pointwise []
  rw [v29_at H]

/-- The third. -/
theorem same10 : (truncf .bf16 (transpose S8x2048x704 [1, 0, 2] (shapeCast _ (res_main_v25 v) shapeCasts_S2048x5632_S2048x8x704) transposes_S2048x8x704_S8x2048x704_1_0_2) bitsLt_bf16_f32 : FVec Ideal S8x2048x704 .bf16)
    = fun i => ((preR wi mo ba nw x (i 1) ((i 0 : ℕ) * 704 + (i 2 : ℕ)) : ℝ) : EReal) := by
  refine funext fun i => ?_
  obtain ⟨j, n, k, rfl⟩ : ∃ (j : Fin 8) (n : Fin 2048) (k : Fin 704), i = ix3 j n k := ⟨i 0, i 1, i 2, by funext a; fin_cases a <;> rfl⟩
  pointwise []
  rw [v25_at H]

/-- The fourth. -/
theorem same11 : res_main_v82 v = fun i => ((dR wi wo mo ba nw nf x tg (i 0) (i 1) : ℝ) : EReal) := by
  refine funext fun i => ?_
  obtain ⟨n, q, rfl⟩ : ∃ (n : Fin 2048) (q : Fin 1024), i = ix2 n q := ⟨i 0, i 1, by funext a; fin_cases a <;> rfl⟩
  exact v82_at H n q

/-- The fifth. -/
theorem same12 : (truncf .bf16 (mulf (broadcastInDim S2048x1024 ![0, 1] bcast_S1x1024_S2048x1024_0_1 (res_main_v6 v)) (res_main_v82 v)) bitsLt_bf16_f32 : FVec Ideal S2048x1024 .bf16)
    = fun i => ((part mo ba 5 (i 1) * dR wi wo mo ba nw nf x tg (i 0) (i 1) : ℝ) : EReal) := by
  refine funext fun i => ?_
  obtain ⟨n, q, rfl⟩ : ∃ (n : Fin 2048) (q : Fin 1024), i = ix2 n q := ⟨i 0, i 1, by funext a; fin_cases a <;> rfl⟩
  pointwise []
  rw [v6_at H, v82_at H, ← EReal.coe_mul]

/-- The sixth. -/
theorem same13 : (concatenate S8x1024 0 [⟨S1x1024, ((shapeCast _ (Host.reduceAdd (mulf (res_main_v46 v) (res_main_v63 v)) (constant S_ .f32 0x00000000#32) reducesTo_S2048x1024_S1024_d0 h_S_) shapeCasts_S1024_S1x1024) : FVec Ideal S1x1024 .f32)⟩,
      ⟨S1x1024, ((shapeCast _ (Host.reduceAdd (mulf (res_main_v82 v) (res_main_v30 v)) (constant S_ .f32 0x00000000#32) reducesTo_S2048x1024_S1024_d0 h_S_) shapeCasts_S1024_S1x1024) : FVec Ideal S1x1024 .f32)⟩,
      ⟨S3x1024, ((broadcastInDim S3x1024 ![] bcast_S_S3x1024 (constant S_ .f32 0x00000000#32)) : FVec Ideal S3x1024 .f32)⟩,
      ⟨S1x1024, ((broadcastInDim S1x1024 ![] bcast_S_S1x1024 (mulf (constant S_ .f32 0x3F000000#32) (Host.reduceAdd (Host.divf (Host.reduceAdd (mulf (res_main_v49 v) (res_main_v49 v)) (constant S_ .f32 0x00000000#32) reducesTo_S2048x1024_S2048_d1 h_S_)
        (broadcastInDim S2048 ![] bcast_S_S2048 (constant S_ .f32 0x44800000#32))) (constant S_ .f32 0x00000000#32) reducesTo_S2048_S_d0 h_S_))) : FVec Ideal S1x1024 .f32)⟩,
      ⟨S2x1024, ((broadcastInDim S2x1024 ![] bcast_S_S2x1024 (constant S_ .f32 0x00000000#32)) : FVec Ideal S2x1024 .f32)⟩] concatenates_S1x1024_S1x1024_S3x1024_S1x1024_S2x1024_S8x1024_d0 : FVec Ideal S8x1024 .f32)
    = fun i => ((stR wi wo mo ba nw nf x tg (i 0) (i 1) : ℝ) : EReal) := by
  refine funext fun i => ?_
  obtain ⟨k, q, rfl⟩ : ∃ (k : Fin 8) (q : Fin 1024), i = ix2 k q := ⟨i 0, i 1, by funext a; fin_cases a <;> rfl⟩
  show _ = ((stR wi wo mo ba nw nf x tg k q : ℝ) : EReal)
  pointwise []
  simp only [Nat.lt_one_iff, dite_eq_ite]
  simp only [v46_at H, v63_at H, v82_at H, v30_at H, v49_at H, chalf, ← EReal.coe_mul, coe_sum, d1024_coe, div1024]
  rw [stR, Finset.sum_range]
  simp only [shR, share]
  have hk := k.isLt
  by_cases h0 : (k : ℕ) = 0
  · simp only [h0, if_true]
    exact congrArg Real.toEReal (Finset.sum_congr rfl fun n _ => mul_comm _ _)
  · by_cases h1 : (k : ℕ) = 1
    · rw [if_neg h0, if_pos (by omega)]
      simp only [h1, if_true, one_ne_zero, if_false]
      rfl
    · by_cases h5 : (k : ℕ) = 5
      · rw [if_neg h0, if_neg (by omega), if_neg (by omega), if_pos (by omega)]
        simp only [h5, if_true, Nat.reduceEqDiff, OfNat.ofNat_ne_zero, if_false]
        rw [Finset.mul_sum]
        rfl
      · simp only [if_neg h0, if_neg h1, if_neg h5, Finset.sum_const_zero]
        rw [if_neg (by omega)]
        by_cases h : (k : ℕ) - 1 - 1 < 3
        · rw [if_pos h]
          rfl
        · rw [if_neg h, if_neg (by omega)]
          rfl

end Cert.FfnFwd.Plain

end
-- ==== Proof.FfnFwd.lean ====
/- The feed-forward kernel's value claim: its precondition says that every element of its arguments is a real number, and then the kernel
   and the reference end with the same arrays. -/
module
public import proofs.«01_k».proof.Proof.Finite
public import proofs.«01_k».proof.Proof.GFinal
public import proofs.«01_k».proof.Proof.GRef
public import proofs.«01_k».proof.Proof.Gen.Pre_finite7
public import proofs.«01_k».proof.Defs

@[expose] public section

set_option maxRecDepth 16384

noncomputable section
namespace Cert.FfnFwd
open Idealize.ShloMosaic Idealize.ShloMosaic.TcCoe Idealize.SL.Sem Idealize.ShloMosaic.StableHlo

/-- The precondition, decoded: every element of every argument is a real. -/
theorem all_real (x0 : FVec Ideal Cert.Pre_finite7.S2048x1024 .f32) (x1 : FVec Ideal Cert.Pre_finite7.S2048x1024 .f32) (x2 : FVec Ideal Cert.Pre_finite7.S1x6144 .f32) (x3 : FVec Ideal Cert.Pre_finite7.S1x6144 .f32) (x4 : FVec Ideal Cert.Pre_finite7.S1x1024 .f32) (x5 : FVec Ideal Cert.Pre_finite7.S1x1024 .f32) (x6 : FVec Ideal Cert.Pre_finite7.S1024x5632 .f32) (x7 : FVec Ideal Cert.Pre_finite7.S2816x1024 .f32)
    (h : Cert.Pre_finite7.fn (F := Ideal) x0 x1 x2 x3 x4 x5 x6 x7 = fun _ => 1#1) :
    (∀ i, (x0 i : EReal) = (((x0 i : EReal).toReal : ℝ) : EReal))
    ∧ (∀ i, (x1 i : EReal) = (((x1 i : EReal).toReal : ℝ) : EReal))
    ∧ (∀ i, (x2 i : EReal) = (((x2 i : EReal).toReal : ℝ) : EReal))
    ∧ (∀ i, (x3 i : EReal) = (((x3 i : EReal).toReal : ℝ) : EReal))
    ∧ (∀ i, (x4 i : EReal) = (((x4 i : EReal).toReal : ℝ) : EReal))
    ∧ (∀ i, (x5 i : EReal) = (((x5 i : EReal).toReal : ℝ) : EReal))
    ∧ (∀ i, (x6 i : EReal) = (((x6 i : EReal).toReal : ℝ) : EReal))
    ∧ (∀ i, (x7 i : EReal) = (((x7 i : EReal).toReal : ℝ) : EReal)) := by
  have h := congrFun h (fun k => k.elim0)
  unfold Cert.Pre_finite7.fn Cert.Pre_finite7.fn_part1 at h
  obtain ⟨h, h7⟩ := Cert.Conf.and_parts h
  obtain ⟨h, h6⟩ := Cert.Conf.and_parts h
  obtain ⟨h, h5⟩ := Cert.Conf.and_parts h
  obtain ⟨h, h4⟩ := Cert.Conf.and_parts h
  obtain ⟨h, h3⟩ := Cert.Conf.and_parts h
  obtain ⟨h, h2⟩ := Cert.Conf.and_parts h
  obtain ⟨h0, h1⟩ := Cert.Conf.and_parts h
  exact ⟨Cert.Conf.real_of_fold x0 _ _ _ _ h0, Cert.Conf.real_of_fold x1 _ _ _ _ h1, Cert.Conf.real_of_fold x2 _ _ _ _ h2, Cert.Conf.real_of_fold x3 _ _ _ _ h3, Cert.Conf.real_of_fold x4 _ _ _ _ h4, Cert.Conf.real_of_fold x5 _ _ _ _ h5, Cert.Conf.real_of_fold x6 _ _ _ _ h6, Cert.Conf.real_of_fold x7 _ _ _ _ h7⟩

/-- Under the precondition the arguments are reals. -/
theorem reals_of_finite (m : (ℓ : Loc Cert.Kernel7Ideal.nD Cert.Kernel7Ideal.τ Cert.Kernel7Ideal.sig) → Buf (Elt Ideal) ℓ) (h : Cert.Pre_Kernel7Ideal_finite7 m) (c : Dev Cert.Kernel7Ideal.nD) :
    ∃ (x tg : ℕ → Fin 1024 → ℝ) (mo ba : ℕ → ℝ) (nw nf : Fin 1024 → ℝ) (wi : Fin 1024 → ℕ → ℝ) (wo : ℕ → Fin 1024 → ℝ), Reals m c x tg mo ba nw nf wi wo := by
  obtain ⟨h0, h1, h2, h3, h4, h5, h6, h7⟩ := all_real _ _ _ _ _ _ _ _ (h c)
  refine ⟨fun n q => if hn : n < 2048 then (m ((c : Thread Cert.Kernel7Ideal.nD Cert.Kernel7Ideal.τ).loc Cert.Kernel7Ideal.main_arg0) (ix2 ⟨n, hn⟩ q) : EReal).toReal else 0,
    fun n q => if hn : n < 2048 then (m ((c : Thread Cert.Kernel7Ideal.nD Cert.Kernel7Ideal.τ).loc Cert.Kernel7Ideal.main_arg1) (ix2 ⟨n, hn⟩ q) : EReal).toReal else 0,
    fun i => if hi : i < 6144 then (m ((c : Thread Cert.Kernel7Ideal.nD Cert.Kernel7Ideal.τ).loc Cert.Kernel7Ideal.main_arg2) (ix2 0 ⟨i, hi⟩) : EReal).toReal else 0,
    fun i => if hi : i < 6144 then (m ((c : Thread Cert.Kernel7Ideal.nD Cert.Kernel7Ideal.τ).loc Cert.Kernel7Ideal.main_arg3) (ix2 0 ⟨i, hi⟩) : EReal).toReal else 0,
    fun q => (m ((c : Thread Cert.Kernel7Ideal.nD Cert.Kernel7Ideal.τ).loc Cert.Kernel7Ideal.main_arg4) (ix2 0 q) : EReal).toReal,
    fun q => (m ((c : Thread Cert.Kernel7Ideal.nD Cert.Kernel7Ideal.τ).loc Cert.Kernel7Ideal.main_arg5) (ix2 0 q) : EReal).toReal,
    fun q i => if hi : i < 5632 then (m ((c : Thread Cert.Kernel7Ideal.nD Cert.Kernel7Ideal.τ).loc Cert.Kernel7Ideal.main_arg6) (ix2 q ⟨i, hi⟩) : EReal).toReal else 0,
    fun i q => if hi : i < 2816 then (m ((c : Thread Cert.Kernel7Ideal.nD Cert.Kernel7Ideal.τ).loc Cert.Kernel7Ideal.main_arg7) (ix2 ⟨i, hi⟩ q) : EReal).toReal else 0,
    ⟨fun n q => ?_, fun n q => ?_, fun i => ?_, fun i => ?_, fun q => h4 _, fun q => h5 _, fun q i => ?_, fun i q => ?_⟩⟩
  · rw [dif_pos n.isLt]; exact h0 _
  · rw [dif_pos n.isLt]; exact h1 _
  · rw [dif_pos i.isLt]; exact h2 _
  · rw [dif_pos i.isLt]; exact h3 _
  · rw [dif_pos i.isLt]; exact h6 _
  · rw [dif_pos i.isLt]; exact h7 _

/-- The reference's arguments, equal to the kernel's, are the same reals. -/
theorem args_of (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (e0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0))
    (e1 : m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1))
    (e2 : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2))
    (e3 : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3))
    (e4 : m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4))
    (e5 : m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5))
    (e6 : m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6))
    (e7 : m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7))
    {x tg : ℕ → Fin 1024 → ℝ} {mo ba : ℕ → ℝ} {nw nf : Fin 1024 → ℝ} {wi : Fin 1024 → ℕ → ℝ} {wo : ℕ → Fin 1024 → ℝ} (H : Reals m c x tg mo ba nw nf wi wo) :
    Plain.Args (launchContents m' c) x tg mo ba nw nf wi wo where
  x n q := (congrFun e0 _).trans (H.x n q)
  tg n q := (congrFun e1 _).trans (H.tg n q)
  mo i := (congrFun e2 _).trans (H.mo i)
  ba i := (congrFun e3 _).trans (H.ba i)
  nw q := (congrFun e4 _).trans (H.nw q)
  nf q := (congrFun e5 _).trans (H.nf q)
  wi q i := (congrFun e6 _).trans (H.wi q i)
  wo i q := (congrFun e7 _).trans (H.wo i q)

theorem value : Cert.algebraic_Kernel7Ideal_Reference7Ideal_pre_finite7 := by
  intro m g m' g' hp e
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    fun c => (Cert.Kernel7Ideal.Gen.dats m 0 c).arrAt 12 Cert.Kernel7Ideal.cfg0.N,
    fun c => (Cert.Kernel7Ideal.Gen.dats m 0 c).arrAt 13 Cert.Kernel7Ideal.cfg0.N,
    Cert.Kernel7Ideal.Value.run_blocks m g, ?_⟩
  refine (θ_run Cert.Reference7Ideal.defs _ _).mono (fun r h c => ?_) (Cert.Reference7Ideal.Value.run m' g')
  obtain ⟨h8, h9, h10, h11, h12, h13, hk⟩ := h c
  obtain ⟨e0, e1, e2, e3, e4, e5, e6, e7⟩ := e c
  obtain ⟨x, tg, mo, ba, nw, nf, wi, wo, H⟩ := reals_of_finite m hp c
  have A := args_of m m' c e0 e1 e2 e3 e4 e5 e6 e7 H
  exact ⟨h8.trans ((Plain.same8 A).trans (result8 H).symm),
    h9.trans ((Plain.same9 A).trans (result9 H).symm),
    h10.trans ((Plain.same10 A).trans (result10 H).symm),
    h11.trans ((Plain.same11 A).trans (result11 H).symm),
    h12.trans ((Plain.same12 A).trans (result12 H).symm),
    h13.trans ((Plain.same13 A).trans (result13 H).symm), hk⟩

end Cert.FfnFwd

end
-- ==== Proof.FwdOut.lean ====
/- The output projection of the mixer: the kernel's tiles and the reference's whole product are the same sums. -/
module
public import proofs.«01_k».proof.Proof.Hid
public import proofs.«01_k».proof.Proof.Gen.Kernel10Ideal.Value
public import proofs.«01_k».proof.Proof.Gen.Reference10Ideal.Run
public import proofs.«01_k».proof.Defs

@[expose] public section

set_option maxRecDepth 16384

noncomputable section

namespace Cert.FwdOut
open Idealize.ShloMosaic Idealize.ShloMosaic.TcCoe Idealize.SL.Sem
open Cert.Kernel10Ideal Cert.Kernel10Ideal.Gen

theorem idx : ∀ t : Fin cfg0.N, (win0_0.index t = ![t.val, 0] ∧ win0_1.index t = ![t.val, 0] ∧ win0_2.index t = ![t.val, 0])
    ∧ (win0_3.index t = ![0, 0] ∧ win0_4.index t = ![0, 0] ∧ win0_5.index t = ![0, 0])
    ∧ (win0_6.index t = ![t.val, 0] ∧ win0_7.index t = ![t.val, 0] ∧ win0_8.index t = ![t.val, 0]) ∧ t.val < 8 :=
  (by decide +kernel : ∀ t : Fin grid0.N, _)

/-- Two halves of a row side by side. -/
def both (a b : S2048x512.Idx → EReal) (n : Fin 2048) (k : Fin 1024) : EReal :=
  if h : (k : ℕ) < 512 then a (ix2 n ⟨k, h⟩) else b (ix2 n ⟨k - 512, by omega⟩)

/-- The product with the weights. -/
def mix (a b : S2048x512.Idx → EReal) (w : S1024x1024.Idx → EReal) (n : Fin 2048) (q : Fin 1024) : EReal :=
  ∑ k : Fin 1024, both a b n k * w (ix2 k q)

/-- The row that leaves the sub-layer. -/
def out (a b : S2048x512.Idx → EReal) (x : S2048x1024.Idx → EReal) (mo ba : S1x6144.Idx → EReal) (w : S1024x1024.Idx → EReal) (n : Fin 2048) (q : Fin 1024) : EReal :=
  x (ix2 n q) + Hid.part mo ba 2 (by omega) q * mix a b w n q

/-- A sum over the row is the sum over its halves. -/
theorem halves (f : Fin 1024 → EReal) : ∑ k, f k = ∑ k : Fin 512, f ⟨k, by omega⟩ + ∑ k : Fin 512, f ⟨512 + k, by omega⟩ :=
  Fin.sum_univ_add (a := 512) (b := 512) f

theorem mix_halves (a b : S2048x512.Idx → EReal) (w : S1024x1024.Idx → EReal) (n : Fin 2048) (q : Fin 1024) :
    mix a b w n q = ∑ k : Fin 512, a (ix2 n k) * w (ix2 ⟨k, by omega⟩ q) + ∑ k : Fin 512, b (ix2 n k) * w (ix2 ⟨512 + k, by omega⟩ q) := by
  refine (halves _).trans ?_
  refine congrArg₂ (· + ·) (Finset.sum_congr rfl fun k _ => congrArg (· * _) ?_) (Finset.sum_congr rfl fun k _ => congrArg (· * _) ?_)
  · exact dif_pos k.isLt
  · refine (dif_neg (by show ¬ 512 + (k : ℕ) < 512; omega)).trans ?_
    exact congrArg (fun z => b (ix2 n z)) (Fin.ext (by show 512 + (k : ℕ) - 512 = k; omega))

variable (m : (ℓ : Loc nD τ sig) → Buf (Elt Ideal) ℓ) (c : Dev nD) (t : Fin cfg0.N)

theorem blk0 (r : Fin 256) (q : Fin 512) : iblk m c 0 t (ix2 r q) = (m ((c : Thread nD τ).loc main_arg0)) (ix2 ⟨t.val * 256 + r, by have := (idx t).2.2.2; omega⟩ q) := by
  have ht := (idx t).2.2.2
  blk_ext [iblk, V, idx t]

theorem blk1 (r : Fin 256) (q : Fin 512) : iblk m c 1 t (ix2 r q) = (m ((c : Thread nD τ).loc main_arg1)) (ix2 ⟨t.val * 256 + r, by have := (idx t).2.2.2; omega⟩ q) := by
  have ht := (idx t).2.2.2
  blk_ext [iblk, V, idx t]

theorem blk2 (r : Fin 256) (q : Fin 1024) : iblk m c 2 t (ix2 r q) = (m ((c : Thread nD τ).loc main_arg2)) (ix2 ⟨t.val * 256 + r, by have := (idx t).2.2.2; omega⟩ q) := by
  have ht := (idx t).2.2.2
  blk_ext [iblk, V, idx t]

theorem blk3 (i : Fin 6144) : iblk m c 3 t (ix2 0 i) = (m ((c : Thread nD τ).loc main_arg3)) (ix2 0 i) := by
  blk_ext [iblk, V, idx t]

theorem blk4 (i : Fin 6144) : iblk m c 4 t (ix2 0 i) = (m ((c : Thread nD τ).loc main_arg4)) (ix2 0 i) := by
  blk_ext [iblk, V, idx t]

theorem blk5 (k : Fin 1024) (q : Fin 1024) : iblk m c 5 t (ix2 k q) = (m ((c : Thread nD τ).loc main_arg5)) (ix2 k q) := by
  have e : (win0_5.blk t).view.emb (ix2 k q) = ix2 k q := by blk_ext [idx t]
  blk_simp [iblk, idx t]
  rw [e]
  entry_read
  pointwise []

theorem pay3_at (A B : S256x512.Idx → EReal) (W0 W1 : S512x1024.Idx → EReal) (r : Fin 256) (q : Fin 1024) :
    k0_pay3 (F := Ideal) A B W0 W1 (ix2 r q) = ∑ k : Fin 512, A (ix2 r k) * W0 (ix2 k q) + ∑ k : Fin 512, B (ix2 r k) * W1 (ix2 k q) := by
  pointwise [k0_pay3, k0_pay1, k0_pay2]

theorem pay4_at (A B : S256x512.Idx → EReal) (W0 W1 : S512x1024.Idx → EReal) (X : S256x1024.Idx → EReal) (u v : S1x1024.Idx → EReal) (r : Fin 256) (q : Fin 1024) :
    k0_pay4 (F := Ideal) A B W0 W1 X u v (ix2 r q) = X (ix2 r q) + (u (ix2 0 q) + v (ix2 0 q)) * k0_pay3 (F := Ideal) A B W0 W1 (ix2 r q) := by
  pointwise [k0_pay4]

theorem tile_mix (r : Fin 256) (q : Fin 1024) :
    k0_pay3 (F := Ideal) (iblk m c 0 t) (iblk m c 1 t) (View.ld (iblk m c 5 t) r0_3) (View.ld (iblk m c 5 t) r0_4) (ix2 r q)
      = mix (m ((c : Thread nD τ).loc main_arg0)) (m ((c : Thread nD τ).loc main_arg1)) (m ((c : Thread nD τ).loc main_arg5)) ⟨t.val * 256 + r, by have := (idx t).2.2.2; omega⟩ q := by
  refine (pay3_at _ _ _ _ r q).trans ?_
  rw [mix_halves]
  refine congrArg₂ (· + ·) (Finset.sum_congr (M := EReal) rfl fun k _ => congrArg₂ (· * ·) ?_ ?_) (Finset.sum_congr (M := EReal) rfl fun k _ => congrArg₂ (· * ·) ?_ ?_)
  · exact blk0 m c t r k
  · exact (Hid.ld_at _ _ _ _ k q ⟨k, by omega⟩ q (by simp) (by simp)).trans (blk5 m c t _ _)
  · exact blk1 m c t r k
  · exact (Hid.ld_at _ _ _ _ k q ⟨512 + k, by omega⟩ q rfl (by simp)).trans (blk5 m c t _ _)

theorem result7 : (dats m 0 c).arrAt 7 cfg0.N = fun i => mix (m ((c : Thread nD τ).loc main_arg0)) (m ((c : Thread nD τ).loc main_arg1)) (m ((c : Thread nD τ).loc main_arg5)) (i 0) (i 1) := by
  refine (dats m 0 c).arrAt_eq_of_covers 7 _ (by decide +kernel) fun t hf y => ?_
  have ht := (idx t).2.2.2
  blk_simp
  rw [after0_7]
  obtain ⟨r, q, rfl⟩ : ∃ (r : Fin 256) (q : Fin 1024), y = ix2 r q := ⟨y 0, y 1, by funext a; fin_cases a <;> rfl⟩
  have e : (win0_7.blk t).view.emb (ix2 r q) = ix2 (⟨t.val * 256 + r, by omega⟩ : Fin 2048) q := by blk_ext [idx t]
  have e1 : (win0_7.blk t).view.emb (ix2 r q) 1 = q := congrFun e 1
  have e0 : (win0_7.blk t).view.emb (ix2 r q) 0 = (⟨t.val * 256 + r, by omega⟩ : Fin 2048) := congrFun e 0
  show _ = mix _ _ _ ((win0_7.blk t).view.emb (ix2 r q) 0) ((win0_7.blk t).view.emb (ix2 r q) 1)
  rw [e0, e1]
  frame_out
  exact tile_mix m c t r q

theorem result6 : (dats m 0 c).arrAt 6 cfg0.N = fun i => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  have ht := (idx t).2.2.2
  blk_simp
  rw [after0_6]
  obtain ⟨r, q, rfl⟩ : ∃ (r : Fin 256) (q : Fin 1024), y = ix2 r q := ⟨y 0, y 1, by funext a; fin_cases a <;> rfl⟩
  have e : (win0_6.blk t).view.emb (ix2 r q) = ix2 (⟨t.val * 256 + r, by omega⟩ : Fin 2048) q := by blk_ext [idx t]
  have e1 : (win0_6.blk t).view.emb (ix2 r q) 1 = q := congrFun e 1
  have e0 : (win0_6.blk t).view.emb (ix2 r q) 0 = (⟨t.val * 256 + r, by omega⟩ : Fin 2048) := congrFun e 0
  show _ = out _ _ _ _ _ _ ((win0_6.blk t).view.emb (ix2 r q) 0) ((win0_6.blk t).view.emb (ix2 r q) 1)
  rw [e0, e1]
  frame_out
  refine (pay4_at _ _ _ _ _ _ _ r q).trans ?_
  refine congrArg₂ (· + ·) (blk2 m c t r q) (congrArg₂ (· * ·) (congrArg₂ (· + ·) ?_ ?_) (tile_mix m c t r q))
  · exact (Hid.ld_at _ _ _ _ (0 : Fin 1) q 0 ⟨2 * 1024 + q, by omega⟩ (by simp) rfl).trans (blk3 m c t _)
  · exact (Hid.ld_at _ _ _ _ (0 : Fin 1) q 0 ⟨2 * 1024 + q, by omega⟩ (by simp) rfl).trans (blk4 m c t _)

theorem result8 : (dats m 0 c).arrAt 8 cfg0.N = fun i => both (m ((c : Thread nD τ).loc main_arg0)) (m ((c : Thread nD τ).loc main_arg1)) (i 0) (i 1) := by
  refine (dats m 0 c).arrAt_eq_of_covers 8 _ (by decide +kernel) fun t hf y => ?_
  have ht := (idx t).2.2.2
  blk_simp
  rw [after0_8]
  obtain ⟨r, q, rfl⟩ : ∃ (r : Fin 256) (q : Fin 1024), y = ix2 r q := ⟨y 0, y 1, by funext a; fin_cases a <;> rfl⟩
  have e : (win0_8.blk t).view.emb (ix2 r q) = ix2 (⟨t.val * 256 + r, by omega⟩ : Fin 2048) q := by blk_ext [idx t]
  have e1 : (win0_8.blk t).view.emb (ix2 r q) 1 = q := congrFun e 1
  have e0 : (win0_8.blk t).view.emb (ix2 r q) 0 = (⟨t.val * 256 + r, by omega⟩ : Fin 2048) := congrFun e 0
  show _ = both _ _ ((win0_8.blk t).view.emb (ix2 r q) 0) ((win0_8.blk t).view.emb (ix2 r q) 1)
  rw [e0, e1]
  frame_out
  refine Hid.canon_half 512 _ _ _ r q _ (fun k hk => ?_) fun h1 => ?_
  · refine Eq.trans (by pointwise [k0_pay2]) ((blk1 m c t r k).trans (Eq.symm (dif_neg (by omega) |>.trans ?_)))
    exact congrArg (fun z => (m ((c : Thread nD τ).loc main_arg1)) (ix2 _ z)) (Fin.ext (by show (q : ℕ) - 512 = k; omega))
  · refine Hid.canon_half 0 _ _ _ r q _ (fun k hk => ?_) fun h2 => absurd q.isLt (by omega)
    refine Eq.trans (by pointwise [k0_pay1]) ((blk0 m c t r k).trans (Eq.symm (dif_pos (by omega) |>.trans ?_)))
    exact congrArg (fun z => (m ((c : Thread nD τ).loc main_arg0)) (ix2 _ z)) (Fin.ext (by show (q : ℕ) = k; omega))

end Cert.FwdOut

namespace Cert.FwdOut
open Idealize.ShloMosaic Idealize.ShloMosaic.TcCoe Idealize.SL.Sem
open Cert.Reference10Ideal Cert.Reference10Ideal.Gen

section
variable (a b : FVec Ideal S2048x512 .f32) (x : FVec Ideal S2048x1024 .f32) (mo ba : FVec Ideal S1x6144 .f32) (w : FVec Ideal S1024x1024 .f32)

theorem plain0 : (addf x (mulf (broadcastInDim S2048x1024 ![0, 1] bcast_S1x1024_S2048x1024_0_1 (extractStridedSlice S1x1024 ![0, 2048] (addf mo ba) slices_S1x6144_S1x1024_0_2048)) (Host.dotGeneral dot_S2048x1024_S1024x1024_S2048x1024_1_0_0_1_n_n none (concatenate S2048x1024 1 [⟨S2048x512, a⟩, ⟨S2048x512, b⟩] concatenates_S2048x512_S2048x512_S2048x1024_d1) w)) : FVec Ideal S2048x1024 .f32) = fun i => out a b x mo ba w (i 0) (i 1) := by
  refine funext fun i => ?_
  obtain ⟨n, q, rfl⟩ : ∃ (n : Fin 2048) (q : Fin 1024), i = ix2 n q := ⟨i 0, i 1, by funext a; fin_cases a <;> rfl⟩
  pointwise [out, mix, both, Hid.part]

theorem plain1 : (Host.dotGeneral dot_S2048x1024_S1024x1024_S2048x1024_1_0_0_1_n_n none (concatenate S2048x1024 1 [⟨S2048x512, a⟩, ⟨S2048x512, b⟩] concatenates_S2048x512_S2048x512_S2048x1024_d1) w : FVec Ideal S2048x1024 .f32) = fun i => mix a b w (i 0) (i 1) := by
  refine funext fun i => ?_
  obtain ⟨n, q, rfl⟩ : ∃ (n : Fin 2048) (q : Fin 1024), i = ix2 n q := ⟨i 0, i 1, by funext a; fin_cases a <;> rfl⟩
  pointwise [mix, both]

theorem plain2 : (truncf .bf16 (concatenate S2048x1024 1 [⟨S2048x512, a⟩, ⟨S2048x512, b⟩] concatenates_S2048x512_S2048x512_S2048x1024_d1) bitsLt_bf16_f32 : FVec Ideal S2048x1024 .bf16) = fun i => both a b (i 0) (i 1) := by
  refine funext fun i => ?_
  obtain ⟨n, q, rfl⟩ : ∃ (n : Fin 2048) (q : Fin 1024), i = ix2 n q := ⟨i 0, i 1, by funext a; fin_cases a <;> rfl⟩
  pointwise [both]
end

/-- The value claim. -/
theorem value : Cert.algebraic_Kernel10Ideal_Reference10Ideal := by
  intro m g m' g' _ e
  refine ⟨fun c => (Cert.Kernel10Ideal.Gen.dats m 0 c).arrAt 6 Cert.Kernel10Ideal.cfg0.N, fun c => (Cert.Kernel10Ideal.Gen.dats m 0 c).arrAt 7 Cert.Kernel10Ideal.cfg0.N,
    fun c => (Cert.Kernel10Ideal.Gen.dats m 0 c).arrAt 8 Cert.Kernel10Ideal.cfg0.N, Cert.Kernel10Ideal.Value.run_blocks m g, ?_⟩
  refine (θ_run Cert.Reference10Ideal.defs _ _).mono (fun r h c => ?_) (Cert.Reference10Ideal.Value.run m' g')
  obtain ⟨h0, h1, h2, hk⟩ := h c
  obtain ⟨e0, e1, e2, e3, e4, e5⟩ := e c
  refine ⟨(h0.trans (plain0 _ _ _ _ _ _)).trans ((result6 m c).trans ?_).symm, (h1.trans (plain1 _ _ _)).trans ((result7 m c).trans ?_).symm,
    (h2.trans (plain2 _ _)).trans ((result8 m c).trans ?_).symm, hk⟩
  · rw [e0, e1, e2, e3, e4, e5]
    rfl
  · rw [e0, e1, e5]
    rfl
  · rw [e0, e1]
    rfl

end Cert.FwdOut

end
-- ==== Proof.BwdOut.lean ====
/- The backward pass of the mixer's output projection: the kernel's tiles and running sums, and the reference's products. -/
module
public import proofs.«01_k».proof.Proof.Hid
public import proofs.«01_k».proof.Proof.Rows
public import proofs.«01_k».proof.Proof.FwdOut
public import proofs.«01_k».proof.Proof.Gen.Kernel8Ideal.Value
public import proofs.«01_k».proof.Proof.Gen.Reference8Ideal.Run
public import proofs.«01_k».proof.Defs

@[expose] public section

set_option maxRecDepth 16384

noncomputable section

namespace Cert.BwdOut
open Idealize.ShloMosaic Idealize.ShloMosaic.TcCoe Idealize.SL.Sem
open Cert.Kernel8Ideal Cert.Kernel8Ideal.Gen
open Cert.FwdOut (both mix)

theorem idx : ∀ t : Fin cfg0.N, (win0_0.index t = ![t.val, 0] ∧ win0_1.index t = ![t.val, 0] ∧ win0_2.index t = ![0, 0] ∧ win0_3.index t = ![0, 0])
    ∧ (win0_4.index t = ![0, 0] ∧ win0_5.index t = ![t.val, 0])
    ∧ (win0_6.index t = ![t.val, 0] ∧ win0_7.index t = ![t.val, 0] ∧ win0_8.index t = ![0, 0]) ∧ t.val < 8 :=
  (by decide +kernel : ∀ t : Fin grid0.N, _)

/-- The gradient at the product's result. -/
def dmix (d : S2048x1024.Idx → EReal) (mo ba : S1x6144.Idx → EReal) (n : Fin 2048) (q : Fin 1024) : EReal :=
  Hid.part mo ba 2 (by omega) q * d (ix2 n q)

/-- The gradient at the product's input, from column `s`. -/
def dout (d : S2048x1024.Idx → EReal) (mo ba : S1x6144.Idx → EReal) (w : S1024x1024.Idx → EReal) (s : ℕ) (hs : s + 512 ≤ 1024) (n : Fin 2048) (k : Fin 512) : EReal :=
  ∑ q : Fin 1024, dmix d mo ba n q * w (ix2 ⟨s + k, by omega⟩ q)

/-- The gradient at the gate, by rows of the sums' buffer. -/
def stat (d : S2048x1024.Idx → EReal) (a b : S2048x512.Idx → EReal) (w : S1024x1024.Idx → EReal) (k : Fin 8) (q : Fin 1024) : EReal :=
  if (k : ℕ) = 0 then ∑ n : Fin 2048, d (ix2 n q) * mix a b w n q else 0

variable (m : (ℓ : Loc nD τ sig) → Buf (Elt Ideal) ℓ) (c : Dev nD) (t : Fin cfg0.N)

theorem blk0 (r : Fin 256) (q : Fin 1024) : iblk m c 0 t (ix2 r q) = (m ((c : Thread nD τ).loc main_arg0)) (ix2 ⟨t.val * 256 + r, by have := ((idx t).2.2.2); omega⟩ q) := by
  have ht := ((idx t).2.2.2)
  blk_ext [iblk, V, idx t]

theorem blk1 (r : Fin 256) (q : Fin 1024) : iblk m c 1 t (ix2 r q) = mix (m ((c : Thread nD τ).loc main_arg1)) (m ((c : Thread nD τ).loc main_arg2)) (m ((c : Thread nD τ).loc main_arg5)) ⟨t.val * 256 + r, by have := (idx t).2.2.2; omega⟩ q := by
  have ht := (idx t).2.2.2
  have e : (win0_1.blk t).view.emb (ix2 r q) = ix2 (⟨t.val * 256 + r, by omega⟩ : Fin 2048) q := by blk_ext [idx t]
  blk_simp [iblk, idx t]
  rw [e]
  entry_read
  pointwise [mix, both]

theorem blk2 (i : Fin 6144) : iblk m c 2 t (ix2 0 i) = (m ((c : Thread nD τ).loc main_arg3)) (ix2 0 i) := by
  blk_ext [iblk, V, idx t]

theorem blk3 (i : Fin 6144) : iblk m c 3 t (ix2 0 i) = (m ((c : Thread nD τ).loc main_arg4)) (ix2 0 i) := by
  blk_ext [iblk, V, idx t]

theorem blk4 (k : Fin 1024) (q : Fin 1024) : iblk m c 4 t (ix2 k q) = (m ((c : Thread nD τ).loc main_arg5)) (ix2 k q) := by
  have e : (win0_4.blk t).view.emb (ix2 k q) = ix2 k q := by blk_ext [idx t]
  blk_simp [iblk, idx t]
  rw [e]
  entry_read
  pointwise []

theorem pay3_at (X : S256x1024.Idx → EReal) (u v : S1x1024.Idx → EReal) (r : Fin 256) (q : Fin 1024) :
    k0_pay3 (F := Ideal) X u v (ix2 r q) = (u (ix2 0 q) + v (ix2 0 q)) * X (ix2 r q) := by
  pointwise [k0_pay3]

theorem pay4_at (X : S256x1024.Idx → EReal) (u v : S1x1024.Idx → EReal) (W : S512x1024.Idx → EReal) (r : Fin 256) (k : Fin 512) :
    k0_pay4 (F := Ideal) X u v W (ix2 r k) = ∑ q : Fin 1024, k0_pay3 (F := Ideal) X u v (ix2 r q) * W (ix2 k q) := by
  pointwise [k0_pay4]

theorem pay5_at (X : S256x1024.Idx → EReal) (u v : S1x1024.Idx → EReal) (W : S512x1024.Idx → EReal) (r : Fin 256) (k : Fin 512) :
    k0_pay5 (F := Ideal) X u v W (ix2 r k) = ∑ q : Fin 1024, k0_pay3 (F := Ideal) X u v (ix2 r q) * W (ix2 k q) := by
  pointwise [k0_pay5]

theorem pay2_at (X : S256x1024.Idx → EReal) (u : S1x1024.Idx → EReal) (Y : S256x1024.Idx → EReal) (q : Fin 1024) :
    k0_pay2 (F := Ideal) X u Y (ix2 0 q) = u (ix2 0 q) + ∑ r : Fin 256, X (ix2 r q) * Y (ix2 r q) := by
  pointwise [k0_pay2]

theorem tile3 (r : Fin 256) (q : Fin 1024) (i2 i3) :
    k0_pay3 (F := Ideal) (iblk m c 0 t) (View.ld (iblk m c 2 t) (Rect.unit (s := S1x6144) ![0, 2048] ![1, 1024] i2))
      (View.ld (iblk m c 3 t) (Rect.unit (s := S1x6144) ![0, 2048] ![1, 1024] i3)) (ix2 r q)
      = dmix (m ((c : Thread nD τ).loc main_arg0)) (m ((c : Thread nD τ).loc main_arg3)) (m ((c : Thread nD τ).loc main_arg4)) ⟨t.val * 256 + r, by have := (idx t).2.2.2; omega⟩ q := by
  refine (pay3_at _ _ _ r q).trans ?_
  refine congrArg₂ (· * ·) (congrArg₂ (· + ·) ?_ ?_) ?_
  · exact (Hid.ld_at _ _ _ _ (0 : Fin 1) q 0 ⟨2 * 1024 + q, by omega⟩ (by simp) rfl).trans (blk2 m c t _)
  · exact (Hid.ld_at _ _ _ _ (0 : Fin 1) q 0 ⟨2 * 1024 + q, by omega⟩ (by simp) rfl).trans (blk3 m c t _)
  · exact blk0 m c t r q

theorem result5 : (dats m 0 c).arrAt 5 cfg0.N = fun i => dmix (m ((c : Thread nD τ).loc main_arg0)) (m ((c : Thread nD τ).loc main_arg3)) (m ((c : Thread nD τ).loc main_arg4)) (i 0) (i 1) := by
  refine (dats m 0 c).arrAt_eq_of_covers 5 _ (by decide +kernel) fun t hf y => ?_
  have ht := (idx t).2.2.2
  blk_simp
  rw [after0_5]
  obtain ⟨r, q, rfl⟩ : ∃ (r : Fin 256) (q : Fin 1024), y = ix2 r q := ⟨y 0, y 1, by funext a; fin_cases a <;> rfl⟩
  have e : (win0_5.blk t).view.emb (ix2 r q) = ix2 (⟨t.val * 256 + r, by omega⟩ : Fin 2048) q := by blk_ext [idx t]
  have e1 : (win0_5.blk t).view.emb (ix2 r q) 1 = q := congrFun e 1
  have e0 : (win0_5.blk t).view.emb (ix2 r q) 0 = (⟨t.val * 256 + r, by omega⟩ : Fin 2048) := congrFun e 0
  show _ = dmix _ _ _ ((win0_5.blk t).view.emb (ix2 r q) 0) ((win0_5.blk t).view.emb (ix2 r q) 1)
  rw [e0, e1]
  refine (Classical.em (t.val % 8 = 0)).elim (fun h => ?_) (fun h => ?_)
  on_goal 2 => rw [outsAt0_B m c t h]
  on_goal 1 => rw [outsAt0_A m c t h]
  all_goals
    frame_out
    exact tile3 m c t r q _ _
theorem result6 : (dats m 0 c).arrAt 6 cfg0.N = fun i => dout (m ((c : Thread nD τ).loc main_arg0)) (m ((c : Thread nD τ).loc main_arg3)) (m ((c : Thread nD τ).loc main_arg4)) (m ((c : Thread nD τ).loc main_arg5)) 0 (by omega) (i 0) (i 1) := by
  refine (dats m 0 c).arrAt_eq_of_covers 6 _ (by decide +kernel) fun t hf y => ?_
  have ht := (idx t).2.2.2
  blk_simp
  rw [after0_6]
  obtain ⟨r, q, rfl⟩ : ∃ (r : Fin 256) (q : Fin 512), y = ix2 r q := ⟨y 0, y 1, by funext a; fin_cases a <;> rfl⟩
  have e : (win0_6.blk t).view.emb (ix2 r q) = ix2 (⟨t.val * 256 + r, by omega⟩ : Fin 2048) q := by blk_ext [idx t]
  have e1 : (win0_6.blk t).view.emb (ix2 r q) 1 = q := congrFun e 1
  have e0 : (win0_6.blk t).view.emb (ix2 r q) 0 = (⟨t.val * 256 + r, by omega⟩ : Fin 2048) := congrFun e 0
  show _ = dout _ _ _ _ 0 _ ((win0_6.blk t).view.emb (ix2 r q) 0) ((win0_6.blk t).view.emb (ix2 r q) 1)
  rw [e0, e1]
  refine (Classical.em (t.val % 8 = 0)).elim (fun h => ?_) (fun h => ?_)
  on_goal 2 => rw [outsAt0_B m c t h]
  on_goal 1 => rw [outsAt0_A m c t h]
  all_goals
    frame_out
    exact (pay4_at _ _ _ _ r q).trans (Finset.sum_congr (M := EReal) rfl fun z _ => congrArg₂ (· * ·) (tile3 m c t r z _ _) ((Hid.ld_at _ _ _ _ q z ⟨0 + q, by omega⟩ z rfl (by simp)).trans (blk4 m c t _ _)))
theorem result7 : (dats m 0 c).arrAt 7 cfg0.N = fun i => dout (m ((c : Thread nD τ).loc main_arg0)) (m ((c : Thread nD τ).loc main_arg3)) (m ((c : Thread nD τ).loc main_arg4)) (m ((c : Thread nD τ).loc main_arg5)) 512 (by omega) (i 0) (i 1) := by
  refine (dats m 0 c).arrAt_eq_of_covers 7 _ (by decide +kernel) fun t hf y => ?_
  have ht := (idx t).2.2.2
  blk_simp
  rw [after0_7]
  obtain ⟨r, q, rfl⟩ : ∃ (r : Fin 256) (q : Fin 512), y = ix2 r q := ⟨y 0, y 1, by funext a; fin_cases a <;> rfl⟩
  have e : (win0_7.blk t).view.emb (ix2 r q) = ix2 (⟨t.val * 256 + r, by omega⟩ : Fin 2048) q := by blk_ext [idx t]
  have e1 : (win0_7.blk t).view.emb (ix2 r q) 1 = q := congrFun e 1
  have e0 : (win0_7.blk t).view.emb (ix2 r q) 0 = (⟨t.val * 256 + r, by omega⟩ : Fin 2048) := congrFun e 0
  show _ = dout _ _ _ _ 512 _ ((win0_7.blk t).view.emb (ix2 r q) 0) ((win0_7.blk t).view.emb (ix2 r q) 1)
  rw [e0, e1]
  refine (Classical.em (t.val % 8 = 0)).elim (fun h => ?_) (fun h => ?_)
  on_goal 2 => rw [outsAt0_B m c t h]
  on_goal 1 => rw [outsAt0_A m c t h]
  all_goals
    frame_out
    exact (pay5_at _ _ _ _ r q).trans (Finset.sum_congr (M := EReal) rfl fun z _ => congrArg₂ (· * ·) (tile3 m c t r z _ _) ((Hid.ld_at _ _ _ _ q z ⟨512 + q, by omega⟩ z rfl (by simp)).trans (blk4 m c t _ _)))
/-- What the running sums held before the point. -/
def prev (t : Fin cfg0.N) : S8x1024.Idx → EReal :=
  if t.val % 8 = 0 then fun _ => 0 else (outsAt0 m c (t.val - 1) (Nat.lt_of_le_of_lt (Nat.sub_le _ _) t.isLt)).2.2.2

/-- The share of row `n`. -/
def shr (n : ℕ) (q : Fin 1024) : EReal :=
  if h : n < 2048 then @HMul.hMul EReal EReal EReal _ ((m ((c : Thread nD τ).loc main_arg0)) (ix2 ⟨n, h⟩ q)) (mix (m ((c : Thread nD τ).loc main_arg1)) (m ((c : Thread nD τ).loc main_arg2)) (m ((c : Thread nD τ).loc main_arg5)) ⟨n, h⟩ q) else 0

theorem pay1_eq : k0_pay1 (F := Ideal) = Ffn.zstats := by
  funext i
  obtain ⟨r, q, rfl⟩ : ∃ r q, i = ix2 r q := ⟨i 0, i 1, by funext a; fin_cases a <;> rfl⟩
  show k0_pay1 (F := Ideal) (ix2 r q) = 0
  pointwise [k0_pay1]

theorem fill {sig' : RefSig} {κ : Kind} {sp : Space} (v : View sig' κ sp S8x1024 .f32) (k : ℕ) (hk hz) :
    v.readCov (Val := Elt Ideal) [⟨Rect.unit (s := S8x1024) ![0, 0] ![8, 1024] hz, k0_pay1 (F := Ideal)⟩] (Rect.unit (s := S8x1024) ![k, 0] ![1, 1024] hk).toLoadRect
      = View.ld (e' := .f32) Ffn.zstats (Rect.unit (s := S8x1024) ![k, 0] ![1, 1024] hk) := by
  rw [pay1_eq]
  exact Rows.readCov_zeros v k hk hz

theorem tile2 (S : S8x1024.Idx → EReal) (q : Fin 1024) (i2) :
    k0_pay2 (F := Ideal) (iblk m c 0 t) (View.ld (e' := .f32) S (Rect.unit (s := S8x1024) ![0, 0] ![1, 1024] i2))
      (iblk m c 1 t) (ix2 0 q)
      = S (ix2 0 q) + ∑ r : Fin 256, shr m c (t.val * 256 + r) q := by
  have ht := (idx t).2.2.2
  refine (pay2_at _ _ _ q).trans ?_
  refine congrArg₂ (· + ·) (Ffn.ld_stat S 0 _ (by omega) q) (Finset.sum_congr (M := EReal) rfl fun r _ => ?_)
  refine Eq.trans ?_ (dif_pos (show t.val * 256 + (r : ℕ) < 2048 by omega)).symm
  exact congrArg₂ (· * ·) (blk0 m c t r q) (blk1 m c t r q)

theorem stat_step (k : Fin 8) (q : Fin 1024) :
    (outsAt0 m c t.val t.isLt).2.2.2 (ix2 k q) = if (k : ℕ) = 0 then prev m c t (ix2 0 q) + ∑ r : Fin 256, shr m c (t.val * 256 + r) q else prev m c t (ix2 k q) := by
  refine (Classical.em (t.val % 8 = 0)).elim (fun h => ?_) (fun h => ?_)
  on_goal 2 =>
    have hp : (outsAt0 m c (t.val - 1) (Nat.lt_of_le_of_lt (Nat.sub_le _ _) t.isLt)).2.2.2 = prev m c t := (if_neg h).symm
    rw [outsAt0_B m c t h]
    frame_out
    rw [hp]
    refine Ffn.row_peel _ _ _ _ _ _ k q (fun k => if (k : ℕ) = 0 then prev m c t (ix2 0 q) + ∑ r : Fin 256, shr m c (t.val * 256 + r) q else prev m c t (ix2 k q)) (of_decide_eq_true rfl) ?_ fun hk => ?_
    · exact (tile2 m c t _ q _).trans (if_pos rfl).symm
    · rw [View.writes_nil, Memref.IsWhole.read_unread]
      exact (if_neg hk).symm
  on_goal 1 =>
    have hp : Ffn.zstats = prev m c t := (if_pos h).symm
    rw [outsAt0_A m c t h]
    frame_out [↓ Ffn.readCov_row_skip, ↓ fill]
    rw [hp]
    refine Ffn.canon_row _ _ _ _ k q (fun k => if (k : ℕ) = 0 then prev m c t (ix2 0 q) + ∑ r : Fin 256, shr m c (t.val * 256 + r) q else prev m c t (ix2 k q)) (of_decide_eq_true rfl) ?_ fun hk => ?_
    · exact (tile2 m c t _ q _).trans (if_pos rfl).symm
    · rw [pay1_eq]
      refine (Ffn.canon_zeros _ _).trans ?_
      exact (congrFun hp (ix2 k q)).trans (if_neg hk).symm

theorem stats_upto (n : ℕ) (hn : n < cfg0.N) (k : Fin 8) (q : Fin 1024) :
    (outsAt0 m c n hn).2.2.2 (ix2 k q) = if (k : ℕ) = 0 then ∑ i ∈ Finset.range ((n + 1) * 256), shr m c i q else 0 := by
  induction n generalizing k q with
  | zero =>
    refine (stat_step m c ⟨0, hn⟩ k q).trans ?_
    have hp : prev m c ⟨0, hn⟩ = fun _ => 0 := if_pos rfl
    rw [hp, zero_add, zero_add, one_mul, Finset.sum_range (fun i => shr m c i q)]
    simp only [zero_mul, zero_add]
  | succ n ih =>
    have ht : n + 1 < 8 := (idx ⟨n + 1, hn⟩).2.2.2
    refine (stat_step m c ⟨n + 1, hn⟩ k q).trans ?_
    have hp : prev m c ⟨n + 1, hn⟩ = (outsAt0 m c n (Nat.lt_of_succ_lt hn)).2.2.2 := if_neg (by show ¬ (n + 1) % 8 = 0; omega)
    rw [hp, ih, ih]
    by_cases hk : (k : ℕ) = 0
    · rw [if_pos hk, if_pos hk, if_pos (show ((0 : Fin 8) : ℕ) = 0 from rfl), add_mul (n + 1) 1 256, one_mul, Finset.sum_range_add, Finset.sum_range (fun r => shr m c ((n + 1) * 256 + r) q)]
    · rw [if_neg hk, if_neg hk, if_neg hk]

theorem result8 : (dats m 0 c).arrAt 8 cfg0.N = fun i => stat (m ((c : Thread nD τ).loc main_arg0)) (m ((c : Thread nD τ).loc main_arg1)) (m ((c : Thread nD τ).loc main_arg2)) (m ((c : Thread nD τ).loc main_arg5)) (i 0) (i 1) := by
  refine (dats m 0 c).arrAt_eq_of_after_last 8 t0_7 (by decide +kernel) _ fun j => ?_
  blk_simp
  rw [after0_8]
  obtain ⟨k, q, rfl⟩ : ∃ (k : Fin 8) (q : Fin 1024), j = ix2 k q := ⟨j 0, j 1, by funext a; fin_cases a <;> rfl⟩
  refine (stats_upto m c t0_7.val t0_7.isLt k q).trans ?_
  show (if (k : ℕ) = 0 then ∑ i ∈ Finset.range 2048, shr m c i q else 0) = if (k : ℕ) = 0 then _ else 0
  refine congrArg (fun z : EReal => if (k : ℕ) = 0 then z else 0) ?_
  rw [Finset.sum_range]
  exact Finset.sum_congr (M := EReal) rfl fun n _ => dif_pos n.isLt

end Cert.BwdOut

namespace Cert.BwdOut
open Idealize.ShloMosaic Idealize.ShloMosaic.TcCoe Idealize.SL.Sem
open Cert.Reference8Ideal Cert.Reference8Ideal.Gen
open Cert.FwdOut (both mix)

section
variable (d : FVec Ideal S2048x1024 .f32) (a b : FVec Ideal S2048x512 .f32) (mo ba : FVec Ideal S1x6144 .f32) (w : FVec Ideal S1024x1024 .f32)

theorem plain0  : (truncf .bf16 (mulf (broadcastInDim S2048x1024 ![0, 1] bcast_S1x1024_S2048x1024_0_1 (extractStridedSlice S1x1024 ![0, 2048] (addf mo ba) slices_S1x6144_S1x1024_0_2048)) d) bitsLt_bf16_f32 : FVec Ideal S2048x1024 .bf16) = fun i => dmix d mo ba (i 0) (i 1) := by
  refine funext fun i => ?_
  obtain ⟨n, q, rfl⟩ : ∃ (n : Fin 2048) (q : Fin 1024), i = ix2 n q := ⟨i 0, i 1, by funext a; fin_cases a <;> rfl⟩
  pointwise [dmix, Hid.part]

theorem plain1  : (extractStridedSlice S2048x512 ![0, 0] (Host.dotGeneral dot_S2048x1024_S1024x1024_S2048x1024_1_1_0_0_n_n none (mulf (broadcastInDim S2048x1024 ![0, 1] bcast_S1x1024_S2048x1024_0_1 (extractStridedSlice S1x1024 ![0, 2048] (addf mo ba) slices_S1x6144_S1x1024_0_2048)) d) w) slices_S2048x1024_S2048x512_0_0 : FVec Ideal S2048x512 .f32) = fun i => dout d mo ba w 0 (by omega) (i 0) (i 1) := by
  refine funext fun i => ?_
  obtain ⟨n, q, rfl⟩ : ∃ (n : Fin 2048) (q : Fin 512), i = ix2 n q := ⟨i 0, i 1, by funext a; fin_cases a <;> rfl⟩
  pointwise [dout, dmix, Hid.part]

theorem plain2  : (extractStridedSlice S2048x512 ![0, 512] (Host.dotGeneral dot_S2048x1024_S1024x1024_S2048x1024_1_1_0_0_n_n none (mulf (broadcastInDim S2048x1024 ![0, 1] bcast_S1x1024_S2048x1024_0_1 (extractStridedSlice S1x1024 ![0, 2048] (addf mo ba) slices_S1x6144_S1x1024_0_2048)) d) w) slices_S2048x1024_S2048x512_0_512 : FVec Ideal S2048x512 .f32) = fun i => dout d mo ba w 512 (by omega) (i 0) (i 1) := by
  refine funext fun i => ?_
  obtain ⟨n, q, rfl⟩ : ∃ (n : Fin 2048) (q : Fin 512), i = ix2 n q := ⟨i 0, i 1, by funext a; fin_cases a <;> rfl⟩
  pointwise [dout, dmix, Hid.part]

theorem plain3  : (concatenate S8x1024 0 [⟨S1x1024, (shapeCast _ (Host.reduceAdd (mulf d (Host.dotGeneral dot_S2048x1024_S1024x1024_S2048x1024_1_0_0_1_n_n none (concatenate S2048x1024 1 [⟨S2048x512, a⟩, ⟨S2048x512, b⟩] concatenates_S2048x512_S2048x512_S2048x1024_d1) w)) (constant S_ .f32 0x00000000#32) reducesTo_S2048x1024_S1024_d0 h_S_) shapeCasts_S1024_S1x1024)⟩, ⟨S7x1024, (broadcastInDim S7x1024 ![] bcast_S_S7x1024 (constant S_ .f32 0x00000000#32))⟩] concatenates_S1x1024_S7x1024_S8x1024_d0 : FVec Ideal S8x1024 .f32) = fun i => stat d a b w (i 0) (i 1) := by
  refine funext fun i => ?_
  obtain ⟨n, q, rfl⟩ : ∃ (n : Fin 8) (q : Fin 1024), i = ix2 n q := ⟨i 0, i 1, by funext a; fin_cases a <;> rfl⟩
  pointwise [stat, mix, both]
  simp only [Nat.lt_one_iff, dite_eq_ite]

end

/-- The value claim. -/
theorem value : Cert.algebraic_Kernel8Ideal_Reference8Ideal := by
  intro m g m' g' _ e
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N,
    fun c => (Cert.Kernel8Ideal.Gen.dats m 0 c).arrAt 7 Cert.Kernel8Ideal.cfg0.N, fun c => (Cert.Kernel8Ideal.Gen.dats m 0 c).arrAt 8 Cert.Kernel8Ideal.cfg0.N,
    Cert.Kernel8Ideal.Value.run_blocks m g, ?_⟩
  refine (θ_run Cert.Reference8Ideal.defs _ _).mono (fun r h c => ?_) (Cert.Reference8Ideal.Value.run m' g')
  obtain ⟨h0, h1, h2, h3, hk⟩ := h c
  obtain ⟨e0, e1, e2, e3, e4, e5⟩ := e c
  refine ⟨(h0.trans (plain0 _ _ _)).trans ((result5 m c).trans ?_).symm, (h1.trans (plain1 _ _ _ _)).trans ((result6 m c).trans ?_).symm,
    (h2.trans (plain2 _ _ _ _)).trans ((result7 m c).trans ?_).symm, (h3.trans (plain3 _ _ _ _)).trans ((result8 m c).trans ?_).symm, hk⟩
  all_goals
    simp only [e0, e1, e2, e3, e4, e5]
    rfl

end Cert.BwdOut

end
-- ==== Proof.WInBody.lean ====
/- The gradient kernel of the input projection's weights: its body at a grid point, and what it leaves in the output's buffer. -/
module

public import proofs.«01_k».proof.Proof.Gen.Kernel11Ideal.Frame
public import proofs.«01_k».proof.Proof.Gen.Kernel11Ideal.Skeleton
public import Idealize.ShloMosaic.Lib.WritesUnit
public import Idealize.ShloMosaic.Lib.VecWindow
public import Idealize.ShloMosaic.Lib.Pointwise

@[expose] public section

set_option maxRecDepth 16384

noncomputable section

namespace Cert.WIn
open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions of the proof. -/
abbrev Asrt (F : FTy → Type) [FloatOps F] : Type := sProp (MT nD τ sig Unit (Elt F) ℕ (UR sig nD τ) ℕ)

/-- The first two points store a block of the convolution branch's gradient. -/
theorem cond1 : ∀ t : Fin cfg0.N, k0_cond1 (grid0.coords t) = 1#1 ↔ t.val < 2 :=
  (by decide +kernel : ∀ t : Fin grid0.N, k0_cond1 (grid0.coords t) = 1#1 ↔ t.val < 2)
/-- The next four store a block of the other branch's. -/
theorem cond2 : ∀ t : Fin cfg0.N, k0_cond2 (grid0.coords t) = 1#1 ↔ 2 ≤ t.val ∧ t.val < 6 :=
  (by decide +kernel : ∀ t : Fin grid0.N, k0_cond2 (grid0.coords t) = 1#1 ↔ 2 ≤ t.val ∧ t.val < 6)
/-- The last stores the eight rows of the gates. -/
theorem cond3 : ∀ t : Fin cfg0.N, k0_cond3 (grid0.coords t) = 1#1 ↔ t.val = 6 :=
  (by decide +kernel : ∀ t : Fin grid0.N, k0_cond3 (grid0.coords t) = 1#1 ↔ t.val = 6)

variable (c : Dev nD) (i : grid0.Coords)
  (arg1 : Memref sig .tc .vmem S2048x512 .bf16) (harg1 : arg1.IsWhole) (arg2 : Memref sig .tc .vmem S2048x512 .bf16) (harg2 : arg2.IsWhole)
  (arg3 : Memref sig .tc .vmem S2048x128 .bf16) (harg3 : arg3.IsWhole) (arg4 : Memref sig .tc .vmem S2048x1024 .bf16) (harg4 : arg4.IsWhole)
  (arg5 : Memref sig .tc .vmem S512x1024 .bf16) (harg5 : arg5.IsWhole)
  (x0 : Vec F S2048x512 .bf16) (x1 : Vec F S2048x512 .bf16) (x2 : Vec F S2048x128 .bf16) (x3 : Vec F S2048x1024 .bf16)

set_option maxHeartbeats 1000000 in
/-- The body at the first two points. -/
theorem run1 (h1 : k0_cond1 i = 1#1) (h2 : ¬k0_cond2 i = 1#1) (h3 : ¬k0_cond3 i = 1#1) (E : Set ℕ) (K : PUnit → Asrt F) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x3)) -∗ K ⟨⟩))
      ⊢ wp frame (wpE (defs₀ (F := F)) Variants.none c none) E (cc0_grad_w_in i arg1 harg1 arg2 harg2 arg3 harg3 arg4 harg4 arg5 harg5) K := by
  simp only [cc0_grad_w_in_eq_skeleton]; unfold cc0_grad_w_in_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  exact (View.read_writes_full arg5.view f4 _ _ []).trans (congrArg₂ k0_pay1 ((View.readAt_full _ _ _).trans hf0) ((View.readAt_full _ _ _).trans hf3))

set_option maxHeartbeats 1000000 in
/-- The body at the four points after them. -/
theorem run2 (h1 : ¬k0_cond1 i = 1#1) (h2 : k0_cond2 i = 1#1) (h3 : ¬k0_cond3 i = 1#1) (E : Set ℕ) (K : PUnit → Asrt F) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 x1 x3)) -∗ K ⟨⟩))
      ⊢ wp frame (wpE (defs₀ (F := F)) Variants.none c none) E (cc0_grad_w_in i arg1 harg1 arg2 harg2 arg3 harg3 arg4 harg4 arg5 harg5) K := by
  simp only [cc0_grad_w_in_eq_skeleton]; unfold cc0_grad_w_in_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  exact (View.read_writes_full arg5.view f4 _ _ []).trans (congrArg₂ k0_pay2 ((View.readAt_full _ _ _).trans hf1) ((View.readAt_full _ _ _).trans hf3))

set_option maxHeartbeats 1000000 in
/-- The body at the last point: it writes eight rows, and leaves the others as they were. -/
theorem run3 (h1 : ¬k0_cond1 i = 1#1) (h2 : ¬k0_cond2 i = 1#1) (h3 : k0_cond3 i = 1#1) (E : Set ℕ) (K : PUnit → Asrt F) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ X, ⌜∀ (p : Fin 8) (q : Fin 1024), X (ix2 (⟨p.val, by omega⟩ : Fin 512) q) = k0_pay3 x2 x3 (ix2 p q)⌝ ∗ owns (c : Thread nD τ) arg5 fullShare X)) -∗ K ⟨⟩))
      ⊢ wp frame (wpE (defs₀ (F := F)) Variants.none c none) E (cc0_grad_w_in i arg1 harg1 arg2 harg2 arg3 harg3 arg4 harg4 arg5 harg5) K := by
  simp only [cc0_grad_w_in_eq_skeleton]; unfold cc0_grad_w_in_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap
  · iexists _; isplitr; swap; · iexact H4
    ipureintro; rfl
  ipureintro
  intro p q
  refine (View.read_writes_cons_rows_of_mem arg5.view f4 _ _ [] (ix2 (⟨p.val, by omega⟩ : Fin 512) q) (ix2 p q) rfl (Nat.zero_add _).symm rfl).trans ?_
  exact congrFun (congrArg₂ k0_pay3 ((View.readAt_full _ _ _).trans hf2) ((View.readAt_full _ _ _).trans hf3)) _

end Cert.WIn

end
-- ==== Proof.WInFrame.lean ====
/- The gradient kernel of the input projection's weights: what its output holds after a run, and that its arguments end as they were. -/
module

public import proofs.«01_k».proof.Proof.WInBody
public import Idealize.ShloMosaic.Lib.Claim

@[expose] public section

set_option maxRecDepth 16384

noncomputable section

namespace Cert.WIn
open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

/-- What the body at point `t` leaves in the output's buffer: a block of the gradient, or at the last point its eight rows and anything below them. -/
def left (c : Dev nD) (t : Fin cfg0.N) : Vec F S512x1024 .bf16 := fun y =>
  if t.val < 2 then k0_pay1 (iblk m c 0 t) (iblk m c 3 t) y
  else if t.val < 6 then k0_pay2 (iblk m c 1 t) (iblk m c 3 t) y
  else if h : (y 0).val < 8 then k0_pay3 (iblk m c 2 t) (iblk m c 3 t) (ix2 (⟨(y 0).val, h⟩ : Fin 8) (y 1))
  else k0_pay1 (iblk m c 0 t) (iblk m c 3 t) y

/-- The pipeline's proof data: the inputs' buffers at their blocks, the output's at `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = left m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The buffers the body is called on at point `t`. -/
abbrev b0 (t : Fin cfg0.N) : Memref sig .tc .vmem S2048x512 .bf16 := win0_0.stage (cfg0.slots t 0)
abbrev b1 (t : Fin cfg0.N) : Memref sig .tc .vmem S2048x512 .bf16 := win0_1.stage (cfg0.slots t 1)
abbrev b2 (t : Fin cfg0.N) : Memref sig .tc .vmem S2048x128 .bf16 := win0_2.stage (cfg0.slots t 2)
abbrev b3 (t : Fin cfg0.N) : Memref sig .tc .vmem S2048x1024 .bf16 := win0_3.stage (cfg0.slots t 3)
abbrev b4 (t : Fin cfg0.N) : Memref sig .tc .vmem S512x1024 .bf16 := win0_4.stage (cfg0.slots t 4)

/-- The write-back of the last point moves eight rows. -/
theorem xs : ∀ t : Fin cfg0.N, t.val = 6 → (cfg0.win 4).xsize (grid0.coords t) 0 = 8 :=
  (by decide +kernel : ∀ t : Fin grid0.N, t.val = 6 → win0_4.xsize (grid0.coords t) 0 = 8)

/-- Where the last point's buffer holds the eight rows, it holds what its write-back moves. -/
theorem last (c : Dev nD) (t : Fin cfg0.N) (h : t.val = 6) (X : Vec F S512x1024 .bf16)
    (hX : ∀ (p : Fin 8) (q : Fin 1024), X (ix2 (⟨p.val, by omega⟩ : Fin 512) q) = k0_pay3 (iblk m c 2 t) (iblk m c 3 t) (ix2 p q)) :
    X = (cfg0.win 4).fill (grid0.coords t) X ((cfg0.win 4).cut (grid0.coords t) (left m c t)) := by
  have e : (cfg0.win 4).cut (grid0.coords t) (left m c t) = (cfg0.win 4).cut (grid0.coords t) X := by
    funext j
    have hj : (j 0).val < 8 := lt_of_lt_of_eq (j 0).isLt (xs t h)
    show left m c t ((cfg0.win 4).xinj (grid0.coords t) j) = X ((cfg0.win 4).xinj (grid0.coords t) j)
    have hy : (((cfg0.win 4).xinj (grid0.coords t) j) 0).val < 8 := hj
    generalize (cfg0.win 4).xinj (grid0.coords t) j = y at hy ⊢
    unfold left
    rw [if_neg (by omega), if_neg (by omega), dif_pos hy]
    refine (hX ⟨(y 0).val, hy⟩ (y 1)).symm.trans (congrArg X ?_)
    funext a; fin_cases a <;> rfl
  rw [e, (cfg0.win 4).fill_cut]

/-- What the body hands back of the output's buffer. -/
theorem leaves4 (c : Dev nD) (t : Fin cfg0.N) : (dats m 0 c).leaves 4 t
    = iprop(∃ d, owns (c : Thread nD τ) (b4 t) fullShare ((cfg0.win 4).fill (grid0.coords t) d ((cfg0.win 4).cut (grid0.coords t) (left m c t)))) := by
  unfold Dat.leaves
  rw [flush0_4 t, after4]
  cases cfg0.idle 4 (cfg0.grid.coords t) <;> rfl
theorem leaves0 (c : Dev nD) (t : Fin cfg0.N) : (dats m 0 c).leaves 0 t = owns (c : Thread nD τ) (b0 t) fullShare (iblk m c 0 t) := by
  rw [← after0]
theorem leaves1 (c : Dev nD) (t : Fin cfg0.N) : (dats m 0 c).leaves 1 t = owns (c : Thread nD τ) (b1 t) fullShare (iblk m c 1 t) := by
  rw [← after1]
theorem leaves2 (c : Dev nD) (t : Fin cfg0.N) : (dats m 0 c).leaves 2 t = owns (c : Thread nD τ) (b2 t) fullShare (iblk m c 2 t) := by
  rw [← after2]
theorem leaves3 (c : Dev nD) (t : Fin cfg0.N) : (dats m 0 c).leaves 3 t = owns (c : Thread nD τ) (b3 t) fullShare (iblk m c 3 t) := by
  rw [← after3]

/-- What the body is called with at point `t`. -/
def bodyPre (c : Dev nD) (t : Fin cfg0.N) : Asrt F :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d)))

/-- And what it returns. -/
def bodyPost (c : Dev nD) (t : Fin cfg0.N) : Asrt F :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t)

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves0, leaves1, leaves2, leaves3, leaves4]
  have hN : t.val < 7 := lt_of_lt_of_eq t.isLt (show cfg0.N = 7 from N_0)
  by_cases h1 : t.val < 2
  · have e : left m c t = k0_pay1 (iblk m c 0 t) (iblk m c 3 t) := funext fun y => if_pos h1
    iintro ⟨HΦ, Ho, ⟨%d0, H0⟩, ⟨%d1, H1⟩, ⟨%d2, H2⟩, ⟨%d3, H3⟩, ⟨%d4, H4⟩⟩
    iapply (run1 c (grid0.coords t) _ _ _ _ _ _ _ _ _ _ (iblk m c 0 t) (iblk m c 1 t) (iblk m c 2 t) (iblk m c 3 t) ((cond1 t).mpr h1) (fun h => by have := (cond2 t).mp h; omega) (fun h => by have := (cond3 t).mp h; omega) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexists left m c t
    rw [(cfg0.win 4).fill_cut, e]
    iexact H4
  · by_cases h2 : t.val < 6
    · have e : left m c t = k0_pay2 (iblk m c 1 t) (iblk m c 3 t) := funext fun y => (if_neg h1).trans (if_pos h2)
      iintro ⟨HΦ, Ho, ⟨%d0, H0⟩, ⟨%d1, H1⟩, ⟨%d2, H2⟩, ⟨%d3, H3⟩, ⟨%d4, H4⟩⟩
      iapply (run2 c (grid0.coords t) _ _ _ _ _ _ _ _ _ _ (iblk m c 0 t) (iblk m c 1 t) (iblk m c 2 t) (iblk m c 3 t) (fun h => h1 ((cond1 t).mp h)) ((cond2 t).mpr ⟨by omega, h2⟩) (fun h => by have := (cond3 t).mp h; omega) Set.univ _)
      isplitl [H0]; · iexact H0
      isplitl [H1]; · iexact H1
      isplitl [H2]; · iexact H2
      isplitl [H3]; · iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexists left m c t
      rw [(cfg0.win 4).fill_cut, e]
      iexact H4
    · have h3 : t.val = 6 := by omega
      iintro ⟨HΦ, Ho, ⟨%d0, H0⟩, ⟨%d1, H1⟩, ⟨%d2, H2⟩, ⟨%d3, H3⟩, ⟨%d4, H4⟩⟩
      iapply (run3 c (grid0.coords t) _ _ _ _ _ _ _ _ _ _ (iblk m c 0 t) (iblk m c 1 t) (iblk m c 2 t) (iblk m c 3 t) (fun h => h1 ((cond1 t).mp h)) (fun h => h2 ((cond2 t).mp h).2) ((cond3 t).mpr h3) Set.univ _)
      isplitl [H0]; · iexact H0
      isplitl [H1]; · iexact H1
      isplitl [H2]; · iexact H2
      isplitl [H3]; · iexact H3
      isplitl [H4]; · iexists _; iexact H4
      iintro ⟨H0, H1, H2, H3, ⟨%X, %hX, H4⟩⟩
      isplitl [HΦ]; · iexact HΦ
      isplitl [Ho]; · iexact Ho
      isplitl [H0]; · iexact H0
      isplitl [H1]; · iexact H1
      isplitl [H2]; · iexact H2
      isplitl [H3]; · iexact H3
      iexists X
      rw [← last m c t h3 X hX]
      iexact H4

theorem defs₀_row (t : Fin cfg0.N) :
    defs₀ (F := F) .tc cfg0.body (cfg0.bodyArgs t (cfg0.slots t)) = bodyAt0 t := by
  unfold defs₀; rw [Defs.onTc_tc]

/-- What the library asks of the body at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array at what the proof data says, every other buffer as the kernel found it, every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

end Cert.WIn

end
-- ==== Proof.WInWords.lean ====
/- The frame of the gradient kernel of the input projection's weights, taken over to the program printed at machine words. -/
module

public import proofs.«01_k».proof.Proof.WInFrame
public import proofs.«01_k».proof.Proof.Gen.Kernel11

@[expose] public section

noncomputable section

namespace Cert.WIn
open Idealize.ShloMosaic Idealize.ShloMosaic.TcCoe Idealize.SL.Sem

/-- The two programs have the same text; their body tables are the same, label by label. -/
theorem defs_words : Cert.Kernel11.defs (F := Bits) = Cert.Kernel11Ideal.defs (F := Bits) := by
  have h : Cert.Kernel11.defs₀ (F := Bits) = Cert.Kernel11Ideal.defs₀ (F := Bits) := by
    unfold Cert.Kernel11.defs₀ Cert.Kernel11Ideal.defs₀
    refine congrArg Defs.onTc ?_
    funext l a
    match l, a with
    | ⟨0, _⟩, (t, s) => rfl
    | ⟨_ + 1, h⟩, _ => exact absurd h (Nat.not_lt.2 (Nat.le_add_left _ _))
  exact congrArg (Pipeline.defs Cert.Kernel11Ideal.pcfgs) h

/-- The frame of the program printed at machine words. -/
theorem frame_words (m : (ℓ : Loc Cert.Kernel11.nD Cert.Kernel11.τ Cert.Kernel11.sig) → Buf (Elt Bits) ℓ) (ρ : Dev Cert.Kernel11.nD → PrngReg) :
    θ_run (Cert.Kernel11.defs (F := Bits)) (onTc (τ := Cert.Kernel11.τ) (Cert.Kernel11.main (F := Bits))) ⟨m, fun _ => 0, ρ⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0) := by
  rw [defs_words]
  exact frame (F := Bits) m ρ

end Cert.WIn

end

end
-- ==== Proof.WInRef.lean ====
/- The reference of the input projection's weight gradient: its operations in order, and what a run of them leaves. -/
module

public import proofs.«01_k».proof.Proof.Gen.Reference11Ideal
public import Idealize.ShloMosaic.Lib.StableHlo.Run

@[expose] public section

noncomputable section

namespace Cert.WInRef
open Cert.Reference11Ideal Cert.Reference11Ideal.Gen Idealize.ShloMosaic Idealize.ShloMosaic.TcCoe Idealize.SL.Sem Idealize.ShloMosaic.StableHlo

variable {F : FTy → Type} [FloatOps F]

/-- The reference's operations. -/
abbrev steps : List (HloOp τ sig (Elt F)) :=
  [ binary main_arg1 main_arg2 main_v0 (addf : (⟨S1x6144, .f32⟩ : BufTy).Contents (Elt F) → (⟨S1x6144, .f32⟩ : BufTy).Contents (Elt F) → (⟨S1x6144, .f32⟩ : BufTy).Contents (Elt F)),
    unary main_v0 main_v1 ((extractStridedSlice S1x1024 ![0, 0] · slices_S1x6144_S1x1024_0_0) : (⟨S1x6144, .f32⟩ : BufTy).Contents (Elt F) → (⟨S1x1024, .f32⟩ : BufTy).Contents (Elt F)),
    unary main_v0 main_v2 ((extractStridedSlice S1x1024 ![0, 1024] · slices_S1x6144_S1x1024_0_1024) : (⟨S1x6144, .f32⟩ : BufTy).Contents (Elt F) → (⟨S1x1024, .f32⟩ : BufTy).Contents (Elt F)),
    unary main_v0 main_v3 ((extractStridedSlice S1x1024 ![0, 2048] · slices_S1x6144_S1x1024_0_2048) : (⟨S1x6144, .f32⟩ : BufTy).Contents (Elt F) → (⟨S1x1024, .f32⟩ : BufTy).Contents (Elt F)),
    unary main_v0 main_v4 ((extractStridedSlice S1x1024 ![0, 3072] · slices_S1x6144_S1x1024_0_3072) : (⟨S1x6144, .f32⟩ : BufTy).Contents (Elt F) → (⟨S1x1024, .f32⟩ : BufTy).Contents (Elt F)),
    unary main_v0 main_v5 ((extractStridedSlice S1x1024 ![0, 4096] · slices_S1x6144_S1x1024_0_4096) : (⟨S1x6144, .f32⟩ : BufTy).Contents (Elt F) → (⟨S1x1024, .f32⟩ : BufTy).Contents (Elt F)),
    unary main_v0 main_v6 ((extractStridedSlice S1x1024 ![0, 5120] · slices_S1x6144_S1x1024_0_5120) : (⟨S1x6144, .f32⟩ : BufTy).Contents (Elt F) → (⟨S1x1024, .f32⟩ : BufTy).Contents (Elt F)),
    nullary main_cst (constant S_ .f32 0x00000000#32),
    unary main_cst main_v7 (broadcastInDim S1024x3080 ![] bcast_S_S1024x3080 : (⟨S_, .f32⟩ : BufTy).Contents (Elt F) → (⟨S1024x3080, .f32⟩ : BufTy).Contents (Elt F)),
    binary main_arg0 main_arg0 main_v8 (mulf : (⟨S2048x1024, .f32⟩ : BufTy).Contents (Elt F) → (⟨S2048x1024, .f32⟩ : BufTy).Contents (Elt F) → (⟨S2048x1024, .f32⟩ : BufTy).Contents (Elt F)),
    nullary main_cst_0 (constant S_ .f32 0x00000000#32),
    binary main_v8 main_cst_0 main_v9 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    unary main_v9 main_v10 (broadcastInDim S2048x1 ![0] bcast_S2048_S2048x1_0 : (⟨S2048, .f32⟩ : BufTy).Contents (Elt F) → (⟨S2048x1, .f32⟩ : BufTy).Contents (Elt F)),
    nullary main_cst_1 (constant S_ .f32 0x44800000#32),
    unary main_cst_1 main_v11 (broadcastInDim S2048x1 ![] bcast_S_S2048x1 : (⟨S_, .f32⟩ : BufTy).Contents (Elt F) → (⟨S2048x1, .f32⟩ : BufTy).Contents (Elt F)),
    binary main_v10 main_v11 main_v12 (Host.divf : (⟨S2048x1, .f32⟩ : BufTy).Contents (Elt F) → (⟨S2048x1, .f32⟩ : BufTy).Contents (Elt F) → (⟨S2048x1, .f32⟩ : BufTy).Contents (Elt F)),
    nullary main_cst_2 (constant S_ .f32 0x358637BD#32),
    unary main_cst_2 main_v13 (broadcastInDim S2048x1 ![] bcast_S_S2048x1 : (⟨S_, .f32⟩ : BufTy).Contents (Elt F) → (⟨S2048x1, .f32⟩ : BufTy).Contents (Elt F)),
    binary main_v12 main_v13 main_v14 (addf : (⟨S2048x1, .f32⟩ : BufTy).Contents (Elt F) → (⟨S2048x1, .f32⟩ : BufTy).Contents (Elt F) → (⟨S2048x1, .f32⟩ : BufTy).Contents (Elt F)),
    unary main_v14 main_v15 (Host.rsqrt : (⟨S2048x1, .f32⟩ : BufTy).Contents (Elt F) → (⟨S2048x1, .f32⟩ : BufTy).Contents (Elt F)),
    unary main_v15 main_v16 (broadcastInDim S2048x1024 ![0, 1] bcast_S2048x1_S2048x1024_0_1 : (⟨S2048x1, .f32⟩ : BufTy).Contents (Elt F) → (⟨S2048x1024, .f32⟩ : BufTy).Contents (Elt F)),
    binary main_arg0 main_v16 main_v17 (mulf : (⟨S2048x1024, .f32⟩ : BufTy).Contents (Elt F) → (⟨S2048x1024, .f32⟩ : BufTy).Contents (Elt F) → (⟨S2048x1024, .f32⟩ : BufTy).Contents (Elt F)),
    unary main_arg3 main_v18 (broadcastInDim S2048x1024 ![0, 1] bcast_S1x1024_S2048x1024_0_1 : (⟨S1x1024, .f32⟩ : BufTy).Contents (Elt F) → (⟨S2048x1024, .f32⟩ : BufTy).Contents (Elt F)),
    binary main_v17 main_v18 main_v19 (mulf : (⟨S2048x1024, .f32⟩ : BufTy).Contents (Elt F) → (⟨S2048x1024, .f32⟩ : BufTy).Contents (Elt F) → (⟨S2048x1024, .f32⟩ : BufTy).Contents (Elt F)),
    nullary main_cst_3 (constant S_ .f32 0x3F800000#32),
    unary main_cst_3 main_v20 (broadcastInDim S1x1024 ![] bcast_S_S1x1024 : (⟨S_, .f32⟩ : BufTy).Contents (Elt F) → (⟨S1x1024, .f32⟩ : BufTy).Contents (Elt F)),
    binary main_v20 main_v2 main_v21 (addf : (⟨S1x1024, .f32⟩ : BufTy).Contents (Elt F) → (⟨S1x1024, .f32⟩ : BufTy).Contents (Elt F) → (⟨S1x1024, .f32⟩ : BufTy).Contents (Elt F)),
    unary main_v21 main_v22 (broadcastInDim S2048x1024 ![0, 1] bcast_S1x1024_S2048x1024_0_1 : (⟨S1x1024, .f32⟩ : BufTy).Contents (Elt F) → (⟨S2048x1024, .f32⟩ : BufTy).Contents (Elt F)),
    binary main_v19 main_v22 main_v23 (mulf : (⟨S2048x1024, .f32⟩ : BufTy).Contents (Elt F) → (⟨S2048x1024, .f32⟩ : BufTy).Contents (Elt F) → (⟨S2048x1024, .f32⟩ : BufTy).Contents (Elt F)),
    unary main_v1 main_v24 (broadcastInDim S2048x1024 ![0, 1] bcast_S1x1024_S2048x1024_0_1 : (⟨S1x1024, .f32⟩ : BufTy).Contents (Elt F) → (⟨S2048x1024, .f32⟩ : BufTy).Contents (Elt F)),
    binary main_v23 main_v24 main_v25 (addf : (⟨S2048x1024, .f32⟩ : BufTy).Contents (Elt F) → (⟨S2048x1024, .f32⟩ : BufTy).Contents (Elt F) → (⟨S2048x1024, .f32⟩ : BufTy).Contents (Elt F)),
    binary main_v25 main_v7 main_v26 ((fun l r => Host.dotGeneral dot_S2048x1024_S1024x3080_S2048x3080_1_0_0_1_n_n none l r) : (⟨S2048x1024, .f32⟩ : BufTy).Contents (Elt F) → (⟨S1024x3080, .f32⟩ : BufTy).Contents (Elt F) → (⟨S2048x3080, .f32⟩ : BufTy).Contents (Elt F)),
    binary main_arg4 main_v25 main_v27 ((fun l r => Host.dotGeneral dot_S2048x3080_S2048x1024_S3080x1024_0_0_1_1_n_n none l r) : (⟨S2048x3080, .f32⟩ : BufTy).Contents (Elt F) → (⟨S2048x1024, .f32⟩ : BufTy).Contents (Elt F) → (⟨S3080x1024, .f32⟩ : BufTy).Contents (Elt F)),
    unary main_v27 main_v28 ((transpose S1024x3080 [1, 0] · transposes_S3080x1024_S1024x3080_1_0) : (⟨S3080x1024, .f32⟩ : BufTy).Contents (Elt F) → (⟨S1024x3080, .f32⟩ : BufTy).Contents (Elt F)),
    unary main_v28 main_v29 ((transpose S3080x1024 [1, 0] · transposes_S1024x3080_S3080x1024_1_0) : (⟨S1024x3080, .f32⟩ : BufTy).Contents (Elt F) → (⟨S3080x1024, .f32⟩ : BufTy).Contents (Elt F)),
    unary main_v29 main_v30 ((truncf .bf16 · bitsLt_bf16_f32) : (⟨S3080x1024, .f32⟩ : BufTy).Contents (Elt F) → (⟨S3080x1024, .bf16⟩ : BufTy).Contents (Elt F)) ]

theorem main_steps (c : Dev nD) : main (F := F) c = seq steps := rfl
theorem no_scoped_refs : (Finset.univ.filter fun b : Ref sig .tc => b.isScoped) = ∅ := by decide
theorem no_scoped_sems : (Finset.univ.filter fun sm : SemLoc sig => sm.isScoped .tc) = ∅ := by decide
theorem steps_bufs : (steps : List (HloOp τ sig (Elt F))).Forall fun op => op.bufs ⊆ tcRefs τ sig :=
  ⟨binary_bufs_sub .., unary_bufs_sub .., unary_bufs_sub .., unary_bufs_sub .., unary_bufs_sub .., unary_bufs_sub .., unary_bufs_sub .., nullary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., binary_bufs_sub .., unary_bufs_sub .., unary_bufs_sub .., unary_bufs_sub ..⟩

/-- The reference's result as a term over its arguments: the input, the modulation, its bias, the norm's weights and the cotangent. -/
def out (x : FVec F S2048x1024 .f32) (mo ba : FVec F S1x6144 .f32) (nw : FVec F S1x1024 .f32) (d : FVec F S2048x3080 .f32) : FVec F S3080x1024 .bf16 :=
  truncf .bf16 (transpose S3080x1024 [1, 0] (transpose S1024x3080 [1, 0] (Host.dotGeneral dot_S2048x3080_S2048x1024_S3080x1024_0_0_1_1_n_n none d (addf (mulf (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 nw)) (broadcastInDim S2048x1024 ![0, 1] bcast_S1x1024_S2048x1024_0_1 (addf (broadcastInDim S1x1024 ![] bcast_S_S1x1024 (constant S_ .f32 0x3F800000#32)) (extractStridedSlice S1x1024 ![0, 1024] (addf mo ba) slices_S1x6144_S1x1024_0_1024)))) (broadcastInDim S2048x1024 ![0, 1] bcast_S1x1024_S2048x1024_0_1 (extractStridedSlice S1x1024 ![0, 0] (addf mo ba) slices_S1x6144_S1x1024_0_0)))) transposes_S3080x1024_S1024x3080_1_0) transposes_S1024x3080_S3080x1024_1_0) bitsLt_bf16_f32

set_option maxHeartbeats 2000000 in
/-- Every run of the reference ends with that result and with its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v30).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq no_scoped_refs no_scoped_sems defs main (fun _ => steps) main_steps (fun _ => steps_bufs) m ρ)

end Cert.WInRef

end
-- ==== Proof.WIn.lean ====
/- The gradient of the input projection's weights: the kernel's blocks of rows, the last of them eight rows high, and the reference's whole product are the same sums. -/
module

public import proofs.«01_k».proof.Proof.Hid
public import proofs.«01_k».proof.Proof.FwdIn
public import proofs.«01_k».proof.Proof.WInFrame
public import proofs.«01_k».proof.Proof.WInRef
public import proofs.«01_k».proof.Defs

@[expose] public section

set_option maxRecDepth 16384

noncomputable section

namespace Cert.WIn
open Idealize.ShloMosaic Idealize.ShloMosaic.TcCoe Idealize.SL.Sem
open Cert.Kernel11Ideal Cert.Kernel11Ideal.Gen

theorem idx : ∀ t : Fin cfg0.N, (t.val < 2 → win0_0.index t = ![0, t.val]) ∧ (2 ≤ t.val → t.val < 6 → win0_1.index t = ![0, t.val - 2])
    ∧ win0_2.index t = ![0, 0] ∧ win0_3.index t = ![0, 0] ∧ win0_4.index t = ![t.val, 0] ∧ t.val < 7 :=
  (by decide +kernel : ∀ t : Fin grid0.N, _)

/-- Row `n` of the modulated norm. -/
def rowH (x : S2048x1024.Idx → EReal) (mo ba : S1x6144.Idx → EReal) (nw : S1x1024.Idx → EReal) (n : Fin 2048) : Fin 1024 → EReal :=
  Hid.hid (fun q => x (ix2 n q)) (fun q => nw (ix2 0 q)) (Hid.part mo ba 0 (by omega)) (Hid.part mo ba 1 (by omega))

/-- Row `k` of the weights' gradient: column `k` of the cotangent against the rows of the norm. -/
def grad (x : S2048x1024.Idx → EReal) (mo ba : S1x6144.Idx → EReal) (nw : S1x1024.Idx → EReal) (d : S2048x3080.Idx → EReal) (k : Fin 3080) (q : Fin 1024) : EReal :=
  ∑ n : Fin 2048, d (ix2 n k) * rowH x mo ba nw n q

/-- What the three kinds of grid point store. -/
theorem pay1_at (X : S2048x512.Idx → EReal) (Y : S2048x1024.Idx → EReal) (k : Fin 512) (q : Fin 1024) :
    k0_pay1 (F := Ideal) X Y (ix2 k q) = ∑ n : Fin 2048, X (ix2 n k) * Y (ix2 n q) := by
  pointwise [k0_pay1]

theorem pay2_at (X : S2048x512.Idx → EReal) (Y : S2048x1024.Idx → EReal) (k : Fin 512) (q : Fin 1024) :
    k0_pay2 (F := Ideal) X Y (ix2 k q) = ∑ n : Fin 2048, X (ix2 n k) * Y (ix2 n q) := by
  pointwise [k0_pay2]

theorem pay3_at (X : S2048x128.Idx → EReal) (Y : S2048x1024.Idx → EReal) (k : Fin 8) (q : Fin 1024) :
    k0_pay3 (F := Ideal) X Y (ix2 k q) = ∑ n : Fin 2048, X (ix2 n ⟨k.val, by omega⟩) * Y (ix2 n q) := by
  pointwise [k0_pay3]

variable (m : (ℓ : Loc nD τ sig) → Buf (Elt Ideal) ℓ) (ρ : Dev nD → PrngReg) (c : Dev nD) (t : Fin cfg0.N)

/-- What the host gives the kernel: the cotangent's last eight columns with zeros after them, its first 1024, its next 2048. -/
theorem hostA : V m c main_v30 = truncf (F := Ideal) .bf16 (extractStridedSlice S2048x1024 ![0, 0] (m ((c : Thread nD τ).loc main_arg4)) slices_S2048x3080_S2048x1024_0_0) bitsLt_bf16_f32 := by
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem hostB : V m c main_v32 = truncf (F := Ideal) .bf16 (extractStridedSlice S2048x2048 ![0, 1024] (m ((c : Thread nD τ).loc main_arg4)) slices_S2048x3080_S2048x2048_0_1024) bitsLt_bf16_f32 := by
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  rfl

theorem blk0 (h : t.val < 2) (n : Fin 2048) (k : Fin 512) : iblk m c 0 t (ix2 n k) = (m ((c : Thread nD τ).loc main_arg4)) (ix2 n ⟨t.val * 512 + k, by omega⟩) := by
  have hi := (idx t).1 h
  have e : (win0_0.blk t).view.emb (ix2 n k) = ix2 n (⟨t.val * 512 + k, by omega⟩ : Fin 1024) := by blk_ext [hi]
  blk_simp [iblk, hi]
  rw [e]
  refine (congrFun (hostA m c) _).trans ?_
  pointwise []

theorem blk1 (h2 : 2 ≤ t.val) (h6 : t.val < 6) (n : Fin 2048) (k : Fin 512) : iblk m c 1 t (ix2 n k) = (m ((c : Thread nD τ).loc main_arg4)) (ix2 n ⟨t.val * 512 + k, by omega⟩) := by
  have hi := (idx t).2.1 h2 h6
  have e : (win0_1.blk t).view.emb (ix2 n k) = ix2 n (⟨(t.val - 2) * 512 + k, by omega⟩ : Fin 2048) := by blk_ext [hi]
  blk_simp [iblk, hi]
  rw [e]
  refine (congrFun (hostB m c) _).trans ?_
  pointwise []
  exact congrArg _ (congrArg (ix2 n) (Fin.ext (show 1024 + ((t.val - 2) * 512 + k.val) = t.val * 512 + k.val by omega)))

theorem blk2 (n : Fin 2048) (k : Fin 8) : iblk m c 2 t (ix2 n (⟨k.val, by omega⟩ : Fin 128)) = (m ((c : Thread nD τ).loc main_arg4)) (ix2 n ⟨3072 + k, by omega⟩) := by
  have hi := (idx t).2.2.1
  have e : (win0_2.blk t).view.emb (ix2 n (⟨k.val, by omega⟩ : Fin 128)) = ix2 n (⟨k.val, by omega⟩ : Fin 128) := by blk_ext [hi]
  blk_simp [iblk, hi]
  rw [e]
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  pointwise []

theorem blk3 (n : Fin 2048) (q : Fin 1024) : iblk m c 3 t (ix2 n q) = rowH (m ((c : Thread nD τ).loc main_arg0)) (m ((c : Thread nD τ).loc main_arg1)) (m ((c : Thread nD τ).loc main_arg2)) (m ((c : Thread nD τ).loc main_arg3)) n q := by
  have hi := (idx t).2.2.2.1
  have e : (win0_3.blk t).view.emb (ix2 n q) = ix2 n q := by blk_ext [hi]
  blk_simp [iblk, hi]
  rw [e]
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.cons_append, List.nil_append, List.append_nil]
  entry_read
  pointwise [rowH, Hid.hid, Hid.inv, Hid.part]

/-- What point `t` writes back, row by row. -/
theorem left_at (k : Fin 512) (q : Fin 1024) (h : t.val * 512 + k.val < 3080) :
    left m c t (ix2 k q) = grad (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + k.val, h⟩ q := by
  have ht := (idx t).2.2.2.2.2
  unfold left
  by_cases h1 : t.val < 2
  · rw [if_pos h1]
    refine (pay1_at _ _ k q).trans ?_
    exact Finset.sum_congr (M := EReal) rfl fun n _ => congrArg₂ (· * ·) (blk0 m c t h1 n k) (blk3 m c t n q)
  · rw [if_neg h1]
    by_cases h2 : t.val < 6
    · rw [if_pos h2]
      refine (pay2_at _ _ k q).trans ?_
      exact Finset.sum_congr (M := EReal) rfl fun n _ => congrArg₂ (· * ·) (blk1 m c t (by omega) h2 n k) (blk3 m c t n q)
    · have h6 : t.val = 6 := by omega
      have hk : k.val < 8 := by omega
      rw [if_neg h2, dif_pos (show ((ix2 k q : S512x1024.Idx) 0).val < 8 from hk)]
      refine (pay3_at _ _ ⟨k.val, hk⟩ q).trans ?_
      refine Finset.sum_congr (M := EReal) rfl fun n _ => congrArg₂ (· * ·) ((blk2 m c t n ⟨k.val, hk⟩).trans (congrArg _ ?_)) (blk3 m c t n q)
      exact congrArg (ix2 n) (Fin.ext (by show 3072 + k.val = t.val * 512 + k.val; omega))

/-- What a write-back moves ends at the array's edge. -/
theorem moved : ∀ t : Fin cfg0.N, win0_4.xsize (grid0.coords t) 0 ≤ 512 ∧ t.val * 512 + win0_4.xsize (grid0.coords t) 0 ≤ 3080 ∧ win0_4.xsize (grid0.coords t) 1 = 1024 :=
  (by decide +kernel : ∀ t : Fin grid0.N, _)

set_option maxHeartbeats 1600000 in
theorem result : (dats m 0 c).arrAt 4 cfg0.N = fun i => grad (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 4 _ (by decide +kernel) fun t hf y => ?_
  have hi := (idx t).2.2.2.2.1
  have ht := (idx t).2.2.2.2.2
  obtain ⟨x1, x2, x3⟩ := moved t
  have y0 : (y 0).val < 512 := lt_of_lt_of_le (y 0).isLt x1
  have y1 : (y 1).val < 1024 := lt_of_lt_of_eq (y 1).isLt x3
  have yk : t.val * 512 + (y 0).val < 3080 := by
    have := lt_of_lt_of_le (Nat.add_lt_add_left (y 0).isLt (t.val * 512)) x2
    exact this
  have e : (win0_4.blk t).view.emb y = ix2 (⟨t.val * 512 + (y 0).val, yk⟩ : Fin 3080) (⟨(y 1).val, y1⟩ : Fin 1024) := by blk_ext [hi]
  have e1 : (win0_4.blk t).view.emb y 1 = (⟨(y 1).val, y1⟩ : Fin 1024) := congrFun e 1
  have e0 : (win0_4.blk t).view.emb y 0 = (⟨t.val * 512 + (y 0).val, yk⟩ : Fin 3080) := congrFun e 0
  have ej : (cfg0.win 4).xinj (cfg0.grid.coords t) y = ix2 (⟨(y 0).val, y0⟩ : Fin 512) (⟨(y 1).val, y1⟩ : Fin 1024) := by
    funext a; fin_cases a <;> rfl
  show (dats m 0 c).after 4 t ((cfg0.win 4).xinj (cfg0.grid.coords t) y) = grad _ _ _ _ _ ((win0_4.blk t).view.emb y 0) ((win0_4.blk t).view.emb y 1)
  rw [e0, e1, after4, ej]
  exact left_at m c t _ _ yk

/-- The run, with the output's array named. -/
theorem run_blocks : θ_run defs (onTc (τ := τ) (main (F := Ideal))) ⟨m, fun _ => 0, ρ⟩ fun r => ∀ c : Dev nD,
      r.2.mem ((c.tc : Thread nD τ).loc main_v33) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.2 c).1 4, h.1 c⟩)
    (θ_run_and (unchanged m ρ) ((θ_run defs _ _).mono (fun _ h => h.1) (run_main m ρ)))

end Cert.WIn

namespace Cert.WIn
open Idealize.ShloMosaic Idealize.ShloMosaic.TcCoe Idealize.SL.Sem
open Cert.Reference11Ideal Cert.Reference11Ideal.Gen

/-- The reference's result. -/
theorem plain (x : FVec Ideal S2048x1024 .f32) (mo ba : FVec Ideal S1x6144 .f32) (nw : FVec Ideal S1x1024 .f32) (d : FVec Ideal S2048x3080 .f32) :
    WInRef.out x mo ba nw d = fun i => grad x mo ba nw d (i 0) (i 1) := by
  refine funext fun i => ?_
  obtain ⟨k, q, rfl⟩ : ∃ (k : Fin 3080) (q : Fin 1024), i = ix2 k q := ⟨i 0, i 1, by funext a; fin_cases a <;> rfl⟩
  pointwise [WInRef.out, grad, rowH, Hid.hid, Hid.inv, Hid.part]

/-- The value claim. -/
theorem value : Cert.algebraic_Kernel11Ideal_Reference11Ideal := by
  intro m g m' g' _ e
  refine ⟨fun c => (dats m 0 c).arrAt 4 Cert.Kernel11Ideal.cfg0.N, run_blocks m g, ?_⟩
  refine (θ_run Cert.Reference11Ideal.defs _ _).mono (fun r h c => ?_) (WInRef.run m' g')
  obtain ⟨h0, hk⟩ := h c
  obtain ⟨e0, e1, e2, e3, e4⟩ := e c
  refine ⟨(h0.trans (plain _ _ _ _ _)).trans ((result m c).trans ?_).symm, hk⟩
  rw [e0, e1, e2, e3, e4]
  rfl

end Cert.WIn

end
-- ==== Proof.AdamW.lean ====
/- One AdamW step at an index, and the sum of the eight sequences' gradients. -/
module
public import proofs.«01_k».proof.Proof.Hid

@[expose] public section

noncomputable section
namespace Cert.AdamW
open Idealize.ShloMosaic

/-- A constant of the step. -/
def cst (b : BitVec 32) : EReal := Scalar.ofBits (F := Ideal) .f32 b

/-- The gradients' running mean, from the old one. -/
def mom (m g : EReal) : EReal := cst 0x3F666666#32 * m + cst 0x3DCCCCCD#32 * g

/-- The running mean of their squares. -/
def sqm (v g : EReal) : EReal := cst 0x3F7FBE77#32 * v + cst 0x3A83126F#32 * (g * g)

/-- The weight's change. -/
def step (w g m v : EReal) : EReal :=
  cst 0xBA83126F#32 * (Ideal.div (Ideal.div (mom m g) (cst 0x3F26BD02#32)) (Ideal.sqrt (Ideal.div (sqm v g) (cst 0x3C231ACC#32)) + cst 0x322BCC77#32)
    + cst 0x3C23D70A#32 * w)

/-- A device's own gradient and the seven others. -/
def total (o : EReal) (p : Fin 7 → EReal) : EReal := o + ∑ j, p j

/-- Added up one after the other. -/
theorem total_eq (o : EReal) (p : Fin 7 → EReal) : o + p 0 + p 1 + p 2 + p 3 + p 4 + p 5 + p 6 = total o p := by
  unfold total
  rw [Fin.sum_univ_seven]
  simp only [add_assoc]

/-- One of the eight parts, loaded and laid flat. -/
theorem part_at {a b : ℕ} {e : EltTy} (B : (⟨3, ![8, a, b]⟩ : Shape).Idx → Elt Ideal e) (p : ℕ) (j : Fin 8) (inb) (h) (k : Fin a) (l : Fin b) (hj : (j : ℕ) = p) :
    shapeCast (⟨2, ![a, b]⟩ : Shape) (View.ld (Val := Elt Ideal) (e' := e) B (Rect.unit (s := ⟨3, ![8, a, b]⟩) ![p, 0, 0] ![1, a, b] inb)) h (ix2 k l) = B (ix3 j k l) := by
  refine (shapeCast_dropUnit_apply ![a, b] _ h (ix2 k l)).trans (congrArg B ?_)
  funext i; apply Fin.ext; fin_cases i <;> simp [hj] <;> rfl

/-- The gradient at an index: of the eight arrays, the first is replaced by the device's own. -/
def tot {a b : ℕ} (p : (⟨3, ![8, a, b]⟩ : Shape).Idx → EReal) (o : (⟨2, ![a, b]⟩ : Shape).Idx → EReal) (k : Fin a) (l : Fin b) : EReal :=
  total (o (ix2 k l)) fun j => p (ix3 j.succ k l)

/-- A whole block, loaded. -/
theorem whole {a b : ℕ} {e : EltTy} (x : (⟨2, ![a, b]⟩ : Shape).Idx → Elt Ideal e) (inb) :
    View.ld (Val := Elt Ideal) (e' := e) x (Rect.unit (s := ⟨2, ![a, b]⟩) ![0, 0] ![a, b] inb) = x :=
  View.ld_unit_zero (Val := Elt Ideal) (S := ⟨2, ![a, b]⟩) (e := e) (funext fun i => by fin_cases i <;> rfl) inb x

/-- A whole block, loaded and kept at its shape. -/
theorem whole_kept {a b : ℕ} (x : (⟨2, ![a, b]⟩ : Shape).Idx → EReal) (inb) (h) (i : (⟨2, ![a, b]⟩ : Shape).Idx) :
    shapeCast (⟨2, ![a, b]⟩ : Shape) (View.ld (Val := Elt Ideal) (e' := .f32) x (Rect.unit (s := ⟨2, ![a, b]⟩) ![0, 0] ![a, b] inb)) h i = x i :=
  (congrFun (shapeCast_self _ h) i).trans (congrFun (whole (e := .f32) x inb) i)

/-- A block stored whole. -/
theorem stored {a b : ℕ} {e : EltTy} (x : (⟨2, ![a, b]⟩ : Shape).Idx → Elt Ideal e) (inb) :
    View.canon [(⟨Rect.unit (s := ⟨2, ![a, b]⟩) ![0, 0] ![a, b] inb, x⟩ : View.Piece (Elt Ideal) ⟨2, ![a, b]⟩ e)] = x :=
  View.canon_unit_zero (Val := Elt Ideal) (S := ⟨2, ![a, b]⟩) (e := e) (funext fun i => by fin_cases i <;> rfl) inb x

/-- One of the eight parts at an index, as a block's program reads it. -/
abbrev part {a b : ℕ} (B : (⟨3, ![8, a, b]⟩ : Shape).Idx → EReal) (p : ℕ) (inb : ∀ i : Fin 3, ![p, 0, 0] i + ![1, a, b] i ≤ ![8, a, b] i)
    (h : (Rect.unit (s := ⟨3, ![8, a, b]⟩) ![p, 0, 0] ![1, a, b] inb).shape.ShapeCasts ⟨2, ![a, b]⟩) (k : Fin a) (l : Fin b) : EReal :=
  shapeCast (⟨2, ![a, b]⟩ : Shape) (View.ld (Val := Elt Ideal) (e' := .f32) B (Rect.unit (s := ⟨3, ![8, a, b]⟩) ![p, 0, 0] ![1, a, b] inb)) h (ix2 k l)

/-- What a block's program adds up is the gradient. -/
theorem loads {a b : ℕ} (B : (⟨3, ![8, a, b]⟩ : Shape).Idx → EReal) (O : (⟨2, ![a, b]⟩ : Shape).Idx → EReal) (k : Fin a) (l : Fin b)
    {i0 i1 i2 i3 i4 i5 i6 i7 h1 h2 h3 h4 h5 h6 h7} :
    (View.ld (Val := Elt Ideal) (e' := .f32) O (Rect.unit (s := ⟨2, ![a, b]⟩) ![0, 0] ![a, b] i0) (ix2 k l) : EReal) + part B 1 i1 h1 k l + part B 2 i2 h2 k l + part B 3 i3 h3 k l + part B 4 i4 h4 k l
      + part B 5 i5 h5 k l + part B 6 i6 h6 k l + part B 7 i7 h7 k l = tot B O k l := by
  refine Eq.trans ?_ (total_eq (O (ix2 k l)) fun j => B (ix3 j.succ k l))
  rw [whole (e := .f32)]
  exact congrArg₂ (· + ·) (congrArg₂ (· + ·) (congrArg₂ (· + ·) (congrArg₂ (· + ·) (congrArg₂ (· + ·) (congrArg₂ (· + ·) (congrArg₂ (· + ·) rfl
    (part_at (e := .f32) B 1 1 i1 h1 k l rfl)) (part_at (e := .f32) B 2 2 i2 h2 k l rfl)) (part_at (e := .f32) B 3 3 i3 h3 k l rfl)) (part_at (e := .f32) B 4 4 i4 h4 k l rfl))
    (part_at (e := .f32) B 5 5 i5 h5 k l rfl)) (part_at (e := .f32) B 6 6 i6 h6 k l rfl)) (part_at (e := .f32) B 7 7 i7 h7 k l rfl)

/-- A block's gradient is the arrays'. -/
theorem tot_eq {a b a' b' : ℕ} {p : (⟨3, ![8, a, b]⟩ : Shape).Idx → EReal} {o : (⟨2, ![a, b]⟩ : Shape).Idx → EReal} {p' : (⟨3, ![8, a', b']⟩ : Shape).Idx → EReal}
    {o' : (⟨2, ![a', b']⟩ : Shape).Idx → EReal} {k : Fin a} {l : Fin b} {k' : Fin a'} {l' : Fin b'} (hp : ∀ j, p (ix3 j k l) = p' (ix3 j k' l'))
    (ho : o (ix2 k l) = o' (ix2 k' l')) : tot p o k l = tot p' o' k' l' := by
  unfold tot
  simp only [hp, ho]

/-- The step, of equal parts. -/
theorem step_eq {w g m v w' g' m' v' : EReal} (hw : w = w') (hg : g = g') (hm : m = m') (hv : v = v') : step w g m v = step w' g' m' v' := by
  rw [hw, hg, hm, hv]

/-- The reference's seven parts are the last seven of the eight. -/
theorem succs {a b : ℕ} (p : (⟨3, ![8, a, b]⟩ : Shape).Idx → EReal) (o : EReal) (k : Fin a) (l : Fin b) (h : ∀ j : Fin 7, 1 + j.val < 8) :
    o + ∑ j : Fin 7, p (ix3 ⟨1 + j.val, h j⟩ k l) = total o fun j => p (ix3 j.succ k l) :=
  congrArg (o + ·) (Finset.sum_congr (M := EReal) rfl fun j _ => congrArg p (congrArg (ix3 · k l) (Fin.ext (Nat.add_comm 1 j))))

end Cert.AdamW

end
-- ==== Proof.AdaAdam.lean ====
/- The modulation's weights: their gradient, summed over the eight sequences, and the AdamW step, block of rows by block of rows and as the reference has them. -/
module
public import proofs.«01_k».proof.Proof.AdamW
public import proofs.«01_k».proof.Proof.Gen.Kernel12Ideal.Value
public import proofs.«01_k».proof.Proof.Gen.Reference12Ideal.Run
public import proofs.«01_k».proof.Defs

@[expose] public section

set_option maxRecDepth 16384

noncomputable section
namespace Cert.AdaAdam
open Idealize.ShloMosaic Idealize.ShloMosaic.TcCoe Idealize.SL.Sem
open Cert.Kernel12Ideal Cert.Kernel12Ideal.Gen Cert.AdamW

theorem idx : ∀ t : Fin cfg0.N, (win0_0.index t = ![0, t.val] ∧ win0_1.index t = ![0, 0] ∧ win0_2.index t = ![t.val, 0] ∧ win0_3.index t = ![t.val, 0] ∧ win0_4.index t = ![t.val, 0])
    ∧ (win0_5.index t = ![t.val, 0] ∧ win0_6.index t = ![t.val, 0] ∧ win0_7.index t = ![t.val, 0] ∧ win0_8.index t = ![t.val, 0]) ∧ t.val < 4 :=
  (by decide +kernel : ∀ t : Fin grid0.N, _)

/-- The weights' gradient: the conditioning through SiLU times the modulation's gradient, summed over the sequences. -/
def gr (x : S8x1024.Idx → EReal) (d : S8x768.Idx → EReal) (i : Fin 1024) (q : Fin 768) : EReal :=
  ∑ n : Fin 8, x (ix2 n i) * Ideal.logistic (x (ix2 n i)) * d (ix2 n q)

/-- What a grid point stores as the gradient. -/
theorem pay_at (X : S8x256.Idx → EReal) (D : S8x768.Idx → EReal) (k : Fin 256) (q : Fin 768) :
    k0_pay1 (F := Ideal) X D (ix2 k q) = ∑ n : Fin 8, X (ix2 n k) * Ideal.logistic (X (ix2 n k)) * D (ix2 n q) := by
  pointwise [k0_pay1]

/-- The other three, from the gradient and the blocks. -/
theorem pay2_at (X : S8x256.Idx → EReal) (D : S8x768.Idx → EReal) (M : S256x768.Idx → EReal) (y : S256x768.Idx) :
    k0_pay2 (F := Ideal) X D M y = mom (M y) (k0_pay1 (F := Ideal) X D y) := rfl

theorem pay3_at (X : S8x256.Idx → EReal) (D : S8x768.Idx → EReal) (V : S256x768.Idx → EReal) (y : S256x768.Idx) :
    k0_pay3 (F := Ideal) X D V y = sqm (V y) (k0_pay1 (F := Ideal) X D y) := rfl

theorem pay4_at (X : S8x256.Idx → EReal) (D : S8x768.Idx → EReal) (W M V : S256x768.Idx → EReal) (y : S256x768.Idx) :
    k0_pay4 (F := Ideal) X D W M V y = step (W y) (k0_pay1 (F := Ideal) X D y) (M y) (V y) := rfl

variable (m : (ℓ : Loc nD τ sig) → Buf (Elt Ideal) ℓ) (c : Dev nD) (t : Fin cfg0.N)

theorem blk0 (n : Fin 8) (k : Fin 256) (h : t.val * 256 + k < 1024) :
    iblk m c 0 t (ix2 n k) = m ((c : Thread nD τ).loc main_arg0) (ix2 n ⟨t.val * 256 + k, h⟩) := by
  have e : (win0_0.blk t).view.emb (ix2 n k) = ix2 n ⟨t.val * 256 + k, h⟩ := by blk_ext [idx t]
  blk_simp [iblk, idx t]
  rw [e]

theorem blk1 (n : Fin 8) (q : Fin 768) : iblk m c 1 t (ix2 n q) = m ((c : Thread nD τ).loc main_arg1) (ix2 n q) := by
  have e : (win0_1.blk t).view.emb (ix2 n q) = ix2 n q := by blk_ext [idx t]
  blk_simp [iblk, idx t]
  rw [e]

theorem blk2 (k : Fin 256) (q : Fin 768) (h : t.val * 256 + k < 1024) :
    iblk m c 2 t (ix2 k q) = m ((c : Thread nD τ).loc main_arg2) (ix2 (⟨t.val * 256 + k, h⟩ : Fin 1024) q) := by
  have e : (win0_2.blk t).view.emb (ix2 k q) = ix2 (⟨t.val * 256 + k, h⟩ : Fin 1024) q := by blk_ext [idx t]
  blk_simp [iblk, idx t]
  rw [e]

theorem blk3 (k : Fin 256) (q : Fin 768) (h : t.val * 256 + k < 1024) :
    iblk m c 3 t (ix2 k q) = m ((c : Thread nD τ).loc main_arg3) (ix2 (⟨t.val * 256 + k, h⟩ : Fin 1024) q) := by
  have e : (win0_3.blk t).view.emb (ix2 k q) = ix2 (⟨t.val * 256 + k, h⟩ : Fin 1024) q := by blk_ext [idx t]
  blk_simp [iblk, idx t]
  rw [e]

theorem blk4 (k : Fin 256) (q : Fin 768) (h : t.val * 256 + k < 1024) :
    iblk m c 4 t (ix2 k q) = m ((c : Thread nD τ).loc main_arg4) (ix2 (⟨t.val * 256 + k, h⟩ : Fin 1024) q) := by
  have e : (win0_4.blk t).view.emb (ix2 k q) = ix2 (⟨t.val * 256 + k, h⟩ : Fin 1024) q := by blk_ext [idx t]
  blk_simp [iblk, idx t]
  rw [e]

/-- The gradient that a grid point stores, of the arguments. -/
theorem gr_at (k : Fin 256) (q : Fin 768) (h : t.val * 256 + k < 1024) :
    k0_pay1 (F := Ideal) (iblk m c 0 t) (iblk m c 1 t) (ix2 k q) = gr (m ((c : Thread nD τ).loc main_arg0)) (m ((c : Thread nD τ).loc main_arg1)) ⟨t.val * 256 + k, h⟩ q := by
  refine (pay_at _ _ k q).trans (Finset.sum_congr (M := EReal) rfl fun n _ => ?_)
  rw [blk0 m c t n k h, blk1 m c t n q]

/-- The four results of the arguments, at an index. -/
def r5 (x : S8x1024.Idx → EReal) (d : S8x768.Idx → EReal) : S1024x768.Idx → EReal := fun i => gr x d (i 0) (i 1)
def r6 (x : S8x1024.Idx → EReal) (d : S8x768.Idx → EReal) (w M V : S1024x768.Idx → EReal) : S1024x768.Idx → EReal := fun i => step (w i) (gr x d (i 0) (i 1)) (M i) (V i)
def r7 (x : S8x1024.Idx → EReal) (d : S8x768.Idx → EReal) (M : S1024x768.Idx → EReal) : S1024x768.Idx → EReal := fun i => mom (M i) (gr x d (i 0) (i 1))
def r8 (x : S8x1024.Idx → EReal) (d : S8x768.Idx → EReal) (V : S1024x768.Idx → EReal) : S1024x768.Idx → EReal := fun i => sqm (V i) (gr x d (i 0) (i 1))

theorem result5 : (dats m 0 c).arrAt 5 cfg0.N = r5 (m ((c : Thread nD τ).loc main_arg0)) (m ((c : Thread nD τ).loc main_arg1)) := by
  refine (dats m 0 c).arrAt_eq_of_covers 5 _ (by decide +kernel) fun t hf y => ?_
  have ht := (idx t).2.2
  blk_simp
  rw [after0_5]
  obtain ⟨k, q, rfl⟩ : ∃ (k : Fin 256) (q : Fin 768), y = ix2 k q := ⟨y 0, y 1, by funext a; fin_cases a <;> rfl⟩
  have e : (win0_5.blk t).view.emb (ix2 k q) = ix2 (⟨t.val * 256 + k, by omega⟩ : Fin 1024) q := by blk_ext [idx t]
  refine Eq.trans ?_ (congrArg (r5 _ _) e).symm
  frame_out
  exact gr_at m c t k q (by omega)

theorem result6 : (dats m 0 c).arrAt 6 cfg0.N = r6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := (idx t).2.2
  blk_simp
  rw [after0_6]
  obtain ⟨k, q, rfl⟩ : ∃ (k : Fin 256) (q : Fin 768), y = ix2 k q := ⟨y 0, y 1, by funext a; fin_cases a <;> rfl⟩
  have e : (win0_6.blk t).view.emb (ix2 k q) = ix2 (⟨t.val * 256 + k, by omega⟩ : Fin 1024) q := by blk_ext [idx t]
  refine Eq.trans ?_ (congrArg (r6 _ _ _ _ _) e).symm
  frame_out
  refine (pay4_at _ _ _ _ _ _).trans ?_
  rw [gr_at m c t k q (by omega), blk2 m c t k q (by omega), blk3 m c t k q (by omega), blk4 m c t k q (by omega)]
  rfl

theorem result7 : (dats m 0 c).arrAt 7 cfg0.N = r7 (m ((c : Thread nD τ).loc main_arg0)) (m ((c : Thread nD τ).loc main_arg1)) (m ((c : Thread nD τ).loc main_arg3)) := by
  refine (dats m 0 c).arrAt_eq_of_covers 7 _ (by decide +kernel) fun t hf y => ?_
  have ht := (idx t).2.2
  blk_simp
  rw [after0_7]
  obtain ⟨k, q, rfl⟩ : ∃ (k : Fin 256) (q : Fin 768), y = ix2 k q := ⟨y 0, y 1, by funext a; fin_cases a <;> rfl⟩
  have e : (win0_7.blk t).view.emb (ix2 k q) = ix2 (⟨t.val * 256 + k, by omega⟩ : Fin 1024) q := by blk_ext [idx t]
  refine Eq.trans ?_ (congrArg (r7 _ _ _) e).symm
  frame_out
  refine (pay2_at _ _ _ _).trans ?_
  rw [gr_at m c t k q (by omega), blk3 m c t k q (by omega)]
  rfl

theorem result8 : (dats m 0 c).arrAt 8 cfg0.N = r8 (m ((c : Thread nD τ).loc main_arg0)) (m ((c : Thread nD τ).loc main_arg1)) (m ((c : Thread nD τ).loc main_arg4)) := by
  refine (dats m 0 c).arrAt_eq_of_covers 8 _ (by decide +kernel) fun t hf y => ?_
  have ht := (idx t).2.2
  blk_simp
  rw [after0_8]
  obtain ⟨k, q, rfl⟩ : ∃ (k : Fin 256) (q : Fin 768), y = ix2 k q := ⟨y 0, y 1, by funext a; fin_cases a <;> rfl⟩
  have e : (win0_8.blk t).view.emb (ix2 k q) = ix2 (⟨t.val * 256 + k, by omega⟩ : Fin 1024) q := by blk_ext [idx t]
  refine Eq.trans ?_ (congrArg (r8 _ _ _) e).symm
  frame_out
  refine (pay3_at _ _ _ _).trans ?_
  rw [gr_at m c t k q (by omega), blk4 m c t k q (by omega)]
  rfl

end Cert.AdaAdam

namespace Cert.AdaAdam
open Idealize.ShloMosaic Idealize.ShloMosaic.TcCoe Idealize.SL.Sem
open Cert.Reference12Ideal Cert.Reference12Ideal.Gen Cert.AdamW

/-- The reference's gradient. -/
theorem plain (x : FVec Ideal S8x1024 .f32) (d : FVec Ideal S8x768 .f32) :
    (transpose S1024x768 [1, 0] (Host.dotGeneral dot_S8x768_S8x1024_S768x1024_0_0_1_1_n_n none d (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x)))))) transposes_S768x1024_S1024x768_1_0 : FVec Ideal S1024x768 .f32)
      = r5 x d := by
  refine funext fun i => ?_
  obtain ⟨n, q, rfl⟩ : ∃ (n : Fin 1024) (q : Fin 768), i = ix2 n q := ⟨i 0, i 1, by funext a; fin_cases a <;> rfl⟩
  pointwise [r5, gr]
  exact Finset.sum_congr (M := EReal) rfl fun k _ => mul_comm _ _

/-- The value claim. -/
theorem value : Cert.algebraic_Kernel12Ideal_Reference12Ideal := by
  intro m g m' g' _ e
  refine ⟨fun c => (Cert.Kernel12Ideal.Gen.dats m 0 c).arrAt 5 Cert.Kernel12Ideal.cfg0.N, fun c => (Cert.Kernel12Ideal.Gen.dats m 0 c).arrAt 6 Cert.Kernel12Ideal.cfg0.N,
    fun c => (Cert.Kernel12Ideal.Gen.dats m 0 c).arrAt 7 Cert.Kernel12Ideal.cfg0.N, fun c => (Cert.Kernel12Ideal.Gen.dats m 0 c).arrAt 8 Cert.Kernel12Ideal.cfg0.N, Cert.Kernel12Ideal.Value.run_blocks m g, ?_⟩
  refine (θ_run Cert.Reference12Ideal.defs _ _).mono (fun r h c => ?_) (Cert.Reference12Ideal.Value.run m' g')
  obtain ⟨h0, h1, h2, h3, hk⟩ := h c
  obtain ⟨e0, e1, e2, e3, e4⟩ := e c
  rw [plain] at h0 h1 h2 h3
  rw [e0, e1] at h0 h1 h2 h3
  rw [e2, e3, e4] at h1
  rw [e3] at h2
  rw [e4] at h3
  exact ⟨h0.trans (result5 m c).symm, h1.trans (result6 m c).symm, h2.trans (result7 m c).symm, h3.trans (result8 m c).symm, hk⟩

end Cert.AdaAdam

end
-- ==== Proof.ModShard.lean ====
/- The modulation of every sequence on a device's columns: a product of the conditioning through SiLU. -/
module
public import proofs.«01_k».proof.Proof.AdamW
public import proofs.«01_k».proof.Proof.Gen.Kernel13Ideal.Value
public import proofs.«01_k».proof.Proof.Gen.Reference13Ideal.Run
public import proofs.«01_k».proof.Defs

@[expose] public section

set_option maxRecDepth 16384

noncomputable section
namespace Cert.ModShard
open Idealize.ShloMosaic Idealize.ShloMosaic.TcCoe Idealize.SL.Sem

/-- SiLU of the conditioning times the weights. -/
def out (x : Cert.Kernel13Ideal.S8x1024.Idx → EReal) (w : Cert.Kernel13Ideal.S1024x768.Idx → EReal) (n : Fin 8) (q : Fin 768) : EReal :=
  ∑ k : Fin 1024, x (ix2 n k) * Ideal.logistic (x (ix2 n k)) * w (ix2 k q)

/-- What the kernel stores. -/
theorem stored (x : Cert.Kernel13Ideal.S8x1024.Idx → EReal) (w : Cert.Kernel13Ideal.S1024x768.Idx → EReal) :
    Cert.Kernel13Ideal.Gen.k0_pay1 (F := Ideal) x w = fun i => out x w (i 0) (i 1) := by
  refine funext fun i => ?_
  obtain ⟨n, q, rfl⟩ : ∃ (n : Fin 8) (q : Fin 768), i = ix2 n q := ⟨i 0, i 1, by funext a; fin_cases a <;> rfl⟩
  pointwise [Cert.Kernel13Ideal.Gen.k0_pay1, out]

open Cert.Reference13Ideal Cert.Reference13Ideal.Gen

/-- The reference's product. -/
theorem plain (x : FVec Ideal S8x1024 .f32) (w : FVec Ideal S1024x768 .f32) :
    (Host.dotGeneral dot_S8x1024_S1024x768_S8x768_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) w : FVec Ideal S8x768 .f32)
      = fun i => out x w (i 0) (i 1) := by
  refine funext fun i => ?_
  obtain ⟨n, q, rfl⟩ : ∃ (n : Fin 8) (q : Fin 768), i = ix2 n q := ⟨i 0, i 1, by funext a; fin_cases a <;> rfl⟩
  pointwise [out]
  rfl

/-- The value claim. -/
theorem value : Cert.algebraic_Kernel13Ideal_Reference13Ideal := by
  intro m g m' g' _ e
  refine ⟨_, Cert.Kernel13Ideal.Value.run m g, ?_⟩
  refine (θ_run Cert.Reference13Ideal.defs _ _).mono (fun r h c => ?_) (Cert.Reference13Ideal.Value.run m' g')
  obtain ⟨h0, hk⟩ := h c
  obtain ⟨e0, e1⟩ := e c
  rw [plain, e0, e1] at h0
  exact ⟨h0.trans (stored _ _).symm, hk⟩

end Cert.ModShard

end
-- ==== Proof.SumOut.lean ====
/- The output projection's weights: a device's own gradient and its seven copies added up, and the AdamW step. -/
module
public import proofs.«01_k».proof.Proof.AdamW
public import proofs.«01_k».proof.Proof.Gen.Kernel14Ideal.Value
public import proofs.«01_k».proof.Proof.Gen.Reference14Ideal.Run
public import proofs.«01_k».proof.Defs

@[expose] public section

set_option maxRecDepth 16384

noncomputable section
namespace Cert.SumOut
open Idealize.ShloMosaic Idealize.ShloMosaic.TcCoe Idealize.SL.Sem

section kernel
open Cert.Kernel14Ideal Cert.Kernel14Ideal.Gen Cert.Kernel14Ideal.Value Cert.AdamW

variable (p : S8x128x1024.Idx → EReal) (w M V o : S128x1024.Idx → EReal)

/-- What the kernel stores, at an index: the gradient, -/
theorem out5 : out0_5 (F := Ideal) p w M V o = fun i => tot p o (i 0) (i 1) := by
  rw [out0_5]
  refine (stored (e := .f32) _ _).trans (funext fun i => ?_)
  obtain ⟨k, l, rfl⟩ : ∃ (k : Fin 128) (l : Fin 1024), i = ix2 k l := ⟨i 0, i 1, by funext x; fin_cases x <;> rfl⟩
  exact loads p o k l

/-- the step, -/
theorem out6 : out0_6 (F := Ideal) p w M V o = fun i => step (w i) (tot p o (i 0) (i 1)) (M i) (V i) := by
  rw [out0_6]
  refine (stored (e := .f32) _ _).trans (funext fun i => ?_)
  obtain ⟨k, l, rfl⟩ : ∃ (k : Fin 128) (l : Fin 1024), i = ix2 k l := ⟨i 0, i 1, by funext x; fin_cases x <;> rfl⟩
  exact step_eq (congrFun (whole (e := .f32) w _) _) (loads p o k l) (congrFun (whole (e := .f32) M _) _) (congrFun (whole (e := .f32) V _) _)

/-- the mean, -/
theorem out7 : out0_7 (F := Ideal) p w M V o = fun i => mom (M i) (tot p o (i 0) (i 1)) := by
  rw [out0_7]
  refine (stored (e := .f32) _ _).trans (funext fun i => ?_)
  obtain ⟨k, l, rfl⟩ : ∃ (k : Fin 128) (l : Fin 1024), i = ix2 k l := ⟨i 0, i 1, by funext x; fin_cases x <;> rfl⟩
  exact congrArg₂ mom (congrFun (whole (e := .f32) M _) _) (loads p o k l)

/-- the squares' mean. -/
theorem out8 : out0_8 (F := Ideal) p w M V o = fun i => sqm (V i) (tot p o (i 0) (i 1)) := by
  rw [out0_8]
  refine (stored (e := .f32) _ _).trans (funext fun i => ?_)
  obtain ⟨k, l, rfl⟩ : ∃ (k : Fin 128) (l : Fin 1024), i = ix2 k l := ⟨i 0, i 1, by funext x; fin_cases x <;> rfl⟩
  exact congrArg₂ sqm (congrFun (whole (e := .f32) V _) _) (loads p o k l)

end kernel

open Cert.Reference14Ideal Cert.Reference14Ideal.Gen Cert.AdamW

/-- The reference's sum. -/
theorem plain (p : FVec Ideal S8x128x1024 .bf16) (o : FVec Ideal S128x1024 .bf16) :
    (addf (extf .f32 o bitsLt_bf16_f32) (Host.reduceAdd (extf .f32 (extractStridedSlice S7x128x1024 ![1, 0, 0] p slices_S8x128x1024_S7x128x1024_1_0_0) bitsLt_bf16_f32) (constant S_ .f32 0x00000000#32) reducesTo_S7x128x1024_S128x1024_d0 h_S_) : FVec Ideal S128x1024 .f32)
      = fun i => tot p o (i 0) (i 1) := by
  refine funext fun i => ?_
  obtain ⟨k, l, rfl⟩ : ∃ (k : Fin 128) (l : Fin 1024), i = ix2 k l := ⟨i 0, i 1, by funext x; fin_cases x <;> rfl⟩
  pointwise [tot]
  exact succs p _ k l _

/-- The value claim. -/
theorem value : Cert.algebraic_Kernel14Ideal_Reference14Ideal := by
  intro m g m' g' _ e
  refine ⟨_, _, _, _, Cert.Kernel14Ideal.Value.run m g, ?_⟩
  refine (θ_run Cert.Reference14Ideal.defs _ _).mono (fun r h c => ?_) (Cert.Reference14Ideal.Value.run m' g')
  obtain ⟨h0, h1, h2, h3, hk⟩ := h c
  obtain ⟨e0, e1, e2, e3, e4⟩ := e c
  rw [plain] at h0 h1 h2 h3
  rw [e0, e1] at h0 h1 h2 h3
  rw [e2, e3, e4] at h1
  rw [e3] at h2
  rw [e4] at h3
  refine ⟨h0.trans ?_, h1.trans ?_, h2.trans ?_, h3.trans ?_, hk⟩
  · exact ((Cert.Kernel14Ideal.Value.out5_eq _ _ _ _ _).symm.trans (out5 _ _ _ _ _)).symm
  · exact ((Cert.Kernel14Ideal.Value.out6_eq _ _ _ _ _).symm.trans (out6 _ _ _ _ _)).symm
  · exact ((Cert.Kernel14Ideal.Value.out7_eq _ _ _ _ _).symm.trans (out7 _ _ _ _ _)).symm
  · exact ((Cert.Kernel14Ideal.Value.out8_eq _ _ _ _ _).symm.trans (out8 _ _ _ _ _)).symm

end Cert.SumOut

end
-- ==== Proof.SumFfnOut.lean ====
/- The feed-forward output's weights: a device's own gradient and its seven copies added up, and the AdamW step, a block of rows at a time. -/
module
public import proofs.«01_k».proof.Proof.AdamW
public import proofs.«01_k».proof.Proof.Gen.Kernel15Ideal.Value
public import proofs.«01_k».proof.Proof.Gen.Reference15Ideal.Run
public import proofs.«01_k».proof.Defs

@[expose] public section

set_option maxRecDepth 16384

noncomputable section
namespace Cert.SumFfnOut
open Idealize.ShloMosaic Idealize.ShloMosaic.TcCoe Idealize.SL.Sem

section kernel
open Cert.Kernel15Ideal Cert.Kernel15Ideal.Gen Cert.Kernel15Ideal.Value Cert.AdamW

section block
variable (p : S8x176x1024.Idx → EReal) (w M V o : S176x1024.Idx → EReal)

/-- What the kernel stores, at an index: the gradient, -/
theorem out5 : out0_5 (F := Ideal) p w M V o = fun i => tot p o (i 0) (i 1) := by
  rw [out0_5]
  refine (stored (e := .f32) _ _).trans (funext fun i => ?_)
  obtain ⟨k, l, rfl⟩ : ∃ (k : Fin 176) (l : Fin 1024), i = ix2 k l := ⟨i 0, i 1, by funext x; fin_cases x <;> rfl⟩
  exact loads p o k l

/-- the step, -/
theorem out6 : out0_6 (F := Ideal) p w M V o = fun i => step (w i) (tot p o (i 0) (i 1)) (M i) (V i) := by
  rw [out0_6]
  refine (stored (e := .f32) _ _).trans (funext fun i => ?_)
  obtain ⟨k, l, rfl⟩ : ∃ (k : Fin 176) (l : Fin 1024), i = ix2 k l := ⟨i 0, i 1, by funext x; fin_cases x <;> rfl⟩
  exact step_eq (congrFun (whole (e := .f32) w _) _) (loads p o k l) (congrFun (whole (e := .f32) M _) _) (congrFun (whole (e := .f32) V _) _)

/-- the mean, -/
theorem out7 : out0_7 (F := Ideal) p w M V o = fun i => mom (M i) (tot p o (i 0) (i 1)) := by
  rw [out0_7]
  refine (stored (e := .f32) _ _).trans (funext fun i => ?_)
  obtain ⟨k, l, rfl⟩ : ∃ (k : Fin 176) (l : Fin 1024), i = ix2 k l := ⟨i 0, i 1, by funext x; fin_cases x <;> rfl⟩
  exact congrArg₂ mom (congrFun (whole (e := .f32) M _) _) (loads p o k l)

/-- the squares' mean. -/
theorem out8 : out0_8 (F := Ideal) p w M V o = fun i => sqm (V i) (tot p o (i 0) (i 1)) := by
  rw [out0_8]
  refine (stored (e := .f32) _ _).trans (funext fun i => ?_)
  obtain ⟨k, l, rfl⟩ : ∃ (k : Fin 176) (l : Fin 1024), i = ix2 k l := ⟨i 0, i 1, by funext x; fin_cases x <;> rfl⟩
  exact congrArg₂ sqm (congrFun (whole (e := .f32) V _) _) (loads p o k l)

end block

theorem idx : ∀ t : Fin cfg0.N, (win0_0.index t = ![0, t.val, 0] ∧ win0_1.index t = ![t.val, 0] ∧ win0_2.index t = ![t.val, 0] ∧ win0_3.index t = ![t.val, 0] ∧ win0_4.index t = ![t.val, 0])
    ∧ (win0_5.index t = ![t.val, 0] ∧ win0_6.index t = ![t.val, 0] ∧ win0_7.index t = ![t.val, 0] ∧ win0_8.index t = ![t.val, 0]) ∧ t.val < 2 :=
  (by decide +kernel : ∀ t : Fin grid0.N, _)

variable (m : (ℓ : Loc nD τ sig) → Buf (Elt Ideal) ℓ) (c : Dev nD) (t : Fin cfg0.N)

theorem blk0 (j : Fin 8) (k : Fin 176) (l : Fin 1024) (h : t.val * 176 + k < 352) :
    iblk m c 0 t (ix3 j k l) = m ((c : Thread nD τ).loc main_arg0) (ix3 j (⟨t.val * 176 + k, h⟩ : Fin 352) l) := by
  have e : (win0_0.blk t).view.emb (ix3 j k l) = ix3 j (⟨t.val * 176 + k, h⟩ : Fin 352) l := by blk_ext [idx t]
  blk_simp [iblk, idx t]
  rw [e]

theorem blk1 (k : Fin 176) (l : Fin 1024) (h : t.val * 176 + k < 352) :
    iblk m c 1 t (ix2 k l) = m ((c : Thread nD τ).loc main_arg2) (ix2 (⟨t.val * 176 + k, h⟩ : Fin 352) l) := by
  have e : (win0_1.blk t).view.emb (ix2 k l) = ix2 (⟨t.val * 176 + k, h⟩ : Fin 352) l := by blk_ext [idx t]
  blk_simp [iblk, idx t]
  rw [e]

theorem blk2 (k : Fin 176) (l : Fin 1024) (h : t.val * 176 + k < 352) :
    iblk m c 2 t (ix2 k l) = m ((c : Thread nD τ).loc main_arg3) (ix2 (⟨t.val * 176 + k, h⟩ : Fin 352) l) := by
  have e : (win0_2.blk t).view.emb (ix2 k l) = ix2 (⟨t.val * 176 + k, h⟩ : Fin 352) l := by blk_ext [idx t]
  blk_simp [iblk, idx t]
  rw [e]

theorem blk3 (k : Fin 176) (l : Fin 1024) (h : t.val * 176 + k < 352) :
    iblk m c 3 t (ix2 k l) = m ((c : Thread nD τ).loc main_arg4) (ix2 (⟨t.val * 176 + k, h⟩ : Fin 352) l) := by
  have e : (win0_3.blk t).view.emb (ix2 k l) = ix2 (⟨t.val * 176 + k, h⟩ : Fin 352) l := by blk_ext [idx t]
  blk_simp [iblk, idx t]
  rw [e]

theorem blk4 (k : Fin 176) (l : Fin 1024) (h : t.val * 176 + k < 352) :
    iblk m c 4 t (ix2 k l) = m ((c : Thread nD τ).loc main_arg1) (ix2 (⟨t.val * 176 + k, h⟩ : Fin 352) l) := by
  have e : (win0_4.blk t).view.emb (ix2 k l) = ix2 (⟨t.val * 176 + k, h⟩ : Fin 352) l := by blk_ext [idx t]
  blk_simp [iblk, idx t]
  rw [e]

/-- The gradient of a block, of the arguments. -/
theorem tot_at (k : Fin 176) (l : Fin 1024) (h : t.val * 176 + k < 352) :
    tot (iblk m c 0 t) (iblk m c 4 t) k l = tot (m ((c : Thread nD τ).loc main_arg0)) (m ((c : Thread nD τ).loc main_arg1)) (⟨t.val * 176 + k, h⟩ : Fin 352) l :=
  tot_eq (fun j => blk0 m c t j k l h) (blk4 m c t k l h)

/-- The four results of the arguments, at an index. -/
def r5 (p : S8x352x1024.Idx → EReal) (o : S352x1024.Idx → EReal) : S352x1024.Idx → EReal := fun i => tot p o (i 0) (i 1)
def r6 (p : S8x352x1024.Idx → EReal) (o : S352x1024.Idx → EReal) (w M V : S352x1024.Idx → EReal) : S352x1024.Idx → EReal := fun i => step (w i) (tot p o (i 0) (i 1)) (M i) (V i)
def r7 (p : S8x352x1024.Idx → EReal) (o : S352x1024.Idx → EReal) (M : S352x1024.Idx → EReal) : S352x1024.Idx → EReal := fun i => mom (M i) (tot p o (i 0) (i 1))
def r8 (p : S8x352x1024.Idx → EReal) (o : S352x1024.Idx → EReal) (V : S352x1024.Idx → EReal) : S352x1024.Idx → EReal := fun i => sqm (V i) (tot p o (i 0) (i 1))

theorem result5 : (dats m 0 c).arrAt 5 cfg0.N = r5 (m ((c : Thread nD τ).loc main_arg0)) (m ((c : Thread nD τ).loc main_arg1)) := by
  refine (dats m 0 c).arrAt_eq_of_covers 5 _ (by decide +kernel) fun t hf y => ?_
  have ht := (idx t).2.2
  blk_simp
  rw [after0_5, out5]
  obtain ⟨k, l, rfl⟩ : ∃ (k : Fin 176) (l : Fin 1024), y = ix2 k l := ⟨y 0, y 1, by funext x; fin_cases x <;> rfl⟩
  have hk : t.val * 176 + k.val < 352 := by omega
  have e : (win0_5.blk t).view.emb (ix2 k l) = ix2 (⟨t.val * 176 + k, hk⟩ : Fin 352) l := by blk_ext [idx t]
  exact (tot_at m c t k l hk).trans (congrArg (r5 _ _) e).symm

theorem result6 : (dats m 0 c).arrAt 6 cfg0.N = r6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := (idx t).2.2
  blk_simp
  rw [after0_6, out6]
  obtain ⟨k, l, rfl⟩ : ∃ (k : Fin 176) (l : Fin 1024), y = ix2 k l := ⟨y 0, y 1, by funext x; fin_cases x <;> rfl⟩
  have hk : t.val * 176 + k.val < 352 := by omega
  have e : (win0_6.blk t).view.emb (ix2 k l) = ix2 (⟨t.val * 176 + k, hk⟩ : Fin 352) l := by blk_ext [idx t]
  exact (step_eq (blk1 m c t k l hk) (tot_at m c t k l hk) (blk2 m c t k l hk) (blk3 m c t k l hk)).trans (congrArg (r6 _ _ _ _ _) e).symm

theorem result7 : (dats m 0 c).arrAt 7 cfg0.N = r7 (m ((c : Thread nD τ).loc main_arg0)) (m ((c : Thread nD τ).loc main_arg1)) (m ((c : Thread nD τ).loc main_arg3)) := by
  refine (dats m 0 c).arrAt_eq_of_covers 7 _ (by decide +kernel) fun t hf y => ?_
  have ht := (idx t).2.2
  blk_simp
  rw [after0_7, out7]
  obtain ⟨k, l, rfl⟩ : ∃ (k : Fin 176) (l : Fin 1024), y = ix2 k l := ⟨y 0, y 1, by funext x; fin_cases x <;> rfl⟩
  have hk : t.val * 176 + k.val < 352 := by omega
  have e : (win0_7.blk t).view.emb (ix2 k l) = ix2 (⟨t.val * 176 + k, hk⟩ : Fin 352) l := by blk_ext [idx t]
  exact (congrArg₂ mom (blk2 m c t k l hk) (tot_at m c t k l hk)).trans (congrArg (r7 _ _ _) e).symm

theorem result8 : (dats m 0 c).arrAt 8 cfg0.N = r8 (m ((c : Thread nD τ).loc main_arg0)) (m ((c : Thread nD τ).loc main_arg1)) (m ((c : Thread nD τ).loc main_arg4)) := by
  refine (dats m 0 c).arrAt_eq_of_covers 8 _ (by decide +kernel) fun t hf y => ?_
  have ht := (idx t).2.2
  blk_simp
  rw [after0_8, out8]
  obtain ⟨k, l, rfl⟩ : ∃ (k : Fin 176) (l : Fin 1024), y = ix2 k l := ⟨y 0, y 1, by funext x; fin_cases x <;> rfl⟩
  have hk : t.val * 176 + k.val < 352 := by omega
  have e : (win0_8.blk t).view.emb (ix2 k l) = ix2 (⟨t.val * 176 + k, hk⟩ : Fin 352) l := by blk_ext [idx t]
  exact (congrArg₂ sqm (blk3 m c t k l hk) (tot_at m c t k l hk)).trans (congrArg (r8 _ _ _) e).symm

end kernel

open Cert.Reference15Ideal Cert.Reference15Ideal.Gen Cert.AdamW

/-- The reference's sum. -/
theorem plain (p : FVec Ideal S8x352x1024 .bf16) (o : FVec Ideal S352x1024 .bf16) :
    (addf (extf .f32 o bitsLt_bf16_f32) (Host.reduceAdd (extf .f32 (extractStridedSlice S7x352x1024 ![1, 0, 0] p slices_S8x352x1024_S7x352x1024_1_0_0) bitsLt_bf16_f32) (constant S_ .f32 0x00000000#32) reducesTo_S7x352x1024_S352x1024_d0 h_S_) : FVec Ideal S352x1024 .f32)
      = fun i => tot p o (i 0) (i 1) := by
  refine funext fun i => ?_
  obtain ⟨k, l, rfl⟩ : ∃ (k : Fin 352) (l : Fin 1024), i = ix2 k l := ⟨i 0, i 1, by funext x; fin_cases x <;> rfl⟩
  pointwise [tot]
  exact succs p _ k l _

/-- The value claim. -/
theorem value : Cert.algebraic_Kernel15Ideal_Reference15Ideal := by
  intro m g m' g' _ e
  refine ⟨fun c => (Cert.Kernel15Ideal.Gen.dats m 0 c).arrAt 5 Cert.Kernel15Ideal.cfg0.N, fun c => (Cert.Kernel15Ideal.Gen.dats m 0 c).arrAt 6 Cert.Kernel15Ideal.cfg0.N,
    fun c => (Cert.Kernel15Ideal.Gen.dats m 0 c).arrAt 7 Cert.Kernel15Ideal.cfg0.N, fun c => (Cert.Kernel15Ideal.Gen.dats m 0 c).arrAt 8 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨h0, h1, h2, h3, hk⟩ := h c
  obtain ⟨e0, e1, e2, e3, e4⟩ := e c
  rw [plain] at h0 h1 h2 h3
  rw [e0, e1] at h0 h1 h2 h3
  rw [e2, e3, e4] at h1
  rw [e3] at h2
  rw [e4] at h3
  exact ⟨h0.trans (result5 m c).symm, h1.trans (result6 m c).symm, h2.trans (result7 m c).symm, h3.trans (result8 m c).symm, hk⟩

end Cert.SumFfnOut

end
-- ==== Proof.SumFfnIn.lean ====
/- The feed-forward input's weights, transposed by the host code: a device's own gradient and its seven copies added up, and the AdamW step, a block of rows at a time. -/
module
public import proofs.«01_k».proof.Proof.AdamW
public import proofs.«01_k».proof.Proof.Gen.Kernel16Ideal.Value
public import proofs.«01_k».proof.Proof.Gen.Reference16Ideal.Run
public import proofs.«01_k».proof.Defs

@[expose] public section

set_option maxRecDepth 16384

noncomputable section
namespace Cert.SumFfnIn
open Idealize.ShloMosaic Idealize.ShloMosaic.TcCoe Idealize.SL.Sem

section kernel
open Cert.Kernel16Ideal Cert.Kernel16Ideal.Gen Cert.Kernel16Ideal.Value Cert.AdamW

section block
variable (p : S8x176x1024.Idx → EReal) (w M V o : S176x1024.Idx → EReal)

/-- What the kernel stores, at an index: the gradient, -/
theorem out5 : out0_5 (F := Ideal) p w M V o = fun i => tot p o (i 0) (i 1) := by
  rw [out0_5]
  refine (stored (e := .f32) _ _).trans (funext fun i => ?_)
  obtain ⟨k, l, rfl⟩ : ∃ (k : Fin 176) (l : Fin 1024), i = ix2 k l := ⟨i 0, i 1, by funext x; fin_cases x <;> rfl⟩
  exact loads p o k l

/-- the step, -/
theorem out6 : out0_6 (F := Ideal) p w M V o = fun i => step (w i) (tot p o (i 0) (i 1)) (M i) (V i) := by
  rw [out0_6]
  refine (stored (e := .f32) _ _).trans (funext fun i => ?_)
  obtain ⟨k, l, rfl⟩ : ∃ (k : Fin 176) (l : Fin 1024), i = ix2 k l := ⟨i 0, i 1, by funext x; fin_cases x <;> rfl⟩
  exact step_eq (whole_kept w _ _ _) (loads p o k l) (whole_kept M _ _ _) (whole_kept V _ _ _)

/-- the mean, -/
theorem out7 : out0_7 (F := Ideal) p w M V o = fun i => mom (M i) (tot p o (i 0) (i 1)) := by
  rw [out0_7]
  refine (stored (e := .f32) _ _).trans (funext fun i => ?_)
  obtain ⟨k, l, rfl⟩ : ∃ (k : Fin 176) (l : Fin 1024), i = ix2 k l := ⟨i 0, i 1, by funext x; fin_cases x <;> rfl⟩
  exact congrArg₂ mom (whole_kept M _ _ _) (loads p o k l)

/-- the squares' mean. -/
theorem out8 : out0_8 (F := Ideal) p w M V o = fun i => sqm (V i) (tot p o (i 0) (i 1)) := by
  rw [out0_8]
  refine (stored (e := .f32) _ _).trans (funext fun i => ?_)
  obtain ⟨k, l, rfl⟩ : ∃ (k : Fin 176) (l : Fin 1024), i = ix2 k l := ⟨i 0, i 1, by funext x; fin_cases x <;> rfl⟩
  exact congrArg₂ sqm (whole_kept V _ _ _) (loads p o k l)

end block

theorem idx : ∀ t : Fin cfg0.N, (win0_0.index t = ![0, t.val, 0] ∧ win0_1.index t = ![t.val, 0] ∧ win0_2.index t = ![t.val, 0] ∧ win0_3.index t = ![t.val, 0] ∧ win0_4.index t = ![t.val, 0])
    ∧ (win0_5.index t = ![t.val, 0] ∧ win0_6.index t = ![t.val, 0] ∧ win0_7.index t = ![t.val, 0] ∧ win0_8.index t = ![t.val, 0]) ∧ t.val < 4 :=
  (by decide +kernel : ∀ t : Fin grid0.N, _)

variable (m : (ℓ : Loc nD τ sig) → Buf (Elt Ideal) ℓ) (c : Dev nD) (t : Fin cfg0.N)

theorem host_v0 : V m c main_v0 = transpose S704x1024 [1, 0] (m ((c : Thread nD τ).loc main_arg2)) transposes_S1024x704_S704x1024_1_0 := by
  simp only [V, hostOps0, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem host_v1 : V m c main_v1 = transpose S704x1024 [1, 0] (m ((c : Thread nD τ).loc main_arg3)) transposes_S1024x704_S704x1024_1_0 := by
  simp only [V, hostOps0, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem host_v2 : V m c main_v2 = transpose S704x1024 [1, 0] (m ((c : Thread nD τ).loc main_arg4)) transposes_S1024x704_S704x1024_1_0 := by
  simp only [V, hostOps0, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem blk0 (j : Fin 8) (k : Fin 176) (l : Fin 1024) (h : t.val * 176 + k < 704) :
    iblk m c 0 t (ix3 j k l) = m ((c : Thread nD τ).loc main_arg0) (ix3 j (⟨t.val * 176 + k, h⟩ : Fin 704) l) := by
  have e : (win0_0.blk t).view.emb (ix3 j k l) = ix3 j (⟨t.val * 176 + k, h⟩ : Fin 704) l := by blk_ext [idx t]
  blk_simp [iblk, idx t]
  rw [e]
  entry_read
  rfl

theorem blk1 (k : Fin 176) (l : Fin 1024) (h : t.val * 176 + k < 704) :
    iblk m c 1 t (ix2 k l) = m ((c : Thread nD τ).loc main_arg2) (ix2 l (⟨t.val * 176 + k, h⟩ : Fin 704)) := by
  have e : (win0_1.blk t).view.emb (ix2 k l) = ix2 (⟨t.val * 176 + k, h⟩ : Fin 704) l := by blk_ext [idx t]
  blk_simp [iblk, idx t]
  rw [e]
  refine (congrFun (host_v0 m c) _).trans ?_
  pointwise []

theorem blk2 (k : Fin 176) (l : Fin 1024) (h : t.val * 176 + k < 704) :
    iblk m c 2 t (ix2 k l) = m ((c : Thread nD τ).loc main_arg3) (ix2 l (⟨t.val * 176 + k, h⟩ : Fin 704)) := by
  have e : (win0_2.blk t).view.emb (ix2 k l) = ix2 (⟨t.val * 176 + k, h⟩ : Fin 704) l := by blk_ext [idx t]
  blk_simp [iblk, idx t]
  rw [e]
  refine (congrFun (host_v1 m c) _).trans ?_
  pointwise []

theorem blk3 (k : Fin 176) (l : Fin 1024) (h : t.val * 176 + k < 704) :
    iblk m c 3 t (ix2 k l) = m ((c : Thread nD τ).loc main_arg4) (ix2 l (⟨t.val * 176 + k, h⟩ : Fin 704)) := by
  have e : (win0_3.blk t).view.emb (ix2 k l) = ix2 (⟨t.val * 176 + k, h⟩ : Fin 704) l := by blk_ext [idx t]
  blk_simp [iblk, idx t]
  rw [e]
  refine (congrFun (host_v2 m c) _).trans ?_
  pointwise []

theorem blk4 (k : Fin 176) (l : Fin 1024) (h : t.val * 176 + k < 704) :
    iblk m c 4 t (ix2 k l) = m ((c : Thread nD τ).loc main_arg1) (ix2 (⟨t.val * 176 + k, h⟩ : Fin 704) l) := by
  have e : (win0_4.blk t).view.emb (ix2 k l) = ix2 (⟨t.val * 176 + k, h⟩ : Fin 704) l := by blk_ext [idx t]
  blk_simp [iblk, idx t]
  rw [e]
  entry_read
  rfl

/-- The gradient of a block, of the arguments. -/
theorem tot_at (k : Fin 176) (l : Fin 1024) (h : t.val * 176 + k < 704) :
    tot (iblk m c 0 t) (iblk m c 4 t) k l = tot (m ((c : Thread nD τ).loc main_arg0)) (m ((c : Thread nD τ).loc main_arg1)) (⟨t.val * 176 + k, h⟩ : Fin 704) l :=
  tot_eq (fun j => blk0 m c t j k l h) (blk4 m c t k l h)

/-- The four results of the arguments, at an index. -/
def r5 (p : S8x704x1024.Idx → EReal) (o : S704x1024.Idx → EReal) : S704x1024.Idx → EReal := fun i => tot p o (i 0) (i 1)
def r6 (p : S8x704x1024.Idx → EReal) (o : S704x1024.Idx → EReal) (w M V : S1024x704.Idx → EReal) : S704x1024.Idx → EReal := fun i => step (w (ix2 (i 1) (i 0))) (tot p o (i 0) (i 1)) (M (ix2 (i 1) (i 0))) (V (ix2 (i 1) (i 0)))
def r7 (p : S8x704x1024.Idx → EReal) (o : S704x1024.Idx → EReal) (M : S1024x704.Idx → EReal) : S704x1024.Idx → EReal := fun i => mom (M (ix2 (i 1) (i 0))) (tot p o (i 0) (i 1))
def r8 (p : S8x704x1024.Idx → EReal) (o : S704x1024.Idx → EReal) (V : S1024x704.Idx → EReal) : S704x1024.Idx → EReal := fun i => sqm (V (ix2 (i 1) (i 0))) (tot p o (i 0) (i 1))

theorem result5 : (dats m 0 c).arrAt 5 cfg0.N = r5 (m ((c : Thread nD τ).loc main_arg0)) (m ((c : Thread nD τ).loc main_arg1)) := by
  refine (dats m 0 c).arrAt_eq_of_covers 5 _ (by decide +kernel) fun t hf y => ?_
  have ht := (idx t).2.2
  blk_simp
  rw [after0_5, out5]
  obtain ⟨k, l, rfl⟩ : ∃ (k : Fin 176) (l : Fin 1024), y = ix2 k l := ⟨y 0, y 1, by funext x; fin_cases x <;> rfl⟩
  have hk : t.val * 176 + k.val < 704 := by omega
  have e : (win0_5.blk t).view.emb (ix2 k l) = ix2 (⟨t.val * 176 + k, hk⟩ : Fin 704) l := by blk_ext [idx t]
  exact (tot_at m c t k l hk).trans (congrArg (r5 _ _) e).symm

theorem result6 : (dats m 0 c).arrAt 6 cfg0.N = r6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := (idx t).2.2
  blk_simp
  rw [after0_6, out6]
  obtain ⟨k, l, rfl⟩ : ∃ (k : Fin 176) (l : Fin 1024), y = ix2 k l := ⟨y 0, y 1, by funext x; fin_cases x <;> rfl⟩
  have hk : t.val * 176 + k.val < 704 := by omega
  have e : (win0_6.blk t).view.emb (ix2 k l) = ix2 (⟨t.val * 176 + k, hk⟩ : Fin 704) l := by blk_ext [idx t]
  exact (step_eq (blk1 m c t k l hk) (tot_at m c t k l hk) (blk2 m c t k l hk) (blk3 m c t k l hk)).trans (congrArg (r6 _ _ _ _ _) e).symm

theorem result7 : (dats m 0 c).arrAt 7 cfg0.N = r7 (m ((c : Thread nD τ).loc main_arg0)) (m ((c : Thread nD τ).loc main_arg1)) (m ((c : Thread nD τ).loc main_arg3)) := by
  refine (dats m 0 c).arrAt_eq_of_covers 7 _ (by decide +kernel) fun t hf y => ?_
  have ht := (idx t).2.2
  blk_simp
  rw [after0_7, out7]
  obtain ⟨k, l, rfl⟩ : ∃ (k : Fin 176) (l : Fin 1024), y = ix2 k l := ⟨y 0, y 1, by funext x; fin_cases x <;> rfl⟩
  have hk : t.val * 176 + k.val < 704 := by omega
  have e : (win0_7.blk t).view.emb (ix2 k l) = ix2 (⟨t.val * 176 + k, hk⟩ : Fin 704) l := by blk_ext [idx t]
  exact (congrArg₂ mom (blk2 m c t k l hk) (tot_at m c t k l hk)).trans (congrArg (r7 _ _ _) e).symm

theorem result8 : (dats m 0 c).arrAt 8 cfg0.N = r8 (m ((c : Thread nD τ).loc main_arg0)) (m ((c : Thread nD τ).loc main_arg1)) (m ((c : Thread nD τ).loc main_arg4)) := by
  refine (dats m 0 c).arrAt_eq_of_covers 8 _ (by decide +kernel) fun t hf y => ?_
  have ht := (idx t).2.2
  blk_simp
  rw [after0_8, out8]
  obtain ⟨k, l, rfl⟩ : ∃ (k : Fin 176) (l : Fin 1024), y = ix2 k l := ⟨y 0, y 1, by funext x; fin_cases x <;> rfl⟩
  have hk : t.val * 176 + k.val < 704 := by omega
  have e : (win0_8.blk t).view.emb (ix2 k l) = ix2 (⟨t.val * 176 + k, hk⟩ : Fin 704) l := by blk_ext [idx t]
  exact (congrArg₂ sqm (blk3 m c t k l hk) (tot_at m c t k l hk)).trans (congrArg (r8 _ _ _) e).symm

end kernel

open Cert.Reference16Ideal Cert.Reference16Ideal.Gen Cert.AdamW

/-- The reference's sum. -/
theorem plain (p : FVec Ideal S8x704x1024 .bf16) (o : FVec Ideal S704x1024 .bf16) :
    (addf (extf .f32 o bitsLt_bf16_f32) (Host.reduceAdd (extf .f32 (extractStridedSlice S7x704x1024 ![1, 0, 0] p slices_S8x704x1024_S7x704x1024_1_0_0) bitsLt_bf16_f32) (constant S_ .f32 0x00000000#32) reducesTo_S7x704x1024_S704x1024_d0 h_S_) : FVec Ideal S704x1024 .f32)
      = fun i => tot p o (i 0) (i 1) := by
  refine funext fun i => ?_
  obtain ⟨k, l, rfl⟩ : ∃ (k : Fin 704) (l : Fin 1024), i = ix2 k l := ⟨i 0, i 1, by funext x; fin_cases x <;> rfl⟩
  pointwise [tot]
  exact succs p _ k l _

/-- A transposed array at an index. -/
theorem turned (x : FVec Ideal S1024x704 .f32) (h) (k : Fin 704) (l : Fin 1024) : transpose S704x1024 [1, 0] x h (ix2 k l) = x (ix2 l k) := by
  pointwise []

theorem turned' (x : FVec Ideal S704x1024 .f32) (h) (k : Fin 704) (l : Fin 1024) : transpose S1024x704 [1, 0] x h (ix2 l k) = x (ix2 k l) := by
  pointwise []

/-- The value claim. -/
theorem value : Cert.algebraic_Kernel16Ideal_Reference16Ideal := by
  intro m g m' g' _ e
  refine ⟨fun c => (Cert.Kernel16Ideal.Gen.dats m 0 c).arrAt 5 Cert.Kernel16Ideal.cfg0.N, fun c => (Cert.Kernel16Ideal.Gen.dats m 0 c).arrAt 6 Cert.Kernel16Ideal.cfg0.N,
    fun c => (Cert.Kernel16Ideal.Gen.dats m 0 c).arrAt 7 Cert.Kernel16Ideal.cfg0.N, fun c => (Cert.Kernel16Ideal.Gen.dats m 0 c).arrAt 8 Cert.Kernel16Ideal.cfg0.N, Cert.Kernel16Ideal.Value.run_blocks m g, ?_⟩
  refine (θ_run Cert.Reference16Ideal.defs _ _).mono (fun r h c => ?_) (Cert.Reference16Ideal.Value.run m' g')
  obtain ⟨h0, h1, h2, h3, hk⟩ := h c
  obtain ⟨e0, e1, e2, e3, e4⟩ := e c
  rw [plain] at h0 h1 h2 h3
  rw [e0, e1] at h0 h1 h2 h3
  rw [e2, e3, e4] at h1
  rw [e3] at h2
  rw [e4] at h3
  refine ⟨h0.trans (Eq.trans ?_ (result5 m c).symm), h1.trans (Eq.trans ?_ (result6 m c).symm), h2.trans (Eq.trans ?_ (result7 m c).symm), h3.trans (Eq.trans ?_ (result8 m c).symm), hk⟩
  all_goals
    refine funext fun i => ?_
    obtain ⟨k, l, rfl⟩ : ∃ (k : Fin 704) (l : Fin 1024), i = ix2 k l := ⟨i 0, i 1, by funext x; fin_cases x <;> rfl⟩
    refine (turned _ _ k l).trans ?_
  · exact turned' _ _ k l
  · exact step_eq rfl (turned' _ _ k l) rfl rfl
  · exact congrArg (mom _) (turned' _ _ k l)
  · exact congrArg (sqm _) (turned' _ _ k l)

end Cert.SumFfnIn

end
-- ==== Proof.SumIn.lean ====
/- The input projection's weights, transposed by the host code: a device's own gradient and its seven copies added up, and the AdamW step, a block of columns at a time. -/
module
public import proofs.«01_k».proof.Proof.AdamW
public import proofs.«01_k».proof.Proof.Gen.Kernel17Ideal.Value
public import proofs.«01_k».proof.Proof.Gen.Reference17Ideal.Run
public import proofs.«01_k».proof.Defs

@[expose] public section

set_option maxRecDepth 16384

noncomputable section
namespace Cert.SumIn
open Idealize.ShloMosaic Idealize.ShloMosaic.TcCoe Idealize.SL.Sem

section kernel
open Cert.Kernel17Ideal Cert.Kernel17Ideal.Gen Cert.Kernel17Ideal.Value Cert.AdamW

section block
variable (p : S8x385x256.Idx → EReal) (w M V o : S385x256.Idx → EReal)

/-- What the kernel stores, at an index: the gradient, -/
theorem out5 : out0_5 (F := Ideal) p w M V o = fun i => tot p o (i 0) (i 1) := by
  rw [out0_5]
  refine (stored (e := .f32) _ _).trans (funext fun i => ?_)
  obtain ⟨k, l, rfl⟩ : ∃ (k : Fin 385) (l : Fin 256), i = ix2 k l := ⟨i 0, i 1, by funext x; fin_cases x <;> rfl⟩
  exact loads p o k l

/-- the step, -/
theorem out6 : out0_6 (F := Ideal) p w M V o = fun i => step (w i) (tot p o (i 0) (i 1)) (M i) (V i) := by
  rw [out0_6]
  refine (stored (e := .f32) _ _).trans (funext fun i => ?_)
  obtain ⟨k, l, rfl⟩ : ∃ (k : Fin 385) (l : Fin 256), i = ix2 k l := ⟨i 0, i 1, by funext x; fin_cases x <;> rfl⟩
  exact step_eq (whole_kept w _ _ _) (loads p o k l) (whole_kept M _ _ _) (whole_kept V _ _ _)

/-- the mean, -/
theorem out7 : out0_7 (F := Ideal) p w M V o = fun i => mom (M i) (tot p o (i 0) (i 1)) := by
  rw [out0_7]
  refine (stored (e := .f32) _ _).trans (funext fun i => ?_)
  obtain ⟨k, l, rfl⟩ : ∃ (k : Fin 385) (l : Fin 256), i = ix2 k l := ⟨i 0, i 1, by funext x; fin_cases x <;> rfl⟩
  exact congrArg₂ mom (whole_kept M _ _ _) (loads p o k l)

/-- the squares' mean. -/
theorem out8 : out0_8 (F := Ideal) p w M V o = fun i => sqm (V i) (tot p o (i 0) (i 1)) := by
  rw [out0_8]
  refine (stored (e := .f32) _ _).trans (funext fun i => ?_)
  obtain ⟨k, l, rfl⟩ : ∃ (k : Fin 385) (l : Fin 256), i = ix2 k l := ⟨i 0, i 1, by funext x; fin_cases x <;> rfl⟩
  exact congrArg₂ sqm (whole_kept V _ _ _) (loads p o k l)

end block

theorem idx : ∀ t : Fin cfg0.N, (win0_0.index t = ![0, 0, t.val] ∧ win0_1.index t = ![0, t.val] ∧ win0_2.index t = ![0, t.val] ∧ win0_3.index t = ![0, t.val] ∧ win0_4.index t = ![0, t.val])
    ∧ (win0_5.index t = ![0, t.val] ∧ win0_6.index t = ![0, t.val] ∧ win0_7.index t = ![0, t.val] ∧ win0_8.index t = ![0, t.val]) ∧ t.val < 4 :=
  (by decide +kernel : ∀ t : Fin grid0.N, _)

variable (m : (ℓ : Loc nD τ sig) → Buf (Elt Ideal) ℓ) (c : Dev nD) (t : Fin cfg0.N)

theorem host_v0 : V m c main_v0 = transpose S385x1024 [1, 0] (m ((c : Thread nD τ).loc main_arg2)) transposes_S1024x385_S385x1024_1_0 := by
  simp only [V, hostOps0, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem host_v1 : V m c main_v1 = transpose S385x1024 [1, 0] (m ((c : Thread nD τ).loc main_arg3)) transposes_S1024x385_S385x1024_1_0 := by
  simp only [V, hostOps0, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem host_v2 : V m c main_v2 = transpose S385x1024 [1, 0] (m ((c : Thread nD τ).loc main_arg4)) transposes_S1024x385_S385x1024_1_0 := by
  simp only [V, hostOps0, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem blk0 (j : Fin 8) (k : Fin 385) (l : Fin 256) (h : t.val * 256 + l < 1024) :
    iblk m c 0 t (ix3 j k l) = m ((c : Thread nD τ).loc main_arg0) (ix3 j k (⟨t.val * 256 + l, h⟩ : Fin 1024)) := by
  have e : (win0_0.blk t).view.emb (ix3 j k l) = ix3 j k (⟨t.val * 256 + l, h⟩ : Fin 1024) := by blk_ext [idx t]
  blk_simp [iblk, idx t]
  rw [e]
  entry_read
  rfl

theorem blk1 (k : Fin 385) (l : Fin 256) (h : t.val * 256 + l < 1024) :
    iblk m c 1 t (ix2 k l) = m ((c : Thread nD τ).loc main_arg2) (ix2 (⟨t.val * 256 + l, h⟩ : Fin 1024) k) := by
  have e : (win0_1.blk t).view.emb (ix2 k l) = ix2 k (⟨t.val * 256 + l, h⟩ : Fin 1024) := by blk_ext [idx t]
  blk_simp [iblk, idx t]
  rw [e]
  refine (congrFun (host_v0 m c) _).trans ?_
  pointwise []

theorem blk2 (k : Fin 385) (l : Fin 256) (h : t.val * 256 + l < 1024) :
    iblk m c 2 t (ix2 k l) = m ((c : Thread nD τ).loc main_arg3) (ix2 (⟨t.val * 256 + l, h⟩ : Fin 1024) k) := by
  have e : (win0_2.blk t).view.emb (ix2 k l) = ix2 k (⟨t.val * 256 + l, h⟩ : Fin 1024) := by blk_ext [idx t]
  blk_simp [iblk, idx t]
  rw [e]
  refine (congrFun (host_v1 m c) _).trans ?_
  pointwise []

theorem blk3 (k : Fin 385) (l : Fin 256) (h : t.val * 256 + l < 1024) :
    iblk m c 3 t (ix2 k l) = m ((c : Thread nD τ).loc main_arg4) (ix2 (⟨t.val * 256 + l, h⟩ : Fin 1024) k) := by
  have e : (win0_3.blk t).view.emb (ix2 k l) = ix2 k (⟨t.val * 256 + l, h⟩ : Fin 1024) := by blk_ext [idx t]
  blk_simp [iblk, idx t]
  rw [e]
  refine (congrFun (host_v2 m c) _).trans ?_
  pointwise []

theorem blk4 (k : Fin 385) (l : Fin 256) (h : t.val * 256 + l < 1024) :
    iblk m c 4 t (ix2 k l) = m ((c : Thread nD τ).loc main_arg1) (ix2 k (⟨t.val * 256 + l, h⟩ : Fin 1024)) := by
  have e : (win0_4.blk t).view.emb (ix2 k l) = ix2 k (⟨t.val * 256 + l, h⟩ : Fin 1024) := by blk_ext [idx t]
  blk_simp [iblk, idx t]
  rw [e]
  entry_read
  rfl

/-- The gradient of a block, of the arguments. -/
theorem tot_at (k : Fin 385) (l : Fin 256) (h : t.val * 256 + l < 1024) :
    tot (iblk m c 0 t) (iblk m c 4 t) k l = tot (m ((c : Thread nD τ).loc main_arg0)) (m ((c : Thread nD τ).loc main_arg1)) k (⟨t.val * 256 + l, h⟩ : Fin 1024) :=
  tot_eq (fun j => blk0 m c t j k l h) (blk4 m c t k l h)

/-- The four results of the arguments, at an index. -/
def r5 (p : S8x385x1024.Idx → EReal) (o : S385x1024.Idx → EReal) : S385x1024.Idx → EReal := fun i => tot p o (i 0) (i 1)
def r6 (p : S8x385x1024.Idx → EReal) (o : S385x1024.Idx → EReal) (w M V : S1024x385.Idx → EReal) : S385x1024.Idx → EReal := fun i => step (w (ix2 (i 1) (i 0))) (tot p o (i 0) (i 1)) (M (ix2 (i 1) (i 0))) (V (ix2 (i 1) (i 0)))
def r7 (p : S8x385x1024.Idx → EReal) (o : S385x1024.Idx → EReal) (M : S1024x385.Idx → EReal) : S385x1024.Idx → EReal := fun i => mom (M (ix2 (i 1) (i 0))) (tot p o (i 0) (i 1))
def r8 (p : S8x385x1024.Idx → EReal) (o : S385x1024.Idx → EReal) (V : S1024x385.Idx → EReal) : S385x1024.Idx → EReal := fun i => sqm (V (ix2 (i 1) (i 0))) (tot p o (i 0) (i 1))

theorem result5 : (dats m 0 c).arrAt 5 cfg0.N = r5 (m ((c : Thread nD τ).loc main_arg0)) (m ((c : Thread nD τ).loc main_arg1)) := by
  refine (dats m 0 c).arrAt_eq_of_covers 5 _ (by decide +kernel) fun t hf y => ?_
  have ht := (idx t).2.2
  blk_simp
  rw [after0_5, out5]
  obtain ⟨k, l, rfl⟩ : ∃ (k : Fin 385) (l : Fin 256), y = ix2 k l := ⟨y 0, y 1, by funext x; fin_cases x <;> rfl⟩
  have hk : t.val * 256 + l.val < 1024 := by omega
  have e : (win0_5.blk t).view.emb (ix2 k l) = ix2 k (⟨t.val * 256 + l, hk⟩ : Fin 1024) := by blk_ext [idx t]
  exact (tot_at m c t k l hk).trans (congrArg (r5 _ _) e).symm

theorem result6 : (dats m 0 c).arrAt 6 cfg0.N = r6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := (idx t).2.2
  blk_simp
  rw [after0_6, out6]
  obtain ⟨k, l, rfl⟩ : ∃ (k : Fin 385) (l : Fin 256), y = ix2 k l := ⟨y 0, y 1, by funext x; fin_cases x <;> rfl⟩
  have hk : t.val * 256 + l.val < 1024 := by omega
  have e : (win0_6.blk t).view.emb (ix2 k l) = ix2 k (⟨t.val * 256 + l, hk⟩ : Fin 1024) := by blk_ext [idx t]
  exact (step_eq (blk1 m c t k l hk) (tot_at m c t k l hk) (blk2 m c t k l hk) (blk3 m c t k l hk)).trans (congrArg (r6 _ _ _ _ _) e).symm

theorem result7 : (dats m 0 c).arrAt 7 cfg0.N = r7 (m ((c : Thread nD τ).loc main_arg0)) (m ((c : Thread nD τ).loc main_arg1)) (m ((c : Thread nD τ).loc main_arg3)) := by
  refine (dats m 0 c).arrAt_eq_of_covers 7 _ (by decide +kernel) fun t hf y => ?_
  have ht := (idx t).2.2
  blk_simp
  rw [after0_7, out7]
  obtain ⟨k, l, rfl⟩ : ∃ (k : Fin 385) (l : Fin 256), y = ix2 k l := ⟨y 0, y 1, by funext x; fin_cases x <;> rfl⟩
  have hk : t.val * 256 + l.val < 1024 := by omega
  have e : (win0_7.blk t).view.emb (ix2 k l) = ix2 k (⟨t.val * 256 + l, hk⟩ : Fin 1024) := by blk_ext [idx t]
  exact (congrArg₂ mom (blk2 m c t k l hk) (tot_at m c t k l hk)).trans (congrArg (r7 _ _ _) e).symm

theorem result8 : (dats m 0 c).arrAt 8 cfg0.N = r8 (m ((c : Thread nD τ).loc main_arg0)) (m ((c : Thread nD τ).loc main_arg1)) (m ((c : Thread nD τ).loc main_arg4)) := by
  refine (dats m 0 c).arrAt_eq_of_covers 8 _ (by decide +kernel) fun t hf y => ?_
  have ht := (idx t).2.2
  blk_simp
  rw [after0_8, out8]
  obtain ⟨k, l, rfl⟩ : ∃ (k : Fin 385) (l : Fin 256), y = ix2 k l := ⟨y 0, y 1, by funext x; fin_cases x <;> rfl⟩
  have hk : t.val * 256 + l.val < 1024 := by omega
  have e : (win0_8.blk t).view.emb (ix2 k l) = ix2 k (⟨t.val * 256 + l, hk⟩ : Fin 1024) := by blk_ext [idx t]
  exact (congrArg₂ sqm (blk3 m c t k l hk) (tot_at m c t k l hk)).trans (congrArg (r8 _ _ _) e).symm

end kernel

open Cert.Reference17Ideal Cert.Reference17Ideal.Gen Cert.AdamW

/-- The reference's sum. -/
theorem plain (p : FVec Ideal S8x385x1024 .bf16) (o : FVec Ideal S385x1024 .bf16) :
    (addf (extf .f32 o bitsLt_bf16_f32) (Host.reduceAdd (extf .f32 (extractStridedSlice S7x385x1024 ![1, 0, 0] p slices_S8x385x1024_S7x385x1024_1_0_0) bitsLt_bf16_f32) (constant S_ .f32 0x00000000#32) reducesTo_S7x385x1024_S385x1024_d0 h_S_) : FVec Ideal S385x1024 .f32)
      = fun i => tot p o (i 0) (i 1) := by
  refine funext fun i => ?_
  obtain ⟨k, l, rfl⟩ : ∃ (k : Fin 385) (l : Fin 1024), i = ix2 k l := ⟨i 0, i 1, by funext x; fin_cases x <;> rfl⟩
  pointwise [tot]
  exact succs p _ k l _

/-- A transposed array at an index. -/
theorem turned (x : FVec Ideal S1024x385 .f32) (h) (k : Fin 385) (l : Fin 1024) : transpose S385x1024 [1, 0] x h (ix2 k l) = x (ix2 l k) := by
  pointwise []

theorem turned' (x : FVec Ideal S385x1024 .f32) (h) (k : Fin 385) (l : Fin 1024) : transpose S1024x385 [1, 0] x h (ix2 l k) = x (ix2 k l) := by
  pointwise []

/-- The value claim. -/
theorem value : Cert.algebraic_Kernel17Ideal_Reference17Ideal := by
  intro m g m' g' _ e
  refine ⟨fun c => (Cert.Kernel17Ideal.Gen.dats m 0 c).arrAt 5 Cert.Kernel17Ideal.cfg0.N, fun c => (Cert.Kernel17Ideal.Gen.dats m 0 c).arrAt 6 Cert.Kernel17Ideal.cfg0.N,
    fun c => (Cert.Kernel17Ideal.Gen.dats m 0 c).arrAt 7 Cert.Kernel17Ideal.cfg0.N, fun c => (Cert.Kernel17Ideal.Gen.dats m 0 c).arrAt 8 Cert.Kernel17Ideal.cfg0.N, Cert.Kernel17Ideal.Value.run_blocks m g, ?_⟩
  refine (θ_run Cert.Reference17Ideal.defs _ _).mono (fun r h c => ?_) (Cert.Reference17Ideal.Value.run m' g')
  obtain ⟨h0, h1, h2, h3, hk⟩ := h c
  obtain ⟨e0, e1, e2, e3, e4⟩ := e c
  rw [plain] at h0 h1 h2 h3
  rw [e0, e1] at h0 h1 h2 h3
  rw [e2, e3, e4] at h1
  rw [e3] at h2
  rw [e4] at h3
  refine ⟨h0.trans (Eq.trans ?_ (result5 m c).symm), h1.trans (Eq.trans ?_ (result6 m c).symm), h2.trans (Eq.trans ?_ (result7 m c).symm), h3.trans (Eq.trans ?_ (result8 m c).symm), hk⟩
  all_goals
    refine funext fun i => ?_
    obtain ⟨k, l, rfl⟩ : ∃ (k : Fin 385) (l : Fin 1024), i = ix2 k l := ⟨i 0, i 1, by funext x; fin_cases x <;> rfl⟩
    refine (turned _ _ k l).trans ?_
  · exact turned' _ _ k l
  · exact step_eq rfl (turned' _ _ k l) rfl rfl
  · exact congrArg (mom _) (turned' _ _ k l)
  · exact congrArg (sqm _) (turned' _ _ k l)

end Cert.SumIn

end
-- ==== Proof.SumConv.lean ====
/- The convolution's weights: a device's own gradient and its seven copies added up, and the AdamW step. -/
module
public import proofs.«01_k».proof.Proof.AdamW
public import proofs.«01_k».proof.Proof.Gen.Kernel18Ideal.Value
public import proofs.«01_k».proof.Proof.Gen.Reference18Ideal.Run
public import proofs.«01_k».proof.Defs

@[expose] public section

set_option maxRecDepth 16384

noncomputable section
namespace Cert.SumConv
open Idealize.ShloMosaic Idealize.ShloMosaic.TcCoe Idealize.SL.Sem

section kernel
open Cert.Kernel18Ideal Cert.Kernel18Ideal.Gen Cert.Kernel18Ideal.Value Cert.AdamW

variable (p : S8x31x64.Idx → EReal) (w M V o : S31x64.Idx → EReal)

/-- What the kernel stores, at an index: the gradient, -/
theorem out5 : out0_5 (F := Ideal) p w M V o = fun i => tot p o (i 0) (i 1) := by
  rw [out0_5]
  refine (stored (e := .f32) _ _).trans (funext fun i => ?_)
  obtain ⟨k, l, rfl⟩ : ∃ (k : Fin 31) (l : Fin 64), i = ix2 k l := ⟨i 0, i 1, by funext x; fin_cases x <;> rfl⟩
  exact loads p o k l

/-- the step, -/
theorem out6 : out0_6 (F := Ideal) p w M V o = fun i => step (w i) (tot p o (i 0) (i 1)) (M i) (V i) := by
  rw [out0_6]
  refine (stored (e := .f32) _ _).trans (funext fun i => ?_)
  obtain ⟨k, l, rfl⟩ : ∃ (k : Fin 31) (l : Fin 64), i = ix2 k l := ⟨i 0, i 1, by funext x; fin_cases x <;> rfl⟩
  exact step_eq (congrFun (whole (e := .f32) w _) _) (loads p o k l) (congrFun (whole (e := .f32) M _) _) (congrFun (whole (e := .f32) V _) _)

/-- the mean, -/
theorem out7 : out0_7 (F := Ideal) p w M V o = fun i => mom (M i) (tot p o (i 0) (i 1)) := by
  rw [out0_7]
  refine (stored (e := .f32) _ _).trans (funext fun i => ?_)
  obtain ⟨k, l, rfl⟩ : ∃ (k : Fin 31) (l : Fin 64), i = ix2 k l := ⟨i 0, i 1, by funext x; fin_cases x <;> rfl⟩
  exact congrArg₂ mom (congrFun (whole (e := .f32) M _) _) (loads p o k l)

/-- the squares' mean. -/
theorem out8 : out0_8 (F := Ideal) p w M V o = fun i => sqm (V i) (tot p o (i 0) (i 1)) := by
  rw [out0_8]
  refine (stored (e := .f32) _ _).trans (funext fun i => ?_)
  obtain ⟨k, l, rfl⟩ : ∃ (k : Fin 31) (l : Fin 64), i = ix2 k l := ⟨i 0, i 1, by funext x; fin_cases x <;> rfl⟩
  exact congrArg₂ sqm (congrFun (whole (e := .f32) V _) _) (loads p o k l)

end kernel

open Cert.Reference18Ideal Cert.Reference18Ideal.Gen Cert.AdamW

/-- The reference's sum. -/
theorem plain (p : FVec Ideal S8x31x64 .f32) (o : FVec Ideal S31x64 .f32) :
    (addf o (Host.reduceAdd (extractStridedSlice S7x31x64 ![1, 0, 0] p slices_S8x31x64_S7x31x64_1_0_0) (constant S_ .f32 0x00000000#32) reducesTo_S7x31x64_S31x64_d0 h_S_) : FVec Ideal S31x64 .f32)
      = fun i => tot p o (i 0) (i 1) := by
  refine funext fun i => ?_
  obtain ⟨k, l, rfl⟩ : ∃ (k : Fin 31) (l : Fin 64), i = ix2 k l := ⟨i 0, i 1, by funext x; fin_cases x <;> rfl⟩
  pointwise [tot]
  exact succs p _ k l _

/-- The value claim. -/
theorem value : Cert.algebraic_Kernel18Ideal_Reference18Ideal := by
  intro m g m' g' _ e
  refine ⟨_, _, _, _, Cert.Kernel18Ideal.Value.run m g, ?_⟩
  refine (θ_run Cert.Reference18Ideal.defs _ _).mono (fun r h c => ?_) (Cert.Reference18Ideal.Value.run m' g')
  obtain ⟨h0, h1, h2, h3, hk⟩ := h c
  obtain ⟨e0, e1, e2, e3, e4⟩ := e c
  rw [plain] at h0 h1 h2 h3
  rw [e0, e1] at h0 h1 h2 h3
  rw [e2, e3, e4] at h1
  rw [e3] at h2
  rw [e4] at h3
  refine ⟨h0.trans ?_, h1.trans ?_, h2.trans ?_, h3.trans ?_, hk⟩
  · exact ((Cert.Kernel18Ideal.Value.out5_eq _ _ _ _ _).symm.trans (out5 _ _ _ _ _)).symm
  · exact ((Cert.Kernel18Ideal.Value.out6_eq _ _ _ _ _).symm.trans (out6 _ _ _ _ _)).symm
  · exact ((Cert.Kernel18Ideal.Value.out7_eq _ _ _ _ _).symm.trans (out7 _ _ _ _ _)).symm
  · exact ((Cert.Kernel18Ideal.Value.out8_eq _ _ _ _ _).symm.trans (out8 _ _ _ _ _)).symm

end Cert.SumConv

end
-- ==== Proof.SumGdnConv.lean ====
/- The gated delta rule's convolution weights: a device's own gradient and its seven copies added up, and the AdamW step. -/
module
public import proofs.«01_k».proof.Proof.AdamW
public import proofs.«01_k».proof.Proof.Gen.Kernel19Ideal.Value
public import proofs.«01_k».proof.Proof.Gen.Reference19Ideal.Run
public import proofs.«01_k».proof.Defs

@[expose] public section

set_option maxRecDepth 16384

noncomputable section
namespace Cert.SumGdnConv
open Idealize.ShloMosaic Idealize.ShloMosaic.TcCoe Idealize.SL.Sem

section kernel
open Cert.Kernel19Ideal Cert.Kernel19Ideal.Gen Cert.Kernel19Ideal.Value Cert.AdamW

variable (p : S8x4x192.Idx → EReal) (w M V o : S4x192.Idx → EReal)

/-- What the kernel stores, at an index: the gradient, -/
theorem out5 : out0_5 (F := Ideal) p w M V o = fun i => tot p o (i 0) (i 1) := by
  rw [out0_5]
  refine (stored (e := .f32) _ _).trans (funext fun i => ?_)
  obtain ⟨k, l, rfl⟩ : ∃ (k : Fin 4) (l : Fin 192), i = ix2 k l := ⟨i 0, i 1, by funext x; fin_cases x <;> rfl⟩
  exact loads p o k l

/-- the step, -/
theorem out6 : out0_6 (F := Ideal) p w M V o = fun i => step (w i) (tot p o (i 0) (i 1)) (M i) (V i) := by
  rw [out0_6]
  refine (stored (e := .f32) _ _).trans (funext fun i => ?_)
  obtain ⟨k, l, rfl⟩ : ∃ (k : Fin 4) (l : Fin 192), i = ix2 k l := ⟨i 0, i 1, by funext x; fin_cases x <;> rfl⟩
  exact step_eq (congrFun (whole (e := .f32) w _) _) (loads p o k l) (congrFun (whole (e := .f32) M _) _) (congrFun (whole (e := .f32) V _) _)

/-- the mean, -/
theorem out7 : out0_7 (F := Ideal) p w M V o = fun i => mom (M i) (tot p o (i 0) (i 1)) := by
  rw [out0_7]
  refine (stored (e := .f32) _ _).trans (funext fun i => ?_)
  obtain ⟨k, l, rfl⟩ : ∃ (k : Fin 4) (l : Fin 192), i = ix2 k l := ⟨i 0, i 1, by funext x; fin_cases x <;> rfl⟩
  exact congrArg₂ mom (congrFun (whole (e := .f32) M _) _) (loads p o k l)

/-- the squares' mean. -/
theorem out8 : out0_8 (F := Ideal) p w M V o = fun i => sqm (V i) (tot p o (i 0) (i 1)) := by
  rw [out0_8]
  refine (stored (e := .f32) _ _).trans (funext fun i => ?_)
  obtain ⟨k, l, rfl⟩ : ∃ (k : Fin 4) (l : Fin 192), i = ix2 k l := ⟨i 0, i 1, by funext x; fin_cases x <;> rfl⟩
  exact congrArg₂ sqm (congrFun (whole (e := .f32) V _) _) (loads p o k l)

end kernel

open Cert.Reference19Ideal Cert.Reference19Ideal.Gen Cert.AdamW

/-- The reference's sum. -/
theorem plain (p : FVec Ideal S8x4x192 .f32) (o : FVec Ideal S4x192 .f32) :
    (addf o (Host.reduceAdd (extractStridedSlice S7x4x192 ![1, 0, 0] p slices_S8x4x192_S7x4x192_1_0_0) (constant S_ .f32 0x00000000#32) reducesTo_S7x4x192_S4x192_d0 h_S_) : FVec Ideal S4x192 .f32)
      = fun i => tot p o (i 0) (i 1) := by
  refine funext fun i => ?_
  obtain ⟨k, l, rfl⟩ : ∃ (k : Fin 4) (l : Fin 192), i = ix2 k l := ⟨i 0, i 1, by funext x; fin_cases x <;> rfl⟩
  pointwise [tot]
  exact succs p _ k l _

/-- The value claim. -/
theorem value : Cert.algebraic_Kernel19Ideal_Reference19Ideal := by
  intro m g m' g' _ e
  refine ⟨_, _, _, _, Cert.Kernel19Ideal.Value.run m g, ?_⟩
  refine (θ_run Cert.Reference19Ideal.defs _ _).mono (fun r h c => ?_) (Cert.Reference19Ideal.Value.run m' g')
  obtain ⟨h0, h1, h2, h3, hk⟩ := h c
  obtain ⟨e0, e1, e2, e3, e4⟩ := e c
  rw [plain] at h0 h1 h2 h3
  rw [e0, e1] at h0 h1 h2 h3
  rw [e2, e3, e4] at h1
  rw [e3] at h2
  rw [e4] at h3
  refine ⟨h0.trans ?_, h1.trans ?_, h2.trans ?_, h3.trans ?_, hk⟩
  · exact ((Cert.Kernel19Ideal.Value.out5_eq _ _ _ _ _).symm.trans (out5 _ _ _ _ _)).symm
  · exact ((Cert.Kernel19Ideal.Value.out6_eq _ _ _ _ _).symm.trans (out6 _ _ _ _ _)).symm
  · exact ((Cert.Kernel19Ideal.Value.out7_eq _ _ _ _ _).symm.trans (out7 _ _ _ _ _)).symm
  · exact ((Cert.Kernel19Ideal.Value.out8_eq _ _ _ _ _).symm.trans (out8 _ _ _ _ _)).symm

end Cert.SumGdnConv

end
-- ==== Proof.lean ====
/- The claims of the calls, assembled: the frames from the programs' runs, and the value claims from the modules of each call. -/
module

public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Pre_finite5
public import proofs.«01_k».proof.Proof.Gen.Pre_finite7
public import proofs.«01_k».proof.Proof.Gen.Pre_finite20
public import proofs.«01_k».proof.Proof.ConfFwdValue
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Value
public import proofs.«01_k».proof.Proof.FValue
public import proofs.«01_k».proof.Proof.WFfnIn
public import proofs.«01_k».proof.Proof.WFfnOut
public import proofs.«01_k».proof.Proof.BwdIn
public import proofs.«01_k».proof.Proof.WOut
public import proofs.«01_k».proof.Proof.FfnFwd
public import proofs.«01_k».proof.Proof.BwdOut
public import proofs.«01_k».proof.Proof.FwdIn
public import proofs.«01_k».proof.Proof.FwdOut
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.WInWords
public import proofs.«01_k».proof.Proof.WInRef
public import proofs.«01_k».proof.Proof.WIn
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.AdaAdam
public import proofs.«01_k».proof.Proof.ModShard
public import proofs.«01_k».proof.Proof.SumOut
public import proofs.«01_k».proof.Proof.SumFfnOut
public import proofs.«01_k».proof.Proof.SumFfnIn
public import proofs.«01_k».proof.Proof.SumIn
public import proofs.«01_k».proof.Proof.SumConv
public import proofs.«01_k».proof.Proof.SumGdnConv
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and has no semaphore whose counter could be other than zero. -/
theorem frame_R : Cert.quiescent_ReferenceIdeal := by
  intro m g _
  exact (θ_run Cert.ReferenceIdeal.defs _ _).mono (fun r h => ⟨fun c => (h c).2.2, sem_eq_zero_of_no_sems rfl r.2⟩) (Cert.ReferenceIdeal.Value.run m g)

/-- The same for reference 2. -/
theorem frame_R2 : Cert.quiescent_Reference2Ideal := by
  intro m g _
  exact (θ_run Cert.Reference2Ideal.defs _ _).mono (fun r h => ⟨fun c => (h c).2.2.2, sem_eq_zero_of_no_sems rfl r.2⟩) (Cert.Reference2Ideal.Value.run m g)

/-- The same for reference 3. -/
theorem frame_R3 : Cert.quiescent_Reference3Ideal := by
  intro m g _
  exact (θ_run Cert.Reference3Ideal.defs _ _).mono (fun r h => ⟨fun c => (h c).2, sem_eq_zero_of_no_sems rfl r.2⟩) (Cert.Reference3Ideal.Value.run m g)

/-- The same for reference 4. -/
theorem frame_R4 : Cert.quiescent_Reference4Ideal := by
  intro m g _
  exact (θ_run Cert.Reference4Ideal.defs _ _).mono (fun r h => ⟨fun c => (h c).2, sem_eq_zero_of_no_sems rfl r.2⟩) (Cert.Reference4Ideal.Value.run m g)

/-- The same for reference 5. -/
theorem frame_R5 : Cert.quiescent_Reference5Ideal := by
  intro m g _
  exact (θ_run Cert.Reference5Ideal.defs _ _).mono (fun r h => ⟨fun c => (h c).2.2, sem_eq_zero_of_no_sems rfl r.2⟩) (Cert.Reference5Ideal.Value.run m g)

/-- The same for reference 6. -/
theorem frame_R6 : Cert.quiescent_Reference6Ideal := by
  intro m g _
  exact (θ_run Cert.Reference6Ideal.defs _ _).mono (fun r h => ⟨fun c => (h c).2, sem_eq_zero_of_no_sems rfl r.2⟩) (Cert.Reference6Ideal.Value.run m g)

/-- The same for reference 7. -/
theorem frame_R7 : Cert.quiescent_Reference7Ideal := by
  intro m g _
  exact (θ_run Cert.Reference7Ideal.defs _ _).mono (fun r h => ⟨fun c => (h c).2.2.2.2.2.2, sem_eq_zero_of_no_sems rfl r.2⟩) (Cert.Reference7Ideal.Value.run m g)

/-- The same for reference 8. -/
theorem frame_R8 : Cert.quiescent_Reference8Ideal := by
  intro m g _
  exact (θ_run Cert.Reference8Ideal.defs _ _).mono (fun r h => ⟨fun c => (h c).2.2.2.2, sem_eq_zero_of_no_sems rfl r.2⟩) (Cert.Reference8Ideal.Value.run m g)

/-- The same for reference 9. -/
theorem frame_R9 : Cert.quiescent_Reference9Ideal := by
  intro m g _
  exact (θ_run Cert.Reference9Ideal.defs _ _).mono (fun r h => ⟨fun c => (h c).2.2.2, sem_eq_zero_of_no_sems rfl r.2⟩) (Cert.Reference9Ideal.Value.run m g)

/-- The same for reference 10. -/
theorem frame_R10 : Cert.quiescent_Reference10Ideal := by
  intro m g _
  exact (θ_run Cert.Reference10Ideal.defs _ _).mono (fun r h => ⟨fun c => (h c).2.2.2, sem_eq_zero_of_no_sems rfl r.2⟩) (Cert.Reference10Ideal.Value.run m g)

/-- The same for reference 11. -/
theorem frame_R11 : Cert.quiescent_Reference11Ideal := by
  intro m g _
  exact (θ_run Cert.Reference11Ideal.defs _ _).mono (fun r h => ⟨fun c => (h c).2, sem_eq_zero_of_no_sems rfl r.2⟩) (Cert.WInRef.run m g)

/-- The same for reference 12. -/
theorem frame_R12 : Cert.quiescent_Reference12Ideal := by
  intro m g _
  exact (θ_run Cert.Reference12Ideal.defs _ _).mono (fun r h => ⟨fun c => (h c).2.2.2.2, sem_eq_zero_of_no_sems rfl r.2⟩) (Cert.Reference12Ideal.Value.run m g)

/-- The same for reference 13. -/
theorem frame_R13 : Cert.quiescent_Reference13Ideal := by
  intro m g _
  exact (θ_run Cert.Reference13Ideal.defs _ _).mono (fun r h => ⟨fun c => (h c).2, sem_eq_zero_of_no_sems rfl r.2⟩) (Cert.Reference13Ideal.Value.run m g)

/-- The same for reference 14. -/
theorem frame_R14 : Cert.quiescent_Reference14Ideal := by
  intro m g _
  exact (θ_run Cert.Reference14Ideal.defs _ _).mono (fun r h => ⟨fun c => (h c).2.2.2.2, sem_eq_zero_of_no_sems rfl r.2⟩) (Cert.Reference14Ideal.Value.run m g)

/-- The same for reference 15. -/
theorem frame_R15 : Cert.quiescent_Reference15Ideal := by
  intro m g _
  exact (θ_run Cert.Reference15Ideal.defs _ _).mono (fun r h => ⟨fun c => (h c).2.2.2.2, sem_eq_zero_of_no_sems rfl r.2⟩) (Cert.Reference15Ideal.Value.run m g)

/-- The same for reference 16. -/
theorem frame_R16 : Cert.quiescent_Reference16Ideal := by
  intro m g _
  exact (θ_run Cert.Reference16Ideal.defs _ _).mono (fun r h => ⟨fun c => (h c).2.2.2.2, sem_eq_zero_of_no_sems rfl r.2⟩) (Cert.Reference16Ideal.Value.run m g)

/-- The same for reference 17. -/
theorem frame_R17 : Cert.quiescent_Reference17Ideal := by
  intro m g _
  exact (θ_run Cert.Reference17Ideal.defs _ _).mono (fun r h => ⟨fun c => (h c).2.2.2.2, sem_eq_zero_of_no_sems rfl r.2⟩) (Cert.Reference17Ideal.Value.run m g)

/-- The same for reference 18. -/
theorem frame_R18 : Cert.quiescent_Reference18Ideal := by
  intro m g _
  exact (θ_run Cert.Reference18Ideal.defs _ _).mono (fun r h => ⟨fun c => (h c).2.2.2.2, sem_eq_zero_of_no_sems rfl r.2⟩) (Cert.Reference18Ideal.Value.run m g)

/-- The same for reference 19. -/
theorem frame_R19 : Cert.quiescent_Reference19Ideal := by
  intro m g _
  exact (θ_run Cert.Reference19Ideal.defs _ _).mono (fun r h => ⟨fun c => (h c).2.2.2.2, sem_eq_zero_of_no_sems rfl r.2⟩) (Cert.Reference19Ideal.Value.run m g)

/-- The same for reference 20. -/
theorem frame_R20 : Cert.quiescent_Reference20Ideal := by
  intro m g _
  exact (θ_run Cert.Reference20Ideal.defs _ _).mono (fun r h => ⟨fun c => (h c).2.2, sem_eq_zero_of_no_sems rfl r.2⟩) (Cert.Reference20Ideal.Value.run m g)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts, Cert.Pre_finite.Gen.facts, Cert.Pre_finite2.Gen.facts, Cert.Pre_finite5.Gen.facts,
  Cert.Pre_finite7.Gen.facts, Cert.Pre_finite20.Gen.facts, fun m ρ _ => Cert.Kernel.Gen.frame m ρ, fun m ρ _ => Cert.KernelIdeal.Gen.frame m ρ, fun m ρ _ => Cert.KernelIdeal.Gen.frame m ρ,
  frame_R, fun m ρ _ => frame_R m ρ trivial, fun m ρ _ => Cert.Kernel2.Gen.frame m ρ, fun m ρ _ => Cert.Kernel2Ideal.Gen.frame m ρ,
  fun m ρ _ => Cert.Kernel2Ideal.Gen.frame m ρ, frame_R2, fun m ρ _ => frame_R2 m ρ trivial, fun m ρ _ => Cert.Kernel3.Gen.frame m ρ,
  fun m ρ _ => Cert.Kernel3Ideal.Gen.frame m ρ, frame_R3, fun m ρ _ => Cert.Kernel4.Gen.frame m ρ, fun m ρ _ => Cert.Kernel4Ideal.Gen.frame m ρ,
  frame_R4, fun m ρ _ => Cert.Kernel5.Gen.frame m ρ, fun m ρ _ => Cert.Kernel5Ideal.Gen.frame m ρ, fun m ρ _ => Cert.Kernel5Ideal.Gen.frame m ρ,
  frame_R5, fun m ρ _ => frame_R5 m ρ trivial, fun m ρ _ => Cert.Kernel6.Gen.frame m ρ, fun m ρ _ => Cert.Kernel6Ideal.Gen.frame m ρ,
  frame_R6, fun m ρ _ => Cert.Kernel7.Gen.frame m ρ, fun m ρ _ => Cert.Kernel7Ideal.Gen.frame m ρ, fun m ρ _ => Cert.Kernel7Ideal.Gen.frame m ρ,
  frame_R7, fun m ρ _ => frame_R7 m ρ trivial, fun m ρ _ => Cert.Kernel8.Gen.frame m ρ, fun m ρ _ => Cert.Kernel8Ideal.Gen.frame m ρ,
  frame_R8, fun m ρ _ => Cert.Kernel9.Gen.frame m ρ, fun m ρ _ => Cert.Kernel9Ideal.Gen.frame m ρ, frame_R9,
  fun m ρ _ => Cert.Kernel10.Gen.frame m ρ, fun m ρ _ => Cert.Kernel10Ideal.Gen.frame m ρ, frame_R10, fun m ρ _ => Cert.WIn.frame_words m ρ,
  fun m ρ _ => Cert.WIn.frame m ρ, frame_R11,
  fun m ρ _ => Cert.Kernel12.Gen.frame m ρ, fun m ρ _ => Cert.Kernel12Ideal.Gen.frame m ρ, frame_R12,
  fun m ρ _ => Cert.Kernel13.Gen.frame m ρ, fun m ρ _ => Cert.Kernel13Ideal.Gen.frame m ρ, frame_R13,
  fun m ρ _ => Cert.Kernel14.Gen.frame m ρ, fun m ρ _ => Cert.Kernel14Ideal.Gen.frame m ρ, frame_R14,
  fun m ρ _ => Cert.Kernel15.Gen.frame m ρ, fun m ρ _ => Cert.Kernel15Ideal.Gen.frame m ρ, frame_R15,
  fun m ρ _ => Cert.Kernel16.Gen.frame m ρ, fun m ρ _ => Cert.Kernel16Ideal.Gen.frame m ρ, frame_R16,
  fun m ρ _ => Cert.Kernel17.Gen.frame m ρ, fun m ρ _ => Cert.Kernel17Ideal.Gen.frame m ρ, frame_R17,
  fun m ρ _ => Cert.Kernel18.Gen.frame m ρ, fun m ρ _ => Cert.Kernel18Ideal.Gen.frame m ρ, frame_R18,
  fun m ρ _ => Cert.Kernel19.Gen.frame m ρ, fun m ρ _ => Cert.Kernel19Ideal.Gen.frame m ρ, frame_R19,
  fun m ρ _ => Cert.Kernel20.Gen.frame m ρ, fun m ρ _ => Cert.Kernel20Ideal.Gen.frame m ρ, fun m ρ _ => Cert.Kernel20Ideal.Gen.frame m ρ,
  frame_R20, fun m ρ _ => frame_R20 m ρ trivial, trivial, Cert.Conf.value,
  trivial, Cert.Ffn.value, trivial, Cert.WFfnIn.value,
  trivial, Cert.WFfnOut.value, trivial, Cert.BwdIn.value,
  trivial, Cert.WOut.value, trivial, Cert.FfnFwd.value,
  trivial, Cert.BwdOut.value, trivial, Cert.FwdIn.value,
  trivial, Cert.FwdOut.value, trivial, Cert.WIn.value,
  trivial, Cert.AdaAdam.value,
  trivial, Cert.ModShard.value,
  trivial, Cert.SumOut.value,
  trivial, Cert.SumFfnOut.value,
  trivial, Cert.SumFfnIn.value,
  trivial, Cert.SumIn.value,
  trivial, Cert.SumConv.value,
  trivial, Cert.SumGdnConv.value,
  trivial, Cert.ConfFwd.value⟩

end Cert.Proof

end
